-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Dlogits (m : (ℓ : Loc Cert.Dlogits.nD Cert.Dlogits.τ Cert.Dlogits.sig) → Buf (Elt Bits) ℓ) : Prop :=
  True

def Pre_DlogitsIdeal (m : (ℓ : Loc Cert.DlogitsIdeal.nD Cert.DlogitsIdeal.τ Cert.DlogitsIdeal.sig) → Buf (Elt Ideal) ℓ) : Prop :=
  True

def Pre_DlogitsReferenceIdeal (m : (ℓ : Loc Cert.DlogitsReferenceIdeal.nD Cert.DlogitsReferenceIdeal.τ Cert.DlogitsReferenceIdeal.sig) → Buf (Elt Ideal) ℓ) : Prop :=
  True

def Pre_Softmax (m : (ℓ : Loc Cert.Softmax.nD Cert.Softmax.τ Cert.Softmax.sig) → Buf (Elt Bits) ℓ) : Prop :=
  True

def Pre_SoftmaxIdeal (m : (ℓ : Loc Cert.SoftmaxIdeal.nD Cert.SoftmaxIdeal.τ Cert.SoftmaxIdeal.sig) → Buf (Elt Ideal) ℓ) : Prop :=
  True

def Pre_SoftmaxIdeal_normal [hPre_normal : Cert.Pre_normal.Facts] (m : (ℓ : Loc Cert.SoftmaxIdeal.nD Cert.SoftmaxIdeal.τ Cert.SoftmaxIdeal.sig) → Buf (Elt Ideal) ℓ) : Prop :=
  ∀ c : Dev Cert.SoftmaxIdeal.nD,
    (Cert.Pre_normal.fn (F := Ideal) (m ((c.tc : Thread Cert.SoftmaxIdeal.nD Cert.SoftmaxIdeal.τ).loc Cert.SoftmaxIdeal.main_arg0)) (m ((c.tc : Thread Cert.SoftmaxIdeal.nD Cert.SoftmaxIdeal.τ).loc Cert.SoftmaxIdeal.main_arg1))) = (fun _ => 1#1)

def Pre_SoftmaxReferenceIdeal (m : (ℓ : Loc Cert.SoftmaxReferenceIdeal.nD Cert.SoftmaxReferenceIdeal.τ Cert.SoftmaxReferenceIdeal.sig) → Buf (Elt Ideal) ℓ) : Prop :=
  True

def Pre_SoftmaxReferenceIdeal_normal [hPre_normal : Cert.Pre_normal.Facts] (m : (ℓ : Loc Cert.SoftmaxReferenceIdeal.nD Cert.SoftmaxReferenceIdeal.τ Cert.SoftmaxReferenceIdeal.sig) → Buf (Elt Ideal) ℓ) : Prop :=
  ∀ c : Dev Cert.SoftmaxReferenceIdeal.nD,
    (Cert.Pre_normal.fn (F := Ideal) (m ((c.tc : Thread Cert.SoftmaxReferenceIdeal.nD Cert.SoftmaxReferenceIdeal.τ).loc Cert.SoftmaxReferenceIdeal.main_arg0)) (m ((c.tc : Thread Cert.SoftmaxReferenceIdeal.nD Cert.SoftmaxReferenceIdeal.τ).loc Cert.SoftmaxReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Dlogits [hDlogits : Cert.Dlogits.Facts] : Prop :=
  ∀ (m : (ℓ : Loc Cert.Dlogits.nD Cert.Dlogits.τ Cert.Dlogits.sig) → Buf (Elt Bits) ℓ) (g : Dev Cert.Dlogits.nD → PrngReg), Pre_Dlogits m →
    θ_run (Cert.Dlogits.defs (F := Bits)) (onTc (τ := Cert.Dlogits.τ) (Cert.Dlogits.main (F := Bits))) ⟨m, fun _ => 0, g⟩ (fun r => (∀ c : Dev Cert.Dlogits.nD,
      r.2.mem ((c.tc : Thread Cert.Dlogits.nD Cert.Dlogits.τ).loc Cert.Dlogits.main_arg0) = m ((c.tc : Thread Cert.Dlogits.nD Cert.Dlogits.τ).loc Cert.Dlogits.main_arg0)
      ∧ r.2.mem ((c.tc : Thread Cert.Dlogits.nD Cert.Dlogits.τ).loc Cert.Dlogits.main_arg1) = m ((c.tc : Thread Cert.Dlogits.nD Cert.Dlogits.τ).loc Cert.Dlogits.main_arg1))
      ∧ r.2.sem = fun _ => 0)

def quiescent_DlogitsIdeal [hDlogitsIdeal : Cert.DlogitsIdeal.Facts] : Prop :=
  ∀ (m : (ℓ : Loc Cert.DlogitsIdeal.nD Cert.DlogitsIdeal.τ Cert.DlogitsIdeal.sig) → Buf (Elt Ideal) ℓ) (g : Dev Cert.DlogitsIdeal.nD → PrngReg), Pre_DlogitsIdeal m →
    θ_run (Cert.DlogitsIdeal.defs (F := Ideal)) (onTc (τ := Cert.DlogitsIdeal.τ) (Cert.DlogitsIdeal.main (F := Ideal))) ⟨m, fun _ => 0, g⟩ (fun r => (∀ c : Dev Cert.DlogitsIdeal.nD,
      r.2.mem ((c.tc : Thread Cert.DlogitsIdeal.nD Cert.DlogitsIdeal.τ).loc Cert.DlogitsIdeal.main_arg0) = m ((c.tc : Thread Cert.DlogitsIdeal.nD Cert.DlogitsIdeal.τ).loc Cert.DlogitsIdeal.main_arg0)
      ∧ r.2.mem ((c.tc : Thread Cert.DlogitsIdeal.nD Cert.DlogitsIdeal.τ).loc Cert.DlogitsIdeal.main_arg1) = m ((c.tc : Thread Cert.DlogitsIdeal.nD Cert.DlogitsIdeal.τ).loc Cert.DlogitsIdeal.main_arg1))
      ∧ r.2.sem = fun _ => 0)

def quiescent_DlogitsReferenceIdeal [hDlogitsReferenceIdeal : Cert.DlogitsReferenceIdeal.Facts] : Prop :=
  ∀ (m : (ℓ : Loc Cert.DlogitsReferenceIdeal.nD Cert.DlogitsReferenceIdeal.τ Cert.DlogitsReferenceIdeal.sig) → Buf (Elt Ideal) ℓ) (g : Dev Cert.DlogitsReferenceIdeal.nD → PrngReg), Pre_DlogitsReferenceIdeal m →
    θ_run (Cert.DlogitsReferenceIdeal.defs (F := Ideal)) (onTc (τ := Cert.DlogitsReferenceIdeal.τ) (Cert.DlogitsReferenceIdeal.main (F := Ideal))) ⟨m, fun _ => 0, g⟩ (fun r => (∀ c : Dev Cert.DlogitsReferenceIdeal.nD,
      r.2.mem ((c.tc : Thread Cert.DlogitsReferenceIdeal.nD Cert.DlogitsReferenceIdeal.τ).loc Cert.DlogitsReferenceIdeal.main_arg0) = m ((c.tc : Thread Cert.DlogitsReferenceIdeal.nD Cert.DlogitsReferenceIdeal.τ).loc Cert.DlogitsReferenceIdeal.main_arg0)
      ∧ r.2.mem ((c.tc : Thread Cert.DlogitsReferenceIdeal.nD Cert.DlogitsReferenceIdeal.τ).loc Cert.DlogitsReferenceIdeal.main_arg1) = m ((c.tc : Thread Cert.DlogitsReferenceIdeal.nD Cert.DlogitsReferenceIdeal.τ).loc Cert.DlogitsReferenceIdeal.main_arg1))
      ∧ r.2.sem = fun _ => 0)

def quiescent_Softmax [hSoftmax : Cert.Softmax.Facts] : Prop :=
  ∀ (m : (ℓ : Loc Cert.Softmax.nD Cert.Softmax.τ Cert.Softmax.sig) → Buf (Elt Bits) ℓ) (g : Dev Cert.Softmax.nD → PrngReg), Pre_Softmax m →
    θ_run (Cert.Softmax.defs (F := Bits)) (onTc (τ := Cert.Softmax.τ) (Cert.Softmax.main (F := Bits))) ⟨m, fun _ => 0, g⟩ (fun r => (∀ c : Dev Cert.Softmax.nD,
      r.2.mem ((c.tc : Thread Cert.Softmax.nD Cert.Softmax.τ).loc Cert.Softmax.main_arg0) = m ((c.tc : Thread Cert.Softmax.nD Cert.Softmax.τ).loc Cert.Softmax.main_arg0)
      ∧ r.2.mem ((c.tc : Thread Cert.Softmax.nD Cert.Softmax.τ).loc Cert.Softmax.main_arg1) = m ((c.tc : Thread Cert.Softmax.nD Cert.Softmax.τ).loc Cert.Softmax.main_arg1))
      ∧ r.2.sem = fun _ => 0)

def quiescent_SoftmaxIdeal [hSoftmaxIdeal : Cert.SoftmaxIdeal.Facts] : Prop :=
  ∀ (m : (ℓ : Loc Cert.SoftmaxIdeal.nD Cert.SoftmaxIdeal.τ Cert.SoftmaxIdeal.sig) → Buf (Elt Ideal) ℓ) (g : Dev Cert.SoftmaxIdeal.nD → PrngReg), Pre_SoftmaxIdeal m →
    θ_run (Cert.SoftmaxIdeal.defs (F := Ideal)) (onTc (τ := Cert.SoftmaxIdeal.τ) (Cert.SoftmaxIdeal.main (F := Ideal))) ⟨m, fun _ => 0, g⟩ (fun r => (∀ c : Dev Cert.SoftmaxIdeal.nD,
      r.2.mem ((c.tc : Thread Cert.SoftmaxIdeal.nD Cert.SoftmaxIdeal.τ).loc Cert.SoftmaxIdeal.main_arg0) = m ((c.tc : Thread Cert.SoftmaxIdeal.nD Cert.SoftmaxIdeal.τ).loc Cert.SoftmaxIdeal.main_arg0)
      ∧ r.2.mem ((c.tc : Thread Cert.SoftmaxIdeal.nD Cert.SoftmaxIdeal.τ).loc Cert.SoftmaxIdeal.main_arg1) = m ((c.tc : Thread Cert.SoftmaxIdeal.nD Cert.SoftmaxIdeal.τ).loc Cert.SoftmaxIdeal.main_arg1))
      ∧ r.2.sem = fun _ => 0)

def quiescent_SoftmaxIdeal_pre_normal [hSoftmaxIdeal : Cert.SoftmaxIdeal.Facts] [hPre_normal : Cert.Pre_normal.Facts] : Prop :=
  ∀ (m : (ℓ : Loc Cert.SoftmaxIdeal.nD Cert.SoftmaxIdeal.τ Cert.SoftmaxIdeal.sig) → Buf (Elt Ideal) ℓ) (g : Dev Cert.SoftmaxIdeal.nD → PrngReg), Pre_SoftmaxIdeal_normal m →
    θ_run (Cert.SoftmaxIdeal.defs (F := Ideal)) (onTc (τ := Cert.SoftmaxIdeal.τ) (Cert.SoftmaxIdeal.main (F := Ideal))) ⟨m, fun _ => 0, g⟩ (fun r => (∀ c : Dev Cert.SoftmaxIdeal.nD,
      r.2.mem ((c.tc : Thread Cert.SoftmaxIdeal.nD Cert.SoftmaxIdeal.τ).loc Cert.SoftmaxIdeal.main_arg0) = m ((c.tc : Thread Cert.SoftmaxIdeal.nD Cert.SoftmaxIdeal.τ).loc Cert.SoftmaxIdeal.main_arg0)
      ∧ r.2.mem ((c.tc : Thread Cert.SoftmaxIdeal.nD Cert.SoftmaxIdeal.τ).loc Cert.SoftmaxIdeal.main_arg1) = m ((c.tc : Thread Cert.SoftmaxIdeal.nD Cert.SoftmaxIdeal.τ).loc Cert.SoftmaxIdeal.main_arg1))
      ∧ r.2.sem = fun _ => 0)

def quiescent_SoftmaxReferenceIdeal [hSoftmaxReferenceIdeal : Cert.SoftmaxReferenceIdeal.Facts] : Prop :=
  ∀ (m : (ℓ : Loc Cert.SoftmaxReferenceIdeal.nD Cert.SoftmaxReferenceIdeal.τ Cert.SoftmaxReferenceIdeal.sig) → Buf (Elt Ideal) ℓ) (g : Dev Cert.SoftmaxReferenceIdeal.nD → PrngReg), Pre_SoftmaxReferenceIdeal m →
    θ_run (Cert.SoftmaxReferenceIdeal.defs (F := Ideal)) (onTc (τ := Cert.SoftmaxReferenceIdeal.τ) (Cert.SoftmaxReferenceIdeal.main (F := Ideal))) ⟨m, fun _ => 0, g⟩ (fun r => (∀ c : Dev Cert.SoftmaxReferenceIdeal.nD,
      r.2.mem ((c.tc : Thread Cert.SoftmaxReferenceIdeal.nD Cert.SoftmaxReferenceIdeal.τ).loc Cert.SoftmaxReferenceIdeal.main_arg0) = m ((c.tc : Thread Cert.SoftmaxReferenceIdeal.nD Cert.SoftmaxReferenceIdeal.τ).loc Cert.SoftmaxReferenceIdeal.main_arg0)
      ∧ r.2.mem ((c.tc : Thread Cert.SoftmaxReferenceIdeal.nD Cert.SoftmaxReferenceIdeal.τ).loc Cert.SoftmaxReferenceIdeal.main_arg1) = m ((c.tc : Thread Cert.SoftmaxReferenceIdeal.nD Cert.SoftmaxReferenceIdeal.τ).loc Cert.SoftmaxReferenceIdeal.main_arg1))
      ∧ r.2.sem = fun _ => 0)

def quiescent_SoftmaxReferenceIdeal_pre_normal [hSoftmaxReferenceIdeal : Cert.SoftmaxReferenceIdeal.Facts] [hPre_normal : Cert.Pre_normal.Facts] : Prop :=
  ∀ (m : (ℓ : Loc Cert.SoftmaxReferenceIdeal.nD Cert.SoftmaxReferenceIdeal.τ Cert.SoftmaxReferenceIdeal.sig) → Buf (Elt Ideal) ℓ) (g : Dev Cert.SoftmaxReferenceIdeal.nD → PrngReg), Pre_SoftmaxReferenceIdeal_normal m →
    θ_run (Cert.SoftmaxReferenceIdeal.defs (F := Ideal)) (onTc (τ := Cert.SoftmaxReferenceIdeal.τ) (Cert.SoftmaxReferenceIdeal.main (F := Ideal))) ⟨m, fun _ => 0, g⟩ (fun r => (∀ c : Dev Cert.SoftmaxReferenceIdeal.nD,
      r.2.mem ((c.tc : Thread Cert.SoftmaxReferenceIdeal.nD Cert.SoftmaxReferenceIdeal.τ).loc Cert.SoftmaxReferenceIdeal.main_arg0) = m ((c.tc : Thread Cert.SoftmaxReferenceIdeal.nD Cert.SoftmaxReferenceIdeal.τ).loc Cert.SoftmaxReferenceIdeal.main_arg0)
      ∧ r.2.mem ((c.tc : Thread Cert.SoftmaxReferenceIdeal.nD Cert.SoftmaxReferenceIdeal.τ).loc Cert.SoftmaxReferenceIdeal.main_arg1) = m ((c.tc : Thread Cert.SoftmaxReferenceIdeal.nD Cert.SoftmaxReferenceIdeal.τ).loc Cert.SoftmaxReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)) (v2 : (c : Dev Cert.KernelIdeal.nD) → Buf (Elt Ideal) ((c.tc : Thread Cert.KernelIdeal.nD Cert.KernelIdeal.τ).loc Cert.KernelIdeal.main_v18_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_v18_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10_0) = v0 c
          ∧ r.2.mem ((c.tc : Thread Cert.ReferenceIdeal.nD Cert.ReferenceIdeal.τ).loc Cert.ReferenceIdeal.main_v10_1) = v1 c
          ∧ r.2.mem ((c.tc : Thread Cert.ReferenceIdeal.nD Cert.ReferenceIdeal.τ).loc Cert.ReferenceIdeal.main_v10_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Dlogits_DlogitsIdeal : Prop :=
  True

def algebraic_DlogitsIdeal_DlogitsReferenceIdeal [hDlogitsIdeal : Cert.DlogitsIdeal.Facts] [hDlogitsReferenceIdeal : Cert.DlogitsReferenceIdeal.Facts] : Prop :=
  ∀ (m : (ℓ : Loc Cert.DlogitsIdeal.nD Cert.DlogitsIdeal.τ Cert.DlogitsIdeal.sig) → Buf (Elt Ideal) ℓ) (g : Dev Cert.DlogitsIdeal.nD → PrngReg)
    (m' : (ℓ : Loc Cert.DlogitsReferenceIdeal.nD Cert.DlogitsReferenceIdeal.τ Cert.DlogitsReferenceIdeal.sig) → Buf (Elt Ideal) ℓ) (g' : Dev Cert.DlogitsReferenceIdeal.nD → PrngReg), Pre_DlogitsIdeal m →
    (∀ c : Dev Cert.DlogitsIdeal.nD,
      m' ((c.tc : Thread Cert.DlogitsReferenceIdeal.nD Cert.DlogitsReferenceIdeal.τ).loc Cert.DlogitsReferenceIdeal.main_arg0) = m ((c.tc : Thread Cert.DlogitsIdeal.nD Cert.DlogitsIdeal.τ).loc Cert.DlogitsIdeal.main_arg0)
      ∧ m' ((c.tc : Thread Cert.DlogitsReferenceIdeal.nD Cert.DlogitsReferenceIdeal.τ).loc Cert.DlogitsReferenceIdeal.main_arg1) = m ((c.tc : Thread Cert.DlogitsIdeal.nD Cert.DlogitsIdeal.τ).loc Cert.DlogitsIdeal.main_arg1)) →
    ∃ (v0 : (c : Dev Cert.DlogitsIdeal.nD) → Buf (Elt Ideal) ((c.tc : Thread Cert.DlogitsIdeal.nD Cert.DlogitsIdeal.τ).loc Cert.DlogitsIdeal.main_v0)),
      θ_run (Cert.DlogitsIdeal.defs (F := Ideal)) (onTc (τ := Cert.DlogitsIdeal.τ) (Cert.DlogitsIdeal.main (F := Ideal))) ⟨m, fun _ => 0, g⟩ (fun r => ∀ c : Dev Cert.DlogitsIdeal.nD,
          r.2.mem ((c.tc : Thread Cert.DlogitsIdeal.nD Cert.DlogitsIdeal.τ).loc Cert.DlogitsIdeal.main_v0) = v0 c
          ∧ r.2.mem ((c.tc : Thread Cert.DlogitsIdeal.nD Cert.DlogitsIdeal.τ).loc Cert.DlogitsIdeal.main_arg0) = m ((c.tc : Thread Cert.DlogitsIdeal.nD Cert.DlogitsIdeal.τ).loc Cert.DlogitsIdeal.main_arg0)
          ∧ r.2.mem ((c.tc : Thread Cert.DlogitsIdeal.nD Cert.DlogitsIdeal.τ).loc Cert.DlogitsIdeal.main_arg1) = m ((c.tc : Thread Cert.DlogitsIdeal.nD Cert.DlogitsIdeal.τ).loc Cert.DlogitsIdeal.main_arg1))
      ∧ θ_run (Cert.DlogitsReferenceIdeal.defs (F := Ideal)) (onTc (τ := Cert.DlogitsReferenceIdeal.τ) (Cert.DlogitsReferenceIdeal.main (F := Ideal))) ⟨m', fun _ => 0, g'⟩ (fun r => ∀ c : Dev Cert.DlogitsReferenceIdeal.nD,
          r.2.mem ((c.tc : Thread Cert.DlogitsReferenceIdeal.nD Cert.DlogitsReferenceIdeal.τ).loc Cert.DlogitsReferenceIdeal.main_v5) = v0 c
          ∧ r.2.mem ((c.tc : Thread Cert.DlogitsReferenceIdeal.nD Cert.DlogitsReferenceIdeal.τ).loc Cert.DlogitsReferenceIdeal.main_arg0) = m' ((c.tc : Thread Cert.DlogitsReferenceIdeal.nD Cert.DlogitsReferenceIdeal.τ).loc Cert.DlogitsReferenceIdeal.main_arg0)
          ∧ r.2.mem ((c.tc : Thread Cert.DlogitsReferenceIdeal.nD Cert.DlogitsReferenceIdeal.τ).loc Cert.DlogitsReferenceIdeal.main_arg1) = m' ((c.tc : Thread Cert.DlogitsReferenceIdeal.nD Cert.DlogitsReferenceIdeal.τ).loc Cert.DlogitsReferenceIdeal.main_arg1))

def preserves_Softmax_SoftmaxIdeal : Prop :=
  True

def algebraic_SoftmaxIdeal_SoftmaxReferenceIdeal_pre_normal [hSoftmaxIdeal : Cert.SoftmaxIdeal.Facts] [hSoftmaxReferenceIdeal : Cert.SoftmaxReferenceIdeal.Facts] [hPre_normal : Cert.Pre_normal.Facts] : Prop :=
  ∀ (m : (ℓ : Loc Cert.SoftmaxIdeal.nD Cert.SoftmaxIdeal.τ Cert.SoftmaxIdeal.sig) → Buf (Elt Ideal) ℓ) (g : Dev Cert.SoftmaxIdeal.nD → PrngReg)
    (m' : (ℓ : Loc Cert.SoftmaxReferenceIdeal.nD Cert.SoftmaxReferenceIdeal.τ Cert.SoftmaxReferenceIdeal.sig) → Buf (Elt Ideal) ℓ) (g' : Dev Cert.SoftmaxReferenceIdeal.nD → PrngReg), Pre_SoftmaxIdeal_normal m →
    (∀ c : Dev Cert.SoftmaxIdeal.nD,
      m' ((c.tc : Thread Cert.SoftmaxReferenceIdeal.nD Cert.SoftmaxReferenceIdeal.τ).loc Cert.SoftmaxReferenceIdeal.main_arg0) = m ((c.tc : Thread Cert.SoftmaxIdeal.nD Cert.SoftmaxIdeal.τ).loc Cert.SoftmaxIdeal.main_arg0)
      ∧ m' ((c.tc : Thread Cert.SoftmaxReferenceIdeal.nD Cert.SoftmaxReferenceIdeal.τ).loc Cert.SoftmaxReferenceIdeal.main_arg1) = m ((c.tc : Thread Cert.SoftmaxIdeal.nD Cert.SoftmaxIdeal.τ).loc Cert.SoftmaxIdeal.main_arg1)) →
    ∃ (v0 : (c : Dev Cert.SoftmaxIdeal.nD) → Buf (Elt Ideal) ((c.tc : Thread Cert.SoftmaxIdeal.nD Cert.SoftmaxIdeal.τ).loc Cert.SoftmaxIdeal.main_v0_0)) (v1 : (c : Dev Cert.SoftmaxIdeal.nD) → Buf (Elt Ideal) ((c.tc : Thread Cert.SoftmaxIdeal.nD Cert.SoftmaxIdeal.τ).loc Cert.SoftmaxIdeal.main_v0_1)) (v2 : (c : Dev Cert.SoftmaxIdeal.nD) → Buf (Elt Ideal) ((c.tc : Thread Cert.SoftmaxIdeal.nD Cert.SoftmaxIdeal.τ).loc Cert.SoftmaxIdeal.main_v0_2)),
      θ_run (Cert.SoftmaxIdeal.defs (F := Ideal)) (onTc (τ := Cert.SoftmaxIdeal.τ) (Cert.SoftmaxIdeal.main (F := Ideal))) ⟨m, fun _ => 0, g⟩ (fun r => ∀ c : Dev Cert.SoftmaxIdeal.nD,
          r.2.mem ((c.tc : Thread Cert.SoftmaxIdeal.nD Cert.SoftmaxIdeal.τ).loc Cert.SoftmaxIdeal.main_v0_0) = v0 c
          ∧ r.2.mem ((c.tc : Thread Cert.SoftmaxIdeal.nD Cert.SoftmaxIdeal.τ).loc Cert.SoftmaxIdeal.main_v0_1) = v1 c
          ∧ r.2.mem ((c.tc : Thread Cert.SoftmaxIdeal.nD Cert.SoftmaxIdeal.τ).loc Cert.SoftmaxIdeal.main_v0_2) = v2 c
          ∧ r.2.mem ((c.tc : Thread Cert.SoftmaxIdeal.nD Cert.SoftmaxIdeal.τ).loc Cert.SoftmaxIdeal.main_arg0) = m ((c.tc : Thread Cert.SoftmaxIdeal.nD Cert.SoftmaxIdeal.τ).loc Cert.SoftmaxIdeal.main_arg0)
          ∧ r.2.mem ((c.tc : Thread Cert.SoftmaxIdeal.nD Cert.SoftmaxIdeal.τ).loc Cert.SoftmaxIdeal.main_arg1) = m ((c.tc : Thread Cert.SoftmaxIdeal.nD Cert.SoftmaxIdeal.τ).loc Cert.SoftmaxIdeal.main_arg1))
      ∧ θ_run (Cert.SoftmaxReferenceIdeal.defs (F := Ideal)) (onTc (τ := Cert.SoftmaxReferenceIdeal.τ) (Cert.SoftmaxReferenceIdeal.main (F := Ideal))) ⟨m', fun _ => 0, g'⟩ (fun r => ∀ c : Dev Cert.SoftmaxReferenceIdeal.nD,
          r.2.mem ((c.tc : Thread Cert.SoftmaxReferenceIdeal.nD Cert.SoftmaxReferenceIdeal.τ).loc Cert.SoftmaxReferenceIdeal.main_v10) = v0 c
          ∧ r.2.mem ((c.tc : Thread Cert.SoftmaxReferenceIdeal.nD Cert.SoftmaxReferenceIdeal.τ).loc Cert.SoftmaxReferenceIdeal.main_v11_0) = v1 c
          ∧ r.2.mem ((c.tc : Thread Cert.SoftmaxReferenceIdeal.nD Cert.SoftmaxReferenceIdeal.τ).loc Cert.SoftmaxReferenceIdeal.main_v11_1) = v2 c
          ∧ r.2.mem ((c.tc : Thread Cert.SoftmaxReferenceIdeal.nD Cert.SoftmaxReferenceIdeal.τ).loc Cert.SoftmaxReferenceIdeal.main_arg0) = m' ((c.tc : Thread Cert.SoftmaxReferenceIdeal.nD Cert.SoftmaxReferenceIdeal.τ).loc Cert.SoftmaxReferenceIdeal.main_arg0)
          ∧ r.2.mem ((c.tc : Thread Cert.SoftmaxReferenceIdeal.nD Cert.SoftmaxReferenceIdeal.τ).loc Cert.SoftmaxReferenceIdeal.main_arg1) = m' ((c.tc : Thread Cert.SoftmaxReferenceIdeal.nD Cert.SoftmaxReferenceIdeal.τ).loc Cert.SoftmaxReferenceIdeal.main_arg1))

def Claim : Prop :=
  ∃ (hKernel : Cert.Kernel.Facts) (hKernelIdeal : Cert.KernelIdeal.Facts) (hReferenceIdeal : Cert.ReferenceIdeal.Facts) (hDlogits : Cert.Dlogits.Facts) (hDlogitsIdeal : Cert.DlogitsIdeal.Facts) (hDlogitsReferenceIdeal : Cert.DlogitsReferenceIdeal.Facts) (hSoftmax : Cert.Softmax.Facts) (hSoftmaxIdeal : Cert.SoftmaxIdeal.Facts) (hSoftmaxReferenceIdeal : Cert.SoftmaxReferenceIdeal.Facts) (hPre_in_range : Cert.Pre_in_range.Facts) (hPre_normal : Cert.Pre_normal.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ quiescent_Dlogits (hDlogits := hDlogits)
    ∧ quiescent_DlogitsIdeal (hDlogitsIdeal := hDlogitsIdeal)
    ∧ quiescent_DlogitsReferenceIdeal (hDlogitsReferenceIdeal := hDlogitsReferenceIdeal)
    ∧ quiescent_Softmax (hSoftmax := hSoftmax)
    ∧ quiescent_SoftmaxIdeal (hSoftmaxIdeal := hSoftmaxIdeal)
    ∧ quiescent_SoftmaxIdeal_pre_normal (hSoftmaxIdeal := hSoftmaxIdeal) (hPre_normal := hPre_normal)
    ∧ quiescent_SoftmaxReferenceIdeal (hSoftmaxReferenceIdeal := hSoftmaxReferenceIdeal)
    ∧ quiescent_SoftmaxReferenceIdeal_pre_normal (hSoftmaxReferenceIdeal := hSoftmaxReferenceIdeal) (hPre_normal := hPre_normal)
    ∧ preserves_Kernel_KernelIdeal
    ∧ algebraic_KernelIdeal_ReferenceIdeal (hKernelIdeal := hKernelIdeal) (hReferenceIdeal := hReferenceIdeal) (hPre_in_range := hPre_in_range)
    ∧ preserves_Dlogits_DlogitsIdeal
    ∧ algebraic_DlogitsIdeal_DlogitsReferenceIdeal (hDlogitsIdeal := hDlogitsIdeal) (hDlogitsReferenceIdeal := hDlogitsReferenceIdeal)
    ∧ preserves_Softmax_SoftmaxIdeal
    ∧ algebraic_SoftmaxIdeal_SoftmaxReferenceIdeal_pre_normal (hSoftmaxIdeal := hSoftmaxIdeal) (hSoftmaxReferenceIdeal := hSoftmaxReferenceIdeal) (hPre_normal := hPre_normal)
-- ==== Pre_in_range.lean ====
abbrev S8x3072x6144 : Shape := ⟨3, ![8, 3072, 6144]⟩
abbrev S128x384 : Shape := ⟨2, ![128, 384]⟩
abbrev S1x128 : Shape := ⟨2, ![1, 128]⟩
abbrev S128x384x6144 : Shape := ⟨3, ![128, 384, 6144]⟩
abbrev S_ : Shape := ⟨0, ![]⟩

class Facts : Prop where
  bcast_S_S128x384 : S_.BroadcastsInDim S128x384 (![] : Fin 0 → Fin S128x384.rank)
  reducesTo_S128x384_S_d0_1 : S128x384.ReducesTo [0, 1] S_
  h_S_ : 0 < S_.numel

variable [Facts]

def fn {F : FTy → Type} [FloatOps F] (main_arg0 : IVec S8x3072x6144 8) (main_arg1 : FVec F S128x384 .f32) (main_arg2 : IVec S128x384 32) (main_arg3 : FVec F S1x128 .f32) (main_arg4 : FVec F S128x384x6144 .fp8e4m3) (main_arg5 : FVec F S128x384 .f32) : IVec S_ 1 :=
  let main_c : IVec S_ 32 := constantI S_ 32 0#32
  let main_v0 : IVec S128x384 32 := broadcastInDim S128x384 ![] bcast_S_S128x384 main_c
  let main_v1 : IVec S128x384 1 := cmpi .sge main_arg2 main_v0
  let main_c_0 : IVec S_ 32 := constantI S_ 32 24576#32
  let main_v2 : IVec S128x384 32 := broadcastInDim S128x384 ![] bcast_S_S128x384 main_c_0
  let main_v3 : IVec S128x384 1 := cmpi .slt main_arg2 main_v2
  let main_v4 : IVec S128x384 1 := andi main_v1 main_v3
  let main_c_1 : IVec S_ 1 := constantI S_ 1 1#1
  let main_v5 : IVec S_ 1 := (fun x v => Host.reduce IntOp.andi x v reducesTo_S128x384_S_d0_1 h_S_) main_v4 main_c_1
  main_v5
-- ==== Pre_normal.lean ====
abbrev S24576x128 : Shape := ⟨2, ![24576, 128]⟩
abbrev S1x128 : Shape := ⟨2, ![1, 128]⟩
abbrev S_ : Shape := ⟨0, ![]⟩

class Facts : Prop where
  bcast_S_S1x128 : S_.BroadcastsInDim S1x128 (![] : Fin 0 → Fin S1x128.rank)
  reducesTo_S1x128_S_d0_1 : S1x128.ReducesTo [0, 1] S_
  h_S_ : 0 < S_.numel

variable [Facts]

def fn {F : FTy → Type} [FloatOps F] (main_arg0 : FVec F S24576x128 .f32) (main_arg1 : IVec S1x128 32) : IVec S_ 1 :=
  let main_c : IVec S_ 32 := constantI S_ 32 2147483647#32
  let main_v0 : IVec S1x128 32 := broadcastInDim S1x128 ![] bcast_S_S1x128 main_c
  let main_v1 : IVec S1x128 32 := andi main_arg1 main_v0
  let main_c_0 : IVec S_ 32 := constantI S_ 32 0#32
  let main_v2 : IVec S1x128 32 := broadcastInDim S1x128 ![] bcast_S_S1x128 main_c_0
  let main_v3 : IVec S1x128 1 := cmpi .eq main_v1 main_v2
  let main_c_1 : IVec S_ 32 := constantI S_ 32 8388608#32
  let main_v4 : IVec S1x128 32 := broadcastInDim S1x128 ![] bcast_S_S1x128 main_c_1
  let main_v5 : IVec S1x128 1 := cmpi .sge main_v1 main_v4
  let main_c_2 : IVec S_ 32 := constantI S_ 32 2122317824#32
  let main_v6 : IVec S1x128 32 := broadcastInDim S1x128 ![] bcast_S_S1x128 main_c_2
  let main_v7 : IVec S1x128 1 := cmpi .slt main_v1 main_v6
  let main_v8 : IVec S1x128 1 := andi main_v5 main_v7
  let main_v9 : IVec S1x128 1 := ori main_v3 main_v8
  let main_c_3 : IVec S_ 1 := constantI S_ 1 1#1
  let main_v10 : IVec S_ 1 := (fun x v => Host.reduce IntOp.andi x v reducesTo_S1x128_S_d0_1 h_S_) main_v9 main_c_3
  main_v10
-- ==== Kernel.lean ====
abbrev S8x3072x6144 : Shape := ⟨3, ![8, 3072, 6144]⟩
abbrev S128x384 : Shape := ⟨2, ![128, 384]⟩
abbrev S1x128 : Shape := ⟨2, ![1, 128]⟩
abbrev S128x384x6144 : Shape := ⟨3, ![128, 384, 6144]⟩
abbrev S_ : Shape := ⟨0, ![]⟩
abbrev S24576x6144 : Shape := ⟨2, ![24576, 6144]⟩
abbrev S128x3x128 : Shape := ⟨3, ![128, 3, 128]⟩
abbrev S128x1x384 : Shape := ⟨3, ![128, 1, 384]⟩
abbrev S3x128x128 : Shape := ⟨3, ![3, 128, 128]⟩
abbrev S1x384x2048 : Shape := ⟨3, ![1, 384, 2048]⟩
abbrev S1x3x128 : Shape := ⟨3, ![1, 3, 128]⟩
abbrev S1x1x384 : Shape := ⟨3, ![1, 1, 384]⟩
abbrev S98304x128 : Shape := ⟨2, ![98304, 128]⟩
abbrev S4x512x2048 : Shape := ⟨3, ![4, 512, 2048]⟩
abbrev S512x128 : Shape := ⟨2, ![512, 128]⟩
abbrev S384x1x128 : Shape := ⟨3, ![384, 1, 128]⟩
abbrev S128x8x128 : Shape := ⟨3, ![128, 8, 128]⟩
abbrev S4 : Shape := ⟨1, ![4]⟩
abbrev S1 : Shape := ⟨1, ![1]⟩
abbrev S1x512x2048 : Shape := ⟨3, ![1, 512, 2048]⟩
abbrev S512x2048 : Shape := ⟨2, ![512, 2048]⟩
abbrev S1x32x128 : Shape := ⟨3, ![1, 32, 128]⟩
abbrev S32x128 : Shape := ⟨2, ![32, 128]⟩
abbrev S8x128 : Shape := ⟨2, ![8, 128]⟩
abbrev S1x1 : Shape := ⟨2, ![1, 1]⟩
abbrev S1x1x1 : Shape := ⟨3, ![1, 1, 1]⟩
abbrev S4x128 : Shape := ⟨2, ![4, 128]⟩
abbrev S1x1x128 : Shape := ⟨3, ![1, 1, 128]⟩
abbrev S128x128 : Shape := ⟨2, ![128, 128]⟩
abbrev S32x512 : Shape := ⟨2, ![32, 512]⟩
abbrev S128x512 : Shape := ⟨2, ![128, 512]⟩
abbrev S1x128x512 : Shape := ⟨3, ![1, 128, 512]⟩
abbrev S128 : Shape := ⟨1, ![128]⟩
abbrev S1x8x128 : Shape := ⟨3, ![1, 8, 128]⟩

abbrev nBuf : Space → Nat
  | .hbm => 33
  | .vmem => 15
  | .smem => 3
  | _ => 0

abbrev bufTy : (tb : Table) → Fin (tcTables nBuf tb) → BufTy
  | .hbm, ⟨0, _⟩ => ⟨S8x3072x6144, .i8⟩
  | .hbm, ⟨1, _⟩ => ⟨S128x384, .f32⟩
  | .hbm, ⟨2, _⟩ => ⟨S128x384, .i32⟩
  | .hbm, ⟨3, _⟩ => ⟨S1x128, .f32⟩
  | .hbm, ⟨4, _⟩ => ⟨S128x384x6144, .fp8e4m3⟩
  | .hbm, ⟨5, _⟩ => ⟨S128x384, .f32⟩
  | .hbm, ⟨6, _⟩ => ⟨S_, .i32⟩
  | .hbm, ⟨7, _⟩ => ⟨S128x384, .i32⟩
  | .hbm, ⟨8, _⟩ => ⟨S128x384, .i32⟩
  | .hbm, ⟨9, _⟩ => ⟨S_, .i32⟩
  | .hbm, ⟨10, _⟩ => ⟨S128x384, .i32⟩
  | .hbm, ⟨11, _⟩ => ⟨S128x384, .i32⟩
  | .hbm, ⟨12, _⟩ => ⟨S_, .i32⟩
  | .hbm, ⟨13, _⟩ => ⟨S128x384, .i32⟩
  | .hbm, ⟨14, _⟩ => ⟨S128x384, .i32⟩
  | .hbm, ⟨15, _⟩ => ⟨S128x384, .i32⟩
  | .hbm, ⟨16, _⟩ => ⟨S_, .i32⟩
  | .hbm, ⟨17, _⟩ => ⟨S128x384, .i32⟩
  | .hbm, ⟨18, _⟩ => ⟨S128x384, .i32⟩
  | .hbm, ⟨19, _⟩ => ⟨S_, .i32⟩
  | .hbm, ⟨20, _⟩ => ⟨S128x384, .i32⟩
  | .hbm, ⟨21, _⟩ => ⟨S128x384, .i32⟩
  | .hbm, ⟨22, _⟩ => ⟨S128x384, .i32⟩
  | .hbm, ⟨23, _⟩ => ⟨S_, .i32⟩
  | .hbm, ⟨24, _⟩ => ⟨S128x384, .i32⟩
  | .hbm, ⟨25, _⟩ => ⟨S128x384, .i32⟩
  | .hbm, ⟨26, _⟩ => ⟨S24576x6144, .i8⟩
  | .hbm, ⟨27, _⟩ => ⟨S128x3x128, .f32⟩
  | .hbm, ⟨28, _⟩ => ⟨S128x1x384, .i32⟩
  | .hbm, ⟨29, _⟩ => ⟨S128x3x128, .f32⟩
  | .hbm, ⟨30, _⟩ => ⟨S128x384x6144, .fp8e5m2⟩
  | .hbm, ⟨31, _⟩ => ⟨S3x128x128, .f32⟩
  | .hbm, ⟨32, _⟩ => ⟨S1x128, .f32⟩
  | .local _ .vmem, ⟨0, _⟩ => ⟨S1x384x2048, .fp8e4m3⟩
  | .local _ .vmem, ⟨1, _⟩ => ⟨S1x384x2048, .fp8e4m3⟩
  | .local _ .vmem, ⟨2, _⟩ => ⟨S1x3x128, .f32⟩
  | .local _ .vmem, ⟨3, _⟩ => ⟨S1x3x128, .f32⟩
  | .local _ .vmem, ⟨4, _⟩ => ⟨S1x3x128, .f32⟩
  | .local _ .vmem, ⟨5, _⟩ => ⟨S1x3x128, .f32⟩
  | .local _ .vmem, ⟨6, _⟩ => ⟨S1x384x2048, .fp8e5m2⟩
  | .local _ .vmem, ⟨7, _⟩ => ⟨S1x384x2048, .fp8e5m2⟩
  | .local _ .vmem, ⟨8, _⟩ => ⟨S3x128x128, .f32⟩
  | .local _ .vmem, ⟨9, _⟩ => ⟨S1x128, .f32⟩
  | .local _ .vmem, ⟨10, _⟩ => ⟨S98304x128, .i32⟩
  | .local _ .vmem, ⟨11, _⟩ => ⟨S4x512x2048, .i8⟩
  | .local _ .vmem, ⟨12, _⟩ => ⟨S512x128, .i32⟩
  | .local _ .vmem, ⟨13, _⟩ => ⟨S384x1x128, .f32⟩
  | .local _ .vmem, ⟨14, _⟩ => ⟨S128x8x128, .f32⟩
  | .local _ .smem, ⟨0, _⟩ => ⟨S1x1x384, .i32⟩
  | .local _ .smem, ⟨1, _⟩ => ⟨S1x1x384, .i32⟩
  | .local _ .smem, ⟨2, _⟩ => ⟨S1x128, .f32⟩
  | _, _ => ⟨S8x3072x6144, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_2 : Ref sig .tc := ⟨.hbm, 16, rfl⟩
abbrev main_v7 : Ref sig .tc := ⟨.hbm, 17, rfl⟩
abbrev main_v8 : Ref sig .tc := ⟨.hbm, 18, rfl⟩
abbrev main_c_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18_0 : Ref sig .tc := ⟨.hbm, 30, rfl⟩
abbrev main_v18_1 : Ref sig .tc := ⟨.hbm, 31, rfl⟩
abbrev main_v18_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_stg2_0 : Ref sig .tc := ⟨.smem, 0, rfl⟩
abbrev cc0_stg2_1 : Ref sig .tc := ⟨.smem, 1, rfl⟩
abbrev cc0_stg3_0 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨2, ![3, 128], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg0 : BitVec 32 := BitVec.ofNat 32 (i 0).val
  let c2048_i32 : BitVec 32 := 2048#32
  let v11 : BitVec 32 := Scalar.muli arg0 c2048_i32
  v11
def k0_off1 (i : grid0.Coords) : Fin 2 → Nat :=
  let c0_i32_8 : BitVec 32 := 0#32
  let arg0 : BitVec 32 := BitVec.ofNat 32 (i 0).val
  let c2048_i32 : BitVec 32 := 2048#32
  let v11 : BitVec 32 := Scalar.muli arg0 c2048_i32
  let v12 : BitVec 32 := v11
  ![0, v12.toNat]
def k0_mult2 (i : grid0.Coords) : BitVec 32 :=
  let arg0 : BitVec 32 := BitVec.ofNat 32 (i 0).val
  let c2048_i32_9 : BitVec 32 := 2048#32
  let v18 : BitVec 32 := Scalar.muli arg0 c2048_i32_9
  v18
def k0_off2 (i : grid0.Coords) : Fin 2 → Nat :=
  let c512_i32 : BitVec 32 := 512#32
  let arg0 : BitVec 32 := BitVec.ofNat 32 (i 0).val
  let c2048_i32_9 : BitVec 32 := 2048#32
  let v18 : BitVec 32 := Scalar.muli arg0 c2048_i32_9
  let v19 : BitVec 32 := v18
  ![512, v19.toNat]
def k0_mult3 (i : grid0.Coords) : BitVec 32 :=
  let arg0 : BitVec 32 := BitVec.ofNat 32 (i 0).val
  let c2048_i32_14 : BitVec 32 := 2048#32
  let v25 : BitVec 32 := Scalar.muli arg0 c2048_i32_14
  v25
def k0_off3 (i : grid0.Coords) : Fin 2 → Nat :=
  let c1024_i32 : BitVec 32 := 1024#32
  let arg0 : BitVec 32 := BitVec.ofNat 32 (i 0).val
  let c2048_i32_14 : BitVec 32 := 2048#32
  let v25 : BitVec 32 := Scalar.muli arg0 c2048_i32_14
  let v26 : BitVec 32 := v25
  ![1024, v26.toNat]
def k0_mult4 (i : grid0.Coords) : BitVec 32 :=
  let arg0 : BitVec 32 := BitVec.ofNat 32 (i 0).val
  let c2048_i32_19 : BitVec 32 := 2048#32
  let v32 : BitVec 32 := Scalar.muli arg0 c2048_i32_19
  v32
def k0_off4 (i : grid0.Coords) : Fin 2 → Nat :=
  let c1536_i32 : BitVec 32 := 1536#32
  let arg0 : BitVec 32 := BitVec.ofNat 32 (i 0).val
  let c2048_i32_19 : BitVec 32 := 2048#32
  let v32 : BitVec 32 := Scalar.muli arg0 c2048_i32_19
  let v33 : BitVec 32 := v32
  ![1536, v33.toNat]
@[reducible] def k0_t1_loop : Scf.Loop 32 :=
  let c0_i32_24 : BitVec 32 := 0#32
  let c48_i32 : BitVec 32 := 48#32
  let v39 : BitVec 32 := Scalar.addi c0_i32_24 c48_i32
  let c1_i32_25 : BitVec 32 := 1#32
  ⟨c0_i32_24, v39, c1_i32_25⟩
def k0_mult5 (i : grid0.Coords) : BitVec 32 :=
  let arg0 : BitVec 32 := BitVec.ofNat 32 (i 0).val
  let c2048_i32_30 : BitVec 32 := 2048#32
  let v43 : BitVec 32 := Scalar.muli arg0 c2048_i32_30
  v43
def k0_off5 (k0_t1 : Fin k0_t1_loop.trips) : Fin 1 → Nat :=
  let c0_i32_28 : BitVec 32 := 0#32
  let c0_i32_24 : BitVec 32 := 0#32
  let c1_i32_25 : BitVec 32 := 1#32
  let arg17 : BitVec 32 := Scf.iv c0_i32_24 c1_i32_25 k0_t1
  let c1_i32_27 : BitVec 32 := 1#32
  let v40 : BitVec 32 := Scalar.muli arg17 c1_i32_27
  let v41 : BitVec 32 := Scalar.addi c0_i32_28 v40
  let c4_i32_36 : BitVec 32 := 4#32
  let c0_i32_37 : BitVec 32 := 0#32
  let v55 : BitVec 1 := Scalar.cmpi .eq c4_i32_36 c0_i32_37
  let c1_i32_38 : BitVec 32 := 1#32
  let v56 : BitVec 32 := Scalar.select v55 c1_i32_38 c4_i32_36
  let v57 : BitVec 32 := Scalar.remsi v41 v56
  let c0_i32_40 : BitVec 32 := 0#32
  let v59 : BitVec 1 := Scalar.cmpi .slt v57 c0_i32_40
  let c0_i32_41 : BitVec 32 := 0#32
  let v60 : BitVec 1 := Scalar.cmpi .slt v56 c0_i32_41
  let v61 : BitVec 1 := Scalar.xori v59 v60
  let c0_i32_39 : BitVec 32 := 0#32
  let v58 : BitVec 1 := Scalar.cmpi .ne v57 c0_i32_39
  let v62 : BitVec 1 := Scalar.andi v61 v58
  let v63 : BitVec 32 := Scalar.addi v57 v56
  let v64 : BitVec 32 := Scalar.select v62 v63 v57
  ![v64.toNat]
def k0_off6 (k0_t1 : Fin k0_t1_loop.trips) : Fin 3 → Nat :=
  let c0_i32_28 : BitVec 32 := 0#32
  let c0_i32_24 : BitVec 32 := 0#32
  let c1_i32_25 : BitVec 32 := 1#32
  let arg17 : BitVec 32 := Scf.iv c0_i32_24 c1_i32_25 k0_t1
  let c1_i32_27 : BitVec 32 := 1#32
  let v40 : BitVec 32 := Scalar.muli arg17 c1_i32_27
  let v41 : BitVec 32 := Scalar.addi c0_i32_28 v40
  let c4_i32 : BitVec 32 := 4#32
  let c0_i32_31 : BitVec 32 := 0#32
  let v45 : BitVec 1 := Scalar.cmpi .eq c4_i32 c0_i32_31
  let c1_i32_32 : BitVec 32 := 1#32
  let v46 : BitVec 32 := Scalar.select v45 c1_i32_32 c4_i32
  let v47 : BitVec 32 := Scalar.remsi v41 v46
  let c0_i32_34 : BitVec 32 := 0#32
  let v49 : BitVec 1 := Scalar.cmpi .slt v47 c0_i32_34
  let c0_i32_35 : BitVec 32 := 0#32
  let v50 : BitVec 1 := Scalar.cmpi .slt v46 c0_i32_35
  let v51 : BitVec 1 := Scalar.xori v49 v50
  let c0_i32_33 : BitVec 32 := 0#32
  let v48 : BitVec 1 := Scalar.cmpi .ne v47 c0_i32_33
  let v52 : BitVec 1 := Scalar.andi v51 v48
  let v53 : BitVec 32 := Scalar.addi v47 v46
  let v54 : BitVec 32 := Scalar.select v52 v53 v47
  let c0_i32_42 : BitVec 32 := 0#32
  let c0_i32_43 : BitVec 32 := 0#32
  ![v54.toNat, 0, 0]
def k0_off7 (i : grid0.Coords) (k0_t1 : Fin k0_t1_loop.trips) : Fin 2 → Nat :=
  let c0_i32_28 : BitVec 32 := 0#32
  let c0_i32_24 : BitVec 32 := 0#32
  let c1_i32_25 : BitVec 32 := 1#32
  let arg17 : BitVec 32 := Scf.iv c0_i32_24 c1_i32_25 k0_t1
  let c1_i32_27 : BitVec 32 := 1#32
  let v40 : BitVec 32 := Scalar.muli arg17 c1_i32_27
  let v41 : BitVec 32 := Scalar.addi c0_i32_28 v40
  let c512_i32_29 : BitVec 32 := 512#32
  let v42 : BitVec 32 := Scalar.muli v41 c512_i32_29
  let arg0 : BitVec 32 := BitVec.ofNat 32 (i 0).val
  let c2048_i32_30 : BitVec 32 := 2048#32
  let v43 : BitVec 32 := Scalar.muli arg0 c2048_i32_30
  let v44 : BitVec 32 := v43
  ![v42.toNat, v44.toNat]
@[reducible] def k0_t2_loop : Scf.Loop 32 :=
  let c0_i32_44 : BitVec 32 := 0#32
  let c16_i32 : BitVec 32 := 16#32
  let v70 : BitVec 32 := Scalar.addi c0_i32_44 c16_i32
  let c1_i32_45 : BitVec 32 := 1#32
  ⟨c0_i32_44, v70, c1_i32_45⟩
def k0_mult6 (k0_t2 : Fin k0_t2_loop.trips) : BitVec 32 :=
  let c0_i32_51 : BitVec 32 := 0#32
  let c0_i32_44 : BitVec 32 := 0#32
  let c1_i32_45 : BitVec 32 := 1#32
  let arg18 : BitVec 32 := Scf.iv c0_i32_44 c1_i32_45 k0_t2
  let c1_i32_50 : BitVec 32 := 1#32
  let v75 : BitVec 32 := Scalar.muli arg18 c1_i32_50
  let v76 : BitVec 32 := Scalar.addi c0_i32_51 v75
  let c32_i32 : BitVec 32 := 32#32
  let v87 : BitVec 32 := Scalar.muli v76 c32_i32
  v87
def k0_off8 (k0_t1 : Fin k0_t1_loop.trips) (k0_t2 : Fin k0_t2_loop.trips) : Fin 3 → Nat :=
  let c0_i32_28 : BitVec 32 := 0#32
  let c0_i32_24 : BitVec 32 := 0#32
  let c1_i32_25 : BitVec 32 := 1#32
  let arg17 : BitVec 32 := Scf.iv c0_i32_24 c1_i32_25 k0_t1
  let c1_i32_27 : BitVec 32 := 1#32
  let v40 : BitVec 32 := Scalar.muli arg17 c1_i32_27
  let v41 : BitVec 32 := Scalar.addi c0_i32_28 v40
  let c4_i32_52 : BitVec 32 := 4#32
  let c0_i32_53 : BitVec 32 := 0#32
  let v77 : BitVec 1 := Scalar.cmpi .eq c4_i32_52 c0_i32_53
  let c1_i32_54 : BitVec 32 := 1#32
  let v78 : BitVec 32 := Scalar.select v77 c1_i32_54 c4_i32_52
  let v79 : BitVec 32 := Scalar.remsi v41 v78
  let c0_i32_56 : BitVec 32 := 0#32
  let v81 : BitVec 1 := Scalar.cmpi .slt v79 c0_i32_56
  let c0_i32_57 : BitVec 32 := 0#32
  let v82 : BitVec 1 := Scalar.cmpi .slt v78 c0_i32_57
  let v83 : BitVec 1 := Scalar.xori v81 v82
  let c0_i32_55 : BitVec 32 := 0#32
  let v80 : BitVec 1 := Scalar.cmpi .ne v79 c0_i32_55
  let v84 : BitVec 1 := Scalar.andi v83 v80
  let v85 : BitVec 32 := Scalar.addi v79 v78
  let v86 : BitVec 32 := Scalar.select v84 v85 v79
  let v89 : Index := Scalar.indexCast v86
  let c0_i32_51 : BitVec 32 := 0#32
  let c0_i32_44 : BitVec 32 := 0#32
  let c1_i32_45 : BitVec 32 := 1#32
  let arg18 : BitVec 32 := Scf.iv c0_i32_44 c1_i32_45 k0_t2
  let c1_i32_50 : BitVec 32 := 1#32
  let v75 : BitVec 32 := Scalar.muli arg18 c1_i32_50
  let v76 : BitVec 32 := Scalar.addi c0_i32_51 v75
  let c32_i32 : BitVec 32 := 32#32
  let v87 : BitVec 32 := Scalar.muli v76 c32_i32
  let v88 : BitVec 32 := v87
  let v90 : Index := Scalar.indexCast v88
  let c0_58 : Index := 0#32
  ![v89.toNat, v90.toNat, 0]
def k0_mult7 (k0_t2 : Fin k0_t2_loop.trips) : BitVec 32 :=
  let c0_i32_51 : BitVec 32 := 0#32
  let c0_i32_44 : BitVec 32 := 0#32
  let c1_i32_45 : BitVec 32 := 1#32
  let arg18 : BitVec 32 := Scf.iv c0_i32_44 c1_i32_45 k0_t2
  let c1_i32_50 : BitVec 32 := 1#32
  let v75 : BitVec 32 := Scalar.muli arg18 c1_i32_50
  let v76 : BitVec 32 := Scalar.addi c0_i32_51 v75
  let c32_i32_65 : BitVec 32 := 32#32
  let v104 : BitVec 32 := Scalar.muli v76 c32_i32_65
  v104
def k0_off9 (k0_t1 : Fin k0_t1_loop.trips) (k0_t2 : Fin k0_t2_loop.trips) : Fin 3 → Nat :=
  let c0_i32_28 : BitVec 32 := 0#32
  let c0_i32_24 : BitVec 32 := 0#32
  let c1_i32_25 : BitVec 32 := 1#32
  let arg17 : BitVec 32 := Scf.iv c0_i32_24 c1_i32_25 k0_t1
  let c1_i32_27 : BitVec 32 := 1#32
  let v40 : BitVec 32 := Scalar.muli arg17 c1_i32_27
  let v41 : BitVec 32 := Scalar.addi c0_i32_28 v40
  let c4_i32_59 : BitVec 32 := 4#32
  let c0_i32_60 : BitVec 32 := 0#32
  let v94 : BitVec 1 := Scalar.cmpi .eq c4_i32_59 c0_i32_60
  let c1_i32_61 : BitVec 32 := 1#32
  let v95 : BitVec 32 := Scalar.select v94 c1_i32_61 c4_i32_59
  let v96 : BitVec 32 := Scalar.remsi v41 v95
  let c0_i32_63 : BitVec 32 := 0#32
  let v98 : BitVec 1 := Scalar.cmpi .slt v96 c0_i32_63
  let c0_i32_64 : BitVec 32 := 0#32
  let v99 : BitVec 1 := Scalar.cmpi .slt v95 c0_i32_64
  let v100 : BitVec 1 := Scalar.xori v98 v99
  let c0_i32_62 : BitVec 32 := 0#32
  let v97 : BitVec 1 := Scalar.cmpi .ne v96 c0_i32_62
  let v101 : BitVec 1 := Scalar.andi v100 v97
  let v102 : BitVec 32 := Scalar.addi v96 v95
  let v103 : BitVec 32 := Scalar.select v101 v102 v96
  let v106 : Index := Scalar.indexCast v103
  let c0_i32_51 : BitVec 32 := 0#32
  let c0_i32_44 : BitVec 32 := 0#32
  let c1_i32_45 : BitVec 32 := 1#32
  let arg18 : BitVec 32 := Scf.iv c0_i32_44 c1_i32_45 k0_t2
  let c1_i32_50 : BitVec 32 := 1#32
  let v75 : BitVec 32 := Scalar.muli arg18 c1_i32_50
  let v76 : BitVec 32 := Scalar.addi c0_i32_51 v75
  let c32_i32_65 : BitVec 32 := 32#32
  let v104 : BitVec 32 := Scalar.muli v76 c32_i32_65
  let v105 : BitVec 32 := v104
  let v107 : Index := Scalar.indexCast v105
  let c128 : Index := 128#32
  ![v106.toNat, v107.toNat, 128]
def k0_mult8 (k0_t2 : Fin k0_t2_loop.trips) : BitVec 32 :=
  let c0_i32_51 : BitVec 32 := 0#32
  let c0_i32_44 : BitVec 32 := 0#32
  let c1_i32_45 : BitVec 32 := 1#32
  let arg18 : BitVec 32 := Scf.iv c0_i32_44 c1_i32_45 k0_t2
  let c1_i32_50 : BitVec 32 := 1#32
  let v75 : BitVec 32 := Scalar.muli arg18 c1_i32_50
  let v76 : BitVec 32 := Scalar.addi c0_i32_51 v75
  let c32_i32_72 : BitVec 32 := 32#32
  let v121 : BitVec 32 := Scalar.muli v76 c32_i32_72
  v121
def k0_off10 (k0_t1 : Fin k0_t1_loop.trips) (k0_t2 : Fin k0_t2_loop.trips) : Fin 3 → Nat :=
  let c0_i32_28 : BitVec 32 := 0#32
  let c0_i32_24 : BitVec 32 := 0#32
  let c1_i32_25 : BitVec 32 := 1#32
  let arg17 : BitVec 32 := Scf.iv c0_i32_24 c1_i32_25 k0_t1
  let c1_i32_27 : BitVec 32 := 1#32
  let v40 : BitVec 32 := Scalar.muli arg17 c1_i32_27
  let v41 : BitVec 32 := Scalar.addi c0_i32_28 v40
  let c4_i32_66 : BitVec 32 := 4#32
  let c0_i32_67 : BitVec 32 := 0#32
  let v111 : BitVec 1 := Scalar.cmpi .eq c4_i32_66 c0_i32_67
  let c1_i32_68 : BitVec 32 := 1#32
  let v112 : BitVec 32 := Scalar.select v111 c1_i32_68 c4_i32_66
  let v113 : BitVec 32 := Scalar.remsi v41 v112
  let c0_i32_70 : BitVec 32 := 0#32
  let v115 : BitVec 1 := Scalar.cmpi .slt v113 c0_i32_70
  let c0_i32_71 : BitVec 32 := 0#32
  let v116 : BitVec 1 := Scalar.cmpi .slt v112 c0_i32_71
  let v117 : BitVec 1 := Scalar.xori v115 v116
  let c0_i32_69 : BitVec 32 := 0#32
  let v114 : BitVec 1 := Scalar.cmpi .ne v113 c0_i32_69
  let v118 : BitVec 1 := Scalar.andi v117 v114
  let v119 : BitVec 32 := Scalar.addi v113 v112
  let v120 : BitVec 32 := Scalar.select v118 v119 v113
  let v123 : Index := Scalar.indexCast v120
  let c0_i32_51 : BitVec 32 := 0#32
  let c0_i32_44 : BitVec 32 := 0#32
  let c1_i32_45 : BitVec 32 := 1#32
  let arg18 : BitVec 32 := Scf.iv c0_i32_44 c1_i32_45 k0_t2
  let c1_i32_50 : BitVec 32 := 1#32
  let v75 : BitVec 32 := Scalar.muli arg18 c1_i32_50
  let v76 : BitVec 32 := Scalar.addi c0_i32_51 v75
  let c32_i32_72 : BitVec 32 := 32#32
  let v121 : BitVec 32 := Scalar.muli v76 c32_i32_72
  let v122 : BitVec 32 := v121
  let v124 : Index := Scalar.indexCast v122
  let c256 : Index := 256#32
  ![v123.toNat, v124.toNat, 256]
def k0_mult9 (k0_t2 : Fin k0_t2_loop.trips) : BitVec 32 :=
  let c0_i32_51 : BitVec 32 := 0#32
  let c0_i32_44 : BitVec 32 := 0#32
  let c1_i32_45 : BitVec 32 := 1#32
  let arg18 : BitVec 32 := Scf.iv c0_i32_44 c1_i32_45 k0_t2
  let c1_i32_50 : BitVec 32 := 1#32
  let v75 : BitVec 32 := Scalar.muli arg18 c1_i32_50
  let v76 : BitVec 32 := Scalar.addi c0_i32_51 v75
  let c32_i32_79 : BitVec 32 := 32#32
  let v138 : BitVec 32 := Scalar.muli v76 c32_i32_79
  v138
def k0_off11 (k0_t1 : Fin k0_t1_loop.trips) (k0_t2 : Fin k0_t2_loop.trips) : Fin 3 → Nat :=
  let c0_i32_28 : BitVec 32 := 0#32
  let c0_i32_24 : BitVec 32 := 0#32
  let c1_i32_25 : BitVec 32 := 1#32
  let arg17 : BitVec 32 := Scf.iv c0_i32_24 c1_i32_25 k0_t1
  let c1_i32_27 : BitVec 32 := 1#32
  let v40 : BitVec 32 := Scalar.muli arg17 c1_i32_27
  let v41 : BitVec 32 := Scalar.addi c0_i32_28 v40
  let c4_i32_73 : BitVec 32 := 4#32
  let c0_i32_74 : BitVec 32 := 0#32
  let v128 : BitVec 1 := Scalar.cmpi .eq c4_i32_73 c0_i32_74
  let c1_i32_75 : BitVec 32 := 1#32
  let v129 : BitVec 32 := Scalar.select v128 c1_i32_75 c4_i32_73
  let v130 : BitVec 32 := Scalar.remsi v41 v129
  let c0_i32_77 : BitVec 32 := 0#32
  let v132 : BitVec 1 := Scalar.cmpi .slt v130 c0_i32_77
  let c0_i32_78 : BitVec 32 := 0#32
  let v133 : BitVec 1 := Scalar.cmpi .slt v129 c0_i32_78
  let v134 : BitVec 1 := Scalar.xori v132 v133
  let c0_i32_76 : BitVec 32 := 0#32
  let v131 : BitVec 1 := Scalar.cmpi .ne v130 c0_i32_76
  let v135 : BitVec 1 := Scalar.andi v134 v131
  let v136 : BitVec 32 := Scalar.addi v130 v129
  let v137 : BitVec 32 := Scalar.select v135 v136 v130
  let v140 : Index := Scalar.indexCast v137
  let c0_i32_51 : BitVec 32 := 0#32
  let c0_i32_44 : BitVec 32 := 0#32
  let c1_i32_45 : BitVec 32 := 1#32
  let arg18 : BitVec 32 := Scf.iv c0_i32_44 c1_i32_45 k0_t2
  let c1_i32_50 : BitVec 32 := 1#32
  let v75 : BitVec 32 := Scalar.muli arg18 c1_i32_50
  let v76 : BitVec 32 := Scalar.addi c0_i32_51 v75
  let c32_i32_79 : BitVec 32 := 32#32
  let v138 : BitVec 32 := Scalar.muli v76 c32_i32_79
  let v139 : BitVec 32 := v138
  let v141 : Index := Scalar.indexCast v139
  let c384 : Index := 384#32
  ![v140.toNat, v141.toNat, 384]
def k0_off12 (k0_t1 : Fin k0_t1_loop.trips) (k0_t2 : Fin k0_t2_loop.trips) (c0_i32_103 : BitVec 32) (c0_i32_104 : BitVec 32) : Fin 2 → Nat :=
  let c0_i32_28 : BitVec 32 := 0#32
  let c0_i32_24 : BitVec 32 := 0#32
  let c1_i32_25 : BitVec 32 := 1#32
  let arg17 : BitVec 32 := Scf.iv c0_i32_24 c1_i32_25 k0_t1
  let c1_i32_27 : BitVec 32 := 1#32
  let v40 : BitVec 32 := Scalar.muli arg17 c1_i32_27
  let v41 : BitVec 32 := Scalar.addi c0_i32_28 v40
  let c512_i32_100 : BitVec 32 := 512#32
  let v197 : BitVec 32 := Scalar.muli v41 c512_i32_100
  let c0_i32_51 : BitVec 32 := 0#32
  let c0_i32_44 : BitVec 32 := 0#32
  let c1_i32_45 : BitVec 32 := 1#32
  let arg18 : BitVec 32 := Scf.iv c0_i32_44 c1_i32_45 k0_t2
  let c1_i32_50 : BitVec 32 := 1#32
  let v75 : BitVec 32 := Scalar.muli arg18 c1_i32_50
  let v76 : BitVec 32 := Scalar.addi c0_i32_51 v75
  let c32_i32_101 : BitVec 32 := 32#32
  let v198 : BitVec 32 := Scalar.muli v76 c32_i32_101
  let v199 : BitVec 32 := Scalar.addi v197 v198
  let c4_i32_102 : BitVec 32 := 4#32
  let v200 : BitVec 32 := Scalar.muli v199 c4_i32_102
  let v201 : BitVec 32 := Scalar.addi v200 c0_i32_103
  let v202 : BitVec 32 := Scalar.addi v201 c0_i32_104
  let v203 : Index := Scalar.indexCast v202
  let c0_105 : Index := 0#32
  ![v203.toNat, 0]
def k0_mult10 (k0_t2 : Fin k0_t2_loop.trips) : BitVec 32 :=
  let c0_i32_51 : BitVec 32 := 0#32
  let c0_i32_44 : BitVec 32 := 0#32
  let c1_i32_45 : BitVec 32 := 1#32
  let arg18 : BitVec 32 := Scf.iv c0_i32_44 c1_i32_45 k0_t2
  let c1_i32_50 : BitVec 32 := 1#32
  let v75 : BitVec 32 := Scalar.muli arg18 c1_i32_50
  let v76 : BitVec 32 := Scalar.addi c0_i32_51 v75
  let c32_i32_119 : BitVec 32 := 32#32
  let v235 : BitVec 32 := Scalar.muli v76 c32_i32_119
  v235
def k0_off13 (k0_t1 : Fin k0_t1_loop.trips) (k0_t2 : Fin k0_t2_loop.trips) : Fin 3 → Nat :=
  let c0_i32_28 : BitVec 32 := 0#32
  let c0_i32_24 : BitVec 32 := 0#32
  let c1_i32_25 : BitVec 32 := 1#32
  let arg17 : BitVec 32 := Scf.iv c0_i32_24 c1_i32_25 k0_t1
  let c1_i32_27 : BitVec 32 := 1#32
  let v40 : BitVec 32 := Scalar.muli arg17 c1_i32_27
  let v41 : BitVec 32 := Scalar.addi c0_i32_28 v40
  let c4_i32_113 : BitVec 32 := 4#32
  let c0_i32_114 : BitVec 32 := 0#32
  let v225 : BitVec 1 := Scalar.cmpi .eq c4_i32_113 c0_i32_114
  let c1_i32_115 : BitVec 32 := 1#32
  let v226 : BitVec 32 := Scalar.select v225 c1_i32_115 c4_i32_113
  let v227 : BitVec 32 := Scalar.remsi v41 v226
  let c0_i32_117 : BitVec 32 := 0#32
  let v229 : BitVec 1 := Scalar.cmpi .slt v227 c0_i32_117
  let c0_i32_118 : BitVec 32 := 0#32
  let v230 : BitVec 1 := Scalar.cmpi .slt v226 c0_i32_118
  let v231 : BitVec 1 := Scalar.xori v229 v230
  let c0_i32_116 : BitVec 32 := 0#32
  let v228 : BitVec 1 := Scalar.cmpi .ne v227 c0_i32_116
  let v232 : BitVec 1 := Scalar.andi v231 v228
  let v233 : BitVec 32 := Scalar.addi v227 v226
  let v234 : BitVec 32 := Scalar.select v232 v233 v227
  let v237 : Index := Scalar.indexCast v234
  let c0_i32_51 : BitVec 32 := 0#32
  let c0_i32_44 : BitVec 32 := 0#32
  let c1_i32_45 : BitVec 32 := 1#32
  let arg18 : BitVec 32 := Scf.iv c0_i32_44 c1_i32_45 k0_t2
  let c1_i32_50 : BitVec 32 := 1#32
  let v75 : BitVec 32 := Scalar.muli arg18 c1_i32_50
  let v76 : BitVec 32 := Scalar.addi c0_i32_51 v75
  let c32_i32_119 : BitVec 32 := 32#32
  let v235 : BitVec 32 := Scalar.muli v76 c32_i32_119
  let v236 : BitVec 32 := v235
  let v238 : Index := Scalar.indexCast v236
  let c512 : Index := 512#32
  ![v237.toNat, v238.toNat, 512]
def k0_mult11 (k0_t2 : Fin k0_t2_loop.trips) : BitVec 32 :=
  let c0_i32_51 : BitVec 32 := 0#32
  let c0_i32_44 : BitVec 32 := 0#32
  let c1_i32_45 : BitVec 32 := 1#32
  let arg18 : BitVec 32 := Scf.iv c0_i32_44 c1_i32_45 k0_t2
  let c1_i32_50 : BitVec 32 := 1#32
  let v75 : BitVec 32 := Scalar.muli arg18 c1_i32_50
  let v76 : BitVec 32 := Scalar.addi c0_i32_51 v75
  let c32_i32_126 : BitVec 32 := 32#32
  let v252 : BitVec 32 := Scalar.muli v76 c32_i32_126
  v252
def k0_off14 (k0_t1 : Fin k0_t1_loop.trips) (k0_t2 : Fin k0_t2_loop.trips) : Fin 3 → Nat :=
  let c0_i32_28 : BitVec 32 := 0#32
  let c0_i32_24 : BitVec 32 := 0#32
  let c1_i32_25 : BitVec 32 := 1#32
  let arg17 : BitVec 32 := Scf.iv c0_i32_24 c1_i32_25 k0_t1
  let c1_i32_27 : BitVec 32 := 1#32
  let v40 : BitVec 32 := Scalar.muli arg17 c1_i32_27
  let v41 : BitVec 32 := Scalar.addi c0_i32_28 v40
  let c4_i32_120 : BitVec 32 := 4#32
  let c0_i32_121 : BitVec 32 := 0#32
  let v242 : BitVec 1 := Scalar.cmpi .eq c4_i32_120 c0_i32_121
  let c1_i32_122 : BitVec 32 := 1#32
  let v243 : BitVec 32 := Scalar.select v242 c1_i32_122 c4_i32_120
  let v244 : BitVec 32 := Scalar.remsi v41 v243
  let c0_i32_124 : BitVec 32 := 0#32
  let v246 : BitVec 1 := Scalar.cmpi .slt v244 c0_i32_124
  let c0_i32_125 : BitVec 32 := 0#32
  let v247 : BitVec 1 := Scalar.cmpi .slt v243 c0_i32_125
  let v248 : BitVec 1 := Scalar.xori v246 v247
  let c0_i32_123 : BitVec 32 := 0#32
  let v245 : BitVec 1 := Scalar.cmpi .ne v244 c0_i32_123
  let v249 : BitVec 1 := Scalar.andi v248 v245
  let v250 : BitVec 32 := Scalar.addi v244 v243
  let v251 : BitVec 32 := Scalar.select v249 v250 v244
  let v254 : Index := Scalar.indexCast v251
  let c0_i32_51 : BitVec 32 := 0#32
  let c0_i32_44 : BitVec 32 := 0#32
  let c1_i32_45 : BitVec 32 := 1#32
  let arg18 : BitVec 32 := Scf.iv c0_i32_44 c1_i32_45 k0_t2
  let c1_i32_50 : BitVec 32 := 1#32
  let v75 : BitVec 32 := Scalar.muli arg18 c1_i32_50
  let v76 : BitVec 32 := Scalar.addi c0_i32_51 v75
  let c32_i32_126 : BitVec 32 := 32#32
  let v252 : BitVec 32 := Scalar.muli v76 c32_i32_126
  let v253 : BitVec 32 := v252
  let v255 : Index := Scalar.indexCast v253
  let c640 : Index := 640#32
  ![v254.toNat, v255.toNat, 640]
def k0_mult12 (k0_t2 : Fin k0_t2_loop.trips) : BitVec 32 :=
  let c0_i32_51 : BitVec 32 := 0#32
  let c0_i32_44 : BitVec 32 := 0#32
  let c1_i32_45 : BitVec 32 := 1#32
  let arg18 : BitVec 32 := Scf.iv c0_i32_44 c1_i32_45 k0_t2
  let c1_i32_50 : BitVec 32 := 1#32
  let v75 : BitVec 32 := Scalar.muli arg18 c1_i32_50
  let v76 : BitVec 32 := Scalar.addi c0_i32_51 v75
  let c32_i32_133 : BitVec 32 := 32#32
  let v269 : BitVec 32 := Scalar.muli v76 c32_i32_133
  v269
def k0_off15 (k0_t1 : Fin k0_t1_loop.trips) (k0_t2 : Fin k0_t2_loop.trips) : Fin 3 → Nat :=
  let c0_i32_28 : BitVec 32 := 0#32
  let c0_i32_24 : BitVec 32 := 0#32
  let c1_i32_25 : BitVec 32 := 1#32
  let arg17 : BitVec 32 := Scf.iv c0_i32_24 c1_i32_25 k0_t1
  let c1_i32_27 : BitVec 32 := 1#32
  let v40 : BitVec 32 := Scalar.muli arg17 c1_i32_27
  let v41 : BitVec 32 := Scalar.addi c0_i32_28 v40
  let c4_i32_127 : BitVec 32 := 4#32
  let c0_i32_128 : BitVec 32 := 0#32
  let v259 : BitVec 1 := Scalar.cmpi .eq c4_i32_127 c0_i32_128
  let c1_i32_129 : BitVec 32 := 1#32
  let v260 : BitVec 32 := Scalar.select v259 c1_i32_129 c4_i32_127
  let v261 : BitVec 32 := Scalar.remsi v41 v260
  let c0_i32_131 : BitVec 32 := 0#32
  let v263 : BitVec 1 := Scalar.cmpi .slt v261 c0_i32_131
  let c0_i32_132 : BitVec 32 := 0#32
  let v264 : BitVec 1 := Scalar.cmpi .slt v260 c0_i32_132
  let v265 : BitVec 1 := Scalar.xori v263 v264
  let c0_i32_130 : BitVec 32 := 0#32
  let v262 : BitVec 1 := Scalar.cmpi .ne v261 c0_i32_130
  let v266 : BitVec 1 := Scalar.andi v265 v262
  let v267 : BitVec 32 := Scalar.addi v261 v260
  let v268 : BitVec 32 := Scalar.select v266 v267 v261
  let v271 : Index := Scalar.indexCast v268
  let c0_i32_51 : BitVec 32 := 0#32
  let c0_i32_44 : BitVec 32 := 0#32
  let c1_i32_45 : BitVec 32 := 1#32
  let arg18 : BitVec 32 := Scf.iv c0_i32_44 c1_i32_45 k0_t2
  let c1_i32_50 : BitVec 32 := 1#32
  let v75 : BitVec 32 := Scalar.muli arg18 c1_i32_50
  let v76 : BitVec 32 := Scalar.addi c0_i32_51 v75
  let c32_i32_133 : BitVec 32 := 32#32
  let v269 : BitVec 32 := Scalar.muli v76 c32_i32_133
  let v270 : BitVec 32 := v269
  let v272 : Index := Scalar.indexCast v270
  let c768 : Index := 768#32
  ![v271.toNat, v272.toNat, 768]
def k0_mult13 (k0_t2 : Fin k0_t2_loop.trips) : BitVec 32 :=
  let c0_i32_51 : BitVec 32 := 0#32
  let c0_i32_44 : BitVec 32 := 0#32
  let c1_i32_45 : BitVec 32 := 1#32
  let arg18 : BitVec 32 := Scf.iv c0_i32_44 c1_i32_45 k0_t2
  let c1_i32_50 : BitVec 32 := 1#32
  let v75 : BitVec 32 := Scalar.muli arg18 c1_i32_50
  let v76 : BitVec 32 := Scalar.addi c0_i32_51 v75
  let c32_i32_140 : BitVec 32 := 32#32
  let v286 : BitVec 32 := Scalar.muli v76 c32_i32_140
  v286
def k0_off16 (k0_t1 : Fin k0_t1_loop.trips) (k0_t2 : Fin k0_t2_loop.trips) : Fin 3 → Nat :=
  let c0_i32_28 : BitVec 32 := 0#32
  let c0_i32_24 : BitVec 32 := 0#32
  let c1_i32_25 : BitVec 32 := 1#32
  let arg17 : BitVec 32 := Scf.iv c0_i32_24 c1_i32_25 k0_t1
  let c1_i32_27 : BitVec 32 := 1#32
  let v40 : BitVec 32 := Scalar.muli arg17 c1_i32_27
  let v41 : BitVec 32 := Scalar.addi c0_i32_28 v40
  let c4_i32_134 : BitVec 32 := 4#32
  let c0_i32_135 : BitVec 32 := 0#32
  let v276 : BitVec 1 := Scalar.cmpi .eq c4_i32_134 c0_i32_135
  let c1_i32_136 : BitVec 32 := 1#32
  let v277 : BitVec 32 := Scalar.select v276 c1_i32_136 c4_i32_134
  let v278 : BitVec 32 := Scalar.remsi v41 v277
  let c0_i32_138 : BitVec 32 := 0#32
  let v280 : BitVec 1 := Scalar.cmpi .slt v278 c0_i32_138
  let c0_i32_139 : BitVec 32 := 0#32
  let v281 : BitVec 1 := Scalar.cmpi .slt v277 c0_i32_139
  let v282 : BitVec 1 := Scalar.xori v280 v281
  let c0_i32_137 : BitVec 32 := 0#32
  let v279 : BitVec 1 := Scalar.cmpi .ne v278 c0_i32_137
  let v283 : BitVec 1 := Scalar.andi v282 v279
  let v284 : BitVec 32 := Scalar.addi v278 v277
  let v285 : BitVec 32 := Scalar.select v283 v284 v278
  let v288 : Index := Scalar.indexCast v285
  let c0_i32_51 : BitVec 32 := 0#32
  let c0_i32_44 : BitVec 32 := 0#32
  let c1_i32_45 : BitVec 32 := 1#32
  let arg18 : BitVec 32 := Scf.iv c0_i32_44 c1_i32_45 k0_t2
  let c1_i32_50 : BitVec 32 := 1#32
  let v75 : BitVec 32 := Scalar.muli arg18 c1_i32_50
  let v76 : BitVec 32 := Scalar.addi c0_i32_51 v75
  let c32_i32_140 : BitVec 32 := 32#32
  let v286 : BitVec 32 := Scalar.muli v76 c32_i32_140
  let v287 : BitVec 32 := v286
  let v289 : Index := Scalar.indexCast v287
  let c896 : Index := 896#32
  ![v288.toNat, v289.toNat, 896]
def k0_mult14 (k0_t2 : Fin k0_t2_loop.trips) : BitVec 32 :=
  let c0_i32_51 : BitVec 32 := 0#32
  let c0_i32_44 : BitVec 32 := 0#32
  let c1_i32_45 : BitVec 32 := 1#32
  let arg18 : BitVec 32 := Scf.iv c0_i32_44 c1_i32_45 k0_t2
  let c1_i32_50 : BitVec 32 := 1#32
  let v75 : BitVec 32 := Scalar.muli arg18 c1_i32_50
  let v76 : BitVec 32 := Scalar.addi c0_i32_51 v75
  let c32_i32_186 : BitVec 32 := 32#32
  let v383 : BitVec 32 := Scalar.muli v76 c32_i32_186
  v383
def k0_off17 (k0_t1 : Fin k0_t1_loop.trips) (k0_t2 : Fin k0_t2_loop.trips) : Fin 3 → Nat :=
  let c0_i32_28 : BitVec 32 := 0#32
  let c0_i32_24 : BitVec 32 := 0#32
  let c1_i32_25 : BitVec 32 := 1#32
  let arg17 : BitVec 32 := Scf.iv c0_i32_24 c1_i32_25 k0_t1
  let c1_i32_27 : BitVec 32 := 1#32
  let v40 : BitVec 32 := Scalar.muli arg17 c1_i32_27
  let v41 : BitVec 32 := Scalar.addi c0_i32_28 v40
  let c4_i32_180 : BitVec 32 := 4#32
  let c0_i32_181 : BitVec 32 := 0#32
  let v373 : BitVec 1 := Scalar.cmpi .eq c4_i32_180 c0_i32_181
  let c1_i32_182 : BitVec 32 := 1#32
  let v374 : BitVec 32 := Scalar.select v373 c1_i32_182 c4_i32_180
  let v375 : BitVec 32 := Scalar.remsi v41 v374
  let c0_i32_184 : BitVec 32 := 0#32
  let v377 : BitVec 1 := Scalar.cmpi .slt v375 c0_i32_184
  let c0_i32_185 : BitVec 32 := 0#32
  let v378 : BitVec 1 := Scalar.cmpi .slt v374 c0_i32_185
  let v379 : BitVec 1 := Scalar.xori v377 v378
  let c0_i32_183 : BitVec 32 := 0#32
  let v376 : BitVec 1 := Scalar.cmpi .ne v375 c0_i32_183
  let v380 : BitVec 1 := Scalar.andi v379 v376
  let v381 : BitVec 32 := Scalar.addi v375 v374
  let v382 : BitVec 32 := Scalar.select v380 v381 v375
  let v385 : Index := Scalar.indexCast v382
  let c0_i32_51 : BitVec 32 := 0#32
  let c0_i32_44 : BitVec 32 := 0#32
  let c1_i32_45 : BitVec 32 := 1#32
  let arg18 : BitVec 32 := Scf.iv c0_i32_44 c1_i32_45 k0_t2
  let c1_i32_50 : BitVec 32 := 1#32
  let v75 : BitVec 32 := Scalar.muli arg18 c1_i32_50
  let v76 : BitVec 32 := Scalar.addi c0_i32_51 v75
  let c32_i32_186 : BitVec 32 := 32#32
  let v383 : BitVec 32 := Scalar.muli v76 c32_i32_186
  let v384 : BitVec 32 := v383
  let v386 : Index := Scalar.indexCast v384
  let c1024 : Index := 1024#32
  ![v385.toNat, v386.toNat, 1024]
def k0_mult15 (k0_t2 : Fin k0_t2_loop.trips) : BitVec 32 :=
  let c0_i32_51 : BitVec 32 := 0#32
  let c0_i32_44 : BitVec 32 := 0#32
  let c1_i32_45 : BitVec 32 := 1#32
  let arg18 : BitVec 32 := Scf.iv c0_i32_44 c1_i32_45 k0_t2
  let c1_i32_50 : BitVec 32 := 1#32
  let v75 : BitVec 32 := Scalar.muli arg18 c1_i32_50
  let v76 : BitVec 32 := Scalar.addi c0_i32_51 v75
  let c32_i32_193 : BitVec 32 := 32#32
  let v400 : BitVec 32 := Scalar.muli v76 c32_i32_193
  v400
def k0_off18 (k0_t1 : Fin k0_t1_loop.trips) (k0_t2 : Fin k0_t2_loop.trips) : Fin 3 → Nat :=
  let c0_i32_28 : BitVec 32 := 0#32
  let c0_i32_24 : BitVec 32 := 0#32
  let c1_i32_25 : BitVec 32 := 1#32
  let arg17 : BitVec 32 := Scf.iv c0_i32_24 c1_i32_25 k0_t1
  let c1_i32_27 : BitVec 32 := 1#32
  let v40 : BitVec 32 := Scalar.muli arg17 c1_i32_27
  let v41 : BitVec 32 := Scalar.addi c0_i32_28 v40
  let c4_i32_187 : BitVec 32 := 4#32
  let c0_i32_188 : BitVec 32 := 0#32
  let v390 : BitVec 1 := Scalar.cmpi .eq c4_i32_187 c0_i32_188
  let c1_i32_189 : BitVec 32 := 1#32
  let v391 : BitVec 32 := Scalar.select v390 c1_i32_189 c4_i32_187
  let v392 : BitVec 32 := Scalar.remsi v41 v391
  let c0_i32_191 : BitVec 32 := 0#32
  let v394 : BitVec 1 := Scalar.cmpi .slt v392 c0_i32_191
  let c0_i32_192 : BitVec 32 := 0#32
  let v395 : BitVec 1 := Scalar.cmpi .slt v391 c0_i32_192
  let v396 : BitVec 1 := Scalar.xori v394 v395
  let c0_i32_190 : BitVec 32 := 0#32
  let v393 : BitVec 1 := Scalar.cmpi .ne v392 c0_i32_190
  let v397 : BitVec 1 := Scalar.andi v396 v393
  let v398 : BitVec 32 := Scalar.addi v392 v391
  let v399 : BitVec 32 := Scalar.select v397 v398 v392
  let v402 : Index := Scalar.indexCast v399
  let c0_i32_51 : BitVec 32 := 0#32
  let c0_i32_44 : BitVec 32 := 0#32
  let c1_i32_45 : BitVec 32 := 1#32
  let arg18 : BitVec 32 := Scf.iv c0_i32_44 c1_i32_45 k0_t2
  let c1_i32_50 : BitVec 32 := 1#32
  let v75 : BitVec 32 := Scalar.muli arg18 c1_i32_50
  let v76 : BitVec 32 := Scalar.addi c0_i32_51 v75
  let c32_i32_193 : BitVec 32 := 32#32
  let v400 : BitVec 32 := Scalar.muli v76 c32_i32_193
  let v401 : BitVec 32 := v400
  let v403 : Index := Scalar.indexCast v401
  let c1152 : Index := 1152#32
  ![v402.toNat, v403.toNat, 1152]
def k0_mult16 (k0_t2 : Fin k0_t2_loop.trips) : BitVec 32 :=
  let c0_i32_51 : BitVec 32 := 0#32
  let c0_i32_44 : BitVec 32 := 0#32
  let c1_i32_45 : BitVec 32 := 1#32
  let arg18 : BitVec 32 := Scf.iv c0_i32_44 c1_i32_45 k0_t2
  let c1_i32_50 : BitVec 32 := 1#32
  let v75 : BitVec 32 := Scalar.muli arg18 c1_i32_50
  let v76 : BitVec 32 := Scalar.addi c0_i32_51 v75
  let c32_i32_200 : BitVec 32 := 32#32
  let v417 : BitVec 32 := Scalar.muli v76 c32_i32_200
  v417
def k0_off19 (k0_t1 : Fin k0_t1_loop.trips) (k0_t2 : Fin k0_t2_loop.trips) : Fin 3 → Nat :=
  let c0_i32_28 : BitVec 32 := 0#32
  let c0_i32_24 : BitVec 32 := 0#32
  let c1_i32_25 : BitVec 32 := 1#32
  let arg17 : BitVec 32 := Scf.iv c0_i32_24 c1_i32_25 k0_t1
  let c1_i32_27 : BitVec 32 := 1#32
  let v40 : BitVec 32 := Scalar.muli arg17 c1_i32_27
  let v41 : BitVec 32 := Scalar.addi c0_i32_28 v40
  let c4_i32_194 : BitVec 32 := 4#32
  let c0_i32_195 : BitVec 32 := 0#32
  let v407 : BitVec 1 := Scalar.cmpi .eq c4_i32_194 c0_i32_195
  let c1_i32_196 : BitVec 32 := 1#32
  let v408 : BitVec 32 := Scalar.select v407 c1_i32_196 c4_i32_194
  let v409 : BitVec 32 := Scalar.remsi v41 v408
  let c0_i32_198 : BitVec 32 := 0#32
  let v411 : BitVec 1 := Scalar.cmpi .slt v409 c0_i32_198
  let c0_i32_199 : BitVec 32 := 0#32
  let v412 : BitVec 1 := Scalar.cmpi .slt v408 c0_i32_199
  let v413 : BitVec 1 := Scalar.xori v411 v412
  let c0_i32_197 : BitVec 32 := 0#32
  let v410 : BitVec 1 := Scalar.cmpi .ne v409 c0_i32_197
  let v414 : BitVec 1 := Scalar.andi v413 v410
  let v415 : BitVec 32 := Scalar.addi v409 v408
  let v416 : BitVec 32 := Scalar.select v414 v415 v409
  let v419 : Index := Scalar.indexCast v416
  let c0_i32_51 : BitVec 32 := 0#32
  let c0_i32_44 : BitVec 32 := 0#32
  let c1_i32_45 : BitVec 32 := 1#32
  let arg18 : BitVec 32 := Scf.iv c0_i32_44 c1_i32_45 k0_t2
  let c1_i32_50 : BitVec 32 := 1#32
  let v75 : BitVec 32 := Scalar.muli arg18 c1_i32_50
  let v76 : BitVec 32 := Scalar.addi c0_i32_51 v75
  let c32_i32_200 : BitVec 32 := 32#32
  let v417 : BitVec 32 := Scalar.muli v76 c32_i32_200
  let v418 : BitVec 32 := v417
  let v420 : Index := Scalar.indexCast v418
  let c1280 : Index := 1280#32
  ![v419.toNat, v420.toNat, 1280]
def k0_mult17 (k0_t2 : Fin k0_t2_loop.trips) : BitVec 32 :=
  let c0_i32_51 : BitVec 32 := 0#32
  let c0_i32_44 : BitVec 32 := 0#32
  let c1_i32_45 : BitVec 32 := 1#32
  let arg18 : BitVec 32 := Scf.iv c0_i32_44 c1_i32_45 k0_t2
  let c1_i32_50 : BitVec 32 := 1#32
  let v75 : BitVec 32 := Scalar.muli arg18 c1_i32_50
  let v76 : BitVec 32 := Scalar.addi c0_i32_51 v75
  let c32_i32_207 : BitVec 32 := 32#32
  let v434 : BitVec 32 := Scalar.muli v76 c32_i32_207
  v434
def k0_off20 (k0_t1 : Fin k0_t1_loop.trips) (k0_t2 : Fin k0_t2_loop.trips) : Fin 3 → Nat :=
  let c0_i32_28 : BitVec 32 := 0#32
  let c0_i32_24 : BitVec 32 := 0#32
  let c1_i32_25 : BitVec 32 := 1#32
  let arg17 : BitVec 32 := Scf.iv c0_i32_24 c1_i32_25 k0_t1
  let c1_i32_27 : BitVec 32 := 1#32
  let v40 : BitVec 32 := Scalar.muli arg17 c1_i32_27
  let v41 : BitVec 32 := Scalar.addi c0_i32_28 v40
  let c4_i32_201 : BitVec 32 := 4#32
  let c0_i32_202 : BitVec 32 := 0#32
  let v424 : BitVec 1 := Scalar.cmpi .eq c4_i32_201 c0_i32_202
  let c1_i32_203 : BitVec 32 := 1#32
  let v425 : BitVec 32 := Scalar.select v424 c1_i32_203 c4_i32_201
  let v426 : BitVec 32 := Scalar.remsi v41 v425
  let c0_i32_205 : BitVec 32 := 0#32
  let v428 : BitVec 1 := Scalar.cmpi .slt v426 c0_i32_205
  let c0_i32_206 : BitVec 32 := 0#32
  let v429 : BitVec 1 := Scalar.cmpi .slt v425 c0_i32_206
  let v430 : BitVec 1 := Scalar.xori v428 v429
  let c0_i32_204 : BitVec 32 := 0#32
  let v427 : BitVec 1 := Scalar.cmpi .ne v426 c0_i32_204
  let v431 : BitVec 1 := Scalar.andi v430 v427
  let v432 : BitVec 32 := Scalar.addi v426 v425
  let v433 : BitVec 32 := Scalar.select v431 v432 v426
  let v436 : Index := Scalar.indexCast v433
  let c0_i32_51 : BitVec 32 := 0#32
  let c0_i32_44 : BitVec 32 := 0#32
  let c1_i32_45 : BitVec 32 := 1#32
  let arg18 : BitVec 32 := Scf.iv c0_i32_44 c1_i32_45 k0_t2
  let c1_i32_50 : BitVec 32 := 1#32
  let v75 : BitVec 32 := Scalar.muli arg18 c1_i32_50
  let v76 : BitVec 32 := Scalar.addi c0_i32_51 v75
  let c32_i32_207 : BitVec 32 := 32#32
  let v434 : BitVec 32 := Scalar.muli v76 c32_i32_207
  let v435 : BitVec 32 := v434
  let v437 : Index := Scalar.indexCast v435
  let c1408 : Index := 1408#32
  ![v436.toNat, v437.toNat, 1408]
def k0_mult18 (k0_t2 : Fin k0_t2_loop.trips) : BitVec 32 :=
  let c0_i32_51 : BitVec 32 := 0#32
  let c0_i32_44 : BitVec 32 := 0#32
  let c1_i32_45 : BitVec 32 := 1#32
  let arg18 : BitVec 32 := Scf.iv c0_i32_44 c1_i32_45 k0_t2
  let c1_i32_50 : BitVec 32 := 1#32
  let v75 : BitVec 32 := Scalar.muli arg18 c1_i32_50
  let v76 : BitVec 32 := Scalar.addi c0_i32_51 v75
  let c32_i32_253 : BitVec 32 := 32#32
  let v531 : BitVec 32 := Scalar.muli v76 c32_i32_253
  v531
def k0_off21 (k0_t1 : Fin k0_t1_loop.trips) (k0_t2 : Fin k0_t2_loop.trips) : Fin 3 → Nat :=
  let c0_i32_28 : BitVec 32 := 0#32
  let c0_i32_24 : BitVec 32 := 0#32
  let c1_i32_25 : BitVec 32 := 1#32
  let arg17 : BitVec 32 := Scf.iv c0_i32_24 c1_i32_25 k0_t1
  let c1_i32_27 : BitVec 32 := 1#32
  let v40 : BitVec 32 := Scalar.muli arg17 c1_i32_27
  let v41 : BitVec 32 := Scalar.addi c0_i32_28 v40
  let c4_i32_247 : BitVec 32 := 4#32
  let c0_i32_248 : BitVec 32 := 0#32
  let v521 : BitVec 1 := Scalar.cmpi .eq c4_i32_247 c0_i32_248
  let c1_i32_249 : BitVec 32 := 1#32
  let v522 : BitVec 32 := Scalar.select v521 c1_i32_249 c4_i32_247
  let v523 : BitVec 32 := Scalar.remsi v41 v522
  let c0_i32_251 : BitVec 32 := 0#32
  let v525 : BitVec 1 := Scalar.cmpi .slt v523 c0_i32_251
  let c0_i32_252 : BitVec 32 := 0#32
  let v526 : BitVec 1 := Scalar.cmpi .slt v522 c0_i32_252
  let v527 : BitVec 1 := Scalar.xori v525 v526
  let c0_i32_250 : BitVec 32 := 0#32
  let v524 : BitVec 1 := Scalar.cmpi .ne v523 c0_i32_250
  let v528 : BitVec 1 := Scalar.andi v527 v524
  let v529 : BitVec 32 := Scalar.addi v523 v522
  let v530 : BitVec 32 := Scalar.select v528 v529 v523
  let v533 : Index := Scalar.indexCast v530
  let c0_i32_51 : BitVec 32 := 0#32
  let c0_i32_44 : BitVec 32 := 0#32
  let c1_i32_45 : BitVec 32 := 1#32
  let arg18 : BitVec 32 := Scf.iv c0_i32_44 c1_i32_45 k0_t2
  let c1_i32_50 : BitVec 32 := 1#32
  let v75 : BitVec 32 := Scalar.muli arg18 c1_i32_50
  let v76 : BitVec 32 := Scalar.addi c0_i32_51 v75
  let c32_i32_253 : BitVec 32 := 32#32
  let v531 : BitVec 32 := Scalar.muli v76 c32_i32_253
  let v532 : BitVec 32 := v531
  let v534 : Index := Scalar.indexCast v532
  let c1536 : Index := 1536#32
  ![v533.toNat, v534.toNat, 1536]
def k0_mult19 (k0_t2 : Fin k0_t2_loop.trips) : BitVec 32 :=
  let c0_i32_51 : BitVec 32 := 0#32
  let c0_i32_44 : BitVec 32 := 0#32
  let c1_i32_45 : BitVec 32 := 1#32
  let arg18 : BitVec 32 := Scf.iv c0_i32_44 c1_i32_45 k0_t2
  let c1_i32_50 : BitVec 32 := 1#32
  let v75 : BitVec 32 := Scalar.muli arg18 c1_i32_50
  let v76 : BitVec 32 := Scalar.addi c0_i32_51 v75
  let c32_i32_260 : BitVec 32 := 32#32
  let v548 : BitVec 32 := Scalar.muli v76 c32_i32_260
  v548
def k0_off22 (k0_t1 : Fin k0_t1_loop.trips) (k0_t2 : Fin k0_t2_loop.trips) : Fin 3 → Nat :=
  let c0_i32_28 : BitVec 32 := 0#32
  let c0_i32_24 : BitVec 32 := 0#32
  let c1_i32_25 : BitVec 32 := 1#32
  let arg17 : BitVec 32 := Scf.iv c0_i32_24 c1_i32_25 k0_t1
  let c1_i32_27 : BitVec 32 := 1#32
  let v40 : BitVec 32 := Scalar.muli arg17 c1_i32_27
  let v41 : BitVec 32 := Scalar.addi c0_i32_28 v40
  let c4_i32_254 : BitVec 32 := 4#32
  let c0_i32_255 : BitVec 32 := 0#32
  let v538 : BitVec 1 := Scalar.cmpi .eq c4_i32_254 c0_i32_255
  let c1_i32_256 : BitVec 32 := 1#32
  let v539 : BitVec 32 := Scalar.select v538 c1_i32_256 c4_i32_254
  let v540 : BitVec 32 := Scalar.remsi v41 v539
  let c0_i32_258 : BitVec 32 := 0#32
  let v542 : BitVec 1 := Scalar.cmpi .slt v540 c0_i32_258
  let c0_i32_259 : BitVec 32 := 0#32
  let v543 : BitVec 1 := Scalar.cmpi .slt v539 c0_i32_259
  let v544 : BitVec 1 := Scalar.xori v542 v543
  let c0_i32_257 : BitVec 32 := 0#32
  let v541 : BitVec 1 := Scalar.cmpi .ne v540 c0_i32_257
  let v545 : BitVec 1 := Scalar.andi v544 v541
  let v546 : BitVec 32 := Scalar.addi v540 v539
  let v547 : BitVec 32 := Scalar.select v545 v546 v540
  let v550 : Index := Scalar.indexCast v547
  let c0_i32_51 : BitVec 32 := 0#32
  let c0_i32_44 : BitVec 32 := 0#32
  let c1_i32_45 : BitVec 32 := 1#32
  let arg18 : BitVec 32 := Scf.iv c0_i32_44 c1_i32_45 k0_t2
  let c1_i32_50 : BitVec 32 := 1#32
  let v75 : BitVec 32 := Scalar.muli arg18 c1_i32_50
  let v76 : BitVec 32 := Scalar.addi c0_i32_51 v75
  let c32_i32_260 : BitVec 32 := 32#32
  let v548 : BitVec 32 := Scalar.muli v76 c32_i32_260
  let v549 : BitVec 32 := v548
  let v551 : Index := Scalar.indexCast v549
  let c1664 : Index := 1664#32
  ![v550.toNat, v551.toNat, 1664]
def k0_mult20 (k0_t2 : Fin k0_t2_loop.trips) : BitVec 32 :=
  let c0_i32_51 : BitVec 32 := 0#32
  let c0_i32_44 : BitVec 32 := 0#32
  let c1_i32_45 : BitVec 32 := 1#32
  let arg18 : BitVec 32 := Scf.iv c0_i32_44 c1_i32_45 k0_t2
  let c1_i32_50 : BitVec 32 := 1#32
  let v75 : BitVec 32 := Scalar.muli arg18 c1_i32_50
  let v76 : BitVec 32 := Scalar.addi c0_i32_51 v75
  let c32_i32_267 : BitVec 32 := 32#32
  let v565 : BitVec 32 := Scalar.muli v76 c32_i32_267
  v565
def k0_off23 (k0_t1 : Fin k0_t1_loop.trips) (k0_t2 : Fin k0_t2_loop.trips) : Fin 3 → Nat :=
  let c0_i32_28 : BitVec 32 := 0#32
  let c0_i32_24 : BitVec 32 := 0#32
  let c1_i32_25 : BitVec 32 := 1#32
  let arg17 : BitVec 32 := Scf.iv c0_i32_24 c1_i32_25 k0_t1
  let c1_i32_27 : BitVec 32 := 1#32
  let v40 : BitVec 32 := Scalar.muli arg17 c1_i32_27
  let v41 : BitVec 32 := Scalar.addi c0_i32_28 v40
  let c4_i32_261 : BitVec 32 := 4#32
  let c0_i32_262 : BitVec 32 := 0#32
  let v555 : BitVec 1 := Scalar.cmpi .eq c4_i32_261 c0_i32_262
  let c1_i32_263 : BitVec 32 := 1#32
  let v556 : BitVec 32 := Scalar.select v555 c1_i32_263 c4_i32_261
  let v557 : BitVec 32 := Scalar.remsi v41 v556
  let c0_i32_265 : BitVec 32 := 0#32
  let v559 : BitVec 1 := Scalar.cmpi .slt v557 c0_i32_265
  let c0_i32_266 : BitVec 32 := 0#32
  let v560 : BitVec 1 := Scalar.cmpi .slt v556 c0_i32_266
  let v561 : BitVec 1 := Scalar.xori v559 v560
  let c0_i32_264 : BitVec 32 := 0#32
  let v558 : BitVec 1 := Scalar.cmpi .ne v557 c0_i32_264
  let v562 : BitVec 1 := Scalar.andi v561 v558
  let v563 : BitVec 32 := Scalar.addi v557 v556
  let v564 : BitVec 32 := Scalar.select v562 v563 v557
  let v567 : Index := Scalar.indexCast v564
  let c0_i32_51 : BitVec 32 := 0#32
  let c0_i32_44 : BitVec 32 := 0#32
  let c1_i32_45 : BitVec 32 := 1#32
  let arg18 : BitVec 32 := Scf.iv c0_i32_44 c1_i32_45 k0_t2
  let c1_i32_50 : BitVec 32 := 1#32
  let v75 : BitVec 32 := Scalar.muli arg18 c1_i32_50
  let v76 : BitVec 32 := Scalar.addi c0_i32_51 v75
  let c32_i32_267 : BitVec 32 := 32#32
  let v565 : BitVec 32 := Scalar.muli v76 c32_i32_267
  let v566 : BitVec 32 := v565
  let v568 : Index := Scalar.indexCast v566
  let c1792 : Index := 1792#32
  ![v567.toNat, v568.toNat, 1792]
def k0_mult21 (k0_t2 : Fin k0_t2_loop.trips) : BitVec 32 :=
  let c0_i32_51 : BitVec 32 := 0#32
  let c0_i32_44 : BitVec 32 := 0#32
  let c1_i32_45 : BitVec 32 := 1#32
  let arg18 : BitVec 32 := Scf.iv c0_i32_44 c1_i32_45 k0_t2
  let c1_i32_50 : BitVec 32 := 1#32
  let v75 : BitVec 32 := Scalar.muli arg18 c1_i32_50
  let v76 : BitVec 32 := Scalar.addi c0_i32_51 v75
  let c32_i32_274 : BitVec 32 := 32#32
  let v582 : BitVec 32 := Scalar.muli v76 c32_i32_274
  v582
def k0_off24 (k0_t1 : Fin k0_t1_loop.trips) (k0_t2 : Fin k0_t2_loop.trips) : Fin 3 → Nat :=
  let c0_i32_28 : BitVec 32 := 0#32
  let c0_i32_24 : BitVec 32 := 0#32
  let c1_i32_25 : BitVec 32 := 1#32
  let arg17 : BitVec 32 := Scf.iv c0_i32_24 c1_i32_25 k0_t1
  let c1_i32_27 : BitVec 32 := 1#32
  let v40 : BitVec 32 := Scalar.muli arg17 c1_i32_27
  let v41 : BitVec 32 := Scalar.addi c0_i32_28 v40
  let c4_i32_268 : BitVec 32 := 4#32
  let c0_i32_269 : BitVec 32 := 0#32
  let v572 : BitVec 1 := Scalar.cmpi .eq c4_i32_268 c0_i32_269
  let c1_i32_270 : BitVec 32 := 1#32
  let v573 : BitVec 32 := Scalar.select v572 c1_i32_270 c4_i32_268
  let v574 : BitVec 32 := Scalar.remsi v41 v573
  let c0_i32_272 : BitVec 32 := 0#32
  let v576 : BitVec 1 := Scalar.cmpi .slt v574 c0_i32_272
  let c0_i32_273 : BitVec 32 := 0#32
  let v577 : BitVec 1 := Scalar.cmpi .slt v573 c0_i32_273
  let v578 : BitVec 1 := Scalar.xori v576 v577
  let c0_i32_271 : BitVec 32 := 0#32
  let v575 : BitVec 1 := Scalar.cmpi .ne v574 c0_i32_271
  let v579 : BitVec 1 := Scalar.andi v578 v575
  let v580 : BitVec 32 := Scalar.addi v574 v573
  let v581 : BitVec 32 := Scalar.select v579 v580 v574
  let v584 : Index := Scalar.indexCast v581
  let c0_i32_51 : BitVec 32 := 0#32
  let c0_i32_44 : BitVec 32 := 0#32
  let c1_i32_45 : BitVec 32 := 1#32
  let arg18 : BitVec 32 := Scf.iv c0_i32_44 c1_i32_45 k0_t2
  let c1_i32_50 : BitVec 32 := 1#32
  let v75 : BitVec 32 := Scalar.muli arg18 c1_i32_50
  let v76 : BitVec 32 := Scalar.addi c0_i32_51 v75
  let c32_i32_274 : BitVec 32 := 32#32
  let v582 : BitVec 32 := Scalar.muli v76 c32_i32_274
  let v583 : BitVec 32 := v582
  let v585 : Index := Scalar.indexCast v583
  let c1920 : Index := 1920#32
  ![v584.toNat, v585.toNat, 1920]
def k0_cond2 (k0_t1 : Fin k0_t1_loop.trips) : BitVec 1 :=
  let c0_i32_28 : BitVec 32 := 0#32
  let c0_i32_24 : BitVec 32 := 0#32
  let c1_i32_25 : BitVec 32 := 1#32
  let arg17 : BitVec 32 := Scf.iv c0_i32_24 c1_i32_25 k0_t1
  let c1_i32_27 : BitVec 32 := 1#32
  let v40 : BitVec 32 := Scalar.muli arg17 c1_i32_27
  let v41 : BitVec 32 := Scalar.addi c0_i32_28 v40
  let c4_i32_47 : BitVec 32 := 4#32
  let v71 : BitVec 32 := Scalar.addi v41 c4_i32_47
  let c48_i32_48 : BitVec 32 := 48#32
  let v72 : BitVec 1 := Scalar.cmpi .slt v71 c48_i32_48
  let v73 : BitVec 32 := Scalar.extui v72
  let c0_i32_49 : BitVec 32 := 0#32
  let v74 : BitVec 1 := Scalar.cmpi .ne v73 c0_i32_49
  v74

def k0_mult22 (i : grid0.Coords) : BitVec 32 :=
  let arg0 : BitVec 32 := BitVec.ofNat 32 (i 0).val
  let c2048_i32_52 : BitVec 32 := 2048#32
  let v77 : BitVec 32 := Scalar.muli arg0 c2048_i32_52
  v77
def k0_off25 (k0_t1 : Fin k0_t1_loop.trips) : Fin 1 → Nat :=
  let c0_i32_28 : BitVec 32 := 0#32
  let c0_i32_24 : BitVec 32 := 0#32
  let c1_i32_25 : BitVec 32 := 1#32
  let arg17 : BitVec 32 := Scf.iv c0_i32_24 c1_i32_25 k0_t1
  let c1_i32_27 : BitVec 32 := 1#32
  let v40 : BitVec 32 := Scalar.muli arg17 c1_i32_27
  let v41 : BitVec 32 := Scalar.addi c0_i32_28 v40
  let c4_i32_50 : BitVec 32 := 4#32
  let v75 : BitVec 32 := Scalar.addi v41 c4_i32_50
  let c4_i32_59 : BitVec 32 := 4#32
  let c0_i32_60 : BitVec 32 := 0#32
  let v89 : BitVec 1 := Scalar.cmpi .eq c4_i32_59 c0_i32_60
  let c1_i32_61 : BitVec 32 := 1#32
  let v90 : BitVec 32 := Scalar.select v89 c1_i32_61 c4_i32_59
  let v91 : BitVec 32 := Scalar.remsi v75 v90
  let c0_i32_63 : BitVec 32 := 0#32
  let v93 : BitVec 1 := Scalar.cmpi .slt v91 c0_i32_63
  let c0_i32_64 : BitVec 32 := 0#32
  let v94 : BitVec 1 := Scalar.cmpi .slt v90 c0_i32_64
  let v95 : BitVec 1 := Scalar.xori v93 v94
  let c0_i32_62 : BitVec 32 := 0#32
  let v92 : BitVec 1 := Scalar.cmpi .ne v91 c0_i32_62
  let v96 : BitVec 1 := Scalar.andi v95 v92
  let v97 : BitVec 32 := Scalar.addi v91 v90
  let v98 : BitVec 32 := Scalar.select v96 v97 v91
  ![v98.toNat]
def k0_off26 (k0_t1 : Fin k0_t1_loop.trips) : Fin 3 → Nat :=
  let c0_i32_28 : BitVec 32 := 0#32
  let c0_i32_24 : BitVec 32 := 0#32
  let c1_i32_25 : BitVec 32 := 1#32
  let arg17 : BitVec 32 := Scf.iv c0_i32_24 c1_i32_25 k0_t1
  let c1_i32_27 : BitVec 32 := 1#32
  let v40 : BitVec 32 := Scalar.muli arg17 c1_i32_27
  let v41 : BitVec 32 := Scalar.addi c0_i32_28 v40
  let c4_i32_50 : BitVec 32 := 4#32
  let v75 : BitVec 32 := Scalar.addi v41 c4_i32_50
  let c4_i32_53 : BitVec 32 := 4#32
  let c0_i32_54 : BitVec 32 := 0#32
  let v79 : BitVec 1 := Scalar.cmpi .eq c4_i32_53 c0_i32_54
  let c1_i32_55 : BitVec 32 := 1#32
  let v80 : BitVec 32 := Scalar.select v79 c1_i32_55 c4_i32_53
  let v81 : BitVec 32 := Scalar.remsi v75 v80
  let c0_i32_57 : BitVec 32 := 0#32
  let v83 : BitVec 1 := Scalar.cmpi .slt v81 c0_i32_57
  let c0_i32_58 : BitVec 32 := 0#32
  let v84 : BitVec 1 := Scalar.cmpi .slt v80 c0_i32_58
  let v85 : BitVec 1 := Scalar.xori v83 v84
  let c0_i32_56 : BitVec 32 := 0#32
  let v82 : BitVec 1 := Scalar.cmpi .ne v81 c0_i32_56
  let v86 : BitVec 1 := Scalar.andi v85 v82
  let v87 : BitVec 32 := Scalar.addi v81 v80
  let v88 : BitVec 32 := Scalar.select v86 v87 v81
  let c0_i32_65 : BitVec 32 := 0#32
  let c0_i32_66 : BitVec 32 := 0#32
  ![v88.toNat, 0, 0]
def k0_off27 (i : grid0.Coords) (k0_t1 : Fin k0_t1_loop.trips) : Fin 2 → Nat :=
  let c0_i32_28 : BitVec 32 := 0#32
  let c0_i32_24 : BitVec 32 := 0#32
  let c1_i32_25 : BitVec 32 := 1#32
  let arg17 : BitVec 32 := Scf.iv c0_i32_24 c1_i32_25 k0_t1
  let c1_i32_27 : BitVec 32 := 1#32
  let v40 : BitVec 32 := Scalar.muli arg17 c1_i32_27
  let v41 : BitVec 32 := Scalar.addi c0_i32_28 v40
  let c4_i32_50 : BitVec 32 := 4#32
  let v75 : BitVec 32 := Scalar.addi v41 c4_i32_50
  let c512_i32_51 : BitVec 32 := 512#32
  let v76 : BitVec 32 := Scalar.muli v75 c512_i32_51
  let arg0 : BitVec 32 := BitVec.ofNat 32 (i 0).val
  let c2048_i32_52 : BitVec 32 := 2048#32
  let v77 : BitVec 32 := Scalar.muli arg0 c2048_i32_52
  let v78 : BitVec 32 := v77
  ![v76.toNat, v78.toNat]
def k0_off28 (i : grid0.Coords) : Fin 2 → Nat :=
  let c0 : Index := 0#32
  let arg1 : BitVec 32 := BitVec.ofNat 32 (i 1).val
  let v3 : Index := Scalar.indexCast arg1
  ![0, v3.toNat]
@[reducible] def k0_t3_loop : Scf.Loop 32 :=
  let c0_i32_1 : BitVec 32 := 0#32
  let c3_i32 : BitVec 32 := 3#32
  let v5 : BitVec 32 := Scalar.addi c0_i32_1 c3_i32
  let c1_i32 : BitVec 32 := 1#32
  ⟨c0_i32_1, v5, c1_i32⟩
def k0_off29 (k0_t3 : Fin k0_t3_loop.trips) : Fin 3 → Nat :=
  let c0_9 : Index := 0#32
  let c0_10 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32 : BitVec 32 := 128#32
  let v13 : BitVec 32 := Scalar.muli v12 c128_i32
  let c0_i32_6 : BitVec 32 := 0#32
  let v14 : BitVec 32 := Scalar.addi v13 c0_i32_6
  let c0_i32_7 : BitVec 32 := 0#32
  let v15 : BitVec 32 := Scalar.addi v14 c0_i32_7
  let c0_i32_8 : BitVec 32 := 0#32
  let v16 : BitVec 32 := Scalar.addi v15 c0_i32_8
  let v17 : Index := Scalar.indexCast v16
  ![0, 0, v17.toNat]
def k0_mult23 (v18 : BitVec 32) : BitVec 32 :=
  v18

def k0_off30 (v18 : BitVec 32) : Fin 2 → Nat :=
  let v19 : BitVec 32 := v18
  let v20 : Index := Scalar.indexCast v19
  let c0_11 : Index := 0#32
  ![v20.toNat, 0]

def k0_chk1 (v18 : BitVec 32) : Prop :=
  (4 ∣ (k0_mult23 v18).toNat) ∧
  (∀ a, (k0_off30 v18) a + S4x128.size a ≤ S98304x128.size a)
theorem k0_mult23_dvd : ∀ (v18 : BitVec 32) (k0_hw1 : k0_chk1 v18), 4 ∣ (k0_mult23 v18).toNat := fun v18 k0_hw1 => k0_hw1.1
theorem k0_off30_inb : ∀ (v18 : BitVec 32) (k0_hw1 : k0_chk1 v18), ∀ a, (k0_off30 v18) a + S4x128.size a ≤ S98304x128.size a := fun v18 k0_hw1 => k0_hw1.2

def k0_off31 (k0_t3 : Fin k0_t3_loop.trips) : Fin 3 → Nat :=
  let c0_18 : Index := 0#32
  let c0_19 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_14 : BitVec 32 := 128#32
  let v25 : BitVec 32 := Scalar.muli v12 c128_i32_14
  let c0_i32_15 : BitVec 32 := 0#32
  let v26 : BitVec 32 := Scalar.addi v25 c0_i32_15
  let c0_i32_16 : BitVec 32 := 0#32
  let v27 : BitVec 32 := Scalar.addi v26 c0_i32_16
  let c1_i32_17 : BitVec 32 := 1#32
  let v28 : BitVec 32 := Scalar.addi v27 c1_i32_17
  let v29 : Index := Scalar.indexCast v28
  ![0, 0, v29.toNat]
def k0_mult24 (v30 : BitVec 32) : BitVec 32 :=
  v30

def k0_off32 (v30 : BitVec 32) : Fin 2 → Nat :=
  let v31 : BitVec 32 := v30
  let v32 : Index := Scalar.indexCast v31
  let c0_20 : Index := 0#32
  ![v32.toNat, 0]

def k0_chk2 (v30 : BitVec 32) : Prop :=
  (4 ∣ (k0_mult24 v30).toNat) ∧
  (∀ a, (k0_off32 v30) a + S4x128.size a ≤ S98304x128.size a)
theorem k0_mult24_dvd : ∀ (v30 : BitVec 32) (k0_hw2 : k0_chk2 v30), 4 ∣ (k0_mult24 v30).toNat := fun v30 k0_hw2 => k0_hw2.1
theorem k0_off32_inb : ∀ (v30 : BitVec 32) (k0_hw2 : k0_chk2 v30), ∀ a, (k0_off32 v30) a + S4x128.size a ≤ S98304x128.size a := fun v30 k0_hw2 => k0_hw2.2

def k0_off33 (k0_t3 : Fin k0_t3_loop.trips) : Fin 3 → Nat :=
  let c0_26 : Index := 0#32
  let c0_27 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_22 : BitVec 32 := 128#32
  let v37 : BitVec 32 := Scalar.muli v12 c128_i32_22
  let c0_i32_23 : BitVec 32 := 0#32
  let v38 : BitVec 32 := Scalar.addi v37 c0_i32_23
  let c0_i32_24 : BitVec 32 := 0#32
  let v39 : BitVec 32 := Scalar.addi v38 c0_i32_24
  let c2_i32_25 : BitVec 32 := 2#32
  let v40 : BitVec 32 := Scalar.addi v39 c2_i32_25
  let v41 : Index := Scalar.indexCast v40
  ![0, 0, v41.toNat]
def k0_mult25 (v42 : BitVec 32) : BitVec 32 :=
  v42

def k0_off34 (v42 : BitVec 32) : Fin 2 → Nat :=
  let v43 : BitVec 32 := v42
  let v44 : Index := Scalar.indexCast v43
  let c0_28 : Index := 0#32
  ![v44.toNat, 0]

def k0_chk3 (v42 : BitVec 32) : Prop :=
  (4 ∣ (k0_mult25 v42).toNat) ∧
  (∀ a, (k0_off34 v42) a + S4x128.size a ≤ S98304x128.size a)
theorem k0_mult25_dvd : ∀ (v42 : BitVec 32) (k0_hw3 : k0_chk3 v42), 4 ∣ (k0_mult25 v42).toNat := fun v42 k0_hw3 => k0_hw3.1
theorem k0_off34_inb : ∀ (v42 : BitVec 32) (k0_hw3 : k0_chk3 v42), ∀ a, (k0_off34 v42) a + S4x128.size a ≤ S98304x128.size a := fun v42 k0_hw3 => k0_hw3.2

def k0_off35 (k0_t3 : Fin k0_t3_loop.trips) : Fin 3 → Nat :=
  let c0_34 : Index := 0#32
  let c0_35 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_30 : BitVec 32 := 128#32
  let v49 : BitVec 32 := Scalar.muli v12 c128_i32_30
  let c0_i32_31 : BitVec 32 := 0#32
  let v50 : BitVec 32 := Scalar.addi v49 c0_i32_31
  let c0_i32_32 : BitVec 32 := 0#32
  let v51 : BitVec 32 := Scalar.addi v50 c0_i32_32
  let c3_i32_33 : BitVec 32 := 3#32
  let v52 : BitVec 32 := Scalar.addi v51 c3_i32_33
  let v53 : Index := Scalar.indexCast v52
  ![0, 0, v53.toNat]
def k0_mult26 (v54 : BitVec 32) : BitVec 32 :=
  v54

def k0_off36 (v54 : BitVec 32) : Fin 2 → Nat :=
  let v55 : BitVec 32 := v54
  let v56 : Index := Scalar.indexCast v55
  let c0_36 : Index := 0#32
  ![v56.toNat, 0]

def k0_chk4 (v54 : BitVec 32) : Prop :=
  (4 ∣ (k0_mult26 v54).toNat) ∧
  (∀ a, (k0_off36 v54) a + S4x128.size a ≤ S98304x128.size a)
theorem k0_mult26_dvd : ∀ (v54 : BitVec 32) (k0_hw4 : k0_chk4 v54), 4 ∣ (k0_mult26 v54).toNat := fun v54 k0_hw4 => k0_hw4.1
theorem k0_off36_inb : ∀ (v54 : BitVec 32) (k0_hw4 : k0_chk4 v54), ∀ a, (k0_off36 v54) a + S4x128.size a ≤ S98304x128.size a := fun v54 k0_hw4 => k0_hw4.2

def k0_off37 (k0_t3 : Fin k0_t3_loop.trips) : Fin 3 → Nat :=
  let c0_41 : Index := 0#32
  let c0_42 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_38 : BitVec 32 := 128#32
  let v61 : BitVec 32 := Scalar.muli v12 c128_i32_38
  let c0_i32_39 : BitVec 32 := 0#32
  let v62 : BitVec 32 := Scalar.addi v61 c0_i32_39
  let c4_i32 : BitVec 32 := 4#32
  let v63 : BitVec 32 := Scalar.addi v62 c4_i32
  let c0_i32_40 : BitVec 32 := 0#32
  let v64 : BitVec 32 := Scalar.addi v63 c0_i32_40
  let v65 : Index := Scalar.indexCast v64
  ![0, 0, v65.toNat]
def k0_mult27 (v66 : BitVec 32) : BitVec 32 :=
  v66

def k0_off38 (v66 : BitVec 32) : Fin 2 → Nat :=
  let v67 : BitVec 32 := v66
  let v68 : Index := Scalar.indexCast v67
  let c0_43 : Index := 0#32
  ![v68.toNat, 0]

def k0_chk5 (v66 : BitVec 32) : Prop :=
  (4 ∣ (k0_mult27 v66).toNat) ∧
  (∀ a, (k0_off38 v66) a + S4x128.size a ≤ S98304x128.size a)
theorem k0_mult27_dvd : ∀ (v66 : BitVec 32) (k0_hw5 : k0_chk5 v66), 4 ∣ (k0_mult27 v66).toNat := fun v66 k0_hw5 => k0_hw5.1
theorem k0_off38_inb : ∀ (v66 : BitVec 32) (k0_hw5 : k0_chk5 v66), ∀ a, (k0_off38 v66) a + S4x128.size a ≤ S98304x128.size a := fun v66 k0_hw5 => k0_hw5.2

def k0_off39 (k0_t3 : Fin k0_t3_loop.trips) : Fin 3 → Nat :=
  let c0_49 : Index := 0#32
  let c0_50 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_45 : BitVec 32 := 128#32
  let v73 : BitVec 32 := Scalar.muli v12 c128_i32_45
  let c0_i32_46 : BitVec 32 := 0#32
  let v74 : BitVec 32 := Scalar.addi v73 c0_i32_46
  let c4_i32_47 : BitVec 32 := 4#32
  let v75 : BitVec 32 := Scalar.addi v74 c4_i32_47
  let c1_i32_48 : BitVec 32 := 1#32
  let v76 : BitVec 32 := Scalar.addi v75 c1_i32_48
  let v77 : Index := Scalar.indexCast v76
  ![0, 0, v77.toNat]
def k0_mult28 (v78 : BitVec 32) : BitVec 32 :=
  v78

def k0_off40 (v78 : BitVec 32) : Fin 2 → Nat :=
  let v79 : BitVec 32 := v78
  let v80 : Index := Scalar.indexCast v79
  let c0_51 : Index := 0#32
  ![v80.toNat, 0]

def k0_chk6 (v78 : BitVec 32) : Prop :=
  (4 ∣ (k0_mult28 v78).toNat) ∧
  (∀ a, (k0_off40 v78) a + S4x128.size a ≤ S98304x128.size a)
theorem k0_mult28_dvd : ∀ (v78 : BitVec 32) (k0_hw6 : k0_chk6 v78), 4 ∣ (k0_mult28 v78).toNat := fun v78 k0_hw6 => k0_hw6.1
theorem k0_off40_inb : ∀ (v78 : BitVec 32) (k0_hw6 : k0_chk6 v78), ∀ a, (k0_off40 v78) a + S4x128.size a ≤ S98304x128.size a := fun v78 k0_hw6 => k0_hw6.2

def k0_off41 (k0_t3 : Fin k0_t3_loop.trips) : Fin 3 → Nat :=
  let c0_57 : Index := 0#32
  let c0_58 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_53 : BitVec 32 := 128#32
  let v85 : BitVec 32 := Scalar.muli v12 c128_i32_53
  let c0_i32_54 : BitVec 32 := 0#32
  let v86 : BitVec 32 := Scalar.addi v85 c0_i32_54
  let c4_i32_55 : BitVec 32 := 4#32
  let v87 : BitVec 32 := Scalar.addi v86 c4_i32_55
  let c2_i32_56 : BitVec 32 := 2#32
  let v88 : BitVec 32 := Scalar.addi v87 c2_i32_56
  let v89 : Index := Scalar.indexCast v88
  ![0, 0, v89.toNat]
def k0_mult29 (v90 : BitVec 32) : BitVec 32 :=
  v90

def k0_off42 (v90 : BitVec 32) : Fin 2 → Nat :=
  let v91 : BitVec 32 := v90
  let v92 : Index := Scalar.indexCast v91
  let c0_59 : Index := 0#32
  ![v92.toNat, 0]

def k0_chk7 (v90 : BitVec 32) : Prop :=
  (4 ∣ (k0_mult29 v90).toNat) ∧
  (∀ a, (k0_off42 v90) a + S4x128.size a ≤ S98304x128.size a)
theorem k0_mult29_dvd : ∀ (v90 : BitVec 32) (k0_hw7 : k0_chk7 v90), 4 ∣ (k0_mult29 v90).toNat := fun v90 k0_hw7 => k0_hw7.1
theorem k0_off42_inb : ∀ (v90 : BitVec 32) (k0_hw7 : k0_chk7 v90), ∀ a, (k0_off42 v90) a + S4x128.size a ≤ S98304x128.size a := fun v90 k0_hw7 => k0_hw7.2

def k0_off43 (k0_t3 : Fin k0_t3_loop.trips) : Fin 3 → Nat :=
  let c0_65 : Index := 0#32
  let c0_66 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_61 : BitVec 32 := 128#32
  let v97 : BitVec 32 := Scalar.muli v12 c128_i32_61
  let c0_i32_62 : BitVec 32 := 0#32
  let v98 : BitVec 32 := Scalar.addi v97 c0_i32_62
  let c4_i32_63 : BitVec 32 := 4#32
  let v99 : BitVec 32 := Scalar.addi v98 c4_i32_63
  let c3_i32_64 : BitVec 32 := 3#32
  let v100 : BitVec 32 := Scalar.addi v99 c3_i32_64
  let v101 : Index := Scalar.indexCast v100
  ![0, 0, v101.toNat]
def k0_mult30 (v102 : BitVec 32) : BitVec 32 :=
  v102

def k0_off44 (v102 : BitVec 32) : Fin 2 → Nat :=
  let v103 : BitVec 32 := v102
  let v104 : Index := Scalar.indexCast v103
  let c0_67 : Index := 0#32
  ![v104.toNat, 0]

def k0_chk8 (v102 : BitVec 32) : Prop :=
  (4 ∣ (k0_mult30 v102).toNat) ∧
  (∀ a, (k0_off44 v102) a + S4x128.size a ≤ S98304x128.size a)
theorem k0_mult30_dvd : ∀ (v102 : BitVec 32) (k0_hw8 : k0_chk8 v102), 4 ∣ (k0_mult30 v102).toNat := fun v102 k0_hw8 => k0_hw8.1
theorem k0_off44_inb : ∀ (v102 : BitVec 32) (k0_hw8 : k0_chk8 v102), ∀ a, (k0_off44 v102) a + S4x128.size a ≤ S98304x128.size a := fun v102 k0_hw8 => k0_hw8.2

def k0_off45 (k0_t3 : Fin k0_t3_loop.trips) : Fin 3 → Nat :=
  let c0_72 : Index := 0#32
  let c0_73 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_69 : BitVec 32 := 128#32
  let v109 : BitVec 32 := Scalar.muli v12 c128_i32_69
  let c0_i32_70 : BitVec 32 := 0#32
  let v110 : BitVec 32 := Scalar.addi v109 c0_i32_70
  let c8_i32 : BitVec 32 := 8#32
  let v111 : BitVec 32 := Scalar.addi v110 c8_i32
  let c0_i32_71 : BitVec 32 := 0#32
  let v112 : BitVec 32 := Scalar.addi v111 c0_i32_71
  let v113 : Index := Scalar.indexCast v112
  ![0, 0, v113.toNat]
def k0_mult31 (v114 : BitVec 32) : BitVec 32 :=
  v114

def k0_off46 (v114 : BitVec 32) : Fin 2 → Nat :=
  let v115 : BitVec 32 := v114
  let v116 : Index := Scalar.indexCast v115
  let c0_74 : Index := 0#32
  ![v116.toNat, 0]

def k0_chk9 (v114 : BitVec 32) : Prop :=
  (4 ∣ (k0_mult31 v114).toNat) ∧
  (∀ a, (k0_off46 v114) a + S4x128.size a ≤ S98304x128.size a)
theorem k0_mult31_dvd : ∀ (v114 : BitVec 32) (k0_hw9 : k0_chk9 v114), 4 ∣ (k0_mult31 v114).toNat := fun v114 k0_hw9 => k0_hw9.1
theorem k0_off46_inb : ∀ (v114 : BitVec 32) (k0_hw9 : k0_chk9 v114), ∀ a, (k0_off46 v114) a + S4x128.size a ≤ S98304x128.size a := fun v114 k0_hw9 => k0_hw9.2

def k0_off47 (k0_t3 : Fin k0_t3_loop.trips) : Fin 3 → Nat :=
  let c0_80 : Index := 0#32
  let c0_81 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_76 : BitVec 32 := 128#32
  let v121 : BitVec 32 := Scalar.muli v12 c128_i32_76
  let c0_i32_77 : BitVec 32 := 0#32
  let v122 : BitVec 32 := Scalar.addi v121 c0_i32_77
  let c8_i32_78 : BitVec 32 := 8#32
  let v123 : BitVec 32 := Scalar.addi v122 c8_i32_78
  let c1_i32_79 : BitVec 32 := 1#32
  let v124 : BitVec 32 := Scalar.addi v123 c1_i32_79
  let v125 : Index := Scalar.indexCast v124
  ![0, 0, v125.toNat]
def k0_mult32 (v126 : BitVec 32) : BitVec 32 :=
  v126

def k0_off48 (v126 : BitVec 32) : Fin 2 → Nat :=
  let v127 : BitVec 32 := v126
  let v128 : Index := Scalar.indexCast v127
  let c0_82 : Index := 0#32
  ![v128.toNat, 0]

def k0_chk10 (v126 : BitVec 32) : Prop :=
  (4 ∣ (k0_mult32 v126).toNat) ∧
  (∀ a, (k0_off48 v126) a + S4x128.size a ≤ S98304x128.size a)
theorem k0_mult32_dvd : ∀ (v126 : BitVec 32) (k0_hw10 : k0_chk10 v126), 4 ∣ (k0_mult32 v126).toNat := fun v126 k0_hw10 => k0_hw10.1
theorem k0_off48_inb : ∀ (v126 : BitVec 32) (k0_hw10 : k0_chk10 v126), ∀ a, (k0_off48 v126) a + S4x128.size a ≤ S98304x128.size a := fun v126 k0_hw10 => k0_hw10.2

def k0_off49 (k0_t3 : Fin k0_t3_loop.trips) : Fin 3 → Nat :=
  let c0_88 : Index := 0#32
  let c0_89 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_84 : BitVec 32 := 128#32
  let v133 : BitVec 32 := Scalar.muli v12 c128_i32_84
  let c0_i32_85 : BitVec 32 := 0#32
  let v134 : BitVec 32 := Scalar.addi v133 c0_i32_85
  let c8_i32_86 : BitVec 32 := 8#32
  let v135 : BitVec 32 := Scalar.addi v134 c8_i32_86
  let c2_i32_87 : BitVec 32 := 2#32
  let v136 : BitVec 32 := Scalar.addi v135 c2_i32_87
  let v137 : Index := Scalar.indexCast v136
  ![0, 0, v137.toNat]
def k0_mult33 (v138 : BitVec 32) : BitVec 32 :=
  v138

def k0_off50 (v138 : BitVec 32) : Fin 2 → Nat :=
  let v139 : BitVec 32 := v138
  let v140 : Index := Scalar.indexCast v139
  let c0_90 : Index := 0#32
  ![v140.toNat, 0]

def k0_chk11 (v138 : BitVec 32) : Prop :=
  (4 ∣ (k0_mult33 v138).toNat) ∧
  (∀ a, (k0_off50 v138) a + S4x128.size a ≤ S98304x128.size a)
theorem k0_mult33_dvd : ∀ (v138 : BitVec 32) (k0_hw11 : k0_chk11 v138), 4 ∣ (k0_mult33 v138).toNat := fun v138 k0_hw11 => k0_hw11.1
theorem k0_off50_inb : ∀ (v138 : BitVec 32) (k0_hw11 : k0_chk11 v138), ∀ a, (k0_off50 v138) a + S4x128.size a ≤ S98304x128.size a := fun v138 k0_hw11 => k0_hw11.2

def k0_off51 (k0_t3 : Fin k0_t3_loop.trips) : Fin 3 → Nat :=
  let c0_96 : Index := 0#32
  let c0_97 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_92 : BitVec 32 := 128#32
  let v145 : BitVec 32 := Scalar.muli v12 c128_i32_92
  let c0_i32_93 : BitVec 32 := 0#32
  let v146 : BitVec 32 := Scalar.addi v145 c0_i32_93
  let c8_i32_94 : BitVec 32 := 8#32
  let v147 : BitVec 32 := Scalar.addi v146 c8_i32_94
  let c3_i32_95 : BitVec 32 := 3#32
  let v148 : BitVec 32 := Scalar.addi v147 c3_i32_95
  let v149 : Index := Scalar.indexCast v148
  ![0, 0, v149.toNat]
def k0_mult34 (v150 : BitVec 32) : BitVec 32 :=
  v150

def k0_off52 (v150 : BitVec 32) : Fin 2 → Nat :=
  let v151 : BitVec 32 := v150
  let v152 : Index := Scalar.indexCast v151
  let c0_98 : Index := 0#32
  ![v152.toNat, 0]

def k0_chk12 (v150 : BitVec 32) : Prop :=
  (4 ∣ (k0_mult34 v150).toNat) ∧
  (∀ a, (k0_off52 v150) a + S4x128.size a ≤ S98304x128.size a)
theorem k0_mult34_dvd : ∀ (v150 : BitVec 32) (k0_hw12 : k0_chk12 v150), 4 ∣ (k0_mult34 v150).toNat := fun v150 k0_hw12 => k0_hw12.1
theorem k0_off52_inb : ∀ (v150 : BitVec 32) (k0_hw12 : k0_chk12 v150), ∀ a, (k0_off52 v150) a + S4x128.size a ≤ S98304x128.size a := fun v150 k0_hw12 => k0_hw12.2

def k0_off53 (k0_t3 : Fin k0_t3_loop.trips) : Fin 3 → Nat :=
  let c0_103 : Index := 0#32
  let c0_104 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_100 : BitVec 32 := 128#32
  let v157 : BitVec 32 := Scalar.muli v12 c128_i32_100
  let c0_i32_101 : BitVec 32 := 0#32
  let v158 : BitVec 32 := Scalar.addi v157 c0_i32_101
  let c12_i32 : BitVec 32 := 12#32
  let v159 : BitVec 32 := Scalar.addi v158 c12_i32
  let c0_i32_102 : BitVec 32 := 0#32
  let v160 : BitVec 32 := Scalar.addi v159 c0_i32_102
  let v161 : Index := Scalar.indexCast v160
  ![0, 0, v161.toNat]
def k0_mult35 (v162 : BitVec 32) : BitVec 32 :=
  v162

def k0_off54 (v162 : BitVec 32) : Fin 2 → Nat :=
  let v163 : BitVec 32 := v162
  let v164 : Index := Scalar.indexCast v163
  let c0_105 : Index := 0#32
  ![v164.toNat, 0]

def k0_chk13 (v162 : BitVec 32) : Prop :=
  (4 ∣ (k0_mult35 v162).toNat) ∧
  (∀ a, (k0_off54 v162) a + S4x128.size a ≤ S98304x128.size a)
theorem k0_mult35_dvd : ∀ (v162 : BitVec 32) (k0_hw13 : k0_chk13 v162), 4 ∣ (k0_mult35 v162).toNat := fun v162 k0_hw13 => k0_hw13.1
theorem k0_off54_inb : ∀ (v162 : BitVec 32) (k0_hw13 : k0_chk13 v162), ∀ a, (k0_off54 v162) a + S4x128.size a ≤ S98304x128.size a := fun v162 k0_hw13 => k0_hw13.2

def k0_off55 (k0_t3 : Fin k0_t3_loop.trips) : Fin 3 → Nat :=
  let c0_111 : Index := 0#32
  let c0_112 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_107 : BitVec 32 := 128#32
  let v169 : BitVec 32 := Scalar.muli v12 c128_i32_107
  let c0_i32_108 : BitVec 32 := 0#32
  let v170 : BitVec 32 := Scalar.addi v169 c0_i32_108
  let c12_i32_109 : BitVec 32 := 12#32
  let v171 : BitVec 32 := Scalar.addi v170 c12_i32_109
  let c1_i32_110 : BitVec 32 := 1#32
  let v172 : BitVec 32 := Scalar.addi v171 c1_i32_110
  let v173 : Index := Scalar.indexCast v172
  ![0, 0, v173.toNat]
def k0_mult36 (v174 : BitVec 32) : BitVec 32 :=
  v174

def k0_off56 (v174 : BitVec 32) : Fin 2 → Nat :=
  let v175 : BitVec 32 := v174
  let v176 : Index := Scalar.indexCast v175
  let c0_113 : Index := 0#32
  ![v176.toNat, 0]

def k0_chk14 (v174 : BitVec 32) : Prop :=
  (4 ∣ (k0_mult36 v174).toNat) ∧
  (∀ a, (k0_off56 v174) a + S4x128.size a ≤ S98304x128.size a)
theorem k0_mult36_dvd : ∀ (v174 : BitVec 32) (k0_hw14 : k0_chk14 v174), 4 ∣ (k0_mult36 v174).toNat := fun v174 k0_hw14 => k0_hw14.1
theorem k0_off56_inb : ∀ (v174 : BitVec 32) (k0_hw14 : k0_chk14 v174), ∀ a, (k0_off56 v174) a + S4x128.size a ≤ S98304x128.size a := fun v174 k0_hw14 => k0_hw14.2

def k0_off57 (k0_t3 : Fin k0_t3_loop.trips) : Fin 3 → Nat :=
  let c0_119 : Index := 0#32
  let c0_120 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_115 : BitVec 32 := 128#32
  let v181 : BitVec 32 := Scalar.muli v12 c128_i32_115
  let c0_i32_116 : BitVec 32 := 0#32
  let v182 : BitVec 32 := Scalar.addi v181 c0_i32_116
  let c12_i32_117 : BitVec 32 := 12#32
  let v183 : BitVec 32 := Scalar.addi v182 c12_i32_117
  let c2_i32_118 : BitVec 32 := 2#32
  let v184 : BitVec 32 := Scalar.addi v183 c2_i32_118
  let v185 : Index := Scalar.indexCast v184
  ![0, 0, v185.toNat]
def k0_mult37 (v186 : BitVec 32) : BitVec 32 :=
  v186

def k0_off58 (v186 : BitVec 32) : Fin 2 → Nat :=
  let v187 : BitVec 32 := v186
  let v188 : Index := Scalar.indexCast v187
  let c0_121 : Index := 0#32
  ![v188.toNat, 0]

def k0_chk15 (v186 : BitVec 32) : Prop :=
  (4 ∣ (k0_mult37 v186).toNat) ∧
  (∀ a, (k0_off58 v186) a + S4x128.size a ≤ S98304x128.size a)
theorem k0_mult37_dvd : ∀ (v186 : BitVec 32) (k0_hw15 : k0_chk15 v186), 4 ∣ (k0_mult37 v186).toNat := fun v186 k0_hw15 => k0_hw15.1
theorem k0_off58_inb : ∀ (v186 : BitVec 32) (k0_hw15 : k0_chk15 v186), ∀ a, (k0_off58 v186) a + S4x128.size a ≤ S98304x128.size a := fun v186 k0_hw15 => k0_hw15.2

def k0_off59 (k0_t3 : Fin k0_t3_loop.trips) : Fin 3 → Nat :=
  let c0_127 : Index := 0#32
  let c0_128 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_123 : BitVec 32 := 128#32
  let v193 : BitVec 32 := Scalar.muli v12 c128_i32_123
  let c0_i32_124 : BitVec 32 := 0#32
  let v194 : BitVec 32 := Scalar.addi v193 c0_i32_124
  let c12_i32_125 : BitVec 32 := 12#32
  let v195 : BitVec 32 := Scalar.addi v194 c12_i32_125
  let c3_i32_126 : BitVec 32 := 3#32
  let v196 : BitVec 32 := Scalar.addi v195 c3_i32_126
  let v197 : Index := Scalar.indexCast v196
  ![0, 0, v197.toNat]
def k0_mult38 (v198 : BitVec 32) : BitVec 32 :=
  v198

def k0_off60 (v198 : BitVec 32) : Fin 2 → Nat :=
  let v199 : BitVec 32 := v198
  let v200 : Index := Scalar.indexCast v199
  let c0_129 : Index := 0#32
  ![v200.toNat, 0]

def k0_chk16 (v198 : BitVec 32) : Prop :=
  (4 ∣ (k0_mult38 v198).toNat) ∧
  (∀ a, (k0_off60 v198) a + S4x128.size a ≤ S98304x128.size a)
theorem k0_mult38_dvd : ∀ (v198 : BitVec 32) (k0_hw16 : k0_chk16 v198), 4 ∣ (k0_mult38 v198).toNat := fun v198 k0_hw16 => k0_hw16.1
theorem k0_off60_inb : ∀ (v198 : BitVec 32) (k0_hw16 : k0_chk16 v198), ∀ a, (k0_off60 v198) a + S4x128.size a ≤ S98304x128.size a := fun v198 k0_hw16 => k0_hw16.2

def k0_off61 (k0_t3 : Fin k0_t3_loop.trips) : Fin 3 → Nat :=
  let c0_134 : Index := 0#32
  let c0_135 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_131 : BitVec 32 := 128#32
  let v205 : BitVec 32 := Scalar.muli v12 c128_i32_131
  let c0_i32_132 : BitVec 32 := 0#32
  let v206 : BitVec 32 := Scalar.addi v205 c0_i32_132
  let c16_i32 : BitVec 32 := 16#32
  let v207 : BitVec 32 := Scalar.addi v206 c16_i32
  let c0_i32_133 : BitVec 32 := 0#32
  let v208 : BitVec 32 := Scalar.addi v207 c0_i32_133
  let v209 : Index := Scalar.indexCast v208
  ![0, 0, v209.toNat]
def k0_mult39 (v210 : BitVec 32) : BitVec 32 :=
  v210

def k0_off62 (v210 : BitVec 32) : Fin 2 → Nat :=
  let v211 : BitVec 32 := v210
  let v212 : Index := Scalar.indexCast v211
  let c0_136 : Index := 0#32
  ![v212.toNat, 0]

def k0_chk17 (v210 : BitVec 32) : Prop :=
  (4 ∣ (k0_mult39 v210).toNat) ∧
  (∀ a, (k0_off62 v210) a + S4x128.size a ≤ S98304x128.size a)
theorem k0_mult39_dvd : ∀ (v210 : BitVec 32) (k0_hw17 : k0_chk17 v210), 4 ∣ (k0_mult39 v210).toNat := fun v210 k0_hw17 => k0_hw17.1
theorem k0_off62_inb : ∀ (v210 : BitVec 32) (k0_hw17 : k0_chk17 v210), ∀ a, (k0_off62 v210) a + S4x128.size a ≤ S98304x128.size a := fun v210 k0_hw17 => k0_hw17.2

def k0_off63 (k0_t3 : Fin k0_t3_loop.trips) : Fin 3 → Nat :=
  let c0_142 : Index := 0#32
  let c0_143 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_138 : BitVec 32 := 128#32
  let v217 : BitVec 32 := Scalar.muli v12 c128_i32_138
  let c0_i32_139 : BitVec 32 := 0#32
  let v218 : BitVec 32 := Scalar.addi v217 c0_i32_139
  let c16_i32_140 : BitVec 32 := 16#32
  let v219 : BitVec 32 := Scalar.addi v218 c16_i32_140
  let c1_i32_141 : BitVec 32 := 1#32
  let v220 : BitVec 32 := Scalar.addi v219 c1_i32_141
  let v221 : Index := Scalar.indexCast v220
  ![0, 0, v221.toNat]
def k0_mult40 (v222 : BitVec 32) : BitVec 32 :=
  v222

def k0_off64 (v222 : BitVec 32) : Fin 2 → Nat :=
  let v223 : BitVec 32 := v222
  let v224 : Index := Scalar.indexCast v223
  let c0_144 : Index := 0#32
  ![v224.toNat, 0]

def k0_chk18 (v222 : BitVec 32) : Prop :=
  (4 ∣ (k0_mult40 v222).toNat) ∧
  (∀ a, (k0_off64 v222) a + S4x128.size a ≤ S98304x128.size a)
theorem k0_mult40_dvd : ∀ (v222 : BitVec 32) (k0_hw18 : k0_chk18 v222), 4 ∣ (k0_mult40 v222).toNat := fun v222 k0_hw18 => k0_hw18.1
theorem k0_off64_inb : ∀ (v222 : BitVec 32) (k0_hw18 : k0_chk18 v222), ∀ a, (k0_off64 v222) a + S4x128.size a ≤ S98304x128.size a := fun v222 k0_hw18 => k0_hw18.2

def k0_off65 (k0_t3 : Fin k0_t3_loop.trips) : Fin 3 → Nat :=
  let c0_150 : Index := 0#32
  let c0_151 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_146 : BitVec 32 := 128#32
  let v229 : BitVec 32 := Scalar.muli v12 c128_i32_146
  let c0_i32_147 : BitVec 32 := 0#32
  let v230 : BitVec 32 := Scalar.addi v229 c0_i32_147
  let c16_i32_148 : BitVec 32 := 16#32
  let v231 : BitVec 32 := Scalar.addi v230 c16_i32_148
  let c2_i32_149 : BitVec 32 := 2#32
  let v232 : BitVec 32 := Scalar.addi v231 c2_i32_149
  let v233 : Index := Scalar.indexCast v232
  ![0, 0, v233.toNat]
def k0_mult41 (v234 : BitVec 32) : BitVec 32 :=
  v234

def k0_off66 (v234 : BitVec 32) : Fin 2 → Nat :=
  let v235 : BitVec 32 := v234
  let v236 : Index := Scalar.indexCast v235
  let c0_152 : Index := 0#32
  ![v236.toNat, 0]

def k0_chk19 (v234 : BitVec 32) : Prop :=
  (4 ∣ (k0_mult41 v234).toNat) ∧
  (∀ a, (k0_off66 v234) a + S4x128.size a ≤ S98304x128.size a)
theorem k0_mult41_dvd : ∀ (v234 : BitVec 32) (k0_hw19 : k0_chk19 v234), 4 ∣ (k0_mult41 v234).toNat := fun v234 k0_hw19 => k0_hw19.1
theorem k0_off66_inb : ∀ (v234 : BitVec 32) (k0_hw19 : k0_chk19 v234), ∀ a, (k0_off66 v234) a + S4x128.size a ≤ S98304x128.size a := fun v234 k0_hw19 => k0_hw19.2

def k0_off67 (k0_t3 : Fin k0_t3_loop.trips) : Fin 3 → Nat :=
  let c0_158 : Index := 0#32
  let c0_159 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_154 : BitVec 32 := 128#32
  let v241 : BitVec 32 := Scalar.muli v12 c128_i32_154
  let c0_i32_155 : BitVec 32 := 0#32
  let v242 : BitVec 32 := Scalar.addi v241 c0_i32_155
  let c16_i32_156 : BitVec 32 := 16#32
  let v243 : BitVec 32 := Scalar.addi v242 c16_i32_156
  let c3_i32_157 : BitVec 32 := 3#32
  let v244 : BitVec 32 := Scalar.addi v243 c3_i32_157
  let v245 : Index := Scalar.indexCast v244
  ![0, 0, v245.toNat]
def k0_mult42 (v246 : BitVec 32) : BitVec 32 :=
  v246

def k0_off68 (v246 : BitVec 32) : Fin 2 → Nat :=
  let v247 : BitVec 32 := v246
  let v248 : Index := Scalar.indexCast v247
  let c0_160 : Index := 0#32
  ![v248.toNat, 0]

def k0_chk20 (v246 : BitVec 32) : Prop :=
  (4 ∣ (k0_mult42 v246).toNat) ∧
  (∀ a, (k0_off68 v246) a + S4x128.size a ≤ S98304x128.size a)
theorem k0_mult42_dvd : ∀ (v246 : BitVec 32) (k0_hw20 : k0_chk20 v246), 4 ∣ (k0_mult42 v246).toNat := fun v246 k0_hw20 => k0_hw20.1
theorem k0_off68_inb : ∀ (v246 : BitVec 32) (k0_hw20 : k0_chk20 v246), ∀ a, (k0_off68 v246) a + S4x128.size a ≤ S98304x128.size a := fun v246 k0_hw20 => k0_hw20.2

def k0_off69 (k0_t3 : Fin k0_t3_loop.trips) : Fin 3 → Nat :=
  let c0_165 : Index := 0#32
  let c0_166 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_162 : BitVec 32 := 128#32
  let v253 : BitVec 32 := Scalar.muli v12 c128_i32_162
  let c0_i32_163 : BitVec 32 := 0#32
  let v254 : BitVec 32 := Scalar.addi v253 c0_i32_163
  let c20_i32 : BitVec 32 := 20#32
  let v255 : BitVec 32 := Scalar.addi v254 c20_i32
  let c0_i32_164 : BitVec 32 := 0#32
  let v256 : BitVec 32 := Scalar.addi v255 c0_i32_164
  let v257 : Index := Scalar.indexCast v256
  ![0, 0, v257.toNat]
def k0_mult43 (v258 : BitVec 32) : BitVec 32 :=
  v258

def k0_off70 (v258 : BitVec 32) : Fin 2 → Nat :=
  let v259 : BitVec 32 := v258
  let v260 : Index := Scalar.indexCast v259
  let c0_167 : Index := 0#32
  ![v260.toNat, 0]

def k0_chk21 (v258 : BitVec 32) : Prop :=
  (4 ∣ (k0_mult43 v258).toNat) ∧
  (∀ a, (k0_off70 v258) a + S4x128.size a ≤ S98304x128.size a)
theorem k0_mult43_dvd : ∀ (v258 : BitVec 32) (k0_hw21 : k0_chk21 v258), 4 ∣ (k0_mult43 v258).toNat := fun v258 k0_hw21 => k0_hw21.1
theorem k0_off70_inb : ∀ (v258 : BitVec 32) (k0_hw21 : k0_chk21 v258), ∀ a, (k0_off70 v258) a + S4x128.size a ≤ S98304x128.size a := fun v258 k0_hw21 => k0_hw21.2

def k0_off71 (k0_t3 : Fin k0_t3_loop.trips) : Fin 3 → Nat :=
  let c0_173 : Index := 0#32
  let c0_174 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_169 : BitVec 32 := 128#32
  let v265 : BitVec 32 := Scalar.muli v12 c128_i32_169
  let c0_i32_170 : BitVec 32 := 0#32
  let v266 : BitVec 32 := Scalar.addi v265 c0_i32_170
  let c20_i32_171 : BitVec 32 := 20#32
  let v267 : BitVec 32 := Scalar.addi v266 c20_i32_171
  let c1_i32_172 : BitVec 32 := 1#32
  let v268 : BitVec 32 := Scalar.addi v267 c1_i32_172
  let v269 : Index := Scalar.indexCast v268
  ![0, 0, v269.toNat]
def k0_mult44 (v270 : BitVec 32) : BitVec 32 :=
  v270

def k0_off72 (v270 : BitVec 32) : Fin 2 → Nat :=
  let v271 : BitVec 32 := v270
  let v272 : Index := Scalar.indexCast v271
  let c0_175 : Index := 0#32
  ![v272.toNat, 0]

def k0_chk22 (v270 : BitVec 32) : Prop :=
  (4 ∣ (k0_mult44 v270).toNat) ∧
  (∀ a, (k0_off72 v270) a + S4x128.size a ≤ S98304x128.size a)
theorem k0_mult44_dvd : ∀ (v270 : BitVec 32) (k0_hw22 : k0_chk22 v270), 4 ∣ (k0_mult44 v270).toNat := fun v270 k0_hw22 => k0_hw22.1
theorem k0_off72_inb : ∀ (v270 : BitVec 32) (k0_hw22 : k0_chk22 v270), ∀ a, (k0_off72 v270) a + S4x128.size a ≤ S98304x128.size a := fun v270 k0_hw22 => k0_hw22.2

def k0_off73 (k0_t3 : Fin k0_t3_loop.trips) : Fin 3 → Nat :=
  let c0_181 : Index := 0#32
  let c0_182 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_177 : BitVec 32 := 128#32
  let v277 : BitVec 32 := Scalar.muli v12 c128_i32_177
  let c0_i32_178 : BitVec 32 := 0#32
  let v278 : BitVec 32 := Scalar.addi v277 c0_i32_178
  let c20_i32_179 : BitVec 32 := 20#32
  let v279 : BitVec 32 := Scalar.addi v278 c20_i32_179
  let c2_i32_180 : BitVec 32 := 2#32
  let v280 : BitVec 32 := Scalar.addi v279 c2_i32_180
  let v281 : Index := Scalar.indexCast v280
  ![0, 0, v281.toNat]
def k0_mult45 (v282 : BitVec 32) : BitVec 32 :=
  v282

def k0_off74 (v282 : BitVec 32) : Fin 2 → Nat :=
  let v283 : BitVec 32 := v282
  let v284 : Index := Scalar.indexCast v283
  let c0_183 : Index := 0#32
  ![v284.toNat, 0]

def k0_chk23 (v282 : BitVec 32) : Prop :=
  (4 ∣ (k0_mult45 v282).toNat) ∧
  (∀ a, (k0_off74 v282) a + S4x128.size a ≤ S98304x128.size a)
theorem k0_mult45_dvd : ∀ (v282 : BitVec 32) (k0_hw23 : k0_chk23 v282), 4 ∣ (k0_mult45 v282).toNat := fun v282 k0_hw23 => k0_hw23.1
theorem k0_off74_inb : ∀ (v282 : BitVec 32) (k0_hw23 : k0_chk23 v282), ∀ a, (k0_off74 v282) a + S4x128.size a ≤ S98304x128.size a := fun v282 k0_hw23 => k0_hw23.2

def k0_off75 (k0_t3 : Fin k0_t3_loop.trips) : Fin 3 → Nat :=
  let c0_189 : Index := 0#32
  let c0_190 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_185 : BitVec 32 := 128#32
  let v289 : BitVec 32 := Scalar.muli v12 c128_i32_185
  let c0_i32_186 : BitVec 32 := 0#32
  let v290 : BitVec 32 := Scalar.addi v289 c0_i32_186
  let c20_i32_187 : BitVec 32 := 20#32
  let v291 : BitVec 32 := Scalar.addi v290 c20_i32_187
  let c3_i32_188 : BitVec 32 := 3#32
  let v292 : BitVec 32 := Scalar.addi v291 c3_i32_188
  let v293 : Index := Scalar.indexCast v292
  ![0, 0, v293.toNat]
def k0_mult46 (v294 : BitVec 32) : BitVec 32 :=
  v294

def k0_off76 (v294 : BitVec 32) : Fin 2 → Nat :=
  let v295 : BitVec 32 := v294
  let v296 : Index := Scalar.indexCast v295
  let c0_191 : Index := 0#32
  ![v296.toNat, 0]

def k0_chk24 (v294 : BitVec 32) : Prop :=
  (4 ∣ (k0_mult46 v294).toNat) ∧
  (∀ a, (k0_off76 v294) a + S4x128.size a ≤ S98304x128.size a)
theorem k0_mult46_dvd : ∀ (v294 : BitVec 32) (k0_hw24 : k0_chk24 v294), 4 ∣ (k0_mult46 v294).toNat := fun v294 k0_hw24 => k0_hw24.1
theorem k0_off76_inb : ∀ (v294 : BitVec 32) (k0_hw24 : k0_chk24 v294), ∀ a, (k0_off76 v294) a + S4x128.size a ≤ S98304x128.size a := fun v294 k0_hw24 => k0_hw24.2

def k0_off77 (k0_t3 : Fin k0_t3_loop.trips) : Fin 3 → Nat :=
  let c0_196 : Index := 0#32
  let c0_197 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_193 : BitVec 32 := 128#32
  let v301 : BitVec 32 := Scalar.muli v12 c128_i32_193
  let c0_i32_194 : BitVec 32 := 0#32
  let v302 : BitVec 32 := Scalar.addi v301 c0_i32_194
  let c24_i32 : BitVec 32 := 24#32
  let v303 : BitVec 32 := Scalar.addi v302 c24_i32
  let c0_i32_195 : BitVec 32 := 0#32
  let v304 : BitVec 32 := Scalar.addi v303 c0_i32_195
  let v305 : Index := Scalar.indexCast v304
  ![0, 0, v305.toNat]
def k0_mult47 (v306 : BitVec 32) : BitVec 32 :=
  v306

def k0_off78 (v306 : BitVec 32) : Fin 2 → Nat :=
  let v307 : BitVec 32 := v306
  let v308 : Index := Scalar.indexCast v307
  let c0_198 : Index := 0#32
  ![v308.toNat, 0]

def k0_chk25 (v306 : BitVec 32) : Prop :=
  (4 ∣ (k0_mult47 v306).toNat) ∧
  (∀ a, (k0_off78 v306) a + S4x128.size a ≤ S98304x128.size a)
theorem k0_mult47_dvd : ∀ (v306 : BitVec 32) (k0_hw25 : k0_chk25 v306), 4 ∣ (k0_mult47 v306).toNat := fun v306 k0_hw25 => k0_hw25.1
theorem k0_off78_inb : ∀ (v306 : BitVec 32) (k0_hw25 : k0_chk25 v306), ∀ a, (k0_off78 v306) a + S4x128.size a ≤ S98304x128.size a := fun v306 k0_hw25 => k0_hw25.2

def k0_off79 (k0_t3 : Fin k0_t3_loop.trips) : Fin 3 → Nat :=
  let c0_204 : Index := 0#32
  let c0_205 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_200 : BitVec 32 := 128#32
  let v313 : BitVec 32 := Scalar.muli v12 c128_i32_200
  let c0_i32_201 : BitVec 32 := 0#32
  let v314 : BitVec 32 := Scalar.addi v313 c0_i32_201
  let c24_i32_202 : BitVec 32 := 24#32
  let v315 : BitVec 32 := Scalar.addi v314 c24_i32_202
  let c1_i32_203 : BitVec 32 := 1#32
  let v316 : BitVec 32 := Scalar.addi v315 c1_i32_203
  let v317 : Index := Scalar.indexCast v316
  ![0, 0, v317.toNat]
def k0_mult48 (v318 : BitVec 32) : BitVec 32 :=
  v318

def k0_off80 (v318 : BitVec 32) : Fin 2 → Nat :=
  let v319 : BitVec 32 := v318
  let v320 : Index := Scalar.indexCast v319
  let c0_206 : Index := 0#32
  ![v320.toNat, 0]

def k0_chk26 (v318 : BitVec 32) : Prop :=
  (4 ∣ (k0_mult48 v318).toNat) ∧
  (∀ a, (k0_off80 v318) a + S4x128.size a ≤ S98304x128.size a)
theorem k0_mult48_dvd : ∀ (v318 : BitVec 32) (k0_hw26 : k0_chk26 v318), 4 ∣ (k0_mult48 v318).toNat := fun v318 k0_hw26 => k0_hw26.1
theorem k0_off80_inb : ∀ (v318 : BitVec 32) (k0_hw26 : k0_chk26 v318), ∀ a, (k0_off80 v318) a + S4x128.size a ≤ S98304x128.size a := fun v318 k0_hw26 => k0_hw26.2

def k0_off81 (k0_t3 : Fin k0_t3_loop.trips) : Fin 3 → Nat :=
  let c0_212 : Index := 0#32
  let c0_213 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_208 : BitVec 32 := 128#32
  let v325 : BitVec 32 := Scalar.muli v12 c128_i32_208
  let c0_i32_209 : BitVec 32 := 0#32
  let v326 : BitVec 32 := Scalar.addi v325 c0_i32_209
  let c24_i32_210 : BitVec 32 := 24#32
  let v327 : BitVec 32 := Scalar.addi v326 c24_i32_210
  let c2_i32_211 : BitVec 32 := 2#32
  let v328 : BitVec 32 := Scalar.addi v327 c2_i32_211
  let v329 : Index := Scalar.indexCast v328
  ![0, 0, v329.toNat]
def k0_mult49 (v330 : BitVec 32) : BitVec 32 :=
  v330

def k0_off82 (v330 : BitVec 32) : Fin 2 → Nat :=
  let v331 : BitVec 32 := v330
  let v332 : Index := Scalar.indexCast v331
  let c0_214 : Index := 0#32
  ![v332.toNat, 0]

def k0_chk27 (v330 : BitVec 32) : Prop :=
  (4 ∣ (k0_mult49 v330).toNat) ∧
  (∀ a, (k0_off82 v330) a + S4x128.size a ≤ S98304x128.size a)
theorem k0_mult49_dvd : ∀ (v330 : BitVec 32) (k0_hw27 : k0_chk27 v330), 4 ∣ (k0_mult49 v330).toNat := fun v330 k0_hw27 => k0_hw27.1
theorem k0_off82_inb : ∀ (v330 : BitVec 32) (k0_hw27 : k0_chk27 v330), ∀ a, (k0_off82 v330) a + S4x128.size a ≤ S98304x128.size a := fun v330 k0_hw27 => k0_hw27.2

def k0_off83 (k0_t3 : Fin k0_t3_loop.trips) : Fin 3 → Nat :=
  let c0_220 : Index := 0#32
  let c0_221 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_216 : BitVec 32 := 128#32
  let v337 : BitVec 32 := Scalar.muli v12 c128_i32_216
  let c0_i32_217 : BitVec 32 := 0#32
  let v338 : BitVec 32 := Scalar.addi v337 c0_i32_217
  let c24_i32_218 : BitVec 32 := 24#32
  let v339 : BitVec 32 := Scalar.addi v338 c24_i32_218
  let c3_i32_219 : BitVec 32 := 3#32
  let v340 : BitVec 32 := Scalar.addi v339 c3_i32_219
  let v341 : Index := Scalar.indexCast v340
  ![0, 0, v341.toNat]
def k0_mult50 (v342 : BitVec 32) : BitVec 32 :=
  v342

def k0_off84 (v342 : BitVec 32) : Fin 2 → Nat :=
  let v343 : BitVec 32 := v342
  let v344 : Index := Scalar.indexCast v343
  let c0_222 : Index := 0#32
  ![v344.toNat, 0]

def k0_chk28 (v342 : BitVec 32) : Prop :=
  (4 ∣ (k0_mult50 v342).toNat) ∧
  (∀ a, (k0_off84 v342) a + S4x128.size a ≤ S98304x128.size a)
theorem k0_mult50_dvd : ∀ (v342 : BitVec 32) (k0_hw28 : k0_chk28 v342), 4 ∣ (k0_mult50 v342).toNat := fun v342 k0_hw28 => k0_hw28.1
theorem k0_off84_inb : ∀ (v342 : BitVec 32) (k0_hw28 : k0_chk28 v342), ∀ a, (k0_off84 v342) a + S4x128.size a ≤ S98304x128.size a := fun v342 k0_hw28 => k0_hw28.2

def k0_off85 (k0_t3 : Fin k0_t3_loop.trips) : Fin 3 → Nat :=
  let c0_227 : Index := 0#32
  let c0_228 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_224 : BitVec 32 := 128#32
  let v349 : BitVec 32 := Scalar.muli v12 c128_i32_224
  let c0_i32_225 : BitVec 32 := 0#32
  let v350 : BitVec 32 := Scalar.addi v349 c0_i32_225
  let c28_i32 : BitVec 32 := 28#32
  let v351 : BitVec 32 := Scalar.addi v350 c28_i32
  let c0_i32_226 : BitVec 32 := 0#32
  let v352 : BitVec 32 := Scalar.addi v351 c0_i32_226
  let v353 : Index := Scalar.indexCast v352
  ![0, 0, v353.toNat]
def k0_mult51 (v354 : BitVec 32) : BitVec 32 :=
  v354

def k0_off86 (v354 : BitVec 32) : Fin 2 → Nat :=
  let v355 : BitVec 32 := v354
  let v356 : Index := Scalar.indexCast v355
  let c0_229 : Index := 0#32
  ![v356.toNat, 0]

def k0_chk29 (v354 : BitVec 32) : Prop :=
  (4 ∣ (k0_mult51 v354).toNat) ∧
  (∀ a, (k0_off86 v354) a + S4x128.size a ≤ S98304x128.size a)
theorem k0_mult51_dvd : ∀ (v354 : BitVec 32) (k0_hw29 : k0_chk29 v354), 4 ∣ (k0_mult51 v354).toNat := fun v354 k0_hw29 => k0_hw29.1
theorem k0_off86_inb : ∀ (v354 : BitVec 32) (k0_hw29 : k0_chk29 v354), ∀ a, (k0_off86 v354) a + S4x128.size a ≤ S98304x128.size a := fun v354 k0_hw29 => k0_hw29.2

def k0_off87 (k0_t3 : Fin k0_t3_loop.trips) : Fin 3 → Nat :=
  let c0_235 : Index := 0#32
  let c0_236 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_231 : BitVec 32 := 128#32
  let v361 : BitVec 32 := Scalar.muli v12 c128_i32_231
  let c0_i32_232 : BitVec 32 := 0#32
  let v362 : BitVec 32 := Scalar.addi v361 c0_i32_232
  let c28_i32_233 : BitVec 32 := 28#32
  let v363 : BitVec 32 := Scalar.addi v362 c28_i32_233
  let c1_i32_234 : BitVec 32 := 1#32
  let v364 : BitVec 32 := Scalar.addi v363 c1_i32_234
  let v365 : Index := Scalar.indexCast v364
  ![0, 0, v365.toNat]
def k0_mult52 (v366 : BitVec 32) : BitVec 32 :=
  v366

def k0_off88 (v366 : BitVec 32) : Fin 2 → Nat :=
  let v367 : BitVec 32 := v366
  let v368 : Index := Scalar.indexCast v367
  let c0_237 : Index := 0#32
  ![v368.toNat, 0]

def k0_chk30 (v366 : BitVec 32) : Prop :=
  (4 ∣ (k0_mult52 v366).toNat) ∧
  (∀ a, (k0_off88 v366) a + S4x128.size a ≤ S98304x128.size a)
theorem k0_mult52_dvd : ∀ (v366 : BitVec 32) (k0_hw30 : k0_chk30 v366), 4 ∣ (k0_mult52 v366).toNat := fun v366 k0_hw30 => k0_hw30.1
theorem k0_off88_inb : ∀ (v366 : BitVec 32) (k0_hw30 : k0_chk30 v366), ∀ a, (k0_off88 v366) a + S4x128.size a ≤ S98304x128.size a := fun v366 k0_hw30 => k0_hw30.2

def k0_off89 (k0_t3 : Fin k0_t3_loop.trips) : Fin 3 → Nat :=
  let c0_243 : Index := 0#32
  let c0_244 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_239 : BitVec 32 := 128#32
  let v373 : BitVec 32 := Scalar.muli v12 c128_i32_239
  let c0_i32_240 : BitVec 32 := 0#32
  let v374 : BitVec 32 := Scalar.addi v373 c0_i32_240
  let c28_i32_241 : BitVec 32 := 28#32
  let v375 : BitVec 32 := Scalar.addi v374 c28_i32_241
  let c2_i32_242 : BitVec 32 := 2#32
  let v376 : BitVec 32 := Scalar.addi v375 c2_i32_242
  let v377 : Index := Scalar.indexCast v376
  ![0, 0, v377.toNat]
def k0_mult53 (v378 : BitVec 32) : BitVec 32 :=
  v378

def k0_off90 (v378 : BitVec 32) : Fin 2 → Nat :=
  let v379 : BitVec 32 := v378
  let v380 : Index := Scalar.indexCast v379
  let c0_245 : Index := 0#32
  ![v380.toNat, 0]

def k0_chk31 (v378 : BitVec 32) : Prop :=
  (4 ∣ (k0_mult53 v378).toNat) ∧
  (∀ a, (k0_off90 v378) a + S4x128.size a ≤ S98304x128.size a)
theorem k0_mult53_dvd : ∀ (v378 : BitVec 32) (k0_hw31 : k0_chk31 v378), 4 ∣ (k0_mult53 v378).toNat := fun v378 k0_hw31 => k0_hw31.1
theorem k0_off90_inb : ∀ (v378 : BitVec 32) (k0_hw31 : k0_chk31 v378), ∀ a, (k0_off90 v378) a + S4x128.size a ≤ S98304x128.size a := fun v378 k0_hw31 => k0_hw31.2

def k0_off91 (k0_t3 : Fin k0_t3_loop.trips) : Fin 3 → Nat :=
  let c0_251 : Index := 0#32
  let c0_252 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_247 : BitVec 32 := 128#32
  let v385 : BitVec 32 := Scalar.muli v12 c128_i32_247
  let c0_i32_248 : BitVec 32 := 0#32
  let v386 : BitVec 32 := Scalar.addi v385 c0_i32_248
  let c28_i32_249 : BitVec 32 := 28#32
  let v387 : BitVec 32 := Scalar.addi v386 c28_i32_249
  let c3_i32_250 : BitVec 32 := 3#32
  let v388 : BitVec 32 := Scalar.addi v387 c3_i32_250
  let v389 : Index := Scalar.indexCast v388
  ![0, 0, v389.toNat]
def k0_mult54 (v390 : BitVec 32) : BitVec 32 :=
  v390

def k0_off92 (v390 : BitVec 32) : Fin 2 → Nat :=
  let v391 : BitVec 32 := v390
  let v392 : Index := Scalar.indexCast v391
  let c0_253 : Index := 0#32
  ![v392.toNat, 0]

def k0_chk32 (v390 : BitVec 32) : Prop :=
  (4 ∣ (k0_mult54 v390).toNat) ∧
  (∀ a, (k0_off92 v390) a + S4x128.size a ≤ S98304x128.size a)
theorem k0_mult54_dvd : ∀ (v390 : BitVec 32) (k0_hw32 : k0_chk32 v390), 4 ∣ (k0_mult54 v390).toNat := fun v390 k0_hw32 => k0_hw32.1
theorem k0_off92_inb : ∀ (v390 : BitVec 32) (k0_hw32 : k0_chk32 v390), ∀ a, (k0_off92 v390) a + S4x128.size a ≤ S98304x128.size a := fun v390 k0_hw32 => k0_hw32.2

def k0_off93 (k0_t3 : Fin k0_t3_loop.trips) : Fin 3 → Nat :=
  let c0_258 : Index := 0#32
  let c0_259 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_255 : BitVec 32 := 128#32
  let v397 : BitVec 32 := Scalar.muli v12 c128_i32_255
  let c32_i32 : BitVec 32 := 32#32
  let v398 : BitVec 32 := Scalar.addi v397 c32_i32
  let c0_i32_256 : BitVec 32 := 0#32
  let v399 : BitVec 32 := Scalar.addi v398 c0_i32_256
  let c0_i32_257 : BitVec 32 := 0#32
  let v400 : BitVec 32 := Scalar.addi v399 c0_i32_257
  let v401 : Index := Scalar.indexCast v400
  ![0, 0, v401.toNat]
def k0_mult55 (v402 : BitVec 32) : BitVec 32 :=
  v402

def k0_off94 (v402 : BitVec 32) : Fin 2 → Nat :=
  let v403 : BitVec 32 := v402
  let v404 : Index := Scalar.indexCast v403
  let c0_260 : Index := 0#32
  ![v404.toNat, 0]

def k0_chk33 (v402 : BitVec 32) : Prop :=
  (4 ∣ (k0_mult55 v402).toNat) ∧
  (∀ a, (k0_off94 v402) a + S4x128.size a ≤ S98304x128.size a)
theorem k0_mult55_dvd : ∀ (v402 : BitVec 32) (k0_hw33 : k0_chk33 v402), 4 ∣ (k0_mult55 v402).toNat := fun v402 k0_hw33 => k0_hw33.1
theorem k0_off94_inb : ∀ (v402 : BitVec 32) (k0_hw33 : k0_chk33 v402), ∀ a, (k0_off94 v402) a + S4x128.size a ≤ S98304x128.size a := fun v402 k0_hw33 => k0_hw33.2

def k0_off95 (k0_t3 : Fin k0_t3_loop.trips) : Fin 3 → Nat :=
  let c0_266 : Index := 0#32
  let c0_267 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_262 : BitVec 32 := 128#32
  let v409 : BitVec 32 := Scalar.muli v12 c128_i32_262
  let c32_i32_263 : BitVec 32 := 32#32
  let v410 : BitVec 32 := Scalar.addi v409 c32_i32_263
  let c0_i32_264 : BitVec 32 := 0#32
  let v411 : BitVec 32 := Scalar.addi v410 c0_i32_264
  let c1_i32_265 : BitVec 32 := 1#32
  let v412 : BitVec 32 := Scalar.addi v411 c1_i32_265
  let v413 : Index := Scalar.indexCast v412
  ![0, 0, v413.toNat]
def k0_mult56 (v414 : BitVec 32) : BitVec 32 :=
  v414

def k0_off96 (v414 : BitVec 32) : Fin 2 → Nat :=
  let v415 : BitVec 32 := v414
  let v416 : Index := Scalar.indexCast v415
  let c0_268 : Index := 0#32
  ![v416.toNat, 0]

def k0_chk34 (v414 : BitVec 32) : Prop :=
  (4 ∣ (k0_mult56 v414).toNat) ∧
  (∀ a, (k0_off96 v414) a + S4x128.size a ≤ S98304x128.size a)
theorem k0_mult56_dvd : ∀ (v414 : BitVec 32) (k0_hw34 : k0_chk34 v414), 4 ∣ (k0_mult56 v414).toNat := fun v414 k0_hw34 => k0_hw34.1
theorem k0_off96_inb : ∀ (v414 : BitVec 32) (k0_hw34 : k0_chk34 v414), ∀ a, (k0_off96 v414) a + S4x128.size a ≤ S98304x128.size a := fun v414 k0_hw34 => k0_hw34.2

def k0_off97 (k0_t3 : Fin k0_t3_loop.trips) : Fin 3 → Nat :=
  let c0_274 : Index := 0#32
  let c0_275 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_270 : BitVec 32 := 128#32
  let v421 : BitVec 32 := Scalar.muli v12 c128_i32_270
  let c32_i32_271 : BitVec 32 := 32#32
  let v422 : BitVec 32 := Scalar.addi v421 c32_i32_271
  let c0_i32_272 : BitVec 32 := 0#32
  let v423 : BitVec 32 := Scalar.addi v422 c0_i32_272
  let c2_i32_273 : BitVec 32 := 2#32
  let v424 : BitVec 32 := Scalar.addi v423 c2_i32_273
  let v425 : Index := Scalar.indexCast v424
  ![0, 0, v425.toNat]
def k0_mult57 (v426 : BitVec 32) : BitVec 32 :=
  v426

def k0_off98 (v426 : BitVec 32) : Fin 2 → Nat :=
  let v427 : BitVec 32 := v426
  let v428 : Index := Scalar.indexCast v427
  let c0_276 : Index := 0#32
  ![v428.toNat, 0]

def k0_chk35 (v426 : BitVec 32) : Prop :=
  (4 ∣ (k0_mult57 v426).toNat) ∧
  (∀ a, (k0_off98 v426) a + S4x128.size a ≤ S98304x128.size a)
theorem k0_mult57_dvd : ∀ (v426 : BitVec 32) (k0_hw35 : k0_chk35 v426), 4 ∣ (k0_mult57 v426).toNat := fun v426 k0_hw35 => k0_hw35.1
theorem k0_off98_inb : ∀ (v426 : BitVec 32) (k0_hw35 : k0_chk35 v426), ∀ a, (k0_off98 v426) a + S4x128.size a ≤ S98304x128.size a := fun v426 k0_hw35 => k0_hw35.2

def k0_off99 (k0_t3 : Fin k0_t3_loop.trips) : Fin 3 → Nat :=
  let c0_282 : Index := 0#32
  let c0_283 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_278 : BitVec 32 := 128#32
  let v433 : BitVec 32 := Scalar.muli v12 c128_i32_278
  let c32_i32_279 : BitVec 32 := 32#32
  let v434 : BitVec 32 := Scalar.addi v433 c32_i32_279
  let c0_i32_280 : BitVec 32 := 0#32
  let v435 : BitVec 32 := Scalar.addi v434 c0_i32_280
  let c3_i32_281 : BitVec 32 := 3#32
  let v436 : BitVec 32 := Scalar.addi v435 c3_i32_281
  let v437 : Index := Scalar.indexCast v436
  ![0, 0, v437.toNat]
def k0_mult58 (v438 : BitVec 32) : BitVec 32 :=
  v438

def k0_off100 (v438 : BitVec 32) : Fin 2 → Nat :=
  let v439 : BitVec 32 := v438
  let v440 : Index := Scalar.indexCast v439
  let c0_284 : Index := 0#32
  ![v440.toNat, 0]

def k0_chk36 (v438 : BitVec 32) : Prop :=
  (4 ∣ (k0_mult58 v438).toNat) ∧
  (∀ a, (k0_off100 v438) a + S4x128.size a ≤ S98304x128.size a)
theorem k0_mult58_dvd : ∀ (v438 : BitVec 32) (k0_hw36 : k0_chk36 v438), 4 ∣ (k0_mult58 v438).toNat := fun v438 k0_hw36 => k0_hw36.1
theorem k0_off100_inb : ∀ (v438 : BitVec 32) (k0_hw36 : k0_chk36 v438), ∀ a, (k0_off100 v438) a + S4x128.size a ≤ S98304x128.size a := fun v438 k0_hw36 => k0_hw36.2

def k0_off101 (k0_t3 : Fin k0_t3_loop.trips) : Fin 3 → Nat :=
  let c0_290 : Index := 0#32
  let c0_291 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_286 : BitVec 32 := 128#32
  let v445 : BitVec 32 := Scalar.muli v12 c128_i32_286
  let c32_i32_287 : BitVec 32 := 32#32
  let v446 : BitVec 32 := Scalar.addi v445 c32_i32_287
  let c4_i32_288 : BitVec 32 := 4#32
  let v447 : BitVec 32 := Scalar.addi v446 c4_i32_288
  let c0_i32_289 : BitVec 32 := 0#32
  let v448 : BitVec 32 := Scalar.addi v447 c0_i32_289
  let v449 : Index := Scalar.indexCast v448
  ![0, 0, v449.toNat]
def k0_mult59 (v450 : BitVec 32) : BitVec 32 :=
  v450

def k0_off102 (v450 : BitVec 32) : Fin 2 → Nat :=
  let v451 : BitVec 32 := v450
  let v452 : Index := Scalar.indexCast v451
  let c0_292 : Index := 0#32
  ![v452.toNat, 0]

def k0_chk37 (v450 : BitVec 32) : Prop :=
  (4 ∣ (k0_mult59 v450).toNat) ∧
  (∀ a, (k0_off102 v450) a + S4x128.size a ≤ S98304x128.size a)
theorem k0_mult59_dvd : ∀ (v450 : BitVec 32) (k0_hw37 : k0_chk37 v450), 4 ∣ (k0_mult59 v450).toNat := fun v450 k0_hw37 => k0_hw37.1
theorem k0_off102_inb : ∀ (v450 : BitVec 32) (k0_hw37 : k0_chk37 v450), ∀ a, (k0_off102 v450) a + S4x128.size a ≤ S98304x128.size a := fun v450 k0_hw37 => k0_hw37.2

def k0_off103 (k0_t3 : Fin k0_t3_loop.trips) : Fin 3 → Nat :=
  let c0_298 : Index := 0#32
  let c0_299 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_294 : BitVec 32 := 128#32
  let v457 : BitVec 32 := Scalar.muli v12 c128_i32_294
  let c32_i32_295 : BitVec 32 := 32#32
  let v458 : BitVec 32 := Scalar.addi v457 c32_i32_295
  let c4_i32_296 : BitVec 32 := 4#32
  let v459 : BitVec 32 := Scalar.addi v458 c4_i32_296
  let c1_i32_297 : BitVec 32 := 1#32
  let v460 : BitVec 32 := Scalar.addi v459 c1_i32_297
  let v461 : Index := Scalar.indexCast v460
  ![0, 0, v461.toNat]
def k0_mult60 (v462 : BitVec 32) : BitVec 32 :=
  v462

def k0_off104 (v462 : BitVec 32) : Fin 2 → Nat :=
  let v463 : BitVec 32 := v462
  let v464 : Index := Scalar.indexCast v463
  let c0_300 : Index := 0#32
  ![v464.toNat, 0]

def k0_chk38 (v462 : BitVec 32) : Prop :=
  (4 ∣ (k0_mult60 v462).toNat) ∧
  (∀ a, (k0_off104 v462) a + S4x128.size a ≤ S98304x128.size a)
theorem k0_mult60_dvd : ∀ (v462 : BitVec 32) (k0_hw38 : k0_chk38 v462), 4 ∣ (k0_mult60 v462).toNat := fun v462 k0_hw38 => k0_hw38.1
theorem k0_off104_inb : ∀ (v462 : BitVec 32) (k0_hw38 : k0_chk38 v462), ∀ a, (k0_off104 v462) a + S4x128.size a ≤ S98304x128.size a := fun v462 k0_hw38 => k0_hw38.2

def k0_off105 (k0_t3 : Fin k0_t3_loop.trips) : Fin 3 → Nat :=
  let c0_306 : Index := 0#32
  let c0_307 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_302 : BitVec 32 := 128#32
  let v469 : BitVec 32 := Scalar.muli v12 c128_i32_302
  let c32_i32_303 : BitVec 32 := 32#32
  let v470 : BitVec 32 := Scalar.addi v469 c32_i32_303
  let c4_i32_304 : BitVec 32 := 4#32
  let v471 : BitVec 32 := Scalar.addi v470 c4_i32_304
  let c2_i32_305 : BitVec 32 := 2#32
  let v472 : BitVec 32 := Scalar.addi v471 c2_i32_305
  let v473 : Index := Scalar.indexCast v472
  ![0, 0, v473.toNat]
def k0_mult61 (v474 : BitVec 32) : BitVec 32 :=
  v474

def k0_off106 (v474 : BitVec 32) : Fin 2 → Nat :=
  let v475 : BitVec 32 := v474
  let v476 : Index := Scalar.indexCast v475
  let c0_308 : Index := 0#32
  ![v476.toNat, 0]

def k0_chk39 (v474 : BitVec 32) : Prop :=
  (4 ∣ (k0_mult61 v474).toNat) ∧
  (∀ a, (k0_off106 v474) a + S4x128.size a ≤ S98304x128.size a)
theorem k0_mult61_dvd : ∀ (v474 : BitVec 32) (k0_hw39 : k0_chk39 v474), 4 ∣ (k0_mult61 v474).toNat := fun v474 k0_hw39 => k0_hw39.1
theorem k0_off106_inb : ∀ (v474 : BitVec 32) (k0_hw39 : k0_chk39 v474), ∀ a, (k0_off106 v474) a + S4x128.size a ≤ S98304x128.size a := fun v474 k0_hw39 => k0_hw39.2

def k0_off107 (k0_t3 : Fin k0_t3_loop.trips) : Fin 3 → Nat :=
  let c0_314 : Index := 0#32
  let c0_315 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_310 : BitVec 32 := 128#32
  let v481 : BitVec 32 := Scalar.muli v12 c128_i32_310
  let c32_i32_311 : BitVec 32 := 32#32
  let v482 : BitVec 32 := Scalar.addi v481 c32_i32_311
  let c4_i32_312 : BitVec 32 := 4#32
  let v483 : BitVec 32 := Scalar.addi v482 c4_i32_312
  let c3_i32_313 : BitVec 32 := 3#32
  let v484 : BitVec 32 := Scalar.addi v483 c3_i32_313
  let v485 : Index := Scalar.indexCast v484
  ![0, 0, v485.toNat]
def k0_mult62 (v486 : BitVec 32) : BitVec 32 :=
  v486

def k0_off108 (v486 : BitVec 32) : Fin 2 → Nat :=
  let v487 : BitVec 32 := v486
  let v488 : Index := Scalar.indexCast v487
  let c0_316 : Index := 0#32
  ![v488.toNat, 0]

def k0_chk40 (v486 : BitVec 32) : Prop :=
  (4 ∣ (k0_mult62 v486).toNat) ∧
  (∀ a, (k0_off108 v486) a + S4x128.size a ≤ S98304x128.size a)
theorem k0_mult62_dvd : ∀ (v486 : BitVec 32) (k0_hw40 : k0_chk40 v486), 4 ∣ (k0_mult62 v486).toNat := fun v486 k0_hw40 => k0_hw40.1
theorem k0_off108_inb : ∀ (v486 : BitVec 32) (k0_hw40 : k0_chk40 v486), ∀ a, (k0_off108 v486) a + S4x128.size a ≤ S98304x128.size a := fun v486 k0_hw40 => k0_hw40.2

def k0_off109 (k0_t3 : Fin k0_t3_loop.trips) : Fin 3 → Nat :=
  let c0_322 : Index := 0#32
  let c0_323 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_318 : BitVec 32 := 128#32
  let v493 : BitVec 32 := Scalar.muli v12 c128_i32_318
  let c32_i32_319 : BitVec 32 := 32#32
  let v494 : BitVec 32 := Scalar.addi v493 c32_i32_319
  let c8_i32_320 : BitVec 32 := 8#32
  let v495 : BitVec 32 := Scalar.addi v494 c8_i32_320
  let c0_i32_321 : BitVec 32 := 0#32
  let v496 : BitVec 32 := Scalar.addi v495 c0_i32_321
  let v497 : Index := Scalar.indexCast v496
  ![0, 0, v497.toNat]
def k0_mult63 (v498 : BitVec 32) : BitVec 32 :=
  v498

def k0_off110 (v498 : BitVec 32) : Fin 2 → Nat :=
  let v499 : BitVec 32 := v498
  let v500 : Index := Scalar.indexCast v499
  let c0_324 : Index := 0#32
  ![v500.toNat, 0]

def k0_chk41 (v498 : BitVec 32) : Prop :=
  (4 ∣ (k0_mult63 v498).toNat) ∧
  (∀ a, (k0_off110 v498) a + S4x128.size a ≤ S98304x128.size a)
theorem k0_mult63_dvd : ∀ (v498 : BitVec 32) (k0_hw41 : k0_chk41 v498), 4 ∣ (k0_mult63 v498).toNat := fun v498 k0_hw41 => k0_hw41.1
theorem k0_off110_inb : ∀ (v498 : BitVec 32) (k0_hw41 : k0_chk41 v498), ∀ a, (k0_off110 v498) a + S4x128.size a ≤ S98304x128.size a := fun v498 k0_hw41 => k0_hw41.2

def k0_off111 (k0_t3 : Fin k0_t3_loop.trips) : Fin 3 → Nat :=
  let c0_330 : Index := 0#32
  let c0_331 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_326 : BitVec 32 := 128#32
  let v505 : BitVec 32 := Scalar.muli v12 c128_i32_326
  let c32_i32_327 : BitVec 32 := 32#32
  let v506 : BitVec 32 := Scalar.addi v505 c32_i32_327
  let c8_i32_328 : BitVec 32 := 8#32
  let v507 : BitVec 32 := Scalar.addi v506 c8_i32_328
  let c1_i32_329 : BitVec 32 := 1#32
  let v508 : BitVec 32 := Scalar.addi v507 c1_i32_329
  let v509 : Index := Scalar.indexCast v508
  ![0, 0, v509.toNat]
def k0_mult64 (v510 : BitVec 32) : BitVec 32 :=
  v510

def k0_off112 (v510 : BitVec 32) : Fin 2 → Nat :=
  let v511 : BitVec 32 := v510
  let v512 : Index := Scalar.indexCast v511
  let c0_332 : Index := 0#32
  ![v512.toNat, 0]

def k0_chk42 (v510 : BitVec 32) : Prop :=
  (4 ∣ (k0_mult64 v510).toNat) ∧
  (∀ a, (k0_off112 v510) a + S4x128.size a ≤ S98304x128.size a)
theorem k0_mult64_dvd : ∀ (v510 : BitVec 32) (k0_hw42 : k0_chk42 v510), 4 ∣ (k0_mult64 v510).toNat := fun v510 k0_hw42 => k0_hw42.1
theorem k0_off112_inb : ∀ (v510 : BitVec 32) (k0_hw42 : k0_chk42 v510), ∀ a, (k0_off112 v510) a + S4x128.size a ≤ S98304x128.size a := fun v510 k0_hw42 => k0_hw42.2

def k0_off113 (k0_t3 : Fin k0_t3_loop.trips) : Fin 3 → Nat :=
  let c0_338 : Index := 0#32
  let c0_339 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_334 : BitVec 32 := 128#32
  let v517 : BitVec 32 := Scalar.muli v12 c128_i32_334
  let c32_i32_335 : BitVec 32 := 32#32
  let v518 : BitVec 32 := Scalar.addi v517 c32_i32_335
  let c8_i32_336 : BitVec 32 := 8#32
  let v519 : BitVec 32 := Scalar.addi v518 c8_i32_336
  let c2_i32_337 : BitVec 32 := 2#32
  let v520 : BitVec 32 := Scalar.addi v519 c2_i32_337
  let v521 : Index := Scalar.indexCast v520
  ![0, 0, v521.toNat]
def k0_mult65 (v522 : BitVec 32) : BitVec 32 :=
  v522

def k0_off114 (v522 : BitVec 32) : Fin 2 → Nat :=
  let v523 : BitVec 32 := v522
  let v524 : Index := Scalar.indexCast v523
  let c0_340 : Index := 0#32
  ![v524.toNat, 0]

def k0_chk43 (v522 : BitVec 32) : Prop :=
  (4 ∣ (k0_mult65 v522).toNat) ∧
  (∀ a, (k0_off114 v522) a + S4x128.size a ≤ S98304x128.size a)
theorem k0_mult65_dvd : ∀ (v522 : BitVec 32) (k0_hw43 : k0_chk43 v522), 4 ∣ (k0_mult65 v522).toNat := fun v522 k0_hw43 => k0_hw43.1
theorem k0_off114_inb : ∀ (v522 : BitVec 32) (k0_hw43 : k0_chk43 v522), ∀ a, (k0_off114 v522) a + S4x128.size a ≤ S98304x128.size a := fun v522 k0_hw43 => k0_hw43.2

def k0_off115 (k0_t3 : Fin k0_t3_loop.trips) : Fin 3 → Nat :=
  let c0_346 : Index := 0#32
  let c0_347 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_342 : BitVec 32 := 128#32
  let v529 : BitVec 32 := Scalar.muli v12 c128_i32_342
  let c32_i32_343 : BitVec 32 := 32#32
  let v530 : BitVec 32 := Scalar.addi v529 c32_i32_343
  let c8_i32_344 : BitVec 32 := 8#32
  let v531 : BitVec 32 := Scalar.addi v530 c8_i32_344
  let c3_i32_345 : BitVec 32 := 3#32
  let v532 : BitVec 32 := Scalar.addi v531 c3_i32_345
  let v533 : Index := Scalar.indexCast v532
  ![0, 0, v533.toNat]
def k0_mult66 (v534 : BitVec 32) : BitVec 32 :=
  v534

def k0_off116 (v534 : BitVec 32) : Fin 2 → Nat :=
  let v535 : BitVec 32 := v534
  let v536 : Index := Scalar.indexCast v535
  let c0_348 : Index := 0#32
  ![v536.toNat, 0]

def k0_chk44 (v534 : BitVec 32) : Prop :=
  (4 ∣ (k0_mult66 v534).toNat) ∧
  (∀ a, (k0_off116 v534) a + S4x128.size a ≤ S98304x128.size a)
theorem k0_mult66_dvd : ∀ (v534 : BitVec 32) (k0_hw44 : k0_chk44 v534), 4 ∣ (k0_mult66 v534).toNat := fun v534 k0_hw44 => k0_hw44.1
theorem k0_off116_inb : ∀ (v534 : BitVec 32) (k0_hw44 : k0_chk44 v534), ∀ a, (k0_off116 v534) a + S4x128.size a ≤ S98304x128.size a := fun v534 k0_hw44 => k0_hw44.2

def k0_off117 (k0_t3 : Fin k0_t3_loop.trips) : Fin 3 → Nat :=
  let c0_354 : Index := 0#32
  let c0_355 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_350 : BitVec 32 := 128#32
  let v541 : BitVec 32 := Scalar.muli v12 c128_i32_350
  let c32_i32_351 : BitVec 32 := 32#32
  let v542 : BitVec 32 := Scalar.addi v541 c32_i32_351
  let c12_i32_352 : BitVec 32 := 12#32
  let v543 : BitVec 32 := Scalar.addi v542 c12_i32_352
  let c0_i32_353 : BitVec 32 := 0#32
  let v544 : BitVec 32 := Scalar.addi v543 c0_i32_353
  let v545 : Index := Scalar.indexCast v544
  ![0, 0, v545.toNat]
def k0_mult67 (v546 : BitVec 32) : BitVec 32 :=
  v546

def k0_off118 (v546 : BitVec 32) : Fin 2 → Nat :=
  let v547 : BitVec 32 := v546
  let v548 : Index := Scalar.indexCast v547
  let c0_356 : Index := 0#32
  ![v548.toNat, 0]

def k0_chk45 (v546 : BitVec 32) : Prop :=
  (4 ∣ (k0_mult67 v546).toNat) ∧
  (∀ a, (k0_off118 v546) a + S4x128.size a ≤ S98304x128.size a)
theorem k0_mult67_dvd : ∀ (v546 : BitVec 32) (k0_hw45 : k0_chk45 v546), 4 ∣ (k0_mult67 v546).toNat := fun v546 k0_hw45 => k0_hw45.1
theorem k0_off118_inb : ∀ (v546 : BitVec 32) (k0_hw45 : k0_chk45 v546), ∀ a, (k0_off118 v546) a + S4x128.size a ≤ S98304x128.size a := fun v546 k0_hw45 => k0_hw45.2

def k0_off119 (k0_t3 : Fin k0_t3_loop.trips) : Fin 3 → Nat :=
  let c0_362 : Index := 0#32
  let c0_363 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_358 : BitVec 32 := 128#32
  let v553 : BitVec 32 := Scalar.muli v12 c128_i32_358
  let c32_i32_359 : BitVec 32 := 32#32
  let v554 : BitVec 32 := Scalar.addi v553 c32_i32_359
  let c12_i32_360 : BitVec 32 := 12#32
  let v555 : BitVec 32 := Scalar.addi v554 c12_i32_360
  let c1_i32_361 : BitVec 32 := 1#32
  let v556 : BitVec 32 := Scalar.addi v555 c1_i32_361
  let v557 : Index := Scalar.indexCast v556
  ![0, 0, v557.toNat]
def k0_mult68 (v558 : BitVec 32) : BitVec 32 :=
  v558

def k0_off120 (v558 : BitVec 32) : Fin 2 → Nat :=
  let v559 : BitVec 32 := v558
  let v560 : Index := Scalar.indexCast v559
  let c0_364 : Index := 0#32
  ![v560.toNat, 0]

def k0_chk46 (v558 : BitVec 32) : Prop :=
  (4 ∣ (k0_mult68 v558).toNat) ∧
  (∀ a, (k0_off120 v558) a + S4x128.size a ≤ S98304x128.size a)
theorem k0_mult68_dvd : ∀ (v558 : BitVec 32) (k0_hw46 : k0_chk46 v558), 4 ∣ (k0_mult68 v558).toNat := fun v558 k0_hw46 => k0_hw46.1
theorem k0_off120_inb : ∀ (v558 : BitVec 32) (k0_hw46 : k0_chk46 v558), ∀ a, (k0_off120 v558) a + S4x128.size a ≤ S98304x128.size a := fun v558 k0_hw46 => k0_hw46.2

def k0_off121 (k0_t3 : Fin k0_t3_loop.trips) : Fin 3 → Nat :=
  let c0_370 : Index := 0#32
  let c0_371 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_366 : BitVec 32 := 128#32
  let v565 : BitVec 32 := Scalar.muli v12 c128_i32_366
  let c32_i32_367 : BitVec 32 := 32#32
  let v566 : BitVec 32 := Scalar.addi v565 c32_i32_367
  let c12_i32_368 : BitVec 32 := 12#32
  let v567 : BitVec 32 := Scalar.addi v566 c12_i32_368
  let c2_i32_369 : BitVec 32 := 2#32
  let v568 : BitVec 32 := Scalar.addi v567 c2_i32_369
  let v569 : Index := Scalar.indexCast v568
  ![0, 0, v569.toNat]
def k0_mult69 (v570 : BitVec 32) : BitVec 32 :=
  v570

def k0_off122 (v570 : BitVec 32) : Fin 2 → Nat :=
  let v571 : BitVec 32 := v570
  let v572 : Index := Scalar.indexCast v571
  let c0_372 : Index := 0#32
  ![v572.toNat, 0]

def k0_chk47 (v570 : BitVec 32) : Prop :=
  (4 ∣ (k0_mult69 v570).toNat) ∧
  (∀ a, (k0_off122 v570) a + S4x128.size a ≤ S98304x128.size a)
theorem k0_mult69_dvd : ∀ (v570 : BitVec 32) (k0_hw47 : k0_chk47 v570), 4 ∣ (k0_mult69 v570).toNat := fun v570 k0_hw47 => k0_hw47.1
theorem k0_off122_inb : ∀ (v570 : BitVec 32) (k0_hw47 : k0_chk47 v570), ∀ a, (k0_off122 v570) a + S4x128.size a ≤ S98304x128.size a := fun v570 k0_hw47 => k0_hw47.2

def k0_off123 (k0_t3 : Fin k0_t3_loop.trips) : Fin 3 → Nat :=
  let c0_378 : Index := 0#32
  let c0_379 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_374 : BitVec 32 := 128#32
  let v577 : BitVec 32 := Scalar.muli v12 c128_i32_374
  let c32_i32_375 : BitVec 32 := 32#32
  let v578 : BitVec 32 := Scalar.addi v577 c32_i32_375
  let c12_i32_376 : BitVec 32 := 12#32
  let v579 : BitVec 32 := Scalar.addi v578 c12_i32_376
  let c3_i32_377 : BitVec 32 := 3#32
  let v580 : BitVec 32 := Scalar.addi v579 c3_i32_377
  let v581 : Index := Scalar.indexCast v580
  ![0, 0, v581.toNat]
def k0_mult70 (v582 : BitVec 32) : BitVec 32 :=
  v582

def k0_off124 (v582 : BitVec 32) : Fin 2 → Nat :=
  let v583 : BitVec 32 := v582
  let v584 : Index := Scalar.indexCast v583
  let c0_380 : Index := 0#32
  ![v584.toNat, 0]

def k0_chk48 (v582 : BitVec 32) : Prop :=
  (4 ∣ (k0_mult70 v582).toNat) ∧
  (∀ a, (k0_off124 v582) a + S4x128.size a ≤ S98304x128.size a)
theorem k0_mult70_dvd : ∀ (v582 : BitVec 32) (k0_hw48 : k0_chk48 v582), 4 ∣ (k0_mult70 v582).toNat := fun v582 k0_hw48 => k0_hw48.1
theorem k0_off124_inb : ∀ (v582 : BitVec 32) (k0_hw48 : k0_chk48 v582), ∀ a, (k0_off124 v582) a + S4x128.size a ≤ S98304x128.size a := fun v582 k0_hw48 => k0_hw48.2

def k0_off125 (k0_t3 : Fin k0_t3_loop.trips) : Fin 3 → Nat :=
  let c0_386 : Index := 0#32
  let c0_387 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_382 : BitVec 32 := 128#32
  let v589 : BitVec 32 := Scalar.muli v12 c128_i32_382
  let c32_i32_383 : BitVec 32 := 32#32
  let v590 : BitVec 32 := Scalar.addi v589 c32_i32_383
  let c16_i32_384 : BitVec 32 := 16#32
  let v591 : BitVec 32 := Scalar.addi v590 c16_i32_384
  let c0_i32_385 : BitVec 32 := 0#32
  let v592 : BitVec 32 := Scalar.addi v591 c0_i32_385
  let v593 : Index := Scalar.indexCast v592
  ![0, 0, v593.toNat]
def k0_mult71 (v594 : BitVec 32) : BitVec 32 :=
  v594

def k0_off126 (v594 : BitVec 32) : Fin 2 → Nat :=
  let v595 : BitVec 32 := v594
  let v596 : Index := Scalar.indexCast v595
  let c0_388 : Index := 0#32
  ![v596.toNat, 0]

def k0_chk49 (v594 : BitVec 32) : Prop :=
  (4 ∣ (k0_mult71 v594).toNat) ∧
  (∀ a, (k0_off126 v594) a + S4x128.size a ≤ S98304x128.size a)
theorem k0_mult71_dvd : ∀ (v594 : BitVec 32) (k0_hw49 : k0_chk49 v594), 4 ∣ (k0_mult71 v594).toNat := fun v594 k0_hw49 => k0_hw49.1
theorem k0_off126_inb : ∀ (v594 : BitVec 32) (k0_hw49 : k0_chk49 v594), ∀ a, (k0_off126 v594) a + S4x128.size a ≤ S98304x128.size a := fun v594 k0_hw49 => k0_hw49.2

def k0_off127 (k0_t3 : Fin k0_t3_loop.trips) : Fin 3 → Nat :=
  let c0_394 : Index := 0#32
  let c0_395 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_390 : BitVec 32 := 128#32
  let v601 : BitVec 32 := Scalar.muli v12 c128_i32_390
  let c32_i32_391 : BitVec 32 := 32#32
  let v602 : BitVec 32 := Scalar.addi v601 c32_i32_391
  let c16_i32_392 : BitVec 32 := 16#32
  let v603 : BitVec 32 := Scalar.addi v602 c16_i32_392
  let c1_i32_393 : BitVec 32 := 1#32
  let v604 : BitVec 32 := Scalar.addi v603 c1_i32_393
  let v605 : Index := Scalar.indexCast v604
  ![0, 0, v605.toNat]
def k0_mult72 (v606 : BitVec 32) : BitVec 32 :=
  v606

def k0_off128 (v606 : BitVec 32) : Fin 2 → Nat :=
  let v607 : BitVec 32 := v606
  let v608 : Index := Scalar.indexCast v607
  let c0_396 : Index := 0#32
  ![v608.toNat, 0]

def k0_chk50 (v606 : BitVec 32) : Prop :=
  (4 ∣ (k0_mult72 v606).toNat) ∧
  (∀ a, (k0_off128 v606) a + S4x128.size a ≤ S98304x128.size a)
theorem k0_mult72_dvd : ∀ (v606 : BitVec 32) (k0_hw50 : k0_chk50 v606), 4 ∣ (k0_mult72 v606).toNat := fun v606 k0_hw50 => k0_hw50.1
theorem k0_off128_inb : ∀ (v606 : BitVec 32) (k0_hw50 : k0_chk50 v606), ∀ a, (k0_off128 v606) a + S4x128.size a ≤ S98304x128.size a := fun v606 k0_hw50 => k0_hw50.2

def k0_off129 (k0_t3 : Fin k0_t3_loop.trips) : Fin 3 → Nat :=
  let c0_402 : Index := 0#32
  let c0_403 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_398 : BitVec 32 := 128#32
  let v613 : BitVec 32 := Scalar.muli v12 c128_i32_398
  let c32_i32_399 : BitVec 32 := 32#32
  let v614 : BitVec 32 := Scalar.addi v613 c32_i32_399
  let c16_i32_400 : BitVec 32 := 16#32
  let v615 : BitVec 32 := Scalar.addi v614 c16_i32_400
  let c2_i32_401 : BitVec 32 := 2#32
  let v616 : BitVec 32 := Scalar.addi v615 c2_i32_401
  let v617 : Index := Scalar.indexCast v616
  ![0, 0, v617.toNat]
def k0_mult73 (v618 : BitVec 32) : BitVec 32 :=
  v618

def k0_off130 (v618 : BitVec 32) : Fin 2 → Nat :=
  let v619 : BitVec 32 := v618
  let v620 : Index := Scalar.indexCast v619
  let c0_404 : Index := 0#32
  ![v620.toNat, 0]

def k0_chk51 (v618 : BitVec 32) : Prop :=
  (4 ∣ (k0_mult73 v618).toNat) ∧
  (∀ a, (k0_off130 v618) a + S4x128.size a ≤ S98304x128.size a)
theorem k0_mult73_dvd : ∀ (v618 : BitVec 32) (k0_hw51 : k0_chk51 v618), 4 ∣ (k0_mult73 v618).toNat := fun v618 k0_hw51 => k0_hw51.1
theorem k0_off130_inb : ∀ (v618 : BitVec 32) (k0_hw51 : k0_chk51 v618), ∀ a, (k0_off130 v618) a + S4x128.size a ≤ S98304x128.size a := fun v618 k0_hw51 => k0_hw51.2

def k0_off131 (k0_t3 : Fin k0_t3_loop.trips) : Fin 3 → Nat :=
  let c0_410 : Index := 0#32
  let c0_411 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_406 : BitVec 32 := 128#32
  let v625 : BitVec 32 := Scalar.muli v12 c128_i32_406
  let c32_i32_407 : BitVec 32 := 32#32
  let v626 : BitVec 32 := Scalar.addi v625 c32_i32_407
  let c16_i32_408 : BitVec 32 := 16#32
  let v627 : BitVec 32 := Scalar.addi v626 c16_i32_408
  let c3_i32_409 : BitVec 32 := 3#32
  let v628 : BitVec 32 := Scalar.addi v627 c3_i32_409
  let v629 : Index := Scalar.indexCast v628
  ![0, 0, v629.toNat]
def k0_mult74 (v630 : BitVec 32) : BitVec 32 :=
  v630

def k0_off132 (v630 : BitVec 32) : Fin 2 → Nat :=
  let v631 : BitVec 32 := v630
  let v632 : Index := Scalar.indexCast v631
  let c0_412 : Index := 0#32
  ![v632.toNat, 0]

def k0_chk52 (v630 : BitVec 32) : Prop :=
  (4 ∣ (k0_mult74 v630).toNat) ∧
  (∀ a, (k0_off132 v630) a + S4x128.size a ≤ S98304x128.size a)
theorem k0_mult74_dvd : ∀ (v630 : BitVec 32) (k0_hw52 : k0_chk52 v630), 4 ∣ (k0_mult74 v630).toNat := fun v630 k0_hw52 => k0_hw52.1
theorem k0_off132_inb : ∀ (v630 : BitVec 32) (k0_hw52 : k0_chk52 v630), ∀ a, (k0_off132 v630) a + S4x128.size a ≤ S98304x128.size a := fun v630 k0_hw52 => k0_hw52.2

def k0_off133 (k0_t3 : Fin k0_t3_loop.trips) : Fin 3 → Nat :=
  let c0_418 : Index := 0#32
  let c0_419 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_414 : BitVec 32 := 128#32
  let v637 : BitVec 32 := Scalar.muli v12 c128_i32_414
  let c32_i32_415 : BitVec 32 := 32#32
  let v638 : BitVec 32 := Scalar.addi v637 c32_i32_415
  let c20_i32_416 : BitVec 32 := 20#32
  let v639 : BitVec 32 := Scalar.addi v638 c20_i32_416
  let c0_i32_417 : BitVec 32 := 0#32
  let v640 : BitVec 32 := Scalar.addi v639 c0_i32_417
  let v641 : Index := Scalar.indexCast v640
  ![0, 0, v641.toNat]
def k0_mult75 (v642 : BitVec 32) : BitVec 32 :=
  v642

def k0_off134 (v642 : BitVec 32) : Fin 2 → Nat :=
  let v643 : BitVec 32 := v642
  let v644 : Index := Scalar.indexCast v643
  let c0_420 : Index := 0#32
  ![v644.toNat, 0]

def k0_chk53 (v642 : BitVec 32) : Prop :=
  (4 ∣ (k0_mult75 v642).toNat) ∧
  (∀ a, (k0_off134 v642) a + S4x128.size a ≤ S98304x128.size a)
theorem k0_mult75_dvd : ∀ (v642 : BitVec 32) (k0_hw53 : k0_chk53 v642), 4 ∣ (k0_mult75 v642).toNat := fun v642 k0_hw53 => k0_hw53.1
theorem k0_off134_inb : ∀ (v642 : BitVec 32) (k0_hw53 : k0_chk53 v642), ∀ a, (k0_off134 v642) a + S4x128.size a ≤ S98304x128.size a := fun v642 k0_hw53 => k0_hw53.2

def k0_off135 (k0_t3 : Fin k0_t3_loop.trips) : Fin 3 → Nat :=
  let c0_426 : Index := 0#32
  let c0_427 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_422 : BitVec 32 := 128#32
  let v649 : BitVec 32 := Scalar.muli v12 c128_i32_422
  let c32_i32_423 : BitVec 32 := 32#32
  let v650 : BitVec 32 := Scalar.addi v649 c32_i32_423
  let c20_i32_424 : BitVec 32 := 20#32
  let v651 : BitVec 32 := Scalar.addi v650 c20_i32_424
  let c1_i32_425 : BitVec 32 := 1#32
  let v652 : BitVec 32 := Scalar.addi v651 c1_i32_425
  let v653 : Index := Scalar.indexCast v652
  ![0, 0, v653.toNat]
def k0_mult76 (v654 : BitVec 32) : BitVec 32 :=
  v654

def k0_off136 (v654 : BitVec 32) : Fin 2 → Nat :=
  let v655 : BitVec 32 := v654
  let v656 : Index := Scalar.indexCast v655
  let c0_428 : Index := 0#32
  ![v656.toNat, 0]

def k0_chk54 (v654 : BitVec 32) : Prop :=
  (4 ∣ (k0_mult76 v654).toNat) ∧
  (∀ a, (k0_off136 v654) a + S4x128.size a ≤ S98304x128.size a)
theorem k0_mult76_dvd : ∀ (v654 : BitVec 32) (k0_hw54 : k0_chk54 v654), 4 ∣ (k0_mult76 v654).toNat := fun v654 k0_hw54 => k0_hw54.1
theorem k0_off136_inb : ∀ (v654 : BitVec 32) (k0_hw54 : k0_chk54 v654), ∀ a, (k0_off136 v654) a + S4x128.size a ≤ S98304x128.size a := fun v654 k0_hw54 => k0_hw54.2

def k0_off137 (k0_t3 : Fin k0_t3_loop.trips) : Fin 3 → Nat :=
  let c0_434 : Index := 0#32
  let c0_435 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_430 : BitVec 32 := 128#32
  let v661 : BitVec 32 := Scalar.muli v12 c128_i32_430
  let c32_i32_431 : BitVec 32 := 32#32
  let v662 : BitVec 32 := Scalar.addi v661 c32_i32_431
  let c20_i32_432 : BitVec 32 := 20#32
  let v663 : BitVec 32 := Scalar.addi v662 c20_i32_432
  let c2_i32_433 : BitVec 32 := 2#32
  let v664 : BitVec 32 := Scalar.addi v663 c2_i32_433
  let v665 : Index := Scalar.indexCast v664
  ![0, 0, v665.toNat]
def k0_mult77 (v666 : BitVec 32) : BitVec 32 :=
  v666

def k0_off138 (v666 : BitVec 32) : Fin 2 → Nat :=
  let v667 : BitVec 32 := v666
  let v668 : Index := Scalar.indexCast v667
  let c0_436 : Index := 0#32
  ![v668.toNat, 0]

def k0_chk55 (v666 : BitVec 32) : Prop :=
  (4 ∣ (k0_mult77 v666).toNat) ∧
  (∀ a, (k0_off138 v666) a + S4x128.size a ≤ S98304x128.size a)
theorem k0_mult77_dvd : ∀ (v666 : BitVec 32) (k0_hw55 : k0_chk55 v666), 4 ∣ (k0_mult77 v666).toNat := fun v666 k0_hw55 => k0_hw55.1
theorem k0_off138_inb : ∀ (v666 : BitVec 32) (k0_hw55 : k0_chk55 v666), ∀ a, (k0_off138 v666) a + S4x128.size a ≤ S98304x128.size a := fun v666 k0_hw55 => k0_hw55.2

def k0_off139 (k0_t3 : Fin k0_t3_loop.trips) : Fin 3 → Nat :=
  let c0_442 : Index := 0#32
  let c0_443 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_438 : BitVec 32 := 128#32
  let v673 : BitVec 32 := Scalar.muli v12 c128_i32_438
  let c32_i32_439 : BitVec 32 := 32#32
  let v674 : BitVec 32 := Scalar.addi v673 c32_i32_439
  let c20_i32_440 : BitVec 32 := 20#32
  let v675 : BitVec 32 := Scalar.addi v674 c20_i32_440
  let c3_i32_441 : BitVec 32 := 3#32
  let v676 : BitVec 32 := Scalar.addi v675 c3_i32_441
  let v677 : Index := Scalar.indexCast v676
  ![0, 0, v677.toNat]
def k0_mult78 (v678 : BitVec 32) : BitVec 32 :=
  v678

def k0_off140 (v678 : BitVec 32) : Fin 2 → Nat :=
  let v679 : BitVec 32 := v678
  let v680 : Index := Scalar.indexCast v679
  let c0_444 : Index := 0#32
  ![v680.toNat, 0]

def k0_chk56 (v678 : BitVec 32) : Prop :=
  (4 ∣ (k0_mult78 v678).toNat) ∧
  (∀ a, (k0_off140 v678) a + S4x128.size a ≤ S98304x128.size a)
theorem k0_mult78_dvd : ∀ (v678 : BitVec 32) (k0_hw56 : k0_chk56 v678), 4 ∣ (k0_mult78 v678).toNat := fun v678 k0_hw56 => k0_hw56.1
theorem k0_off140_inb : ∀ (v678 : BitVec 32) (k0_hw56 : k0_chk56 v678), ∀ a, (k0_off140 v678) a + S4x128.size a ≤ S98304x128.size a := fun v678 k0_hw56 => k0_hw56.2

def k0_off141 (k0_t3 : Fin k0_t3_loop.trips) : Fin 3 → Nat :=
  let c0_450 : Index := 0#32
  let c0_451 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_446 : BitVec 32 := 128#32
  let v685 : BitVec 32 := Scalar.muli v12 c128_i32_446
  let c32_i32_447 : BitVec 32 := 32#32
  let v686 : BitVec 32 := Scalar.addi v685 c32_i32_447
  let c24_i32_448 : BitVec 32 := 24#32
  let v687 : BitVec 32 := Scalar.addi v686 c24_i32_448
  let c0_i32_449 : BitVec 32 := 0#32
  let v688 : BitVec 32 := Scalar.addi v687 c0_i32_449
  let v689 : Index := Scalar.indexCast v688
  ![0, 0, v689.toNat]
def k0_mult79 (v690 : BitVec 32) : BitVec 32 :=
  v690

def k0_off142 (v690 : BitVec 32) : Fin 2 → Nat :=
  let v691 : BitVec 32 := v690
  let v692 : Index := Scalar.indexCast v691
  let c0_452 : Index := 0#32
  ![v692.toNat, 0]

def k0_chk57 (v690 : BitVec 32) : Prop :=
  (4 ∣ (k0_mult79 v690).toNat) ∧
  (∀ a, (k0_off142 v690) a + S4x128.size a ≤ S98304x128.size a)
theorem k0_mult79_dvd : ∀ (v690 : BitVec 32) (k0_hw57 : k0_chk57 v690), 4 ∣ (k0_mult79 v690).toNat := fun v690 k0_hw57 => k0_hw57.1
theorem k0_off142_inb : ∀ (v690 : BitVec 32) (k0_hw57 : k0_chk57 v690), ∀ a, (k0_off142 v690) a + S4x128.size a ≤ S98304x128.size a := fun v690 k0_hw57 => k0_hw57.2

def k0_off143 (k0_t3 : Fin k0_t3_loop.trips) : Fin 3 → Nat :=
  let c0_458 : Index := 0#32
  let c0_459 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_454 : BitVec 32 := 128#32
  let v697 : BitVec 32 := Scalar.muli v12 c128_i32_454
  let c32_i32_455 : BitVec 32 := 32#32
  let v698 : BitVec 32 := Scalar.addi v697 c32_i32_455
  let c24_i32_456 : BitVec 32 := 24#32
  let v699 : BitVec 32 := Scalar.addi v698 c24_i32_456
  let c1_i32_457 : BitVec 32 := 1#32
  let v700 : BitVec 32 := Scalar.addi v699 c1_i32_457
  let v701 : Index := Scalar.indexCast v700
  ![0, 0, v701.toNat]
def k0_mult80 (v702 : BitVec 32) : BitVec 32 :=
  v702

def k0_off144 (v702 : BitVec 32) : Fin 2 → Nat :=
  let v703 : BitVec 32 := v702
  let v704 : Index := Scalar.indexCast v703
  let c0_460 : Index := 0#32
  ![v704.toNat, 0]

def k0_chk58 (v702 : BitVec 32) : Prop :=
  (4 ∣ (k0_mult80 v702).toNat) ∧
  (∀ a, (k0_off144 v702) a + S4x128.size a ≤ S98304x128.size a)
theorem k0_mult80_dvd : ∀ (v702 : BitVec 32) (k0_hw58 : k0_chk58 v702), 4 ∣ (k0_mult80 v702).toNat := fun v702 k0_hw58 => k0_hw58.1
theorem k0_off144_inb : ∀ (v702 : BitVec 32) (k0_hw58 : k0_chk58 v702), ∀ a, (k0_off144 v702) a + S4x128.size a ≤ S98304x128.size a := fun v702 k0_hw58 => k0_hw58.2

def k0_off145 (k0_t3 : Fin k0_t3_loop.trips) : Fin 3 → Nat :=
  let c0_466 : Index := 0#32
  let c0_467 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_462 : BitVec 32 := 128#32
  let v709 : BitVec 32 := Scalar.muli v12 c128_i32_462
  let c32_i32_463 : BitVec 32 := 32#32
  let v710 : BitVec 32 := Scalar.addi v709 c32_i32_463
  let c24_i32_464 : BitVec 32 := 24#32
  let v711 : BitVec 32 := Scalar.addi v710 c24_i32_464
  let c2_i32_465 : BitVec 32 := 2#32
  let v712 : BitVec 32 := Scalar.addi v711 c2_i32_465
  let v713 : Index := Scalar.indexCast v712
  ![0, 0, v713.toNat]
def k0_mult81 (v714 : BitVec 32) : BitVec 32 :=
  v714

def k0_off146 (v714 : BitVec 32) : Fin 2 → Nat :=
  let v715 : BitVec 32 := v714
  let v716 : Index := Scalar.indexCast v715
  let c0_468 : Index := 0#32
  ![v716.toNat, 0]

def k0_chk59 (v714 : BitVec 32) : Prop :=
  (4 ∣ (k0_mult81 v714).toNat) ∧
  (∀ a, (k0_off146 v714) a + S4x128.size a ≤ S98304x128.size a)
theorem k0_mult81_dvd : ∀ (v714 : BitVec 32) (k0_hw59 : k0_chk59 v714), 4 ∣ (k0_mult81 v714).toNat := fun v714 k0_hw59 => k0_hw59.1
theorem k0_off146_inb : ∀ (v714 : BitVec 32) (k0_hw59 : k0_chk59 v714), ∀ a, (k0_off146 v714) a + S4x128.size a ≤ S98304x128.size a := fun v714 k0_hw59 => k0_hw59.2

def k0_off147 (k0_t3 : Fin k0_t3_loop.trips) : Fin 3 → Nat :=
  let c0_474 : Index := 0#32
  let c0_475 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_470 : BitVec 32 := 128#32
  let v721 : BitVec 32 := Scalar.muli v12 c128_i32_470
  let c32_i32_471 : BitVec 32 := 32#32
  let v722 : BitVec 32 := Scalar.addi v721 c32_i32_471
  let c24_i32_472 : BitVec 32 := 24#32
  let v723 : BitVec 32 := Scalar.addi v722 c24_i32_472
  let c3_i32_473 : BitVec 32 := 3#32
  let v724 : BitVec 32 := Scalar.addi v723 c3_i32_473
  let v725 : Index := Scalar.indexCast v724
  ![0, 0, v725.toNat]
def k0_mult82 (v726 : BitVec 32) : BitVec 32 :=
  v726

def k0_off148 (v726 : BitVec 32) : Fin 2 → Nat :=
  let v727 : BitVec 32 := v726
  let v728 : Index := Scalar.indexCast v727
  let c0_476 : Index := 0#32
  ![v728.toNat, 0]

def k0_chk60 (v726 : BitVec 32) : Prop :=
  (4 ∣ (k0_mult82 v726).toNat) ∧
  (∀ a, (k0_off148 v726) a + S4x128.size a ≤ S98304x128.size a)
theorem k0_mult82_dvd : ∀ (v726 : BitVec 32) (k0_hw60 : k0_chk60 v726), 4 ∣ (k0_mult82 v726).toNat := fun v726 k0_hw60 => k0_hw60.1
theorem k0_off148_inb : ∀ (v726 : BitVec 32) (k0_hw60 : k0_chk60 v726), ∀ a, (k0_off148 v726) a + S4x128.size a ≤ S98304x128.size a := fun v726 k0_hw60 => k0_hw60.2

def k0_off149 (k0_t3 : Fin k0_t3_loop.trips) : Fin 3 → Nat :=
  let c0_482 : Index := 0#32
  let c0_483 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_478 : BitVec 32 := 128#32
  let v733 : BitVec 32 := Scalar.muli v12 c128_i32_478
  let c32_i32_479 : BitVec 32 := 32#32
  let v734 : BitVec 32 := Scalar.addi v733 c32_i32_479
  let c28_i32_480 : BitVec 32 := 28#32
  let v735 : BitVec 32 := Scalar.addi v734 c28_i32_480
  let c0_i32_481 : BitVec 32 := 0#32
  let v736 : BitVec 32 := Scalar.addi v735 c0_i32_481
  let v737 : Index := Scalar.indexCast v736
  ![0, 0, v737.toNat]
def k0_mult83 (v738 : BitVec 32) : BitVec 32 :=
  v738

def k0_off150 (v738 : BitVec 32) : Fin 2 → Nat :=
  let v739 : BitVec 32 := v738
  let v740 : Index := Scalar.indexCast v739
  let c0_484 : Index := 0#32
  ![v740.toNat, 0]

def k0_chk61 (v738 : BitVec 32) : Prop :=
  (4 ∣ (k0_mult83 v738).toNat) ∧
  (∀ a, (k0_off150 v738) a + S4x128.size a ≤ S98304x128.size a)
theorem k0_mult83_dvd : ∀ (v738 : BitVec 32) (k0_hw61 : k0_chk61 v738), 4 ∣ (k0_mult83 v738).toNat := fun v738 k0_hw61 => k0_hw61.1
theorem k0_off150_inb : ∀ (v738 : BitVec 32) (k0_hw61 : k0_chk61 v738), ∀ a, (k0_off150 v738) a + S4x128.size a ≤ S98304x128.size a := fun v738 k0_hw61 => k0_hw61.2

def k0_off151 (k0_t3 : Fin k0_t3_loop.trips) : Fin 3 → Nat :=
  let c0_490 : Index := 0#32
  let c0_491 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_486 : BitVec 32 := 128#32
  let v745 : BitVec 32 := Scalar.muli v12 c128_i32_486
  let c32_i32_487 : BitVec 32 := 32#32
  let v746 : BitVec 32 := Scalar.addi v745 c32_i32_487
  let c28_i32_488 : BitVec 32 := 28#32
  let v747 : BitVec 32 := Scalar.addi v746 c28_i32_488
  let c1_i32_489 : BitVec 32 := 1#32
  let v748 : BitVec 32 := Scalar.addi v747 c1_i32_489
  let v749 : Index := Scalar.indexCast v748
  ![0, 0, v749.toNat]
def k0_mult84 (v750 : BitVec 32) : BitVec 32 :=
  v750

def k0_off152 (v750 : BitVec 32) : Fin 2 → Nat :=
  let v751 : BitVec 32 := v750
  let v752 : Index := Scalar.indexCast v751
  let c0_492 : Index := 0#32
  ![v752.toNat, 0]

def k0_chk62 (v750 : BitVec 32) : Prop :=
  (4 ∣ (k0_mult84 v750).toNat) ∧
  (∀ a, (k0_off152 v750) a + S4x128.size a ≤ S98304x128.size a)
theorem k0_mult84_dvd : ∀ (v750 : BitVec 32) (k0_hw62 : k0_chk62 v750), 4 ∣ (k0_mult84 v750).toNat := fun v750 k0_hw62 => k0_hw62.1
theorem k0_off152_inb : ∀ (v750 : BitVec 32) (k0_hw62 : k0_chk62 v750), ∀ a, (k0_off152 v750) a + S4x128.size a ≤ S98304x128.size a := fun v750 k0_hw62 => k0_hw62.2

def k0_off153 (k0_t3 : Fin k0_t3_loop.trips) : Fin 3 → Nat :=
  let c0_498 : Index := 0#32
  let c0_499 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_494 : BitVec 32 := 128#32
  let v757 : BitVec 32 := Scalar.muli v12 c128_i32_494
  let c32_i32_495 : BitVec 32 := 32#32
  let v758 : BitVec 32 := Scalar.addi v757 c32_i32_495
  let c28_i32_496 : BitVec 32 := 28#32
  let v759 : BitVec 32 := Scalar.addi v758 c28_i32_496
  let c2_i32_497 : BitVec 32 := 2#32
  let v760 : BitVec 32 := Scalar.addi v759 c2_i32_497
  let v761 : Index := Scalar.indexCast v760
  ![0, 0, v761.toNat]
def k0_mult85 (v762 : BitVec 32) : BitVec 32 :=
  v762

def k0_off154 (v762 : BitVec 32) : Fin 2 → Nat :=
  let v763 : BitVec 32 := v762
  let v764 : Index := Scalar.indexCast v763
  let c0_500 : Index := 0#32
  ![v764.toNat, 0]

def k0_chk63 (v762 : BitVec 32) : Prop :=
  (4 ∣ (k0_mult85 v762).toNat) ∧
  (∀ a, (k0_off154 v762) a + S4x128.size a ≤ S98304x128.size a)
theorem k0_mult85_dvd : ∀ (v762 : BitVec 32) (k0_hw63 : k0_chk63 v762), 4 ∣ (k0_mult85 v762).toNat := fun v762 k0_hw63 => k0_hw63.1
theorem k0_off154_inb : ∀ (v762 : BitVec 32) (k0_hw63 : k0_chk63 v762), ∀ a, (k0_off154 v762) a + S4x128.size a ≤ S98304x128.size a := fun v762 k0_hw63 => k0_hw63.2

def k0_off155 (k0_t3 : Fin k0_t3_loop.trips) : Fin 3 → Nat :=
  let c0_506 : Index := 0#32
  let c0_507 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_502 : BitVec 32 := 128#32
  let v769 : BitVec 32 := Scalar.muli v12 c128_i32_502
  let c32_i32_503 : BitVec 32 := 32#32
  let v770 : BitVec 32 := Scalar.addi v769 c32_i32_503
  let c28_i32_504 : BitVec 32 := 28#32
  let v771 : BitVec 32 := Scalar.addi v770 c28_i32_504
  let c3_i32_505 : BitVec 32 := 3#32
  let v772 : BitVec 32 := Scalar.addi v771 c3_i32_505
  let v773 : Index := Scalar.indexCast v772
  ![0, 0, v773.toNat]
def k0_mult86 (v774 : BitVec 32) : BitVec 32 :=
  v774

def k0_off156 (v774 : BitVec 32) : Fin 2 → Nat :=
  let v775 : BitVec 32 := v774
  let v776 : Index := Scalar.indexCast v775
  let c0_508 : Index := 0#32
  ![v776.toNat, 0]

def k0_chk64 (v774 : BitVec 32) : Prop :=
  (4 ∣ (k0_mult86 v774).toNat) ∧
  (∀ a, (k0_off156 v774) a + S4x128.size a ≤ S98304x128.size a)
theorem k0_mult86_dvd : ∀ (v774 : BitVec 32) (k0_hw64 : k0_chk64 v774), 4 ∣ (k0_mult86 v774).toNat := fun v774 k0_hw64 => k0_hw64.1
theorem k0_off156_inb : ∀ (v774 : BitVec 32) (k0_hw64 : k0_chk64 v774), ∀ a, (k0_off156 v774) a + S4x128.size a ≤ S98304x128.size a := fun v774 k0_hw64 => k0_hw64.2

def k0_off157 (k0_t3 : Fin k0_t3_loop.trips) : Fin 3 → Nat :=
  let c0_513 : Index := 0#32
  let c0_514 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_510 : BitVec 32 := 128#32
  let v781 : BitVec 32 := Scalar.muli v12 c128_i32_510
  let c64_i32 : BitVec 32 := 64#32
  let v782 : BitVec 32 := Scalar.addi v781 c64_i32
  let c0_i32_511 : BitVec 32 := 0#32
  let v783 : BitVec 32 := Scalar.addi v782 c0_i32_511
  let c0_i32_512 : BitVec 32 := 0#32
  let v784 : BitVec 32 := Scalar.addi v783 c0_i32_512
  let v785 : Index := Scalar.indexCast v784
  ![0, 0, v785.toNat]
def k0_mult87 (v786 : BitVec 32) : BitVec 32 :=
  v786

def k0_off158 (v786 : BitVec 32) : Fin 2 → Nat :=
  let v787 : BitVec 32 := v786
  let v788 : Index := Scalar.indexCast v787
  let c0_515 : Index := 0#32
  ![v788.toNat, 0]

def k0_chk65 (v786 : BitVec 32) : Prop :=
  (4 ∣ (k0_mult87 v786).toNat) ∧
  (∀ a, (k0_off158 v786) a + S4x128.size a ≤ S98304x128.size a)
theorem k0_mult87_dvd : ∀ (v786 : BitVec 32) (k0_hw65 : k0_chk65 v786), 4 ∣ (k0_mult87 v786).toNat := fun v786 k0_hw65 => k0_hw65.1
theorem k0_off158_inb : ∀ (v786 : BitVec 32) (k0_hw65 : k0_chk65 v786), ∀ a, (k0_off158 v786) a + S4x128.size a ≤ S98304x128.size a := fun v786 k0_hw65 => k0_hw65.2

def k0_off159 (k0_t3 : Fin k0_t3_loop.trips) : Fin 3 → Nat :=
  let c0_521 : Index := 0#32
  let c0_522 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_517 : BitVec 32 := 128#32
  let v793 : BitVec 32 := Scalar.muli v12 c128_i32_517
  let c64_i32_518 : BitVec 32 := 64#32
  let v794 : BitVec 32 := Scalar.addi v793 c64_i32_518
  let c0_i32_519 : BitVec 32 := 0#32
  let v795 : BitVec 32 := Scalar.addi v794 c0_i32_519
  let c1_i32_520 : BitVec 32 := 1#32
  let v796 : BitVec 32 := Scalar.addi v795 c1_i32_520
  let v797 : Index := Scalar.indexCast v796
  ![0, 0, v797.toNat]
def k0_mult88 (v798 : BitVec 32) : BitVec 32 :=
  v798

def k0_off160 (v798 : BitVec 32) : Fin 2 → Nat :=
  let v799 : BitVec 32 := v798
  let v800 : Index := Scalar.indexCast v799
  let c0_523 : Index := 0#32
  ![v800.toNat, 0]

def k0_chk66 (v798 : BitVec 32) : Prop :=
  (4 ∣ (k0_mult88 v798).toNat) ∧
  (∀ a, (k0_off160 v798) a + S4x128.size a ≤ S98304x128.size a)
theorem k0_mult88_dvd : ∀ (v798 : BitVec 32) (k0_hw66 : k0_chk66 v798), 4 ∣ (k0_mult88 v798).toNat := fun v798 k0_hw66 => k0_hw66.1
theorem k0_off160_inb : ∀ (v798 : BitVec 32) (k0_hw66 : k0_chk66 v798), ∀ a, (k0_off160 v798) a + S4x128.size a ≤ S98304x128.size a := fun v798 k0_hw66 => k0_hw66.2

def k0_off161 (k0_t3 : Fin k0_t3_loop.trips) : Fin 3 → Nat :=
  let c0_529 : Index := 0#32
  let c0_530 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_525 : BitVec 32 := 128#32
  let v805 : BitVec 32 := Scalar.muli v12 c128_i32_525
  let c64_i32_526 : BitVec 32 := 64#32
  let v806 : BitVec 32 := Scalar.addi v805 c64_i32_526
  let c0_i32_527 : BitVec 32 := 0#32
  let v807 : BitVec 32 := Scalar.addi v806 c0_i32_527
  let c2_i32_528 : BitVec 32 := 2#32
  let v808 : BitVec 32 := Scalar.addi v807 c2_i32_528
  let v809 : Index := Scalar.indexCast v808
  ![0, 0, v809.toNat]
def k0_mult89 (v810 : BitVec 32) : BitVec 32 :=
  v810

def k0_off162 (v810 : BitVec 32) : Fin 2 → Nat :=
  let v811 : BitVec 32 := v810
  let v812 : Index := Scalar.indexCast v811
  let c0_531 : Index := 0#32
  ![v812.toNat, 0]

def k0_chk67 (v810 : BitVec 32) : Prop :=
  (4 ∣ (k0_mult89 v810).toNat) ∧
  (∀ a, (k0_off162 v810) a + S4x128.size a ≤ S98304x128.size a)
theorem k0_mult89_dvd : ∀ (v810 : BitVec 32) (k0_hw67 : k0_chk67 v810), 4 ∣ (k0_mult89 v810).toNat := fun v810 k0_hw67 => k0_hw67.1
theorem k0_off162_inb : ∀ (v810 : BitVec 32) (k0_hw67 : k0_chk67 v810), ∀ a, (k0_off162 v810) a + S4x128.size a ≤ S98304x128.size a := fun v810 k0_hw67 => k0_hw67.2

def k0_off163 (k0_t3 : Fin k0_t3_loop.trips) : Fin 3 → Nat :=
  let c0_537 : Index := 0#32
  let c0_538 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_533 : BitVec 32 := 128#32
  let v817 : BitVec 32 := Scalar.muli v12 c128_i32_533
  let c64_i32_534 : BitVec 32 := 64#32
  let v818 : BitVec 32 := Scalar.addi v817 c64_i32_534
  let c0_i32_535 : BitVec 32 := 0#32
  let v819 : BitVec 32 := Scalar.addi v818 c0_i32_535
  let c3_i32_536 : BitVec 32 := 3#32
  let v820 : BitVec 32 := Scalar.addi v819 c3_i32_536
  let v821 : Index := Scalar.indexCast v820
  ![0, 0, v821.toNat]
def k0_mult90 (v822 : BitVec 32) : BitVec 32 :=
  v822

def k0_off164 (v822 : BitVec 32) : Fin 2 → Nat :=
  let v823 : BitVec 32 := v822
  let v824 : Index := Scalar.indexCast v823
  let c0_539 : Index := 0#32
  ![v824.toNat, 0]

def k0_chk68 (v822 : BitVec 32) : Prop :=
  (4 ∣ (k0_mult90 v822).toNat) ∧
  (∀ a, (k0_off164 v822) a + S4x128.size a ≤ S98304x128.size a)
theorem k0_mult90_dvd : ∀ (v822 : BitVec 32) (k0_hw68 : k0_chk68 v822), 4 ∣ (k0_mult90 v822).toNat := fun v822 k0_hw68 => k0_hw68.1
theorem k0_off164_inb : ∀ (v822 : BitVec 32) (k0_hw68 : k0_chk68 v822), ∀ a, (k0_off164 v822) a + S4x128.size a ≤ S98304x128.size a := fun v822 k0_hw68 => k0_hw68.2

def k0_off165 (k0_t3 : Fin k0_t3_loop.trips) : Fin 3 → Nat :=
  let c0_545 : Index := 0#32
  let c0_546 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_541 : BitVec 32 := 128#32
  let v829 : BitVec 32 := Scalar.muli v12 c128_i32_541
  let c64_i32_542 : BitVec 32 := 64#32
  let v830 : BitVec 32 := Scalar.addi v829 c64_i32_542
  let c4_i32_543 : BitVec 32 := 4#32
  let v831 : BitVec 32 := Scalar.addi v830 c4_i32_543
  let c0_i32_544 : BitVec 32 := 0#32
  let v832 : BitVec 32 := Scalar.addi v831 c0_i32_544
  let v833 : Index := Scalar.indexCast v832
  ![0, 0, v833.toNat]
def k0_mult91 (v834 : BitVec 32) : BitVec 32 :=
  v834

def k0_off166 (v834 : BitVec 32) : Fin 2 → Nat :=
  let v835 : BitVec 32 := v834
  let v836 : Index := Scalar.indexCast v835
  let c0_547 : Index := 0#32
  ![v836.toNat, 0]

def k0_chk69 (v834 : BitVec 32) : Prop :=
  (4 ∣ (k0_mult91 v834).toNat) ∧
  (∀ a, (k0_off166 v834) a + S4x128.size a ≤ S98304x128.size a)
theorem k0_mult91_dvd : ∀ (v834 : BitVec 32) (k0_hw69 : k0_chk69 v834), 4 ∣ (k0_mult91 v834).toNat := fun v834 k0_hw69 => k0_hw69.1
theorem k0_off166_inb : ∀ (v834 : BitVec 32) (k0_hw69 : k0_chk69 v834), ∀ a, (k0_off166 v834) a + S4x128.size a ≤ S98304x128.size a := fun v834 k0_hw69 => k0_hw69.2

def k0_off167 (k0_t3 : Fin k0_t3_loop.trips) : Fin 3 → Nat :=
  let c0_553 : Index := 0#32
  let c0_554 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_549 : BitVec 32 := 128#32
  let v841 : BitVec 32 := Scalar.muli v12 c128_i32_549
  let c64_i32_550 : BitVec 32 := 64#32
  let v842 : BitVec 32 := Scalar.addi v841 c64_i32_550
  let c4_i32_551 : BitVec 32 := 4#32
  let v843 : BitVec 32 := Scalar.addi v842 c4_i32_551
  let c1_i32_552 : BitVec 32 := 1#32
  let v844 : BitVec 32 := Scalar.addi v843 c1_i32_552
  let v845 : Index := Scalar.indexCast v844
  ![0, 0, v845.toNat]
def k0_mult92 (v846 : BitVec 32) : BitVec 32 :=
  v846

def k0_off168 (v846 : BitVec 32) : Fin 2 → Nat :=
  let v847 : BitVec 32 := v846
  let v848 : Index := Scalar.indexCast v847
  let c0_555 : Index := 0#32
  ![v848.toNat, 0]

def k0_chk70 (v846 : BitVec 32) : Prop :=
  (4 ∣ (k0_mult92 v846).toNat) ∧
  (∀ a, (k0_off168 v846) a + S4x128.size a ≤ S98304x128.size a)
theorem k0_mult92_dvd : ∀ (v846 : BitVec 32) (k0_hw70 : k0_chk70 v846), 4 ∣ (k0_mult92 v846).toNat := fun v846 k0_hw70 => k0_hw70.1
theorem k0_off168_inb : ∀ (v846 : BitVec 32) (k0_hw70 : k0_chk70 v846), ∀ a, (k0_off168 v846) a + S4x128.size a ≤ S98304x128.size a := fun v846 k0_hw70 => k0_hw70.2

def k0_off169 (k0_t3 : Fin k0_t3_loop.trips) : Fin 3 → Nat :=
  let c0_561 : Index := 0#32
  let c0_562 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_557 : BitVec 32 := 128#32
  let v853 : BitVec 32 := Scalar.muli v12 c128_i32_557
  let c64_i32_558 : BitVec 32 := 64#32
  let v854 : BitVec 32 := Scalar.addi v853 c64_i32_558
  let c4_i32_559 : BitVec 32 := 4#32
  let v855 : BitVec 32 := Scalar.addi v854 c4_i32_559
  let c2_i32_560 : BitVec 32 := 2#32
  let v856 : BitVec 32 := Scalar.addi v855 c2_i32_560
  let v857 : Index := Scalar.indexCast v856
  ![0, 0, v857.toNat]
def k0_mult93 (v858 : BitVec 32) : BitVec 32 :=
  v858

def k0_off170 (v858 : BitVec 32) : Fin 2 → Nat :=
  let v859 : BitVec 32 := v858
  let v860 : Index := Scalar.indexCast v859
  let c0_563 : Index := 0#32
  ![v860.toNat, 0]

def k0_chk71 (v858 : BitVec 32) : Prop :=
  (4 ∣ (k0_mult93 v858).toNat) ∧
  (∀ a, (k0_off170 v858) a + S4x128.size a ≤ S98304x128.size a)
theorem k0_mult93_dvd : ∀ (v858 : BitVec 32) (k0_hw71 : k0_chk71 v858), 4 ∣ (k0_mult93 v858).toNat := fun v858 k0_hw71 => k0_hw71.1
theorem k0_off170_inb : ∀ (v858 : BitVec 32) (k0_hw71 : k0_chk71 v858), ∀ a, (k0_off170 v858) a + S4x128.size a ≤ S98304x128.size a := fun v858 k0_hw71 => k0_hw71.2

def k0_off171 (k0_t3 : Fin k0_t3_loop.trips) : Fin 3 → Nat :=
  let c0_569 : Index := 0#32
  let c0_570 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_565 : BitVec 32 := 128#32
  let v865 : BitVec 32 := Scalar.muli v12 c128_i32_565
  let c64_i32_566 : BitVec 32 := 64#32
  let v866 : BitVec 32 := Scalar.addi v865 c64_i32_566
  let c4_i32_567 : BitVec 32 := 4#32
  let v867 : BitVec 32 := Scalar.addi v866 c4_i32_567
  let c3_i32_568 : BitVec 32 := 3#32
  let v868 : BitVec 32 := Scalar.addi v867 c3_i32_568
  let v869 : Index := Scalar.indexCast v868
  ![0, 0, v869.toNat]
def k0_mult94 (v870 : BitVec 32) : BitVec 32 :=
  v870

def k0_off172 (v870 : BitVec 32) : Fin 2 → Nat :=
  let v871 : BitVec 32 := v870
  let v872 : Index := Scalar.indexCast v871
  let c0_571 : Index := 0#32
  ![v872.toNat, 0]

def k0_chk72 (v870 : BitVec 32) : Prop :=
  (4 ∣ (k0_mult94 v870).toNat) ∧
  (∀ a, (k0_off172 v870) a + S4x128.size a ≤ S98304x128.size a)
theorem k0_mult94_dvd : ∀ (v870 : BitVec 32) (k0_hw72 : k0_chk72 v870), 4 ∣ (k0_mult94 v870).toNat := fun v870 k0_hw72 => k0_hw72.1
theorem k0_off172_inb : ∀ (v870 : BitVec 32) (k0_hw72 : k0_chk72 v870), ∀ a, (k0_off172 v870) a + S4x128.size a ≤ S98304x128.size a := fun v870 k0_hw72 => k0_hw72.2

def k0_off173 (k0_t3 : Fin k0_t3_loop.trips) : Fin 3 → Nat :=
  let c0_577 : Index := 0#32
  let c0_578 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_573 : BitVec 32 := 128#32
  let v877 : BitVec 32 := Scalar.muli v12 c128_i32_573
  let c64_i32_574 : BitVec 32 := 64#32
  let v878 : BitVec 32 := Scalar.addi v877 c64_i32_574
  let c8_i32_575 : BitVec 32 := 8#32
  let v879 : BitVec 32 := Scalar.addi v878 c8_i32_575
  let c0_i32_576 : BitVec 32 := 0#32
  let v880 : BitVec 32 := Scalar.addi v879 c0_i32_576
  let v881 : Index := Scalar.indexCast v880
  ![0, 0, v881.toNat]
def k0_mult95 (v882 : BitVec 32) : BitVec 32 :=
  v882

def k0_off174 (v882 : BitVec 32) : Fin 2 → Nat :=
  let v883 : BitVec 32 := v882
  let v884 : Index := Scalar.indexCast v883
  let c0_579 : Index := 0#32
  ![v884.toNat, 0]

def k0_chk73 (v882 : BitVec 32) : Prop :=
  (4 ∣ (k0_mult95 v882).toNat) ∧
  (∀ a, (k0_off174 v882) a + S4x128.size a ≤ S98304x128.size a)
theorem k0_mult95_dvd : ∀ (v882 : BitVec 32) (k0_hw73 : k0_chk73 v882), 4 ∣ (k0_mult95 v882).toNat := fun v882 k0_hw73 => k0_hw73.1
theorem k0_off174_inb : ∀ (v882 : BitVec 32) (k0_hw73 : k0_chk73 v882), ∀ a, (k0_off174 v882) a + S4x128.size a ≤ S98304x128.size a := fun v882 k0_hw73 => k0_hw73.2

def k0_off175 (k0_t3 : Fin k0_t3_loop.trips) : Fin 3 → Nat :=
  let c0_585 : Index := 0#32
  let c0_586 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_581 : BitVec 32 := 128#32
  let v889 : BitVec 32 := Scalar.muli v12 c128_i32_581
  let c64_i32_582 : BitVec 32 := 64#32
  let v890 : BitVec 32 := Scalar.addi v889 c64_i32_582
  let c8_i32_583 : BitVec 32 := 8#32
  let v891 : BitVec 32 := Scalar.addi v890 c8_i32_583
  let c1_i32_584 : BitVec 32 := 1#32
  let v892 : BitVec 32 := Scalar.addi v891 c1_i32_584
  let v893 : Index := Scalar.indexCast v892
  ![0, 0, v893.toNat]
def k0_mult96 (v894 : BitVec 32) : BitVec 32 :=
  v894

def k0_off176 (v894 : BitVec 32) : Fin 2 → Nat :=
  let v895 : BitVec 32 := v894
  let v896 : Index := Scalar.indexCast v895
  let c0_587 : Index := 0#32
  ![v896.toNat, 0]

def k0_chk74 (v894 : BitVec 32) : Prop :=
  (4 ∣ (k0_mult96 v894).toNat) ∧
  (∀ a, (k0_off176 v894) a + S4x128.size a ≤ S98304x128.size a)
theorem k0_mult96_dvd : ∀ (v894 : BitVec 32) (k0_hw74 : k0_chk74 v894), 4 ∣ (k0_mult96 v894).toNat := fun v894 k0_hw74 => k0_hw74.1
theorem k0_off176_inb : ∀ (v894 : BitVec 32) (k0_hw74 : k0_chk74 v894), ∀ a, (k0_off176 v894) a + S4x128.size a ≤ S98304x128.size a := fun v894 k0_hw74 => k0_hw74.2

def k0_off177 (k0_t3 : Fin k0_t3_loop.trips) : Fin 3 → Nat :=
  let c0_593 : Index := 0#32
  let c0_594 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_589 : BitVec 32 := 128#32
  let v901 : BitVec 32 := Scalar.muli v12 c128_i32_589
  let c64_i32_590 : BitVec 32 := 64#32
  let v902 : BitVec 32 := Scalar.addi v901 c64_i32_590
  let c8_i32_591 : BitVec 32 := 8#32
  let v903 : BitVec 32 := Scalar.addi v902 c8_i32_591
  let c2_i32_592 : BitVec 32 := 2#32
  let v904 : BitVec 32 := Scalar.addi v903 c2_i32_592
  let v905 : Index := Scalar.indexCast v904
  ![0, 0, v905.toNat]
def k0_mult97 (v906 : BitVec 32) : BitVec 32 :=
  v906

def k0_off178 (v906 : BitVec 32) : Fin 2 → Nat :=
  let v907 : BitVec 32 := v906
  let v908 : Index := Scalar.indexCast v907
  let c0_595 : Index := 0#32
  ![v908.toNat, 0]

def k0_chk75 (v906 : BitVec 32) : Prop :=
  (4 ∣ (k0_mult97 v906).toNat) ∧
  (∀ a, (k0_off178 v906) a + S4x128.size a ≤ S98304x128.size a)
theorem k0_mult97_dvd : ∀ (v906 : BitVec 32) (k0_hw75 : k0_chk75 v906), 4 ∣ (k0_mult97 v906).toNat := fun v906 k0_hw75 => k0_hw75.1
theorem k0_off178_inb : ∀ (v906 : BitVec 32) (k0_hw75 : k0_chk75 v906), ∀ a, (k0_off178 v906) a + S4x128.size a ≤ S98304x128.size a := fun v906 k0_hw75 => k0_hw75.2

def k0_off179 (k0_t3 : Fin k0_t3_loop.trips) : Fin 3 → Nat :=
  let c0_601 : Index := 0#32
  let c0_602 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_597 : BitVec 32 := 128#32
  let v913 : BitVec 32 := Scalar.muli v12 c128_i32_597
  let c64_i32_598 : BitVec 32 := 64#32
  let v914 : BitVec 32 := Scalar.addi v913 c64_i32_598
  let c8_i32_599 : BitVec 32 := 8#32
  let v915 : BitVec 32 := Scalar.addi v914 c8_i32_599
  let c3_i32_600 : BitVec 32 := 3#32
  let v916 : BitVec 32 := Scalar.addi v915 c3_i32_600
  let v917 : Index := Scalar.indexCast v916
  ![0, 0, v917.toNat]
def k0_mult98 (v918 : BitVec 32) : BitVec 32 :=
  v918

def k0_off180 (v918 : BitVec 32) : Fin 2 → Nat :=
  let v919 : BitVec 32 := v918
  let v920 : Index := Scalar.indexCast v919
  let c0_603 : Index := 0#32
  ![v920.toNat, 0]

def k0_chk76 (v918 : BitVec 32) : Prop :=
  (4 ∣ (k0_mult98 v918).toNat) ∧
  (∀ a, (k0_off180 v918) a + S4x128.size a ≤ S98304x128.size a)
theorem k0_mult98_dvd : ∀ (v918 : BitVec 32) (k0_hw76 : k0_chk76 v918), 4 ∣ (k0_mult98 v918).toNat := fun v918 k0_hw76 => k0_hw76.1
theorem k0_off180_inb : ∀ (v918 : BitVec 32) (k0_hw76 : k0_chk76 v918), ∀ a, (k0_off180 v918) a + S4x128.size a ≤ S98304x128.size a := fun v918 k0_hw76 => k0_hw76.2

def k0_off181 (k0_t3 : Fin k0_t3_loop.trips) : Fin 3 → Nat :=
  let c0_609 : Index := 0#32
  let c0_610 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_605 : BitVec 32 := 128#32
  let v925 : BitVec 32 := Scalar.muli v12 c128_i32_605
  let c64_i32_606 : BitVec 32 := 64#32
  let v926 : BitVec 32 := Scalar.addi v925 c64_i32_606
  let c12_i32_607 : BitVec 32 := 12#32
  let v927 : BitVec 32 := Scalar.addi v926 c12_i32_607
  let c0_i32_608 : BitVec 32 := 0#32
  let v928 : BitVec 32 := Scalar.addi v927 c0_i32_608
  let v929 : Index := Scalar.indexCast v928
  ![0, 0, v929.toNat]
def k0_mult99 (v930 : BitVec 32) : BitVec 32 :=
  v930

def k0_off182 (v930 : BitVec 32) : Fin 2 → Nat :=
  let v931 : BitVec 32 := v930
  let v932 : Index := Scalar.indexCast v931
  let c0_611 : Index := 0#32
  ![v932.toNat, 0]

def k0_chk77 (v930 : BitVec 32) : Prop :=
  (4 ∣ (k0_mult99 v930).toNat) ∧
  (∀ a, (k0_off182 v930) a + S4x128.size a ≤ S98304x128.size a)
theorem k0_mult99_dvd : ∀ (v930 : BitVec 32) (k0_hw77 : k0_chk77 v930), 4 ∣ (k0_mult99 v930).toNat := fun v930 k0_hw77 => k0_hw77.1
theorem k0_off182_inb : ∀ (v930 : BitVec 32) (k0_hw77 : k0_chk77 v930), ∀ a, (k0_off182 v930) a + S4x128.size a ≤ S98304x128.size a := fun v930 k0_hw77 => k0_hw77.2

def k0_off183 (k0_t3 : Fin k0_t3_loop.trips) : Fin 3 → Nat :=
  let c0_617 : Index := 0#32
  let c0_618 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_613 : BitVec 32 := 128#32
  let v937 : BitVec 32 := Scalar.muli v12 c128_i32_613
  let c64_i32_614 : BitVec 32 := 64#32
  let v938 : BitVec 32 := Scalar.addi v937 c64_i32_614
  let c12_i32_615 : BitVec 32 := 12#32
  let v939 : BitVec 32 := Scalar.addi v938 c12_i32_615
  let c1_i32_616 : BitVec 32 := 1#32
  let v940 : BitVec 32 := Scalar.addi v939 c1_i32_616
  let v941 : Index := Scalar.indexCast v940
  ![0, 0, v941.toNat]
def k0_mult100 (v942 : BitVec 32) : BitVec 32 :=
  v942

def k0_off184 (v942 : BitVec 32) : Fin 2 → Nat :=
  let v943 : BitVec 32 := v942
  let v944 : Index := Scalar.indexCast v943
  let c0_619 : Index := 0#32
  ![v944.toNat, 0]

def k0_chk78 (v942 : BitVec 32) : Prop :=
  (4 ∣ (k0_mult100 v942).toNat) ∧
  (∀ a, (k0_off184 v942) a + S4x128.size a ≤ S98304x128.size a)
theorem k0_mult100_dvd : ∀ (v942 : BitVec 32) (k0_hw78 : k0_chk78 v942), 4 ∣ (k0_mult100 v942).toNat := fun v942 k0_hw78 => k0_hw78.1
theorem k0_off184_inb : ∀ (v942 : BitVec 32) (k0_hw78 : k0_chk78 v942), ∀ a, (k0_off184 v942) a + S4x128.size a ≤ S98304x128.size a := fun v942 k0_hw78 => k0_hw78.2

def k0_off185 (k0_t3 : Fin k0_t3_loop.trips) : Fin 3 → Nat :=
  let c0_625 : Index := 0#32
  let c0_626 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_621 : BitVec 32 := 128#32
  let v949 : BitVec 32 := Scalar.muli v12 c128_i32_621
  let c64_i32_622 : BitVec 32 := 64#32
  let v950 : BitVec 32 := Scalar.addi v949 c64_i32_622
  let c12_i32_623 : BitVec 32 := 12#32
  let v951 : BitVec 32 := Scalar.addi v950 c12_i32_623
  let c2_i32_624 : BitVec 32 := 2#32
  let v952 : BitVec 32 := Scalar.addi v951 c2_i32_624
  let v953 : Index := Scalar.indexCast v952
  ![0, 0, v953.toNat]
def k0_mult101 (v954 : BitVec 32) : BitVec 32 :=
  v954

def k0_off186 (v954 : BitVec 32) : Fin 2 → Nat :=
  let v955 : BitVec 32 := v954
  let v956 : Index := Scalar.indexCast v955
  let c0_627 : Index := 0#32
  ![v956.toNat, 0]

def k0_chk79 (v954 : BitVec 32) : Prop :=
  (4 ∣ (k0_mult101 v954).toNat) ∧
  (∀ a, (k0_off186 v954) a + S4x128.size a ≤ S98304x128.size a)
theorem k0_mult101_dvd : ∀ (v954 : BitVec 32) (k0_hw79 : k0_chk79 v954), 4 ∣ (k0_mult101 v954).toNat := fun v954 k0_hw79 => k0_hw79.1
theorem k0_off186_inb : ∀ (v954 : BitVec 32) (k0_hw79 : k0_chk79 v954), ∀ a, (k0_off186 v954) a + S4x128.size a ≤ S98304x128.size a := fun v954 k0_hw79 => k0_hw79.2

def k0_off187 (k0_t3 : Fin k0_t3_loop.trips) : Fin 3 → Nat :=
  let c0_633 : Index := 0#32
  let c0_634 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_629 : BitVec 32 := 128#32
  let v961 : BitVec 32 := Scalar.muli v12 c128_i32_629
  let c64_i32_630 : BitVec 32 := 64#32
  let v962 : BitVec 32 := Scalar.addi v961 c64_i32_630
  let c12_i32_631 : BitVec 32 := 12#32
  let v963 : BitVec 32 := Scalar.addi v962 c12_i32_631
  let c3_i32_632 : BitVec 32 := 3#32
  let v964 : BitVec 32 := Scalar.addi v963 c3_i32_632
  let v965 : Index := Scalar.indexCast v964
  ![0, 0, v965.toNat]
def k0_mult102 (v966 : BitVec 32) : BitVec 32 :=
  v966

def k0_off188 (v966 : BitVec 32) : Fin 2 → Nat :=
  let v967 : BitVec 32 := v966
  let v968 : Index := Scalar.indexCast v967
  let c0_635 : Index := 0#32
  ![v968.toNat, 0]

def k0_chk80 (v966 : BitVec 32) : Prop :=
  (4 ∣ (k0_mult102 v966).toNat) ∧
  (∀ a, (k0_off188 v966) a + S4x128.size a ≤ S98304x128.size a)
theorem k0_mult102_dvd : ∀ (v966 : BitVec 32) (k0_hw80 : k0_chk80 v966), 4 ∣ (k0_mult102 v966).toNat := fun v966 k0_hw80 => k0_hw80.1
theorem k0_off188_inb : ∀ (v966 : BitVec 32) (k0_hw80 : k0_chk80 v966), ∀ a, (k0_off188 v966) a + S4x128.size a ≤ S98304x128.size a := fun v966 k0_hw80 => k0_hw80.2

def k0_off189 (k0_t3 : Fin k0_t3_loop.trips) : Fin 3 → Nat :=
  let c0_641 : Index := 0#32
  let c0_642 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_637 : BitVec 32 := 128#32
  let v973 : BitVec 32 := Scalar.muli v12 c128_i32_637
  let c64_i32_638 : BitVec 32 := 64#32
  let v974 : BitVec 32 := Scalar.addi v973 c64_i32_638
  let c16_i32_639 : BitVec 32 := 16#32
  let v975 : BitVec 32 := Scalar.addi v974 c16_i32_639
  let c0_i32_640 : BitVec 32 := 0#32
  let v976 : BitVec 32 := Scalar.addi v975 c0_i32_640
  let v977 : Index := Scalar.indexCast v976
  ![0, 0, v977.toNat]
def k0_mult103 (v978 : BitVec 32) : BitVec 32 :=
  v978

def k0_off190 (v978 : BitVec 32) : Fin 2 → Nat :=
  let v979 : BitVec 32 := v978
  let v980 : Index := Scalar.indexCast v979
  let c0_643 : Index := 0#32
  ![v980.toNat, 0]

def k0_chk81 (v978 : BitVec 32) : Prop :=
  (4 ∣ (k0_mult103 v978).toNat) ∧
  (∀ a, (k0_off190 v978) a + S4x128.size a ≤ S98304x128.size a)
theorem k0_mult103_dvd : ∀ (v978 : BitVec 32) (k0_hw81 : k0_chk81 v978), 4 ∣ (k0_mult103 v978).toNat := fun v978 k0_hw81 => k0_hw81.1
theorem k0_off190_inb : ∀ (v978 : BitVec 32) (k0_hw81 : k0_chk81 v978), ∀ a, (k0_off190 v978) a + S4x128.size a ≤ S98304x128.size a := fun v978 k0_hw81 => k0_hw81.2

def k0_off191 (k0_t3 : Fin k0_t3_loop.trips) : Fin 3 → Nat :=
  let c0_649 : Index := 0#32
  let c0_650 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_645 : BitVec 32 := 128#32
  let v985 : BitVec 32 := Scalar.muli v12 c128_i32_645
  let c64_i32_646 : BitVec 32 := 64#32
  let v986 : BitVec 32 := Scalar.addi v985 c64_i32_646
  let c16_i32_647 : BitVec 32 := 16#32
  let v987 : BitVec 32 := Scalar.addi v986 c16_i32_647
  let c1_i32_648 : BitVec 32 := 1#32
  let v988 : BitVec 32 := Scalar.addi v987 c1_i32_648
  let v989 : Index := Scalar.indexCast v988
  ![0, 0, v989.toNat]
def k0_mult104 (v990 : BitVec 32) : BitVec 32 :=
  v990

def k0_off192 (v990 : BitVec 32) : Fin 2 → Nat :=
  let v991 : BitVec 32 := v990
  let v992 : Index := Scalar.indexCast v991
  let c0_651 : Index := 0#32
  ![v992.toNat, 0]

def k0_chk82 (v990 : BitVec 32) : Prop :=
  (4 ∣ (k0_mult104 v990).toNat) ∧
  (∀ a, (k0_off192 v990) a + S4x128.size a ≤ S98304x128.size a)
theorem k0_mult104_dvd : ∀ (v990 : BitVec 32) (k0_hw82 : k0_chk82 v990), 4 ∣ (k0_mult104 v990).toNat := fun v990 k0_hw82 => k0_hw82.1
theorem k0_off192_inb : ∀ (v990 : BitVec 32) (k0_hw82 : k0_chk82 v990), ∀ a, (k0_off192 v990) a + S4x128.size a ≤ S98304x128.size a := fun v990 k0_hw82 => k0_hw82.2

def k0_off193 (k0_t3 : Fin k0_t3_loop.trips) : Fin 3 → Nat :=
  let c0_657 : Index := 0#32
  let c0_658 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_653 : BitVec 32 := 128#32
  let v997 : BitVec 32 := Scalar.muli v12 c128_i32_653
  let c64_i32_654 : BitVec 32 := 64#32
  let v998 : BitVec 32 := Scalar.addi v997 c64_i32_654
  let c16_i32_655 : BitVec 32 := 16#32
  let v999 : BitVec 32 := Scalar.addi v998 c16_i32_655
  let c2_i32_656 : BitVec 32 := 2#32
  let v1000 : BitVec 32 := Scalar.addi v999 c2_i32_656
  let v1001 : Index := Scalar.indexCast v1000
  ![0, 0, v1001.toNat]
def k0_mult105 (v1002 : BitVec 32) : BitVec 32 :=
  v1002

def k0_off194 (v1002 : BitVec 32) : Fin 2 → Nat :=
  let v1003 : BitVec 32 := v1002
  let v1004 : Index := Scalar.indexCast v1003
  let c0_659 : Index := 0#32
  ![v1004.toNat, 0]

def k0_chk83 (v1002 : BitVec 32) : Prop :=
  (4 ∣ (k0_mult105 v1002).toNat) ∧
  (∀ a, (k0_off194 v1002) a + S4x128.size a ≤ S98304x128.size a)
theorem k0_mult105_dvd : ∀ (v1002 : BitVec 32) (k0_hw83 : k0_chk83 v1002), 4 ∣ (k0_mult105 v1002).toNat := fun v1002 k0_hw83 => k0_hw83.1
theorem k0_off194_inb : ∀ (v1002 : BitVec 32) (k0_hw83 : k0_chk83 v1002), ∀ a, (k0_off194 v1002) a + S4x128.size a ≤ S98304x128.size a := fun v1002 k0_hw83 => k0_hw83.2

def k0_off195 (k0_t3 : Fin k0_t3_loop.trips) : Fin 3 → Nat :=
  let c0_665 : Index := 0#32
  let c0_666 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_661 : BitVec 32 := 128#32
  let v1009 : BitVec 32 := Scalar.muli v12 c128_i32_661
  let c64_i32_662 : BitVec 32 := 64#32
  let v1010 : BitVec 32 := Scalar.addi v1009 c64_i32_662
  let c16_i32_663 : BitVec 32 := 16#32
  let v1011 : BitVec 32 := Scalar.addi v1010 c16_i32_663
  let c3_i32_664 : BitVec 32 := 3#32
  let v1012 : BitVec 32 := Scalar.addi v1011 c3_i32_664
  let v1013 : Index := Scalar.indexCast v1012
  ![0, 0, v1013.toNat]
def k0_mult106 (v1014 : BitVec 32) : BitVec 32 :=
  v1014

def k0_off196 (v1014 : BitVec 32) : Fin 2 → Nat :=
  let v1015 : BitVec 32 := v1014
  let v1016 : Index := Scalar.indexCast v1015
  let c0_667 : Index := 0#32
  ![v1016.toNat, 0]

def k0_chk84 (v1014 : BitVec 32) : Prop :=
  (4 ∣ (k0_mult106 v1014).toNat) ∧
  (∀ a, (k0_off196 v1014) a + S4x128.size a ≤ S98304x128.size a)
theorem k0_mult106_dvd : ∀ (v1014 : BitVec 32) (k0_hw84 : k0_chk84 v1014), 4 ∣ (k0_mult106 v1014).toNat := fun v1014 k0_hw84 => k0_hw84.1
theorem k0_off196_inb : ∀ (v1014 : BitVec 32) (k0_hw84 : k0_chk84 v1014), ∀ a, (k0_off196 v1014) a + S4x128.size a ≤ S98304x128.size a := fun v1014 k0_hw84 => k0_hw84.2

def k0_off197 (k0_t3 : Fin k0_t3_loop.trips) : Fin 3 → Nat :=
  let c0_673 : Index := 0#32
  let c0_674 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_669 : BitVec 32 := 128#32
  let v1021 : BitVec 32 := Scalar.muli v12 c128_i32_669
  let c64_i32_670 : BitVec 32 := 64#32
  let v1022 : BitVec 32 := Scalar.addi v1021 c64_i32_670
  let c20_i32_671 : BitVec 32 := 20#32
  let v1023 : BitVec 32 := Scalar.addi v1022 c20_i32_671
  let c0_i32_672 : BitVec 32 := 0#32
  let v1024 : BitVec 32 := Scalar.addi v1023 c0_i32_672
  let v1025 : Index := Scalar.indexCast v1024
  ![0, 0, v1025.toNat]
def k0_mult107 (v1026 : BitVec 32) : BitVec 32 :=
  v1026

def k0_off198 (v1026 : BitVec 32) : Fin 2 → Nat :=
  let v1027 : BitVec 32 := v1026
  let v1028 : Index := Scalar.indexCast v1027
  let c0_675 : Index := 0#32
  ![v1028.toNat, 0]

def k0_chk85 (v1026 : BitVec 32) : Prop :=
  (4 ∣ (k0_mult107 v1026).toNat) ∧
  (∀ a, (k0_off198 v1026) a + S4x128.size a ≤ S98304x128.size a)
theorem k0_mult107_dvd : ∀ (v1026 : BitVec 32) (k0_hw85 : k0_chk85 v1026), 4 ∣ (k0_mult107 v1026).toNat := fun v1026 k0_hw85 => k0_hw85.1
theorem k0_off198_inb : ∀ (v1026 : BitVec 32) (k0_hw85 : k0_chk85 v1026), ∀ a, (k0_off198 v1026) a + S4x128.size a ≤ S98304x128.size a := fun v1026 k0_hw85 => k0_hw85.2

def k0_off199 (k0_t3 : Fin k0_t3_loop.trips) : Fin 3 → Nat :=
  let c0_681 : Index := 0#32
  let c0_682 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_677 : BitVec 32 := 128#32
  let v1033 : BitVec 32 := Scalar.muli v12 c128_i32_677
  let c64_i32_678 : BitVec 32 := 64#32
  let v1034 : BitVec 32 := Scalar.addi v1033 c64_i32_678
  let c20_i32_679 : BitVec 32 := 20#32
  let v1035 : BitVec 32 := Scalar.addi v1034 c20_i32_679
  let c1_i32_680 : BitVec 32 := 1#32
  let v1036 : BitVec 32 := Scalar.addi v1035 c1_i32_680
  let v1037 : Index := Scalar.indexCast v1036
  ![0, 0, v1037.toNat]
def k0_mult108 (v1038 : BitVec 32) : BitVec 32 :=
  v1038

def k0_off200 (v1038 : BitVec 32) : Fin 2 → Nat :=
  let v1039 : BitVec 32 := v1038
  let v1040 : Index := Scalar.indexCast v1039
  let c0_683 : Index := 0#32
  ![v1040.toNat, 0]

def k0_chk86 (v1038 : BitVec 32) : Prop :=
  (4 ∣ (k0_mult108 v1038).toNat) ∧
  (∀ a, (k0_off200 v1038) a + S4x128.size a ≤ S98304x128.size a)
theorem k0_mult108_dvd : ∀ (v1038 : BitVec 32) (k0_hw86 : k0_chk86 v1038), 4 ∣ (k0_mult108 v1038).toNat := fun v1038 k0_hw86 => k0_hw86.1
theorem k0_off200_inb : ∀ (v1038 : BitVec 32) (k0_hw86 : k0_chk86 v1038), ∀ a, (k0_off200 v1038) a + S4x128.size a ≤ S98304x128.size a := fun v1038 k0_hw86 => k0_hw86.2

def k0_off201 (k0_t3 : Fin k0_t3_loop.trips) : Fin 3 → Nat :=
  let c0_689 : Index := 0#32
  let c0_690 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_685 : BitVec 32 := 128#32
  let v1045 : BitVec 32 := Scalar.muli v12 c128_i32_685
  let c64_i32_686 : BitVec 32 := 64#32
  let v1046 : BitVec 32 := Scalar.addi v1045 c64_i32_686
  let c20_i32_687 : BitVec 32 := 20#32
  let v1047 : BitVec 32 := Scalar.addi v1046 c20_i32_687
  let c2_i32_688 : BitVec 32 := 2#32
  let v1048 : BitVec 32 := Scalar.addi v1047 c2_i32_688
  let v1049 : Index := Scalar.indexCast v1048
  ![0, 0, v1049.toNat]
def k0_mult109 (v1050 : BitVec 32) : BitVec 32 :=
  v1050

def k0_off202 (v1050 : BitVec 32) : Fin 2 → Nat :=
  let v1051 : BitVec 32 := v1050
  let v1052 : Index := Scalar.indexCast v1051
  let c0_691 : Index := 0#32
  ![v1052.toNat, 0]

def k0_chk87 (v1050 : BitVec 32) : Prop :=
  (4 ∣ (k0_mult109 v1050).toNat) ∧
  (∀ a, (k0_off202 v1050) a + S4x128.size a ≤ S98304x128.size a)
theorem k0_mult109_dvd : ∀ (v1050 : BitVec 32) (k0_hw87 : k0_chk87 v1050), 4 ∣ (k0_mult109 v1050).toNat := fun v1050 k0_hw87 => k0_hw87.1
theorem k0_off202_inb : ∀ (v1050 : BitVec 32) (k0_hw87 : k0_chk87 v1050), ∀ a, (k0_off202 v1050) a + S4x128.size a ≤ S98304x128.size a := fun v1050 k0_hw87 => k0_hw87.2

def k0_off203 (k0_t3 : Fin k0_t3_loop.trips) : Fin 3 → Nat :=
  let c0_697 : Index := 0#32
  let c0_698 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_693 : BitVec 32 := 128#32
  let v1057 : BitVec 32 := Scalar.muli v12 c128_i32_693
  let c64_i32_694 : BitVec 32 := 64#32
  let v1058 : BitVec 32 := Scalar.addi v1057 c64_i32_694
  let c20_i32_695 : BitVec 32 := 20#32
  let v1059 : BitVec 32 := Scalar.addi v1058 c20_i32_695
  let c3_i32_696 : BitVec 32 := 3#32
  let v1060 : BitVec 32 := Scalar.addi v1059 c3_i32_696
  let v1061 : Index := Scalar.indexCast v1060
  ![0, 0, v1061.toNat]
def k0_mult110 (v1062 : BitVec 32) : BitVec 32 :=
  v1062

def k0_off204 (v1062 : BitVec 32) : Fin 2 → Nat :=
  let v1063 : BitVec 32 := v1062
  let v1064 : Index := Scalar.indexCast v1063
  let c0_699 : Index := 0#32
  ![v1064.toNat, 0]

def k0_chk88 (v1062 : BitVec 32) : Prop :=
  (4 ∣ (k0_mult110 v1062).toNat) ∧
  (∀ a, (k0_off204 v1062) a + S4x128.size a ≤ S98304x128.size a)
theorem k0_mult110_dvd : ∀ (v1062 : BitVec 32) (k0_hw88 : k0_chk88 v1062), 4 ∣ (k0_mult110 v1062).toNat := fun v1062 k0_hw88 => k0_hw88.1
theorem k0_off204_inb : ∀ (v1062 : BitVec 32) (k0_hw88 : k0_chk88 v1062), ∀ a, (k0_off204 v1062) a + S4x128.size a ≤ S98304x128.size a := fun v1062 k0_hw88 => k0_hw88.2

def k0_off205 (k0_t3 : Fin k0_t3_loop.trips) : Fin 3 → Nat :=
  let c0_705 : Index := 0#32
  let c0_706 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_701 : BitVec 32 := 128#32
  let v1069 : BitVec 32 := Scalar.muli v12 c128_i32_701
  let c64_i32_702 : BitVec 32 := 64#32
  let v1070 : BitVec 32 := Scalar.addi v1069 c64_i32_702
  let c24_i32_703 : BitVec 32 := 24#32
  let v1071 : BitVec 32 := Scalar.addi v1070 c24_i32_703
  let c0_i32_704 : BitVec 32 := 0#32
  let v1072 : BitVec 32 := Scalar.addi v1071 c0_i32_704
  let v1073 : Index := Scalar.indexCast v1072
  ![0, 0, v1073.toNat]
def k0_mult111 (v1074 : BitVec 32) : BitVec 32 :=
  v1074

def k0_off206 (v1074 : BitVec 32) : Fin 2 → Nat :=
  let v1075 : BitVec 32 := v1074
  let v1076 : Index := Scalar.indexCast v1075
  let c0_707 : Index := 0#32
  ![v1076.toNat, 0]

def k0_chk89 (v1074 : BitVec 32) : Prop :=
  (4 ∣ (k0_mult111 v1074).toNat) ∧
  (∀ a, (k0_off206 v1074) a + S4x128.size a ≤ S98304x128.size a)
theorem k0_mult111_dvd : ∀ (v1074 : BitVec 32) (k0_hw89 : k0_chk89 v1074), 4 ∣ (k0_mult111 v1074).toNat := fun v1074 k0_hw89 => k0_hw89.1
theorem k0_off206_inb : ∀ (v1074 : BitVec 32) (k0_hw89 : k0_chk89 v1074), ∀ a, (k0_off206 v1074) a + S4x128.size a ≤ S98304x128.size a := fun v1074 k0_hw89 => k0_hw89.2

def k0_off207 (k0_t3 : Fin k0_t3_loop.trips) : Fin 3 → Nat :=
  let c0_713 : Index := 0#32
  let c0_714 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_709 : BitVec 32 := 128#32
  let v1081 : BitVec 32 := Scalar.muli v12 c128_i32_709
  let c64_i32_710 : BitVec 32 := 64#32
  let v1082 : BitVec 32 := Scalar.addi v1081 c64_i32_710
  let c24_i32_711 : BitVec 32 := 24#32
  let v1083 : BitVec 32 := Scalar.addi v1082 c24_i32_711
  let c1_i32_712 : BitVec 32 := 1#32
  let v1084 : BitVec 32 := Scalar.addi v1083 c1_i32_712
  let v1085 : Index := Scalar.indexCast v1084
  ![0, 0, v1085.toNat]
def k0_mult112 (v1086 : BitVec 32) : BitVec 32 :=
  v1086

def k0_off208 (v1086 : BitVec 32) : Fin 2 → Nat :=
  let v1087 : BitVec 32 := v1086
  let v1088 : Index := Scalar.indexCast v1087
  let c0_715 : Index := 0#32
  ![v1088.toNat, 0]

def k0_chk90 (v1086 : BitVec 32) : Prop :=
  (4 ∣ (k0_mult112 v1086).toNat) ∧
  (∀ a, (k0_off208 v1086) a + S4x128.size a ≤ S98304x128.size a)
theorem k0_mult112_dvd : ∀ (v1086 : BitVec 32) (k0_hw90 : k0_chk90 v1086), 4 ∣ (k0_mult112 v1086).toNat := fun v1086 k0_hw90 => k0_hw90.1
theorem k0_off208_inb : ∀ (v1086 : BitVec 32) (k0_hw90 : k0_chk90 v1086), ∀ a, (k0_off208 v1086) a + S4x128.size a ≤ S98304x128.size a := fun v1086 k0_hw90 => k0_hw90.2

def k0_off209 (k0_t3 : Fin k0_t3_loop.trips) : Fin 3 → Nat :=
  let c0_721 : Index := 0#32
  let c0_722 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_717 : BitVec 32 := 128#32
  let v1093 : BitVec 32 := Scalar.muli v12 c128_i32_717
  let c64_i32_718 : BitVec 32 := 64#32
  let v1094 : BitVec 32 := Scalar.addi v1093 c64_i32_718
  let c24_i32_719 : BitVec 32 := 24#32
  let v1095 : BitVec 32 := Scalar.addi v1094 c24_i32_719
  let c2_i32_720 : BitVec 32 := 2#32
  let v1096 : BitVec 32 := Scalar.addi v1095 c2_i32_720
  let v1097 : Index := Scalar.indexCast v1096
  ![0, 0, v1097.toNat]
def k0_mult113 (v1098 : BitVec 32) : BitVec 32 :=
  v1098

def k0_off210 (v1098 : BitVec 32) : Fin 2 → Nat :=
  let v1099 : BitVec 32 := v1098
  let v1100 : Index := Scalar.indexCast v1099
  let c0_723 : Index := 0#32
  ![v1100.toNat, 0]

def k0_chk91 (v1098 : BitVec 32) : Prop :=
  (4 ∣ (k0_mult113 v1098).toNat) ∧
  (∀ a, (k0_off210 v1098) a + S4x128.size a ≤ S98304x128.size a)
theorem k0_mult113_dvd : ∀ (v1098 : BitVec 32) (k0_hw91 : k0_chk91 v1098), 4 ∣ (k0_mult113 v1098).toNat := fun v1098 k0_hw91 => k0_hw91.1
theorem k0_off210_inb : ∀ (v1098 : BitVec 32) (k0_hw91 : k0_chk91 v1098), ∀ a, (k0_off210 v1098) a + S4x128.size a ≤ S98304x128.size a := fun v1098 k0_hw91 => k0_hw91.2

def k0_off211 (k0_t3 : Fin k0_t3_loop.trips) : Fin 3 → Nat :=
  let c0_729 : Index := 0#32
  let c0_730 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_725 : BitVec 32 := 128#32
  let v1105 : BitVec 32 := Scalar.muli v12 c128_i32_725
  let c64_i32_726 : BitVec 32 := 64#32
  let v1106 : BitVec 32 := Scalar.addi v1105 c64_i32_726
  let c24_i32_727 : BitVec 32 := 24#32
  let v1107 : BitVec 32 := Scalar.addi v1106 c24_i32_727
  let c3_i32_728 : BitVec 32 := 3#32
  let v1108 : BitVec 32 := Scalar.addi v1107 c3_i32_728
  let v1109 : Index := Scalar.indexCast v1108
  ![0, 0, v1109.toNat]
def k0_mult114 (v1110 : BitVec 32) : BitVec 32 :=
  v1110

def k0_off212 (v1110 : BitVec 32) : Fin 2 → Nat :=
  let v1111 : BitVec 32 := v1110
  let v1112 : Index := Scalar.indexCast v1111
  let c0_731 : Index := 0#32
  ![v1112.toNat, 0]

def k0_chk92 (v1110 : BitVec 32) : Prop :=
  (4 ∣ (k0_mult114 v1110).toNat) ∧
  (∀ a, (k0_off212 v1110) a + S4x128.size a ≤ S98304x128.size a)
theorem k0_mult114_dvd : ∀ (v1110 : BitVec 32) (k0_hw92 : k0_chk92 v1110), 4 ∣ (k0_mult114 v1110).toNat := fun v1110 k0_hw92 => k0_hw92.1
theorem k0_off212_inb : ∀ (v1110 : BitVec 32) (k0_hw92 : k0_chk92 v1110), ∀ a, (k0_off212 v1110) a + S4x128.size a ≤ S98304x128.size a := fun v1110 k0_hw92 => k0_hw92.2

def k0_off213 (k0_t3 : Fin k0_t3_loop.trips) : Fin 3 → Nat :=
  let c0_737 : Index := 0#32
  let c0_738 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_733 : BitVec 32 := 128#32
  let v1117 : BitVec 32 := Scalar.muli v12 c128_i32_733
  let c64_i32_734 : BitVec 32 := 64#32
  let v1118 : BitVec 32 := Scalar.addi v1117 c64_i32_734
  let c28_i32_735 : BitVec 32 := 28#32
  let v1119 : BitVec 32 := Scalar.addi v1118 c28_i32_735
  let c0_i32_736 : BitVec 32 := 0#32
  let v1120 : BitVec 32 := Scalar.addi v1119 c0_i32_736
  let v1121 : Index := Scalar.indexCast v1120
  ![0, 0, v1121.toNat]
def k0_mult115 (v1122 : BitVec 32) : BitVec 32 :=
  v1122

def k0_off214 (v1122 : BitVec 32) : Fin 2 → Nat :=
  let v1123 : BitVec 32 := v1122
  let v1124 : Index := Scalar.indexCast v1123
  let c0_739 : Index := 0#32
  ![v1124.toNat, 0]

def k0_chk93 (v1122 : BitVec 32) : Prop :=
  (4 ∣ (k0_mult115 v1122).toNat) ∧
  (∀ a, (k0_off214 v1122) a + S4x128.size a ≤ S98304x128.size a)
theorem k0_mult115_dvd : ∀ (v1122 : BitVec 32) (k0_hw93 : k0_chk93 v1122), 4 ∣ (k0_mult115 v1122).toNat := fun v1122 k0_hw93 => k0_hw93.1
theorem k0_off214_inb : ∀ (v1122 : BitVec 32) (k0_hw93 : k0_chk93 v1122), ∀ a, (k0_off214 v1122) a + S4x128.size a ≤ S98304x128.size a := fun v1122 k0_hw93 => k0_hw93.2

def k0_off215 (k0_t3 : Fin k0_t3_loop.trips) : Fin 3 → Nat :=
  let c0_745 : Index := 0#32
  let c0_746 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_741 : BitVec 32 := 128#32
  let v1129 : BitVec 32 := Scalar.muli v12 c128_i32_741
  let c64_i32_742 : BitVec 32 := 64#32
  let v1130 : BitVec 32 := Scalar.addi v1129 c64_i32_742
  let c28_i32_743 : BitVec 32 := 28#32
  let v1131 : BitVec 32 := Scalar.addi v1130 c28_i32_743
  let c1_i32_744 : BitVec 32 := 1#32
  let v1132 : BitVec 32 := Scalar.addi v1131 c1_i32_744
  let v1133 : Index := Scalar.indexCast v1132
  ![0, 0, v1133.toNat]
def k0_mult116 (v1134 : BitVec 32) : BitVec 32 :=
  v1134

def k0_off216 (v1134 : BitVec 32) : Fin 2 → Nat :=
  let v1135 : BitVec 32 := v1134
  let v1136 : Index := Scalar.indexCast v1135
  let c0_747 : Index := 0#32
  ![v1136.toNat, 0]

def k0_chk94 (v1134 : BitVec 32) : Prop :=
  (4 ∣ (k0_mult116 v1134).toNat) ∧
  (∀ a, (k0_off216 v1134) a + S4x128.size a ≤ S98304x128.size a)
theorem k0_mult116_dvd : ∀ (v1134 : BitVec 32) (k0_hw94 : k0_chk94 v1134), 4 ∣ (k0_mult116 v1134).toNat := fun v1134 k0_hw94 => k0_hw94.1
theorem k0_off216_inb : ∀ (v1134 : BitVec 32) (k0_hw94 : k0_chk94 v1134), ∀ a, (k0_off216 v1134) a + S4x128.size a ≤ S98304x128.size a := fun v1134 k0_hw94 => k0_hw94.2

def k0_off217 (k0_t3 : Fin k0_t3_loop.trips) : Fin 3 → Nat :=
  let c0_753 : Index := 0#32
  let c0_754 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_749 : BitVec 32 := 128#32
  let v1141 : BitVec 32 := Scalar.muli v12 c128_i32_749
  let c64_i32_750 : BitVec 32 := 64#32
  let v1142 : BitVec 32 := Scalar.addi v1141 c64_i32_750
  let c28_i32_751 : BitVec 32 := 28#32
  let v1143 : BitVec 32 := Scalar.addi v1142 c28_i32_751
  let c2_i32_752 : BitVec 32 := 2#32
  let v1144 : BitVec 32 := Scalar.addi v1143 c2_i32_752
  let v1145 : Index := Scalar.indexCast v1144
  ![0, 0, v1145.toNat]
def k0_mult117 (v1146 : BitVec 32) : BitVec 32 :=
  v1146

def k0_off218 (v1146 : BitVec 32) : Fin 2 → Nat :=
  let v1147 : BitVec 32 := v1146
  let v1148 : Index := Scalar.indexCast v1147
  let c0_755 : Index := 0#32
  ![v1148.toNat, 0]

def k0_chk95 (v1146 : BitVec 32) : Prop :=
  (4 ∣ (k0_mult117 v1146).toNat) ∧
  (∀ a, (k0_off218 v1146) a + S4x128.size a ≤ S98304x128.size a)
theorem k0_mult117_dvd : ∀ (v1146 : BitVec 32) (k0_hw95 : k0_chk95 v1146), 4 ∣ (k0_mult117 v1146).toNat := fun v1146 k0_hw95 => k0_hw95.1
theorem k0_off218_inb : ∀ (v1146 : BitVec 32) (k0_hw95 : k0_chk95 v1146), ∀ a, (k0_off218 v1146) a + S4x128.size a ≤ S98304x128.size a := fun v1146 k0_hw95 => k0_hw95.2

def k0_off219 (k0_t3 : Fin k0_t3_loop.trips) : Fin 3 → Nat :=
  let c0_761 : Index := 0#32
  let c0_762 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_757 : BitVec 32 := 128#32
  let v1153 : BitVec 32 := Scalar.muli v12 c128_i32_757
  let c64_i32_758 : BitVec 32 := 64#32
  let v1154 : BitVec 32 := Scalar.addi v1153 c64_i32_758
  let c28_i32_759 : BitVec 32 := 28#32
  let v1155 : BitVec 32 := Scalar.addi v1154 c28_i32_759
  let c3_i32_760 : BitVec 32 := 3#32
  let v1156 : BitVec 32 := Scalar.addi v1155 c3_i32_760
  let v1157 : Index := Scalar.indexCast v1156
  ![0, 0, v1157.toNat]
def k0_mult118 (v1158 : BitVec 32) : BitVec 32 :=
  v1158

def k0_off220 (v1158 : BitVec 32) : Fin 2 → Nat :=
  let v1159 : BitVec 32 := v1158
  let v1160 : Index := Scalar.indexCast v1159
  let c0_763 : Index := 0#32
  ![v1160.toNat, 0]

def k0_chk96 (v1158 : BitVec 32) : Prop :=
  (4 ∣ (k0_mult118 v1158).toNat) ∧
  (∀ a, (k0_off220 v1158) a + S4x128.size a ≤ S98304x128.size a)
theorem k0_mult118_dvd : ∀ (v1158 : BitVec 32) (k0_hw96 : k0_chk96 v1158), 4 ∣ (k0_mult118 v1158).toNat := fun v1158 k0_hw96 => k0_hw96.1
theorem k0_off220_inb : ∀ (v1158 : BitVec 32) (k0_hw96 : k0_chk96 v1158), ∀ a, (k0_off220 v1158) a + S4x128.size a ≤ S98304x128.size a := fun v1158 k0_hw96 => k0_hw96.2

def k0_off221 (k0_t3 : Fin k0_t3_loop.trips) : Fin 3 → Nat :=
  let c0_768 : Index := 0#32
  let c0_769 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_765 : BitVec 32 := 128#32
  let v1165 : BitVec 32 := Scalar.muli v12 c128_i32_765
  let c96_i32 : BitVec 32 := 96#32
  let v1166 : BitVec 32 := Scalar.addi v1165 c96_i32
  let c0_i32_766 : BitVec 32 := 0#32
  let v1167 : BitVec 32 := Scalar.addi v1166 c0_i32_766
  let c0_i32_767 : BitVec 32 := 0#32
  let v1168 : BitVec 32 := Scalar.addi v1167 c0_i32_767
  let v1169 : Index := Scalar.indexCast v1168
  ![0, 0, v1169.toNat]
def k0_mult119 (v1170 : BitVec 32) : BitVec 32 :=
  v1170

def k0_off222 (v1170 : BitVec 32) : Fin 2 → Nat :=
  let v1171 : BitVec 32 := v1170
  let v1172 : Index := Scalar.indexCast v1171
  let c0_770 : Index := 0#32
  ![v1172.toNat, 0]

def k0_chk97 (v1170 : BitVec 32) : Prop :=
  (4 ∣ (k0_mult119 v1170).toNat) ∧
  (∀ a, (k0_off222 v1170) a + S4x128.size a ≤ S98304x128.size a)
theorem k0_mult119_dvd : ∀ (v1170 : BitVec 32) (k0_hw97 : k0_chk97 v1170), 4 ∣ (k0_mult119 v1170).toNat := fun v1170 k0_hw97 => k0_hw97.1
theorem k0_off222_inb : ∀ (v1170 : BitVec 32) (k0_hw97 : k0_chk97 v1170), ∀ a, (k0_off222 v1170) a + S4x128.size a ≤ S98304x128.size a := fun v1170 k0_hw97 => k0_hw97.2

def k0_off223 (k0_t3 : Fin k0_t3_loop.trips) : Fin 3 → Nat :=
  let c0_776 : Index := 0#32
  let c0_777 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_772 : BitVec 32 := 128#32
  let v1177 : BitVec 32 := Scalar.muli v12 c128_i32_772
  let c96_i32_773 : BitVec 32 := 96#32
  let v1178 : BitVec 32 := Scalar.addi v1177 c96_i32_773
  let c0_i32_774 : BitVec 32 := 0#32
  let v1179 : BitVec 32 := Scalar.addi v1178 c0_i32_774
  let c1_i32_775 : BitVec 32 := 1#32
  let v1180 : BitVec 32 := Scalar.addi v1179 c1_i32_775
  let v1181 : Index := Scalar.indexCast v1180
  ![0, 0, v1181.toNat]
def k0_mult120 (v1182 : BitVec 32) : BitVec 32 :=
  v1182

def k0_off224 (v1182 : BitVec 32) : Fin 2 → Nat :=
  let v1183 : BitVec 32 := v1182
  let v1184 : Index := Scalar.indexCast v1183
  let c0_778 : Index := 0#32
  ![v1184.toNat, 0]

def k0_chk98 (v1182 : BitVec 32) : Prop :=
  (4 ∣ (k0_mult120 v1182).toNat) ∧
  (∀ a, (k0_off224 v1182) a + S4x128.size a ≤ S98304x128.size a)
theorem k0_mult120_dvd : ∀ (v1182 : BitVec 32) (k0_hw98 : k0_chk98 v1182), 4 ∣ (k0_mult120 v1182).toNat := fun v1182 k0_hw98 => k0_hw98.1
theorem k0_off224_inb : ∀ (v1182 : BitVec 32) (k0_hw98 : k0_chk98 v1182), ∀ a, (k0_off224 v1182) a + S4x128.size a ≤ S98304x128.size a := fun v1182 k0_hw98 => k0_hw98.2

def k0_off225 (k0_t3 : Fin k0_t3_loop.trips) : Fin 3 → Nat :=
  let c0_784 : Index := 0#32
  let c0_785 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_780 : BitVec 32 := 128#32
  let v1189 : BitVec 32 := Scalar.muli v12 c128_i32_780
  let c96_i32_781 : BitVec 32 := 96#32
  let v1190 : BitVec 32 := Scalar.addi v1189 c96_i32_781
  let c0_i32_782 : BitVec 32 := 0#32
  let v1191 : BitVec 32 := Scalar.addi v1190 c0_i32_782
  let c2_i32_783 : BitVec 32 := 2#32
  let v1192 : BitVec 32 := Scalar.addi v1191 c2_i32_783
  let v1193 : Index := Scalar.indexCast v1192
  ![0, 0, v1193.toNat]
def k0_mult121 (v1194 : BitVec 32) : BitVec 32 :=
  v1194

def k0_off226 (v1194 : BitVec 32) : Fin 2 → Nat :=
  let v1195 : BitVec 32 := v1194
  let v1196 : Index := Scalar.indexCast v1195
  let c0_786 : Index := 0#32
  ![v1196.toNat, 0]

def k0_chk99 (v1194 : BitVec 32) : Prop :=
  (4 ∣ (k0_mult121 v1194).toNat) ∧
  (∀ a, (k0_off226 v1194) a + S4x128.size a ≤ S98304x128.size a)
theorem k0_mult121_dvd : ∀ (v1194 : BitVec 32) (k0_hw99 : k0_chk99 v1194), 4 ∣ (k0_mult121 v1194).toNat := fun v1194 k0_hw99 => k0_hw99.1
theorem k0_off226_inb : ∀ (v1194 : BitVec 32) (k0_hw99 : k0_chk99 v1194), ∀ a, (k0_off226 v1194) a + S4x128.size a ≤ S98304x128.size a := fun v1194 k0_hw99 => k0_hw99.2

def k0_off227 (k0_t3 : Fin k0_t3_loop.trips) : Fin 3 → Nat :=
  let c0_792 : Index := 0#32
  let c0_793 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_788 : BitVec 32 := 128#32
  let v1201 : BitVec 32 := Scalar.muli v12 c128_i32_788
  let c96_i32_789 : BitVec 32 := 96#32
  let v1202 : BitVec 32 := Scalar.addi v1201 c96_i32_789
  let c0_i32_790 : BitVec 32 := 0#32
  let v1203 : BitVec 32 := Scalar.addi v1202 c0_i32_790
  let c3_i32_791 : BitVec 32 := 3#32
  let v1204 : BitVec 32 := Scalar.addi v1203 c3_i32_791
  let v1205 : Index := Scalar.indexCast v1204
  ![0, 0, v1205.toNat]
def k0_mult122 (v1206 : BitVec 32) : BitVec 32 :=
  v1206

def k0_off228 (v1206 : BitVec 32) : Fin 2 → Nat :=
  let v1207 : BitVec 32 := v1206
  let v1208 : Index := Scalar.indexCast v1207
  let c0_794 : Index := 0#32
  ![v1208.toNat, 0]

def k0_chk100 (v1206 : BitVec 32) : Prop :=
  (4 ∣ (k0_mult122 v1206).toNat) ∧
  (∀ a, (k0_off228 v1206) a + S4x128.size a ≤ S98304x128.size a)
theorem k0_mult122_dvd : ∀ (v1206 : BitVec 32) (k0_hw100 : k0_chk100 v1206), 4 ∣ (k0_mult122 v1206).toNat := fun v1206 k0_hw100 => k0_hw100.1
theorem k0_off228_inb : ∀ (v1206 : BitVec 32) (k0_hw100 : k0_chk100 v1206), ∀ a, (k0_off228 v1206) a + S4x128.size a ≤ S98304x128.size a := fun v1206 k0_hw100 => k0_hw100.2

def k0_off229 (k0_t3 : Fin k0_t3_loop.trips) : Fin 3 → Nat :=
  let c0_800 : Index := 0#32
  let c0_801 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_796 : BitVec 32 := 128#32
  let v1213 : BitVec 32 := Scalar.muli v12 c128_i32_796
  let c96_i32_797 : BitVec 32 := 96#32
  let v1214 : BitVec 32 := Scalar.addi v1213 c96_i32_797
  let c4_i32_798 : BitVec 32 := 4#32
  let v1215 : BitVec 32 := Scalar.addi v1214 c4_i32_798
  let c0_i32_799 : BitVec 32 := 0#32
  let v1216 : BitVec 32 := Scalar.addi v1215 c0_i32_799
  let v1217 : Index := Scalar.indexCast v1216
  ![0, 0, v1217.toNat]
def k0_mult123 (v1218 : BitVec 32) : BitVec 32 :=
  v1218

def k0_off230 (v1218 : BitVec 32) : Fin 2 → Nat :=
  let v1219 : BitVec 32 := v1218
  let v1220 : Index := Scalar.indexCast v1219
  let c0_802 : Index := 0#32
  ![v1220.toNat, 0]

def k0_chk101 (v1218 : BitVec 32) : Prop :=
  (4 ∣ (k0_mult123 v1218).toNat) ∧
  (∀ a, (k0_off230 v1218) a + S4x128.size a ≤ S98304x128.size a)
theorem k0_mult123_dvd : ∀ (v1218 : BitVec 32) (k0_hw101 : k0_chk101 v1218), 4 ∣ (k0_mult123 v1218).toNat := fun v1218 k0_hw101 => k0_hw101.1
theorem k0_off230_inb : ∀ (v1218 : BitVec 32) (k0_hw101 : k0_chk101 v1218), ∀ a, (k0_off230 v1218) a + S4x128.size a ≤ S98304x128.size a := fun v1218 k0_hw101 => k0_hw101.2

def k0_off231 (k0_t3 : Fin k0_t3_loop.trips) : Fin 3 → Nat :=
  let c0_808 : Index := 0#32
  let c0_809 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_804 : BitVec 32 := 128#32
  let v1225 : BitVec 32 := Scalar.muli v12 c128_i32_804
  let c96_i32_805 : BitVec 32 := 96#32
  let v1226 : BitVec 32 := Scalar.addi v1225 c96_i32_805
  let c4_i32_806 : BitVec 32 := 4#32
  let v1227 : BitVec 32 := Scalar.addi v1226 c4_i32_806
  let c1_i32_807 : BitVec 32 := 1#32
  let v1228 : BitVec 32 := Scalar.addi v1227 c1_i32_807
  let v1229 : Index := Scalar.indexCast v1228
  ![0, 0, v1229.toNat]
def k0_mult124 (v1230 : BitVec 32) : BitVec 32 :=
  v1230

def k0_off232 (v1230 : BitVec 32) : Fin 2 → Nat :=
  let v1231 : BitVec 32 := v1230
  let v1232 : Index := Scalar.indexCast v1231
  let c0_810 : Index := 0#32
  ![v1232.toNat, 0]

def k0_chk102 (v1230 : BitVec 32) : Prop :=
  (4 ∣ (k0_mult124 v1230).toNat) ∧
  (∀ a, (k0_off232 v1230) a + S4x128.size a ≤ S98304x128.size a)
theorem k0_mult124_dvd : ∀ (v1230 : BitVec 32) (k0_hw102 : k0_chk102 v1230), 4 ∣ (k0_mult124 v1230).toNat := fun v1230 k0_hw102 => k0_hw102.1
theorem k0_off232_inb : ∀ (v1230 : BitVec 32) (k0_hw102 : k0_chk102 v1230), ∀ a, (k0_off232 v1230) a + S4x128.size a ≤ S98304x128.size a := fun v1230 k0_hw102 => k0_hw102.2

def k0_off233 (k0_t3 : Fin k0_t3_loop.trips) : Fin 3 → Nat :=
  let c0_816 : Index := 0#32
  let c0_817 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_812 : BitVec 32 := 128#32
  let v1237 : BitVec 32 := Scalar.muli v12 c128_i32_812
  let c96_i32_813 : BitVec 32 := 96#32
  let v1238 : BitVec 32 := Scalar.addi v1237 c96_i32_813
  let c4_i32_814 : BitVec 32 := 4#32
  let v1239 : BitVec 32 := Scalar.addi v1238 c4_i32_814
  let c2_i32_815 : BitVec 32 := 2#32
  let v1240 : BitVec 32 := Scalar.addi v1239 c2_i32_815
  let v1241 : Index := Scalar.indexCast v1240
  ![0, 0, v1241.toNat]
def k0_mult125 (v1242 : BitVec 32) : BitVec 32 :=
  v1242

def k0_off234 (v1242 : BitVec 32) : Fin 2 → Nat :=
  let v1243 : BitVec 32 := v1242
  let v1244 : Index := Scalar.indexCast v1243
  let c0_818 : Index := 0#32
  ![v1244.toNat, 0]

def k0_chk103 (v1242 : BitVec 32) : Prop :=
  (4 ∣ (k0_mult125 v1242).toNat) ∧
  (∀ a, (k0_off234 v1242) a + S4x128.size a ≤ S98304x128.size a)
theorem k0_mult125_dvd : ∀ (v1242 : BitVec 32) (k0_hw103 : k0_chk103 v1242), 4 ∣ (k0_mult125 v1242).toNat := fun v1242 k0_hw103 => k0_hw103.1
theorem k0_off234_inb : ∀ (v1242 : BitVec 32) (k0_hw103 : k0_chk103 v1242), ∀ a, (k0_off234 v1242) a + S4x128.size a ≤ S98304x128.size a := fun v1242 k0_hw103 => k0_hw103.2

def k0_off235 (k0_t3 : Fin k0_t3_loop.trips) : Fin 3 → Nat :=
  let c0_824 : Index := 0#32
  let c0_825 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_820 : BitVec 32 := 128#32
  let v1249 : BitVec 32 := Scalar.muli v12 c128_i32_820
  let c96_i32_821 : BitVec 32 := 96#32
  let v1250 : BitVec 32 := Scalar.addi v1249 c96_i32_821
  let c4_i32_822 : BitVec 32 := 4#32
  let v1251 : BitVec 32 := Scalar.addi v1250 c4_i32_822
  let c3_i32_823 : BitVec 32 := 3#32
  let v1252 : BitVec 32 := Scalar.addi v1251 c3_i32_823
  let v1253 : Index := Scalar.indexCast v1252
  ![0, 0, v1253.toNat]
def k0_mult126 (v1254 : BitVec 32) : BitVec 32 :=
  v1254

def k0_off236 (v1254 : BitVec 32) : Fin 2 → Nat :=
  let v1255 : BitVec 32 := v1254
  let v1256 : Index := Scalar.indexCast v1255
  let c0_826 : Index := 0#32
  ![v1256.toNat, 0]

def k0_chk104 (v1254 : BitVec 32) : Prop :=
  (4 ∣ (k0_mult126 v1254).toNat) ∧
  (∀ a, (k0_off236 v1254) a + S4x128.size a ≤ S98304x128.size a)
theorem k0_mult126_dvd : ∀ (v1254 : BitVec 32) (k0_hw104 : k0_chk104 v1254), 4 ∣ (k0_mult126 v1254).toNat := fun v1254 k0_hw104 => k0_hw104.1
theorem k0_off236_inb : ∀ (v1254 : BitVec 32) (k0_hw104 : k0_chk104 v1254), ∀ a, (k0_off236 v1254) a + S4x128.size a ≤ S98304x128.size a := fun v1254 k0_hw104 => k0_hw104.2

def k0_off237 (k0_t3 : Fin k0_t3_loop.trips) : Fin 3 → Nat :=
  let c0_832 : Index := 0#32
  let c0_833 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_828 : BitVec 32 := 128#32
  let v1261 : BitVec 32 := Scalar.muli v12 c128_i32_828
  let c96_i32_829 : BitVec 32 := 96#32
  let v1262 : BitVec 32 := Scalar.addi v1261 c96_i32_829
  let c8_i32_830 : BitVec 32 := 8#32
  let v1263 : BitVec 32 := Scalar.addi v1262 c8_i32_830
  let c0_i32_831 : BitVec 32 := 0#32
  let v1264 : BitVec 32 := Scalar.addi v1263 c0_i32_831
  let v1265 : Index := Scalar.indexCast v1264
  ![0, 0, v1265.toNat]
def k0_mult127 (v1266 : BitVec 32) : BitVec 32 :=
  v1266

def k0_off238 (v1266 : BitVec 32) : Fin 2 → Nat :=
  let v1267 : BitVec 32 := v1266
  let v1268 : Index := Scalar.indexCast v1267
  let c0_834 : Index := 0#32
  ![v1268.toNat, 0]

def k0_chk105 (v1266 : BitVec 32) : Prop :=
  (4 ∣ (k0_mult127 v1266).toNat) ∧
  (∀ a, (k0_off238 v1266) a + S4x128.size a ≤ S98304x128.size a)
theorem k0_mult127_dvd : ∀ (v1266 : BitVec 32) (k0_hw105 : k0_chk105 v1266), 4 ∣ (k0_mult127 v1266).toNat := fun v1266 k0_hw105 => k0_hw105.1
theorem k0_off238_inb : ∀ (v1266 : BitVec 32) (k0_hw105 : k0_chk105 v1266), ∀ a, (k0_off238 v1266) a + S4x128.size a ≤ S98304x128.size a := fun v1266 k0_hw105 => k0_hw105.2

def k0_off239 (k0_t3 : Fin k0_t3_loop.trips) : Fin 3 → Nat :=
  let c0_840 : Index := 0#32
  let c0_841 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_836 : BitVec 32 := 128#32
  let v1273 : BitVec 32 := Scalar.muli v12 c128_i32_836
  let c96_i32_837 : BitVec 32 := 96#32
  let v1274 : BitVec 32 := Scalar.addi v1273 c96_i32_837
  let c8_i32_838 : BitVec 32 := 8#32
  let v1275 : BitVec 32 := Scalar.addi v1274 c8_i32_838
  let c1_i32_839 : BitVec 32 := 1#32
  let v1276 : BitVec 32 := Scalar.addi v1275 c1_i32_839
  let v1277 : Index := Scalar.indexCast v1276
  ![0, 0, v1277.toNat]
def k0_mult128 (v1278 : BitVec 32) : BitVec 32 :=
  v1278

def k0_off240 (v1278 : BitVec 32) : Fin 2 → Nat :=
  let v1279 : BitVec 32 := v1278
  let v1280 : Index := Scalar.indexCast v1279
  let c0_842 : Index := 0#32
  ![v1280.toNat, 0]

def k0_chk106 (v1278 : BitVec 32) : Prop :=
  (4 ∣ (k0_mult128 v1278).toNat) ∧
  (∀ a, (k0_off240 v1278) a + S4x128.size a ≤ S98304x128.size a)
theorem k0_mult128_dvd : ∀ (v1278 : BitVec 32) (k0_hw106 : k0_chk106 v1278), 4 ∣ (k0_mult128 v1278).toNat := fun v1278 k0_hw106 => k0_hw106.1
theorem k0_off240_inb : ∀ (v1278 : BitVec 32) (k0_hw106 : k0_chk106 v1278), ∀ a, (k0_off240 v1278) a + S4x128.size a ≤ S98304x128.size a := fun v1278 k0_hw106 => k0_hw106.2

def k0_off241 (k0_t3 : Fin k0_t3_loop.trips) : Fin 3 → Nat :=
  let c0_848 : Index := 0#32
  let c0_849 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_844 : BitVec 32 := 128#32
  let v1285 : BitVec 32 := Scalar.muli v12 c128_i32_844
  let c96_i32_845 : BitVec 32 := 96#32
  let v1286 : BitVec 32 := Scalar.addi v1285 c96_i32_845
  let c8_i32_846 : BitVec 32 := 8#32
  let v1287 : BitVec 32 := Scalar.addi v1286 c8_i32_846
  let c2_i32_847 : BitVec 32 := 2#32
  let v1288 : BitVec 32 := Scalar.addi v1287 c2_i32_847
  let v1289 : Index := Scalar.indexCast v1288
  ![0, 0, v1289.toNat]
def k0_mult129 (v1290 : BitVec 32) : BitVec 32 :=
  v1290

def k0_off242 (v1290 : BitVec 32) : Fin 2 → Nat :=
  let v1291 : BitVec 32 := v1290
  let v1292 : Index := Scalar.indexCast v1291
  let c0_850 : Index := 0#32
  ![v1292.toNat, 0]

def k0_chk107 (v1290 : BitVec 32) : Prop :=
  (4 ∣ (k0_mult129 v1290).toNat) ∧
  (∀ a, (k0_off242 v1290) a + S4x128.size a ≤ S98304x128.size a)
theorem k0_mult129_dvd : ∀ (v1290 : BitVec 32) (k0_hw107 : k0_chk107 v1290), 4 ∣ (k0_mult129 v1290).toNat := fun v1290 k0_hw107 => k0_hw107.1
theorem k0_off242_inb : ∀ (v1290 : BitVec 32) (k0_hw107 : k0_chk107 v1290), ∀ a, (k0_off242 v1290) a + S4x128.size a ≤ S98304x128.size a := fun v1290 k0_hw107 => k0_hw107.2

def k0_off243 (k0_t3 : Fin k0_t3_loop.trips) : Fin 3 → Nat :=
  let c0_856 : Index := 0#32
  let c0_857 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_852 : BitVec 32 := 128#32
  let v1297 : BitVec 32 := Scalar.muli v12 c128_i32_852
  let c96_i32_853 : BitVec 32 := 96#32
  let v1298 : BitVec 32 := Scalar.addi v1297 c96_i32_853
  let c8_i32_854 : BitVec 32 := 8#32
  let v1299 : BitVec 32 := Scalar.addi v1298 c8_i32_854
  let c3_i32_855 : BitVec 32 := 3#32
  let v1300 : BitVec 32 := Scalar.addi v1299 c3_i32_855
  let v1301 : Index := Scalar.indexCast v1300
  ![0, 0, v1301.toNat]
def k0_mult130 (v1302 : BitVec 32) : BitVec 32 :=
  v1302

def k0_off244 (v1302 : BitVec 32) : Fin 2 → Nat :=
  let v1303 : BitVec 32 := v1302
  let v1304 : Index := Scalar.indexCast v1303
  let c0_858 : Index := 0#32
  ![v1304.toNat, 0]

def k0_chk108 (v1302 : BitVec 32) : Prop :=
  (4 ∣ (k0_mult130 v1302).toNat) ∧
  (∀ a, (k0_off244 v1302) a + S4x128.size a ≤ S98304x128.size a)
theorem k0_mult130_dvd : ∀ (v1302 : BitVec 32) (k0_hw108 : k0_chk108 v1302), 4 ∣ (k0_mult130 v1302).toNat := fun v1302 k0_hw108 => k0_hw108.1
theorem k0_off244_inb : ∀ (v1302 : BitVec 32) (k0_hw108 : k0_chk108 v1302), ∀ a, (k0_off244 v1302) a + S4x128.size a ≤ S98304x128.size a := fun v1302 k0_hw108 => k0_hw108.2

def k0_off245 (k0_t3 : Fin k0_t3_loop.trips) : Fin 3 → Nat :=
  let c0_864 : Index := 0#32
  let c0_865 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_860 : BitVec 32 := 128#32
  let v1309 : BitVec 32 := Scalar.muli v12 c128_i32_860
  let c96_i32_861 : BitVec 32 := 96#32
  let v1310 : BitVec 32 := Scalar.addi v1309 c96_i32_861
  let c12_i32_862 : BitVec 32 := 12#32
  let v1311 : BitVec 32 := Scalar.addi v1310 c12_i32_862
  let c0_i32_863 : BitVec 32 := 0#32
  let v1312 : BitVec 32 := Scalar.addi v1311 c0_i32_863
  let v1313 : Index := Scalar.indexCast v1312
  ![0, 0, v1313.toNat]
def k0_mult131 (v1314 : BitVec 32) : BitVec 32 :=
  v1314

def k0_off246 (v1314 : BitVec 32) : Fin 2 → Nat :=
  let v1315 : BitVec 32 := v1314
  let v1316 : Index := Scalar.indexCast v1315
  let c0_866 : Index := 0#32
  ![v1316.toNat, 0]

def k0_chk109 (v1314 : BitVec 32) : Prop :=
  (4 ∣ (k0_mult131 v1314).toNat) ∧
  (∀ a, (k0_off246 v1314) a + S4x128.size a ≤ S98304x128.size a)
theorem k0_mult131_dvd : ∀ (v1314 : BitVec 32) (k0_hw109 : k0_chk109 v1314), 4 ∣ (k0_mult131 v1314).toNat := fun v1314 k0_hw109 => k0_hw109.1
theorem k0_off246_inb : ∀ (v1314 : BitVec 32) (k0_hw109 : k0_chk109 v1314), ∀ a, (k0_off246 v1314) a + S4x128.size a ≤ S98304x128.size a := fun v1314 k0_hw109 => k0_hw109.2

def k0_off247 (k0_t3 : Fin k0_t3_loop.trips) : Fin 3 → Nat :=
  let c0_872 : Index := 0#32
  let c0_873 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_868 : BitVec 32 := 128#32
  let v1321 : BitVec 32 := Scalar.muli v12 c128_i32_868
  let c96_i32_869 : BitVec 32 := 96#32
  let v1322 : BitVec 32 := Scalar.addi v1321 c96_i32_869
  let c12_i32_870 : BitVec 32 := 12#32
  let v1323 : BitVec 32 := Scalar.addi v1322 c12_i32_870
  let c1_i32_871 : BitVec 32 := 1#32
  let v1324 : BitVec 32 := Scalar.addi v1323 c1_i32_871
  let v1325 : Index := Scalar.indexCast v1324
  ![0, 0, v1325.toNat]
def k0_mult132 (v1326 : BitVec 32) : BitVec 32 :=
  v1326

def k0_off248 (v1326 : BitVec 32) : Fin 2 → Nat :=
  let v1327 : BitVec 32 := v1326
  let v1328 : Index := Scalar.indexCast v1327
  let c0_874 : Index := 0#32
  ![v1328.toNat, 0]

def k0_chk110 (v1326 : BitVec 32) : Prop :=
  (4 ∣ (k0_mult132 v1326).toNat) ∧
  (∀ a, (k0_off248 v1326) a + S4x128.size a ≤ S98304x128.size a)
theorem k0_mult132_dvd : ∀ (v1326 : BitVec 32) (k0_hw110 : k0_chk110 v1326), 4 ∣ (k0_mult132 v1326).toNat := fun v1326 k0_hw110 => k0_hw110.1
theorem k0_off248_inb : ∀ (v1326 : BitVec 32) (k0_hw110 : k0_chk110 v1326), ∀ a, (k0_off248 v1326) a + S4x128.size a ≤ S98304x128.size a := fun v1326 k0_hw110 => k0_hw110.2

def k0_off249 (k0_t3 : Fin k0_t3_loop.trips) : Fin 3 → Nat :=
  let c0_880 : Index := 0#32
  let c0_881 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_876 : BitVec 32 := 128#32
  let v1333 : BitVec 32 := Scalar.muli v12 c128_i32_876
  let c96_i32_877 : BitVec 32 := 96#32
  let v1334 : BitVec 32 := Scalar.addi v1333 c96_i32_877
  let c12_i32_878 : BitVec 32 := 12#32
  let v1335 : BitVec 32 := Scalar.addi v1334 c12_i32_878
  let c2_i32_879 : BitVec 32 := 2#32
  let v1336 : BitVec 32 := Scalar.addi v1335 c2_i32_879
  let v1337 : Index := Scalar.indexCast v1336
  ![0, 0, v1337.toNat]
def k0_mult133 (v1338 : BitVec 32) : BitVec 32 :=
  v1338

def k0_off250 (v1338 : BitVec 32) : Fin 2 → Nat :=
  let v1339 : BitVec 32 := v1338
  let v1340 : Index := Scalar.indexCast v1339
  let c0_882 : Index := 0#32
  ![v1340.toNat, 0]

def k0_chk111 (v1338 : BitVec 32) : Prop :=
  (4 ∣ (k0_mult133 v1338).toNat) ∧
  (∀ a, (k0_off250 v1338) a + S4x128.size a ≤ S98304x128.size a)
theorem k0_mult133_dvd : ∀ (v1338 : BitVec 32) (k0_hw111 : k0_chk111 v1338), 4 ∣ (k0_mult133 v1338).toNat := fun v1338 k0_hw111 => k0_hw111.1
theorem k0_off250_inb : ∀ (v1338 : BitVec 32) (k0_hw111 : k0_chk111 v1338), ∀ a, (k0_off250 v1338) a + S4x128.size a ≤ S98304x128.size a := fun v1338 k0_hw111 => k0_hw111.2

def k0_off251 (k0_t3 : Fin k0_t3_loop.trips) : Fin 3 → Nat :=
  let c0_888 : Index := 0#32
  let c0_889 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_884 : BitVec 32 := 128#32
  let v1345 : BitVec 32 := Scalar.muli v12 c128_i32_884
  let c96_i32_885 : BitVec 32 := 96#32
  let v1346 : BitVec 32 := Scalar.addi v1345 c96_i32_885
  let c12_i32_886 : BitVec 32 := 12#32
  let v1347 : BitVec 32 := Scalar.addi v1346 c12_i32_886
  let c3_i32_887 : BitVec 32 := 3#32
  let v1348 : BitVec 32 := Scalar.addi v1347 c3_i32_887
  let v1349 : Index := Scalar.indexCast v1348
  ![0, 0, v1349.toNat]
def k0_mult134 (v1350 : BitVec 32) : BitVec 32 :=
  v1350

def k0_off252 (v1350 : BitVec 32) : Fin 2 → Nat :=
  let v1351 : BitVec 32 := v1350
  let v1352 : Index := Scalar.indexCast v1351
  let c0_890 : Index := 0#32
  ![v1352.toNat, 0]

def k0_chk112 (v1350 : BitVec 32) : Prop :=
  (4 ∣ (k0_mult134 v1350).toNat) ∧
  (∀ a, (k0_off252 v1350) a + S4x128.size a ≤ S98304x128.size a)
theorem k0_mult134_dvd : ∀ (v1350 : BitVec 32) (k0_hw112 : k0_chk112 v1350), 4 ∣ (k0_mult134 v1350).toNat := fun v1350 k0_hw112 => k0_hw112.1
theorem k0_off252_inb : ∀ (v1350 : BitVec 32) (k0_hw112 : k0_chk112 v1350), ∀ a, (k0_off252 v1350) a + S4x128.size a ≤ S98304x128.size a := fun v1350 k0_hw112 => k0_hw112.2

def k0_off253 (k0_t3 : Fin k0_t3_loop.trips) : Fin 3 → Nat :=
  let c0_896 : Index := 0#32
  let c0_897 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_892 : BitVec 32 := 128#32
  let v1357 : BitVec 32 := Scalar.muli v12 c128_i32_892
  let c96_i32_893 : BitVec 32 := 96#32
  let v1358 : BitVec 32 := Scalar.addi v1357 c96_i32_893
  let c16_i32_894 : BitVec 32 := 16#32
  let v1359 : BitVec 32 := Scalar.addi v1358 c16_i32_894
  let c0_i32_895 : BitVec 32 := 0#32
  let v1360 : BitVec 32 := Scalar.addi v1359 c0_i32_895
  let v1361 : Index := Scalar.indexCast v1360
  ![0, 0, v1361.toNat]
def k0_mult135 (v1362 : BitVec 32) : BitVec 32 :=
  v1362

def k0_off254 (v1362 : BitVec 32) : Fin 2 → Nat :=
  let v1363 : BitVec 32 := v1362
  let v1364 : Index := Scalar.indexCast v1363
  let c0_898 : Index := 0#32
  ![v1364.toNat, 0]

def k0_chk113 (v1362 : BitVec 32) : Prop :=
  (4 ∣ (k0_mult135 v1362).toNat) ∧
  (∀ a, (k0_off254 v1362) a + S4x128.size a ≤ S98304x128.size a)
theorem k0_mult135_dvd : ∀ (v1362 : BitVec 32) (k0_hw113 : k0_chk113 v1362), 4 ∣ (k0_mult135 v1362).toNat := fun v1362 k0_hw113 => k0_hw113.1
theorem k0_off254_inb : ∀ (v1362 : BitVec 32) (k0_hw113 : k0_chk113 v1362), ∀ a, (k0_off254 v1362) a + S4x128.size a ≤ S98304x128.size a := fun v1362 k0_hw113 => k0_hw113.2

def k0_off255 (k0_t3 : Fin k0_t3_loop.trips) : Fin 3 → Nat :=
  let c0_904 : Index := 0#32
  let c0_905 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_900 : BitVec 32 := 128#32
  let v1369 : BitVec 32 := Scalar.muli v12 c128_i32_900
  let c96_i32_901 : BitVec 32 := 96#32
  let v1370 : BitVec 32 := Scalar.addi v1369 c96_i32_901
  let c16_i32_902 : BitVec 32 := 16#32
  let v1371 : BitVec 32 := Scalar.addi v1370 c16_i32_902
  let c1_i32_903 : BitVec 32 := 1#32
  let v1372 : BitVec 32 := Scalar.addi v1371 c1_i32_903
  let v1373 : Index := Scalar.indexCast v1372
  ![0, 0, v1373.toNat]
def k0_mult136 (v1374 : BitVec 32) : BitVec 32 :=
  v1374

def k0_off256 (v1374 : BitVec 32) : Fin 2 → Nat :=
  let v1375 : BitVec 32 := v1374
  let v1376 : Index := Scalar.indexCast v1375
  let c0_906 : Index := 0#32
  ![v1376.toNat, 0]

def k0_chk114 (v1374 : BitVec 32) : Prop :=
  (4 ∣ (k0_mult136 v1374).toNat) ∧
  (∀ a, (k0_off256 v1374) a + S4x128.size a ≤ S98304x128.size a)
theorem k0_mult136_dvd : ∀ (v1374 : BitVec 32) (k0_hw114 : k0_chk114 v1374), 4 ∣ (k0_mult136 v1374).toNat := fun v1374 k0_hw114 => k0_hw114.1
theorem k0_off256_inb : ∀ (v1374 : BitVec 32) (k0_hw114 : k0_chk114 v1374), ∀ a, (k0_off256 v1374) a + S4x128.size a ≤ S98304x128.size a := fun v1374 k0_hw114 => k0_hw114.2

def k0_off257 (k0_t3 : Fin k0_t3_loop.trips) : Fin 3 → Nat :=
  let c0_912 : Index := 0#32
  let c0_913 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_908 : BitVec 32 := 128#32
  let v1381 : BitVec 32 := Scalar.muli v12 c128_i32_908
  let c96_i32_909 : BitVec 32 := 96#32
  let v1382 : BitVec 32 := Scalar.addi v1381 c96_i32_909
  let c16_i32_910 : BitVec 32 := 16#32
  let v1383 : BitVec 32 := Scalar.addi v1382 c16_i32_910
  let c2_i32_911 : BitVec 32 := 2#32
  let v1384 : BitVec 32 := Scalar.addi v1383 c2_i32_911
  let v1385 : Index := Scalar.indexCast v1384
  ![0, 0, v1385.toNat]
def k0_mult137 (v1386 : BitVec 32) : BitVec 32 :=
  v1386

def k0_off258 (v1386 : BitVec 32) : Fin 2 → Nat :=
  let v1387 : BitVec 32 := v1386
  let v1388 : Index := Scalar.indexCast v1387
  let c0_914 : Index := 0#32
  ![v1388.toNat, 0]

def k0_chk115 (v1386 : BitVec 32) : Prop :=
  (4 ∣ (k0_mult137 v1386).toNat) ∧
  (∀ a, (k0_off258 v1386) a + S4x128.size a ≤ S98304x128.size a)
theorem k0_mult137_dvd : ∀ (v1386 : BitVec 32) (k0_hw115 : k0_chk115 v1386), 4 ∣ (k0_mult137 v1386).toNat := fun v1386 k0_hw115 => k0_hw115.1
theorem k0_off258_inb : ∀ (v1386 : BitVec 32) (k0_hw115 : k0_chk115 v1386), ∀ a, (k0_off258 v1386) a + S4x128.size a ≤ S98304x128.size a := fun v1386 k0_hw115 => k0_hw115.2

def k0_off259 (k0_t3 : Fin k0_t3_loop.trips) : Fin 3 → Nat :=
  let c0_920 : Index := 0#32
  let c0_921 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_916 : BitVec 32 := 128#32
  let v1393 : BitVec 32 := Scalar.muli v12 c128_i32_916
  let c96_i32_917 : BitVec 32 := 96#32
  let v1394 : BitVec 32 := Scalar.addi v1393 c96_i32_917
  let c16_i32_918 : BitVec 32 := 16#32
  let v1395 : BitVec 32 := Scalar.addi v1394 c16_i32_918
  let c3_i32_919 : BitVec 32 := 3#32
  let v1396 : BitVec 32 := Scalar.addi v1395 c3_i32_919
  let v1397 : Index := Scalar.indexCast v1396
  ![0, 0, v1397.toNat]
def k0_mult138 (v1398 : BitVec 32) : BitVec 32 :=
  v1398

def k0_off260 (v1398 : BitVec 32) : Fin 2 → Nat :=
  let v1399 : BitVec 32 := v1398
  let v1400 : Index := Scalar.indexCast v1399
  let c0_922 : Index := 0#32
  ![v1400.toNat, 0]

def k0_chk116 (v1398 : BitVec 32) : Prop :=
  (4 ∣ (k0_mult138 v1398).toNat) ∧
  (∀ a, (k0_off260 v1398) a + S4x128.size a ≤ S98304x128.size a)
theorem k0_mult138_dvd : ∀ (v1398 : BitVec 32) (k0_hw116 : k0_chk116 v1398), 4 ∣ (k0_mult138 v1398).toNat := fun v1398 k0_hw116 => k0_hw116.1
theorem k0_off260_inb : ∀ (v1398 : BitVec 32) (k0_hw116 : k0_chk116 v1398), ∀ a, (k0_off260 v1398) a + S4x128.size a ≤ S98304x128.size a := fun v1398 k0_hw116 => k0_hw116.2

def k0_off261 (k0_t3 : Fin k0_t3_loop.trips) : Fin 3 → Nat :=
  let c0_928 : Index := 0#32
  let c0_929 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_924 : BitVec 32 := 128#32
  let v1405 : BitVec 32 := Scalar.muli v12 c128_i32_924
  let c96_i32_925 : BitVec 32 := 96#32
  let v1406 : BitVec 32 := Scalar.addi v1405 c96_i32_925
  let c20_i32_926 : BitVec 32 := 20#32
  let v1407 : BitVec 32 := Scalar.addi v1406 c20_i32_926
  let c0_i32_927 : BitVec 32 := 0#32
  let v1408 : BitVec 32 := Scalar.addi v1407 c0_i32_927
  let v1409 : Index := Scalar.indexCast v1408
  ![0, 0, v1409.toNat]
def k0_mult139 (v1410 : BitVec 32) : BitVec 32 :=
  v1410

def k0_off262 (v1410 : BitVec 32) : Fin 2 → Nat :=
  let v1411 : BitVec 32 := v1410
  let v1412 : Index := Scalar.indexCast v1411
  let c0_930 : Index := 0#32
  ![v1412.toNat, 0]

def k0_chk117 (v1410 : BitVec 32) : Prop :=
  (4 ∣ (k0_mult139 v1410).toNat) ∧
  (∀ a, (k0_off262 v1410) a + S4x128.size a ≤ S98304x128.size a)
theorem k0_mult139_dvd : ∀ (v1410 : BitVec 32) (k0_hw117 : k0_chk117 v1410), 4 ∣ (k0_mult139 v1410).toNat := fun v1410 k0_hw117 => k0_hw117.1
theorem k0_off262_inb : ∀ (v1410 : BitVec 32) (k0_hw117 : k0_chk117 v1410), ∀ a, (k0_off262 v1410) a + S4x128.size a ≤ S98304x128.size a := fun v1410 k0_hw117 => k0_hw117.2

def k0_off263 (k0_t3 : Fin k0_t3_loop.trips) : Fin 3 → Nat :=
  let c0_936 : Index := 0#32
  let c0_937 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_932 : BitVec 32 := 128#32
  let v1417 : BitVec 32 := Scalar.muli v12 c128_i32_932
  let c96_i32_933 : BitVec 32 := 96#32
  let v1418 : BitVec 32 := Scalar.addi v1417 c96_i32_933
  let c20_i32_934 : BitVec 32 := 20#32
  let v1419 : BitVec 32 := Scalar.addi v1418 c20_i32_934
  let c1_i32_935 : BitVec 32 := 1#32
  let v1420 : BitVec 32 := Scalar.addi v1419 c1_i32_935
  let v1421 : Index := Scalar.indexCast v1420
  ![0, 0, v1421.toNat]
def k0_mult140 (v1422 : BitVec 32) : BitVec 32 :=
  v1422

def k0_off264 (v1422 : BitVec 32) : Fin 2 → Nat :=
  let v1423 : BitVec 32 := v1422
  let v1424 : Index := Scalar.indexCast v1423
  let c0_938 : Index := 0#32
  ![v1424.toNat, 0]

def k0_chk118 (v1422 : BitVec 32) : Prop :=
  (4 ∣ (k0_mult140 v1422).toNat) ∧
  (∀ a, (k0_off264 v1422) a + S4x128.size a ≤ S98304x128.size a)
theorem k0_mult140_dvd : ∀ (v1422 : BitVec 32) (k0_hw118 : k0_chk118 v1422), 4 ∣ (k0_mult140 v1422).toNat := fun v1422 k0_hw118 => k0_hw118.1
theorem k0_off264_inb : ∀ (v1422 : BitVec 32) (k0_hw118 : k0_chk118 v1422), ∀ a, (k0_off264 v1422) a + S4x128.size a ≤ S98304x128.size a := fun v1422 k0_hw118 => k0_hw118.2

def k0_off265 (k0_t3 : Fin k0_t3_loop.trips) : Fin 3 → Nat :=
  let c0_944 : Index := 0#32
  let c0_945 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_940 : BitVec 32 := 128#32
  let v1429 : BitVec 32 := Scalar.muli v12 c128_i32_940
  let c96_i32_941 : BitVec 32 := 96#32
  let v1430 : BitVec 32 := Scalar.addi v1429 c96_i32_941
  let c20_i32_942 : BitVec 32 := 20#32
  let v1431 : BitVec 32 := Scalar.addi v1430 c20_i32_942
  let c2_i32_943 : BitVec 32 := 2#32
  let v1432 : BitVec 32 := Scalar.addi v1431 c2_i32_943
  let v1433 : Index := Scalar.indexCast v1432
  ![0, 0, v1433.toNat]
def k0_mult141 (v1434 : BitVec 32) : BitVec 32 :=
  v1434

def k0_off266 (v1434 : BitVec 32) : Fin 2 → Nat :=
  let v1435 : BitVec 32 := v1434
  let v1436 : Index := Scalar.indexCast v1435
  let c0_946 : Index := 0#32
  ![v1436.toNat, 0]

def k0_chk119 (v1434 : BitVec 32) : Prop :=
  (4 ∣ (k0_mult141 v1434).toNat) ∧
  (∀ a, (k0_off266 v1434) a + S4x128.size a ≤ S98304x128.size a)
theorem k0_mult141_dvd : ∀ (v1434 : BitVec 32) (k0_hw119 : k0_chk119 v1434), 4 ∣ (k0_mult141 v1434).toNat := fun v1434 k0_hw119 => k0_hw119.1
theorem k0_off266_inb : ∀ (v1434 : BitVec 32) (k0_hw119 : k0_chk119 v1434), ∀ a, (k0_off266 v1434) a + S4x128.size a ≤ S98304x128.size a := fun v1434 k0_hw119 => k0_hw119.2

def k0_off267 (k0_t3 : Fin k0_t3_loop.trips) : Fin 3 → Nat :=
  let c0_952 : Index := 0#32
  let c0_953 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_948 : BitVec 32 := 128#32
  let v1441 : BitVec 32 := Scalar.muli v12 c128_i32_948
  let c96_i32_949 : BitVec 32 := 96#32
  let v1442 : BitVec 32 := Scalar.addi v1441 c96_i32_949
  let c20_i32_950 : BitVec 32 := 20#32
  let v1443 : BitVec 32 := Scalar.addi v1442 c20_i32_950
  let c3_i32_951 : BitVec 32 := 3#32
  let v1444 : BitVec 32 := Scalar.addi v1443 c3_i32_951
  let v1445 : Index := Scalar.indexCast v1444
  ![0, 0, v1445.toNat]
def k0_mult142 (v1446 : BitVec 32) : BitVec 32 :=
  v1446

def k0_off268 (v1446 : BitVec 32) : Fin 2 → Nat :=
  let v1447 : BitVec 32 := v1446
  let v1448 : Index := Scalar.indexCast v1447
  let c0_954 : Index := 0#32
  ![v1448.toNat, 0]

def k0_chk120 (v1446 : BitVec 32) : Prop :=
  (4 ∣ (k0_mult142 v1446).toNat) ∧
  (∀ a, (k0_off268 v1446) a + S4x128.size a ≤ S98304x128.size a)
theorem k0_mult142_dvd : ∀ (v1446 : BitVec 32) (k0_hw120 : k0_chk120 v1446), 4 ∣ (k0_mult142 v1446).toNat := fun v1446 k0_hw120 => k0_hw120.1
theorem k0_off268_inb : ∀ (v1446 : BitVec 32) (k0_hw120 : k0_chk120 v1446), ∀ a, (k0_off268 v1446) a + S4x128.size a ≤ S98304x128.size a := fun v1446 k0_hw120 => k0_hw120.2

def k0_off269 (k0_t3 : Fin k0_t3_loop.trips) : Fin 3 → Nat :=
  let c0_960 : Index := 0#32
  let c0_961 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_956 : BitVec 32 := 128#32
  let v1453 : BitVec 32 := Scalar.muli v12 c128_i32_956
  let c96_i32_957 : BitVec 32 := 96#32
  let v1454 : BitVec 32 := Scalar.addi v1453 c96_i32_957
  let c24_i32_958 : BitVec 32 := 24#32
  let v1455 : BitVec 32 := Scalar.addi v1454 c24_i32_958
  let c0_i32_959 : BitVec 32 := 0#32
  let v1456 : BitVec 32 := Scalar.addi v1455 c0_i32_959
  let v1457 : Index := Scalar.indexCast v1456
  ![0, 0, v1457.toNat]
def k0_mult143 (v1458 : BitVec 32) : BitVec 32 :=
  v1458

def k0_off270 (v1458 : BitVec 32) : Fin 2 → Nat :=
  let v1459 : BitVec 32 := v1458
  let v1460 : Index := Scalar.indexCast v1459
  let c0_962 : Index := 0#32
  ![v1460.toNat, 0]

def k0_chk121 (v1458 : BitVec 32) : Prop :=
  (4 ∣ (k0_mult143 v1458).toNat) ∧
  (∀ a, (k0_off270 v1458) a + S4x128.size a ≤ S98304x128.size a)
theorem k0_mult143_dvd : ∀ (v1458 : BitVec 32) (k0_hw121 : k0_chk121 v1458), 4 ∣ (k0_mult143 v1458).toNat := fun v1458 k0_hw121 => k0_hw121.1
theorem k0_off270_inb : ∀ (v1458 : BitVec 32) (k0_hw121 : k0_chk121 v1458), ∀ a, (k0_off270 v1458) a + S4x128.size a ≤ S98304x128.size a := fun v1458 k0_hw121 => k0_hw121.2

def k0_off271 (k0_t3 : Fin k0_t3_loop.trips) : Fin 3 → Nat :=
  let c0_968 : Index := 0#32
  let c0_969 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_964 : BitVec 32 := 128#32
  let v1465 : BitVec 32 := Scalar.muli v12 c128_i32_964
  let c96_i32_965 : BitVec 32 := 96#32
  let v1466 : BitVec 32 := Scalar.addi v1465 c96_i32_965
  let c24_i32_966 : BitVec 32 := 24#32
  let v1467 : BitVec 32 := Scalar.addi v1466 c24_i32_966
  let c1_i32_967 : BitVec 32 := 1#32
  let v1468 : BitVec 32 := Scalar.addi v1467 c1_i32_967
  let v1469 : Index := Scalar.indexCast v1468
  ![0, 0, v1469.toNat]
def k0_mult144 (v1470 : BitVec 32) : BitVec 32 :=
  v1470

def k0_off272 (v1470 : BitVec 32) : Fin 2 → Nat :=
  let v1471 : BitVec 32 := v1470
  let v1472 : Index := Scalar.indexCast v1471
  let c0_970 : Index := 0#32
  ![v1472.toNat, 0]

def k0_chk122 (v1470 : BitVec 32) : Prop :=
  (4 ∣ (k0_mult144 v1470).toNat) ∧
  (∀ a, (k0_off272 v1470) a + S4x128.size a ≤ S98304x128.size a)
theorem k0_mult144_dvd : ∀ (v1470 : BitVec 32) (k0_hw122 : k0_chk122 v1470), 4 ∣ (k0_mult144 v1470).toNat := fun v1470 k0_hw122 => k0_hw122.1
theorem k0_off272_inb : ∀ (v1470 : BitVec 32) (k0_hw122 : k0_chk122 v1470), ∀ a, (k0_off272 v1470) a + S4x128.size a ≤ S98304x128.size a := fun v1470 k0_hw122 => k0_hw122.2

def k0_off273 (k0_t3 : Fin k0_t3_loop.trips) : Fin 3 → Nat :=
  let c0_976 : Index := 0#32
  let c0_977 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_972 : BitVec 32 := 128#32
  let v1477 : BitVec 32 := Scalar.muli v12 c128_i32_972
  let c96_i32_973 : BitVec 32 := 96#32
  let v1478 : BitVec 32 := Scalar.addi v1477 c96_i32_973
  let c24_i32_974 : BitVec 32 := 24#32
  let v1479 : BitVec 32 := Scalar.addi v1478 c24_i32_974
  let c2_i32_975 : BitVec 32 := 2#32
  let v1480 : BitVec 32 := Scalar.addi v1479 c2_i32_975
  let v1481 : Index := Scalar.indexCast v1480
  ![0, 0, v1481.toNat]
def k0_mult145 (v1482 : BitVec 32) : BitVec 32 :=
  v1482

def k0_off274 (v1482 : BitVec 32) : Fin 2 → Nat :=
  let v1483 : BitVec 32 := v1482
  let v1484 : Index := Scalar.indexCast v1483
  let c0_978 : Index := 0#32
  ![v1484.toNat, 0]

def k0_chk123 (v1482 : BitVec 32) : Prop :=
  (4 ∣ (k0_mult145 v1482).toNat) ∧
  (∀ a, (k0_off274 v1482) a + S4x128.size a ≤ S98304x128.size a)
theorem k0_mult145_dvd : ∀ (v1482 : BitVec 32) (k0_hw123 : k0_chk123 v1482), 4 ∣ (k0_mult145 v1482).toNat := fun v1482 k0_hw123 => k0_hw123.1
theorem k0_off274_inb : ∀ (v1482 : BitVec 32) (k0_hw123 : k0_chk123 v1482), ∀ a, (k0_off274 v1482) a + S4x128.size a ≤ S98304x128.size a := fun v1482 k0_hw123 => k0_hw123.2

def k0_off275 (k0_t3 : Fin k0_t3_loop.trips) : Fin 3 → Nat :=
  let c0_984 : Index := 0#32
  let c0_985 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_980 : BitVec 32 := 128#32
  let v1489 : BitVec 32 := Scalar.muli v12 c128_i32_980
  let c96_i32_981 : BitVec 32 := 96#32
  let v1490 : BitVec 32 := Scalar.addi v1489 c96_i32_981
  let c24_i32_982 : BitVec 32 := 24#32
  let v1491 : BitVec 32 := Scalar.addi v1490 c24_i32_982
  let c3_i32_983 : BitVec 32 := 3#32
  let v1492 : BitVec 32 := Scalar.addi v1491 c3_i32_983
  let v1493 : Index := Scalar.indexCast v1492
  ![0, 0, v1493.toNat]
def k0_mult146 (v1494 : BitVec 32) : BitVec 32 :=
  v1494

def k0_off276 (v1494 : BitVec 32) : Fin 2 → Nat :=
  let v1495 : BitVec 32 := v1494
  let v1496 : Index := Scalar.indexCast v1495
  let c0_986 : Index := 0#32
  ![v1496.toNat, 0]

def k0_chk124 (v1494 : BitVec 32) : Prop :=
  (4 ∣ (k0_mult146 v1494).toNat) ∧
  (∀ a, (k0_off276 v1494) a + S4x128.size a ≤ S98304x128.size a)
theorem k0_mult146_dvd : ∀ (v1494 : BitVec 32) (k0_hw124 : k0_chk124 v1494), 4 ∣ (k0_mult146 v1494).toNat := fun v1494 k0_hw124 => k0_hw124.1
theorem k0_off276_inb : ∀ (v1494 : BitVec 32) (k0_hw124 : k0_chk124 v1494), ∀ a, (k0_off276 v1494) a + S4x128.size a ≤ S98304x128.size a := fun v1494 k0_hw124 => k0_hw124.2

def k0_off277 (k0_t3 : Fin k0_t3_loop.trips) : Fin 3 → Nat :=
  let c0_992 : Index := 0#32
  let c0_993 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_988 : BitVec 32 := 128#32
  let v1501 : BitVec 32 := Scalar.muli v12 c128_i32_988
  let c96_i32_989 : BitVec 32 := 96#32
  let v1502 : BitVec 32 := Scalar.addi v1501 c96_i32_989
  let c28_i32_990 : BitVec 32 := 28#32
  let v1503 : BitVec 32 := Scalar.addi v1502 c28_i32_990
  let c0_i32_991 : BitVec 32 := 0#32
  let v1504 : BitVec 32 := Scalar.addi v1503 c0_i32_991
  let v1505 : Index := Scalar.indexCast v1504
  ![0, 0, v1505.toNat]
def k0_mult147 (v1506 : BitVec 32) : BitVec 32 :=
  v1506

def k0_off278 (v1506 : BitVec 32) : Fin 2 → Nat :=
  let v1507 : BitVec 32 := v1506
  let v1508 : Index := Scalar.indexCast v1507
  let c0_994 : Index := 0#32
  ![v1508.toNat, 0]

def k0_chk125 (v1506 : BitVec 32) : Prop :=
  (4 ∣ (k0_mult147 v1506).toNat) ∧
  (∀ a, (k0_off278 v1506) a + S4x128.size a ≤ S98304x128.size a)
theorem k0_mult147_dvd : ∀ (v1506 : BitVec 32) (k0_hw125 : k0_chk125 v1506), 4 ∣ (k0_mult147 v1506).toNat := fun v1506 k0_hw125 => k0_hw125.1
theorem k0_off278_inb : ∀ (v1506 : BitVec 32) (k0_hw125 : k0_chk125 v1506), ∀ a, (k0_off278 v1506) a + S4x128.size a ≤ S98304x128.size a := fun v1506 k0_hw125 => k0_hw125.2

def k0_off279 (k0_t3 : Fin k0_t3_loop.trips) : Fin 3 → Nat :=
  let c0_1000 : Index := 0#32
  let c0_1001 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_996 : BitVec 32 := 128#32
  let v1513 : BitVec 32 := Scalar.muli v12 c128_i32_996
  let c96_i32_997 : BitVec 32 := 96#32
  let v1514 : BitVec 32 := Scalar.addi v1513 c96_i32_997
  let c28_i32_998 : BitVec 32 := 28#32
  let v1515 : BitVec 32 := Scalar.addi v1514 c28_i32_998
  let c1_i32_999 : BitVec 32 := 1#32
  let v1516 : BitVec 32 := Scalar.addi v1515 c1_i32_999
  let v1517 : Index := Scalar.indexCast v1516
  ![0, 0, v1517.toNat]
def k0_mult148 (v1518 : BitVec 32) : BitVec 32 :=
  v1518

def k0_off280 (v1518 : BitVec 32) : Fin 2 → Nat :=
  let v1519 : BitVec 32 := v1518
  let v1520 : Index := Scalar.indexCast v1519
  let c0_1002 : Index := 0#32
  ![v1520.toNat, 0]

def k0_chk126 (v1518 : BitVec 32) : Prop :=
  (4 ∣ (k0_mult148 v1518).toNat) ∧
  (∀ a, (k0_off280 v1518) a + S4x128.size a ≤ S98304x128.size a)
theorem k0_mult148_dvd : ∀ (v1518 : BitVec 32) (k0_hw126 : k0_chk126 v1518), 4 ∣ (k0_mult148 v1518).toNat := fun v1518 k0_hw126 => k0_hw126.1
theorem k0_off280_inb : ∀ (v1518 : BitVec 32) (k0_hw126 : k0_chk126 v1518), ∀ a, (k0_off280 v1518) a + S4x128.size a ≤ S98304x128.size a := fun v1518 k0_hw126 => k0_hw126.2

def k0_off281 (k0_t3 : Fin k0_t3_loop.trips) : Fin 3 → Nat :=
  let c0_1008 : Index := 0#32
  let c0_1009 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_1004 : BitVec 32 := 128#32
  let v1525 : BitVec 32 := Scalar.muli v12 c128_i32_1004
  let c96_i32_1005 : BitVec 32 := 96#32
  let v1526 : BitVec 32 := Scalar.addi v1525 c96_i32_1005
  let c28_i32_1006 : BitVec 32 := 28#32
  let v1527 : BitVec 32 := Scalar.addi v1526 c28_i32_1006
  let c2_i32_1007 : BitVec 32 := 2#32
  let v1528 : BitVec 32 := Scalar.addi v1527 c2_i32_1007
  let v1529 : Index := Scalar.indexCast v1528
  ![0, 0, v1529.toNat]
def k0_mult149 (v1530 : BitVec 32) : BitVec 32 :=
  v1530

def k0_off282 (v1530 : BitVec 32) : Fin 2 → Nat :=
  let v1531 : BitVec 32 := v1530
  let v1532 : Index := Scalar.indexCast v1531
  let c0_1010 : Index := 0#32
  ![v1532.toNat, 0]

def k0_chk127 (v1530 : BitVec 32) : Prop :=
  (4 ∣ (k0_mult149 v1530).toNat) ∧
  (∀ a, (k0_off282 v1530) a + S4x128.size a ≤ S98304x128.size a)
theorem k0_mult149_dvd : ∀ (v1530 : BitVec 32) (k0_hw127 : k0_chk127 v1530), 4 ∣ (k0_mult149 v1530).toNat := fun v1530 k0_hw127 => k0_hw127.1
theorem k0_off282_inb : ∀ (v1530 : BitVec 32) (k0_hw127 : k0_chk127 v1530), ∀ a, (k0_off282 v1530) a + S4x128.size a ≤ S98304x128.size a := fun v1530 k0_hw127 => k0_hw127.2

def k0_off283 (k0_t3 : Fin k0_t3_loop.trips) : Fin 3 → Nat :=
  let c0_1016 : Index := 0#32
  let c0_1017 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_1012 : BitVec 32 := 128#32
  let v1537 : BitVec 32 := Scalar.muli v12 c128_i32_1012
  let c96_i32_1013 : BitVec 32 := 96#32
  let v1538 : BitVec 32 := Scalar.addi v1537 c96_i32_1013
  let c28_i32_1014 : BitVec 32 := 28#32
  let v1539 : BitVec 32 := Scalar.addi v1538 c28_i32_1014
  let c3_i32_1015 : BitVec 32 := 3#32
  let v1540 : BitVec 32 := Scalar.addi v1539 c3_i32_1015
  let v1541 : Index := Scalar.indexCast v1540
  ![0, 0, v1541.toNat]
def k0_mult150 (v1542 : BitVec 32) : BitVec 32 :=
  v1542

def k0_off284 (v1542 : BitVec 32) : Fin 2 → Nat :=
  let v1543 : BitVec 32 := v1542
  let v1544 : Index := Scalar.indexCast v1543
  let c0_1018 : Index := 0#32
  ![v1544.toNat, 0]

def k0_chk128 (v1542 : BitVec 32) : Prop :=
  (4 ∣ (k0_mult150 v1542).toNat) ∧
  (∀ a, (k0_off284 v1542) a + S4x128.size a ≤ S98304x128.size a)
theorem k0_mult150_dvd : ∀ (v1542 : BitVec 32) (k0_hw128 : k0_chk128 v1542), 4 ∣ (k0_mult150 v1542).toNat := fun v1542 k0_hw128 => k0_hw128.1
theorem k0_off284_inb : ∀ (v1542 : BitVec 32) (k0_hw128 : k0_chk128 v1542), ∀ a, (k0_off284 v1542) a + S4x128.size a ≤ S98304x128.size a := fun v1542 k0_hw128 => k0_hw128.2

def k0_off285 (k0_t3 : Fin k0_t3_loop.trips) : Fin 3 → Nat :=
  let c0_1020 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let v1549 : Index := Scalar.indexCast v12
  let c0_1021 : Index := 0#32
  ![0, v1549.toNat, 0]
def k0_mult151 (k0_t3 : Fin k0_t3_loop.trips) : BitVec 32 :=
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_1022 : BitVec 32 := 128#32
  let v1555 : BitVec 32 := Scalar.muli v12 c128_i32_1022
  v1555
def k0_off286 (k0_t3 : Fin k0_t3_loop.trips) (c0_i32_1054 : BitVec 32) : Fin 3 → Nat :=
  let c0_1055 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_1022 : BitVec 32 := 128#32
  let v1555 : BitVec 32 := Scalar.muli v12 c128_i32_1022
  let v1556 : BitVec 32 := v1555
  let v1625 : BitVec 32 := Scalar.addi v1556 c0_i32_1054
  let v1626 : Index := Scalar.indexCast v1625
  let c0_1056 : Index := 0#32
  ![0, v1626.toNat, 0]
def k0_off287 (k0_t3 : Fin k0_t3_loop.trips) (c0_i32_1059 : BitVec 32) : Fin 3 → Nat :=
  let c0_1060 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_1022 : BitVec 32 := 128#32
  let v1555 : BitVec 32 := Scalar.muli v12 c128_i32_1022
  let v1556 : BitVec 32 := v1555
  let v1642 : BitVec 32 := Scalar.addi v1556 c0_i32_1059
  let v1643 : Index := Scalar.indexCast v1642
  let c128_1061 : Index := 128#32
  ![0, v1643.toNat, 128]
def k0_off288 (k0_t3 : Fin k0_t3_loop.trips) (c0_i32_1064 : BitVec 32) : Fin 3 → Nat :=
  let c0_1065 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_1022 : BitVec 32 := 128#32
  let v1555 : BitVec 32 := Scalar.muli v12 c128_i32_1022
  let v1556 : BitVec 32 := v1555
  let v1660 : BitVec 32 := Scalar.addi v1556 c0_i32_1064
  let v1661 : Index := Scalar.indexCast v1660
  let c256_1066 : Index := 256#32
  ![0, v1661.toNat, 256]
def k0_off289 (k0_t3 : Fin k0_t3_loop.trips) (c0_i32_1069 : BitVec 32) : Fin 3 → Nat :=
  let c0_1070 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_1022 : BitVec 32 := 128#32
  let v1555 : BitVec 32 := Scalar.muli v12 c128_i32_1022
  let v1556 : BitVec 32 := v1555
  let v1678 : BitVec 32 := Scalar.addi v1556 c0_i32_1069
  let v1679 : Index := Scalar.indexCast v1678
  let c384_1071 : Index := 384#32
  ![0, v1679.toNat, 384]
def k0_off290 (k0_t3 : Fin k0_t3_loop.trips) : Fin 3 → Nat :=
  let c0_1228 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_1022 : BitVec 32 := 128#32
  let v1555 : BitVec 32 := Scalar.muli v12 c128_i32_1022
  let v1556 : BitVec 32 := v1555
  let v2075 : Index := Scalar.indexCast v1556
  let c0_1229 : Index := 0#32
  ![0, v2075.toNat, 0]
def k0_off291 (k0_t3 : Fin k0_t3_loop.trips) (c0_i32_1261 : BitVec 32) : Fin 3 → Nat :=
  let c0_1262 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_1022 : BitVec 32 := 128#32
  let v1555 : BitVec 32 := Scalar.muli v12 c128_i32_1022
  let v1556 : BitVec 32 := v1555
  let v2147 : BitVec 32 := Scalar.addi v1556 c0_i32_1261
  let v2148 : Index := Scalar.indexCast v2147
  let c512 : Index := 512#32
  ![0, v2148.toNat, 512]
def k0_off292 (k0_t3 : Fin k0_t3_loop.trips) (c0_i32_1265 : BitVec 32) : Fin 3 → Nat :=
  let c0_1266 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_1022 : BitVec 32 := 128#32
  let v1555 : BitVec 32 := Scalar.muli v12 c128_i32_1022
  let v1556 : BitVec 32 := v1555
  let v2165 : BitVec 32 := Scalar.addi v1556 c0_i32_1265
  let v2166 : Index := Scalar.indexCast v2165
  let c640 : Index := 640#32
  ![0, v2166.toNat, 640]
def k0_off293 (k0_t3 : Fin k0_t3_loop.trips) (c0_i32_1269 : BitVec 32) : Fin 3 → Nat :=
  let c0_1270 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_1022 : BitVec 32 := 128#32
  let v1555 : BitVec 32 := Scalar.muli v12 c128_i32_1022
  let v1556 : BitVec 32 := v1555
  let v2183 : BitVec 32 := Scalar.addi v1556 c0_i32_1269
  let v2184 : Index := Scalar.indexCast v2183
  let c768 : Index := 768#32
  ![0, v2184.toNat, 768]
def k0_off294 (k0_t3 : Fin k0_t3_loop.trips) (c0_i32_1273 : BitVec 32) : Fin 3 → Nat :=
  let c0_1274 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_1022 : BitVec 32 := 128#32
  let v1555 : BitVec 32 := Scalar.muli v12 c128_i32_1022
  let v1556 : BitVec 32 := v1555
  let v2201 : BitVec 32 := Scalar.addi v1556 c0_i32_1273
  let v2202 : Index := Scalar.indexCast v2201
  let c896 : Index := 896#32
  ![0, v2202.toNat, 896]
def k0_off295 (k0_t3 : Fin k0_t3_loop.trips) : Fin 3 → Nat :=
  let c0_1419 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_1022 : BitVec 32 := 128#32
  let v1555 : BitVec 32 := Scalar.muli v12 c128_i32_1022
  let v1556 : BitVec 32 := v1555
  let v2601 : Index := Scalar.indexCast v1556
  let c512_1420 : Index := 512#32
  ![0, v2601.toNat, 512]
def k0_off296 (k0_t3 : Fin k0_t3_loop.trips) (c0_i32_1452 : BitVec 32) : Fin 3 → Nat :=
  let c0_1453 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_1022 : BitVec 32 := 128#32
  let v1555 : BitVec 32 := Scalar.muli v12 c128_i32_1022
  let v1556 : BitVec 32 := v1555
  let v2673 : BitVec 32 := Scalar.addi v1556 c0_i32_1452
  let v2674 : Index := Scalar.indexCast v2673
  let c1024 : Index := 1024#32
  ![0, v2674.toNat, 1024]
def k0_off297 (k0_t3 : Fin k0_t3_loop.trips) (c0_i32_1456 : BitVec 32) : Fin 3 → Nat :=
  let c0_1457 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_1022 : BitVec 32 := 128#32
  let v1555 : BitVec 32 := Scalar.muli v12 c128_i32_1022
  let v1556 : BitVec 32 := v1555
  let v2691 : BitVec 32 := Scalar.addi v1556 c0_i32_1456
  let v2692 : Index := Scalar.indexCast v2691
  let c1152 : Index := 1152#32
  ![0, v2692.toNat, 1152]
def k0_off298 (k0_t3 : Fin k0_t3_loop.trips) (c0_i32_1460 : BitVec 32) : Fin 3 → Nat :=
  let c0_1461 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_1022 : BitVec 32 := 128#32
  let v1555 : BitVec 32 := Scalar.muli v12 c128_i32_1022
  let v1556 : BitVec 32 := v1555
  let v2709 : BitVec 32 := Scalar.addi v1556 c0_i32_1460
  let v2710 : Index := Scalar.indexCast v2709
  let c1280 : Index := 1280#32
  ![0, v2710.toNat, 1280]
def k0_off299 (k0_t3 : Fin k0_t3_loop.trips) (c0_i32_1464 : BitVec 32) : Fin 3 → Nat :=
  let c0_1465 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_1022 : BitVec 32 := 128#32
  let v1555 : BitVec 32 := Scalar.muli v12 c128_i32_1022
  let v1556 : BitVec 32 := v1555
  let v2727 : BitVec 32 := Scalar.addi v1556 c0_i32_1464
  let v2728 : Index := Scalar.indexCast v2727
  let c1408 : Index := 1408#32
  ![0, v2728.toNat, 1408]
def k0_off300 (k0_t3 : Fin k0_t3_loop.trips) : Fin 3 → Nat :=
  let c0_1610 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_1022 : BitVec 32 := 128#32
  let v1555 : BitVec 32 := Scalar.muli v12 c128_i32_1022
  let v1556 : BitVec 32 := v1555
  let v3127 : Index := Scalar.indexCast v1556
  let c1024_1611 : Index := 1024#32
  ![0, v3127.toNat, 1024]
def k0_off301 (k0_t3 : Fin k0_t3_loop.trips) (c0_i32_1643 : BitVec 32) : Fin 3 → Nat :=
  let c0_1644 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_1022 : BitVec 32 := 128#32
  let v1555 : BitVec 32 := Scalar.muli v12 c128_i32_1022
  let v1556 : BitVec 32 := v1555
  let v3199 : BitVec 32 := Scalar.addi v1556 c0_i32_1643
  let v3200 : Index := Scalar.indexCast v3199
  let c1536 : Index := 1536#32
  ![0, v3200.toNat, 1536]
def k0_off302 (k0_t3 : Fin k0_t3_loop.trips) (c0_i32_1647 : BitVec 32) : Fin 3 → Nat :=
  let c0_1648 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_1022 : BitVec 32 := 128#32
  let v1555 : BitVec 32 := Scalar.muli v12 c128_i32_1022
  let v1556 : BitVec 32 := v1555
  let v3217 : BitVec 32 := Scalar.addi v1556 c0_i32_1647
  let v3218 : Index := Scalar.indexCast v3217
  let c1664 : Index := 1664#32
  ![0, v3218.toNat, 1664]
def k0_off303 (k0_t3 : Fin k0_t3_loop.trips) (c0_i32_1651 : BitVec 32) : Fin 3 → Nat :=
  let c0_1652 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_1022 : BitVec 32 := 128#32
  let v1555 : BitVec 32 := Scalar.muli v12 c128_i32_1022
  let v1556 : BitVec 32 := v1555
  let v3235 : BitVec 32 := Scalar.addi v1556 c0_i32_1651
  let v3236 : Index := Scalar.indexCast v3235
  let c1792 : Index := 1792#32
  ![0, v3236.toNat, 1792]
def k0_off304 (k0_t3 : Fin k0_t3_loop.trips) (c0_i32_1655 : BitVec 32) : Fin 3 → Nat :=
  let c0_1656 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_1022 : BitVec 32 := 128#32
  let v1555 : BitVec 32 := Scalar.muli v12 c128_i32_1022
  let v1556 : BitVec 32 := v1555
  let v3253 : BitVec 32 := Scalar.addi v1556 c0_i32_1655
  let v3254 : Index := Scalar.indexCast v3253
  let c1920 : Index := 1920#32
  ![0, v3254.toNat, 1920]
def k0_off305 (k0_t3 : Fin k0_t3_loop.trips) : Fin 3 → Nat :=
  let c0_1801 : Index := 0#32
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let c128_i32_1022 : BitVec 32 := 128#32
  let v1555 : BitVec 32 := Scalar.muli v12 c128_i32_1022
  let v1556 : BitVec 32 := v1555
  let v3653 : Index := Scalar.indexCast v1556
  let c1536_1802 : Index := 1536#32
  ![0, v3653.toNat, 1536]
def k0_off306 (i : grid0.Coords) (k0_t3 : Fin k0_t3_loop.trips) : Fin 3 → Nat :=
  let arg1 : BitVec 32 := BitVec.ofNat 32 (i 1).val
  let c3_i32_1807 : BitVec 32 := 3#32
  let v3713 : BitVec 32 := Scalar.muli arg1 c3_i32_1807
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let v3714 : BitVec 32 := Scalar.addi v3713 v12
  let v3715 : Index := Scalar.indexCast v3714
  let c0_1808 : Index := 0#32
  let c0_1809 : Index := 0#32
  ![v3715.toNat, 0, 0]
def k0_off307 (i : grid0.Coords) (k0_t3 : Fin k0_t3_loop.trips) : Fin 3 → Nat :=
  let c0_i32_5 : BitVec 32 := 0#32
  let c0_i32_1 : BitVec 32 := 0#32
  let c1_i32 : BitVec 32 := 1#32
  let arg17 : BitVec 32 := Scf.iv c0_i32_1 c1_i32 k0_t3
  let c1_i32_4 : BitVec 32 := 1#32
  let v11 : BitVec 32 := Scalar.muli arg17 c1_i32_4
  let v12 : BitVec 32 := Scalar.addi c0_i32_5 v11
  let v3731 : Index := Scalar.indexCast v12
  let arg1 : BitVec 32 := BitVec.ofNat 32 (i 1).val
  let v3732 : Index := Scalar.indexCast arg1
  let c0_1816 : Index := 0#32
  ![v3731.toNat, v3732.toNat, 0]
def k0_off308 (i : grid0.Coords) : Fin 3 → Nat :=
  let arg1 : BitVec 32 := BitVec.ofNat 32 (i 1).val
  let v3738 : Index := Scalar.indexCast arg1
  let c0_1818 : Index := 0#32
  let c0_1819 : Index := 0#32
  ![v3738.toNat, 0, 0]
def k0_cond3 (i : grid0.Coords) : BitVec 1 :=
  let arg0 : BitVec 32 := BitVec.ofNat 32 (i 0).val
  let c2_i32 : BitVec 32 := 2#32
  let v6 : BitVec 1 := Scalar.cmpi .eq arg0 c2_i32
  let arg1 : BitVec 32 := BitVec.ofNat 32 (i 1).val
  let c127_i32 : BitVec 32 := 127#32
  let v7 : BitVec 1 := Scalar.cmpi .eq arg1 c127_i32
  let v8 : BitVec 1 := Scalar.andi v6 v7
  let v9 : BitVec 32 := Scalar.extui v8
  let c0_i32_3 : BitVec 32 := 0#32
  let v10 : BitVec 1 := Scalar.cmpi .ne v9 c0_i32_3
  v10

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x384x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .smem S1x1x384 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .smem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x384x2048 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S3x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ReferenceIdeal.lean ====
abbrev S8x3072x6144 : Shape := ⟨3, ![8, 3072, 6144]⟩
abbrev S128x384 : Shape := ⟨2, ![128, 384]⟩
abbrev S1x128 : Shape := ⟨2, ![1, 128]⟩
abbrev S128x384x6144 : Shape := ⟨3, ![128, 384, 6144]⟩
abbrev S24576x6144 : Shape := ⟨2, ![24576, 6144]⟩
abbrev S_ : Shape := ⟨0, ![]⟩
abbrev S128x384x1 : Shape := ⟨3, ![128, 384, 1]⟩
abbrev S128x1x1 : Shape := ⟨3, ![128, 1, 1]⟩
abbrev S3x128x128 : Shape := ⟨3, ![3, 128, 128]⟩
abbrev S128x3x128 : Shape := ⟨3, ![128, 3, 128]⟩
abbrev S128 : Shape := ⟨1, ![128]⟩

abbrev nBuf : Space → Nat
  | .hbm => 21
  | .vmem => 8
  | .smem => 0
  | _ => 0

abbrev bufTy : (tb : Table) → Fin (tcTables nBuf tb) → BufTy
  | .hbm, ⟨0, _⟩ => ⟨S8x3072x6144, .i8⟩
  | .hbm, ⟨1, _⟩ => ⟨S128x384, .f32⟩
  | .hbm, ⟨2, _⟩ => ⟨S128x384, .i32⟩
  | .hbm, ⟨3, _⟩ => ⟨S1x128, .f32⟩
  | .hbm, ⟨4, _⟩ => ⟨S128x384x6144, .fp8e4m3⟩
  | .hbm, ⟨5, _⟩ => ⟨S128x384, .f32⟩
  | .hbm, ⟨6, _⟩ => ⟨S24576x6144, .i8⟩
  | .hbm, ⟨7, _⟩ => ⟨S_, .i32⟩
  | .hbm, ⟨8, _⟩ => ⟨S128x384, .i32⟩
  | .hbm, ⟨9, _⟩ => ⟨S128x384, .i1⟩
  | .hbm, ⟨10, _⟩ => ⟨S_, .i32⟩
  | .hbm, ⟨11, _⟩ => ⟨S128x384, .i32⟩
  | .hbm, ⟨12, _⟩ => ⟨S128x384, .i32⟩
  | .hbm, ⟨13, _⟩ => ⟨S128x384, .i32⟩
  | .hbm, ⟨14, _⟩ => ⟨S128x384x1, .i32⟩
  | .hbm, ⟨15, _⟩ => ⟨S128x384x6144, .i8⟩
  | .hbm, ⟨16, _⟩ => ⟨S128x384x1, .f32⟩
  | .hbm, ⟨17, _⟩ => ⟨S128x1x1, .f32⟩
  | .hbm, ⟨18, _⟩ => ⟨S128x384x6144, .fp8e5m2⟩
  | .hbm, ⟨19, _⟩ => ⟨S3x128x128, .f32⟩
  | .hbm, ⟨20, _⟩ => ⟨S1x128, .f32⟩
  | .local _ .vmem, ⟨0, _⟩ => ⟨S128x384x6144, .i8⟩
  | .local _ .vmem, ⟨1, _⟩ => ⟨S128x384x1, .f32⟩
  | .local _ .vmem, ⟨2, _⟩ => ⟨S128x1x1, .f32⟩
  | .local _ .vmem, ⟨3, _⟩ => ⟨S128x384x6144, .fp8e4m3⟩
  | .local _ .vmem, ⟨4, _⟩ => ⟨S128x384, .f32⟩
  | .local _ .vmem, ⟨5, _⟩ => ⟨S128x384x6144, .fp8e5m2⟩
  | .local _ .vmem, ⟨6, _⟩ => ⟨S3x128x128, .f32⟩
  | .local _ .vmem, ⟨7, _⟩ => ⟨S1x128, .f32⟩
  | _, _ => ⟨S8x3072x6144, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S128x384x6144 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x384x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x384x6144 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x384x6144 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Dlogits.lean ====
abbrev S24576x128 : Shape := ⟨2, ![24576, 128]⟩
abbrev S1536x128 : Shape := ⟨2, ![1536, 128]⟩
abbrev S1536 : Shape := ⟨1, ![1536]⟩
abbrev S1536x1 : Shape := ⟨2, ![1536, 1]⟩

abbrev nBuf : Space → Nat
  | .hbm => 3
  | .vmem => 5
  | .smem => 0
  | _ => 0

abbrev bufTy : (tb : Table) → Fin (tcTables nBuf tb) → BufTy
  | .hbm, ⟨0, _⟩ => ⟨S24576x128, .f32⟩
  | .hbm, ⟨1, _⟩ => ⟨S24576x128, .f32⟩
  | .hbm, ⟨2, _⟩ => ⟨S24576x128, .f32⟩
  | .local _ .vmem, ⟨0, _⟩ => ⟨S1536x128, .f32⟩
  | .local _ .vmem, ⟨1, _⟩ => ⟨S1536x128, .f32⟩
  | .local _ .vmem, ⟨2, _⟩ => ⟨S24576x128, .f32⟩
  | .local _ .vmem, ⟨3, _⟩ => ⟨S1536x128, .f32⟩
  | .local _ .vmem, ⟨4, _⟩ => ⟨S1536x128, .f32⟩
  | _, _ => ⟨S24576x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c1536_i32 : BitVec 32 := 1536#32
  let v1 : BitVec 32 := Scalar.muli arg0 c1536_i32
  v1
def k0_off1 (i : grid0.Coords) : Fin 2 → Nat :=
  let arg0 : BitVec 32 := BitVec.ofNat 32 (i 0).val
  let c1536_i32 : BitVec 32 := 1536#32
  let v1 : BitVec 32 := Scalar.muli arg0 c1536_i32
  let v2 : BitVec 32 := v1
  let v3 : Index := Scalar.indexCast v2
  let c0_1 : Index := 0#32
  ![v3.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1536x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S24576x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1536x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DlogitsReferenceIdeal.lean ====
abbrev S24576x128 : Shape := ⟨2, ![24576, 128]⟩
abbrev S_ : Shape := ⟨0, ![]⟩
abbrev S24576 : Shape := ⟨1, ![24576]⟩
abbrev S24576x1 : Shape := ⟨2, ![24576, 1]⟩

abbrev nBuf : Space → Nat
  | .hbm => 9
  | .vmem => 0
  | .smem => 0
  | _ => 0

abbrev bufTy : (tb : Table) → Fin (tcTables nBuf tb) → BufTy
  | .hbm, ⟨0, _⟩ => ⟨S24576x128, .f32⟩
  | .hbm, ⟨1, _⟩ => ⟨S24576x128, .f32⟩
  | .hbm, ⟨2, _⟩ => ⟨S24576x128, .f32⟩
  | .hbm, ⟨3, _⟩ => ⟨S_, .f32⟩
  | .hbm, ⟨4, _⟩ => ⟨S24576, .f32⟩
  | .hbm, ⟨5, _⟩ => ⟨S24576x1, .f32⟩
  | .hbm, ⟨6, _⟩ => ⟨S24576x128, .f32⟩
  | .hbm, ⟨7, _⟩ => ⟨S24576x128, .f32⟩
  | .hbm, ⟨8, _⟩ => ⟨S24576x128, .f32⟩
  | _, _ => ⟨S24576x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Softmax.lean ====
abbrev S24576x128 : Shape := ⟨2, ![24576, 128]⟩
abbrev S1x128 : Shape := ⟨2, ![1, 128]⟩
abbrev S3072x128 : Shape := ⟨2, ![3072, 128]⟩
abbrev S3072 : Shape := ⟨1, ![3072]⟩
abbrev S3072x1 : Shape := ⟨2, ![3072, 1]⟩

abbrev nBuf : Space → Nat
  | .hbm => 5
  | .vmem => 7
  | .smem => 0
  | _ => 0

abbrev bufTy : (tb : Table) → Fin (tcTables nBuf tb) → BufTy
  | .hbm, ⟨0, _⟩ => ⟨S24576x128, .f32⟩
  | .hbm, ⟨1, _⟩ => ⟨S1x128, .i32⟩
  | .hbm, ⟨2, _⟩ => ⟨S24576x128, .f32⟩
  | .hbm, ⟨3, _⟩ => ⟨S1x128, .f32⟩
  | .hbm, ⟨4, _⟩ => ⟨S1x128, .f32⟩
  | .local _ .vmem, ⟨0, _⟩ => ⟨S3072x128, .f32⟩
  | .local _ .vmem, ⟨1, _⟩ => ⟨S3072x128, .f32⟩
  | .local _ .vmem, ⟨2, _⟩ => ⟨S1x128, .i32⟩
  | .local _ .vmem, ⟨3, _⟩ => ⟨S3072x128, .f32⟩
  | .local _ .vmem, ⟨4, _⟩ => ⟨S3072x128, .f32⟩
  | .local _ .vmem, ⟨5, _⟩ => ⟨S1x128, .f32⟩
  | .local _ .vmem, ⟨6, _⟩ => ⟨S1x128, .f32⟩
  | _, _ => ⟨S24576x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_4 : BitVec 32 := 0#32
  let v13 : BitVec 1 := Scalar.cmpi .ne v12 c0_i32_4
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3072x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3072x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== SoftmaxReferenceIdeal.lean ====
abbrev S24576x128 : Shape := ⟨2, ![24576, 128]⟩
abbrev S1x128 : Shape := ⟨2, ![1, 128]⟩
abbrev S_ : Shape := ⟨0, ![]⟩
abbrev S24576 : Shape := ⟨1, ![24576]⟩
abbrev S24576x1 : Shape := ⟨2, ![24576, 1]⟩

abbrev nBuf : Space → Nat
  | .hbm => 18
  | .vmem => 3
  | .smem => 0
  | _ => 0

abbrev bufTy : (tb : Table) → Fin (tcTables nBuf tb) → BufTy
  | .hbm, ⟨0, _⟩ => ⟨S24576x128, .f32⟩
  | .hbm, ⟨1, _⟩ => ⟨S1x128, .i32⟩
  | .hbm, ⟨2, _⟩ => ⟨S_, .f32⟩
  | .hbm, ⟨3, _⟩ => ⟨S24576, .f32⟩
  | .hbm, ⟨4, _⟩ => ⟨S_, .f32⟩
  | .hbm, ⟨5, _⟩ => ⟨S24576, .f32⟩
  | .hbm, ⟨6, _⟩ => ⟨S24576, .f32⟩
  | .hbm, ⟨7, _⟩ => ⟨S24576x1, .f32⟩
  | .hbm, ⟨8, _⟩ => ⟨S24576x128, .f32⟩
  | .hbm, ⟨9, _⟩ => ⟨S24576x128, .f32⟩
  | .hbm, ⟨10, _⟩ => ⟨S24576x128, .f32⟩
  | .hbm, ⟨11, _⟩ => ⟨S_, .f32⟩
  | .hbm, ⟨12, _⟩ => ⟨S24576, .f32⟩
  | .hbm, ⟨13, _⟩ => ⟨S24576x1, .f32⟩
  | .hbm, ⟨14, _⟩ => ⟨S24576x128, .f32⟩
  | .hbm, ⟨15, _⟩ => ⟨S24576x128, .f32⟩
  | .hbm, ⟨16, _⟩ => ⟨S1x128, .f32⟩
  | .hbm, ⟨17, _⟩ => ⟨S1x128, .f32⟩
  | .local _ .vmem, ⟨0, _⟩ => ⟨S1x128, .i32⟩
  | .local _ .vmem, ⟨1, _⟩ => ⟨S1x128, .f32⟩
  | .local _ .vmem, ⟨2, _⟩ => ⟨S1x128, .f32⟩
  | _, _ => ⟨S24576x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.DL.Val.lean ====
/-
  The router's backward, the tail of the dlogits call: every grid point writes its 1536 rows of `s * (g - sum (s * g))`,
  the sixteen blocks of rows are the whole array, and the reference computes the same function.
-/
module

public import proofs.«01_k».proof.Defs
public import proofs.«01_k».proof.Proof.Gen.DlogitsIdeal.Value
public import proofs.«01_k».proof.Proof.Gen.DlogitsReferenceIdeal.Run
public import Idealize.ShloMosaic.Lib.Pipeline.Value
public import Idealize.ShloMosaic.Lib.Pointwise.Reduce
public import Idealize.ShloMosaic.Lib.Quiescent

@[expose] public section

set_option maxRecDepth 16384
set_option maxHeartbeats 4000000

noncomputable section

namespace Cert.DlogitsIdeal.RefValue

open Cert.DlogitsIdeal Cert.DlogitsIdeal.Gen
open Idealize.ShloMosaic Idealize.ShloMosaic.TcCoe Idealize.ShloMosaic.Tactic Idealize.SL.Sem
open Idealize.ShloMosaic.Pipeline (Dat)

/-- Softmax's backward at row `r`, column `e`. -/
def rowE (s g : S24576x128.Idx → EReal) (r : Fin 24576) (e : Fin 128) : EReal :=
  s (ix2 r e) * (g (ix2 r e) - ∑ k : Fin 128, s (ix2 r k) * g (ix2 r k))

/-- The block of softmax's backward that one grid point computes from its rows. -/
theorem pay1_at (x y : FVec Ideal S1536x128 .f32) (r : Fin 1536) (e : Fin 128) :
    (k0_pay1 (F := Ideal) x y (ix2 r e) : EReal) = x (ix2 r e) * ((y (ix2 r e) : EReal) - ∑ k : Fin 128, (x (ix2 r k) : EReal) * y (ix2 r k)) := by
  unfold k0_pay1
  refine congrArg (fun q : EReal => (x (ix2 r e) : EReal) * ((y (ix2 r e) : EReal) - q)) ?_
  refine (broadcastTo_apply _ _ _ (ix2 r (0 : Fin 1)) fun b => by match b with | ⟨0, _⟩ => rfl | ⟨1, _⟩ => rfl).trans ?_
  refine (shapeCast_apply _ _ _ (ix1 r) ?_).trans ?_
  · show (S1536.rowMajor (ix1 r)).val = (S1536x1.rowMajor (ix2 r (0 : Fin 1))).val
    rw [Shape.rowMajor_val_one, Shape.rowMajor_val_two]
    show r.val = r.val * 1 + 0
    omega
  refine (Ideal.multiReduction_add_single _ _ _ _ _ _).trans ?_
  refine Finset.sum_congr rfl fun d _ => ?_
  have hl : reduces_S1536x128_S1536.lift (ix1 r) d = (ix2 r d : S1536x128.Idx) := by
    funext a; match a with | ⟨0, _⟩ => rfl | ⟨1, _⟩ => rfl
  rw [hl]
  rfl

variable (m : (ℓ : Loc nD τ sig) → Buf (Elt Ideal) ℓ) (ρ : Dev nD → PrngReg)

/-- The whole result array. -/
def G (c : Dev nD) : Buf (Elt Ideal) ((c : Thread nD τ).loc main_v0) :=
  fun i : S24576x128.Idx => (rowE (m ((c : Thread nD τ).loc main_arg0)) (m ((c : Thread nD τ).loc main_arg1)) (i 0) (i 1) : EReal)

theorem hz : (![0, 0] : Fin 2 → Nat) = fun _ => 0 := funext fun a => by fin_cases a <;> rfl

/-- What a grid point leaves in its output block: the payload of its rows of the two arrays. -/
theorem out_eq (c : Dev nD) (t : Fin cfg0.N) : outsAt0 m c t
    = k0_pay1 (F := Ideal) (iblk m c 0 t) (View.ld (iblk m c 1 t) (Rect.unit (s := S24576x128) (k0_off1 (grid0.coords t)) S1536x128.size (k0_off1_inb (grid0.coords t)))) := by
  unfold outsAt0 out0_A_2
  rw [View.read_writes_eq_canon _ _ _ (cover0_A_2 c _ _ _ _ _ _ _ _ _)]
  unfold kernelRun0_A
  dsimp only
  sl_unfold_words
  simp only [View.readAt_eq_ld, (hs0_0 t).read_unread, (hs0_1 t).read_unread]
  rw [View.canon_unit_zero hz, View.ld_unit_zero hz]
  rfl

/-- Point `t`'s block of rows starts at row `1536 * t`, in the softmax values, in the result and in the gradient. -/
theorem offs : ∀ t : Fin cfg0.N, (win0_0.index t 0 = t.val ∧ win0_0.index t 1 = 0) ∧ (win0_2.index t 0 = t.val ∧ win0_2.index t 1 = 0)
    ∧ (win0_1.index t 0 = 0 ∧ win0_1.index t 1 = 0) ∧ (grid0.coords t 0).val = t.val :=
  (by decide +kernel : ∀ t : Fin grid0.N, (win0_0.index t 0 = t.val ∧ win0_0.index t 1 = 0) ∧ (win0_2.index t 0 = t.val ∧ win0_2.index t 1 = 0)
    ∧ (win0_1.index t 0 = 0 ∧ win0_1.index t 1 = 0) ∧ (grid0.coords t 0).val = t.val)

/-- Row `r` of point `t`'s block, in the whole array. -/
def row (t : Fin cfg0.N) (r : Fin 1536) : Fin 24576 :=
  ⟨t.val * 1536 + r.val, by have h1 : t.val < 16 := lt_of_lt_of_eq t.isLt N_0; have h2 := r.isLt; omega⟩

/-- The softmax values a point is given. -/
theorem s_at (c : Dev nD) (t : Fin cfg0.N) (r : Fin 1536) (e : Fin 128) :
    iblk m c 0 t (ix2 r e) = m ((c : Thread nD τ).loc main_arg0) (ix2 (row t r) e) := by
  refine congrArg (m ((c : Thread nD τ).loc main_arg0)) (?_ : (win0_0.rect t).emb (ix2 r e) = ix2 (row t r) e)
  obtain ⟨⟨h0, h1⟩, -⟩ := offs t
  funext a
  apply Fin.ext
  rw [win0_0.rect_emb_val]
  match a with
  | ⟨0, _⟩ => show win0_0.index t 0 * 1536 + r.val = t.val * 1536 + r.val; rw [h0]
  | ⟨1, _⟩ => show win0_0.index t 1 * 128 + e.val = e.val; rw [h1]; omega

/-- The rows of the gradient a point loads. -/
theorem g_at (c : Dev nD) (t : Fin cfg0.N) (r : Fin 1536) (e : Fin 128) :
    View.ld (iblk m c 1 t) (Rect.unit (s := S24576x128) (k0_off1 (grid0.coords t)) S1536x128.size (k0_off1_inb (grid0.coords t))) (ix2 r e)
      = m ((c : Thread nD τ).loc main_arg1) (ix2 (row t r) e) := by
  refine congrArg (m ((c : Thread nD τ).loc main_arg1)) (?_ : (win0_1.rect t).emb
    ((Rect.unit (s := S24576x128) (k0_off1 (grid0.coords t)) S1536x128.size (k0_off1_inb (grid0.coords t))).idx (ix2 r e)) = ix2 (row t r) e)
  obtain ⟨-, -, ⟨h0, h1⟩, h2⟩ := offs t
  funext a
  apply Fin.ext
  match a with
  | ⟨0, _⟩ =>
    refine (win0_1.rect_emb_val_of_index_zero t 0 h0 _).trans ?_
    show k0_off1 (grid0.coords t) 0 + 1 * r.val = t.val * 1536 + r.val
    rw [k0_off1_eq]
    show 1536 * (grid0.coords t 0).val + 1 * r.val = _
    rw [h2]; omega
  | ⟨1, _⟩ =>
    refine (win0_1.rect_emb_val_of_index_zero t 1 h1 _).trans ?_
    show k0_off1 (grid0.coords t) 1 + 1 * e.val = e.val
    rw [k0_off1_eq]
    show 0 + 1 * e.val = _
    omega

/-- A point writes its rows of the result. -/
theorem flushed_eq (c : Dev nD) (t : Fin cfg0.N) :
    (dats m 0 c).flushed 2 t = (win0_2.blk t).view.read (Elt Ideal) (G m c) := by
  rw [Cert.DlogitsIdeal.Value.flushed2, out_eq]
  funext j
  obtain ⟨r, e, rfl⟩ : ∃ (r : Fin 1536) (e : Fin 128), j = (ix2 r e : S1536x128.Idx) :=
    ⟨j 0, j 1, by funext a; match a with | ⟨0, _⟩ => rfl | ⟨1, _⟩ => rfl⟩
  have he : (win0_2.rect t).emb (ix2 r e) = (ix2 (row t r) e : S24576x128.Idx) := by
    obtain ⟨-, ⟨h0, h1⟩, -⟩ := offs t
    funext a
    apply Fin.ext
    rw [win0_2.rect_emb_val]
    match a with
    | ⟨0, _⟩ => show win0_2.index t 0 * 1536 + r.val = t.val * 1536 + r.val; rw [h0]
    | ⟨1, _⟩ => show win0_2.index t 1 * 128 + e.val = e.val; rw [h1]; omega
  have hR : (win0_2.blk t).view.read (Elt Ideal) (G m c) (ix2 r e) = G m c (ix2 (row t r) e) := congrArg (G m c) he
  refine Eq.trans ?_ hR.symm
  refine (pay1_at _ _ r e).trans ?_
  exact congrArg₂ (fun p q : EReal => p * q) (s_at m c t r e) (congrArg₂ (fun p q : EReal => p - q) (g_at m c t r e)
    (Finset.sum_congr rfl fun k _ => congrArg₂ (fun p q : EReal => p * q) (s_at m c t r k) (g_at m c t r k)))

/-- Every entry of the result is in some point's block. -/
theorem cover (i : S24576x128.Idx) : ∃ t : Fin cfg0.N, (cfg0.win 2).flush t = true ∧ i ∈ ((cfg0.win 2).blk t).view.set := by
  have hi : (i 0).val < 24576 := (i 0).isLt
  obtain ⟨t, ht⟩ : ∃ t : Fin cfg0.N, t.val = (i 0).val / 1536 :=
    ⟨⟨(i 0).val / 1536, lt_of_lt_of_eq (by omega : (i 0).val / 1536 < 16) N_0.symm⟩, rfl⟩
  have he : (win0_2.rect t).emb (ix2 (⟨(i 0).val % 1536, Nat.mod_lt _ (by norm_num)⟩ : Fin 1536) (i 1 : Fin 128)) = i := by
    obtain ⟨-, ⟨h0, h1⟩, -⟩ := offs t
    funext a
    apply Fin.ext
    rw [win0_2.rect_emb_val]
    match a with
    | ⟨0, _⟩ => show win0_2.index t 0 * 1536 + (i 0).val % 1536 = (i 0).val; rw [h0, ht]; omega
    | ⟨1, _⟩ => show win0_2.index t 1 * 128 + (i 1).val = (i 1).val; rw [h1]; omega
  refine ⟨t, flush0_2 t, ?_⟩
  have h := ((cfg0.win 2).blk t).view.emb_mem_set (ix2 (⟨(i 0).val % 1536, Nat.mod_lt _ (by norm_num)⟩ : Fin 1536) (i 1 : Fin 128))
  exact (show ((cfg0.win 2).blk t).view.emb (ix2 (⟨(i 0).val % 1536, Nat.mod_lt _ (by norm_num)⟩ : Fin 1536) (i 1 : Fin 128)) = i from he) ▸ h

theorem final_o (c : Dev nD) : (dats m 0 c).arrAt 2 cfg0.N = G m c :=
  (dats m 0 c).arrAt_eq_of_cover 2 (G m c) (fun t _ => flushed_eq m c t) cover

/-- The kernel's run, its result named. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_o m c), (h c).2⟩) (Cert.DlogitsIdeal.Value.run_blocks m ρ)

end Cert.DlogitsIdeal.RefValue

namespace Cert.DlogitsReferenceIdeal.RefValue

open Cert.DlogitsReferenceIdeal Cert.DlogitsReferenceIdeal.Gen
open Idealize.ShloMosaic Idealize.ShloMosaic.TcCoe Idealize.SL.Sem

/-- The reference's composed term is softmax's backward. -/
theorem term_at (x y : FVec Ideal S24576x128 .f32) :
    mulf x (subf y (broadcastInDim S24576x128 ![0, 1] bcast_S24576x1_S24576x128_0_1 (broadcastInDim S24576x1 ![0] bcast_S24576_S24576x1_0
      (Host.reduceAdd (mulf x y) (constant S_ .f32 0x00000000#32) reducesTo_S24576x128_S24576_d1 h_S_))))
      = fun i => Cert.DlogitsIdeal.RefValue.rowE x y (i 0) (i 1) := by
  funext i
  obtain ⟨r, e, rfl⟩ : ∃ (r : Fin 24576) (e : Fin 128), i = (ix2 r e : S24576x128.Idx) :=
    ⟨i 0, i 1, by funext a; match a with | ⟨0, _⟩ => rfl | ⟨1, _⟩ => rfl⟩
  refine congrArg (fun q : EReal => (x (ix2 r e) : EReal) * ((y (ix2 r e) : EReal) - q)) ?_
  refine (broadcastInDim_apply _ _ _ _ (ix2 r (0 : Fin 1)) fun b => by match b with | ⟨0, _⟩ => rfl | ⟨1, _⟩ => rfl).trans ?_
  refine (broadcastInDim_apply _ _ _ _ (ix1 r) fun b => by match b with | ⟨0, _⟩ => rfl).trans ?_
  refine (Ideal.hostReduceAdd_r2_a1 _ _ _ _).trans ?_
  refine (congrArg (· + _) Ideal.ofBits_zero_f32).trans ((zero_add _).trans ?_)
  refine Finset.sum_congr rfl fun k _ => ?_
  rfl

/-- The reference runs, leaves its arguments alone, and uses no counter. -/
theorem frame : Cert.quiescent_DlogitsReferenceIdeal := fun m ρ _ =>
  (θ_run Cert.DlogitsReferenceIdeal.defs _ _).mono (fun r h => ⟨fun c => ⟨(h c).2.1, (h c).2.2⟩,
      Idealize.ShloMosaic.sem_eq_zero_of_no_sems (by decide) r.2⟩)
    (Cert.DlogitsReferenceIdeal.Value.run (F := Ideal) m ρ)

end Cert.DlogitsReferenceIdeal.RefValue

namespace Cert.DlogitsIdeal.RefValue

open Idealize.ShloMosaic Idealize.ShloMosaic.TcCoe Idealize.SL.Sem

/-- The kernel and the reference, run on the same arguments, leave the same array. -/
theorem values : Cert.algebraic_DlogitsIdeal_DlogitsReferenceIdeal := fun m ρ m' ρ' _ hargs => by
  refine ⟨fun c => G m c, run m ρ, ?_⟩
  refine (θ_run _ _ _).mono (fun r h c => ⟨(h c).1.trans ?_, (h c).2⟩) (Cert.DlogitsReferenceIdeal.Value.run (F := Ideal) m' ρ')
  rw [(hargs c).1, (hargs c).2]
  exact Cert.DlogitsReferenceIdeal.RefValue.term_at _ _

end Cert.DlogitsIdeal.RefValue

end
-- ==== Proof.SM.Run.lean ====
/-
  The softmax call runs. Every grid point writes its 3072 rows of softmax; the first point alone writes the two rows of
  scales, whose buffers the later points leave as they are until the last one's write-back.
-/
module

public import proofs.«01_k».proof.Proof.Gen.SoftmaxIdeal.Frame
public import Idealize.ShloMosaic.Lib.Pipeline.TableIdle
public import Idealize.ShloMosaic.Lib.Pipeline.Value
public import Idealize.ShloMosaic.Lib.Claim
public import Idealize.ShloMosaic.Lib.Tactic

@[expose] public section

set_option maxRecDepth 16384

noncomputable section

namespace Cert.SoftmaxIdeal.Run

open Cert.SoftmaxIdeal Cert.SoftmaxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Softmax of a block of rows. -/
def smx (v0 : Vec F S3072x128 .f32) : FVec F S3072x128 .f32 :=
  have v1 : FVec F S3072 .f32 := multiReduction .maximumf [1] S3072 v0 0xFF800000#32 reduces_S3072x128_S3072 (.inl rfl) rfl
  have v3 : FVec F S3072x128 .f32 := broadcastTo S3072x128 (shapeCast S3072x1 v1 shapeCasts_S3072_S3072x1) broadcasts_S3072x1_S3072x128
  have v5 : FVec F S3072x128 .f32 := exp (subf v0 v3)
  have v6 : FVec F S3072 .f32 := multiReduction .add [1] S3072 v5 0x00000000#32 reduces_S3072x128_S3072 (.inl rfl) rfl
  divf v5 (broadcastTo S3072x128 (shapeCast S3072x1 v6 shapeCasts_S3072_S3072x1) broadcasts_S3072x1_S3072x128)

/-- The exponent read off a word. -/
def exw (v : IVec S1x128 32) : IVec S1x128 32 :=
  have f : IVec S1x128 32 := andi (shrui v (broadcast S1x128 23#32)) (broadcast S1x128 255#32)
  select (cmpi .eq f (broadcast S1x128 0#32)) (broadcast S1x128 0#32) (subi f (broadcast S1x128 126#32))

/-- The float made of an exponent. -/
def pw (k : IVec S1x128 32) : FVec F S1x128 .f32 :=
  bitcastToFloat .f32 (shli (minsi (broadcast S1x128 255#32) (maxsi (broadcast S1x128 0#32) (addi k (broadcast S1x128 127#32)))) (broadcast S1x128 23#32))

abbrev rS : Rect S3072x128 := Rect.unit (s := S3072x128) ![0, 0] S3072x128.size inb_S3072x128_S3072x128_0_0
abbrev rE : Rect S1x128 := Rect.unit (s := S1x128) ![0, 0] S1x128.size inb_S1x128_S1x128_0_0

/-- What the body leaves in its three output blocks. -/
def o2 (x : Vec F S3072x128 .f32) : Vec F S3072x128 .f32 := View.canon [⟨rS, smx (View.ld x rS)⟩]
def o3 (b : Vec F S1x128 .i32) : Vec F S1x128 .f32 := View.canon [⟨rE, pw (exw (View.ld b rE))⟩]
def o4 (b : Vec F S1x128 .i32) : Vec F S1x128 .f32 := View.canon [⟨rE, pw (subi (broadcast S1x128 0#32) (exw (View.ld b rE)))⟩]

theorem coverS (p : Vec F S3072x128 .f32) (y : S3072x128.Idx) : ∃ pc ∈ ([⟨rS, p⟩] : List (View.Piece (Elt F) S3072x128 .f32)), y ∈ pc.1.set :=
  View.cover_of_tiled [⟨rS, p⟩] S3072x128.size (by rfl) y
theorem coverE (p : Vec F S1x128 .f32) (y : S1x128.Idx) : ∃ pc ∈ ([⟨rE, p⟩] : List (View.Piece (Elt F) S1x128 .f32)), y ∈ pc.1.set :=
  View.cover_of_tiled [⟨rE, p⟩] S1x128.size (by rfl) y

set_option maxHeartbeats 2000000 in
/-- The body at any point: the scales' blocks are written where the branch is taken and kept where it is not. -/
theorem body_wp (c : Dev nD) (E : Set ℕ) (i : grid0.Coords) (arg1 : Memref sig .tc .vmem S3072x128 .f32) (harg1 : arg1.IsWhole) (arg2 : Memref sig .tc .vmem S1x128 .i32) (harg2 : arg2.IsWhole)
    (arg3 : Memref sig .tc .vmem S3072x128 .f32) (harg3 : arg3.IsWhole) (arg4 : Memref sig .tc .vmem S1x128 .f32) (harg4 : arg4.IsWhole) (arg5 : Memref sig .tc .vmem S1x128 .f32) (harg5 : arg5.IsWhole)
    (x : Vec F S3072x128 .f32) (b : Vec F S1x128 .i32) (y4 y5 : Vec F S1x128 .f32) (K : PUnit → sProp 𝕄) :
    iprop(owns (c : Thread nD τ) arg1 fullShare x ∗ owns (c : Thread nD τ) arg2 fullShare b ∗ (∃ d, owns (c : Thread nD τ) arg3 fullShare d)
        ∗ owns (c : Thread nD τ) arg4 fullShare y4 ∗ owns (c : Thread nD τ) arg5 fullShare y5
        ∗ (iprop(owns (c : Thread nD τ) arg1 fullShare x ∗ owns (c : Thread nD τ) arg2 fullShare b ∗ owns (c : Thread nD τ) arg3 fullShare (o2 x)
            ∗ owns (c : Thread nD τ) arg4 fullShare (if k0_cond1 i = 1#1 then o3 b else y4) ∗ owns (c : Thread nD τ) arg5 fullShare (if k0_cond1 i = 1#1 then o4 b else y5)) -∗ K ⟨⟩))
      ⊢ wp frame (wpE (defs₀ (F := F)) Variants.none c none) E (cc0_router_softmax i arg1 harg1 arg2 harg2 arg3 harg3 arg4 harg4 arg5 harg5) K := by
  unfold cc0_router_softmax
  by_cases hi : k0_cond1 i = 1#1
  · rw [dif_pos hi, if_pos hi, if_pos hi]
    unfold owns
    iintro ⟨⟨%f1, %hf1, H1⟩, ⟨%f2, %hf2, H2⟩, ⟨%d3, %f3, -, H3⟩, ⟨%f4, -, H4⟩, ⟨%f5, -, H5⟩, Hk⟩
    subst hf1 hf2
    sl_exec
    sl_step
    iapply Hk
    isplitl [H1]
    · iexists f1; isplitr; · ipureintro; rfl
      iexact H1
    isplitl [H2]
    · iexists f2; isplitr; · ipureintro; rfl
      iexact H2
    isplitl [H3]
    · iexists _; isplitr
      swap; · iexact H3
      ipureintro
      exact View.read_writes_eq_canon _ _ _ (coverS _)
    isplitl [H4]
    · iexists _; isplitr
      swap; · iexact H4
      ipureintro
      exact View.read_writes_eq_canon _ _ _ (coverE _)
    iexists _; isplitr
    swap; · iexact H5
    ipureintro
    exact View.read_writes_eq_canon _ _ _ (coverE _)
  · rw [dif_neg hi, if_neg hi, if_neg hi]
    unfold owns
    iintro ⟨⟨%f1, %hf1, H1⟩, ⟨%f2, %hf2, H2⟩, ⟨%d3, %f3, -, H3⟩, H4, H5, Hk⟩
    subst hf1 hf2
    sl_exec
    sl_step
    iapply Hk
    isplitl [H1]
    · iexists f1; isplitr; · ipureintro; rfl
      iexact H1
    isplitl [H2]
    · iexists f2; isplitr; · ipureintro; rfl
      iexact H2
    isplitl [H3]
    · iexists _; isplitr
      swap; · iexact H3
      ipureintro
      exact View.read_writes_eq_canon _ _ _ (coverS _)
    isplitl [H4]; · iexact H4
    iexact H5

variable (m : (ℓ : Loc nD τ sig) → Buf (Elt F) ℓ) (ρ : Dev nD → PrngReg)

/-- The words, as the first point is given them. -/
def wrd (c : Dev nD) : Vec F S1x128 .i32 := iblk m c 1 ⟨0, by decide⟩

/-- Every point is given the same words. -/
theorem wrd_eq (c : Dev nD) (t : Fin cfg0.N) : iblk m c 1 t = wrd m c := by
  have h : ∀ t : Fin cfg0.N, win0_1.index t = win0_1.index ⟨0, by decide⟩ := (by decide +kernel : ∀ t : Fin grid0.N, win0_1.index t = win0_1.index ⟨0, by decide⟩)
  funext j
  refine congrArg (V m c main_arg1) (?_ : (win0_1.rect t).emb j = (win0_1.rect ⟨0, by decide⟩).emb j)
  funext a
  apply Fin.ext
  rw [win0_1.rect_emb_val, win0_1.rect_emb_val, h t]

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => o2 (iblk m c 0 t)
    | ⟨3, _⟩ => o3 (wrd m c)
    | ⟨4, _⟩ => o4 (wrd m c)
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = o2 (iblk m c 0 t) := by dsimp only [dats]
theorem after3 (c : Dev nD) (t : Fin cfg0.N) : (dats m 0 c).after 3 t = o3 (wrd m c) := by dsimp only [dats]
theorem after4 (c : Dev nD) (t : Fin cfg0.N) : (dats m 0 c).after 4 t = o4 (wrd m c) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- The branch is taken at the first point alone, before which the scales' buffers hold nothing of the body's. -/
theorem cond : ∀ t : Fin cfg0.N, (k0_cond1 (grid0.coords t) = 1#1 ↔ t.val = 0) :=
  (by decide +kernel : ∀ t : Fin grid0.N, (k0_cond1 (grid0.coords t) = 1#1 ↔ t.val = 0))
theorem fresh3 : ∀ t : Fin cfg0.N, t.val ≠ 0 → cfg0.fresh 3 t.val = false := by decide +kernel
theorem fresh4 : ∀ t : Fin cfg0.N, t.val ≠ 0 → cfg0.fresh 4 t.val = false := by decide +kernel

theorem before3 (c : Dev nD) (t : Fin cfg0.N) (h : t.val ≠ 0) (d) : (dats m 0 c).before 3 t d = o3 (wrd m c) := by
  rw [(dats m 0 c).before_out_traj 3 rfl (fun _ _ => rfl) (fun t _ _ _ => by rw [after3, after3]) t.val t rfl d, fresh3 t h]
  exact after3 m c _
theorem before4 (c : Dev nD) (t : Fin cfg0.N) (h : t.val ≠ 0) (d) : (dats m 0 c).before 4 t d = o4 (wrd m c) := by
  rw [(dats m 0 c).before_out_traj 4 rfl (fun _ _ => rfl) (fun t _ _ _ => by rw [after4, after4]) t.val t rfl d, fresh4 t h]
  exact after4 m c _

/-- What is in a scales' buffer after the body, whether this point wrote it or kept it. -/
theorem kept3 (c : Dev nD) (t : Fin cfg0.N) (d) :
    (if k0_cond1 (grid0.coords t) = 1#1 then o3 (iblk m c 1 t) else (dats m 0 c).before 3 t d) = o3 (wrd m c) := by
  split_ifs with h
  · rw [wrd_eq]
  · exact before3 m c t (fun e => h ((cond t).2 e)) d
theorem kept4 (c : Dev nD) (t : Fin cfg0.N) (d) :
    (if k0_cond1 (grid0.coords t) = 1#1 then o4 (iblk m c 1 t) else (dats m 0 c).before 4 t d) = o4 (wrd m c) := by
  split_ifs with h
  · rw [wrd_eq]
  · exact before4 m c t (fun e => h ((cond t).2 e)) d

/-- Which is what the pipeline asks of it there. -/
theorem leaves3 (c : Dev nD) (t : Fin cfg0.N) :
    owns (c : Thread nD τ) (st0_3 t) fullShare (o3 (wrd m c)) ⊢ ((dats m 0 c).leavesExact 3 t : sProp 𝕄) := by
  by_cases h : t.val = 0
  · have hi : cfg0.idle 3 (cfg0.grid.coords t) = false := by
      show (!(k0_cond1 (grid0.coords t) == 1#1)) = false
      rw [(cond t).2 h]; rfl
    unfold Dat.leavesExact
    rw [hi, after3]
  · unfold Dat.leavesExact
    cases cfg0.idle 3 (cfg0.grid.coords t)
    · rw [after3]
    · cases (cfg0.win 3).flush t
      · iintro H; iexists (o3 (wrd m c)); rw [before3 m c t h]; iexact H
      · rw [after3]
theorem leaves4 (c : Dev nD) (t : Fin cfg0.N) :
    owns (c : Thread nD τ) (st0_4 t) fullShare (o4 (wrd m c)) ⊢ ((dats m 0 c).leavesExact 4 t : sProp 𝕄) := by
  by_cases h : t.val = 0
  · have hi : cfg0.idle 4 (cfg0.grid.coords t) = false := by
      show (!(k0_cond1 (grid0.coords t) == 1#1)) = false
      rw [(cond t).2 h]; rfl
    unfold Dat.leavesExact
    rw [hi, after4]
  · unfold Dat.leavesExact
    cases cfg0.idle 4 (cfg0.grid.coords t)
    · rw [after4]
    · cases (cfg0.win 4).flush t
      · iintro H; iexists (o4 (wrd m c)); rw [before4 m c t h]; iexact H
      · rw [after4]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t ∗ (dats m 0 c).leavesExact 4 t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  iintro ⟨HΦ, Ho, ⟨%d0, H0⟩, ⟨%d1, H1⟩, ⟨%d2, H2⟩, ⟨%d3, H3⟩, ⟨%d4, H4⟩⟩
  iapply (body_wp c Set.univ (grid0.coords t) _ _ _ _ _ _ _ _ _ _ (iblk m c 0 t) (iblk m c 1 t) ((dats m 0 c).before 3 t d3) ((dats m 0 c).before 4 t d4) _)
  rw [kept3, kept4]
  isplitl [H0]; · iexact H0
  isplitl [H1]; · iexact H1
  isplitl [H2]; · iexists _; iexact H2
  isplitl [H3]; · iexact H3
  isplitl [H4]; · iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iapply (leaves3 m c t); iexact H3
  iapply (leaves4 m c t); iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The call runs, leaves its arguments alone, and ends with every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.SoftmaxIdeal.Run

end
-- ==== Proof.SM.Word.lean ====
/-
  Powers of two read off a float's word, over the reals: the float made of an exponent by placing it in the word's
  exponent field is the power of two of that exponent.
-/
module

public import Idealize.ShloMosaic.Lib.Pointwise.Reduce
public import Idealize.ShloMosaic.Lib.Affine
public import proofs.«01_k».proof.Pre_normal

@[expose] public section

set_option maxRecDepth 16384

noncomputable section

namespace Cert.SoftmaxIdeal.Word

open Idealize.ShloMosaic

/-- The words the claim is about: a zero, or a normal float below `2^126`. -/
def Normal (w : BitVec 32) : Prop :=
  w.toNat % 2147483648 = 0 ∨ (8388608 ≤ w.toNat % 2147483648 ∧ w.toNat % 2147483648 < 2122317824)

theorem normal_word (w : BitVec 32) (h : IntOp.ori (IntOp.cmpi .eq (IntOp.andi w 2147483647#32) 0#32)
    (IntOp.andi (IntOp.cmpi .sge (IntOp.andi w 2147483647#32) 8388608#32) (IntOp.cmpi .slt (IntOp.andi w 2147483647#32) 2122317824#32)) = 1#1) : Normal w := by
  have hn : (IntOp.andi w 2147483647#32).toNat = w.toNat % 2147483648 := by
    show (w &&& 2147483647#32).toNat = _
    rw [BitVec.toNat_and]
    exact Nat.and_two_pow_sub_one_eq_mod w.toNat 31
  generalize IntOp.andi w 2147483647#32 = x at h hn
  have hx : x.toNat < 2147483648 := hn ▸ Nat.mod_lt _ (by norm_num)
  have ht : x.toInt = x.toNat := by rw [BitVec.toInt_eq_toNat_cond]; split <;> omega
  have h' : x = 0#32 ∨ ((8388608 : Int) ≤ x.toInt ∧ x.toInt < 2122317824) := by
    by_cases h0 : x = 0#32
    · exact .inl h0
    · right
      have e0 : IntOp.cmpi .eq x 0#32 = 0#1 := by
        show BitVec.ofBool (x == 0#32) = 0#1
        rw [beq_eq_false_iff_ne.mpr h0]; rfl
      rw [e0] at h
      have h1 : IntOp.andi (IntOp.cmpi .sge x 8388608#32) (IntOp.cmpi .slt x 2122317824#32) = 1#1 := by
        revert h
        generalize IntOp.andi (IntOp.cmpi .sge x 8388608#32) (IntOp.cmpi .slt x 2122317824#32) = q
        revert q; decide
      have h2 := IntOp.andi_eq_one.1 h1
      exact ⟨IntOp.cmpi_sge.1 h2.1, IntOp.cmpi_slt.1 h2.2⟩
  unfold Normal
  rcases h' with h0 | ⟨h1, h2⟩
  · left; rw [← hn, h0]; rfl
  · right; omega

/-- A word's exponent field. -/
abbrev field (w : BitVec 32) : BitVec 32 := IntOp.andi (IntOp.shrui .vector w 23#32) 255#32

theorem field_toNat (w : BitVec 32) : (field w).toNat = w.toNat / 8388608 % 256 := by
  show (w >>> (23#32) &&& 255#32).toNat = _
  rw [BitVec.toNat_and]
  refine (Nat.and_two_pow_sub_one_eq_mod _ 8).trans ?_
  show (w >>> (23 : ℕ)).toNat % 256 = _
  rw [BitVec.toNat_ushiftRight, Nat.shiftRight_eq_div_pow]

/-- The word with exponent field `q` and no fraction is `2^(q-127)`. -/
theorem pow_word (q : Fin 255) (h0 : q.val ≠ 0) : Ideal.ofBits .f32 (BitVec.ofNat 32 q.val <<< 23) = (((2 : ℝ) ^ ((q.val : ℤ) - 127) : ℝ) : EReal) := by
  have h := (by decide +kernel : ∀ q : Fin 255, ((BitVec.ofNat 32 q.val <<< 23).extractLsb' 31 1 == 1#1) = false
    ∧ ((BitVec.ofNat 32 q.val <<< 23).extractLsb' 23 8).toNat = q.val ∧ ((BitVec.ofNat 32 q.val <<< 23).extractLsb' 0 23).toNat = 0) q
  show Ideal.ieee 8 23 (BitVec.ofNat 32 q.val <<< 23) = _
  unfold Ideal.ieee
  simp only [Nat.reduceAdd]
  rw [h.1, h.2.1, h.2.2, if_neg (by have := q.isLt; norm_num; omega), if_neg h0]
  congr 1
  have e : ((q.val : ℤ) - (2 ^ (8 - 1) - 1) - (23 : ℕ)) = ((q.val : ℤ) - 127) + (-23) := by norm_num; ring
  rw [e, zpow_add₀ (by norm_num : (2 : ℝ) ≠ 0)]
  norm_num
  ring

/-- A zero's word denotes zero, a normal float's does not. -/
theorem zero_iff (w : BitVec 32) (h : Normal w) : IntOp.cmpi .eq (field w) 0#32 = Ideal.cmp .oeq (Ideal.ofBits .f32 w) (Ideal.ofBits .f32 0x00000000#32) := by
  have hf := field_toNat w
  have he : (w.extractLsb' 23 8).toNat = w.toNat / 8388608 % 256 := by
    rw [BitVec.extractLsb'_toNat, Nat.shiftRight_eq_div_pow]
  have hr : (w.extractLsb' 0 23).toNat = w.toNat % 8388608 := by
    rw [BitVec.extractLsb'_toNat]; rfl
  have hz : Ideal.ofBits .f32 0x00000000#32 = ((0 : ℝ) : EReal) := Ideal.ofBits_zero_f32
  rw [hz]
  have hw : Ideal.ofBits .f32 w = Ideal.ieee 8 23 w := rfl
  have hw2 := w.isLt
  rcases h with h | ⟨h1, h2⟩
  · have hv : Ideal.ofBits .f32 w = ((0 : ℝ) : EReal) := by
      rw [hw]
      unfold Ideal.ieee
      simp only [Nat.reduceAdd]
      rw [he, hr, if_neg (by norm_num; omega), if_pos (by omega), show w.toNat % 8388608 = 0 by omega]
      norm_num
    have hf0 : field w = 0#32 := BitVec.eq_of_toNat_eq (by rw [hf]; show _ = 0; omega)
    rw [hv, hf0]
    show BitVec.ofBool _ = BitVec.ofBool (decide _)
    rw [decide_eq_true rfl]; rfl
  · have hv : Ideal.ofBits .f32 w ≠ ((0 : ℝ) : EReal) := by
      rw [hw]
      unfold Ideal.ieee
      simp only [Nat.reduceAdd]
      rw [he, hr, if_neg (by norm_num; omega), if_neg (by omega)]
      refine fun e => ?_
      have e' := EReal.coe_eq_coe_iff.1 e
      refine mul_ne_zero (mul_ne_zero (by split_ifs <;> norm_num) ?_) (zpow_ne_zero _ (by norm_num)) e'
      exact_mod_cast (by positivity : (2 ^ 23 + w.toNat % 8388608 : ℕ) ≠ 0)
    have hf0 : field w ≠ 0#32 := fun e => by
      have := congrArg BitVec.toNat e
      rw [hf] at this
      have h3 : w.toNat / 8388608 % 256 = 0 := this
      omega
    show BitVec.ofBool (field w == 0#32) = BitVec.ofBool (decide _)
    rw [decide_eq_false hv, beq_eq_false_iff_ne.mpr hf0]

/-- The exponent read off a field. -/
abbrev ex (f : BitVec 32) : BitVec 32 := Scalar.select (IntOp.cmpi .eq f 0#32) 0#32 (IntOp.subi f 126#32)

abbrev pword (k : BitVec 32) : BitVec 32 :=
  IntOp.shli .vector (IntOp.minsi 255#32 (IntOp.maxsi 0#32 (IntOp.addi k 127#32))) 23#32

theorem words : ∀ f : Fin 253, ∃ q : Fin 255, q.val ≠ 0 ∧ pword (ex (BitVec.ofNat 32 f.val)) = BitVec.ofNat 32 q.val <<< 23 ∧ (q.val : ℤ) - 127 = (ex (BitVec.ofNat 32 f.val)).toInt := by
  decide +kernel
theorem words' : ∀ f : Fin 253, ∃ q : Fin 255, q.val ≠ 0 ∧ pword (IntOp.subi 0#32 (ex (BitVec.ofNat 32 f.val))) = BitVec.ofNat 32 q.val <<< 23 ∧ (q.val : ℤ) - 127 = (IntOp.subi 0#32 (ex (BitVec.ofNat 32 f.val))).toInt := by
  decide +kernel

theorem exp2_int (k : BitVec 32) : Ideal.exp2 (((k.toInt : ℝ)) : EReal) = (((2 : ℝ) ^ k.toInt : ℝ) : EReal) := by
  rw [Ideal.exp2_coe]
  exact congrArg _ (Real.rpow_intCast 2 k.toInt)

theorem field_lt (w : BitVec 32) (h : Normal w) : ∃ f : Fin 253, field w = BitVec.ofNat 32 f.val := by
  have hf := field_toNat w
  have hl : (field w).toNat < 253 := by
    rw [hf]; unfold Normal at h; have := w.isLt; omega
  exact ⟨⟨_, hl⟩, by simp⟩

/-- The two scales of a word, as the reference states them. -/
theorem scale_eq (w : BitVec 32) (h : Normal w) : Ideal.ofBits .f32 (pword (ex (field w)))
    = Ideal.exp2 ((((Scalar.select (Ideal.cmp .oeq (Ideal.ofBits .f32 w) (Ideal.ofBits .f32 0x00000000#32)) 0#32 (IntOp.subi (field w) 126#32) : BitVec 32).toInt : ℝ)) : EReal) := by
  rw [← zero_iff w h, exp2_int]
  obtain ⟨f, hf⟩ := field_lt w h
  rw [hf]
  obtain ⟨q, h0, h1, h2⟩ := words f
  rw [h1, pow_word q h0, h2]

theorem inv_eq (w : BitVec 32) (h : Normal w) : Ideal.ofBits .f32 (pword (IntOp.subi 0#32 (ex (field w))))
    = Ideal.exp2 ((((IntOp.subi 0#32 (Scalar.select (Ideal.cmp .oeq (Ideal.ofBits .f32 w) (Ideal.ofBits .f32 0x00000000#32)) 0#32 (IntOp.subi (field w) 126#32)) : BitVec 32).toInt : ℝ)) : EReal) := by
  rw [← zero_iff w h, exp2_int]
  obtain ⟨f, hf⟩ := field_lt w h
  rw [hf]
  obtain ⟨q, h0, h1, h2⟩ := words' f
  rw [h1, pow_word q h0, h2]

end Cert.SoftmaxIdeal.Word

end
-- ==== Proof.SM.Ref.lean ====
/-
  The softmax call's reference over the reals: softmax of each row, its maximum taken off, and the two rows of powers of two.
-/
module

public import proofs.«01_k».proof.Defs
public import proofs.«01_k».proof.Proof.Gen.SoftmaxReferenceIdeal.Frame
public import Idealize.ShloMosaic.Lib.KernelVsHost
public import Idealize.ShloMosaic.Lib.Pointwise.Reduce

@[expose] public section

set_option maxRecDepth 16384
set_option maxHeartbeats 4000000

noncomputable section

namespace Cert.SoftmaxReferenceIdeal.RefValue

open Cert.SoftmaxReferenceIdeal Cert.SoftmaxReferenceIdeal.Gen
open Idealize.ShloMosaic Idealize.ShloMosaic.TcCoe Idealize.ShloMosaic.Tactic Idealize.SL.Sem
open Idealize.ShloMosaic.Pipeline (Dat)

/-- The maximum of a row. -/
def mx (f : Fin 128 → EReal) : EReal := (Finset.univ : Finset (Fin 128)).fold max (Ideal.ofBits .f32 0xFF800000#32) f
/-- Softmax of a row. -/
def sm (f : Fin 128 → EReal) (e : Fin 128) : EReal := Ideal.div (Ideal.exp (f e - mx f)) (∑ k : Fin 128, Ideal.exp (f k - mx f))

theorem bc_at (v : FVec Ideal S24576 .f32) (r : Fin 24576) (e : Fin 128) :
    broadcastInDim S24576x128 ![0, 1] bcast_S24576x1_S24576x128_0_1 (broadcastInDim S24576x1 ![0] bcast_S24576_S24576x1_0 v) (ix2 r e) = v (ix1 r) := by
  refine (broadcastInDim_apply _ _ _ _ (ix2 r (0 : Fin 1)) fun b => by match b with | ⟨0, _⟩ => rfl | ⟨1, _⟩ => rfl).trans ?_
  exact broadcastInDim_apply _ _ _ _ (ix1 r) fun b => by match b with | ⟨0, _⟩ => rfl

theorem red : S24576x128.Reduces [1] S24576 := by decide

theorem lift_eq (r : Fin 24576) (d : Fin 128) : red.lift (ix1 r) d = (ix2 r d : S24576x128.Idx) := by
  funext a; match a with | ⟨0, _⟩ => rfl | ⟨1, _⟩ => rfl

/-- A row's maximum, as the reference takes it. -/
def rm (x : FVec Ideal S24576x128 .f32) : FVec Ideal S24576 .f32 :=
  Host.reduce FloatOps.maximumf x (constant S_ .f32 0xFF800000#32) reducesTo_S24576x128_S24576_d1 h_S_

theorem rm_at (x : FVec Ideal S24576x128 .f32) (r : Fin 24576) : rm x (ix1 r) = mx fun k => x (ix2 r k) := by
  refine (congrFun (hostReduce_maximumf_eq_multiReduction x 0xFF800000#32 _ _ red (.inl rfl) rfl) (ix1 r)).trans ?_
  refine (Ideal.multiReduction_maximumf_single _ _ _ _ _ _).trans ?_
  refine congrArg (fun g : Fin 128 → EReal => (Finset.univ : Finset (Fin 128)).fold max (Ideal.ofBits .f32 0xFF800000#32) g) (funext fun d => ?_)
  exact congrArg x (lift_eq r d)

theorem max_at (y : FVec Ideal S24576 .f32) (i : S24576.Idx) :
    maximumf (broadcastInDim S24576 ![] bcast_S_S24576 (constant S_ .f32 0xFF800000#32 : FVec Ideal S_ .f32)) y i = max (Ideal.ofBits .f32 0xFF800000#32) (y i) := rfl

/-- The reference's exponentials, and its softmax. -/
def num (x : FVec Ideal S24576x128 .f32) : FVec Ideal S24576x128 .f32 :=
  Host.exp (subf x (broadcastInDim S24576x128 ![0, 1] bcast_S24576x1_S24576x128_0_1 (broadcastInDim S24576x1 ![0] bcast_S24576_S24576x1_0
    (maximumf (broadcastInDim S24576 ![] bcast_S_S24576 (constant S_ .f32 0xFF800000#32 : FVec Ideal S_ .f32)) (rm x)))))
def quo (u : FVec Ideal S24576x128 .f32) : FVec Ideal S24576x128 .f32 :=
  Host.divf u (broadcastInDim S24576x128 ![0, 1] bcast_S24576x1_S24576x128_0_1 (broadcastInDim S24576x1 ![0] bcast_S24576_S24576x1_0
    (Host.reduceAdd u (constant S_ .f32 0x00000000#32) reducesTo_S24576x128_S24576_d1 h_S_)))

theorem exp_at (x y : FVec Ideal S24576x128 .f32) (i : S24576x128.Idx) : Host.exp (subf x y) i = Ideal.exp (x i - y i) := rfl
theorem div_at (x y : FVec Ideal S24576x128 .f32) (i : S24576x128.Idx) : Host.divf x y i = Ideal.div (x i) (y i) := rfl

theorem num_at (x : FVec Ideal S24576x128 .f32) (r : Fin 24576) (e : Fin 128) : num x (ix2 r e) = Ideal.exp (x (ix2 r e) - mx fun k => x (ix2 r k)) := by
  unfold num
  rw [exp_at, bc_at, max_at, rm_at]
  exact congrArg (fun q : EReal => Ideal.exp (x (ix2 r e) - q)) (max_eq_right (Finset.le_fold_max _ |>.2 (.inl le_rfl)))

theorem sum_at (u : FVec Ideal S24576x128 .f32) (r : Fin 24576) :
    Host.reduceAdd u (constant S_ .f32 0x00000000#32) reducesTo_S24576x128_S24576_d1 h_S_ (ix1 r) = ∑ k : Fin 128, (u (ix2 r k) : EReal) := by
  rw [Host.reduceAdd_apply]
  refine (Ideal.hostReduceAdd_r2_a1 _ _ _ _).trans ?_
  refine (congrArg (· + _) Ideal.ofBits_zero_f32).trans ((zero_add _).trans ?_)
  exact Finset.sum_congr rfl fun k _ => rfl

theorem quo_at (x : FVec Ideal S24576x128 .f32) (r : Fin 24576) (e : Fin 128) : quo (num x) (ix2 r e) = sm (fun k => x (ix2 r k)) e := by
  unfold quo
  rw [div_at, bc_at, sum_at, num_at]
  unfold sm
  exact congrArg (Ideal.div _) (Finset.sum_congr rfl fun k _ => num_at x r k)

theorem term_at (x : FVec Ideal S24576x128 .f32) : quo (num x) = fun i => sm (fun k => x (ix2 (i 0 : Fin 24576) k)) (i 1) := by
  funext i
  obtain ⟨r, e, rfl⟩ : ∃ (r : Fin 24576) (e : Fin 128), i = (ix2 r e : S24576x128.Idx) :=
    ⟨i 0, i 1, by funext a; match a with | ⟨0, _⟩ => rfl | ⟨1, _⟩ => rfl⟩
  exact quo_at x r e

variable (m : (ℓ : Loc nD τ sig) → Buf (Elt Ideal) ℓ) (ρ : Dev nD → PrngReg)

/-- The exponent of a word's value as the reference states it: that of `frexp`, and 0 for zero. -/
def ew (a : IVec S1x128 32) : IVec S1x128 32 :=
  select (cmpf .oeq (bitcastToFloat .f32 a : FVec Ideal S1x128 .f32) (broadcast S1x128 (Scalar.ofBits .f32 0x00000000#32))) (broadcast S1x128 0#32)
    (subi (andi (shrui a (broadcast S1x128 23#32)) (broadcast S1x128 255#32)) (broadcast S1x128 126#32))
def G1 (a : IVec S1x128 32) : FVec Ideal S1x128 .f32 := exp2 (sitofp .f32 (ew a))
def G2 (a : IVec S1x128 32) : FVec Ideal S1x128 .f32 := exp2 (sitofp .f32 (subi (broadcast S1x128 0#32) (ew a)))

theorem hz : (![0, 0] : Fin 2 → Nat) = fun _ => 0 := funext fun a => by fin_cases a <;> rfl

theorem offs : ∀ t : Fin cfg0.N, (win0_0.index t 0 = 0 ∧ win0_0.index t 1 = 0) ∧ (win0_1.index t 0 = 0 ∧ win0_1.index t 1 = 0) ∧ (win0_2.index t 0 = 0 ∧ win0_2.index t 1 = 0) :=
  (by decide +kernel : ∀ t : Fin grid0.N, (win0_0.index t 0 = 0 ∧ win0_0.index t 1 = 0) ∧ (win0_1.index t 0 = 0 ∧ win0_1.index t 1 = 0) ∧ (win0_2.index t 0 = 0 ∧ win0_2.index t 1 = 0))

theorem emb0 (t : Fin cfg0.N) (j : S1x128.Idx) : (win0_0.rect t).emb j = j := by
  obtain ⟨⟨h0, h1⟩, -⟩ := offs t
  funext a
  apply Fin.ext
  match a with
  | ⟨0, _⟩ => exact win0_0.rect_emb_val_of_index_zero t 0 h0 _
  | ⟨1, _⟩ => exact win0_0.rect_emb_val_of_index_zero t 1 h1 _
theorem emb1 (t : Fin cfg0.N) (j : S1x128.Idx) : (win0_1.rect t).emb j = j := by
  obtain ⟨-, ⟨h0, h1⟩, -⟩ := offs t
  funext a
  apply Fin.ext
  match a with
  | ⟨0, _⟩ => exact win0_1.rect_emb_val_of_index_zero t 0 h0 _
  | ⟨1, _⟩ => exact win0_1.rect_emb_val_of_index_zero t 1 h1 _
theorem emb2 (t : Fin cfg0.N) (j : S1x128.Idx) : (win0_2.rect t).emb j = j := by
  obtain ⟨-, -, ⟨h0, h1⟩⟩ := offs t
  funext a
  apply Fin.ext
  match a with
  | ⟨0, _⟩ => exact win0_2.rect_emb_val_of_index_zero t 0 h0 _
  | ⟨1, _⟩ => exact win0_2.rect_emb_val_of_index_zero t 1 h1 _

theorem blk_arg (c : Dev nD) (t : Fin cfg0.N) : (iblk m c 0 t : IVec S1x128 32) = m ((c : Thread nD τ).loc main_arg1) := by
  funext j
  exact (congrArg (V m c main_arg1 : IVec S1x128 32) (emb0 t j)).trans (congrFun (V_main_arg1 m c) j)

abbrev t0 : Fin cfg0.N := ⟨0, by decide⟩

theorem final1 (c : Dev nD) : (dats m 0 c).arrAt 1 cfg0.N = G1 (m ((c : Thread nD τ).loc main_arg1)) := by
  refine (dats m 0 c).arrAt_eq_of_cover 1 (G1 (m ((c : Thread nD τ).loc main_arg1))) (fun t _ => ?_) fun i => ⟨t0, flush0_1 _, ?_⟩
  · show (cfg0.win 1).cut (grid0.coords t) ((dats m 0 c).after 1 t) = _
    rw [after0_1]
    unfold out0_1
    rw [View.canon_unit_zero hz]
    simp only [View.ld_unit_zero (S := S1x128) hz]
    rw [blk_arg]
    funext j
    exact (congrArg (G1 (m ((c : Thread nD τ).loc main_arg1))) (emb1 t j)).symm
  · have h := ((cfg0.win 1).blk t0).view.emb_mem_set i
    exact (show ((cfg0.win 1).blk t0).view.emb i = i from emb1 t0 i) ▸ h

theorem final2 (c : Dev nD) : (dats m 0 c).arrAt 2 cfg0.N = G2 (m ((c : Thread nD τ).loc main_arg1)) := by
  refine (dats m 0 c).arrAt_eq_of_cover 2 (G2 (m ((c : Thread nD τ).loc main_arg1))) (fun t _ => ?_) fun i => ⟨t0, flush0_2 _, ?_⟩
  · show (cfg0.win 2).cut (grid0.coords t) ((dats m 0 c).after 2 t) = _
    rw [after0_2]
    unfold out0_2
    rw [View.canon_unit_zero hz]
    simp only [View.ld_unit_zero (S := S1x128) hz]
    rw [blk_arg]
    funext j
    exact (congrArg (G2 (m ((c : Thread nD τ).loc main_arg1))) (emb2 t j)).symm
  · have h := ((cfg0.win 2).blk t0).view.emb_mem_set i
    exact (show ((cfg0.win 2).blk t0).view.emb i = i from emb2 t0 i) ▸ h

theorem V_v10 (c : Dev nD) : (V m c main_v10 : FVec Ideal S24576x128 .f32) = fun i => sm (fun k => m ((c : Thread nD τ).loc main_arg0) (ix2 (i 0 : Fin 24576) k)) (i 1) := by
  refine Eq.trans ?_ (term_at (m ((c : Thread nD τ).loc main_arg0)))
  show StableHlo.after hostOps0 _ (Proc.devRef .tc main_v10) = _
  after_results
  rfl

/-- The reference's run, its results named. -/
theorem run : θ_run defs (onTc (τ := τ) (main (F := Ideal))) ⟨m, fun _ => 0, ρ⟩ fun r => ∀ c : Dev nD,
      r.2.mem ((c : Thread nD τ).loc main_v10) = (fun i : S24576x128.Idx => (sm (fun k => m ((c : Thread nD τ).loc main_arg0) (ix2 (i 0 : Fin 24576) k)) (i 1) : EReal))
      ∧ r.2.mem ((c : Thread nD τ).loc main_v11_0) = G1 (m ((c : Thread nD τ).loc main_arg1))
      ∧ r.2.mem ((c : Thread nD τ).loc main_v11_1) = G2 (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).2 main_v10 (Pipeline.mem_restRefs_of main_v10 (by decide) (by decide))).trans (V_v10 m c),
    ((h c).1 1).trans (final1 m c), ((h c).1 2).trans (final2 m c),
    ((h c).2 main_arg0 (Pipeline.mem_restRefs_of main_arg0 (by decide) (by decide))).trans (V_main_arg0 m c),
    ((h c).1 0).trans (((dats m 0 c).arrAt_in 0 rfl _).trans ((A_eq m c 0).trans (V_main_arg1 m c)))⟩) (run_main m ρ)

end Cert.SoftmaxReferenceIdeal.RefValue

end
-- ==== Proof.SM.Val.lean ====
/-
  The softmax call's three results, over the reals: every grid point writes its 3072 rows of softmax, the eight blocks of
  rows are the whole array, and the two rows of scales are the powers of two the reference states.
-/
module

public import proofs.«01_k».proof.Defs
public import proofs.«01_k».proof.Proof.SM.Run
public import proofs.«01_k».proof.Proof.SM.Word
public import proofs.«01_k».proof.Proof.SM.Ref
public import proofs.«01_k».proof.Proof.Gen.Pre_normal
public import Idealize.ShloMosaic.Lib.ReduceAll
public import Idealize.ShloMosaic.Lib.Pointwise.Reduce

@[expose] public section

set_option maxRecDepth 16384
set_option maxHeartbeats 4000000

noncomputable section

namespace Cert.SoftmaxIdeal.RefValue

open Cert.SoftmaxIdeal Cert.SoftmaxIdeal.Gen Cert.SoftmaxIdeal.Run
open Idealize.ShloMosaic Idealize.ShloMosaic.TcCoe Idealize.ShloMosaic.Tactic Idealize.SL.Sem
open Idealize.ShloMosaic.Pipeline (Dat)
open Cert.SoftmaxReferenceIdeal.RefValue (mx sm)

theorem lift_eq (r : Fin 3072) (d : Fin 128) : reduces_S3072x128_S3072.lift (ix1 r) d = (ix2 r d : S3072x128.Idx) := by
  funext a; match a with | ⟨0, _⟩ => rfl | ⟨1, _⟩ => rfl

/-- A column of row values, spread over the rows. -/
theorem col_at (v : FVec Ideal S3072 .f32) (r : Fin 3072) (e : Fin 128) :
    broadcastTo S3072x128 (shapeCast S3072x1 v shapeCasts_S3072_S3072x1) broadcasts_S3072x1_S3072x128 (ix2 r e) = v (ix1 r) := by
  refine (broadcastTo_apply _ _ _ (ix2 r (0 : Fin 1)) fun b => by match b with | ⟨0, _⟩ => rfl | ⟨1, _⟩ => rfl).trans ?_
  refine shapeCast_apply _ _ _ (ix1 r) ?_
  show (S3072.rowMajor (ix1 r)).val = (S3072x1.rowMajor (ix2 r (0 : Fin 1))).val
  rw [Shape.rowMajor_val_one, Shape.rowMajor_val_two]
  show r.val = r.val * 1 + 0
  omega

theorem smx_at (x : FVec Ideal S3072x128 .f32) (r : Fin 3072) (e : Fin 128) : smx (F := Ideal) x (ix2 r e) = sm (fun k => x (ix2 r k)) e := by
  have hm : ∀ e : Fin 128, (broadcastTo S3072x128 (shapeCast S3072x1 (multiReduction .maximumf [1] S3072 x 0xFF800000#32 reduces_S3072x128_S3072 (.inl rfl) rfl : FVec Ideal S3072 .f32) shapeCasts_S3072_S3072x1)
      broadcasts_S3072x1_S3072x128 (ix2 r e) : EReal) = mx fun k => x (ix2 r k) := fun e => by
    refine (col_at _ r e).trans ((Ideal.multiReduction_maximumf_single _ _ _ _ _ _).trans ?_)
    refine congrArg (fun g : Fin 128 → EReal => (Finset.univ : Finset (Fin 128)).fold max (Ideal.ofBits .f32 0xFF800000#32) g) (funext fun d => ?_)
    exact congrArg x (lift_eq r d)
  have hu : ∀ e : Fin 128, (exp (subf x (broadcastTo S3072x128 (shapeCast S3072x1 (multiReduction .maximumf [1] S3072 x 0xFF800000#32 reduces_S3072x128_S3072 (.inl rfl) rfl : FVec Ideal S3072 .f32) shapeCasts_S3072_S3072x1)
      broadcasts_S3072x1_S3072x128)) (ix2 r e) : EReal) = Ideal.exp (x (ix2 r e) - mx fun k => x (ix2 r k)) := fun e =>
    congrArg (fun q : EReal => Ideal.exp ((x (ix2 r e) : EReal) - q)) (hm e)
  unfold smx
  refine congrArg₂ Ideal.div (hu e) ?_
  refine (col_at _ r e).trans ((Ideal.multiReduction_add_single _ _ _ _ _ _).trans (Finset.sum_congr rfl fun d _ => ?_))
  exact (congrArg _ (lift_eq r d)).trans (hu d)

variable (m : (ℓ : Loc nD τ sig) → Buf (Elt Ideal) ℓ) (ρ : Dev nD → PrngReg)

/-- The whole array of softmax. -/
def G (c : Dev nD) : Buf (Elt Ideal) ((c : Thread nD τ).loc main_v0_0) :=
  fun i : S24576x128.Idx => (sm (fun k => m ((c : Thread nD τ).loc main_arg0) (ix2 (i 0 : Fin 24576) k)) (i 1) : EReal)

theorem hz : (![0, 0] : Fin 2 → Nat) = fun _ => 0 := funext fun a => by fin_cases a <;> rfl

theorem offs : ∀ t : Fin cfg0.N, (win0_0.index t 0 = t.val ∧ win0_0.index t 1 = 0) ∧ (win0_2.index t 0 = t.val ∧ win0_2.index t 1 = 0)
    ∧ (win0_1.index t 0 = 0 ∧ win0_1.index t 1 = 0) ∧ (win0_3.index t 0 = 0 ∧ win0_3.index t 1 = 0) ∧ (win0_4.index t 0 = 0 ∧ win0_4.index t 1 = 0) :=
  (by decide +kernel : ∀ t : Fin grid0.N, (win0_0.index t 0 = t.val ∧ win0_0.index t 1 = 0) ∧ (win0_2.index t 0 = t.val ∧ win0_2.index t 1 = 0)
    ∧ (win0_1.index t 0 = 0 ∧ win0_1.index t 1 = 0) ∧ (win0_3.index t 0 = 0 ∧ win0_3.index t 1 = 0) ∧ (win0_4.index t 0 = 0 ∧ win0_4.index t 1 = 0))

/-- Row `r` of point `t`'s block, in the whole array. -/
def row (t : Fin cfg0.N) (r : Fin 3072) : Fin 24576 :=
  ⟨t.val * 3072 + r.val, by have h1 : t.val < 8 := lt_of_lt_of_eq t.isLt N_0; have h2 := r.isLt; omega⟩

theorem emb0 (t : Fin cfg0.N) (r : Fin 3072) (e : Fin 128) : (win0_0.rect t).emb (ix2 r e) = (ix2 (row t r) e : S24576x128.Idx) := by
  obtain ⟨⟨h0, h1⟩, -⟩ := offs t
  funext a
  apply Fin.ext
  rw [win0_0.rect_emb_val]
  match a with
  | ⟨0, _⟩ => show win0_0.index t 0 * 3072 + r.val = t.val * 3072 + r.val; rw [h0]
  | ⟨1, _⟩ => show win0_0.index t 1 * 128 + e.val = e.val; rw [h1]; omega

theorem emb2 (t : Fin cfg0.N) (r : Fin 3072) (e : Fin 128) : (win0_2.rect t).emb (ix2 r e) = (ix2 (row t r) e : S24576x128.Idx) := by
  obtain ⟨-, ⟨h0, h1⟩, -⟩ := offs t
  funext a
  apply Fin.ext
  rw [win0_2.rect_emb_val]
  match a with
  | ⟨0, _⟩ => show win0_2.index t 0 * 3072 + r.val = t.val * 3072 + r.val; rw [h0]
  | ⟨1, _⟩ => show win0_2.index t 1 * 128 + e.val = e.val; rw [h1]; omega

theorem emb1 (t : Fin cfg0.N) (j : S1x128.Idx) : (win0_1.rect t).emb j = j := by
  obtain ⟨-, -, ⟨h0, h1⟩, -⟩ := offs t
  funext a
  apply Fin.ext
  match a with
  | ⟨0, _⟩ => exact win0_1.rect_emb_val_of_index_zero t 0 h0 _
  | ⟨1, _⟩ => exact win0_1.rect_emb_val_of_index_zero t 1 h1 _
theorem emb3 (t : Fin cfg0.N) (j : S1x128.Idx) : (win0_3.rect t).emb j = j := by
  obtain ⟨-, -, -, ⟨h0, h1⟩, -⟩ := offs t
  funext a
  apply Fin.ext
  match a with
  | ⟨0, _⟩ => exact win0_3.rect_emb_val_of_index_zero t 0 h0 _
  | ⟨1, _⟩ => exact win0_3.rect_emb_val_of_index_zero t 1 h1 _
theorem emb4 (t : Fin cfg0.N) (j : S1x128.Idx) : (win0_4.rect t).emb j = j := by
  obtain ⟨-, -, -, -, ⟨h0, h1⟩⟩ := offs t
  funext a
  apply Fin.ext
  match a with
  | ⟨0, _⟩ => exact win0_4.rect_emb_val_of_index_zero t 0 h0 _
  | ⟨1, _⟩ => exact win0_4.rect_emb_val_of_index_zero t 1 h1 _

/-- A point writes its rows of softmax. -/
theorem flushed_eq (c : Dev nD) (t : Fin cfg0.N) :
    (dats m 0 c).flushed 2 t = (win0_2.blk t).view.read (Elt Ideal) (G m c) := by
  show (cfg0.win 2).cut (grid0.coords t) ((dats m 0 c).after 2 t) = _
  rw [after2]
  unfold o2
  rw [View.canon_unit_zero hz, View.ld_unit_zero hz]
  funext j
  obtain ⟨r, e, rfl⟩ : ∃ (r : Fin 3072) (e : Fin 128), j = (ix2 r e : S3072x128.Idx) :=
    ⟨j 0, j 1, by funext a; match a with | ⟨0, _⟩ => rfl | ⟨1, _⟩ => rfl⟩
  have hR : (win0_2.blk t).view.read (Elt Ideal) (G m c) (ix2 r e) = G m c (ix2 (row t r) e) := congrArg (G m c) (emb2 t r e)
  refine Eq.trans ?_ hR.symm
  refine (smx_at _ r e).trans ?_
  exact congrArg (fun f : Fin 128 → EReal => sm f e) (funext fun k => congrArg (m ((c : Thread nD τ).loc main_arg0)) (emb0 t r k))

/-- Every entry of the array is in some point's block. -/
theorem cover (i : S24576x128.Idx) : ∃ t : Fin cfg0.N, (cfg0.win 2).flush t = true ∧ i ∈ ((cfg0.win 2).blk t).view.set := by
  have hi : (i 0).val < 24576 := (i 0).isLt
  obtain ⟨t, ht⟩ : ∃ t : Fin cfg0.N, t.val = (i 0).val / 3072 :=
    ⟨⟨(i 0).val / 3072, lt_of_lt_of_eq (by omega : (i 0).val / 3072 < 8) N_0.symm⟩, rfl⟩
  have he : (win0_2.rect t).emb (ix2 (⟨(i 0).val % 3072, Nat.mod_lt _ (by norm_num)⟩ : Fin 3072) (i 1 : Fin 128)) = i := by
    refine (emb2 t _ _).trans ?_
    funext a
    match a with
    | ⟨0, _⟩ => apply Fin.ext; show t.val * 3072 + (i 0).val % 3072 = (i 0).val; rw [ht]; omega
    | ⟨1, _⟩ => rfl
  refine ⟨t, flush0_2 t, ?_⟩
  have h := ((cfg0.win 2).blk t).view.emb_mem_set (ix2 (⟨(i 0).val % 3072, Nat.mod_lt _ (by norm_num)⟩ : Fin 3072) (i 1 : Fin 128))
  exact (show ((cfg0.win 2).blk t).view.emb (ix2 (⟨(i 0).val % 3072, Nat.mod_lt _ (by norm_num)⟩ : Fin 3072) (i 1 : Fin 128)) = i from he) ▸ h

theorem final2 (c : Dev nD) : (dats m 0 c).arrAt 2 cfg0.N = G m c :=
  (dats m 0 c).arrAt_eq_of_cover 2 (G m c) (fun t _ => flushed_eq m c t) cover

/-- The words the call is given. -/
abbrev aB (c : Dev nD) : IVec S1x128 32 := m ((c : Thread nD τ).loc main_arg1)

theorem wrd_arg (c : Dev nD) : wrd m c = aB m c := by
  funext j
  exact congrArg (aB m c) (emb1 ⟨0, by decide⟩ j)

abbrev last : Fin cfg0.N := ⟨7, by decide⟩

/-- The rows of scales. -/
theorem final3 (c : Dev nD) : (dats m 0 c).arrAt 3 cfg0.N = pw (F := Ideal) (exw (aB m c)) := by
  refine (dats m 0 c).arrAt_eq_of_cover 3 (pw (F := Ideal) (exw (aB m c))) (fun t _ => ?_) fun i => ⟨last, (flush0_3 last).2 rfl, ?_⟩
  · show (cfg0.win 3).cut (grid0.coords t) ((dats m 0 c).after 3 t) = _
    rw [after3]
    unfold o3
    rw [View.canon_unit_zero hz, View.ld_unit_zero hz, wrd_arg]
    funext j
    exact (congrArg (pw (F := Ideal) (exw (aB m c))) (emb3 t j)).symm
  · have h := ((cfg0.win 3).blk last).view.emb_mem_set i
    exact (show ((cfg0.win 3).blk last).view.emb i = i from emb3 last i) ▸ h

theorem final4 (c : Dev nD) : (dats m 0 c).arrAt 4 cfg0.N = pw (F := Ideal) (subi (broadcast S1x128 0#32) (exw (aB m c))) := by
  refine (dats m 0 c).arrAt_eq_of_cover 4 (pw (F := Ideal) (subi (broadcast S1x128 0#32) (exw (aB m c)))) (fun t _ => ?_) fun i => ⟨last, (flush0_4 last).2 rfl, ?_⟩
  · show (cfg0.win 4).cut (grid0.coords t) ((dats m 0 c).after 4 t) = _
    rw [after4]
    unfold o4
    rw [View.canon_unit_zero hz, View.ld_unit_zero hz, wrd_arg]
    funext j
    exact (congrArg (pw (F := Ideal) (subi (broadcast S1x128 0#32) (exw (aB m c)))) (emb4 t j)).symm
  · have h := ((cfg0.win 4).blk last).view.emb_mem_set i
    exact (show ((cfg0.win 4).blk last).view.emb i = i from emb4 last i) ▸ h

/-- The kernel's run, its results named. -/
theorem run : θ_run defs (onTc (τ := τ) (main (F := Ideal))) ⟨m, fun _ => 0, ρ⟩ fun r => ∀ c : Dev nD,
      r.2.mem ((c : Thread nD τ).loc main_v0_0) = G m c
      ∧ r.2.mem ((c : Thread nD τ).loc main_v0_1) = pw (F := Ideal) (exw (aB m c))
      ∧ r.2.mem ((c : Thread nD τ).loc main_v0_2) = pw (F := Ideal) (subi (broadcast S1x128 0#32) (exw (aB m c)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h.1 c).1 2).trans (final2 m c), ((h.1 c).1 3).trans (final3 m c), ((h.1 c).1 4).trans (final4 m c),
    ((h.1 c).1 0).trans (((dats m 0 c).arrAt_in 0 rfl _).trans (A_eq m c 0)), ((h.1 c).1 1).trans (((dats m 0 c).arrAt_in 1 rfl _).trans (A_eq m c 1))⟩)
    (run_main m ρ)

/-- The precondition, word by word. -/
theorem normal_of (a0 : FVec Ideal Cert.Pre_normal.S24576x128 .f32) (a1 : IVec Cert.Pre_normal.S1x128 32)
    (h : Cert.Pre_normal.fn (F := Ideal) a0 a1 = fun _ => 1#1) : ∀ i, Word.Normal (a1 i) := fun i => by
  unfold Cert.Pre_normal.fn at h
  haveI : Subsingleton Cert.Pre_normal.S_.Idx := ⟨fun a b => funext fun k => k.elim0⟩
  exact Word.normal_word _ (Host.reduce_andi_all _ _ _ _ (fun k => k.elim0) (congrFun h _) i)

end Cert.SoftmaxIdeal.RefValue

namespace Cert.SoftmaxIdeal.RefValue

open Idealize.ShloMosaic Idealize.ShloMosaic.TcCoe Idealize.SL.Sem

/-- The kernel and the reference, run on the same arguments, leave the same three arrays. -/
theorem values : Cert.algebraic_SoftmaxIdeal_SoftmaxReferenceIdeal_pre_normal := fun m ρ m' ρ' hpre hargs => by
  have hn : ∀ c i, Word.Normal (aB m c i) := fun c => normal_of _ _ (hpre c)
  refine ⟨fun c => G m c, fun c => Run.pw (F := Ideal) (Run.exw (aB m c)), fun c => Run.pw (F := Ideal) (subi (broadcast S1x128 0#32) (Run.exw (aB m c))), run m ρ, ?_⟩
  refine (θ_run _ _ _).mono (fun r h c => ⟨(h c).1.trans ?_, (h c).2.1.trans ?_, (h c).2.2.1.trans ?_, (h c).2.2.2⟩) (Cert.SoftmaxReferenceIdeal.RefValue.run m' ρ')
  · rw [(hargs c).1]; rfl
  · rw [(hargs c).2]
    funext i
    exact (Word.scale_eq _ (hn c i)).symm
  · rw [(hargs c).2]
    funext i
    exact (Word.inv_eq _ (hn c i)).symm

end Cert.SoftmaxIdeal.RefValue

end
-- ==== Proof.SM.Two.lean ====
/-
  The softmax call at machine floats: the program printed for them is, definition by definition, the one printed for
  reading at the extended reals, whose run is proved for any floats.
-/
module

public import proofs.«01_k».proof.Defs
public import proofs.«01_k».proof.Proof.SM.Run
public import proofs.«01_k».proof.Proof.Gen.Softmax

@[expose] public section

noncomputable section

namespace Cert.Softmax.Run

open Idealize.ShloMosaic Idealize.SL.Sem

variable {F : FTy → Type} [FloatOps F] [Cert.Softmax.Facts]

/-- The two programs' bodies are one table. -/
theorem defs₀_eq [Cert.SoftmaxIdeal.Facts] : Cert.Softmax.defs₀ (F := F) = Cert.SoftmaxIdeal.defs₀ (F := F) := by
  refine congrArg Defs.onTc ?_
  funext l a
  match l, a with
  | 0, (t, s) => rfl

theorem frame : Cert.quiescent_Softmax := fun m ρ _ => by
  haveI : Cert.SoftmaxIdeal.Facts := Cert.SoftmaxIdeal.Gen.facts
  have e : Cert.Softmax.defs (F := Bits) = Cert.SoftmaxIdeal.defs (F := Bits) :=
    congrArg (Pipeline.defs (Cert.SoftmaxIdeal.pcfgs (F := Bits))) defs₀_eq
  rw [e]
  exact Cert.SoftmaxIdeal.Run.frame (F := Bits) m ρ

end Cert.Softmax.Run

end
-- ==== Proof.KI.Base.lean ====
/-
  What the modules of this directory share: the resource algebra of the runs, and the scratch buffers under the names
  the kernel's body calls them by.
-/
module

public import proofs.«01_k».proof.Proof.Gen.KernelIdeal.Skeleton
public import proofs.«01_k».proof.Proof.Gen.KernelIdeal.Loops
public import Idealize.ShloMosaic.Lib.Pipeline.Kit
public import Idealize.ShloMosaic.Lib.Ring
public import Idealize.ShloMosaic.Lib.Affine
public import Idealize.ShloMosaic.Lib.Writes
public import Idealize.ShloMosaic.Lib.Tactic

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The pipeline library's algebra, beside the counters the kernel's own transfers ride on. -/
abbrev UU (nD : Nat) (τ : Topo) : Type := UR sig nD τ × Counters
abbrev 𝒱₀ : Variants := Variants.none

/-- The codes of `d_y` (in HBM), the table of words, the ring of raw rows, the gathered rows, the two accumulators,
    the ring's four semaphores. -/
abbrev dyM : Memref sig .tc .hbm S24576x6144 .i8 := Memref.whole main_v14
abbrev tabM : Memref sig .tc .vmem S98304x128 .i32 := Memref.whole cc0_scratch0
abbrev rawM : Memref sig .tc .vmem S4x512x2048 .i8 := Memref.whole cc0_scratch1
abbrev stgM : Memref sig .tc .vmem S512x128 .i32 := Memref.whole cc0_scratch2
abbrev dotM : Memref sig .tc .vmem S384x1x128 .f32 := Memref.whole cc0_scratch3
abbrev amaxM : Memref sig .tc .vmem S128x8x128 .f32 := Memref.whole cc0_scratch4

end Cert.KernelIdeal.Run
-- ==== Proof.KI.Tile.lean ====
/-
  What one trip of the block loop computes, as functions of the words it loads: the byte transpose, one tile of d_out,
  the block's product, its diagonal and its running maximum. Then the two lemmas that recognise one store of the trip:
  four gathered rows of the stage, and one 32x128 tile of d_out.
-/
module

public import proofs.«01_k».proof.Proof.KI.Base
public import Idealize.ShloMosaic.Lib.ValueIdxCore
public import Idealize.ShloMosaic.Lib.Pipeline.Value

@[expose] public section

set_option maxRecDepth 16384
set_option maxHeartbeats 4000000

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-! ## Writes whose pieces all agree with one function -/

section Laid
variable {s : Shape} {e : EltTy} {Val : EltTy → Type} {ι : Type}

/-- The pieces of a list, labelled: label `i`'s rectangle starts at `off i`, all of one size and stride, and each holds
    the function `G` on its rectangle. -/
def Laid (G : s.Idx → Val e) (off : ι → Fin s.rank → Nat) (size stride : Fin s.rank → Nat) : List ι → List (View.Piece Val s e) → Prop
  | [], [] => True
  | i :: is, p :: L => (p.1.off = off i ∧ p.1.size = size ∧ p.1.stride = stride ∧ ∀ x : p.1.shape.Idx, p.2 x = G (p.1.emb x)) ∧ Laid G off size stride is L
  | _, _ => False

theorem Laid.pieces {G : s.Idx → Val e} {off : ι → Fin s.rank → Nat} {size stride : Fin s.rank → Nat} :
    ∀ {is : List ι} {L : List (View.Piece Val s e)}, Laid G off size stride is L → ∀ p ∈ L, ∀ x : p.1.shape.Idx, p.2 x = G (p.1.emb x)
  | [], [], _, _, h => absurd h List.not_mem_nil
  | i :: is, q :: L, H, p, h => by
    rcases List.mem_cons.mp h with rfl | h
    · exact H.1.2.2.2
    · exact H.2.pieces p h
  | [], _ :: _, H, _, _ => H.elim
  | _ :: _, [], H, _, _ => H.elim

/-- The label's piece is in the list; -/
theorem Laid.mem {G : s.Idx → Val e} {off : ι → Fin s.rank → Nat} {size stride : Fin s.rank → Nat} :
    ∀ {is : List ι} {L : List (View.Piece Val s e)}, Laid G off size stride is L → ∀ i ∈ is,
      ∃ p ∈ L, p.1.off = off i ∧ p.1.size = size ∧ p.1.stride = stride
  | [], [], _, _, h => absurd h List.not_mem_nil
  | j :: is, q :: L, H, i, h => by
    rcases List.mem_cons.mp h with rfl | h
    · exact ⟨q, List.mem_cons_self, H.1.1, H.1.2.1, H.1.2.2.1⟩
    · obtain ⟨p, hp, h'⟩ := H.2.mem i h
      exact ⟨p, List.mem_cons_of_mem _ hp, h'⟩
  | [], _ :: _, H, _, _ => H.elim
  | _ :: _, [], H, _, _ => H.elim

/-- and every piece has a label. -/
theorem Laid.label {G : s.Idx → Val e} {off : ι → Fin s.rank → Nat} {size stride : Fin s.rank → Nat} :
    ∀ {is : List ι} {L : List (View.Piece Val s e)}, Laid G off size stride is L → ∀ p ∈ L,
      ∃ i ∈ is, p.1.off = off i ∧ p.1.size = size ∧ p.1.stride = stride
  | [], [], _, _, h => absurd h List.not_mem_nil
  | j :: is, q :: L, H, p, h => by
    rcases List.mem_cons.mp h with rfl | h
    · exact ⟨j, List.mem_cons_self, H.1.1, H.1.2.1, H.1.2.2.1⟩
    · obtain ⟨i, hi, h'⟩ := H.2.label p h
      exact ⟨i, List.mem_cons_of_mem _ hi, h'⟩
  | [], _ :: _, H, _, _ => H.elim
  | _ :: _, [], H, _, _ => H.elim

/-- A place under label `i`'s rectangle reads `G`. -/
theorem Laid.read {sig' : RefSig} {κ : Kind} {sp : Space} (v : View sig' κ sp s e) (f : v.ty.Contents Val)
    {G : s.Idx → Val e} {off : ι → Fin s.rank → Nat} {size stride : Fin s.rank → Nat}
    {is : List ι} {L : List (View.Piece Val s e)} (H : Laid G off size stride is L) (y : s.Idx) (i : ι) (hi : i ∈ is)
    (hy : ∀ a, ∃ j, j < size a ∧ (y a).val = off i a + stride a * j) : v.read Val (v.writes Val f L) y = G y := by
  refine View.read_writes_apply_of_pieces v f G L H.pieces y ?_
  obtain ⟨p, hp, ho, hs, hst⟩ := H.mem i hi
  refine ⟨p, hp, p.1.mem_set.mpr fun a => ?_⟩
  obtain ⟨j, hj, e'⟩ := hy a
  exact ⟨j, by rw [hs]; exact hj, by rw [ho, hst]; exact e'⟩

/-- A place outside every rectangle reads what was there. -/
theorem Laid.read_out {sig' : RefSig} {κ : Kind} {sp : Space} (v : View sig' κ sp s e) (f : v.ty.Contents Val)
    {G : s.Idx → Val e} {off : ι → Fin s.rank → Nat} {size stride : Fin s.rank → Nat}
    {is : List ι} {L : List (View.Piece Val s e)} (H : Laid G off size stride is L) (y : s.Idx)
    (hy : ∀ i ∈ is, ∃ a, ∀ j, j < size a → (y a).val ≠ off i a + stride a * j) : v.read Val (v.writes Val f L) y = v.read Val f y := by
  refine View.read_writes_apply_of_forall_not_mem v f y L fun p hp hmem => ?_
  obtain ⟨i, hi, ho, hs, hst⟩ := H.label p hp
  obtain ⟨a, ha⟩ := hy i hi
  obtain ⟨j, hj, e'⟩ := p.1.mem_set.mp hmem a
  exact ha j (by rw [← hs]; exact hj) (by rw [← ho, ← hst]; exact e')
end Laid

/-! ## The byte transpose, a tile of d_out, the block's product, diagonal and maximum -/

abbrev VW (F : FTy → Type) : Type := Vec F S8x128 .i32
/-- The low byte of each half word of `a`, with `b`'s above it. -/
def lowBytes (a b : IVec S8x128 32) : IVec S8x128 32 :=
  ori (andi a (broadcast S8x128 16711935#32)) (shli (andi b (broadcast S8x128 16711935#32)) (broadcast S8x128 8#32))
/-- The high byte of each half word of `b`, with `a`'s below it. -/
def highBytes (a b : IVec S8x128 32) : IVec S8x128 32 := k0_pay205 a b
def lowHalves (a b : IVec S8x128 32) : IVec S8x128 32 := k0_pay200 (F := F) a b
def highHalves (a b : IVec S8x128 32) : IVec S8x128 32 := k0_pay202 (F := F) a b
/-- Word `q` of the 4x4 byte transpose of four words: byte `b` of it is byte `q` of word `b`. -/
def bt (w : Fin 4 → IVec S8x128 32) (q : Fin 4) : IVec S8x128 32 :=
  match q with
  | 0 => lowBytes (lowHalves (F := F) (w 0) (w 2)) (lowHalves (F := F) (w 1) (w 3))
  | 1 => highBytes (lowHalves (F := F) (w 0) (w 2)) (lowHalves (F := F) (w 1) (w 3))
  | 2 => lowBytes (highHalves (F := F) (w 0) (w 2)) (highHalves (F := F) (w 1) (w 3))
  | 3 => highBytes (highHalves (F := F) (w 0) (w 2)) (highHalves (F := F) (w 1) (w 3))

theorem slices32 (gg : Fin 4) : S128x128.Slices ![32 * gg.val, 0] S32x128 := by revert gg; decide
/-- Rows `32 gg ..` of the block's multipliers. -/
def mRows (mc : FVec F S128x128 .f32) (gg : Fin 4) : FVec F S32x128 .f32 := extractStridedSlice S32x128 ![32 * gg.val, 0] mc (slices32 gg)
/-- The words of a block: chunk `j` of four column tiles, group `gg` of 32 slots, slot `b` of each four. -/
abbrev Words (F : FTy → Type) : Type := Fin 4 → Fin 4 → Fin 4 → VW F
def word (W : Words F) (j gg q : Fin 4) : IVec S8x128 32 := bt (F := F) (fun b => W j gg b) q
/-- One tile of d_out's codes. -/
def outT (v4 : Elt F .f32) (mc : FVec F S128x128 .f32) (W : Words F) (j gg q : Fin 4) : FVec F S1x32x128 .fp8e5m2 :=
  k0_pay214 v4 (word W j gg q) (mRows mc gg)
/-- One tile of the gathered gradient's codes as bf16. -/
def gTile (W : Words F) (j gg q : Fin 4) : FVec F S32x128 .bf16 := k0_pay215 (F := F) (word W j gg q)
def gRow (W : Words F) (j gg : Fin 4) : FVec F S32x512 .bf16 :=
  concatenate S32x512 1 [⟨S32x128, gTile W j gg 0⟩, ⟨S32x128, gTile W j gg 1⟩, ⟨S32x128, gTile W j gg 2⟩, ⟨S32x128, gTile W j gg 3⟩] concatenates_S32x128_S32x128_S32x128_S32x128_S32x512_d1
def gBlock (W : Words F) (j : Fin 4) : FVec F S128x512 .bf16 :=
  concatenate S128x512 0 [⟨S32x512, gRow W j 0⟩, ⟨S32x512, gRow W j 1⟩, ⟨S32x512, gRow W j 2⟩, ⟨S32x512, gRow W j 3⟩] concatenates_S32x512_S32x512_S32x512_S32x512_S128x512_d0
/-- One of the four products of a block, `R` the rows of the forward pass's codes. -/
def prodT (W : Words F) (R : Vec F S1x128x512 .fp8e4m3) (j : Fin 4) : FVec F S128x128 .f32 :=
  matmul dot_S128x512_S128x512_S128x128_1_1_0_0_n_n none (gBlock W j) (shapeCast S128x512 R shapeCasts_S1x128x512_S128x512) (constant S128x128 .f32 0x00000000#32)
def accT (W : Words F) (R : Fin 4 → Vec F S1x128x512 .fp8e4m3) : FVec F S128x128 .f32 :=
  addf (addf (addf (addf (k0_pay199 (F := F)) (prodT W (R 0) 0)) (prodT W (R 1) 1)) (prodT W (R 2) 2)) (prodT W (R 3) 3)
/-- The largest |code| of group `gg`'s rows, tile by tile. -/
def gmaxJ (W : Words F) (gg : Fin 4) (a : FVec F S32x128 .bf16) (j : Fin 4) : FVec F S32x128 .bf16 :=
  maximumf (maximumf (maximumf (maximumf a (absf (gTile W j gg 0))) (absf (gTile W j gg 1))) (absf (gTile W j gg 2))) (absf (gTile W j gg 3))
def gmaxT (W : Words F) (gg : Fin 4) : FVec F S32x128 .bf16 :=
  gmaxJ W gg (gmaxJ W gg (gmaxJ W gg (maximumf (maximumf (maximumf (absf (gTile W 0 gg 0)) (absf (gTile W 0 gg 1))) (absf (gTile W 0 gg 2))) (absf (gTile W 0 gg 3))) 1) 2) 3
/-- The block's maximum, one row per eight slots. -/
def amT (mc : FVec F S128x128 .f32) (W : Words F) : FVec F S8x128 .f32 :=
  k0_pay630 mc (gmaxT W 3) (k0_pay627 mc (gmaxT W 2)) (k0_pay628 mc (gmaxT W 0) (gmaxT W 1) (gmaxT W 2)) (k0_pay629 mc (gmaxT W 2))

/-! ## The stage: what the gathers leave, and the words loaded back -/

def tabAt (T : S98304x128.Idx → BitVec 32) (r l : Nat) : BitVec 32 := T (ix2 (Fin.ofNat 98304 r) (Fin.ofNat 128 l))
/-- The slot whose rows lie at rows `4 R ..` of the stage. -/
def slotOf (R : Nat) : Nat := 32 * (R / 32) + 4 * (R % 8) + (R % 32) / 8
/-- The stage after the gathers of block `k`. -/
def stgSpec (T : S98304x128.Idx → BitVec 32) (rw' : Nat → BitVec 32) (k : Nat) (y : S512x128.Idx) : BitVec 32 :=
  tabAt T ((rw' (128 * k + slotOf ((y 0).val / 4))).toNat + (y 0).val % 4) (y 1).val
theorem stgW_inb (j gg b : Fin 4) : ∀ a : Fin 2, S8x128.size a = 0 ∨ ![128 * gg.val + 32 * b.val + j.val, 0] a + ![4, 1] a * (S8x128.size a - 1) < S512x128.size a := by
  revert j gg b; decide
/-- The words the trip loads from the stage. -/
def stgW (arg13 : Memref sig .tc .vmem S512x128 .i32) (g : BufTy.Contents (Elt F) arg13.view.ty) : Words F :=
  fun j gg b => View.readAt (Elt F) arg13.view (⟨![128 * gg.val + 32 * b.val + j.val, 0], S8x128.size, ![4, 1], stgW_inb j gg b⟩ : LoadRect S512x128) g
/-- They are rows of the table. -/
def wSpec (T : S98304x128.Idx → BitVec 32) (rw' : Nat → BitVec 32) (k : Nat) : Words F :=
  fun j gg b x => tabAt T ((rw' (128 * k + 32 * gg.val + 4 * (x 0).val + b.val)).toNat + j.val) (x 1).val

theorem stgW_eq (arg13 : Memref sig .tc .vmem S512x128 .i32) (g : BufTy.Contents (Elt F) arg13.view.ty) (T : S98304x128.Idx → BitVec 32) (rw' : Nat → BitVec 32) (k : Nat)
    (h : ∀ y, arg13.view.read (Elt F) g y = stgSpec T rw' k y) : stgW arg13 g = wSpec T rw' k := by
  funext j gg b x
  show arg13.view.read (Elt F) g _ = _
  rw [h]
  unfold stgSpec wSpec
  have h0 : (x 0).val < 8 := (x 0).isLt
  have hj := j.isLt; have hg := gg.isLt; have hb := b.isLt
  have e0 : ((LoadRect.idx (⟨![128 * gg.val + 32 * b.val + j.val, 0], S8x128.size, ![4, 1], stgW_inb j gg b⟩ : LoadRect S512x128) x) 0).val = 128 * gg.val + 32 * b.val + j.val + 4 * (x 0).val := rfl
  have e1 : ((LoadRect.idx (⟨![128 * gg.val + 32 * b.val + j.val, 0], S8x128.size, ![4, 1], stgW_inb j gg b⟩ : LoadRect S512x128) x) 1).val = 0 + 1 * (x 1).val := rfl
  have k1 : 128 * k + slotOf ((128 * gg.val + 32 * b.val + j.val + 4 * (x 0).val) / 4) = 128 * k + 32 * gg.val + 4 * (x 0).val + b.val := by
    unfold slotOf; omega
  have k2 : (128 * gg.val + 32 * b.val + j.val + 4 * (x 0).val) % 4 = j.val := by omega
  have k3 : 0 + 1 * (x 1).val = (x 1).val := by omega
  rw [e0, e1, k1, k2, k3]

/-! ## One gather, one tile -/

/-- The word of `rows` a gather reads. -/
abbrev rowsAt (arg5 : Memref sig .tc .smem S1x1x384 .i32) (X5 : BufTy.Contents (Elt F) arg5.view.ty) (off : Fin 3 → Nat) (h : ∀ a, off a + S1x1x1.size a ≤ S1x1x384.size a) : BitVec 32 :=
  arg5.view.readAt (Elt F) (Rect.unit (s := S1x1x384) off S1x1x1.size h).toLoadRect X5 (Shape.Idx.first (numel1_S1x1x1.symm ▸ Nat.one_pos))
/-- The row words as a function of the slot. -/
def rowW (arg5 : Memref sig .tc .smem S1x1x384 .i32) (X5 : BufTy.Contents (Elt F) arg5.view.ty) (s : Nat) : BitVec 32 :=
  arg5.view.read (Elt F) X5 (ix3 (0 : Fin 1) (0 : Fin 1) (Fin.ofNat 384 s))

theorem gpiece (arg5 : Memref sig .tc .smem S1x1x384 .i32) (X5 : BufTy.Contents (Elt F) arg5.view.ty)
    (arg11 : Memref sig .tc .vmem S98304x128 .i32) (X11 : BufTy.Contents (Elt F) arg11.view.ty) (k : Fin k0_t3_loop.trips)
    (n : Nat) (off : Fin 3 → Nat) (hoff : off = ![0, 0, 128 * k.val + slotOf n]) (h) (hc : k0_chk1 (rowsAt arg5 X5 off h))
    (o : Nat) (ho : o = 4 * n) (hr : ∀ a, ![o, 0] a + S4x128.size a ≤ S512x128.size a) (w : S4x128.Idx → BitVec 32)
    (hw : w = k0_pay70 (F := F) (View.readAt (Elt F) arg11.view (Rect.unit (s := S98304x128) (k0_off30 (rowsAt arg5 X5 off h)) S4x128.size hc.2).toLoadRect X11)) :
    ∀ x : (Rect.unit (s := S512x128) ![o, 0] S4x128.size hr).shape.Idx,
      w x = stgSpec (arg11.view.read (Elt F) X11) (rowW arg5 X5) k.val ((Rect.unit (s := S512x128) ![o, 0] S4x128.size hr).emb x) := by
  intro x
  subst hw ho
  have hx0 : (x 0).val < 4 := (x 0).isLt
  have hx1 : (x 1).val < 128 := (x 1).isLt
  have hn : 4 * n + 4 ≤ 512 := hr 0
  have hv : (rowsAt arg5 X5 off h) = rowW arg5 X5 (128 * k.val + slotOf n) := by
    subst hoff
    have hs : 128 * k.val + slotOf n + 1 ≤ 384 := h 2
    show arg5.view.read (Elt F) X5 _ = arg5.view.read (Elt F) X5 _
    congr 1
    funext a
    match a with
    | ⟨0, _⟩ => exact Fin.ext (by simp; rfl)
    | ⟨1, _⟩ => exact Fin.ext (by simp; rfl)
    | ⟨2, _⟩ => exact Fin.ext (by show 128 * k.val + slotOf n + 1 * 0 = (128 * k.val + slotOf n) % 384; omega)
  show k0_pay70 (F := F) _ x = _
  unfold k0_pay70
  rw [shapeCast_self]
  show arg11.view.read (Elt F) X11 _ = arg11.view.read (Elt F) X11 _
  have hin : (rowsAt arg5 X5 off h).toNat + 4 ≤ 98304 := hc.2 0
  congr 1
  funext a
  match a with
  | ⟨0, _⟩ =>
    refine Fin.ext ?_
    show (rowsAt arg5 X5 off h).toNat + 1 * (x 0).val = ((rowW arg5 X5 (128 * k.val + slotOf ((4 * n + 1 * (x 0).val) / 4))).toNat + (4 * n + 1 * (x 0).val) % 4) % 98304
    rw [show (4 * n + 1 * (x 0).val) / 4 = n by omega, ← hv]; omega
  | ⟨1, _⟩ =>
    refine Fin.ext ?_
    show 0 + 1 * (x 1).val = (0 + 1 * (x 1).val) % 128
    omega

/-- The block's multipliers, one slot per row. -/
def mCol (arg4 : Memref sig .tc .vmem S1x3x128 .f32) (X4 : BufTy.Contents (Elt F) arg4.view.ty) (k : Fin k0_t3_loop.trips) : FVec F S128x128 .f32 :=
  k0_pay198 (View.readAt (Elt F) arg4.view (Rect.unit (s := S1x3x128) (k0_off285 k) S1x1x128.size (k0_off285_inb k)).toLoadRect X4)
/-- The block's rows of the forward pass's codes, in four column groups. -/
def oRows (arg3 : Memref sig .tc .vmem S1x384x2048 .fp8e4m3) (X3 : BufTy.Contents (Elt F) arg3.view.ty) (k : Fin k0_t3_loop.trips) (j : Fin 4) : Vec F S1x128x512 .fp8e4m3 :=
  match j with
  | 0 => View.readAt (Elt F) arg3.view (Rect.unit (s := S1x384x2048) (k0_off290 k) S1x128x512.size (k0_off290_inb k)).toLoadRect X3
  | 1 => View.readAt (Elt F) arg3.view (Rect.unit (s := S1x384x2048) (k0_off295 k) S1x128x512.size (k0_off295_inb k)).toLoadRect X3
  | 2 => View.readAt (Elt F) arg3.view (Rect.unit (s := S1x384x2048) (k0_off300 k) S1x128x512.size (k0_off300_inb k)).toLoadRect X3
  | 3 => View.readAt (Elt F) arg3.view (Rect.unit (s := S1x384x2048) (k0_off305 k) S1x128x512.size (k0_off305_inb k)).toLoadRect X3

/-- The codes of d_out of a block, at the places of the whole staging buffer (rows `128 k ..`). -/
def outG (v4 : Elt F .f32) (mc : FVec F S128x128 .f32) (W : Words F) (k : Nat) (y : S1x384x2048.Idx) : Elt F .fp8e5m2 :=
  outT v4 mc W (Fin.ofNat 4 ((y 2).val / 512)) (Fin.ofNat 4 (((y 1).val - 128 * k) / 32)) (Fin.ofNat 4 ((y 2).val / 128))
    (ix3 (0 : Fin 1) (Fin.ofNat 32 ((y 1).val - 128 * k)) (Fin.ofNat 128 (y 2).val))

theorem dpiece (v4 : Elt F .f32) (mc : FVec F S128x128 .f32) (W : Words F) (k : Nat) (j gg q : Fin 4)
    (off : Fin 3 → Nat) (hoff : off = ![0, 128 * k + 32 * gg.val, 128 * (4 * j.val + q.val)]) (hr : ∀ a, off a + S1x32x128.size a ≤ S1x384x2048.size a)
    (w : S1x32x128.Idx → Elt F .fp8e5m2) (hw : w = outT v4 mc W j gg q) :
    ∀ x : (Rect.unit (s := S1x384x2048) off S1x32x128.size hr).shape.Idx, w x = outG v4 mc W k ((Rect.unit (s := S1x384x2048) off S1x32x128.size hr).emb x) := by
  intro x
  subst hw hoff
  have hx0 : (x 0).val < 1 := (x 0).isLt
  have hx1 : (x 1).val < 32 := (x 1).isLt
  have hx2 : (x 2).val < 128 := (x 2).isLt
  have hj := j.isLt; have hg := gg.isLt; have hq := q.isLt
  unfold outG
  have e1 : (((Rect.unit (s := S1x384x2048) ![0, 128 * k + 32 * gg.val, 128 * (4 * j.val + q.val)] S1x32x128.size hr).emb x) 1).val = 128 * k + 32 * gg.val + 1 * (x 1).val := rfl
  have e2 : (((Rect.unit (s := S1x384x2048) ![0, 128 * k + 32 * gg.val, 128 * (4 * j.val + q.val)] S1x32x128.size hr).emb x) 2).val = 128 * (4 * j.val + q.val) + 1 * (x 2).val := rfl
  rw [e1, e2]
  have a1 : Fin.ofNat 4 ((128 * (4 * j.val + q.val) + 1 * (x 2).val) / 512) = j := Fin.ext (by show _ % 4 = _; omega)
  have a2 : Fin.ofNat 4 ((128 * k + 32 * gg.val + 1 * (x 1).val - 128 * k) / 32) = gg := Fin.ext (by show _ % 4 = _; omega)
  have a3 : Fin.ofNat 4 ((128 * (4 * j.val + q.val) + 1 * (x 2).val) / 128) = q := Fin.ext (by show _ % 4 = _; omega)
  rw [a1, a2, a3]
  congr 1
  funext a
  match a with
  | ⟨0, _⟩ => exact Fin.ext (by show (x 0).val = 0; omega)
  | ⟨1, _⟩ => exact Fin.ext (by show (x 1).val = (128 * k + 32 * gg.val + 1 * (x 1).val - 128 * k) % 32; omega)
  | ⟨2, _⟩ => exact Fin.ext (by show (x 2).val = (128 * (4 * j.val + q.val) + 1 * (x 2).val) % 128; omega)

end Cert.KernelIdeal.Run
-- ==== Proof.KI.Trip3.lean ====
/-
  One trip of the block loop: the 128 gathers, the block's 64 tiles of d_out, its product with the forward pass's codes
  and its maximum. The run stops after the gathers (the block's multipliers are handed over only then), so that the
  gathered rows are known by one formula before anything is computed from them.
-/
module

public import proofs.«01_k».proof.Proof.KI.Tile

@[expose] public section

set_option maxRecDepth 16384
set_option maxHeartbeats 4000000

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UU nD τ) ℕ

omit [FloatOps F] in
/-- Contents held, under a name of their own. -/
theorem abs_pt {ℓ : Loc nD τ sig} {S : Finset (Idx ℓ)} {f : Buf (Elt F) ℓ} :
    (ℓ ↦[S]{fullShare} f : sProp 𝕄) ⊢ iprop(∃ g, ⌜g = f⌝ ∗ (ℓ ↦[S]{fullShare} g)) := by
  iintro H; iexists f; isplitr; · ipureintro; rfl
  iexact H

/-- The loop has three trips. -/
theorem forK {P : Fin k0_t3_loop.trips → Prop} (h0 : P ⟨0, by decide⟩) (h1 : P ⟨1, by decide⟩) (h2 : P ⟨2, by decide⟩) : ∀ k, P k
  | ⟨0, _⟩ => h0
  | ⟨1, _⟩ => h1
  | ⟨2, _⟩ => h2
  | ⟨n + 3, h⟩ => absurd h (by have : k0_t3_loop.trips = 3 := rfl; omega)

theorem laid_use {s : Shape} {e : EltTy} {Val : EltTy → Type} {ι : Type} {sig' : RefSig} {κ : Kind} {sp : Space} {v : View sig' κ sp s e} {f f' : v.ty.Contents Val}
    {G : s.Idx → Val e} {off : ι → Fin s.rank → Nat} {size stride : Fin s.rank → Nat} {is : List ι} {L : List (View.Piece Val s e)}
    (h : f' = v.writes Val f L) (H : Laid G off size stride is L) :
    (∀ y i, i ∈ is → (∀ a, ∃ j, j < size a ∧ (y a).val = off i a + stride a * j) → v.read Val f' y = G y)
    ∧ (∀ y, (∀ i ∈ is, ∃ a, ∀ j, j < size a → (y a).val ≠ off i a + stride a * j) → v.read Val f' y = v.read Val f y) := by
  subst h
  exact ⟨fun y i hi hy => H.read v f y i hi hy, fun y hy => H.read_out v f y hy⟩

/-- The order of the gathers' stores, newest first. -/
def stgLabels : List Nat :=
  [127, 119, 111, 103, 126, 118, 110, 102, 125, 117, 109, 101, 124, 116, 108, 100, 123, 115, 107, 99, 122, 114, 106, 98, 121, 113, 105, 97, 120, 112, 104, 96,
   95, 87, 79, 71, 94, 86, 78, 70, 93, 85, 77, 69, 92, 84, 76, 68, 91, 83, 75, 67, 90, 82, 74, 66, 89, 81, 73, 65, 88, 80, 72, 64,
   63, 55, 47, 39, 62, 54, 46, 38, 61, 53, 45, 37, 60, 52, 44, 36, 59, 51, 43, 35, 58, 50, 42, 34, 57, 49, 41, 33, 56, 48, 40, 32,
   31, 23, 15, 7, 30, 22, 14, 6, 29, 21, 13, 5, 28, 20, 12, 4, 27, 19, 11, 3, 26, 18, 10, 2, 25, 17, 9, 1, 24, 16, 8, 0]
theorem stgLabels_mem : ∀ n, n < 128 → n ∈ stgLabels := by decide
/-- The order of the tiles' stores, newest first. -/
def outLabels : List (Fin 4 × Fin 4 × Fin 4) :=
  [(3, 3, 3), (3, 3, 2), (3, 3, 1), (3, 3, 0), (3, 2, 3), (3, 2, 2), (3, 2, 1), (3, 2, 0),
   (3, 1, 3), (3, 1, 2), (3, 1, 1), (3, 1, 0), (3, 0, 3), (3, 0, 2), (3, 0, 1), (3, 0, 0),
   (2, 3, 3), (2, 3, 2), (2, 3, 1), (2, 3, 0), (2, 2, 3), (2, 2, 2), (2, 2, 1), (2, 2, 0),
   (2, 1, 3), (2, 1, 2), (2, 1, 1), (2, 1, 0), (2, 0, 3), (2, 0, 2), (2, 0, 1), (2, 0, 0),
   (1, 3, 3), (1, 3, 2), (1, 3, 1), (1, 3, 0), (1, 2, 3), (1, 2, 2), (1, 2, 1), (1, 2, 0),
   (1, 1, 3), (1, 1, 2), (1, 1, 1), (1, 1, 0), (1, 0, 3), (1, 0, 2), (1, 0, 1), (1, 0, 0),
   (0, 3, 3), (0, 3, 2), (0, 3, 1), (0, 3, 0), (0, 2, 3), (0, 2, 2), (0, 2, 1), (0, 2, 0),
   (0, 1, 3), (0, 1, 2), (0, 1, 1), (0, 1, 0), (0, 0, 3), (0, 0, 2), (0, 0, 1), (0, 0, 0)]
theorem outLabels_mem : ∀ p : Fin 4 × Fin 4 × Fin 4, p ∈ outLabels := by decide

section Trip3
variable (c : Dev nD) (i : grid0.Coords)
  (arg3 : Memref sig .tc .vmem S1x384x2048 .fp8e4m3) (harg3 : arg3.IsWhole) (arg4 : Memref sig .tc .vmem S1x3x128 .f32) (harg4 : arg4.IsWhole)
  (arg5 : Memref sig .tc .smem S1x1x384 .i32) (harg5 : arg5.IsWhole) (arg6 : Memref sig .tc .smem S1x128 .f32) (harg6 : arg6.IsWhole)
  (arg7 : Memref sig .tc .vmem S1x3x128 .f32) (harg7 : arg7.IsWhole) (arg8 : Memref sig .tc .vmem S1x384x2048 .fp8e5m2) (harg8 : arg8.IsWhole)
  (arg9 : Memref sig .tc .vmem S3x128x128 .f32) (harg9 : arg9.IsWhole) (arg10 : Memref sig .tc .vmem S1x128 .f32) (harg10 : arg10.IsWhole)
  (arg11 : Memref sig .tc .vmem S98304x128 .i32) (harg11 : arg11.IsWhole) (arg13 : Memref sig .tc .vmem S512x128 .i32) (harg13 : arg13.IsWhole)
  (arg14 : Memref sig .tc .vmem S384x1x128 .f32) (harg14 : arg14.IsWhole) (arg15 : Memref sig .tc .vmem S128x8x128 .f32) (harg15 : arg15.IsWhole)
  (v4 : Elt F .f32)

abbrev trip3G (k : Fin k0_t3_loop.trips) : Prog (TpuEff nD τ sig (Elt F) Λ₀ .tc) Unit :=
  k0_t3_body (F := F) i dyM (Memref.isWhole_whole _) arg3 harg3 arg4 harg4 arg5 harg5 arg6 harg6 arg7 harg7 arg8 harg8 arg9 harg9 arg10 harg10 arg11 harg11 rawM (Memref.isWhole_whole _) arg13 harg13 arg14 harg14 arg15 harg15 cc0_scratch5 (BitVec.ofNat 32 (i 0).val) (BitVec.ofNat 32 (i 1).val) v4 k ()

/-- The block's words: rows of the table, by the row words. -/
abbrev tripW (X5 : BufTy.Contents (Elt F) arg5.view.ty) (X11 : BufTy.Contents (Elt F) arg11.view.ty) (k : Fin k0_t3_loop.trips) : Words F :=
  wSpec (F := F) (arg11.view.read (Elt F) X11) (rowW arg5 X5) k.val
/-- The block's row of partial dot products after this point. -/
def dotP (a0 : BitVec 32) (acc : FVec F S128x128 .f32) (k : Fin k0_t3_loop.trips) (f14 : BufTy.Contents (Elt F) arg14.view.ty) : View.Piece (Elt F) S384x1x128 .f32 :=
  ⟨Rect.unit (s := S384x1x128) (k0_off306 i k) S1x1x128.size (k0_off306_inb i k),
    k0_pay632 a0 acc (View.readAt (Elt F) arg14.view (Rect.unit (s := S384x1x128) (k0_off306 i k) S1x1x128.size (k0_off306_inb i k)).toLoadRect f14)⟩
def dsP (a0 : BitVec 32) (acc : FVec F S128x128 .f32) (k : Fin k0_t3_loop.trips) (X7 : BufTy.Contents (Elt F) arg7.view.ty) (f14 : BufTy.Contents (Elt F) arg14.view.ty) : View.Piece (Elt F) S3x128x128 .f32 :=
  ⟨Rect.unit (s := S3x128x128) (k0_off307 i k) S1x1x128.size (k0_off307_inb i k),
    k0_pay634 (k0_pay633 a0 acc (View.readAt (Elt F) arg14.view (Rect.unit (s := S384x1x128) (k0_off306 i k) S1x1x128.size (k0_off306_inb i k)).toLoadRect f14)
      (View.readAt (Elt F) arg7.view (Rect.unit (s := S1x3x128) (k0_off285 k) S1x1x128.size (k0_off285_inb k)).toLoadRect X7))⟩
def amP (a0 : BitVec 32) (am : FVec F S8x128 .f32) (k : Fin k0_t3_loop.trips) (f15 : BufTy.Contents (Elt F) arg15.view.ty) : View.Piece (Elt F) S128x8x128 .f32 :=
  ⟨Rect.unit (s := S128x8x128) (k0_off308 i) S1x8x128.size (k0_off308_inb i),
    k0_pay1 (k0_pay635 (Scalar.addi 0#32 (Scalar.muli (Scf.iv 0#32 1#32 k.val) 1#32)) am (Scalar.cmpi .eq a0 0#32)
      (View.readAt (Elt F) arg15.view (Rect.unit (s := S128x8x128) (k0_off308 i) S1x8x128.size (k0_off308_inb i)).toLoadRect f15))⟩

set_option backward.proofsInPublic true in
theorem trip3 (X3 : BufTy.Contents (Elt F) arg3.view.ty) (X4 : BufTy.Contents (Elt F) arg4.view.ty) (X5 : BufTy.Contents (Elt F) arg5.view.ty)
    (X7 : BufTy.Contents (Elt F) arg7.view.ty) (X11 : BufTy.Contents (Elt F) arg11.view.ty) (k : Fin k0_t3_loop.trips)
    (hchk : ∀ off h, k0_chk1 (rowsAt arg5 X5 off h)) (f8 : Buf (Elt F) (arg8.view.loc (c : Thread nD τ))) (f9 : Buf (Elt F) (arg9.view.loc (c : Thread nD τ)))
    (f13 : Buf (Elt F) (arg13.view.loc (c : Thread nD τ))) (f14 : Buf (Elt F) (arg14.view.loc (c : Thread nD τ))) (f15 : Buf (Elt F) (arg15.view.loc (c : Thread nD τ))) :
      iprop((arg3.view.loc (c : Thread nD τ) ↦[arg3.view.set]{fullShare} X3)
        ∗ (arg4.view.loc (c : Thread nD τ) ↦[arg4.view.set]{fullShare} X4)
        ∗ (arg5.view.loc (c : Thread nD τ) ↦[arg5.view.set]{fullShare} X5)
        ∗ (arg7.view.loc (c : Thread nD τ) ↦[arg7.view.set]{fullShare} X7)
        ∗ (arg11.view.loc (c : Thread nD τ) ↦[arg11.view.set]{fullShare} X11)
        ∗ (arg8.view.loc (c : Thread nD τ) ↦[arg8.view.set]{fullShare} f8)
        ∗ (arg9.view.loc (c : Thread nD τ) ↦[arg9.view.set]{fullShare} f9)
        ∗ (arg13.view.loc (c : Thread nD τ) ↦[arg13.view.set]{fullShare} f13)
        ∗ (arg14.view.loc (c : Thread nD τ) ↦[arg14.view.set]{fullShare} f14)
        ∗ (arg15.view.loc (c : Thread nD τ) ↦[arg15.view.set]{fullShare} f15))
      ⊢ (wp frame (wpE (defs₀ (F := F)) 𝒱₀ (c : Thread nD τ) none) Set.univ (trip3G i arg3 harg3 arg4 harg4 arg5 harg5 arg6 harg6 arg7 harg7 arg8 harg8 arg9 harg9 arg10 harg10 arg11 harg11 arg13 harg13 arg14 harg14 arg15 harg15 v4 k)
        (fun _ => iprop(∃ g f8',
          ⌜(∀ y : S1x384x2048.Idx, 128 * k.val ≤ (y 1).val → (y 1).val < 128 * k.val + 128 → arg8.view.read (Elt F) f8' y = outG v4 (mCol arg4 X4 k) (tripW arg5 arg11 X5 X11 k) k.val y)
            ∧ (∀ y : S1x384x2048.Idx, (y 1).val < 128 * k.val ∨ 128 * k.val + 128 ≤ (y 1).val → arg8.view.read (Elt F) f8' y = arg8.view.read (Elt F) f8 y)⌝
        ∗ (arg3.view.loc (c : Thread nD τ) ↦[arg3.view.set]{fullShare} X3)
        ∗ (arg4.view.loc (c : Thread nD τ) ↦[arg4.view.set]{fullShare} X4)
        ∗ (arg5.view.loc (c : Thread nD τ) ↦[arg5.view.set]{fullShare} X5)
        ∗ (arg7.view.loc (c : Thread nD τ) ↦[arg7.view.set]{fullShare} X7)
        ∗ (arg11.view.loc (c : Thread nD τ) ↦[arg11.view.set]{fullShare} X11)
        ∗ (arg8.view.loc (c : Thread nD τ) ↦[arg8.view.set]{fullShare} f8')
        ∗ (arg9.view.loc (c : Thread nD τ) ↦[arg9.view.set]{fullShare} arg9.view.writes (Elt F) f9 [dsP i arg7 arg14 (BitVec.ofNat 32 (i 0).val) (accT (tripW arg5 arg11 X5 X11 k) (oRows arg3 X3 k)) k X7 f14])
        ∗ (arg13.view.loc (c : Thread nD τ) ↦[arg13.view.set]{fullShare} g)
        ∗ (arg14.view.loc (c : Thread nD τ) ↦[arg14.view.set]{fullShare} arg14.view.writes (Elt F) f14 [dotP i arg14 (BitVec.ofNat 32 (i 0).val) (accT (tripW arg5 arg11 X5 X11 k) (oRows arg3 X3 k)) k f14])
        ∗ (arg15.view.loc (c : Thread nD τ) ↦[arg15.view.set]{fullShare} arg15.view.writes (Elt F) f15 [amP i arg15 (BitVec.ofNat 32 (i 0).val) (amT (mCol arg4 X4 k) (tripW arg5 arg11 X5 X11 k)) k f15]))) : sProp 𝕄) := by
  have hk : k.val < 3 := Nat.lt_of_lt_of_le k.isLt k0_t3_abs.2.1
  have hold : (arg4.view.loc (c : Thread nD τ) ↦[arg4.view.set]{fullShare} X4 : sProp 𝕄) ⊢ iprop(∃ X, ⌜X4 = X⌝ ∗ (arg4.view.loc (c : Thread nD τ) ↦[arg4.view.set]{fullShare} X)) := by
    iintro H; iexists X4; isplitr; · ipureintro; rfl
    iexact H
  dsimp only [trip3G]
  unfold k0_t3_body
  iintro ⟨HR_arg3, H4, HR_arg5, HR_arg7, HR_arg11, HW_arg8, HW_arg9, HW_arg13, HW_arg14, HW_arg15⟩
  ihave HX4 := hold $$ H4
  sl_exec (disch := exact hchk _ _)
  icases HX4 with ⟨%X, %hX, HR_arg4⟩
  subst hX
  ihave HW' := abs_pt $$ HW_arg13
  icases HW' with ⟨%g, %hg, HW_arg13⟩
  have hst := (laid_use (Val := Elt F) (v := arg13.view) (f := f13) (f' := g) (G := stgSpec (arg11.view.read (Elt F) X11) (rowW arg5 X5) k.val) (off := fun n : Nat => ![4 * n, 0]) (size := S4x128.size) (stride := fun _ => 1) (is := stgLabels) hg (by
    exact
      ⟨⟨rfl, rfl, rfl, gpiece arg5 X5 arg11 X11 k 127 (k0_off283 k) (forK (P := fun k => k0_off283 k = ![0, 0, 128 * k.val + slotOf 127]) rfl rfl rfl k) (k0_off283_inb k) (hchk _ _) 508 rfl inb_S512x128_S4x128_508_0 _ rfl⟩,
      ⟨⟨rfl, rfl, rfl, gpiece arg5 X5 arg11 X11 k 119 (k0_off281 k) (forK (P := fun k => k0_off281 k = ![0, 0, 128 * k.val + slotOf 119]) rfl rfl rfl k) (k0_off281_inb k) (hchk _ _) 476 rfl inb_S512x128_S4x128_476_0 _ rfl⟩,
      ⟨⟨rfl, rfl, rfl, gpiece arg5 X5 arg11 X11 k 111 (k0_off279 k) (forK (P := fun k => k0_off279 k = ![0, 0, 128 * k.val + slotOf 111]) rfl rfl rfl k) (k0_off279_inb k) (hchk _ _) 444 rfl inb_S512x128_S4x128_444_0 _ rfl⟩,
      ⟨⟨rfl, rfl, rfl, gpiece arg5 X5 arg11 X11 k 103 (k0_off277 k) (forK (P := fun k => k0_off277 k = ![0, 0, 128 * k.val + slotOf 103]) rfl rfl rfl k) (k0_off277_inb k) (hchk _ _) 412 rfl inb_S512x128_S4x128_412_0 _ rfl⟩,
      ⟨⟨rfl, rfl, rfl, gpiece arg5 X5 arg11 X11 k 126 (k0_off275 k) (forK (P := fun k => k0_off275 k = ![0, 0, 128 * k.val + slotOf 126]) rfl rfl rfl k) (k0_off275_inb k) (hchk _ _) 504 rfl inb_S512x128_S4x128_504_0 _ rfl⟩,
      ⟨⟨rfl, rfl, rfl, gpiece arg5 X5 arg11 X11 k 118 (k0_off273 k) (forK (P := fun k => k0_off273 k = ![0, 0, 128 * k.val + slotOf 118]) rfl rfl rfl k) (k0_off273_inb k) (hchk _ _) 472 rfl inb_S512x128_S4x128_472_0 _ rfl⟩,
      ⟨⟨rfl, rfl, rfl, gpiece arg5 X5 arg11 X11 k 110 (k0_off271 k) (forK (P := fun k => k0_off271 k = ![0, 0, 128 * k.val + slotOf 110]) rfl rfl rfl k) (k0_off271_inb k) (hchk _ _) 440 rfl inb_S512x128_S4x128_440_0 _ rfl⟩,
      ⟨⟨rfl, rfl, rfl, gpiece arg5 X5 arg11 X11 k 102 (k0_off269 k) (forK (P := fun k => k0_off269 k = ![0, 0, 128 * k.val + slotOf 102]) rfl rfl rfl k) (k0_off269_inb k) (hchk _ _) 408 rfl inb_S512x128_S4x128_408_0 _ rfl⟩,
      ⟨⟨rfl, rfl, rfl, gpiece arg5 X5 arg11 X11 k 125 (k0_off267 k) (forK (P := fun k => k0_off267 k = ![0, 0, 128 * k.val + slotOf 125]) rfl rfl rfl k) (k0_off267_inb k) (hchk _ _) 500 rfl inb_S512x128_S4x128_500_0 _ rfl⟩,
      ⟨⟨rfl, rfl, rfl, gpiece arg5 X5 arg11 X11 k 117 (k0_off265 k) (forK (P := fun k => k0_off265 k = ![0, 0, 128 * k.val + slotOf 117]) rfl rfl rfl k) (k0_off265_inb k) (hchk _ _) 468 rfl inb_S512x128_S4x128_468_0 _ rfl⟩,
      ⟨⟨rfl, rfl, rfl, gpiece arg5 X5 arg11 X11 k 109 (k0_off263 k) (forK (P := fun k => k0_off263 k = ![0, 0, 128 * k.val + slotOf 109]) rfl rfl rfl k) (k0_off263_inb k) (hchk _ _) 436 rfl inb_S512x128_S4x128_436_0 _ rfl⟩,
      ⟨⟨rfl, rfl, rfl, gpiece arg5 X5 arg11 X11 k 101 (k0_off261 k) (forK (P := fun k => k0_off261 k = ![0, 0, 128 * k.val + slotOf 101]) rfl rfl rfl k) (k0_off261_inb k) (hchk _ _) 404 rfl inb_S512x128_S4x128_404_0 _ rfl⟩,
      ⟨⟨rfl, rfl, rfl, gpiece arg5 X5 arg11 X11 k 124 (k0_off259 k) (forK (P := fun k => k0_off259 k = ![0, 0, 128 * k.val + slotOf 124]) rfl rfl rfl k) (k0_off259_inb k) (hchk _ _) 496 rfl inb_S512x128_S4x128_496_0 _ rfl⟩,
      ⟨⟨rfl, rfl, rfl, gpiece arg5 X5 arg11 X11 k 116 (k0_off257 k) (forK (P := fun k => k0_off257 k = ![0, 0, 128 * k.val + slotOf 116]) rfl rfl rfl k) (k0_off257_inb k) (hchk _ _) 464 rfl inb_S512x128_S4x128_464_0 _ rfl⟩,
      ⟨⟨rfl, rfl, rfl, gpiece arg5 X5 arg11 X11 k 108 (k0_off255 k) (forK (P := fun k => k0_off255 k = ![0, 0, 128 * k.val + slotOf 108]) rfl rfl rfl k) (k0_off255_inb k) (hchk _ _) 432 rfl inb_S512x128_S4x128_432_0 _ rfl⟩,
      ⟨⟨rfl, rfl, rfl, gpiece arg5 X5 arg11 X11 k 100 (k0_off253 k) (forK (P := fun k => k0_off253 k = ![0, 0, 128 * k.val + slotOf 100]) rfl rfl rfl k) (k0_off253_inb k) (hchk _ _) 400 rfl inb_S512x128_S4x128_400_0 _ rfl⟩,
      ⟨⟨rfl, rfl, rfl, gpiece arg5 X5 arg11 X11 k 123 (k0_off251 k) (forK (P := fun k => k0_off251 k = ![0, 0, 128 * k.val + slotOf 123]) rfl rfl rfl k) (k0_off251_inb k) (hchk _ _) 492 rfl inb_S512x128_S4x128_492_0 _ rfl⟩,
      ⟨⟨rfl, rfl, rfl, gpiece arg5 X5 arg11 X11 k 115 (k0_off249 k) (forK (P := fun k => k0_off249 k = ![0, 0, 128 * k.val + slotOf 115]) rfl rfl rfl k) (k0_off249_inb k) (hchk _ _) 460 rfl inb_S512x128_S4x128_460_0 _ rfl⟩,
      ⟨⟨rfl, rfl, rfl, gpiece arg5 X5 arg11 X11 k 107 (k0_off247 k) (forK (P := fun k => k0_off247 k = ![0, 0, 128 * k.val + slotOf 107]) rfl rfl rfl k) (k0_off247_inb k) (hchk _ _) 428 rfl inb_S512x128_S4x128_428_0 _ rfl⟩,
      ⟨⟨rfl, rfl, rfl, gpiece arg5 X5 arg11 X11 k 99 (k0_off245 k) (forK (P := fun k => k0_off245 k = ![0, 0, 128 * k.val + slotOf 99]) rfl rfl rfl k) (k0_off245_inb k) (hchk _ _) 396 rfl inb_S512x128_S4x128_396_0 _ rfl⟩,
      ⟨⟨rfl, rfl, rfl, gpiece arg5 X5 arg11 X11 k 122 (k0_off243 k) (forK (P := fun k => k0_off243 k = ![0, 0, 128 * k.val + slotOf 122]) rfl rfl rfl k) (k0_off243_inb k) (hchk _ _) 488 rfl inb_S512x128_S4x128_488_0 _ rfl⟩,
      ⟨⟨rfl, rfl, rfl, gpiece arg5 X5 arg11 X11 k 114 (k0_off241 k) (forK (P := fun k => k0_off241 k = ![0, 0, 128 * k.val + slotOf 114]) rfl rfl rfl k) (k0_off241_inb k) (hchk _ _) 456 rfl inb_S512x128_S4x128_456_0 _ rfl⟩,
      ⟨⟨rfl, rfl, rfl, gpiece arg5 X5 arg11 X11 k 106 (k0_off239 k) (forK (P := fun k => k0_off239 k = ![0, 0, 128 * k.val + slotOf 106]) rfl rfl rfl k) (k0_off239_inb k) (hchk _ _) 424 rfl inb_S512x128_S4x128_424_0 _ rfl⟩,
      ⟨⟨rfl, rfl, rfl, gpiece arg5 X5 arg11 X11 k 98 (k0_off237 k) (forK (P := fun k => k0_off237 k = ![0, 0, 128 * k.val + slotOf 98]) rfl rfl rfl k) (k0_off237_inb k) (hchk _ _) 392 rfl inb_S512x128_S4x128_392_0 _ rfl⟩,
      ⟨⟨rfl, rfl, rfl, gpiece arg5 X5 arg11 X11 k 121 (k0_off235 k) (forK (P := fun k => k0_off235 k = ![0, 0, 128 * k.val + slotOf 121]) rfl rfl rfl k) (k0_off235_inb k) (hchk _ _) 484 rfl inb_S512x128_S4x128_484_0 _ rfl⟩,
      ⟨⟨rfl, rfl, rfl, gpiece arg5 X5 arg11 X11 k 113 (k0_off233 k) (forK (P := fun k => k0_off233 k = ![0, 0, 128 * k.val + slotOf 113]) rfl rfl rfl k) (k0_off233_inb k) (hchk _ _) 452 rfl inb_S512x128_S4x128_452_0 _ rfl⟩,
      ⟨⟨rfl, rfl, rfl, gpiece arg5 X5 arg11 X11 k 105 (k0_off231 k) (forK (P := fun k => k0_off231 k = ![0, 0, 128 * k.val + slotOf 105]) rfl rfl rfl k) (k0_off231_inb k) (hchk _ _) 420 rfl inb_S512x128_S4x128_420_0 _ rfl⟩,
      ⟨⟨rfl, rfl, rfl, gpiece arg5 X5 arg11 X11 k 97 (k0_off229 k) (forK (P := fun k => k0_off229 k = ![0, 0, 128 * k.val + slotOf 97]) rfl rfl rfl k) (k0_off229_inb k) (hchk _ _) 388 rfl inb_S512x128_S4x128_388_0 _ rfl⟩,
      ⟨⟨rfl, rfl, rfl, gpiece arg5 X5 arg11 X11 k 120 (k0_off227 k) (forK (P := fun k => k0_off227 k = ![0, 0, 128 * k.val + slotOf 120]) rfl rfl rfl k) (k0_off227_inb k) (hchk _ _) 480 rfl inb_S512x128_S4x128_480_0 _ rfl⟩,
      ⟨⟨rfl, rfl, rfl, gpiece arg5 X5 arg11 X11 k 112 (k0_off225 k) (forK (P := fun k => k0_off225 k = ![0, 0, 128 * k.val + slotOf 112]) rfl rfl rfl k) (k0_off225_inb k) (hchk _ _) 448 rfl inb_S512x128_S4x128_448_0 _ rfl⟩,
      ⟨⟨rfl, rfl, rfl, gpiece arg5 X5 arg11 X11 k 104 (k0_off223 k) (forK (P := fun k => k0_off223 k = ![0, 0, 128 * k.val + slotOf 104]) rfl rfl rfl k) (k0_off223_inb k) (hchk _ _) 416 rfl inb_S512x128_S4x128_416_0 _ rfl⟩,
      ⟨⟨rfl, rfl, rfl, gpiece arg5 X5 arg11 X11 k 96 (k0_off221 k) (forK (P := fun k => k0_off221 k = ![0, 0, 128 * k.val + slotOf 96]) rfl rfl rfl k) (k0_off221_inb k) (hchk _ _) 384 rfl inb_S512x128_S4x128_384_0 _ rfl⟩,
      ⟨⟨rfl, rfl, rfl, gpiece arg5 X5 arg11 X11 k 95 (k0_off219 k) (forK (P := fun k => k0_off219 k = ![0, 0, 128 * k.val + slotOf 95]) rfl rfl rfl k) (k0_off219_inb k) (hchk _ _) 380 rfl inb_S512x128_S4x128_380_0 _ rfl⟩,
      ⟨⟨rfl, rfl, rfl, gpiece arg5 X5 arg11 X11 k 87 (k0_off217 k) (forK (P := fun k => k0_off217 k = ![0, 0, 128 * k.val + slotOf 87]) rfl rfl rfl k) (k0_off217_inb k) (hchk _ _) 348 rfl inb_S512x128_S4x128_348_0 _ rfl⟩,
      ⟨⟨rfl, rfl, rfl, gpiece arg5 X5 arg11 X11 k 79 (k0_off215 k) (forK (P := fun k => k0_off215 k = ![0, 0, 128 * k.val + slotOf 79]) rfl rfl rfl k) (k0_off215_inb k) (hchk _ _) 316 rfl inb_S512x128_S4x128_316_0 _ rfl⟩,
      ⟨⟨rfl, rfl, rfl, gpiece arg5 X5 arg11 X11 k 71 (k0_off213 k) (forK (P := fun k => k0_off213 k = ![0, 0, 128 * k.val + slotOf 71]) rfl rfl rfl k) (k0_off213_inb k) (hchk _ _) 284 rfl inb_S512x128_S4x128_284_0 _ rfl⟩,
      ⟨⟨rfl, rfl, rfl, gpiece arg5 X5 arg11 X11 k 94 (k0_off211 k) (forK (P := fun k => k0_off211 k = ![0, 0, 128 * k.val + slotOf 94]) rfl rfl rfl k) (k0_off211_inb k) (hchk _ _) 376 rfl inb_S512x128_S4x128_376_0 _ rfl⟩,
      ⟨⟨rfl, rfl, rfl, gpiece arg5 X5 arg11 X11 k 86 (k0_off209 k) (forK (P := fun k => k0_off209 k = ![0, 0, 128 * k.val + slotOf 86]) rfl rfl rfl k) (k0_off209_inb k) (hchk _ _) 344 rfl inb_S512x128_S4x128_344_0 _ rfl⟩,
      ⟨⟨rfl, rfl, rfl, gpiece arg5 X5 arg11 X11 k 78 (k0_off207 k) (forK (P := fun k => k0_off207 k = ![0, 0, 128 * k.val + slotOf 78]) rfl rfl rfl k) (k0_off207_inb k) (hchk _ _) 312 rfl inb_S512x128_S4x128_312_0 _ rfl⟩,
      ⟨⟨rfl, rfl, rfl, gpiece arg5 X5 arg11 X11 k 70 (k0_off205 k) (forK (P := fun k => k0_off205 k = ![0, 0, 128 * k.val + slotOf 70]) rfl rfl rfl k) (k0_off205_inb k) (hchk _ _) 280 rfl inb_S512x128_S4x128_280_0 _ rfl⟩,
      ⟨⟨rfl, rfl, rfl, gpiece arg5 X5 arg11 X11 k 93 (k0_off203 k) (forK (P := fun k => k0_off203 k = ![0, 0, 128 * k.val + slotOf 93]) rfl rfl rfl k) (k0_off203_inb k) (hchk _ _) 372 rfl inb_S512x128_S4x128_372_0 _ rfl⟩,
      ⟨⟨rfl, rfl, rfl, gpiece arg5 X5 arg11 X11 k 85 (k0_off201 k) (forK (P := fun k => k0_off201 k = ![0, 0, 128 * k.val + slotOf 85]) rfl rfl rfl k) (k0_off201_inb k) (hchk _ _) 340 rfl inb_S512x128_S4x128_340_0 _ rfl⟩,
      ⟨⟨rfl, rfl, rfl, gpiece arg5 X5 arg11 X11 k 77 (k0_off199 k) (forK (P := fun k => k0_off199 k = ![0, 0, 128 * k.val + slotOf 77]) rfl rfl rfl k) (k0_off199_inb k) (hchk _ _) 308 rfl inb_S512x128_S4x128_308_0 _ rfl⟩,
      ⟨⟨rfl, rfl, rfl, gpiece arg5 X5 arg11 X11 k 69 (k0_off197 k) (forK (P := fun k => k0_off197 k = ![0, 0, 128 * k.val + slotOf 69]) rfl rfl rfl k) (k0_off197_inb k) (hchk _ _) 276 rfl inb_S512x128_S4x128_276_0 _ rfl⟩,
      ⟨⟨rfl, rfl, rfl, gpiece arg5 X5 arg11 X11 k 92 (k0_off195 k) (forK (P := fun k => k0_off195 k = ![0, 0, 128 * k.val + slotOf 92]) rfl rfl rfl k) (k0_off195_inb k) (hchk _ _) 368 rfl inb_S512x128_S4x128_368_0 _ rfl⟩,
      ⟨⟨rfl, rfl, rfl, gpiece arg5 X5 arg11 X11 k 84 (k0_off193 k) (forK (P := fun k => k0_off193 k = ![0, 0, 128 * k.val + slotOf 84]) rfl rfl rfl k) (k0_off193_inb k) (hchk _ _) 336 rfl inb_S512x128_S4x128_336_0 _ rfl⟩,
      ⟨⟨rfl, rfl, rfl, gpiece arg5 X5 arg11 X11 k 76 (k0_off191 k) (forK (P := fun k => k0_off191 k = ![0, 0, 128 * k.val + slotOf 76]) rfl rfl rfl k) (k0_off191_inb k) (hchk _ _) 304 rfl inb_S512x128_S4x128_304_0 _ rfl⟩,
      ⟨⟨rfl, rfl, rfl, gpiece arg5 X5 arg11 X11 k 68 (k0_off189 k) (forK (P := fun k => k0_off189 k = ![0, 0, 128 * k.val + slotOf 68]) rfl rfl rfl k) (k0_off189_inb k) (hchk _ _) 272 rfl inb_S512x128_S4x128_272_0 _ rfl⟩,
      ⟨⟨rfl, rfl, rfl, gpiece arg5 X5 arg11 X11 k 91 (k0_off187 k) (forK (P := fun k => k0_off187 k = ![0, 0, 128 * k.val + slotOf 91]) rfl rfl rfl k) (k0_off187_inb k) (hchk _ _) 364 rfl inb_S512x128_S4x128_364_0 _ rfl⟩,
      ⟨⟨rfl, rfl, rfl, gpiece arg5 X5 arg11 X11 k 83 (k0_off185 k) (forK (P := fun k => k0_off185 k = ![0, 0, 128 * k.val + slotOf 83]) rfl rfl rfl k) (k0_off185_inb k) (hchk _ _) 332 rfl inb_S512x128_S4x128_332_0 _ rfl⟩,
      ⟨⟨rfl, rfl, rfl, gpiece arg5 X5 arg11 X11 k 75 (k0_off183 k) (forK (P := fun k => k0_off183 k = ![0, 0, 128 * k.val + slotOf 75]) rfl rfl rfl k) (k0_off183_inb k) (hchk _ _) 300 rfl inb_S512x128_S4x128_300_0 _ rfl⟩,
      ⟨⟨rfl, rfl, rfl, gpiece arg5 X5 arg11 X11 k 67 (k0_off181 k) (forK (P := fun k => k0_off181 k = ![0, 0, 128 * k.val + slotOf 67]) rfl rfl rfl k) (k0_off181_inb k) (hchk _ _) 268 rfl inb_S512x128_S4x128_268_0 _ rfl⟩,
      ⟨⟨rfl, rfl, rfl, gpiece arg5 X5 arg11 X11 k 90 (k0_off179 k) (forK (P := fun k => k0_off179 k = ![0, 0, 128 * k.val + slotOf 90]) rfl rfl rfl k) (k0_off179_inb k) (hchk _ _) 360 rfl inb_S512x128_S4x128_360_0 _ rfl⟩,
      ⟨⟨rfl, rfl, rfl, gpiece arg5 X5 arg11 X11 k 82 (k0_off177 k) (forK (P := fun k => k0_off177 k = ![0, 0, 128 * k.val + slotOf 82]) rfl rfl rfl k) (k0_off177_inb k) (hchk _ _) 328 rfl inb_S512x128_S4x128_328_0 _ rfl⟩,
      ⟨⟨rfl, rfl, rfl, gpiece arg5 X5 arg11 X11 k 74 (k0_off175 k) (forK (P := fun k => k0_off175 k = ![0, 0, 128 * k.val + slotOf 74]) rfl rfl rfl k) (k0_off175_inb k) (hchk _ _) 296 rfl inb_S512x128_S4x128_296_0 _ rfl⟩,
      ⟨⟨rfl, rfl, rfl, gpiece arg5 X5 arg11 X11 k 66 (k0_off173 k) (forK (P := fun k => k0_off173 k = ![0, 0, 128 * k.val + slotOf 66]) rfl rfl rfl k) (k0_off173_inb k) (hchk _ _) 264 rfl inb_S512x128_S4x128_264_0 _ rfl⟩,
      ⟨⟨rfl, rfl, rfl, gpiece arg5 X5 arg11 X11 k 89 (k0_off171 k) (forK (P := fun k => k0_off171 k = ![0, 0, 128 * k.val + slotOf 89]) rfl rfl rfl k) (k0_off171_inb k) (hchk _ _) 356 rfl inb_S512x128_S4x128_356_0 _ rfl⟩,
      ⟨⟨rfl, rfl, rfl, gpiece arg5 X5 arg11 X11 k 81 (k0_off169 k) (forK (P := fun k => k0_off169 k = ![0, 0, 128 * k.val + slotOf 81]) rfl rfl rfl k) (k0_off169_inb k) (hchk _ _) 324 rfl inb_S512x128_S4x128_324_0 _ rfl⟩,
      ⟨⟨rfl, rfl, rfl, gpiece arg5 X5 arg11 X11 k 73 (k0_off167 k) (forK (P := fun k => k0_off167 k = ![0, 0, 128 * k.val + slotOf 73]) rfl rfl rfl k) (k0_off167_inb k) (hchk _ _) 292 rfl inb_S512x128_S4x128_292_0 _ rfl⟩,
      ⟨⟨rfl, rfl, rfl, gpiece arg5 X5 arg11 X11 k 65 (k0_off165 k) (forK (P := fun k => k0_off165 k = ![0, 0, 128 * k.val + slotOf 65]) rfl rfl rfl k) (k0_off165_inb k) (hchk _ _) 260 rfl inb_S512x128_S4x128_260_0 _ rfl⟩,
      ⟨⟨rfl, rfl, rfl, gpiece arg5 X5 arg11 X11 k 88 (k0_off163 k) (forK (P := fun k => k0_off163 k = ![0, 0, 128 * k.val + slotOf 88]) rfl rfl rfl k) (k0_off163_inb k) (hchk _ _) 352 rfl inb_S512x128_S4x128_352_0 _ rfl⟩,
      ⟨⟨rfl, rfl, rfl, gpiece arg5 X5 arg11 X11 k 80 (k0_off161 k) (forK (P := fun k => k0_off161 k = ![0, 0, 128 * k.val + slotOf 80]) rfl rfl rfl k) (k0_off161_inb k) (hchk _ _) 320 rfl inb_S512x128_S4x128_320_0 _ rfl⟩,
      ⟨⟨rfl, rfl, rfl, gpiece arg5 X5 arg11 X11 k 72 (k0_off159 k) (forK (P := fun k => k0_off159 k = ![0, 0, 128 * k.val + slotOf 72]) rfl rfl rfl k) (k0_off159_inb k) (hchk _ _) 288 rfl inb_S512x128_S4x128_288_0 _ rfl⟩,
      ⟨⟨rfl, rfl, rfl, gpiece arg5 X5 arg11 X11 k 64 (k0_off157 k) (forK (P := fun k => k0_off157 k = ![0, 0, 128 * k.val + slotOf 64]) rfl rfl rfl k) (k0_off157_inb k) (hchk _ _) 256 rfl inb_S512x128_S4x128_256_0 _ rfl⟩,
      ⟨⟨rfl, rfl, rfl, gpiece arg5 X5 arg11 X11 k 63 (k0_off155 k) (forK (P := fun k => k0_off155 k = ![0, 0, 128 * k.val + slotOf 63]) rfl rfl rfl k) (k0_off155_inb k) (hchk _ _) 252 rfl inb_S512x128_S4x128_252_0 _ rfl⟩,
      ⟨⟨rfl, rfl, rfl, gpiece arg5 X5 arg11 X11 k 55 (k0_off153 k) (forK (P := fun k => k0_off153 k = ![0, 0, 128 * k.val + slotOf 55]) rfl rfl rfl k) (k0_off153_inb k) (hchk _ _) 220 rfl inb_S512x128_S4x128_220_0 _ rfl⟩,
      ⟨⟨rfl, rfl, rfl, gpiece arg5 X5 arg11 X11 k 47 (k0_off151 k) (forK (P := fun k => k0_off151 k = ![0, 0, 128 * k.val + slotOf 47]) rfl rfl rfl k) (k0_off151_inb k) (hchk _ _) 188 rfl inb_S512x128_S4x128_188_0 _ rfl⟩,
      ⟨⟨rfl, rfl, rfl, gpiece arg5 X5 arg11 X11 k 39 (k0_off149 k) (forK (P := fun k => k0_off149 k = ![0, 0, 128 * k.val + slotOf 39]) rfl rfl rfl k) (k0_off149_inb k) (hchk _ _) 156 rfl inb_S512x128_S4x128_156_0 _ rfl⟩,
      ⟨⟨rfl, rfl, rfl, gpiece arg5 X5 arg11 X11 k 62 (k0_off147 k) (forK (P := fun k => k0_off147 k = ![0, 0, 128 * k.val + slotOf 62]) rfl rfl rfl k) (k0_off147_inb k) (hchk _ _) 248 rfl inb_S512x128_S4x128_248_0 _ rfl⟩,
      ⟨⟨rfl, rfl, rfl, gpiece arg5 X5 arg11 X11 k 54 (k0_off145 k) (forK (P := fun k => k0_off145 k = ![0, 0, 128 * k.val + slotOf 54]) rfl rfl rfl k) (k0_off145_inb k) (hchk _ _) 216 rfl inb_S512x128_S4x128_216_0 _ rfl⟩,
      ⟨⟨rfl, rfl, rfl, gpiece arg5 X5 arg11 X11 k 46 (k0_off143 k) (forK (P := fun k => k0_off143 k = ![0, 0, 128 * k.val + slotOf 46]) rfl rfl rfl k) (k0_off143_inb k) (hchk _ _) 184 rfl inb_S512x128_S4x128_184_0 _ rfl⟩,
      ⟨⟨rfl, rfl, rfl, gpiece arg5 X5 arg11 X11 k 38 (k0_off141 k) (forK (P := fun k => k0_off141 k = ![0, 0, 128 * k.val + slotOf 38]) rfl rfl rfl k) (k0_off141_inb k) (hchk _ _) 152 rfl inb_S512x128_S4x128_152_0 _ rfl⟩,
      ⟨⟨rfl, rfl, rfl, gpiece arg5 X5 arg11 X11 k 61 (k0_off139 k) (forK (P := fun k => k0_off139 k = ![0, 0, 128 * k.val + slotOf 61]) rfl rfl rfl k) (k0_off139_inb k) (hchk _ _) 244 rfl inb_S512x128_S4x128_244_0 _ rfl⟩,
      ⟨⟨rfl, rfl, rfl, gpiece arg5 X5 arg11 X11 k 53 (k0_off137 k) (forK (P := fun k => k0_off137 k = ![0, 0, 128 * k.val + slotOf 53]) rfl rfl rfl k) (k0_off137_inb k) (hchk _ _) 212 rfl inb_S512x128_S4x128_212_0 _ rfl⟩,
      ⟨⟨rfl, rfl, rfl, gpiece arg5 X5 arg11 X11 k 45 (k0_off135 k) (forK (P := fun k => k0_off135 k = ![0, 0, 128 * k.val + slotOf 45]) rfl rfl rfl k) (k0_off135_inb k) (hchk _ _) 180 rfl inb_S512x128_S4x128_180_0 _ rfl⟩,
      ⟨⟨rfl, rfl, rfl, gpiece arg5 X5 arg11 X11 k 37 (k0_off133 k) (forK (P := fun k => k0_off133 k = ![0, 0, 128 * k.val + slotOf 37]) rfl rfl rfl k) (k0_off133_inb k) (hchk _ _) 148 rfl inb_S512x128_S4x128_148_0 _ rfl⟩,
      ⟨⟨rfl, rfl, rfl, gpiece arg5 X5 arg11 X11 k 60 (k0_off131 k) (forK (P := fun k => k0_off131 k = ![0, 0, 128 * k.val + slotOf 60]) rfl rfl rfl k) (k0_off131_inb k) (hchk _ _) 240 rfl inb_S512x128_S4x128_240_0 _ rfl⟩,
      ⟨⟨rfl, rfl, rfl, gpiece arg5 X5 arg11 X11 k 52 (k0_off129 k) (forK (P := fun k => k0_off129 k = ![0, 0, 128 * k.val + slotOf 52]) rfl rfl rfl k) (k0_off129_inb k) (hchk _ _) 208 rfl inb_S512x128_S4x128_208_0 _ rfl⟩,
      ⟨⟨rfl, rfl, rfl, gpiece arg5 X5 arg11 X11 k 44 (k0_off127 k) (forK (P := fun k => k0_off127 k = ![0, 0, 128 * k.val + slotOf 44]) rfl rfl rfl k) (k0_off127_inb k) (hchk _ _) 176 rfl inb_S512x128_S4x128_176_0 _ rfl⟩,
      ⟨⟨rfl, rfl, rfl, gpiece arg5 X5 arg11 X11 k 36 (k0_off125 k) (forK (P := fun k => k0_off125 k = ![0, 0, 128 * k.val + slotOf 36]) rfl rfl rfl k) (k0_off125_inb k) (hchk _ _) 144 rfl inb_S512x128_S4x128_144_0 _ rfl⟩,
      ⟨⟨rfl, rfl, rfl, gpiece arg5 X5 arg11 X11 k 59 (k0_off123 k) (forK (P := fun k => k0_off123 k = ![0, 0, 128 * k.val + slotOf 59]) rfl rfl rfl k) (k0_off123_inb k) (hchk _ _) 236 rfl inb_S512x128_S4x128_236_0 _ rfl⟩,
      ⟨⟨rfl, rfl, rfl, gpiece arg5 X5 arg11 X11 k 51 (k0_off121 k) (forK (P := fun k => k0_off121 k = ![0, 0, 128 * k.val + slotOf 51]) rfl rfl rfl k) (k0_off121_inb k) (hchk _ _) 204 rfl inb_S512x128_S4x128_204_0 _ rfl⟩,
      ⟨⟨rfl, rfl, rfl, gpiece arg5 X5 arg11 X11 k 43 (k0_off119 k) (forK (P := fun k => k0_off119 k = ![0, 0, 128 * k.val + slotOf 43]) rfl rfl rfl k) (k0_off119_inb k) (hchk _ _) 172 rfl inb_S512x128_S4x128_172_0 _ rfl⟩,
      ⟨⟨rfl, rfl, rfl, gpiece arg5 X5 arg11 X11 k 35 (k0_off117 k) (forK (P := fun k => k0_off117 k = ![0, 0, 128 * k.val + slotOf 35]) rfl rfl rfl k) (k0_off117_inb k) (hchk _ _) 140 rfl inb_S512x128_S4x128_140_0 _ rfl⟩,
      ⟨⟨rfl, rfl, rfl, gpiece arg5 X5 arg11 X11 k 58 (k0_off115 k) (forK (P := fun k => k0_off115 k = ![0, 0, 128 * k.val + slotOf 58]) rfl rfl rfl k) (k0_off115_inb k) (hchk _ _) 232 rfl inb_S512x128_S4x128_232_0 _ rfl⟩,
      ⟨⟨rfl, rfl, rfl, gpiece arg5 X5 arg11 X11 k 50 (k0_off113 k) (forK (P := fun k => k0_off113 k = ![0, 0, 128 * k.val + slotOf 50]) rfl rfl rfl k) (k0_off113_inb k) (hchk _ _) 200 rfl inb_S512x128_S4x128_200_0 _ rfl⟩,
      ⟨⟨rfl, rfl, rfl, gpiece arg5 X5 arg11 X11 k 42 (k0_off111 k) (forK (P := fun k => k0_off111 k = ![0, 0, 128 * k.val + slotOf 42]) rfl rfl rfl k) (k0_off111_inb k) (hchk _ _) 168 rfl inb_S512x128_S4x128_168_0 _ rfl⟩,
      ⟨⟨rfl, rfl, rfl, gpiece arg5 X5 arg11 X11 k 34 (k0_off109 k) (forK (P := fun k => k0_off109 k = ![0, 0, 128 * k.val + slotOf 34]) rfl rfl rfl k) (k0_off109_inb k) (hchk _ _) 136 rfl inb_S512x128_S4x128_136_0 _ rfl⟩,
      ⟨⟨rfl, rfl, rfl, gpiece arg5 X5 arg11 X11 k 57 (k0_off107 k) (forK (P := fun k => k0_off107 k = ![0, 0, 128 * k.val + slotOf 57]) rfl rfl rfl k) (k0_off107_inb k) (hchk _ _) 228 rfl inb_S512x128_S4x128_228_0 _ rfl⟩,
      ⟨⟨rfl, rfl, rfl, gpiece arg5 X5 arg11 X11 k 49 (k0_off105 k) (forK (P := fun k => k0_off105 k = ![0, 0, 128 * k.val + slotOf 49]) rfl rfl rfl k) (k0_off105_inb k) (hchk _ _) 196 rfl inb_S512x128_S4x128_196_0 _ rfl⟩,
      ⟨⟨rfl, rfl, rfl, gpiece arg5 X5 arg11 X11 k 41 (k0_off103 k) (forK (P := fun k => k0_off103 k = ![0, 0, 128 * k.val + slotOf 41]) rfl rfl rfl k) (k0_off103_inb k) (hchk _ _) 164 rfl inb_S512x128_S4x128_164_0 _ rfl⟩,
      ⟨⟨rfl, rfl, rfl, gpiece arg5 X5 arg11 X11 k 33 (k0_off101 k) (forK (P := fun k => k0_off101 k = ![0, 0, 128 * k.val + slotOf 33]) rfl rfl rfl k) (k0_off101_inb k) (hchk _ _) 132 rfl inb_S512x128_S4x128_132_0 _ rfl⟩,
      ⟨⟨rfl, rfl, rfl, gpiece arg5 X5 arg11 X11 k 56 (k0_off99 k) (forK (P := fun k => k0_off99 k = ![0, 0, 128 * k.val + slotOf 56]) rfl rfl rfl k) (k0_off99_inb k) (hchk _ _) 224 rfl inb_S512x128_S4x128_224_0 _ rfl⟩,
      ⟨⟨rfl, rfl, rfl, gpiece arg5 X5 arg11 X11 k 48 (k0_off97 k) (forK (P := fun k => k0_off97 k = ![0, 0, 128 * k.val + slotOf 48]) rfl rfl rfl k) (k0_off97_inb k) (hchk _ _) 192 rfl inb_S512x128_S4x128_192_0 _ rfl⟩,
      ⟨⟨rfl, rfl, rfl, gpiece arg5 X5 arg11 X11 k 40 (k0_off95 k) (forK (P := fun k => k0_off95 k = ![0, 0, 128 * k.val + slotOf 40]) rfl rfl rfl k) (k0_off95_inb k) (hchk _ _) 160 rfl inb_S512x128_S4x128_160_0 _ rfl⟩,
      ⟨⟨rfl, rfl, rfl, gpiece arg5 X5 arg11 X11 k 32 (k0_off93 k) (forK (P := fun k => k0_off93 k = ![0, 0, 128 * k.val + slotOf 32]) rfl rfl rfl k) (k0_off93_inb k) (hchk _ _) 128 rfl inb_S512x128_S4x128_128_0 _ rfl⟩,
      ⟨⟨rfl, rfl, rfl, gpiece arg5 X5 arg11 X11 k 31 (k0_off91 k) (forK (P := fun k => k0_off91 k = ![0, 0, 128 * k.val + slotOf 31]) rfl rfl rfl k) (k0_off91_inb k) (hchk _ _) 124 rfl inb_S512x128_S4x128_124_0 _ rfl⟩,
      ⟨⟨rfl, rfl, rfl, gpiece arg5 X5 arg11 X11 k 23 (k0_off89 k) (forK (P := fun k => k0_off89 k = ![0, 0, 128 * k.val + slotOf 23]) rfl rfl rfl k) (k0_off89_inb k) (hchk _ _) 92 rfl inb_S512x128_S4x128_92_0 _ rfl⟩,
      ⟨⟨rfl, rfl, rfl, gpiece arg5 X5 arg11 X11 k 15 (k0_off87 k) (forK (P := fun k => k0_off87 k = ![0, 0, 128 * k.val + slotOf 15]) rfl rfl rfl k) (k0_off87_inb k) (hchk _ _) 60 rfl inb_S512x128_S4x128_60_0 _ rfl⟩,
      ⟨⟨rfl, rfl, rfl, gpiece arg5 X5 arg11 X11 k 7 (k0_off85 k) (forK (P := fun k => k0_off85 k = ![0, 0, 128 * k.val + slotOf 7]) rfl rfl rfl k) (k0_off85_inb k) (hchk _ _) 28 rfl inb_S512x128_S4x128_28_0 _ rfl⟩,
      ⟨⟨rfl, rfl, rfl, gpiece arg5 X5 arg11 X11 k 30 (k0_off83 k) (forK (P := fun k => k0_off83 k = ![0, 0, 128 * k.val + slotOf 30]) rfl rfl rfl k) (k0_off83_inb k) (hchk _ _) 120 rfl inb_S512x128_S4x128_120_0 _ rfl⟩,
      ⟨⟨rfl, rfl, rfl, gpiece arg5 X5 arg11 X11 k 22 (k0_off81 k) (forK (P := fun k => k0_off81 k = ![0, 0, 128 * k.val + slotOf 22]) rfl rfl rfl k) (k0_off81_inb k) (hchk _ _) 88 rfl inb_S512x128_S4x128_88_0 _ rfl⟩,
      ⟨⟨rfl, rfl, rfl, gpiece arg5 X5 arg11 X11 k 14 (k0_off79 k) (forK (P := fun k => k0_off79 k = ![0, 0, 128 * k.val + slotOf 14]) rfl rfl rfl k) (k0_off79_inb k) (hchk _ _) 56 rfl inb_S512x128_S4x128_56_0 _ rfl⟩,
      ⟨⟨rfl, rfl, rfl, gpiece arg5 X5 arg11 X11 k 6 (k0_off77 k) (forK (P := fun k => k0_off77 k = ![0, 0, 128 * k.val + slotOf 6]) rfl rfl rfl k) (k0_off77_inb k) (hchk _ _) 24 rfl inb_S512x128_S4x128_24_0 _ rfl⟩,
      ⟨⟨rfl, rfl, rfl, gpiece arg5 X5 arg11 X11 k 29 (k0_off75 k) (forK (P := fun k => k0_off75 k = ![0, 0, 128 * k.val + slotOf 29]) rfl rfl rfl k) (k0_off75_inb k) (hchk _ _) 116 rfl inb_S512x128_S4x128_116_0 _ rfl⟩,
      ⟨⟨rfl, rfl, rfl, gpiece arg5 X5 arg11 X11 k 21 (k0_off73 k) (forK (P := fun k => k0_off73 k = ![0, 0, 128 * k.val + slotOf 21]) rfl rfl rfl k) (k0_off73_inb k) (hchk _ _) 84 rfl inb_S512x128_S4x128_84_0 _ rfl⟩,
      ⟨⟨rfl, rfl, rfl, gpiece arg5 X5 arg11 X11 k 13 (k0_off71 k) (forK (P := fun k => k0_off71 k = ![0, 0, 128 * k.val + slotOf 13]) rfl rfl rfl k) (k0_off71_inb k) (hchk _ _) 52 rfl inb_S512x128_S4x128_52_0 _ rfl⟩,
      ⟨⟨rfl, rfl, rfl, gpiece arg5 X5 arg11 X11 k 5 (k0_off69 k) (forK (P := fun k => k0_off69 k = ![0, 0, 128 * k.val + slotOf 5]) rfl rfl rfl k) (k0_off69_inb k) (hchk _ _) 20 rfl inb_S512x128_S4x128_20_0 _ rfl⟩,
      ⟨⟨rfl, rfl, rfl, gpiece arg5 X5 arg11 X11 k 28 (k0_off67 k) (forK (P := fun k => k0_off67 k = ![0, 0, 128 * k.val + slotOf 28]) rfl rfl rfl k) (k0_off67_inb k) (hchk _ _) 112 rfl inb_S512x128_S4x128_112_0 _ rfl⟩,
      ⟨⟨rfl, rfl, rfl, gpiece arg5 X5 arg11 X11 k 20 (k0_off65 k) (forK (P := fun k => k0_off65 k = ![0, 0, 128 * k.val + slotOf 20]) rfl rfl rfl k) (k0_off65_inb k) (hchk _ _) 80 rfl inb_S512x128_S4x128_80_0 _ rfl⟩,
      ⟨⟨rfl, rfl, rfl, gpiece arg5 X5 arg11 X11 k 12 (k0_off63 k) (forK (P := fun k => k0_off63 k = ![0, 0, 128 * k.val + slotOf 12]) rfl rfl rfl k) (k0_off63_inb k) (hchk _ _) 48 rfl inb_S512x128_S4x128_48_0 _ rfl⟩,
      ⟨⟨rfl, rfl, rfl, gpiece arg5 X5 arg11 X11 k 4 (k0_off61 k) (forK (P := fun k => k0_off61 k = ![0, 0, 128 * k.val + slotOf 4]) rfl rfl rfl k) (k0_off61_inb k) (hchk _ _) 16 rfl inb_S512x128_S4x128_16_0 _ rfl⟩,
      ⟨⟨rfl, rfl, rfl, gpiece arg5 X5 arg11 X11 k 27 (k0_off59 k) (forK (P := fun k => k0_off59 k = ![0, 0, 128 * k.val + slotOf 27]) rfl rfl rfl k) (k0_off59_inb k) (hchk _ _) 108 rfl inb_S512x128_S4x128_108_0 _ rfl⟩,
      ⟨⟨rfl, rfl, rfl, gpiece arg5 X5 arg11 X11 k 19 (k0_off57 k) (forK (P := fun k => k0_off57 k = ![0, 0, 128 * k.val + slotOf 19]) rfl rfl rfl k) (k0_off57_inb k) (hchk _ _) 76 rfl inb_S512x128_S4x128_76_0 _ rfl⟩,
      ⟨⟨rfl, rfl, rfl, gpiece arg5 X5 arg11 X11 k 11 (k0_off55 k) (forK (P := fun k => k0_off55 k = ![0, 0, 128 * k.val + slotOf 11]) rfl rfl rfl k) (k0_off55_inb k) (hchk _ _) 44 rfl inb_S512x128_S4x128_44_0 _ rfl⟩,
      ⟨⟨rfl, rfl, rfl, gpiece arg5 X5 arg11 X11 k 3 (k0_off53 k) (forK (P := fun k => k0_off53 k = ![0, 0, 128 * k.val + slotOf 3]) rfl rfl rfl k) (k0_off53_inb k) (hchk _ _) 12 rfl inb_S512x128_S4x128_12_0 _ rfl⟩,
      ⟨⟨rfl, rfl, rfl, gpiece arg5 X5 arg11 X11 k 26 (k0_off51 k) (forK (P := fun k => k0_off51 k = ![0, 0, 128 * k.val + slotOf 26]) rfl rfl rfl k) (k0_off51_inb k) (hchk _ _) 104 rfl inb_S512x128_S4x128_104_0 _ rfl⟩,
      ⟨⟨rfl, rfl, rfl, gpiece arg5 X5 arg11 X11 k 18 (k0_off49 k) (forK (P := fun k => k0_off49 k = ![0, 0, 128 * k.val + slotOf 18]) rfl rfl rfl k) (k0_off49_inb k) (hchk _ _) 72 rfl inb_S512x128_S4x128_72_0 _ rfl⟩,
      ⟨⟨rfl, rfl, rfl, gpiece arg5 X5 arg11 X11 k 10 (k0_off47 k) (forK (P := fun k => k0_off47 k = ![0, 0, 128 * k.val + slotOf 10]) rfl rfl rfl k) (k0_off47_inb k) (hchk _ _) 40 rfl inb_S512x128_S4x128_40_0 _ rfl⟩,
      ⟨⟨rfl, rfl, rfl, gpiece arg5 X5 arg11 X11 k 2 (k0_off45 k) (forK (P := fun k => k0_off45 k = ![0, 0, 128 * k.val + slotOf 2]) rfl rfl rfl k) (k0_off45_inb k) (hchk _ _) 8 rfl inb_S512x128_S4x128_8_0 _ rfl⟩,
      ⟨⟨rfl, rfl, rfl, gpiece arg5 X5 arg11 X11 k 25 (k0_off43 k) (forK (P := fun k => k0_off43 k = ![0, 0, 128 * k.val + slotOf 25]) rfl rfl rfl k) (k0_off43_inb k) (hchk _ _) 100 rfl inb_S512x128_S4x128_100_0 _ rfl⟩,
      ⟨⟨rfl, rfl, rfl, gpiece arg5 X5 arg11 X11 k 17 (k0_off41 k) (forK (P := fun k => k0_off41 k = ![0, 0, 128 * k.val + slotOf 17]) rfl rfl rfl k) (k0_off41_inb k) (hchk _ _) 68 rfl inb_S512x128_S4x128_68_0 _ rfl⟩,
      ⟨⟨rfl, rfl, rfl, gpiece arg5 X5 arg11 X11 k 9 (k0_off39 k) (forK (P := fun k => k0_off39 k = ![0, 0, 128 * k.val + slotOf 9]) rfl rfl rfl k) (k0_off39_inb k) (hchk _ _) 36 rfl inb_S512x128_S4x128_36_0 _ rfl⟩,
      ⟨⟨rfl, rfl, rfl, gpiece arg5 X5 arg11 X11 k 1 (k0_off37 k) (forK (P := fun k => k0_off37 k = ![0, 0, 128 * k.val + slotOf 1]) rfl rfl rfl k) (k0_off37_inb k) (hchk _ _) 4 rfl inb_S512x128_S4x128_4_0 _ rfl⟩,
      ⟨⟨rfl, rfl, rfl, gpiece arg5 X5 arg11 X11 k 24 (k0_off35 k) (forK (P := fun k => k0_off35 k = ![0, 0, 128 * k.val + slotOf 24]) rfl rfl rfl k) (k0_off35_inb k) (hchk _ _) 96 rfl inb_S512x128_S4x128_96_0 _ rfl⟩,
      ⟨⟨rfl, rfl, rfl, gpiece arg5 X5 arg11 X11 k 16 (k0_off33 k) (forK (P := fun k => k0_off33 k = ![0, 0, 128 * k.val + slotOf 16]) rfl rfl rfl k) (k0_off33_inb k) (hchk _ _) 64 rfl inb_S512x128_S4x128_64_0 _ rfl⟩,
      ⟨⟨rfl, rfl, rfl, gpiece arg5 X5 arg11 X11 k 8 (k0_off31 k) (forK (P := fun k => k0_off31 k = ![0, 0, 128 * k.val + slotOf 8]) rfl rfl rfl k) (k0_off31_inb k) (hchk _ _) 32 rfl inb_S512x128_S4x128_32_0 _ rfl⟩,
      ⟨⟨rfl, rfl, rfl, gpiece arg5 X5 arg11 X11 k 0 (k0_off29 k) (forK (P := fun k => k0_off29 k = ![0, 0, 128 * k.val + slotOf 0]) rfl rfl rfl k) (k0_off29_inb k) (hchk _ _) 0 rfl inb_S512x128_S4x128_0_0 _ rfl⟩,
      trivial⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩)).1
  have hW : stgW arg13 g = tripW arg5 arg11 X5 X11 k := stgW_eq arg13 g _ _ _ fun y =>
    hst y ((y 0).val / 4) (stgLabels_mem _ (by have := idx2_lt0 y; omega)) fun a => match a with
      | ⟨0, _⟩ => ⟨(y 0).val % 4, Nat.mod_lt _ (by decide), by show (y 0).val = 4 * ((y 0).val / 4) + 1 * ((y 0).val % 4); omega⟩
      | ⟨1, _⟩ => ⟨(y 1).val, (y 1).isLt, by show (y 1).val = 0 + 1 * (y 1).val; omega⟩
  rw [← hW]
  clear hst hg hW
  sl_exec
  sl_step
  ihave HW8 := abs_pt $$ HW_arg8
  icases HW8 with ⟨%f8', %h8, HW_arg8⟩
  have hout := laid_use (Val := Elt F) (v := arg8.view) (f := f8) (f' := f8') (G := outG v4 (mCol arg4 X4 k) (stgW arg13 g) k.val) (off := fun p : Fin 4 × Fin 4 × Fin 4 => ![0, 128 * k.val + 32 * p.2.1.val, 128 * (4 * p.1.val + p.2.2.val)]) (size := S1x32x128.size) (stride := fun _ => 1) (is := outLabels) h8 (by
    exact
      ⟨⟨(forK (P := fun k => k0_off304 k 96#32 = ![0, 128 * k.val + 32 * 3, 128 * (4 * 3 + 3)]) rfl rfl rfl k), rfl, rfl, dpiece v4 _ _ k.val 3 3 3 (k0_off304 k 96#32) (forK (P := fun k => k0_off304 k 96#32 = ![0, 128 * k.val + 32 * 3, 128 * (4 * 3 + 3)]) rfl rfl rfl k) (k0_off304_inb k 3) _ rfl⟩,
      ⟨⟨(forK (P := fun k => k0_off303 k 96#32 = ![0, 128 * k.val + 32 * 3, 128 * (4 * 3 + 2)]) rfl rfl rfl k), rfl, rfl, dpiece v4 _ _ k.val 3 3 2 (k0_off303 k 96#32) (forK (P := fun k => k0_off303 k 96#32 = ![0, 128 * k.val + 32 * 3, 128 * (4 * 3 + 2)]) rfl rfl rfl k) (k0_off303_inb k 3) _ rfl⟩,
      ⟨⟨(forK (P := fun k => k0_off302 k 96#32 = ![0, 128 * k.val + 32 * 3, 128 * (4 * 3 + 1)]) rfl rfl rfl k), rfl, rfl, dpiece v4 _ _ k.val 3 3 1 (k0_off302 k 96#32) (forK (P := fun k => k0_off302 k 96#32 = ![0, 128 * k.val + 32 * 3, 128 * (4 * 3 + 1)]) rfl rfl rfl k) (k0_off302_inb k 3) _ rfl⟩,
      ⟨⟨(forK (P := fun k => k0_off301 k 96#32 = ![0, 128 * k.val + 32 * 3, 128 * (4 * 3 + 0)]) rfl rfl rfl k), rfl, rfl, dpiece v4 _ _ k.val 3 3 0 (k0_off301 k 96#32) (forK (P := fun k => k0_off301 k 96#32 = ![0, 128 * k.val + 32 * 3, 128 * (4 * 3 + 0)]) rfl rfl rfl k) (k0_off301_inb k 3) _ rfl⟩,
      ⟨⟨(forK (P := fun k => k0_off304 k 64#32 = ![0, 128 * k.val + 32 * 2, 128 * (4 * 3 + 3)]) rfl rfl rfl k), rfl, rfl, dpiece v4 _ _ k.val 3 2 3 (k0_off304 k 64#32) (forK (P := fun k => k0_off304 k 64#32 = ![0, 128 * k.val + 32 * 2, 128 * (4 * 3 + 3)]) rfl rfl rfl k) (k0_off304_inb k 2) _ rfl⟩,
      ⟨⟨(forK (P := fun k => k0_off303 k 64#32 = ![0, 128 * k.val + 32 * 2, 128 * (4 * 3 + 2)]) rfl rfl rfl k), rfl, rfl, dpiece v4 _ _ k.val 3 2 2 (k0_off303 k 64#32) (forK (P := fun k => k0_off303 k 64#32 = ![0, 128 * k.val + 32 * 2, 128 * (4 * 3 + 2)]) rfl rfl rfl k) (k0_off303_inb k 2) _ rfl⟩,
      ⟨⟨(forK (P := fun k => k0_off302 k 64#32 = ![0, 128 * k.val + 32 * 2, 128 * (4 * 3 + 1)]) rfl rfl rfl k), rfl, rfl, dpiece v4 _ _ k.val 3 2 1 (k0_off302 k 64#32) (forK (P := fun k => k0_off302 k 64#32 = ![0, 128 * k.val + 32 * 2, 128 * (4 * 3 + 1)]) rfl rfl rfl k) (k0_off302_inb k 2) _ rfl⟩,
      ⟨⟨(forK (P := fun k => k0_off301 k 64#32 = ![0, 128 * k.val + 32 * 2, 128 * (4 * 3 + 0)]) rfl rfl rfl k), rfl, rfl, dpiece v4 _ _ k.val 3 2 0 (k0_off301 k 64#32) (forK (P := fun k => k0_off301 k 64#32 = ![0, 128 * k.val + 32 * 2, 128 * (4 * 3 + 0)]) rfl rfl rfl k) (k0_off301_inb k 2) _ rfl⟩,
      ⟨⟨(forK (P := fun k => k0_off304 k 32#32 = ![0, 128 * k.val + 32 * 1, 128 * (4 * 3 + 3)]) rfl rfl rfl k), rfl, rfl, dpiece v4 _ _ k.val 3 1 3 (k0_off304 k 32#32) (forK (P := fun k => k0_off304 k 32#32 = ![0, 128 * k.val + 32 * 1, 128 * (4 * 3 + 3)]) rfl rfl rfl k) (k0_off304_inb k 1) _ rfl⟩,
      ⟨⟨(forK (P := fun k => k0_off303 k 32#32 = ![0, 128 * k.val + 32 * 1, 128 * (4 * 3 + 2)]) rfl rfl rfl k), rfl, rfl, dpiece v4 _ _ k.val 3 1 2 (k0_off303 k 32#32) (forK (P := fun k => k0_off303 k 32#32 = ![0, 128 * k.val + 32 * 1, 128 * (4 * 3 + 2)]) rfl rfl rfl k) (k0_off303_inb k 1) _ rfl⟩,
      ⟨⟨(forK (P := fun k => k0_off302 k 32#32 = ![0, 128 * k.val + 32 * 1, 128 * (4 * 3 + 1)]) rfl rfl rfl k), rfl, rfl, dpiece v4 _ _ k.val 3 1 1 (k0_off302 k 32#32) (forK (P := fun k => k0_off302 k 32#32 = ![0, 128 * k.val + 32 * 1, 128 * (4 * 3 + 1)]) rfl rfl rfl k) (k0_off302_inb k 1) _ rfl⟩,
      ⟨⟨(forK (P := fun k => k0_off301 k 32#32 = ![0, 128 * k.val + 32 * 1, 128 * (4 * 3 + 0)]) rfl rfl rfl k), rfl, rfl, dpiece v4 _ _ k.val 3 1 0 (k0_off301 k 32#32) (forK (P := fun k => k0_off301 k 32#32 = ![0, 128 * k.val + 32 * 1, 128 * (4 * 3 + 0)]) rfl rfl rfl k) (k0_off301_inb k 1) _ rfl⟩,
      ⟨⟨(forK (P := fun k => k0_off304 k 0#32 = ![0, 128 * k.val + 32 * 0, 128 * (4 * 3 + 3)]) rfl rfl rfl k), rfl, rfl, dpiece v4 _ _ k.val 3 0 3 (k0_off304 k 0#32) (forK (P := fun k => k0_off304 k 0#32 = ![0, 128 * k.val + 32 * 0, 128 * (4 * 3 + 3)]) rfl rfl rfl k) (k0_off304_inb k 0) _ rfl⟩,
      ⟨⟨(forK (P := fun k => k0_off303 k 0#32 = ![0, 128 * k.val + 32 * 0, 128 * (4 * 3 + 2)]) rfl rfl rfl k), rfl, rfl, dpiece v4 _ _ k.val 3 0 2 (k0_off303 k 0#32) (forK (P := fun k => k0_off303 k 0#32 = ![0, 128 * k.val + 32 * 0, 128 * (4 * 3 + 2)]) rfl rfl rfl k) (k0_off303_inb k 0) _ rfl⟩,
      ⟨⟨(forK (P := fun k => k0_off302 k 0#32 = ![0, 128 * k.val + 32 * 0, 128 * (4 * 3 + 1)]) rfl rfl rfl k), rfl, rfl, dpiece v4 _ _ k.val 3 0 1 (k0_off302 k 0#32) (forK (P := fun k => k0_off302 k 0#32 = ![0, 128 * k.val + 32 * 0, 128 * (4 * 3 + 1)]) rfl rfl rfl k) (k0_off302_inb k 0) _ rfl⟩,
      ⟨⟨(forK (P := fun k => k0_off301 k 0#32 = ![0, 128 * k.val + 32 * 0, 128 * (4 * 3 + 0)]) rfl rfl rfl k), rfl, rfl, dpiece v4 _ _ k.val 3 0 0 (k0_off301 k 0#32) (forK (P := fun k => k0_off301 k 0#32 = ![0, 128 * k.val + 32 * 0, 128 * (4 * 3 + 0)]) rfl rfl rfl k) (k0_off301_inb k 0) _ rfl⟩,
      ⟨⟨(forK (P := fun k => k0_off299 k 96#32 = ![0, 128 * k.val + 32 * 3, 128 * (4 * 2 + 3)]) rfl rfl rfl k), rfl, rfl, dpiece v4 _ _ k.val 2 3 3 (k0_off299 k 96#32) (forK (P := fun k => k0_off299 k 96#32 = ![0, 128 * k.val + 32 * 3, 128 * (4 * 2 + 3)]) rfl rfl rfl k) (k0_off299_inb k 3) _ rfl⟩,
      ⟨⟨(forK (P := fun k => k0_off298 k 96#32 = ![0, 128 * k.val + 32 * 3, 128 * (4 * 2 + 2)]) rfl rfl rfl k), rfl, rfl, dpiece v4 _ _ k.val 2 3 2 (k0_off298 k 96#32) (forK (P := fun k => k0_off298 k 96#32 = ![0, 128 * k.val + 32 * 3, 128 * (4 * 2 + 2)]) rfl rfl rfl k) (k0_off298_inb k 3) _ rfl⟩,
      ⟨⟨(forK (P := fun k => k0_off297 k 96#32 = ![0, 128 * k.val + 32 * 3, 128 * (4 * 2 + 1)]) rfl rfl rfl k), rfl, rfl, dpiece v4 _ _ k.val 2 3 1 (k0_off297 k 96#32) (forK (P := fun k => k0_off297 k 96#32 = ![0, 128 * k.val + 32 * 3, 128 * (4 * 2 + 1)]) rfl rfl rfl k) (k0_off297_inb k 3) _ rfl⟩,
      ⟨⟨(forK (P := fun k => k0_off296 k 96#32 = ![0, 128 * k.val + 32 * 3, 128 * (4 * 2 + 0)]) rfl rfl rfl k), rfl, rfl, dpiece v4 _ _ k.val 2 3 0 (k0_off296 k 96#32) (forK (P := fun k => k0_off296 k 96#32 = ![0, 128 * k.val + 32 * 3, 128 * (4 * 2 + 0)]) rfl rfl rfl k) (k0_off296_inb k 3) _ rfl⟩,
      ⟨⟨(forK (P := fun k => k0_off299 k 64#32 = ![0, 128 * k.val + 32 * 2, 128 * (4 * 2 + 3)]) rfl rfl rfl k), rfl, rfl, dpiece v4 _ _ k.val 2 2 3 (k0_off299 k 64#32) (forK (P := fun k => k0_off299 k 64#32 = ![0, 128 * k.val + 32 * 2, 128 * (4 * 2 + 3)]) rfl rfl rfl k) (k0_off299_inb k 2) _ rfl⟩,
      ⟨⟨(forK (P := fun k => k0_off298 k 64#32 = ![0, 128 * k.val + 32 * 2, 128 * (4 * 2 + 2)]) rfl rfl rfl k), rfl, rfl, dpiece v4 _ _ k.val 2 2 2 (k0_off298 k 64#32) (forK (P := fun k => k0_off298 k 64#32 = ![0, 128 * k.val + 32 * 2, 128 * (4 * 2 + 2)]) rfl rfl rfl k) (k0_off298_inb k 2) _ rfl⟩,
      ⟨⟨(forK (P := fun k => k0_off297 k 64#32 = ![0, 128 * k.val + 32 * 2, 128 * (4 * 2 + 1)]) rfl rfl rfl k), rfl, rfl, dpiece v4 _ _ k.val 2 2 1 (k0_off297 k 64#32) (forK (P := fun k => k0_off297 k 64#32 = ![0, 128 * k.val + 32 * 2, 128 * (4 * 2 + 1)]) rfl rfl rfl k) (k0_off297_inb k 2) _ rfl⟩,
      ⟨⟨(forK (P := fun k => k0_off296 k 64#32 = ![0, 128 * k.val + 32 * 2, 128 * (4 * 2 + 0)]) rfl rfl rfl k), rfl, rfl, dpiece v4 _ _ k.val 2 2 0 (k0_off296 k 64#32) (forK (P := fun k => k0_off296 k 64#32 = ![0, 128 * k.val + 32 * 2, 128 * (4 * 2 + 0)]) rfl rfl rfl k) (k0_off296_inb k 2) _ rfl⟩,
      ⟨⟨(forK (P := fun k => k0_off299 k 32#32 = ![0, 128 * k.val + 32 * 1, 128 * (4 * 2 + 3)]) rfl rfl rfl k), rfl, rfl, dpiece v4 _ _ k.val 2 1 3 (k0_off299 k 32#32) (forK (P := fun k => k0_off299 k 32#32 = ![0, 128 * k.val + 32 * 1, 128 * (4 * 2 + 3)]) rfl rfl rfl k) (k0_off299_inb k 1) _ rfl⟩,
      ⟨⟨(forK (P := fun k => k0_off298 k 32#32 = ![0, 128 * k.val + 32 * 1, 128 * (4 * 2 + 2)]) rfl rfl rfl k), rfl, rfl, dpiece v4 _ _ k.val 2 1 2 (k0_off298 k 32#32) (forK (P := fun k => k0_off298 k 32#32 = ![0, 128 * k.val + 32 * 1, 128 * (4 * 2 + 2)]) rfl rfl rfl k) (k0_off298_inb k 1) _ rfl⟩,
      ⟨⟨(forK (P := fun k => k0_off297 k 32#32 = ![0, 128 * k.val + 32 * 1, 128 * (4 * 2 + 1)]) rfl rfl rfl k), rfl, rfl, dpiece v4 _ _ k.val 2 1 1 (k0_off297 k 32#32) (forK (P := fun k => k0_off297 k 32#32 = ![0, 128 * k.val + 32 * 1, 128 * (4 * 2 + 1)]) rfl rfl rfl k) (k0_off297_inb k 1) _ rfl⟩,
      ⟨⟨(forK (P := fun k => k0_off296 k 32#32 = ![0, 128 * k.val + 32 * 1, 128 * (4 * 2 + 0)]) rfl rfl rfl k), rfl, rfl, dpiece v4 _ _ k.val 2 1 0 (k0_off296 k 32#32) (forK (P := fun k => k0_off296 k 32#32 = ![0, 128 * k.val + 32 * 1, 128 * (4 * 2 + 0)]) rfl rfl rfl k) (k0_off296_inb k 1) _ rfl⟩,
      ⟨⟨(forK (P := fun k => k0_off299 k 0#32 = ![0, 128 * k.val + 32 * 0, 128 * (4 * 2 + 3)]) rfl rfl rfl k), rfl, rfl, dpiece v4 _ _ k.val 2 0 3 (k0_off299 k 0#32) (forK (P := fun k => k0_off299 k 0#32 = ![0, 128 * k.val + 32 * 0, 128 * (4 * 2 + 3)]) rfl rfl rfl k) (k0_off299_inb k 0) _ rfl⟩,
      ⟨⟨(forK (P := fun k => k0_off298 k 0#32 = ![0, 128 * k.val + 32 * 0, 128 * (4 * 2 + 2)]) rfl rfl rfl k), rfl, rfl, dpiece v4 _ _ k.val 2 0 2 (k0_off298 k 0#32) (forK (P := fun k => k0_off298 k 0#32 = ![0, 128 * k.val + 32 * 0, 128 * (4 * 2 + 2)]) rfl rfl rfl k) (k0_off298_inb k 0) _ rfl⟩,
      ⟨⟨(forK (P := fun k => k0_off297 k 0#32 = ![0, 128 * k.val + 32 * 0, 128 * (4 * 2 + 1)]) rfl rfl rfl k), rfl, rfl, dpiece v4 _ _ k.val 2 0 1 (k0_off297 k 0#32) (forK (P := fun k => k0_off297 k 0#32 = ![0, 128 * k.val + 32 * 0, 128 * (4 * 2 + 1)]) rfl rfl rfl k) (k0_off297_inb k 0) _ rfl⟩,
      ⟨⟨(forK (P := fun k => k0_off296 k 0#32 = ![0, 128 * k.val + 32 * 0, 128 * (4 * 2 + 0)]) rfl rfl rfl k), rfl, rfl, dpiece v4 _ _ k.val 2 0 0 (k0_off296 k 0#32) (forK (P := fun k => k0_off296 k 0#32 = ![0, 128 * k.val + 32 * 0, 128 * (4 * 2 + 0)]) rfl rfl rfl k) (k0_off296_inb k 0) _ rfl⟩,
      ⟨⟨(forK (P := fun k => k0_off294 k 96#32 = ![0, 128 * k.val + 32 * 3, 128 * (4 * 1 + 3)]) rfl rfl rfl k), rfl, rfl, dpiece v4 _ _ k.val 1 3 3 (k0_off294 k 96#32) (forK (P := fun k => k0_off294 k 96#32 = ![0, 128 * k.val + 32 * 3, 128 * (4 * 1 + 3)]) rfl rfl rfl k) (k0_off294_inb k 3) _ rfl⟩,
      ⟨⟨(forK (P := fun k => k0_off293 k 96#32 = ![0, 128 * k.val + 32 * 3, 128 * (4 * 1 + 2)]) rfl rfl rfl k), rfl, rfl, dpiece v4 _ _ k.val 1 3 2 (k0_off293 k 96#32) (forK (P := fun k => k0_off293 k 96#32 = ![0, 128 * k.val + 32 * 3, 128 * (4 * 1 + 2)]) rfl rfl rfl k) (k0_off293_inb k 3) _ rfl⟩,
      ⟨⟨(forK (P := fun k => k0_off292 k 96#32 = ![0, 128 * k.val + 32 * 3, 128 * (4 * 1 + 1)]) rfl rfl rfl k), rfl, rfl, dpiece v4 _ _ k.val 1 3 1 (k0_off292 k 96#32) (forK (P := fun k => k0_off292 k 96#32 = ![0, 128 * k.val + 32 * 3, 128 * (4 * 1 + 1)]) rfl rfl rfl k) (k0_off292_inb k 3) _ rfl⟩,
      ⟨⟨(forK (P := fun k => k0_off291 k 96#32 = ![0, 128 * k.val + 32 * 3, 128 * (4 * 1 + 0)]) rfl rfl rfl k), rfl, rfl, dpiece v4 _ _ k.val 1 3 0 (k0_off291 k 96#32) (forK (P := fun k => k0_off291 k 96#32 = ![0, 128 * k.val + 32 * 3, 128 * (4 * 1 + 0)]) rfl rfl rfl k) (k0_off291_inb k 3) _ rfl⟩,
      ⟨⟨(forK (P := fun k => k0_off294 k 64#32 = ![0, 128 * k.val + 32 * 2, 128 * (4 * 1 + 3)]) rfl rfl rfl k), rfl, rfl, dpiece v4 _ _ k.val 1 2 3 (k0_off294 k 64#32) (forK (P := fun k => k0_off294 k 64#32 = ![0, 128 * k.val + 32 * 2, 128 * (4 * 1 + 3)]) rfl rfl rfl k) (k0_off294_inb k 2) _ rfl⟩,
      ⟨⟨(forK (P := fun k => k0_off293 k 64#32 = ![0, 128 * k.val + 32 * 2, 128 * (4 * 1 + 2)]) rfl rfl rfl k), rfl, rfl, dpiece v4 _ _ k.val 1 2 2 (k0_off293 k 64#32) (forK (P := fun k => k0_off293 k 64#32 = ![0, 128 * k.val + 32 * 2, 128 * (4 * 1 + 2)]) rfl rfl rfl k) (k0_off293_inb k 2) _ rfl⟩,
      ⟨⟨(forK (P := fun k => k0_off292 k 64#32 = ![0, 128 * k.val + 32 * 2, 128 * (4 * 1 + 1)]) rfl rfl rfl k), rfl, rfl, dpiece v4 _ _ k.val 1 2 1 (k0_off292 k 64#32) (forK (P := fun k => k0_off292 k 64#32 = ![0, 128 * k.val + 32 * 2, 128 * (4 * 1 + 1)]) rfl rfl rfl k) (k0_off292_inb k 2) _ rfl⟩,
      ⟨⟨(forK (P := fun k => k0_off291 k 64#32 = ![0, 128 * k.val + 32 * 2, 128 * (4 * 1 + 0)]) rfl rfl rfl k), rfl, rfl, dpiece v4 _ _ k.val 1 2 0 (k0_off291 k 64#32) (forK (P := fun k => k0_off291 k 64#32 = ![0, 128 * k.val + 32 * 2, 128 * (4 * 1 + 0)]) rfl rfl rfl k) (k0_off291_inb k 2) _ rfl⟩,
      ⟨⟨(forK (P := fun k => k0_off294 k 32#32 = ![0, 128 * k.val + 32 * 1, 128 * (4 * 1 + 3)]) rfl rfl rfl k), rfl, rfl, dpiece v4 _ _ k.val 1 1 3 (k0_off294 k 32#32) (forK (P := fun k => k0_off294 k 32#32 = ![0, 128 * k.val + 32 * 1, 128 * (4 * 1 + 3)]) rfl rfl rfl k) (k0_off294_inb k 1) _ rfl⟩,
      ⟨⟨(forK (P := fun k => k0_off293 k 32#32 = ![0, 128 * k.val + 32 * 1, 128 * (4 * 1 + 2)]) rfl rfl rfl k), rfl, rfl, dpiece v4 _ _ k.val 1 1 2 (k0_off293 k 32#32) (forK (P := fun k => k0_off293 k 32#32 = ![0, 128 * k.val + 32 * 1, 128 * (4 * 1 + 2)]) rfl rfl rfl k) (k0_off293_inb k 1) _ rfl⟩,
      ⟨⟨(forK (P := fun k => k0_off292 k 32#32 = ![0, 128 * k.val + 32 * 1, 128 * (4 * 1 + 1)]) rfl rfl rfl k), rfl, rfl, dpiece v4 _ _ k.val 1 1 1 (k0_off292 k 32#32) (forK (P := fun k => k0_off292 k 32#32 = ![0, 128 * k.val + 32 * 1, 128 * (4 * 1 + 1)]) rfl rfl rfl k) (k0_off292_inb k 1) _ rfl⟩,
      ⟨⟨(forK (P := fun k => k0_off291 k 32#32 = ![0, 128 * k.val + 32 * 1, 128 * (4 * 1 + 0)]) rfl rfl rfl k), rfl, rfl, dpiece v4 _ _ k.val 1 1 0 (k0_off291 k 32#32) (forK (P := fun k => k0_off291 k 32#32 = ![0, 128 * k.val + 32 * 1, 128 * (4 * 1 + 0)]) rfl rfl rfl k) (k0_off291_inb k 1) _ rfl⟩,
      ⟨⟨(forK (P := fun k => k0_off294 k 0#32 = ![0, 128 * k.val + 32 * 0, 128 * (4 * 1 + 3)]) rfl rfl rfl k), rfl, rfl, dpiece v4 _ _ k.val 1 0 3 (k0_off294 k 0#32) (forK (P := fun k => k0_off294 k 0#32 = ![0, 128 * k.val + 32 * 0, 128 * (4 * 1 + 3)]) rfl rfl rfl k) (k0_off294_inb k 0) _ rfl⟩,
      ⟨⟨(forK (P := fun k => k0_off293 k 0#32 = ![0, 128 * k.val + 32 * 0, 128 * (4 * 1 + 2)]) rfl rfl rfl k), rfl, rfl, dpiece v4 _ _ k.val 1 0 2 (k0_off293 k 0#32) (forK (P := fun k => k0_off293 k 0#32 = ![0, 128 * k.val + 32 * 0, 128 * (4 * 1 + 2)]) rfl rfl rfl k) (k0_off293_inb k 0) _ rfl⟩,
      ⟨⟨(forK (P := fun k => k0_off292 k 0#32 = ![0, 128 * k.val + 32 * 0, 128 * (4 * 1 + 1)]) rfl rfl rfl k), rfl, rfl, dpiece v4 _ _ k.val 1 0 1 (k0_off292 k 0#32) (forK (P := fun k => k0_off292 k 0#32 = ![0, 128 * k.val + 32 * 0, 128 * (4 * 1 + 1)]) rfl rfl rfl k) (k0_off292_inb k 0) _ rfl⟩,
      ⟨⟨(forK (P := fun k => k0_off291 k 0#32 = ![0, 128 * k.val + 32 * 0, 128 * (4 * 1 + 0)]) rfl rfl rfl k), rfl, rfl, dpiece v4 _ _ k.val 1 0 0 (k0_off291 k 0#32) (forK (P := fun k => k0_off291 k 0#32 = ![0, 128 * k.val + 32 * 0, 128 * (4 * 1 + 0)]) rfl rfl rfl k) (k0_off291_inb k 0) _ rfl⟩,
      ⟨⟨(forK (P := fun k => k0_off289 k 96#32 = ![0, 128 * k.val + 32 * 3, 128 * (4 * 0 + 3)]) rfl rfl rfl k), rfl, rfl, dpiece v4 _ _ k.val 0 3 3 (k0_off289 k 96#32) (forK (P := fun k => k0_off289 k 96#32 = ![0, 128 * k.val + 32 * 3, 128 * (4 * 0 + 3)]) rfl rfl rfl k) (k0_off289_inb k 3) _ rfl⟩,
      ⟨⟨(forK (P := fun k => k0_off288 k 96#32 = ![0, 128 * k.val + 32 * 3, 128 * (4 * 0 + 2)]) rfl rfl rfl k), rfl, rfl, dpiece v4 _ _ k.val 0 3 2 (k0_off288 k 96#32) (forK (P := fun k => k0_off288 k 96#32 = ![0, 128 * k.val + 32 * 3, 128 * (4 * 0 + 2)]) rfl rfl rfl k) (k0_off288_inb k 3) _ rfl⟩,
      ⟨⟨(forK (P := fun k => k0_off287 k 96#32 = ![0, 128 * k.val + 32 * 3, 128 * (4 * 0 + 1)]) rfl rfl rfl k), rfl, rfl, dpiece v4 _ _ k.val 0 3 1 (k0_off287 k 96#32) (forK (P := fun k => k0_off287 k 96#32 = ![0, 128 * k.val + 32 * 3, 128 * (4 * 0 + 1)]) rfl rfl rfl k) (k0_off287_inb k 3) _ rfl⟩,
      ⟨⟨(forK (P := fun k => k0_off286 k 96#32 = ![0, 128 * k.val + 32 * 3, 128 * (4 * 0 + 0)]) rfl rfl rfl k), rfl, rfl, dpiece v4 _ _ k.val 0 3 0 (k0_off286 k 96#32) (forK (P := fun k => k0_off286 k 96#32 = ![0, 128 * k.val + 32 * 3, 128 * (4 * 0 + 0)]) rfl rfl rfl k) (k0_off286_inb k 3) _ rfl⟩,
      ⟨⟨(forK (P := fun k => k0_off289 k 64#32 = ![0, 128 * k.val + 32 * 2, 128 * (4 * 0 + 3)]) rfl rfl rfl k), rfl, rfl, dpiece v4 _ _ k.val 0 2 3 (k0_off289 k 64#32) (forK (P := fun k => k0_off289 k 64#32 = ![0, 128 * k.val + 32 * 2, 128 * (4 * 0 + 3)]) rfl rfl rfl k) (k0_off289_inb k 2) _ rfl⟩,
      ⟨⟨(forK (P := fun k => k0_off288 k 64#32 = ![0, 128 * k.val + 32 * 2, 128 * (4 * 0 + 2)]) rfl rfl rfl k), rfl, rfl, dpiece v4 _ _ k.val 0 2 2 (k0_off288 k 64#32) (forK (P := fun k => k0_off288 k 64#32 = ![0, 128 * k.val + 32 * 2, 128 * (4 * 0 + 2)]) rfl rfl rfl k) (k0_off288_inb k 2) _ rfl⟩,
      ⟨⟨(forK (P := fun k => k0_off287 k 64#32 = ![0, 128 * k.val + 32 * 2, 128 * (4 * 0 + 1)]) rfl rfl rfl k), rfl, rfl, dpiece v4 _ _ k.val 0 2 1 (k0_off287 k 64#32) (forK (P := fun k => k0_off287 k 64#32 = ![0, 128 * k.val + 32 * 2, 128 * (4 * 0 + 1)]) rfl rfl rfl k) (k0_off287_inb k 2) _ rfl⟩,
      ⟨⟨(forK (P := fun k => k0_off286 k 64#32 = ![0, 128 * k.val + 32 * 2, 128 * (4 * 0 + 0)]) rfl rfl rfl k), rfl, rfl, dpiece v4 _ _ k.val 0 2 0 (k0_off286 k 64#32) (forK (P := fun k => k0_off286 k 64#32 = ![0, 128 * k.val + 32 * 2, 128 * (4 * 0 + 0)]) rfl rfl rfl k) (k0_off286_inb k 2) _ rfl⟩,
      ⟨⟨(forK (P := fun k => k0_off289 k 32#32 = ![0, 128 * k.val + 32 * 1, 128 * (4 * 0 + 3)]) rfl rfl rfl k), rfl, rfl, dpiece v4 _ _ k.val 0 1 3 (k0_off289 k 32#32) (forK (P := fun k => k0_off289 k 32#32 = ![0, 128 * k.val + 32 * 1, 128 * (4 * 0 + 3)]) rfl rfl rfl k) (k0_off289_inb k 1) _ rfl⟩,
      ⟨⟨(forK (P := fun k => k0_off288 k 32#32 = ![0, 128 * k.val + 32 * 1, 128 * (4 * 0 + 2)]) rfl rfl rfl k), rfl, rfl, dpiece v4 _ _ k.val 0 1 2 (k0_off288 k 32#32) (forK (P := fun k => k0_off288 k 32#32 = ![0, 128 * k.val + 32 * 1, 128 * (4 * 0 + 2)]) rfl rfl rfl k) (k0_off288_inb k 1) _ rfl⟩,
      ⟨⟨(forK (P := fun k => k0_off287 k 32#32 = ![0, 128 * k.val + 32 * 1, 128 * (4 * 0 + 1)]) rfl rfl rfl k), rfl, rfl, dpiece v4 _ _ k.val 0 1 1 (k0_off287 k 32#32) (forK (P := fun k => k0_off287 k 32#32 = ![0, 128 * k.val + 32 * 1, 128 * (4 * 0 + 1)]) rfl rfl rfl k) (k0_off287_inb k 1) _ rfl⟩,
      ⟨⟨(forK (P := fun k => k0_off286 k 32#32 = ![0, 128 * k.val + 32 * 1, 128 * (4 * 0 + 0)]) rfl rfl rfl k), rfl, rfl, dpiece v4 _ _ k.val 0 1 0 (k0_off286 k 32#32) (forK (P := fun k => k0_off286 k 32#32 = ![0, 128 * k.val + 32 * 1, 128 * (4 * 0 + 0)]) rfl rfl rfl k) (k0_off286_inb k 1) _ rfl⟩,
      ⟨⟨(forK (P := fun k => k0_off289 k 0#32 = ![0, 128 * k.val + 32 * 0, 128 * (4 * 0 + 3)]) rfl rfl rfl k), rfl, rfl, dpiece v4 _ _ k.val 0 0 3 (k0_off289 k 0#32) (forK (P := fun k => k0_off289 k 0#32 = ![0, 128 * k.val + 32 * 0, 128 * (4 * 0 + 3)]) rfl rfl rfl k) (k0_off289_inb k 0) _ rfl⟩,
      ⟨⟨(forK (P := fun k => k0_off288 k 0#32 = ![0, 128 * k.val + 32 * 0, 128 * (4 * 0 + 2)]) rfl rfl rfl k), rfl, rfl, dpiece v4 _ _ k.val 0 0 2 (k0_off288 k 0#32) (forK (P := fun k => k0_off288 k 0#32 = ![0, 128 * k.val + 32 * 0, 128 * (4 * 0 + 2)]) rfl rfl rfl k) (k0_off288_inb k 0) _ rfl⟩,
      ⟨⟨(forK (P := fun k => k0_off287 k 0#32 = ![0, 128 * k.val + 32 * 0, 128 * (4 * 0 + 1)]) rfl rfl rfl k), rfl, rfl, dpiece v4 _ _ k.val 0 0 1 (k0_off287 k 0#32) (forK (P := fun k => k0_off287 k 0#32 = ![0, 128 * k.val + 32 * 0, 128 * (4 * 0 + 1)]) rfl rfl rfl k) (k0_off287_inb k 0) _ rfl⟩,
      ⟨⟨(forK (P := fun k => k0_off286 k 0#32 = ![0, 128 * k.val + 32 * 0, 128 * (4 * 0 + 0)]) rfl rfl rfl k), rfl, rfl, dpiece v4 _ _ k.val 0 0 0 (k0_off286 k 0#32) (forK (P := fun k => k0_off286 k 0#32 = ![0, 128 * k.val + 32 * 0, 128 * (4 * 0 + 0)]) rfl rfl rfl k) (k0_off286_inb k 0) _ rfl⟩,
      trivial⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩)
  clear h8
  iexists g, f8'
  isplitr
  · ipureintro
    refine ⟨fun y h1 h2 => hout.1 y (Fin.ofNat 4 ((y 2).val / 512), Fin.ofNat 4 (((y 1).val - 128 * k.val) / 32), Fin.ofNat 4 ((y 2).val / 128)) (outLabels_mem _) ?_, fun y hy => hout.2 y fun p _ => ⟨1, fun j hj => ?_⟩⟩
    · intro a
      have hy0 : (y 0).val < 1 := (y 0).isLt
      have hy2 : (y 2).val < 2048 := (y 2).isLt
      match a with
      | ⟨0, _⟩ => exact ⟨0, (show 0 < 1 from Nat.zero_lt_one), by show (y 0).val = 0 + 1 * 0; omega⟩
      | ⟨1, _⟩ => exact ⟨((y 1).val - 128 * k.val) % 32, (show _ < 32 from Nat.mod_lt _ (by decide)), by
          show (y 1).val = 128 * k.val + 32 * ((((y 1).val - 128 * k.val) / 32) % 4) + 1 * (((y 1).val - 128 * k.val) % 32); omega⟩
      | ⟨2, _⟩ => exact ⟨(y 2).val % 128, (show _ < 128 from Nat.mod_lt _ (by decide)), by
          show (y 2).val = 128 * (4 * (((y 2).val / 512) % 4) + ((y 2).val / 128) % 4) + 1 * ((y 2).val % 128); omega⟩
    · have hp := p.2.1.isLt
      have hj' : j < 32 := hj
      show (y 1).val ≠ 128 * k.val + 32 * p.2.1.val + 1 * j
      omega
  isplitl [HR_arg3]; · iexact HR_arg3
  isplitl [HR_arg4]; · iexact HR_arg4
  isplitl [HR_arg5]; · iexact HR_arg5
  isplitl [HR_arg7]; · iexact HR_arg7
  isplitl [HR_arg11]; · iexact HR_arg11
  isplitl [HW_arg8]; · iexact HW_arg8
  isplitl [HW_arg9]; · iexact HW_arg9
  isplitl [HW_arg13]; · iexact HW_arg13
  isplitl [HW_arg14]; · iexact HW_arg14
  iexact HW_arg15

end Trip3
end Cert.KernelIdeal.Run
-- ==== Proof.KI.Offs.lean ====
/-
  The offsets of the table's fill in closed form, and the canonical names of the ring: slot, cell and block.
-/
module

public import proofs.«01_k».proof.Proof.KI.Base
public import Idealize.ShloMosaic.Lib.ValueIdxCore

@[expose] public section

set_option maxRecDepth 16384
set_option maxHeartbeats 4000000

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

theorem trips1 : k0_t1_loop.trips = 48 := rfl
theorem trips2 : k0_t2_loop.trips = 16 := rfl

set_option maxRecDepth 100000 in
theorem off5_eq : ∀ k : Fin k0_t1_loop.trips, k0_off5 k = ![k.val % 4] := by decide +kernel
set_option maxRecDepth 100000 in
theorem off6_eq : ∀ k : Fin k0_t1_loop.trips, k0_off6 k = ![k.val % 4, 0, 0] := by decide +kernel
set_option maxRecDepth 100000 in
theorem off25_eq : ∀ k : Fin k0_t1_loop.trips, k0_cond2 k = 1#1 → k0_off25 k = ![k.val % 4] := by decide +kernel
set_option maxRecDepth 100000 in
theorem off26_eq : ∀ k : Fin k0_t1_loop.trips, k0_cond2 k = 1#1 → k0_off26 k = ![k.val % 4, 0, 0] := by decide +kernel
theorem cond2_iff : ∀ k : Fin k0_t1_loop.trips, k0_cond2 k = 1#1 ↔ k.val + 4 < 48 := by decide +kernel
theorem off8_eq : ∀ (k : Fin k0_t1_loop.trips) (g : Fin k0_t2_loop.trips), k0_off8 k g = ![k.val % 4, 32 * g.val, 0] := by decide +kernel
instance (k : Fin k0_t1_loop.trips) (g : Fin k0_t2_loop.trips) : ClosedOff (k0_off8 k g) := ⟨![(Ring.sl 4 k.val).val, 32 * g.val, 0], off8_eq k g⟩
theorem off9_eq : ∀ (k : Fin k0_t1_loop.trips) (g : Fin k0_t2_loop.trips), k0_off9 k g = ![k.val % 4, 32 * g.val, 128] := by decide +kernel
instance (k : Fin k0_t1_loop.trips) (g : Fin k0_t2_loop.trips) : ClosedOff (k0_off9 k g) := ⟨![(Ring.sl 4 k.val).val, 32 * g.val, 128], off9_eq k g⟩
theorem off10_eq : ∀ (k : Fin k0_t1_loop.trips) (g : Fin k0_t2_loop.trips), k0_off10 k g = ![k.val % 4, 32 * g.val, 256] := by decide +kernel
instance (k : Fin k0_t1_loop.trips) (g : Fin k0_t2_loop.trips) : ClosedOff (k0_off10 k g) := ⟨![(Ring.sl 4 k.val).val, 32 * g.val, 256], off10_eq k g⟩
theorem off11_eq : ∀ (k : Fin k0_t1_loop.trips) (g : Fin k0_t2_loop.trips), k0_off11 k g = ![k.val % 4, 32 * g.val, 384] := by decide +kernel
instance (k : Fin k0_t1_loop.trips) (g : Fin k0_t2_loop.trips) : ClosedOff (k0_off11 k g) := ⟨![(Ring.sl 4 k.val).val, 32 * g.val, 384], off11_eq k g⟩
theorem off13_eq : ∀ (k : Fin k0_t1_loop.trips) (g : Fin k0_t2_loop.trips), k0_off13 k g = ![k.val % 4, 32 * g.val, 512] := by decide +kernel
instance (k : Fin k0_t1_loop.trips) (g : Fin k0_t2_loop.trips) : ClosedOff (k0_off13 k g) := ⟨![(Ring.sl 4 k.val).val, 32 * g.val, 512], off13_eq k g⟩
theorem off14_eq : ∀ (k : Fin k0_t1_loop.trips) (g : Fin k0_t2_loop.trips), k0_off14 k g = ![k.val % 4, 32 * g.val, 640] := by decide +kernel
instance (k : Fin k0_t1_loop.trips) (g : Fin k0_t2_loop.trips) : ClosedOff (k0_off14 k g) := ⟨![(Ring.sl 4 k.val).val, 32 * g.val, 640], off14_eq k g⟩
theorem off15_eq : ∀ (k : Fin k0_t1_loop.trips) (g : Fin k0_t2_loop.trips), k0_off15 k g = ![k.val % 4, 32 * g.val, 768] := by decide +kernel
instance (k : Fin k0_t1_loop.trips) (g : Fin k0_t2_loop.trips) : ClosedOff (k0_off15 k g) := ⟨![(Ring.sl 4 k.val).val, 32 * g.val, 768], off15_eq k g⟩
theorem off16_eq : ∀ (k : Fin k0_t1_loop.trips) (g : Fin k0_t2_loop.trips), k0_off16 k g = ![k.val % 4, 32 * g.val, 896] := by decide +kernel
instance (k : Fin k0_t1_loop.trips) (g : Fin k0_t2_loop.trips) : ClosedOff (k0_off16 k g) := ⟨![(Ring.sl 4 k.val).val, 32 * g.val, 896], off16_eq k g⟩
theorem off17_eq : ∀ (k : Fin k0_t1_loop.trips) (g : Fin k0_t2_loop.trips), k0_off17 k g = ![k.val % 4, 32 * g.val, 1024] := by decide +kernel
instance (k : Fin k0_t1_loop.trips) (g : Fin k0_t2_loop.trips) : ClosedOff (k0_off17 k g) := ⟨![(Ring.sl 4 k.val).val, 32 * g.val, 1024], off17_eq k g⟩
theorem off18_eq : ∀ (k : Fin k0_t1_loop.trips) (g : Fin k0_t2_loop.trips), k0_off18 k g = ![k.val % 4, 32 * g.val, 1152] := by decide +kernel
instance (k : Fin k0_t1_loop.trips) (g : Fin k0_t2_loop.trips) : ClosedOff (k0_off18 k g) := ⟨![(Ring.sl 4 k.val).val, 32 * g.val, 1152], off18_eq k g⟩
theorem off19_eq : ∀ (k : Fin k0_t1_loop.trips) (g : Fin k0_t2_loop.trips), k0_off19 k g = ![k.val % 4, 32 * g.val, 1280] := by decide +kernel
instance (k : Fin k0_t1_loop.trips) (g : Fin k0_t2_loop.trips) : ClosedOff (k0_off19 k g) := ⟨![(Ring.sl 4 k.val).val, 32 * g.val, 1280], off19_eq k g⟩
theorem off20_eq : ∀ (k : Fin k0_t1_loop.trips) (g : Fin k0_t2_loop.trips), k0_off20 k g = ![k.val % 4, 32 * g.val, 1408] := by decide +kernel
instance (k : Fin k0_t1_loop.trips) (g : Fin k0_t2_loop.trips) : ClosedOff (k0_off20 k g) := ⟨![(Ring.sl 4 k.val).val, 32 * g.val, 1408], off20_eq k g⟩
theorem off21_eq : ∀ (k : Fin k0_t1_loop.trips) (g : Fin k0_t2_loop.trips), k0_off21 k g = ![k.val % 4, 32 * g.val, 1536] := by decide +kernel
instance (k : Fin k0_t1_loop.trips) (g : Fin k0_t2_loop.trips) : ClosedOff (k0_off21 k g) := ⟨![(Ring.sl 4 k.val).val, 32 * g.val, 1536], off21_eq k g⟩
theorem off22_eq : ∀ (k : Fin k0_t1_loop.trips) (g : Fin k0_t2_loop.trips), k0_off22 k g = ![k.val % 4, 32 * g.val, 1664] := by decide +kernel
instance (k : Fin k0_t1_loop.trips) (g : Fin k0_t2_loop.trips) : ClosedOff (k0_off22 k g) := ⟨![(Ring.sl 4 k.val).val, 32 * g.val, 1664], off22_eq k g⟩
theorem off23_eq : ∀ (k : Fin k0_t1_loop.trips) (g : Fin k0_t2_loop.trips), k0_off23 k g = ![k.val % 4, 32 * g.val, 1792] := by decide +kernel
instance (k : Fin k0_t1_loop.trips) (g : Fin k0_t2_loop.trips) : ClosedOff (k0_off23 k g) := ⟨![(Ring.sl 4 k.val).val, 32 * g.val, 1792], off23_eq k g⟩
theorem off24_eq : ∀ (k : Fin k0_t1_loop.trips) (g : Fin k0_t2_loop.trips), k0_off24 k g = ![k.val % 4, 32 * g.val, 1920] := by decide +kernel
instance (k : Fin k0_t1_loop.trips) (g : Fin k0_t2_loop.trips) : ClosedOff (k0_off24 k g) := ⟨![(Ring.sl 4 k.val).val, 32 * g.val, 1920], off24_eq k g⟩

/-! ## The ring's names -/

theorem slotOff_inb (s : Fin 4) : ∀ a, (![s.val, 0, 0] : Fin 3 → Nat) a + S1x512x2048.size a ≤ S4x512x2048.size a := by revert s; decide
theorem semOff_inb (s : Fin 4) : ∀ a, (![s.val] : Fin 1 → Nat) a + S1.size a ≤ S4.size a := by revert s; decide
theorem grpOff_inb (cc : Fin 3) (b : Fin 48) : ∀ a, (![512 * b.val, 2048 * cc.val] : Fin 2 → Nat) a + S512x2048.size a ≤ S24576x6144.size a := by
  have h1 := cc.isLt; have h2 := b.isLt
  intro a
  match a with
  | ⟨0, _⟩ => show 512 * b.val + 512 ≤ 24576; omega
  | ⟨1, _⟩ => show 2048 * cc.val + 2048 ≤ 6144; omega

/-- Block `b` (512 tokens) of column chunk `cc` of the codes. -/
def grp (cc : Fin 3) (b : Fin 48) : Memref sig .tc .hbm S512x2048 .i8 :=
  dyM.slice (Rect.unit (s := S24576x6144) ![512 * b.val, 2048 * cc.val] S512x2048.size (grpOff_inb cc b)) (fun _ => rfl)
/-- Slot `s` of the ring. -/
def rslot (s : Fin 4) : Memref sig .tc .vmem S512x2048 .i8 :=
  (rawM.slice (Rect.unit (s := S4x512x2048) ![s.val, 0, 0] S1x512x2048.size (slotOff_inb s)) (fun _ => rfl)).squeeze S512x2048 squeezes_S1x512x2048_S512x2048
/-- Slot `s`'s semaphore. -/
def csm (s : Fin 4) : DmaSems sig S_ := (cc0_scratch5.slice (Rect.unit (s := S4) ![s.val] S1.size (semOff_inb s))).squeeze S_ squeezes_S1_S_

instance (s : Fin 4) : ClosedOff (![s.val, 0, 0] : Fin 3 → Nat) := ⟨_, rfl⟩

private theorem csm_congr {off : Fin 1 → Nat} {s : Fin 4} (e : off = ![s.val]) (hh) :
    (cc0_scratch5.slice (Rect.unit (s := S4) off S1.size hh)).squeeze S_ squeezes_S1_S_ = csm s :=
  congrArg (fun A : DmaSems sig S1 => A.squeeze S_ squeezes_S1_S_) (SemArray.slice_unit_congr _ e _ _)
private theorem rslot_congr {off : Fin 3 → Nat} {s : Fin 4} (e : off = ![s.val, 0, 0]) (hh hs) :
    (rawM.slice (Rect.unit (s := S4x512x2048) off S1x512x2048.size hh) hs).squeeze S512x2048 squeezes_S1x512x2048_S512x2048 = rslot s :=
  congrArg (fun M : Memref sig .tc .vmem S1x512x2048 .i8 => M.squeeze S512x2048 squeezes_S1x512x2048_S512x2048) (Memref.slice_unit_congr _ e _ _ _ _)
private theorem grp_congr {off : Fin 2 → Nat} {cc : Fin 3} {b : Fin 48} (e : off = ![512 * b.val, 2048 * cc.val]) (hh hs) :
    dyM.slice (Rect.unit (s := S24576x6144) off S512x2048.size hh) hs = grp cc b :=
  Memref.slice_unit_congr _ e _ _ _ (fun _ => rfl)

theorem slN_val (k : ℕ) : (Ring.sl 4 k).val = k % 4 := rfl

@[sl_canon] theorem semL0 (hh) : (cc0_scratch5.slice (Rect.unit (s := S4) ![0] S1.size hh)).squeeze S_ squeezes_S1_S_ = csm 0 := csm_congr (by decide) _
@[sl_canon] theorem slotL0 (hh hs) : (rawM.slice (Rect.unit (s := S4x512x2048) ![0, 0, 0] S1x512x2048.size hh) hs).squeeze S512x2048 squeezes_S1x512x2048_S512x2048 = rslot 0 := rslot_congr (by decide) _ _
@[sl_canon] theorem grpL0 (i : grid0.Coords) (hh hs) : dyM.slice (Rect.unit (s := S24576x6144) (k0_off1 i) S512x2048.size hh) hs = grp (i 0) 0 := grp_congr (k0_off1_eq i) _ _
@[sl_canon] theorem semL1 (hh) : (cc0_scratch5.slice (Rect.unit (s := S4) ![1] S1.size hh)).squeeze S_ squeezes_S1_S_ = csm 1 := csm_congr (by decide) _
@[sl_canon] theorem slotL1 (hh hs) : (rawM.slice (Rect.unit (s := S4x512x2048) ![1, 0, 0] S1x512x2048.size hh) hs).squeeze S512x2048 squeezes_S1x512x2048_S512x2048 = rslot 1 := rslot_congr (by decide) _ _
@[sl_canon] theorem grpL1 (i : grid0.Coords) (hh hs) : dyM.slice (Rect.unit (s := S24576x6144) (k0_off2 i) S512x2048.size hh) hs = grp (i 0) 1 := grp_congr (k0_off2_eq i) _ _
@[sl_canon] theorem semL2 (hh) : (cc0_scratch5.slice (Rect.unit (s := S4) ![2] S1.size hh)).squeeze S_ squeezes_S1_S_ = csm 2 := csm_congr (by decide) _
@[sl_canon] theorem slotL2 (hh hs) : (rawM.slice (Rect.unit (s := S4x512x2048) ![2, 0, 0] S1x512x2048.size hh) hs).squeeze S512x2048 squeezes_S1x512x2048_S512x2048 = rslot 2 := rslot_congr (by decide) _ _
@[sl_canon] theorem grpL2 (i : grid0.Coords) (hh hs) : dyM.slice (Rect.unit (s := S24576x6144) (k0_off3 i) S512x2048.size hh) hs = grp (i 0) 2 := grp_congr (k0_off3_eq i) _ _
@[sl_canon] theorem semL3 (hh) : (cc0_scratch5.slice (Rect.unit (s := S4) ![3] S1.size hh)).squeeze S_ squeezes_S1_S_ = csm 3 := csm_congr (by decide) _
@[sl_canon] theorem slotL3 (hh hs) : (rawM.slice (Rect.unit (s := S4x512x2048) ![3, 0, 0] S1x512x2048.size hh) hs).squeeze S512x2048 squeezes_S1x512x2048_S512x2048 = rslot 3 := rslot_congr (by decide) _ _
@[sl_canon] theorem grpL3 (i : grid0.Coords) (hh hs) : dyM.slice (Rect.unit (s := S24576x6144) (k0_off4 i) S512x2048.size hh) hs = grp (i 0) 3 := grp_congr (k0_off4_eq i) _ _

@[sl_canon] theorem semK (k : Fin k0_t1_loop.trips) (hh) :
    (cc0_scratch5.slice (Rect.unit (s := S4) (k0_off5 k) S1.size hh)).squeeze S_ squeezes_S1_S_ = csm (Ring.sl 4 k.val) := csm_congr (off5_eq k) _
@[sl_canon] theorem slotK (k : Fin k0_t1_loop.trips) (hh hs) :
    (rawM.slice (Rect.unit (s := S4x512x2048) (k0_off6 k) S1x512x2048.size hh) hs).squeeze S512x2048 squeezes_S1x512x2048_S512x2048 = rslot (Ring.sl 4 k.val) := rslot_congr (off6_eq k) _ _
@[sl_canon] theorem grpK (i : grid0.Coords) (k : Fin k0_t1_loop.trips) (hh hs) :
    dyM.slice (Rect.unit (s := S24576x6144) (k0_off7 i k) S512x2048.size hh) hs = grp (i 0) (Ring.bk 48 k.val) :=
  grp_congr (by rw [k0_off7_eq, Ring.bk_val (show k.val < 48 from k.isLt)]) _ _
@[sl_canon] theorem semI (k : Fin k0_t1_loop.trips) (h2 : k0_cond2 k = 1#1) (hh) :
    (cc0_scratch5.slice (Rect.unit (s := S4) (k0_off25 k) S1.size hh)).squeeze S_ squeezes_S1_S_ = csm (Ring.sl 4 k.val) := csm_congr (off25_eq k h2) _
@[sl_canon] theorem slotI (k : Fin k0_t1_loop.trips) (h2 : k0_cond2 k = 1#1) (hh hs) :
    (rawM.slice (Rect.unit (s := S4x512x2048) (k0_off26 k) S1x512x2048.size hh) hs).squeeze S512x2048 squeezes_S1x512x2048_S512x2048 = rslot (Ring.sl 4 k.val) := rslot_congr (off26_eq k h2) _ _
@[sl_canon] theorem grpI (i : grid0.Coords) (k : Fin k0_t1_loop.trips) (h2 : k0_cond2 k = 1#1) (hh hs) :
    dyM.slice (Rect.unit (s := S24576x6144) (k0_off27 i k) S512x2048.size hh) hs = grp (i 0) (Ring.bk 48 (k.val + 4)) :=
  grp_congr (by rw [k0_off27_eq, Ring.bk_val ((cond2_iff k).mp h2)]; congr 1) _ _

end Cert.KernelIdeal.Run
-- ==== Proof.KI.Tab.lean ====
/-
  What the whole table is, and the lemma that recognises one store of its fill.
-/
module

public import proofs.«01_k».proof.Proof.KI.Tile
public import proofs.«01_k».proof.Proof.KI.Offs

@[expose] public section

set_option maxRecDepth 16384
set_option maxHeartbeats 4000000

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UU nD τ) ℕ

/-! ## The table -/

/-- A 32x128 tile of the codes: tokens `32 g ..`, columns `128 n ..` of the chunk. -/
def byteTile (D : S24576x6144.Idx → Elt F .i8) (cc g n : Nat) : IVec S32x128 8 :=
  fun x => D (ix2 (Fin.ofNat 24576 (32 * g + (x 0).val)) (Fin.ofNat 6144 (2048 * cc + 128 * n + (x 1).val)))
/-- It as words: four tokens to a word. -/
def rawWord (D : S24576x6144.Idx → Elt F .i8) (cc g n : Nat) : IVec S8x128 32 :=
  bitcast S8x128 32 (byteTile D cc g n) bitcasts_S32x128_w8_S8x128_w32
/-- The table of column chunk `cc`: four columns' tiles of one token to a word. -/
def tableOf (D : S24576x6144.Idx → Elt F .i8) (cc : Nat) (y : S98304x128.Idx) : BitVec 32 :=
  bt (F := F) (fun b => rawWord D cc ((y 0).val / 128) (4 * ((y 0).val % 4) + b.val)) (Fin.ofNat 4 ((y 0).val / 32))
    (ix2 (Fin.ofNat 8 ((y 0).val / 4)) (Fin.ofNat 128 (y 1).val))

theorem rslot_read (s : Fin 4) (f : BufTy.Contents (Elt F) rawM.view.ty) (y : S512x2048.Idx) :
    (rslot s).view.read (Elt F) f y = f (ix3 s (Fin.ofNat 512 (y 0).val) (Fin.ofNat 2048 (y 1).val)) := by
  show f ((rslot s).view.emb y) = _
  congr 1
  have h0 : (y 0).val < 512 := (y 0).isLt
  have h1 : (y 1).val < 2048 := (y 1).isLt
  have e : Shape.reshapeEquiv squeezes_S1x512x2048_S512x2048.numel_eq y = (Fin.cons ⟨0, Nat.one_pos⟩ y : S1x512x2048.Idx) := by
    apply Shape.reshapeEquiv_eq_of_rowMajor
    show (Shape.rowMajorPi (Matrix.vecCons 1 ![512, 2048]) (Fin.cons ⟨0, Nat.one_pos⟩ y)).val = (Shape.rowMajorPi ![512, 2048] y).val
    rw [Shape.rowMajorPi_succ_val]
    show 0 * _ + (Shape.rowMajorPi ![512, 2048] y).val = (Shape.rowMajorPi ![512, 2048] y).val
    simp
  show (Rect.unit (s := S4x512x2048) ![s.val, 0, 0] S1x512x2048.size (slotOff_inb s)).emb (Shape.reshapeEquiv squeezes_S1x512x2048_S512x2048.numel_eq y) = _
  rw [e]
  funext a
  match a with
  | ⟨0, _⟩ => exact Fin.ext (by show s.val + 1 * 0 = s.val; omega)
  | ⟨1, _⟩ => exact Fin.ext (by show 0 + 1 * (y 0).val = (y 0).val % 512; omega)
  | ⟨2, _⟩ => exact Fin.ext (by show 0 + 1 * (y 1).val = (y 1).val % 2048; omega)

/-- Slot `k1 % 4` holds block `k1` of the column chunk. -/
def Holds (X12 : BufTy.Contents (Elt F) rawM.view.ty) (D : S24576x6144.Idx → Elt F .i8) (cc : Nat) (k1 : Nat) : Prop :=
  ∀ y : S512x2048.Idx, (rslot (Ring.sl 4 k1)).view.read (Elt F) X12 y = D (ix2 (Fin.ofNat 24576 (512 * k1 + (y 0).val)) (Fin.ofNat 6144 (2048 * cc + (y 1).val)))

theorem rawtile (k1 k2 n : Nat) (hk1 : k1 < 48) (hk2 : k2 < 16) (hn : n < 16) (X12 : BufTy.Contents (Elt F) rawM.view.ty) (D : S24576x6144.Idx → Elt F .i8) (cc : Nat)
    (h12 : Holds X12 D cc k1) (x : S32x128.Idx) :
    X12 (ix3 (Fin.ofNat 4 k1) (Fin.ofNat 512 (32 * k2 + (x 0).val)) (Fin.ofNat 2048 (128 * n + (x 1).val))) = byteTile D cc (16 * k1 + k2) n x := by
  have hx0 : (x 0).val < 32 := (x 0).isLt
  have hx1 : (x 1).val < 128 := (x 1).isLt
  have h := h12 (ix2 (Fin.ofNat 512 (32 * k2 + (x 0).val)) (Fin.ofNat 2048 (128 * n + (x 1).val)))
  rw [rslot_read] at h
  have e0 : (512 * k1 + ((32 * k2 + (x 0).val) % 512)) = 32 * (16 * k1 + k2) + (x 0).val := by omega
  have e1 : (2048 * cc + ((128 * n + (x 1).val) % 2048)) = 2048 * cc + 128 * n + (x 1).val := by omega
  have f0 : ((32 * k2 + (x 0).val) % 512) = (32 * k2 + (x 0).val) := by omega
  have f1 : ((128 * n + (x 1).val) % 2048) = (128 * n + (x 1).val) := by omega
  change X12 (ix3 (Ring.sl 4 k1) (Fin.ofNat 512 ((32 * k2 + (x 0).val) % 512)) (Fin.ofNat 2048 ((128 * n + (x 1).val) % 2048)))
    = D (ix2 (Fin.ofNat 24576 (512 * k1 + ((32 * k2 + (x 0).val) % 512))) (Fin.ofNat 6144 (2048 * cc + ((128 * n + (x 1).val) % 2048)))) at h
  rw [e0, e1, f0, f1] at h
  exact h

theorem rawload (k1 : Fin k0_t1_loop.trips) (k2 : Fin k0_t2_loop.trips) (X12 : BufTy.Contents (Elt F) rawM.view.ty) (D : S24576x6144.Idx → Elt F .i8) (cc : Fin 3)
    (h12 : Holds X12 D cc.val k1.val) (n : Nat) (off : Fin 3 → Nat) (hoff : off = ![k1.val % 4, 32 * k2.val, 128 * n])
    (hr : ∀ a, off a + S1x32x128.size a ≤ S4x512x2048.size a) :
    k0_pay3 (F := F) (View.readAt (Elt F) rawM.view (Rect.unit (s := S4x512x2048) off S1x32x128.size hr).toLoadRect X12) = rawWord D cc.val (16 * k1.val + k2.val) n := by
  subst hoff
  have hk1 : k1.val < 48 := k1.isLt
  have hk2 : k2.val < 16 := k2.isLt
  have hn : 128 * n + 128 ≤ 2048 := hr 2
  have key : ∀ x : S32x128.Idx, shapeCast S32x128 (View.readAt (Elt F) rawM.view (Rect.unit (s := S4x512x2048) ![k1.val % 4, 32 * k2.val, 128 * n] S1x32x128.size hr).toLoadRect X12) shapeCasts_S1x32x128_S32x128 x
      = byteTile D cc.val (16 * k1.val + k2.val) n x := by
    intro x
    have hx0 : (x 0).val < 32 := (x 0).isLt
    have hx1 : (x 1).val < 128 := (x 1).isLt
    refine Eq.trans ?_ (rawtile k1.val k2.val n hk1 hk2 (by omega) X12 D cc.val h12 x)
    refine (shapeCast_dropUnit_apply ![32, 128] _ _ x).trans ?_
    refine congrArg X12 ?_
    funext a
    match a with
    | ⟨0, _⟩ => exact Fin.ext (by show k1.val % 4 + 1 * 0 = k1.val % 4; omega)
    | ⟨1, _⟩ => exact Fin.ext (by show 32 * k2.val + 1 * (x 0).val = (32 * k2.val + (x 0).val) % 512; omega)
    | ⟨2, _⟩ => exact Fin.ext (by show 128 * n + 1 * (x 1).val = (128 * n + (x 1).val) % 2048; omega)
  unfold k0_pay3 rawWord
  rw [show shapeCast S32x128 (View.readAt (Elt F) rawM.view (Rect.unit (s := S4x512x2048) ![k1.val % 4, 32 * k2.val, 128 * n] S1x32x128.size hr).toLoadRect X12) shapeCasts_S1x32x128_S32x128 = byteTile D cc.val (16 * k1.val + k2.val) n from funext key]

/-- The words of a tile loaded from a slot; four of them. -/
abbrev loadW (X12 : BufTy.Contents (Elt F) rawM.view.ty) (off : Fin 3 → Nat) (hr : ∀ a, off a + S1x32x128.size a ≤ S4x512x2048.size a) : IVec S8x128 32 :=
  k0_pay3 (F := F) (View.readAt (Elt F) rawM.view (Rect.unit (s := S4x512x2048) off S1x32x128.size hr).toLoadRect X12)
def four (a b c d : IVec S8x128 32) (n : Fin 4) : IVec S8x128 32 :=
  match n with | 0 => a | 1 => b | 2 => c | 3 => d

/-- One store of the trip. -/
theorem tpiece (D : S24576x6144.Idx → Elt F .i8) (cc : Nat) (k1 : Fin k0_t1_loop.trips) (k2 : Fin k0_t2_loop.trips) (r1 r2 : Fin 4) (j : Nat) (hj : j = r2.val)
    (off : Fin 2 → Nat) (hoff : off = ![2048 * k1.val + 128 * k2.val + 32 * r1.val + r2.val, 0])
    (hr : ∀ a, S8x128.size a = 0 ∨ off a + ![4, 1] a * (S8x128.size a - 1) < S98304x128.size a)
    (w : S8x128.Idx → BitVec 32) (w0 w1 w2 w3 : IVec S8x128 32) (hw : w = bt (F := F) (four w0 w1 w2 w3) r1)
    (h0 : w0 = rawWord D cc (16 * k1.val + k2.val) (4 * j + 0)) (h1 : w1 = rawWord D cc (16 * k1.val + k2.val) (4 * j + 1))
    (h2 : w2 = rawWord D cc (16 * k1.val + k2.val) (4 * j + 2)) (h3 : w3 = rawWord D cc (16 * k1.val + k2.val) (4 * j + 3)) :
    ∀ x : (⟨off, S8x128.size, ![4, 1], hr⟩ : LoadRect S98304x128).shape.Idx, w x = tableOf D cc ((⟨off, S8x128.size, ![4, 1], hr⟩ : LoadRect S98304x128).idx x) := by
  intro x
  subst hw hoff hj
  rw [show four w0 w1 w2 w3 = fun b : Fin 4 => rawWord D cc (16 * k1.val + k2.val) (4 * r2.val + b.val) from
    funext fun b => match b with | 0 => h0 | 1 => h1 | 2 => h2 | 3 => h3]
  clear h0 h1 h2 h3
  have hk2 : k2.val < 16 := k2.isLt
  have hx0 : (x 0).val < 8 := (x 0).isLt
  have hx1 : (x 1).val < 128 := (x 1).isLt
  have h1 := r1.isLt; have h2 := r2.isLt
  unfold tableOf
  have e0 : (((⟨![2048 * k1.val + 128 * k2.val + 32 * r1.val + r2.val, 0], S8x128.size, ![4, 1], hr⟩ : LoadRect S98304x128).idx x) 0).val = 2048 * k1.val + 128 * k2.val + 32 * r1.val + r2.val + 4 * (x 0).val := rfl
  have e1 : (((⟨![2048 * k1.val + 128 * k2.val + 32 * r1.val + r2.val, 0], S8x128.size, ![4, 1], hr⟩ : LoadRect S98304x128).idx x) 1).val = 0 + 1 * (x 1).val := rfl
  rw [e0, e1]
  rw [show (2048 * k1.val + 128 * k2.val + 32 * r1.val + r2.val + 4 * (x 0).val) / 128 = 16 * k1.val + k2.val by omega,
    show (2048 * k1.val + 128 * k2.val + 32 * r1.val + r2.val + 4 * (x 0).val) % 4 = r2.val by omega,
    show Fin.ofNat 4 ((2048 * k1.val + 128 * k2.val + 32 * r1.val + r2.val + 4 * (x 0).val) / 32) = r1 from Fin.ext (by show _ % 4 = _; omega)]
  congr 1
  funext a
  match a with
  | ⟨0, _⟩ => exact Fin.ext (by show (x 0).val = ((2048 * k1.val + 128 * k2.val + 32 * r1.val + r2.val + 4 * (x 0).val) / 4) % 8; omega)
  | ⟨1, _⟩ => exact Fin.ext (by show (x 1).val = (0 + 1 * (x 1).val) % 128; omega)

end Cert.KernelIdeal.Run
-- ==== Proof.KI.Trip2.lean ====
/-
  One trip of the table's fill: 32 tokens of one column chunk, transposed into words and stored.
-/
module

public import proofs.«01_k».proof.Proof.KI.Trip3
public import proofs.«01_k».proof.Proof.KI.Tab

@[expose] public section

set_option maxRecDepth 16384
set_option maxHeartbeats 4000000

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UU nD τ) ℕ

def tabLabels : List (Fin 4 × Fin 4) :=
  [(3, 3), (2, 3), (1, 3), (0, 3), (3, 2), (2, 2), (1, 2), (0, 2), (3, 1), (2, 1), (1, 1), (0, 1), (3, 0), (2, 0), (1, 0), (0, 0)]
theorem tabLabels_mem : ∀ p : Fin 4 × Fin 4, p ∈ tabLabels := by decide

section Trip2
variable (c : Dev nD) (i : grid0.Coords)
  (arg3 : Memref sig .tc .vmem S1x384x2048 .fp8e4m3) (harg3 : arg3.IsWhole) (arg4 : Memref sig .tc .vmem S1x3x128 .f32) (harg4 : arg4.IsWhole)
  (arg5 : Memref sig .tc .smem S1x1x384 .i32) (harg5 : arg5.IsWhole) (arg6 : Memref sig .tc .smem S1x128 .f32) (harg6 : arg6.IsWhole)
  (arg7 : Memref sig .tc .vmem S1x3x128 .f32) (harg7 : arg7.IsWhole) (arg8 : Memref sig .tc .vmem S1x384x2048 .fp8e5m2) (harg8 : arg8.IsWhole)
  (arg9 : Memref sig .tc .vmem S3x128x128 .f32) (harg9 : arg9.IsWhole) (arg10 : Memref sig .tc .vmem S1x128 .f32) (harg10 : arg10.IsWhole)
  (arg11 : Memref sig .tc .vmem S98304x128 .i32) (harg11 : arg11.IsWhole) (arg13 : Memref sig .tc .vmem S512x128 .i32) (harg13 : arg13.IsWhole)
  (arg14 : Memref sig .tc .vmem S384x1x128 .f32) (harg14 : arg14.IsWhole) (arg15 : Memref sig .tc .vmem S128x8x128 .f32) (harg15 : arg15.IsWhole)
  (h1 : k0_cond1 i = 1#1)

abbrev slotP (s : Fin 4) (f : Buf (Elt F) ((rslot s).view.loc (c : Thread nD τ))) : sProp 𝕄 :=
  (rslot s).view.loc (c : Thread nD τ) ↦[(rslot s).view.set]{fullShare} f

abbrev trip2G (v41 : BitVec 32) (k1 : Fin k0_t1_loop.trips) (k2 : Fin k0_t2_loop.trips) : Prog (TpuEff nD τ sig (Elt F) Λ₀ .tc) Unit :=
  k0_t2_body (F := F) i dyM (Memref.isWhole_whole _) arg3 harg3 arg4 harg4 arg5 harg5 arg6 harg6 arg7 harg7 arg8 harg8 arg9 harg9 arg10 harg10 arg11 harg11 rawM (Memref.isWhole_whole _) arg13 harg13 arg14 harg14 arg15 harg15 cc0_scratch5 (BitVec.ofNat 32 (i 0).val) h1 0#32 1#32 k1 v41 k2 ()

/-- The rows below `n` are the table's. -/
def Filled (arg11 : Memref sig .tc .vmem S98304x128 .i32) (D : S24576x6144.Idx → Elt F .i8) (cc n : Nat) (g : BufTy.Contents (Elt F) arg11.view.ty) : Prop :=
  ∀ y : S98304x128.Idx, (y 0).val < n → arg11.view.read (Elt F) g y = tableOf D cc y

set_option maxHeartbeats 16000000 in
theorem trip2 (v41 : BitVec 32) (k1 : Fin k0_t1_loop.trips) (k2 : Fin k0_t2_loop.trips) (X12 : BufTy.Contents (Elt F) rawM.view.ty) (D : S24576x6144.Idx → Elt F .i8)
    (h12 : Holds X12 D (i 0).val k1.val) (f11 : Buf (Elt F) (arg11.view.loc (c : Thread nD τ)))
    (hf : Filled arg11 D (i 0).val (2048 * k1.val + 128 * k2.val) f11) :
      iprop((arg11.view.loc (c : Thread nD τ) ↦[arg11.view.set]{fullShare} f11) ∗ slotP c (Ring.sl 4 k1.val) X12)
      ⊢ (wp frame (wpE (defs₀ (F := F)) 𝒱₀ (c : Thread nD τ) none) Set.univ (trip2G i arg3 harg3 arg4 harg4 arg5 harg5 arg6 harg6 arg7 harg7 arg8 harg8 arg9 harg9 arg10 harg10 arg11 harg11 arg13 harg13 arg14 harg14 arg15 harg15 h1 v41 k1 k2)
        (fun _ => iprop(∃ g, ⌜Filled arg11 D (i 0).val (2048 * k1.val + 128 * (k2.val + 1)) g⌝
          ∗ (arg11.view.loc (c : Thread nD τ) ↦[arg11.view.set]{fullShare} g) ∗ slotP c (Ring.sl 4 k1.val) X12)) : sProp 𝕄) := by
  have hk1 : k1.val < 48 := k1.isLt
  have hk2 : k2.val < 16 := k2.isLt
  dsimp only [trip2G]
  unfold k0_t2_body
  iintro ⟨HW_arg11, HS⟩
  sl_exec
  sl_step
  ihave HW' := abs_pt $$ HW_arg11
  icases HW' with ⟨%g, %hg, HW_arg11⟩
  iexists g
  isplitr
  · ipureintro
    have hst := (laid_use (Val := Elt F) (v := arg11.view) (f := f11) (f' := g) (G := tableOf D (i 0).val) (off := fun p : Fin 4 × Fin 4 => ![2048 * k1.val + 128 * k2.val + 32 * p.1.val + p.2.val, 0]) (size := S8x128.size) (stride := ![4, 1]) (is := tabLabels) hg (by
    exact
      ⟨⟨k0_off12_eq k1 k2 3 3, rfl, rfl, tpiece D (i 0).val k1 k2 3 3 3 rfl _ (k0_off12_eq k1 k2 3 3) (k0_off12_inb i k1 k2 h1 3 3) _ (loadW X12 (k0_off21 k1 k2) (k0_off21_inb i k1 k2 h1)) (loadW X12 (k0_off22 k1 k2) (k0_off22_inb i k1 k2 h1)) (loadW X12 (k0_off23 k1 k2) (k0_off23_inb i k1 k2 h1)) (loadW X12 (k0_off24 k1 k2) (k0_off24_inb i k1 k2 h1)) (by dsimp only; unfold k0_pay69; (try dsimp only); rw [shapeCast_self]; rfl) (rawload k1 k2 X12 D (i 0) h12 (4 * 3 + 0) (k0_off21 k1 k2) (off21_eq k1 k2) (k0_off21_inb i k1 k2 h1)) (rawload k1 k2 X12 D (i 0) h12 (4 * 3 + 1) (k0_off22 k1 k2) (off22_eq k1 k2) (k0_off22_inb i k1 k2 h1)) (rawload k1 k2 X12 D (i 0) h12 (4 * 3 + 2) (k0_off23 k1 k2) (off23_eq k1 k2) (k0_off23_inb i k1 k2 h1)) (rawload k1 k2 X12 D (i 0) h12 (4 * 3 + 3) (k0_off24 k1 k2) (off24_eq k1 k2) (k0_off24_inb i k1 k2 h1))⟩,
      ⟨⟨k0_off12_eq k1 k2 2 3, rfl, rfl, tpiece D (i 0).val k1 k2 2 3 3 rfl _ (k0_off12_eq k1 k2 2 3) (k0_off12_inb i k1 k2 h1 2 3) _ (loadW X12 (k0_off21 k1 k2) (k0_off21_inb i k1 k2 h1)) (loadW X12 (k0_off22 k1 k2) (k0_off22_inb i k1 k2 h1)) (loadW X12 (k0_off23 k1 k2) (k0_off23_inb i k1 k2 h1)) (loadW X12 (k0_off24 k1 k2) (k0_off24_inb i k1 k2 h1)) (by dsimp only; unfold trip2.sl.v662; (try dsimp only); rw [shapeCast_self]; rfl) (rawload k1 k2 X12 D (i 0) h12 (4 * 3 + 0) (k0_off21 k1 k2) (off21_eq k1 k2) (k0_off21_inb i k1 k2 h1)) (rawload k1 k2 X12 D (i 0) h12 (4 * 3 + 1) (k0_off22 k1 k2) (off22_eq k1 k2) (k0_off22_inb i k1 k2 h1)) (rawload k1 k2 X12 D (i 0) h12 (4 * 3 + 2) (k0_off23 k1 k2) (off23_eq k1 k2) (k0_off23_inb i k1 k2 h1)) (rawload k1 k2 X12 D (i 0) h12 (4 * 3 + 3) (k0_off24 k1 k2) (off24_eq k1 k2) (k0_off24_inb i k1 k2 h1))⟩,
      ⟨⟨k0_off12_eq k1 k2 1 3, rfl, rfl, tpiece D (i 0).val k1 k2 1 3 3 rfl _ (k0_off12_eq k1 k2 1 3) (k0_off12_inb i k1 k2 h1 1 3) _ (loadW X12 (k0_off21 k1 k2) (k0_off21_inb i k1 k2 h1)) (loadW X12 (k0_off22 k1 k2) (k0_off22_inb i k1 k2 h1)) (loadW X12 (k0_off23 k1 k2) (k0_off23_inb i k1 k2 h1)) (loadW X12 (k0_off24 k1 k2) (k0_off24_inb i k1 k2 h1)) (by dsimp only; unfold trip2.sl.v656; (try dsimp only); rw [shapeCast_self]; rfl) (rawload k1 k2 X12 D (i 0) h12 (4 * 3 + 0) (k0_off21 k1 k2) (off21_eq k1 k2) (k0_off21_inb i k1 k2 h1)) (rawload k1 k2 X12 D (i 0) h12 (4 * 3 + 1) (k0_off22 k1 k2) (off22_eq k1 k2) (k0_off22_inb i k1 k2 h1)) (rawload k1 k2 X12 D (i 0) h12 (4 * 3 + 2) (k0_off23 k1 k2) (off23_eq k1 k2) (k0_off23_inb i k1 k2 h1)) (rawload k1 k2 X12 D (i 0) h12 (4 * 3 + 3) (k0_off24 k1 k2) (off24_eq k1 k2) (k0_off24_inb i k1 k2 h1))⟩,
      ⟨⟨k0_off12_eq k1 k2 0 3, rfl, rfl, tpiece D (i 0).val k1 k2 0 3 3 rfl _ (k0_off12_eq k1 k2 0 3) (k0_off12_inb i k1 k2 h1 0 3) _ (loadW X12 (k0_off21 k1 k2) (k0_off21_inb i k1 k2 h1)) (loadW X12 (k0_off22 k1 k2) (k0_off22_inb i k1 k2 h1)) (loadW X12 (k0_off23 k1 k2) (k0_off23_inb i k1 k2 h1)) (loadW X12 (k0_off24 k1 k2) (k0_off24_inb i k1 k2 h1)) (by dsimp only; unfold trip2.sl.v650; (try dsimp only); rw [shapeCast_self]; rfl) (rawload k1 k2 X12 D (i 0) h12 (4 * 3 + 0) (k0_off21 k1 k2) (off21_eq k1 k2) (k0_off21_inb i k1 k2 h1)) (rawload k1 k2 X12 D (i 0) h12 (4 * 3 + 1) (k0_off22 k1 k2) (off22_eq k1 k2) (k0_off22_inb i k1 k2 h1)) (rawload k1 k2 X12 D (i 0) h12 (4 * 3 + 2) (k0_off23 k1 k2) (off23_eq k1 k2) (k0_off23_inb i k1 k2 h1)) (rawload k1 k2 X12 D (i 0) h12 (4 * 3 + 3) (k0_off24 k1 k2) (off24_eq k1 k2) (k0_off24_inb i k1 k2 h1))⟩,
      ⟨⟨k0_off12_eq k1 k2 3 2, rfl, rfl, tpiece D (i 0).val k1 k2 3 2 2 rfl _ (k0_off12_eq k1 k2 3 2) (k0_off12_inb i k1 k2 h1 3 2) _ (loadW X12 (k0_off17 k1 k2) (k0_off17_inb i k1 k2 h1)) (loadW X12 (k0_off18 k1 k2) (k0_off18_inb i k1 k2 h1)) (loadW X12 (k0_off19 k1 k2) (k0_off19_inb i k1 k2 h1)) (loadW X12 (k0_off20 k1 k2) (k0_off20_inb i k1 k2 h1)) (by dsimp only; unfold trip2.sl.v520; (try dsimp only); rw [shapeCast_self]; rfl) (rawload k1 k2 X12 D (i 0) h12 (4 * 2 + 0) (k0_off17 k1 k2) (off17_eq k1 k2) (k0_off17_inb i k1 k2 h1)) (rawload k1 k2 X12 D (i 0) h12 (4 * 2 + 1) (k0_off18 k1 k2) (off18_eq k1 k2) (k0_off18_inb i k1 k2 h1)) (rawload k1 k2 X12 D (i 0) h12 (4 * 2 + 2) (k0_off19 k1 k2) (off19_eq k1 k2) (k0_off19_inb i k1 k2 h1)) (rawload k1 k2 X12 D (i 0) h12 (4 * 2 + 3) (k0_off20 k1 k2) (off20_eq k1 k2) (k0_off20_inb i k1 k2 h1))⟩,
      ⟨⟨k0_off12_eq k1 k2 2 2, rfl, rfl, tpiece D (i 0).val k1 k2 2 2 2 rfl _ (k0_off12_eq k1 k2 2 2) (k0_off12_inb i k1 k2 h1 2 2) _ (loadW X12 (k0_off17 k1 k2) (k0_off17_inb i k1 k2 h1)) (loadW X12 (k0_off18 k1 k2) (k0_off18_inb i k1 k2 h1)) (loadW X12 (k0_off19 k1 k2) (k0_off19_inb i k1 k2 h1)) (loadW X12 (k0_off20 k1 k2) (k0_off20_inb i k1 k2 h1)) (by dsimp only; unfold trip2.sl.v514; (try dsimp only); rw [shapeCast_self]; rfl) (rawload k1 k2 X12 D (i 0) h12 (4 * 2 + 0) (k0_off17 k1 k2) (off17_eq k1 k2) (k0_off17_inb i k1 k2 h1)) (rawload k1 k2 X12 D (i 0) h12 (4 * 2 + 1) (k0_off18 k1 k2) (off18_eq k1 k2) (k0_off18_inb i k1 k2 h1)) (rawload k1 k2 X12 D (i 0) h12 (4 * 2 + 2) (k0_off19 k1 k2) (off19_eq k1 k2) (k0_off19_inb i k1 k2 h1)) (rawload k1 k2 X12 D (i 0) h12 (4 * 2 + 3) (k0_off20 k1 k2) (off20_eq k1 k2) (k0_off20_inb i k1 k2 h1))⟩,
      ⟨⟨k0_off12_eq k1 k2 1 2, rfl, rfl, tpiece D (i 0).val k1 k2 1 2 2 rfl _ (k0_off12_eq k1 k2 1 2) (k0_off12_inb i k1 k2 h1 1 2) _ (loadW X12 (k0_off17 k1 k2) (k0_off17_inb i k1 k2 h1)) (loadW X12 (k0_off18 k1 k2) (k0_off18_inb i k1 k2 h1)) (loadW X12 (k0_off19 k1 k2) (k0_off19_inb i k1 k2 h1)) (loadW X12 (k0_off20 k1 k2) (k0_off20_inb i k1 k2 h1)) (by dsimp only; unfold trip2.sl.v508; (try dsimp only); rw [shapeCast_self]; rfl) (rawload k1 k2 X12 D (i 0) h12 (4 * 2 + 0) (k0_off17 k1 k2) (off17_eq k1 k2) (k0_off17_inb i k1 k2 h1)) (rawload k1 k2 X12 D (i 0) h12 (4 * 2 + 1) (k0_off18 k1 k2) (off18_eq k1 k2) (k0_off18_inb i k1 k2 h1)) (rawload k1 k2 X12 D (i 0) h12 (4 * 2 + 2) (k0_off19 k1 k2) (off19_eq k1 k2) (k0_off19_inb i k1 k2 h1)) (rawload k1 k2 X12 D (i 0) h12 (4 * 2 + 3) (k0_off20 k1 k2) (off20_eq k1 k2) (k0_off20_inb i k1 k2 h1))⟩,
      ⟨⟨k0_off12_eq k1 k2 0 2, rfl, rfl, tpiece D (i 0).val k1 k2 0 2 2 rfl _ (k0_off12_eq k1 k2 0 2) (k0_off12_inb i k1 k2 h1 0 2) _ (loadW X12 (k0_off17 k1 k2) (k0_off17_inb i k1 k2 h1)) (loadW X12 (k0_off18 k1 k2) (k0_off18_inb i k1 k2 h1)) (loadW X12 (k0_off19 k1 k2) (k0_off19_inb i k1 k2 h1)) (loadW X12 (k0_off20 k1 k2) (k0_off20_inb i k1 k2 h1)) (by dsimp only; unfold trip2.sl.v502; (try dsimp only); rw [shapeCast_self]; rfl) (rawload k1 k2 X12 D (i 0) h12 (4 * 2 + 0) (k0_off17 k1 k2) (off17_eq k1 k2) (k0_off17_inb i k1 k2 h1)) (rawload k1 k2 X12 D (i 0) h12 (4 * 2 + 1) (k0_off18 k1 k2) (off18_eq k1 k2) (k0_off18_inb i k1 k2 h1)) (rawload k1 k2 X12 D (i 0) h12 (4 * 2 + 2) (k0_off19 k1 k2) (off19_eq k1 k2) (k0_off19_inb i k1 k2 h1)) (rawload k1 k2 X12 D (i 0) h12 (4 * 2 + 3) (k0_off20 k1 k2) (off20_eq k1 k2) (k0_off20_inb i k1 k2 h1))⟩,
      ⟨⟨k0_off12_eq k1 k2 3 1, rfl, rfl, tpiece D (i 0).val k1 k2 3 1 1 rfl _ (k0_off12_eq k1 k2 3 1) (k0_off12_inb i k1 k2 h1 3 1) _ (loadW X12 (k0_off13 k1 k2) (k0_off13_inb i k1 k2 h1)) (loadW X12 (k0_off14 k1 k2) (k0_off14_inb i k1 k2 h1)) (loadW X12 (k0_off15 k1 k2) (k0_off15_inb i k1 k2 h1)) (loadW X12 (k0_off16 k1 k2) (k0_off16_inb i k1 k2 h1)) (by dsimp only; unfold trip2.sl.v372; (try dsimp only); rw [shapeCast_self]; rfl) (rawload k1 k2 X12 D (i 0) h12 (4 * 1 + 0) (k0_off13 k1 k2) (off13_eq k1 k2) (k0_off13_inb i k1 k2 h1)) (rawload k1 k2 X12 D (i 0) h12 (4 * 1 + 1) (k0_off14 k1 k2) (off14_eq k1 k2) (k0_off14_inb i k1 k2 h1)) (rawload k1 k2 X12 D (i 0) h12 (4 * 1 + 2) (k0_off15 k1 k2) (off15_eq k1 k2) (k0_off15_inb i k1 k2 h1)) (rawload k1 k2 X12 D (i 0) h12 (4 * 1 + 3) (k0_off16 k1 k2) (off16_eq k1 k2) (k0_off16_inb i k1 k2 h1))⟩,
      ⟨⟨k0_off12_eq k1 k2 2 1, rfl, rfl, tpiece D (i 0).val k1 k2 2 1 1 rfl _ (k0_off12_eq k1 k2 2 1) (k0_off12_inb i k1 k2 h1 2 1) _ (loadW X12 (k0_off13 k1 k2) (k0_off13_inb i k1 k2 h1)) (loadW X12 (k0_off14 k1 k2) (k0_off14_inb i k1 k2 h1)) (loadW X12 (k0_off15 k1 k2) (k0_off15_inb i k1 k2 h1)) (loadW X12 (k0_off16 k1 k2) (k0_off16_inb i k1 k2 h1)) (by dsimp only; unfold trip2.sl.v366; (try dsimp only); rw [shapeCast_self]; rfl) (rawload k1 k2 X12 D (i 0) h12 (4 * 1 + 0) (k0_off13 k1 k2) (off13_eq k1 k2) (k0_off13_inb i k1 k2 h1)) (rawload k1 k2 X12 D (i 0) h12 (4 * 1 + 1) (k0_off14 k1 k2) (off14_eq k1 k2) (k0_off14_inb i k1 k2 h1)) (rawload k1 k2 X12 D (i 0) h12 (4 * 1 + 2) (k0_off15 k1 k2) (off15_eq k1 k2) (k0_off15_inb i k1 k2 h1)) (rawload k1 k2 X12 D (i 0) h12 (4 * 1 + 3) (k0_off16 k1 k2) (off16_eq k1 k2) (k0_off16_inb i k1 k2 h1))⟩,
      ⟨⟨k0_off12_eq k1 k2 1 1, rfl, rfl, tpiece D (i 0).val k1 k2 1 1 1 rfl _ (k0_off12_eq k1 k2 1 1) (k0_off12_inb i k1 k2 h1 1 1) _ (loadW X12 (k0_off13 k1 k2) (k0_off13_inb i k1 k2 h1)) (loadW X12 (k0_off14 k1 k2) (k0_off14_inb i k1 k2 h1)) (loadW X12 (k0_off15 k1 k2) (k0_off15_inb i k1 k2 h1)) (loadW X12 (k0_off16 k1 k2) (k0_off16_inb i k1 k2 h1)) (by dsimp only; unfold trip2.sl.v360; (try dsimp only); rw [shapeCast_self]; rfl) (rawload k1 k2 X12 D (i 0) h12 (4 * 1 + 0) (k0_off13 k1 k2) (off13_eq k1 k2) (k0_off13_inb i k1 k2 h1)) (rawload k1 k2 X12 D (i 0) h12 (4 * 1 + 1) (k0_off14 k1 k2) (off14_eq k1 k2) (k0_off14_inb i k1 k2 h1)) (rawload k1 k2 X12 D (i 0) h12 (4 * 1 + 2) (k0_off15 k1 k2) (off15_eq k1 k2) (k0_off15_inb i k1 k2 h1)) (rawload k1 k2 X12 D (i 0) h12 (4 * 1 + 3) (k0_off16 k1 k2) (off16_eq k1 k2) (k0_off16_inb i k1 k2 h1))⟩,
      ⟨⟨k0_off12_eq k1 k2 0 1, rfl, rfl, tpiece D (i 0).val k1 k2 0 1 1 rfl _ (k0_off12_eq k1 k2 0 1) (k0_off12_inb i k1 k2 h1 0 1) _ (loadW X12 (k0_off13 k1 k2) (k0_off13_inb i k1 k2 h1)) (loadW X12 (k0_off14 k1 k2) (k0_off14_inb i k1 k2 h1)) (loadW X12 (k0_off15 k1 k2) (k0_off15_inb i k1 k2 h1)) (loadW X12 (k0_off16 k1 k2) (k0_off16_inb i k1 k2 h1)) (by dsimp only; unfold trip2.sl.v354; (try dsimp only); rw [shapeCast_self]; rfl) (rawload k1 k2 X12 D (i 0) h12 (4 * 1 + 0) (k0_off13 k1 k2) (off13_eq k1 k2) (k0_off13_inb i k1 k2 h1)) (rawload k1 k2 X12 D (i 0) h12 (4 * 1 + 1) (k0_off14 k1 k2) (off14_eq k1 k2) (k0_off14_inb i k1 k2 h1)) (rawload k1 k2 X12 D (i 0) h12 (4 * 1 + 2) (k0_off15 k1 k2) (off15_eq k1 k2) (k0_off15_inb i k1 k2 h1)) (rawload k1 k2 X12 D (i 0) h12 (4 * 1 + 3) (k0_off16 k1 k2) (off16_eq k1 k2) (k0_off16_inb i k1 k2 h1))⟩,
      ⟨⟨k0_off12_eq k1 k2 3 0, rfl, rfl, tpiece D (i 0).val k1 k2 3 0 0 rfl _ (k0_off12_eq k1 k2 3 0) (k0_off12_inb i k1 k2 h1 3 0) _ (loadW X12 (k0_off8 k1 k2) (k0_off8_inb i k1 k2 h1)) (loadW X12 (k0_off9 k1 k2) (k0_off9_inb i k1 k2 h1)) (loadW X12 (k0_off10 k1 k2) (k0_off10_inb i k1 k2 h1)) (loadW X12 (k0_off11 k1 k2) (k0_off11_inb i k1 k2 h1)) (by dsimp only; unfold trip2.sl.v224; (try dsimp only); rw [shapeCast_self]; rfl) (rawload k1 k2 X12 D (i 0) h12 (4 * 0 + 0) (k0_off8 k1 k2) (off8_eq k1 k2) (k0_off8_inb i k1 k2 h1)) (rawload k1 k2 X12 D (i 0) h12 (4 * 0 + 1) (k0_off9 k1 k2) (off9_eq k1 k2) (k0_off9_inb i k1 k2 h1)) (rawload k1 k2 X12 D (i 0) h12 (4 * 0 + 2) (k0_off10 k1 k2) (off10_eq k1 k2) (k0_off10_inb i k1 k2 h1)) (rawload k1 k2 X12 D (i 0) h12 (4 * 0 + 3) (k0_off11 k1 k2) (off11_eq k1 k2) (k0_off11_inb i k1 k2 h1))⟩,
      ⟨⟨k0_off12_eq k1 k2 2 0, rfl, rfl, tpiece D (i 0).val k1 k2 2 0 0 rfl _ (k0_off12_eq k1 k2 2 0) (k0_off12_inb i k1 k2 h1 2 0) _ (loadW X12 (k0_off8 k1 k2) (k0_off8_inb i k1 k2 h1)) (loadW X12 (k0_off9 k1 k2) (k0_off9_inb i k1 k2 h1)) (loadW X12 (k0_off10 k1 k2) (k0_off10_inb i k1 k2 h1)) (loadW X12 (k0_off11 k1 k2) (k0_off11_inb i k1 k2 h1)) (by dsimp only; unfold trip2.sl.v218; (try dsimp only); rw [shapeCast_self]; rfl) (rawload k1 k2 X12 D (i 0) h12 (4 * 0 + 0) (k0_off8 k1 k2) (off8_eq k1 k2) (k0_off8_inb i k1 k2 h1)) (rawload k1 k2 X12 D (i 0) h12 (4 * 0 + 1) (k0_off9 k1 k2) (off9_eq k1 k2) (k0_off9_inb i k1 k2 h1)) (rawload k1 k2 X12 D (i 0) h12 (4 * 0 + 2) (k0_off10 k1 k2) (off10_eq k1 k2) (k0_off10_inb i k1 k2 h1)) (rawload k1 k2 X12 D (i 0) h12 (4 * 0 + 3) (k0_off11 k1 k2) (off11_eq k1 k2) (k0_off11_inb i k1 k2 h1))⟩,
      ⟨⟨k0_off12_eq k1 k2 1 0, rfl, rfl, tpiece D (i 0).val k1 k2 1 0 0 rfl _ (k0_off12_eq k1 k2 1 0) (k0_off12_inb i k1 k2 h1 1 0) _ (loadW X12 (k0_off8 k1 k2) (k0_off8_inb i k1 k2 h1)) (loadW X12 (k0_off9 k1 k2) (k0_off9_inb i k1 k2 h1)) (loadW X12 (k0_off10 k1 k2) (k0_off10_inb i k1 k2 h1)) (loadW X12 (k0_off11 k1 k2) (k0_off11_inb i k1 k2 h1)) (by dsimp only; unfold trip2.sl.v212; (try dsimp only); rw [shapeCast_self]; rfl) (rawload k1 k2 X12 D (i 0) h12 (4 * 0 + 0) (k0_off8 k1 k2) (off8_eq k1 k2) (k0_off8_inb i k1 k2 h1)) (rawload k1 k2 X12 D (i 0) h12 (4 * 0 + 1) (k0_off9 k1 k2) (off9_eq k1 k2) (k0_off9_inb i k1 k2 h1)) (rawload k1 k2 X12 D (i 0) h12 (4 * 0 + 2) (k0_off10 k1 k2) (off10_eq k1 k2) (k0_off10_inb i k1 k2 h1)) (rawload k1 k2 X12 D (i 0) h12 (4 * 0 + 3) (k0_off11 k1 k2) (off11_eq k1 k2) (k0_off11_inb i k1 k2 h1))⟩,
      ⟨⟨k0_off12_eq k1 k2 0 0, rfl, rfl, tpiece D (i 0).val k1 k2 0 0 0 rfl _ (k0_off12_eq k1 k2 0 0) (k0_off12_inb i k1 k2 h1 0 0) _ (loadW X12 (k0_off8 k1 k2) (k0_off8_inb i k1 k2 h1)) (loadW X12 (k0_off9 k1 k2) (k0_off9_inb i k1 k2 h1)) (loadW X12 (k0_off10 k1 k2) (k0_off10_inb i k1 k2 h1)) (loadW X12 (k0_off11 k1 k2) (k0_off11_inb i k1 k2 h1)) (by dsimp only; unfold trip2.sl.v206; (try dsimp only); rw [shapeCast_self]; rfl) (rawload k1 k2 X12 D (i 0) h12 (4 * 0 + 0) (k0_off8 k1 k2) (off8_eq k1 k2) (k0_off8_inb i k1 k2 h1)) (rawload k1 k2 X12 D (i 0) h12 (4 * 0 + 1) (k0_off9 k1 k2) (off9_eq k1 k2) (k0_off9_inb i k1 k2 h1)) (rawload k1 k2 X12 D (i 0) h12 (4 * 0 + 2) (k0_off10 k1 k2) (off10_eq k1 k2) (k0_off10_inb i k1 k2 h1)) (rawload k1 k2 X12 D (i 0) h12 (4 * 0 + 3) (k0_off11 k1 k2) (off11_eq k1 k2) (k0_off11_inb i k1 k2 h1))⟩,
      trivial⟩⟩⟩⟩⟩⟩⟩⟩⟩⟩⟩⟩⟩⟩⟩⟩))
    intro y hy
    have hy1 : (y 1).val < 128 := (y 1).isLt
    by_cases hlt : (y 0).val < 2048 * k1.val + 128 * k2.val
    · rw [hst.2 y fun p _ => ⟨0, fun j hj => ?_⟩]
      · exact hf y hlt
      · show (y 0).val ≠ 2048 * k1.val + 128 * k2.val + 32 * p.1.val + p.2.val + 4 * j
        omega
    · refine hst.1 y (Fin.ofNat 4 ((y 0).val / 32), Fin.ofNat 4 (y 0).val) (tabLabels_mem _) ?_
      intro a
      match a with
      | ⟨0, _⟩ => exact ⟨((y 0).val / 4) % 8, (show _ < 8 from Nat.mod_lt _ (by decide)), by
          show (y 0).val = 2048 * k1.val + 128 * k2.val + 32 * (((y 0).val / 32) % 4) + ((y 0).val % 4) + 4 * (((y 0).val / 4) % 8); omega⟩
      | ⟨1, _⟩ => exact ⟨(y 1).val, hy1, by show (y 1).val = 0 + 1 * (y 1).val; omega⟩
  isplitl [HW_arg11]; · iexact HW_arg11
  iexact HS

end Trip2
end Cert.KernelIdeal.Run
-- ==== Proof.KI.Ring1.lean ====
/-
  One trip of the ring: the wait for a block of codes, its words stored to the table, the issue of the block four
  further on.
-/
module

public import proofs.«01_k».proof.Proof.KI.Trip2

@[expose] public section

set_option maxRecDepth 16384
set_option maxHeartbeats 4000000

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UU nD τ) ℕ

section Ring1
variable (c : Dev nD) (i : grid0.Coords)
  (arg3 : Memref sig .tc .vmem S1x384x2048 .fp8e4m3) (harg3 : arg3.IsWhole) (arg4 : Memref sig .tc .vmem S1x3x128 .f32) (harg4 : arg4.IsWhole)
  (arg5 : Memref sig .tc .smem S1x1x384 .i32) (harg5 : arg5.IsWhole) (arg6 : Memref sig .tc .smem S1x128 .f32) (harg6 : arg6.IsWhole)
  (arg7 : Memref sig .tc .vmem S1x3x128 .f32) (harg7 : arg7.IsWhole) (arg8 : Memref sig .tc .vmem S1x384x2048 .fp8e5m2) (harg8 : arg8.IsWhole)
  (arg9 : Memref sig .tc .vmem S3x128x128 .f32) (harg9 : arg9.IsWhole) (arg10 : Memref sig .tc .vmem S1x128 .f32) (harg10 : arg10.IsWhole)
  (arg11 : Memref sig .tc .vmem S98304x128 .i32) (harg11 : arg11.IsWhole) (arg13 : Memref sig .tc .vmem S512x128 .i32) (harg13 : arg13.IsWhole)
  (arg14 : Memref sig .tc .vmem S384x1x128 .f32) (harg14 : arg14.IsWhole) (arg15 : Memref sig .tc .vmem S128x8x128 .f32) (harg15 : arg15.IsWhole)
  (h1 : k0_cond1 i = 1#1)

  (XD : Buf (Elt F) (dyM.view.loc (c : Thread nD τ)))

abbrev cellP (s : Fin 4) : sProp 𝕄 := semVal ((c : Thread nD τ), SemLoc.dma (csm s).sem) 0
/-- Block `b` of the chunk home. -/
abbrev homeP (cc : Fin 3) (b : Fin 48) : sProp 𝕄 := (grp cc b).view.loc (c : Thread nD τ) ↦[(grp cc b).view.set]{fullShare} XD
abbrev payload (cc : Fin 3) (b : Fin 48) : S512x2048.Idx → Elt F .i8 := ReadAs.same.apply ((grp cc b).view.read (Elt F) XD)
/-- What the block's transfer leaves in the slot over `f`. -/
abbrev landed (cc : Fin 3) (s : Fin 4) (b : Fin 48) (f : Buf (Elt F) ((rslot s).view.loc (c : Thread nD τ))) : Buf (Elt F) ((rslot s).view.loc (c : Thread nD τ)) :=
  (rslot s).view.writes (Elt F) f [⟨Rect.whole S512x2048, payload c XD cc b⟩]
/-- Slot `s` in flight with block `b`. -/
abbrev flightP (cc : Fin 3) (s : Fin 4) (b : Fin 48) (f : Buf (Elt F) ((rslot s).view.loc (c : Thread nD τ))) : sProp 𝕄 :=
  Transfers.Flight countersEmb (c : Thread nD τ) (SemLoc.dma (csm s).sem) () 32768 iprop(slotP c s (landed c XD cc s b f) ∗ homeP c XD cc b)

/-- The slot of block `n`: in flight with it if there is such a block, else free. -/
def slotSt (cc : Fin 3) (n : ℕ) : sProp 𝕄 :=
  if n < 48 then iprop(∃ f, flightP c XD cc (Ring.sl 4 n) (Ring.bk 48 n) f) else iprop(cellP c (Ring.sl 4 n) ∗ ∃ f, slotP c (Ring.sl 4 n) f)

theorem landed_holds (cc : Fin 3) (k : ℕ) (hk : k < 48) (f : Buf (Elt F) ((rslot (Ring.sl 4 k)).view.loc (c : Thread nD τ))) :
    Holds (landed c XD cc (Ring.sl 4 k) (Ring.bk 48 k) f) (dyM.view.read (Elt F) XD) cc.val k := by
  intro y
  have h0 : (y 0).val < 512 := (y 0).isLt
  have h1 : (y 1).val < 2048 := (y 1).isLt
  have hc := cc.isLt
  unfold landed
  refine (View.read_writes_apply_of_pieces (rslot (Ring.sl 4 k)).view f (payload c XD cc (Ring.bk 48 k)) _ (fun p hp x => ?_) y ⟨_, List.mem_cons_self, ?_⟩).trans ?_
  · rw [List.mem_singleton] at hp
    subst hp
    show payload c XD cc (Ring.bk 48 k) x = _
    congr 1
    funext a
    exact Fin.ext (by show (x a).val = 0 + 1 * (x a).val; omega)
  · rw [Rect.set_whole]; exact Finset.mem_univ y
  · show XD _ = XD _
    congr 1
    funext a
    match a with
    | ⟨0, _⟩ => exact Fin.ext (by show 512 * (k % 48) + 1 * (y 0).val = (512 * k + (y 0).val) % 24576; omega)
    | ⟨1, _⟩ => exact Fin.ext (by show 2048 * cc.val + 1 * (y 1).val = (2048 * cc.val + (y 1).val) % 6144; omega)

theorem homes_here (cc : Fin 3) (k : ℕ) (hk : k + 4 < 48) :
    bigSep (Ring.homeSet 4 k) (homeP c XD cc) = iprop(homeP c XD cc (Ring.bk 48 (k + 4)) ∗ bigSep ((Ring.homeSet 4 k).erase (Ring.bk 48 (k + 4))) (homeP c XD cc)) := by
  conv_lhs => rw [Ring.homeSet_out 4 k hk, bigSep_insert (Ring.bkL_not_mem_erase 4 k)]
  rfl
theorem homes_next (cc : Fin 3) (k : ℕ) (hk : k + 4 < 48) :
    bigSep (Ring.homeSet 4 (k + 1)) (homeP c XD cc) = iprop(homeP c XD cc (Ring.bk 48 k) ∗ bigSep ((Ring.homeSet 4 k).erase (Ring.bk 48 (k + 4))) (homeP c XD cc)) := by
  conv_lhs => rw [Ring.homeSet_succ 4 k hk, bigSep_insert (Ring.bk_not_mem_erase 4 k (by omega) (by decide))]
  rfl
theorem homes_tail (cc : Fin 3) (k : ℕ) (hk : 48 ≤ k + 4) (h : k < 48) :
    bigSep (Ring.homeSet 4 (k + 1)) (homeP c XD cc) = iprop(homeP c XD cc (Ring.bk 48 k) ∗ bigSep (Ring.homeSet 4 k) (homeP c XD cc)) := by
  conv_lhs => rw [Ring.homeSet_succ_tail 4 k hk h, bigSep_insert (Ring.bk_not_mem_homeSet 4 k h (by decide))]
  rfl

/-- Before trip `k`. -/
def inv1 (k : ℕ) (_ : Unit) : sProp 𝕄 :=
  iprop((∃ g, ⌜Filled arg11 (dyM.view.read (Elt F) XD) (i 0).val (2048 * k) g⌝ ∗ (arg11.view.loc (c : Thread nD τ) ↦[arg11.view.set]{fullShare} g))
    ∗ (∃ W, owes (c : Thread nD τ) 0 W)
    ∗ bigSep (Ring.homeSet 4 k) (homeP c XD (i 0))
    ∗ slotSt c XD (i 0) k ∗ slotSt c XD (i 0) (k + 1) ∗ slotSt c XD (i 0) (k + 2) ∗ slotSt c XD (i 0) (k + 3))

/-- Between trips of the inner loop. -/
def inv2 (k1 : Fin k0_t1_loop.trips) (X12 : Buf (Elt F) ((rslot (Ring.sl 4 k1.val)).view.loc (c : Thread nD τ))) (n : ℕ) (_ : Unit) : sProp 𝕄 :=
  iprop((∃ g, ⌜Filled arg11 (dyM.view.read (Elt F) XD) (i 0).val (2048 * k1.val + 128 * n) g⌝ ∗ (arg11.view.loc (c : Thread nD τ) ↦[arg11.view.set]{fullShare} g))
    ∗ slotP c (Ring.sl 4 k1.val) X12)

abbrev trip1G (k : Fin k0_t1_loop.trips) : Prog (TpuEff nD τ sig (Elt F) Λ₀ .tc) Unit :=
  k0_t1_body (F := F) i dyM (Memref.isWhole_whole _) arg3 harg3 arg4 harg4 arg5 harg5 arg6 harg6 arg7 harg7 arg8 harg8 arg9 harg9 arg10 harg10 arg11 harg11 rawM (Memref.isWhole_whole _) arg13 harg13 arg14 harg14 arg15 harg15 cc0_scratch5 (BitVec.ofNat 32 (i 0).val) h1 0#32 1#32 k ()

/-- The wait for the block. -/
def waitG (k : Fin k0_t1_loop.trips) : Prog (TpuEff nD τ sig (Elt F) Λ₀ .tc) Unit := do
  let v65 : DmaSems sig S1 := cc0_scratch5.slice (Rect.unit (s := S4) (k0_off5 k) S1.size (k0_off5_inb i k h1))
  let v66 : DmaSems sig S_ := v65.squeeze S_ squeezes_S1_S_
  let v67 : Memref sig .tc .vmem S1x512x2048 .i8 := rawM.slice (Rect.unit (s := S4x512x2048) (k0_off6 k) S1x512x2048.size (k0_off6_inb i k h1)) (fun _ => rfl)
  let v68 : Memref sig .tc .vmem S512x2048 .i8 := v67.squeeze S512x2048 squeezes_S1x512x2048_S512x2048
  let v69 : Memref sig .tc .hbm S512x2048 .i8 := dyM.slice (Rect.unit (s := S24576x6144) (k0_off7 i k) S512x2048.size (k0_off7_inb i k h1)) (fun _ => rfl)
  Prog.lift (.waitDma2 v66.sem v69 v68 ((Memref.isWhole_whole main_v14).wordExact_slice rfl _ (k0_off7_wordsi8 i k h1)) (((Memref.isWhole_whole cc0_scratch1).wordExact_slice rfl _ (k0_off6_wordsi8 i k h1)).reshape _ _))
/-- The loop over the block's groups of 128 tokens. -/
@[irreducible] def loop2G (k : Fin k0_t1_loop.trips) : Prog (TpuEff nD τ sig (Elt F) Λ₀ .tc) Unit :=
  Scf.Loop.for k0_t2_loop (k0_t2_ok i h1) ⟨⟩ (k0_t2_body (F := F) i dyM (Memref.isWhole_whole _) arg3 harg3 arg4 harg4 arg5 harg5 arg6 harg6 arg7 harg7 arg8 harg8 arg9 harg9 arg10 harg10 arg11 harg11 rawM (Memref.isWhole_whole _) arg13 harg13 arg14 harg14 arg15 harg15 cc0_scratch5 (BitVec.ofNat 32 (i 0).val) h1 0#32 1#32 k (Scalar.addi 0#32 (Scalar.muli (Scf.iv 0#32 1#32 k) 1#32)))
/-- The issue of the block four further on. -/
def issueG (k : Fin k0_t1_loop.trips) : Prog (TpuEff nD τ sig (Elt F) Λ₀ .tc) Unit := do
    if k0_h2 : k0_cond2 k = 1#1 then do
      let v99 : DmaSems sig S1 := cc0_scratch5.slice (Rect.unit (s := S4) (k0_off25 k) S1.size (k0_off25_inb i k h1 k0_h2))
      let v100 : DmaSems sig S_ := v99.squeeze S_ squeezes_S1_S_
      let v101 : Memref sig .tc .vmem S1x512x2048 .i8 := rawM.slice (Rect.unit (s := S4x512x2048) (k0_off26 k) S1x512x2048.size (k0_off26_inb i k h1 k0_h2)) (fun _ => rfl)
      let v102 : Memref sig .tc .vmem S512x2048 .i8 := v101.squeeze S512x2048 squeezes_S1x512x2048_S512x2048
      let v103 : Memref sig .tc .hbm S512x2048 .i8 := dyM.slice (Rect.unit (s := S24576x6144) (k0_off27 i k) S512x2048.size (k0_off27_inb i k h1 k0_h2)) (fun _ => rfl)
      Prog.lift (.enqueueDma v103 (.here v102) (.dma v100.sem) ((Memref.isWhole_whole main_v14).wordExact_slice rfl _ (k0_off27_wordsi8 i k h1 k0_h2)) (((Memref.isWhole_whole cc0_scratch1).wordExact_slice rfl _ (k0_off26_wordsi8 i k h1 k0_h2)).reshape _ _) ⟨Or.inl rfl, trivial⟩)
      pure ⟨⟩
    else do
      pure ⟨⟩
    pure ⟨⟩

set_option maxRecDepth 65536 in
theorem trip1_eq (k : Fin k0_t1_loop.trips) : (trip1G i arg3 harg3 arg4 harg4 arg5 harg5 arg6 harg6 arg7 harg7 arg8 harg8 arg9 harg9 arg10 harg10 arg11 harg11 arg13 harg13 arg14 harg14 arg15 harg15 h1 k : Prog (TpuEff nD τ sig (Elt F) Λ₀ .tc) Unit) = (do
    let ⟨v41, v72⟩ : Σ' (v41 : BitVec 32), BitVec 1 ← (do
      waitG i h1 k
      loop2G i arg3 harg3 arg4 harg4 arg5 harg5 arg6 harg6 arg7 harg7 arg8 harg8 arg9 harg9 arg10 harg10 arg11 harg11 arg13 harg13 arg14 harg14 arg15 harg15 h1 k
      pure ⟨(Scalar.addi 0#32 (Scalar.muli (Scf.iv 0#32 1#32 k) 1#32)), Scalar.cmpi .slt (Scalar.addi (Scalar.addi 0#32 (Scalar.muli (Scf.iv 0#32 1#32 k) 1#32)) 4#32) 48#32⟩)
    issueG i h1 k) := by
  unfold loop2G
  rfl

theorem loop2 (k : Fin k0_t1_loop.trips) (X12 : Buf (Elt F) ((rslot (Ring.sl 4 k.val)).view.loc (c : Thread nD τ)))
    (h12 : Holds X12 (dyM.view.read (Elt F) XD) (i 0).val k.val) :
    inv2 c i arg11 XD k X12 0 () ⊢ (wp frame (wpE (defs₀ (F := F)) 𝒱₀ (c : Thread nD τ) none) Set.univ (loop2G i arg3 harg3 arg4 harg4 arg5 harg5 arg6 harg6 arg7 harg7 arg8 harg8 arg9 harg9 arg10 harg10 arg11 harg11 arg13 harg13 arg14 harg14 arg15 harg15 h1 k)
      (fun u => inv2 c i arg11 XD k X12 16 u) : sProp 𝕄) := by
  unfold loop2G
  iintro H
  sl_for (inv2 c i arg11 XD k X12) $$ [H]
  case region =>
    intro k2 _
    unfold inv2
    iintro ⟨⟨%g, %hg, H11⟩, Hs⟩
    ihave Hw := (trip2 c i arg3 harg3 arg4 harg4 arg5 harg5 arg6 harg6 arg7 harg7 arg8 harg8 arg9 harg9 arg10 harg10 arg11 harg11 arg13 harg13 arg14 harg14 arg15 harg15 h1 (Scalar.addi 0#32 (Scalar.muli (Scf.iv 0#32 1#32 k) 1#32)) k k2 X12 (dyM.view.read (Elt F) XD) h12 g hg) $$ [H11 Hs]
    · isplitl [H11]; · iexact H11
      iexact Hs
    iapply wp_wand $$ Hw
    iintro %_ ⟨%g', %hg', H11, Hs⟩
    isplitl [H11]
    · iexists g'
      isplitr
      · ipureintro; exact hg'
      · iexact H11
    · iexact Hs
  isplitl [H]; · iexact H
  iintro %_ H
  irw [← show k0_t2_loop.trips = 16 from trips2]
  iexact H

theorem wait1 (k : Fin k0_t1_loop.trips) (f0) :
    iprop((∃ W, owes (c : Thread nD τ) 0 W) ∗ flightP c XD (i 0) (Ring.sl 4 k.val) (Ring.bk 48 k.val) f0) ⊢ (wp frame (wpE (defs₀ (F := F)) 𝒱₀ (c : Thread nD τ) none) Set.univ (waitG i h1 k)
      (fun _ => iprop((∃ W, owes (c : Thread nD τ) 0 W) ∗ cellP c (Ring.sl 4 k.val)
        ∗ (∃ f, slotP c (Ring.sl 4 k.val) (landed c XD (i 0) (Ring.sl 4 k.val) (Ring.bk 48 k.val) f)) ∗ homeP c XD (i 0) (Ring.bk 48 k.val))) : sProp 𝕄) := by
  iintro ⟨⟨%W, HW⟩, HF0⟩
  sl_unfold [waitG]
  sl_exec
  sl_step
  isplitl [HW]; · iexists _; iexact HW
  isplitl [HF0]; · iexact HF0
  isplitl [HF0_dst]; · iexists _; iexact HF0_dst
  iexact HF0_src

theorem flightP_after (k : Fin k0_t1_loop.trips) (f) :
    flightP c XD (i 0) (Ring.sl 4 k.val) (Ring.bk 48 (k.val + 4)) f
      = (Transfers.Flight countersEmb (c : Thread nD τ) (SemLoc.dma (csm (Ring.sl 4 k.val)).sem) default 32768
          iprop(((rslot (Ring.sl 4 k.val)).view.loc (c : Thread nD τ) ↦[(rslot (Ring.sl 4 k.val)).view.set]{fullShare} (rslot (Ring.sl 4 k.val)).view.writes (Elt F) f [⟨Rect.whole S512x2048, payload c XD (i 0) (Ring.bk 48 (k.val + 4))⟩]) ∗ homeP c XD (i 0) (Ring.bk 48 (k.val + 4))) : sProp 𝕄) := rfl

theorem issue_yes (k : Fin k0_t1_loop.trips) (h2 : k0_cond2 k = 1#1) (f) :
    iprop(cellP c (Ring.sl 4 k.val) ∗ slotP c (Ring.sl 4 k.val) f ∗ homeP c XD (i 0) (Ring.bk 48 (k.val + 4)) ∗ (∃ W, owes (c : Thread nD τ) 0 W))
     ⊢ (wp frame (wpE (defs₀ (F := F)) 𝒱₀ (c : Thread nD τ) none) Set.univ (issueG i h1 k)
      (fun _ => iprop((∃ f, flightP c XD (i 0) (Ring.sl 4 k.val) (Ring.bk 48 (k.val + 4)) f) ∗ (∃ W, owes (c : Thread nD τ) 0 W))) : sProp 𝕄) := by
  iintro ⟨Hc, Hs, Hh, ⟨%W, HW⟩⟩
  sl_unfold [issueG]
  sl_exec (disch := exact View.amount_pos _ _ (show 0 < S512x2048.numel by decide))
  sl_step
  isplitl [Hc]
  · iexists f
    irw [flightP_after c i XD k f]
    iexact Hc
  iexists _; iexact HW

theorem issue_no (k : Fin k0_t1_loop.trips) (h2 : ¬ k0_cond2 k = 1#1) :
    (iprop(∃ W, owes (c : Thread nD τ) 0 W) : sProp 𝕄) ⊢ (wp frame (wpE (defs₀ (F := F)) 𝒱₀ (c : Thread nD τ) none) Set.univ (issueG i h1 k) (fun _ => iprop(∃ W, owes (c : Thread nD τ) 0 W)) : sProp 𝕄) := by
  iintro H
  sl_unfold [issueG]
  sl_exec
  sl_step
  iexact H

theorem trip1 (k : Fin k0_t1_loop.trips) : inv1 c i arg11 XD k.val () ⊢ (wp frame (wpE (defs₀ (F := F)) 𝒱₀ (c : Thread nD τ) none) Set.univ (trip1G i arg3 harg3 arg4 harg4 arg5 harg5 arg6 harg6 arg7 harg7 arg8 harg8 arg9 harg9 arg10 harg10 arg11 harg11 arg13 harg13 arg14 harg14 arg15 harg15 h1 k)
    (fun u => inv1 c i arg11 XD (k.val + 1) u) : sProp 𝕄) := by
  have hk : k.val < 48 := k.isLt
  rw [trip1_eq]
  simp only [wp_bind]
  unfold inv1
  rw [show slotSt c XD (i 0) k.val = iprop(∃ f, flightP c XD (i 0) (Ring.sl 4 k.val) (Ring.bk 48 k.val) f) from if_pos hk]
  iintro ⟨⟨%g, %hg, H11⟩, HW, Hh, ⟨%f0, HF0⟩, S1, S2, S3⟩
  ihave H := (wait1 c i h1 XD k f0) $$ [HW HF0]
  · isplitl [HW]; · iexact HW
    iexact HF0
  iapply wp_wand $$ H
  iintro %_ ⟨HW, Hc, ⟨%f1, Hs⟩, Hb⟩
  ihave HL := (loop2 c i arg3 harg3 arg4 harg4 arg5 harg5 arg6 harg6 arg7 harg7 arg8 harg8 arg9 harg9 arg10 harg10 arg11 harg11 arg13 harg13 arg14 harg14 arg15 harg15 h1 XD k (landed c XD (i 0) (Ring.sl 4 k.val) (Ring.bk 48 k.val) f1)
      (landed_holds c XD (i 0) k.val hk _)) $$ [H11 Hs]
  · unfold inv2
    isplitl [H11]
    · iexists g
      isplitr
      · ipureintro; simpa using hg
      · iexact H11
    · iexact Hs
  iapply wp_wand $$ HL
  unfold inv2
  iintro %_ ⟨⟨%g', %hg', H11⟩, Hs⟩
  have h11 : Filled arg11 (dyM.view.read (Elt F) XD) (i 0).val (2048 * (k.val + 1)) g' := by
    rw [show 2048 * (k.val + 1) = 2048 * k.val + 128 * 16 by omega]; exact hg'
  iapply (le_wp_ret (Ef := TpuEff nD τ sig (Elt F) Λ₀ .tc) Idealize.ShloMosaic.frame (wpE (defs₀ (F := F)) 𝒱₀ (c : Thread nD τ) none) Set.univ
    (⟨Scalar.addi (0#32) (Scalar.muli (Scf.iv 0#32 1#32 k) 1#32),
          Scalar.cmpi CmpIPredicate.slt (Scalar.addi (Scalar.addi (0#32) (Scalar.muli (Scf.iv 0#32 1#32 k) 1#32)) 4#32)
            48#32⟩ : Σ' (v41 : BitVec 32), BitVec 1) _)
  rcases Nat.lt_or_ge (k.val + 4) 48 with h4 | h4
  · have h2 : k0_cond2 k = 1#1 := (cond2_iff k).mpr h4
    irw [homes_next c XD (i 0) k.val h4]
    ihave Hh := (Entails.of_eq (homes_here c XD (i 0) k.val h4)) $$ Hh
    icases Hh with ⟨Hn, Hh⟩
    ihave HI := (issue_yes c i h1 XD k h2 _) $$ [Hc Hs Hn HW]
    · isplitl [Hc]; · iexact Hc
      isplitl [Hs]; · iexact Hs
      isplitl [Hn]; · iexact Hn
      iexact HW
    iapply wp_wand $$ HI
    iintro %_ ⟨HF, HW⟩
    isplitl [H11]
    · iexists g'
      isplitr
      · ipureintro; exact h11
      · iexact H11
    isplitl [HW]; · iexact HW
    isplitl [Hb Hh]
    · isplitl [Hb]; · iexact Hb
      iexact Hh
    isplitl [S1]; · iexact S1
    isplitl [S2]; · iexact S2
    isplitl [S3]; · iexact S3
    irw [show slotSt c XD (i 0) (k.val + 1 + 3) = iprop(∃ f, flightP c XD (i 0) (Ring.sl 4 k.val) (Ring.bk 48 (k.val + 4)) f) from
      (if_pos (by omega)).trans (by rw [show k.val + 1 + 3 = k.val + 4 from rfl, Ring.sl_add 4 k.val])]
    iexact HF
  · have h2 : ¬ k0_cond2 k = 1#1 := fun h => absurd ((cond2_iff k).mp h) (by omega)
    irw [homes_tail c XD (i 0) k.val h4 hk]
    ihave HI := (issue_no c i h1 k h2) $$ HW
    iapply wp_wand $$ HI
    iintro %_ HW
    isplitl [H11]
    · iexists g'
      isplitr
      · ipureintro; exact h11
      · iexact H11
    isplitl [HW]; · iexact HW
    isplitl [Hb Hh]
    · isplitl [Hb]; · iexact Hb
      iexact Hh
    isplitl [S1]; · iexact S1
    isplitl [S2]; · iexact S2
    isplitl [S3]; · iexact S3
    irw [show slotSt c XD (i 0) (k.val + 1 + 3) = iprop(cellP c (Ring.sl 4 k.val) ∗ ∃ f, slotP c (Ring.sl 4 k.val) f) from
      (if_neg (by omega)).trans (by rw [show k.val + 1 + 3 = k.val + 4 from rfl, Ring.sl_add 4 k.val])]
    isplitl [Hc]; · iexact Hc
    iexists _; iexact Hs

end Ring1
end Cert.KernelIdeal.Run
-- ==== Proof.KI.Ring2.lean ====
/-
  The filling of the table: four blocks issued, then the ring of 48 trips.
-/
module

public import proofs.«01_k».proof.Proof.KI.Ring1

@[expose] public section

set_option maxRecDepth 16384
set_option maxHeartbeats 4000000

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UU nD τ) ℕ

section Ring2
variable (c : Dev nD) (i : grid0.Coords)
  (arg3 : Memref sig .tc .vmem S1x384x2048 .fp8e4m3) (harg3 : arg3.IsWhole) (arg4 : Memref sig .tc .vmem S1x3x128 .f32) (harg4 : arg4.IsWhole)
  (arg5 : Memref sig .tc .smem S1x1x384 .i32) (harg5 : arg5.IsWhole) (arg6 : Memref sig .tc .smem S1x128 .f32) (harg6 : arg6.IsWhole)
  (arg7 : Memref sig .tc .vmem S1x3x128 .f32) (harg7 : arg7.IsWhole) (arg8 : Memref sig .tc .vmem S1x384x2048 .fp8e5m2) (harg8 : arg8.IsWhole)
  (arg9 : Memref sig .tc .vmem S3x128x128 .f32) (harg9 : arg9.IsWhole) (arg10 : Memref sig .tc .vmem S1x128 .f32) (harg10 : arg10.IsWhole)
  (arg11 : Memref sig .tc .vmem S98304x128 .i32) (harg11 : arg11.IsWhole) (arg13 : Memref sig .tc .vmem S512x128 .i32) (harg13 : arg13.IsWhole)
  (arg14 : Memref sig .tc .vmem S384x1x128 .f32) (harg14 : arg14.IsWhole) (arg15 : Memref sig .tc .vmem S128x8x128 .f32) (harg15 : arg15.IsWhole)
  (h1 : k0_cond1 i = 1#1)

  (XD : Buf (Elt F) (dyM.view.loc (c : Thread nD τ)))

abbrev part17G : Prog (TpuEff nD τ sig (Elt F) Λ₀ .tc) (Σ' (c0_i32_24 : BitVec 32), BitVec 32) :=
  k0_part17 (F := F) i dyM (Memref.isWhole_whole _) arg3 harg3 arg4 harg4 arg5 harg5 arg6 harg6 arg7 harg7 arg8 harg8 arg9 harg9 arg10 harg10 arg11 harg11 rawM (Memref.isWhole_whole _) arg13 harg13 arg14 harg14 arg15 harg15 cc0_scratch5 (BitVec.ofNat 32 (i 0).val) h1

/-- The loop over the chunk's blocks. -/
def loop1G (c0 c1 : BitVec 32) : Prog (TpuEff nD τ sig (Elt F) Λ₀ .tc) Unit :=
  Scf.Loop.for k0_t1_loop (k0_t1_ok i h1) ⟨⟩ (k0_t1_body (F := F) i dyM (Memref.isWhole_whole _) arg3 harg3 arg4 harg4 arg5 harg5 arg6 harg6 arg7 harg7 arg8 harg8 arg9 harg9 arg10 harg10 arg11 harg11 rawM (Memref.isWhole_whole _) arg13 harg13 arg14 harg14 arg15 harg15 cc0_scratch5 (BitVec.ofNat 32 (i 0).val) h1 c0 c1)

theorem flightP_gen (cc : Fin 3) (s : Fin 4) (b : Fin 48) (f) :
    flightP c XD cc s b f
      = (Transfers.Flight countersEmb (c : Thread nD τ) (SemLoc.dma (csm s).sem) default 32768
          iprop(((rslot s).view.loc (c : Thread nD τ) ↦[(rslot s).view.set]{fullShare} (rslot s).view.writes (Elt F) f [⟨Rect.whole S512x2048, payload c XD cc b⟩]) ∗ homeP c XD cc b) : sProp 𝕄) := rfl

/-- The ring at rest: every block home, every cell zero, every slot at some contents. -/
def ringRest (cc : Fin 3) : sProp 𝕄 :=
  iprop((∃ W, owes (c : Thread nD τ) 0 W) ∗ bigSep (Finset.univ : Finset (Fin 48)) (homeP c XD cc)
    ∗ (cellP c 0 ∗ cellP c 1 ∗ cellP c 2 ∗ cellP c 3) ∗ ((∃ f, slotP c 0 f) ∗ (∃ f, slotP c 1 f) ∗ (∃ f, slotP c 2 f) ∗ (∃ f, slotP c 3 f)))

theorem homes_start (cc : Fin 3) : bigSep (Finset.univ : Finset (Fin 48)) (homeP c XD cc)
    = iprop(homeP c XD cc 0 ∗ homeP c XD cc 1 ∗ homeP c XD cc 2 ∗ homeP c XD cc 3 ∗ bigSep (Ring.homeSet 4 0) (homeP c XD cc)) := by
  conv_lhs => rw [show (Finset.univ : Finset (Fin 48)) = insert 0 (insert 1 (insert 2 (insert 3 (Ring.homeSet 4 0)))) by decide +kernel]
  rw [bigSep_insert (by decide +kernel), bigSep_insert (by decide +kernel), bigSep_insert (by decide +kernel), bigSep_insert (by decide +kernel)]
  rfl

theorem prologue : ringRest c XD (i 0) ⊢ (wp frame (wpE (defs₀ (F := F)) 𝒱₀ (c : Thread nD τ) none) Set.univ (part17G i arg3 harg3 arg4 harg4 arg5 harg5 arg6 harg6 arg7 harg7 arg8 harg8 arg9 harg9 arg10 harg10 arg11 harg11 arg13 harg13 arg14 harg14 arg15 harg15 h1)
    (fun v => iprop(⌜v = ⟨0#32, 1#32⟩⌝ ∗ (∃ W, owes (c : Thread nD τ) 0 W) ∗ bigSep (Ring.homeSet 4 0) (homeP c XD (i 0))
      ∗ slotSt c XD (i 0) 0 ∗ slotSt c XD (i 0) 1 ∗ slotSt c XD (i 0) 2 ∗ slotSt c XD (i 0) 3)) : sProp 𝕄) := by
  unfold ringRest
  rw [homes_start c XD (i 0)]
  iintro ⟨⟨%W, HW⟩, ⟨Hh0, Hh1, Hh2, Hh3, Hh⟩, ⟨Hc0, Hc1, Hc2, Hc3⟩, ⟨⟨%f0, Hs0⟩, ⟨%f1, Hs1⟩, ⟨%f2, Hs2⟩, ⟨%f3, Hs3⟩⟩⟩
  sl_unfold [part17G]
  sl_exec
  sl_step
  isplitr; · ipureintro; rfl
  isplitl [HW]; · iexists _; iexact HW
  isplitl [Hh]; · iexact Hh
  irw [show slotSt c XD (i 0) 0 = iprop(∃ f, flightP c XD (i 0) 0 0 f) from if_pos (by decide)]
  isplitl [Hc0]
  · iexists f0
    irw [flightP_gen c XD (i 0) 0 0 f0]
    iexact Hc0
  irw [show slotSt c XD (i 0) 1 = iprop(∃ f, flightP c XD (i 0) 1 1 f) from if_pos (by decide)]
  isplitl [Hc1]
  · iexists f1
    irw [flightP_gen c XD (i 0) 1 1 f1]
    iexact Hc1
  irw [show slotSt c XD (i 0) 2 = iprop(∃ f, flightP c XD (i 0) 2 2 f) from if_pos (by decide)]
  isplitl [Hc2]
  · iexists f2
    irw [flightP_gen c XD (i 0) 2 2 f2]
    iexact Hc2
  irw [show slotSt c XD (i 0) 3 = iprop(∃ f, flightP c XD (i 0) 3 3 f) from if_pos (by decide)]
  iexists f3
  irw [flightP_gen c XD (i 0) 3 3 f3]
  iexact Hc3

theorem ring : inv1 c i arg11 XD 0 () ⊢ (wp frame (wpE (defs₀ (F := F)) 𝒱₀ (c : Thread nD τ) none) Set.univ (loop1G i arg3 harg3 arg4 harg4 arg5 harg5 arg6 harg6 arg7 harg7 arg8 harg8 arg9 harg9 arg10 harg10 arg11 harg11 arg13 harg13 arg14 harg14 arg15 harg15 h1 0#32 1#32)
    (fun u => inv1 c i arg11 XD 48 u) : sProp 𝕄) := by
  unfold loop1G
  iintro H
  sl_for (inv1 c i arg11 XD) $$ [H]
  case region =>
    intro k _
    iintro H
    ihave Hw := (trip1 c i arg3 harg3 arg4 harg4 arg5 harg5 arg6 harg6 arg7 harg7 arg8 harg8 arg9 harg9 arg10 harg10 arg11 harg11 arg13 harg13 arg14 harg14 arg15 harg15 h1 XD k) $$ H
    iexact Hw
  isplitl [H]; · iexact H
  iintro %_ H
  irw [← show k0_t1_loop.trips = 48 from trips1]
  iexact H

/-- The ring from the prologue on: the whole chunk's words, the ring at rest again. -/
theorem ringL (g : Buf (Elt F) (arg11.view.loc (c : Thread nD τ))) :
    iprop((arg11.view.loc (c : Thread nD τ) ↦[arg11.view.set]{fullShare} g) ∗ (∃ W, owes (c : Thread nD τ) 0 W) ∗ bigSep (Ring.homeSet 4 0) (homeP c XD (i 0))
      ∗ slotSt c XD (i 0) 0 ∗ slotSt c XD (i 0) 1 ∗ slotSt c XD (i 0) 2 ∗ slotSt c XD (i 0) 3)
      ⊢ (wp frame (wpE (defs₀ (F := F)) 𝒱₀ (c : Thread nD τ) none) Set.univ (loop1G i arg3 harg3 arg4 harg4 arg5 harg5 arg6 harg6 arg7 harg7 arg8 harg8 arg9 harg9 arg10 harg10 arg11 harg11 arg13 harg13 arg14 harg14 arg15 harg15 h1 0#32 1#32)
    (fun _ => iprop((∃ g, ⌜Filled arg11 (dyM.view.read (Elt F) XD) (i 0).val 98304 g⌝ ∗ (arg11.view.loc (c : Thread nD τ) ↦[arg11.view.set]{fullShare} g))
      ∗ ringRest c XD (i 0))) : sProp 𝕄) := by
  iintro ⟨H11, HW, Hh, S0, S1, S2, S3⟩
  ihave HL := (ring c i arg3 harg3 arg4 harg4 arg5 harg5 arg6 harg6 arg7 harg7 arg8 harg8 arg9 harg9 arg10 harg10 arg11 harg11 arg13 harg13 arg14 harg14 arg15 harg15 h1 XD) $$ [H11 HW Hh S0 S1 S2 S3]
  · unfold inv1
    isplitl [H11]
    · iexists g
      isplitr
      · ipureintro
        intro y hy
        exact absurd hy (by omega)
      · iexact H11
    isplitl [HW]; · iexact HW
    isplitl [Hh]; · iexact Hh
    isplitl [S0]; · iexact S0
    isplitl [S1]; · iexact S1
    isplitl [S2]; · iexact S2
    iexact S3
  iapply wp_wand $$ HL
  iintro %_ H
  unfold inv1 ringRest
  icases H with ⟨⟨%g', %hg', H11⟩, HW, Hh, S0, S1, S2, S3⟩
  ihave S0 := (Entails.of_eq (show slotSt c XD (i 0) 48 = iprop(cellP c 0 ∗ ∃ f, slotP c 0 f) from if_neg (by decide))) $$ S0
  ihave S1 := (Entails.of_eq (show slotSt c XD (i 0) (48 + 1) = iprop(cellP c 1 ∗ ∃ f, slotP c 1 f) from if_neg (by decide))) $$ S1
  ihave S2 := (Entails.of_eq (show slotSt c XD (i 0) (48 + 2) = iprop(cellP c 2 ∗ ∃ f, slotP c 2 f) from if_neg (by decide))) $$ S2
  ihave S3 := (Entails.of_eq (show slotSt c XD (i 0) (48 + 3) = iprop(cellP c 3 ∗ ∃ f, slotP c 3 f) from if_neg (by decide))) $$ S3
  icases S0 with ⟨C0, S0⟩
  icases S1 with ⟨C1, S1⟩
  icases S2 with ⟨C2, S2⟩
  icases S3 with ⟨C3, S3⟩
  isplitl [H11]
  · iexists g'
    isplitr
    · ipureintro; exact hg'
    · iexact H11
  isplitl [HW]; · iexact HW
  isplitl [Hh]
  · irw [← Ring.homeSet_last (NB := 48) 4 48 (by decide)]
    iexact Hh
  isplitl [C0 C1 C2 C3]
  · isplitl [C0]; · iexact C0
    isplitl [C1]; · iexact C1
    isplitl [C2]; · iexact C2
    iexact C3
  isplitl [S0]; · iexact S0
  isplitl [S1]; · iexact S1
  isplitl [S2]; · iexact S2
  iexact S3

end Ring2
end Cert.KernelIdeal.Run
-- ==== Proof.KI.Loop3.lean ====
/-
  The block loop as a whole: what one trip leaves in the two accumulators and the outputs, place by place, and the
  invariant the three trips keep.
-/
module

public import proofs.«01_k».proof.Proof.KI.Trip3

@[expose] public section

set_option maxRecDepth 16384
set_option maxHeartbeats 4000000

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UU nD τ) ℕ

/-- Row `r` of the dot accumulator; -/
def rowOf (g : S384x1x128.Idx → Elt F .f32) (r : Nat) : Vec F S1x1x128 .f32 := fun x => g (ix3 (Fin.ofNat 384 r) (0 : Fin 1) (Fin.ofNat 128 (x 2).val))
/-- expert `e`'s tile of the maximum accumulator. -/
def amOf (g : S128x8x128.Idx → Elt F .f32) (e : Nat) : Vec F S1x8x128 .f32 := fun x => g (ix3 (Fin.ofNat 128 e) (Fin.ofNat 8 (x 1).val) (Fin.ofNat 128 (x 2).val))
/-- Block `n` as a trip of the loop. -/
def kf (n : Nat) : Fin k0_t3_loop.trips := ⟨n % 3, Nat.mod_lt n (by decide : 0 < 3)⟩
theorem kf_val (k : Fin k0_t3_loop.trips) : kf k.val = k := Fin.ext (Nat.mod_eq_of_lt k.isLt)
/-- The tile of maxima after `k` blocks, from `v`; `a0` the column chunk, `ams` the blocks' own maxima. -/
def amIter (a0 : BitVec 32) (ams : Nat → FVec F S8x128 .f32) (v : Vec F S1x8x128 .f32) : Nat → Vec F S1x8x128 .f32
  | 0 => v
  | k + 1 => k0_pay1 (k0_pay635 (BitVec.ofNat 32 k) (ams k) (Scalar.cmpi .eq a0 0#32) (amIter a0 ams v k))

section Loop3
variable (c : Dev nD) (i : grid0.Coords)
  (arg3 : Memref sig .tc .vmem S1x384x2048 .fp8e4m3) (harg3 : arg3.IsWhole) (arg4 : Memref sig .tc .vmem S1x3x128 .f32) (harg4 : arg4.IsWhole)
  (arg5 : Memref sig .tc .smem S1x1x384 .i32) (harg5 : arg5.IsWhole) (arg6 : Memref sig .tc .smem S1x128 .f32) (harg6 : arg6.IsWhole)
  (arg7 : Memref sig .tc .vmem S1x3x128 .f32) (harg7 : arg7.IsWhole) (arg8 : Memref sig .tc .vmem S1x384x2048 .fp8e5m2) (harg8 : arg8.IsWhole)
  (arg9 : Memref sig .tc .vmem S3x128x128 .f32) (harg9 : arg9.IsWhole) (arg10 : Memref sig .tc .vmem S1x128 .f32) (harg10 : arg10.IsWhole)
  (arg11 : Memref sig .tc .vmem S98304x128 .i32) (harg11 : arg11.IsWhole) (arg13 : Memref sig .tc .vmem S512x128 .i32) (harg13 : arg13.IsWhole)
  (arg14 : Memref sig .tc .vmem S384x1x128 .f32) (harg14 : arg14.IsWhole) (arg15 : Memref sig .tc .vmem S128x8x128 .f32) (harg15 : arg15.IsWhole)
  (v4 : Elt F .f32)

/-- The block's row of the scales. -/
abbrev gosAt (X7 : BufTy.Contents (Elt F) arg7.view.ty) (k : Fin k0_t3_loop.trips) : Vec F S1x1x128 .f32 :=
  View.readAt (Elt F) arg7.view (Rect.unit (s := S1x3x128) (k0_off285 k) S1x1x128.size (k0_off285_inb k)).toLoadRect X7

theorem rowOf_readAt (k : Fin k0_t3_loop.trips) (f14 : BufTy.Contents (Elt F) arg14.view.ty) :
    View.readAt (Elt F) arg14.view (Rect.unit (s := S384x1x128) (k0_off306 i k) S1x1x128.size (k0_off306_inb i k)).toLoadRect f14
      = rowOf (arg14.view.read (Elt F) f14) (3 * (i 1).val + k.val) := by
  funext x
  have hk : k.val < 3 := Nat.lt_of_lt_of_le k.isLt k0_t3_abs.2.1
  have hi : (i 1).val < 128 := (i 1).isLt
  have h0 : (x 0).val < 1 := (x 0).isLt
  have h1 : (x 1).val < 1 := (x 1).isLt
  have h2 : (x 2).val < 128 := (x 2).isLt
  show arg14.view.read (Elt F) f14 _ = arg14.view.read (Elt F) f14 _
  have e := k0_off306_eq i k
  congr 1
  funext a
  match a with
  | ⟨0, _⟩ => refine Fin.ext ?_; show (k0_off306 i k) 0 + 1 * (x 0).val = (3 * (i 1).val + k.val) % 384; rw [congrFun (k0_off306_eq i k) 0]; show 3 * (i 1).val + k.val + 1 * (x 0).val = _; omega
  | ⟨1, _⟩ => refine Fin.ext ?_; show (k0_off306 i k) 1 + 1 * (x 1).val = 0; rw [congrFun (k0_off306_eq i k) 1]; show 0 + 1 * (x 1).val = _; omega
  | ⟨2, _⟩ => refine Fin.ext ?_; show (k0_off306 i k) 2 + 1 * (x 2).val = (x 2).val % 128; rw [congrFun (k0_off306_eq i k) 2]; show 0 + 1 * (x 2).val = _; omega

theorem amOf_readAt (f15 : BufTy.Contents (Elt F) arg15.view.ty) :
    View.readAt (Elt F) arg15.view (Rect.unit (s := S128x8x128) (k0_off308 i) S1x8x128.size (k0_off308_inb i)).toLoadRect f15
      = amOf (arg15.view.read (Elt F) f15) (i 1).val := by
  funext x
  have hi : (i 1).val < 128 := (i 1).isLt
  have h0 : (x 0).val < 1 := (x 0).isLt
  have h1 : (x 1).val < 8 := (x 1).isLt
  have h2 : (x 2).val < 128 := (x 2).isLt
  show arg15.view.read (Elt F) f15 _ = arg15.view.read (Elt F) f15 _
  have e := k0_off308_eq i
  congr 1
  funext a
  match a with
  | ⟨0, _⟩ => refine Fin.ext ?_; show (k0_off308 i) 0 + 1 * (x 0).val = (i 1).val % 128; rw [congrFun (k0_off308_eq i) 0]; show (i 1).val + 1 * (x 0).val = _; omega
  | ⟨1, _⟩ => refine Fin.ext ?_; show (k0_off308 i) 1 + 1 * (x 1).val = (x 1).val % 8; rw [congrFun (k0_off308_eq i) 1]; show 0 + 1 * (x 1).val = _; omega
  | ⟨2, _⟩ => refine Fin.ext ?_; show (k0_off308 i) 2 + 1 * (x 2).val = (x 2).val % 128; rw [congrFun (k0_off308_eq i) 2]; show 0 + 1 * (x 2).val = _; omega

/-- One row stored: read place by place. -/
theorem dotP_read (a0 : BitVec 32) (acc : FVec F S128x128 .f32) (k : Fin k0_t3_loop.trips) (f14 : BufTy.Contents (Elt F) arg14.view.ty) (y : S384x1x128.Idx) :
    arg14.view.read (Elt F) (arg14.view.writes (Elt F) f14 [dotP i arg14 a0 acc k f14]) y
      = if (y 0).val = 3 * (i 1).val + k.val then k0_pay632 a0 acc (rowOf (arg14.view.read (Elt F) f14) (y 0).val) (ix3 (0 : Fin 1) (0 : Fin 1) (Fin.ofNat 128 (y 2).val)) else arg14.view.read (Elt F) f14 y := by
  have hy1 : (y 1).val < 1 := (y 1).isLt
  have hy2 : (y 2).val < 128 := (y 2).isLt
  have H := laid_use (Val := Elt F) (v := arg14.view) (f := f14) (f' := arg14.view.writes (Elt F) f14 [dotP i arg14 a0 acc k f14])
    (G := fun y => k0_pay632 a0 acc (rowOf (arg14.view.read (Elt F) f14) (3 * (i 1).val + k.val)) (ix3 (0 : Fin 1) (0 : Fin 1) (Fin.ofNat 128 (y 2).val)))
    (off := fun _ : Unit => ![3 * (i 1).val + k.val, 0, 0]) (size := S1x1x128.size) (stride := fun _ => 1) (is := [()]) rfl
    ⟨⟨k0_off306_eq i k, rfl, rfl, fun x => by
      have h0 : (x 0).val < 1 := (x 0).isLt
      have h1 : (x 1).val < 1 := (x 1).isLt
      have h2 : (x 2).val < 128 := (x 2).isLt
      show k0_pay632 a0 acc (View.readAt (Elt F) arg14.view (Rect.unit (s := S384x1x128) (k0_off306 i k) S1x1x128.size (k0_off306_inb i k)).toLoadRect f14) x = _
      rw [rowOf_readAt]
      show _ = k0_pay632 a0 acc _ _
      congr 1
      funext a
      match a with
      | ⟨0, _⟩ => exact Fin.ext (by show (x 0).val = 0; omega)
      | ⟨1, _⟩ => exact Fin.ext (by show (x 1).val = 0; omega)
      | ⟨2, _⟩ => refine Fin.ext ?_; show (x 2).val = ((k0_off306 i k) 2 + 1 * (x 2).val) % 128; rw [congrFun (k0_off306_eq i k) 2]; show _ = (0 + 1 * (x 2).val) % 128; omega⟩, trivial⟩
  by_cases h : (y 0).val = 3 * (i 1).val + k.val
  · rw [if_pos h, h]
    exact H.1 y () List.mem_cons_self fun a => match a with
      | ⟨0, _⟩ => ⟨0, (show 0 < 1 from Nat.zero_lt_one), by show (y 0).val = 3 * (i 1).val + k.val + 1 * 0; omega⟩
      | ⟨1, _⟩ => ⟨0, (show 0 < 1 from Nat.zero_lt_one), by show (y 1).val = 0 + 1 * 0; omega⟩
      | ⟨2, _⟩ => ⟨(y 2).val, hy2, by show (y 2).val = 0 + 1 * (y 2).val; omega⟩
  · rw [if_neg h]
    exact H.2 y fun _ _ => ⟨0, fun j hj => by have hj' : j < 1 := hj; show (y 0).val ≠ 3 * (i 1).val + k.val + 1 * j; omega⟩

theorem dsP_read (a0 : BitVec 32) (acc : FVec F S128x128 .f32) (k : Fin k0_t3_loop.trips) (X7 : BufTy.Contents (Elt F) arg7.view.ty) (f14 : BufTy.Contents (Elt F) arg14.view.ty)
    (f9 : BufTy.Contents (Elt F) arg9.view.ty) (y : S3x128x128.Idx) :
    arg9.view.read (Elt F) (arg9.view.writes (Elt F) f9 [dsP i arg7 arg14 a0 acc k X7 f14]) y
      = if (y 0).val = k.val ∧ (y 1).val = (i 1).val then k0_pay634 (k0_pay633 a0 acc (rowOf (arg14.view.read (Elt F) f14) (3 * (i 1).val + k.val)) (gosAt arg7 X7 k)) (ix3 (0 : Fin 1) (0 : Fin 1) (Fin.ofNat 128 (y 2).val)) else arg9.view.read (Elt F) f9 y := by
  have hy2 : (y 2).val < 128 := (y 2).isLt
  have H := laid_use (Val := Elt F) (v := arg9.view) (f := f9) (f' := arg9.view.writes (Elt F) f9 [dsP i arg7 arg14 a0 acc k X7 f14])
    (G := fun y => k0_pay634 (k0_pay633 a0 acc (rowOf (arg14.view.read (Elt F) f14) (3 * (i 1).val + k.val)) (gosAt arg7 X7 k)) (ix3 (0 : Fin 1) (0 : Fin 1) (Fin.ofNat 128 (y 2).val)))
    (off := fun _ : Unit => ![k.val, (i 1).val, 0]) (size := S1x1x128.size) (stride := fun _ => 1) (is := [()]) rfl
    ⟨⟨k0_off307_eq i k, rfl, rfl, fun x => by
      have h0 : (x 0).val < 1 := (x 0).isLt
      have h1 : (x 1).val < 1 := (x 1).isLt
      have h2 : (x 2).val < 128 := (x 2).isLt
      show k0_pay634 (k0_pay633 a0 acc (View.readAt (Elt F) arg14.view (Rect.unit (s := S384x1x128) (k0_off306 i k) S1x1x128.size (k0_off306_inb i k)).toLoadRect f14) _) x = _
      rw [rowOf_readAt]
      show _ = k0_pay634 _ _
      congr 1
      funext a
      match a with
      | ⟨0, _⟩ => exact Fin.ext (by show (x 0).val = 0; omega)
      | ⟨1, _⟩ => exact Fin.ext (by show (x 1).val = 0; omega)
      | ⟨2, _⟩ => refine Fin.ext ?_; show (x 2).val = ((k0_off307 i k) 2 + 1 * (x 2).val) % 128; rw [congrFun (k0_off307_eq i k) 2]; show _ = (0 + 1 * (x 2).val) % 128; omega⟩, trivial⟩
  by_cases h : (y 0).val = k.val ∧ (y 1).val = (i 1).val
  · rw [if_pos h]
    obtain ⟨h0, h1⟩ := h
    exact H.1 y () List.mem_cons_self fun a => match a with
      | ⟨0, _⟩ => ⟨0, (show 0 < 1 from Nat.zero_lt_one), by show (y 0).val = k.val + 1 * 0; omega⟩
      | ⟨1, _⟩ => ⟨0, (show 0 < 1 from Nat.zero_lt_one), by show (y 1).val = (i 1).val + 1 * 0; omega⟩
      | ⟨2, _⟩ => ⟨(y 2).val, hy2, by show (y 2).val = 0 + 1 * (y 2).val; omega⟩
  · rw [if_neg h]
    refine H.2 y fun _ _ => ?_
    by_cases h0 : (y 0).val = k.val
    · exact ⟨1, fun j hj => by have hj' : j < 1 := hj; show (y 1).val ≠ (i 1).val + 1 * j; omega⟩
    · exact ⟨0, fun j hj => by have hj' : j < 1 := hj; show (y 0).val ≠ k.val + 1 * j; omega⟩

theorem tripIv (k : Fin k0_t3_loop.trips) : Scalar.addi 0#32 (Scalar.muli (Scf.iv 0#32 1#32 k.val) 1#32) = BitVec.ofNat 32 k.val :=
  forK (P := fun k => Scalar.addi 0#32 (Scalar.muli (Scf.iv 0#32 1#32 k.val) 1#32) = BitVec.ofNat 32 k.val) (by decide) (by decide) (by decide) k

theorem amP_read (a0 : BitVec 32) (am : FVec F S8x128 .f32) (k : Fin k0_t3_loop.trips) (f15 : BufTy.Contents (Elt F) arg15.view.ty) (y : S128x8x128.Idx) :
    arg15.view.read (Elt F) (arg15.view.writes (Elt F) f15 [amP i arg15 a0 am k f15]) y
      = if (y 0).val = (i 1).val then k0_pay1 (k0_pay635 (BitVec.ofNat 32 k.val) am (Scalar.cmpi .eq a0 0#32) (amOf (arg15.view.read (Elt F) f15) (i 1).val)) (ix3 (0 : Fin 1) (Fin.ofNat 8 (y 1).val) (Fin.ofNat 128 (y 2).val)) else arg15.view.read (Elt F) f15 y := by
  have hy1 : (y 1).val < 8 := (y 1).isLt
  have hy2 : (y 2).val < 128 := (y 2).isLt
  have H := laid_use (Val := Elt F) (v := arg15.view) (f := f15) (f' := arg15.view.writes (Elt F) f15 [amP i arg15 a0 am k f15])
    (G := fun y => k0_pay1 (k0_pay635 (BitVec.ofNat 32 k.val) am (Scalar.cmpi .eq a0 0#32) (amOf (arg15.view.read (Elt F) f15) (i 1).val)) (ix3 (0 : Fin 1) (Fin.ofNat 8 (y 1).val) (Fin.ofNat 128 (y 2).val)))
    (off := fun _ : Unit => ![(i 1).val, 0, 0]) (size := S1x8x128.size) (stride := fun _ => 1) (is := [()]) rfl
    ⟨⟨k0_off308_eq i, rfl, rfl, fun x => by
      have h0 : (x 0).val < 1 := (x 0).isLt
      have h1 : (x 1).val < 8 := (x 1).isLt
      have h2 : (x 2).val < 128 := (x 2).isLt
      show k0_pay1 (k0_pay635 (Scalar.addi 0#32 (Scalar.muli (Scf.iv 0#32 1#32 k.val) 1#32)) am (Scalar.cmpi .eq a0 0#32) (View.readAt (Elt F) arg15.view (Rect.unit (s := S128x8x128) (k0_off308 i) S1x8x128.size (k0_off308_inb i)).toLoadRect f15)) x = _
      rw [amOf_readAt, tripIv]
      show _ = k0_pay1 _ _
      congr 1
      funext a
      match a with
      | ⟨0, _⟩ => exact Fin.ext (by show (x 0).val = 0; omega)
      | ⟨1, _⟩ => refine Fin.ext ?_; show (x 1).val = ((k0_off308 i) 1 + 1 * (x 1).val) % 8; rw [congrFun (k0_off308_eq i) 1]; show _ = (0 + 1 * (x 1).val) % 8; omega
      | ⟨2, _⟩ => refine Fin.ext ?_; show (x 2).val = ((k0_off308 i) 2 + 1 * (x 2).val) % 128; rw [congrFun (k0_off308_eq i) 2]; show _ = (0 + 1 * (x 2).val) % 128; omega⟩, trivial⟩
  by_cases h : (y 0).val = (i 1).val
  · rw [if_pos h]
    exact H.1 y () List.mem_cons_self fun a => match a with
      | ⟨0, _⟩ => ⟨0, (show 0 < 1 from Nat.zero_lt_one), by show (y 0).val = (i 1).val + 1 * 0; omega⟩
      | ⟨1, _⟩ => ⟨(y 1).val, hy1, by show (y 1).val = 0 + 1 * (y 1).val; omega⟩
      | ⟨2, _⟩ => ⟨(y 2).val, hy2, by show (y 2).val = 0 + 1 * (y 2).val; omega⟩
  · rw [if_neg h]
    exact H.2 y fun _ _ => ⟨0, fun j hj => by have hj' : j < 1 := hj; show (y 0).val ≠ (i 1).val + 1 * j; omega⟩

/-! ## The invariant -/

variable (X3 : BufTy.Contents (Elt F) arg3.view.ty) (X4 : BufTy.Contents (Elt F) arg4.view.ty) (X5 : BufTy.Contents (Elt F) arg5.view.ty)
  (X7 : BufTy.Contents (Elt F) arg7.view.ty) (X11 : BufTy.Contents (Elt F) arg11.view.ty)

/-- Block `b`'s product with the forward pass's codes, and its maxima. -/
def accB (b : Nat) : FVec F S128x128 .f32 := accT (tripW arg5 arg11 X5 X11 (kf b)) (oRows arg3 X3 (kf b))
def amB (b : Nat) : FVec F S8x128 .f32 := amT (mCol arg4 X4 (kf b)) (tripW arg5 arg11 X5 X11 (kf b))
/-- The staging buffer of d_out. -/
def outB (y : S1x384x2048.Idx) : Elt F .fp8e5m2 :=
  outG v4 (mCol arg4 X4 (kf ((y 1).val / 128))) (tripW arg5 arg11 X5 X11 (kf ((y 1).val / 128))) ((y 1).val / 128) y

/-- After `k` blocks: d_out's rows below `128 k`; -/
def P8 (g8 : BufTy.Contents (Elt F) arg8.view.ty) (k : Nat) (f8 : BufTy.Contents (Elt F) arg8.view.ty) : Prop :=
  ∀ y : S1x384x2048.Idx, arg8.view.read (Elt F) f8 y = if (y 1).val < 128 * k then outB arg4 arg5 arg11 v4 X4 X5 X11 y else arg8.view.read (Elt F) g8 y
/-- the expert's rows of dscore; -/
def P9 (g14 : BufTy.Contents (Elt F) arg14.view.ty) (g9 : BufTy.Contents (Elt F) arg9.view.ty) (k : Nat) (f9 : BufTy.Contents (Elt F) arg9.view.ty) : Prop :=
  ∀ y : S3x128x128.Idx, arg9.view.read (Elt F) f9 y
    = if (y 0).val < k ∧ (y 1).val = (i 1).val then
        k0_pay634 (k0_pay633 (BitVec.ofNat 32 (i 0).val) (accB arg3 arg5 arg11 X3 X5 X11 (y 0).val) (rowOf (arg14.view.read (Elt F) g14) (3 * (i 1).val + (y 0).val)) (gosAt arg7 X7 (kf (y 0).val))) (ix3 (0 : Fin 1) (0 : Fin 1) (Fin.ofNat 128 (y 2).val))
      else arg9.view.read (Elt F) g9 y
/-- the expert's rows of the dot accumulator; -/
def P14 (g14 : BufTy.Contents (Elt F) arg14.view.ty) (k : Nat) (f14 : BufTy.Contents (Elt F) arg14.view.ty) : Prop :=
  ∀ y : S384x1x128.Idx, arg14.view.read (Elt F) f14 y
    = if 3 * (i 1).val ≤ (y 0).val ∧ (y 0).val < 3 * (i 1).val + k then
        k0_pay632 (BitVec.ofNat 32 (i 0).val) (accB arg3 arg5 arg11 X3 X5 X11 ((y 0).val - 3 * (i 1).val)) (rowOf (arg14.view.read (Elt F) g14) (y 0).val) (ix3 (0 : Fin 1) (0 : Fin 1) (Fin.ofNat 128 (y 2).val))
      else arg14.view.read (Elt F) g14 y
/-- and its tile of maxima. -/
def P15 (g15 : BufTy.Contents (Elt F) arg15.view.ty) (k : Nat) (f15 : BufTy.Contents (Elt F) arg15.view.ty) : Prop :=
  ∀ y : S128x8x128.Idx, arg15.view.read (Elt F) f15 y
    = if (y 0).val = (i 1).val then
        amIter (BitVec.ofNat 32 (i 0).val) (amB arg4 arg5 arg11 X4 X5 X11) (amOf (arg15.view.read (Elt F) g15) (i 1).val) k (ix3 (0 : Fin 1) (Fin.ofNat 8 (y 1).val) (Fin.ofNat 128 (y 2).val))
      else arg15.view.read (Elt F) g15 y

variable (g8 : BufTy.Contents (Elt F) arg8.view.ty) (g9 : BufTy.Contents (Elt F) arg9.view.ty)
  (g14 : BufTy.Contents (Elt F) arg14.view.ty) (g15 : BufTy.Contents (Elt F) arg15.view.ty)

theorem P8_zero : P8 arg4 arg5 arg8 arg11 v4 X4 X5 X11 g8 0 g8 := fun y => by rw [if_neg (by omega)]
theorem P9_zero : P9 i arg3 arg5 arg7 arg9 arg11 arg14 X3 X5 X7 X11 g14 g9 0 g9 := fun y => by rw [if_neg (by omega)]
theorem P14_zero : P14 i arg3 arg5 arg11 arg14 X3 X5 X11 g14 0 g14 := fun y => by rw [if_neg (by omega)]
theorem P15_zero : P15 i arg4 arg5 arg11 arg15 X4 X5 X11 g15 0 g15 := fun y => by
  have hi : (i 1).val < 128 := (i 1).isLt
  by_cases h : (y 0).val = (i 1).val
  · rw [if_pos h]
    show _ = arg15.view.read (Elt F) g15 _
    congr 1
    funext a
    have hy1 : (y 1).val < 8 := (y 1).isLt
    have hy2 : (y 2).val < 128 := (y 2).isLt
    match a with
    | ⟨0, _⟩ => refine Fin.ext ?_; show (y 0).val = (i 1).val % 128; omega
    | ⟨1, _⟩ => refine Fin.ext ?_; show (y 1).val = ((y 1).val % 8) % 8; omega
    | ⟨2, _⟩ => refine Fin.ext ?_; show (y 2).val = ((y 2).val % 128) % 128; omega
  · rw [if_neg h]

theorem P8_succ (k : Fin k0_t3_loop.trips) (f8 f8' : BufTy.Contents (Elt F) arg8.view.ty) (H : P8 arg4 arg5 arg8 arg11 v4 X4 X5 X11 g8 k.val f8)
    (h1 : ∀ y : S1x384x2048.Idx, 128 * k.val ≤ (y 1).val → (y 1).val < 128 * k.val + 128 → arg8.view.read (Elt F) f8' y = outG v4 (mCol arg4 X4 k) (tripW arg5 arg11 X5 X11 k) k.val y)
    (h2 : ∀ y : S1x384x2048.Idx, (y 1).val < 128 * k.val ∨ 128 * k.val + 128 ≤ (y 1).val → arg8.view.read (Elt F) f8' y = arg8.view.read (Elt F) f8 y) :
    P8 arg4 arg5 arg8 arg11 v4 X4 X5 X11 g8 (k.val + 1) f8' := fun y => by
  by_cases ha : (y 1).val < 128 * k.val
  · rw [h2 y (.inl ha), H y, if_pos ha, if_pos (by omega)]
  · by_cases hb : (y 1).val < 128 * k.val + 128
    · rw [h1 y (by omega) hb, if_pos (by omega)]
      unfold outB
      rw [show (y 1).val / 128 = k.val by omega, kf_val]
    · rw [h2 y (.inr (by omega)), H y, if_neg ha, if_neg (by omega)]

theorem rowOf_congr {g g' : S384x1x128.Idx → Elt F .f32} {r : Nat} (hr : r < 384) (h : ∀ y : S384x1x128.Idx, (y 0).val = r → g y = g' y) : rowOf g r = rowOf g' r := by
  funext x; exact h _ (Nat.mod_eq_of_lt hr)

theorem P14_row (k : Fin k0_t3_loop.trips) (f14 : BufTy.Contents (Elt F) arg14.view.ty) (H : P14 i arg3 arg5 arg11 arg14 X3 X5 X11 g14 k.val f14) :
    rowOf (arg14.view.read (Elt F) f14) (3 * (i 1).val + k.val) = rowOf (arg14.view.read (Elt F) g14) (3 * (i 1).val + k.val) := by
  have hi : (i 1).val < 128 := (i 1).isLt
  have hk : k.val < 3 := Nat.lt_of_lt_of_le k.isLt k0_t3_abs.2.1
  exact rowOf_congr (by omega) fun y hy => by rw [H y, if_neg (by omega)]

theorem P14_succ (k : Fin k0_t3_loop.trips) (f14 : BufTy.Contents (Elt F) arg14.view.ty) (H : P14 i arg3 arg5 arg11 arg14 X3 X5 X11 g14 k.val f14) :
    P14 i arg3 arg5 arg11 arg14 X3 X5 X11 g14 (k.val + 1)
      (arg14.view.writes (Elt F) f14 [dotP i arg14 (BitVec.ofNat 32 (i 0).val) (accT (tripW arg5 arg11 X5 X11 k) (oRows arg3 X3 k)) k f14]) := fun y => by
  rw [dotP_read]
  by_cases h : (y 0).val = 3 * (i 1).val + k.val
  · rw [if_pos h, if_pos (by omega), show (y 0).val - 3 * (i 1).val = k.val by omega]
    unfold accB; rw [kf_val, h, P14_row i arg3 arg5 arg11 arg14 X3 X5 X11 g14 k f14 H]
  · rw [if_neg h, H y]
    by_cases hb : 3 * (i 1).val ≤ (y 0).val ∧ (y 0).val < 3 * (i 1).val + k.val
    · rw [if_pos hb, if_pos (by omega)]
    · rw [if_neg hb, if_neg (by omega)]

theorem P9_succ (k : Fin k0_t3_loop.trips) (f14 : BufTy.Contents (Elt F) arg14.view.ty) (f9 : BufTy.Contents (Elt F) arg9.view.ty) (H14 : P14 i arg3 arg5 arg11 arg14 X3 X5 X11 g14 k.val f14)
    (H : P9 i arg3 arg5 arg7 arg9 arg11 arg14 X3 X5 X7 X11 g14 g9 k.val f9) :
    P9 i arg3 arg5 arg7 arg9 arg11 arg14 X3 X5 X7 X11 g14 g9 (k.val + 1)
      (arg9.view.writes (Elt F) f9 [dsP i arg7 arg14 (BitVec.ofNat 32 (i 0).val) (accT (tripW arg5 arg11 X5 X11 k) (oRows arg3 X3 k)) k X7 f14]) := fun y => by
  rw [dsP_read]
  by_cases h : (y 0).val = k.val ∧ (y 1).val = (i 1).val
  · rw [if_pos h, if_pos (by omega), P14_row i arg3 arg5 arg11 arg14 X3 X5 X11 g14 k f14 H14]
    unfold accB; rw [h.1, kf_val]
  · rw [if_neg h, H y]
    by_cases hb : (y 0).val < k.val ∧ (y 1).val = (i 1).val
    · rw [if_pos hb, if_pos (by omega)]
    · rw [if_neg hb, if_neg (by omega)]

theorem P15_succ (k : Fin k0_t3_loop.trips) (f15 : BufTy.Contents (Elt F) arg15.view.ty) (H : P15 i arg4 arg5 arg11 arg15 X4 X5 X11 g15 k.val f15) :
    P15 i arg4 arg5 arg11 arg15 X4 X5 X11 g15 (k.val + 1)
      (arg15.view.writes (Elt F) f15 [amP i arg15 (BitVec.ofNat 32 (i 0).val) (amT (mCol arg4 X4 k) (tripW arg5 arg11 X5 X11 k)) k f15]) := fun y => by
  have hi : (i 1).val < 128 := (i 1).isLt
  rw [amP_read]
  by_cases h : (y 0).val = (i 1).val
  · rw [if_pos h, if_pos h]
    have e : amOf (arg15.view.read (Elt F) f15) (i 1).val = amIter (BitVec.ofNat 32 (i 0).val) (amB arg4 arg5 arg11 X4 X5 X11) (amOf (arg15.view.read (Elt F) g15) (i 1).val) k.val := by
      funext x
      show arg15.view.read (Elt F) f15 _ = _
      refine (H _).trans ((if_pos (Nat.mod_eq_of_lt hi)).trans ?_)
      congr 1
      funext a
      have h0 : (x 0).val < 1 := (x 0).isLt
      have h1 : (x 1).val < 8 := (x 1).isLt
      have h2 : (x 2).val < 128 := (x 2).isLt
      match a with
      | ⟨0, _⟩ => refine Fin.ext ?_; show 0 = (x 0).val; omega
      | ⟨1, _⟩ => refine Fin.ext ?_; show ((x 1).val % 8) % 8 = (x 1).val; omega
      | ⟨2, _⟩ => refine Fin.ext ?_; show ((x 2).val % 128) % 128 = (x 2).val; omega
    rw [e]
    show _ = k0_pay1 (k0_pay635 (BitVec.ofNat 32 k.val) (amB arg4 arg5 arg11 X4 X5 X11 k.val) (Scalar.cmpi .eq (BitVec.ofNat 32 (i 0).val) 0#32) _) _
    unfold amB; rw [kf_val]
  · rw [if_neg h, H y, if_neg h, if_neg h]

/-- What the loop holds before trip `k`. -/
def inv3 (k : Nat) (_ : Unit) : sProp 𝕄 :=
  iprop((arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (arg7.view.loc (c : Thread nD τ) ↦[arg7.view.set]{fullShare} X7)
    ∗ (arg11.view.loc (c : Thread nD τ) ↦[arg11.view.set]{fullShare} X11)
    ∗ (∃ f8, ⌜P8 arg4 arg5 arg8 arg11 v4 X4 X5 X11 g8 k f8⌝ ∗ (arg8.view.loc (c : Thread nD τ) ↦[arg8.view.set]{fullShare} f8))
    ∗ (∃ f9, ⌜P9 i arg3 arg5 arg7 arg9 arg11 arg14 X3 X5 X7 X11 g14 g9 k f9⌝ ∗ (arg9.view.loc (c : Thread nD τ) ↦[arg9.view.set]{fullShare} f9))
    ∗ (∃ f13, (arg13.view.loc (c : Thread nD τ) ↦[arg13.view.set]{fullShare} f13))
    ∗ (∃ f14, ⌜P14 i arg3 arg5 arg11 arg14 X3 X5 X11 g14 k f14⌝ ∗ (arg14.view.loc (c : Thread nD τ) ↦[arg14.view.set]{fullShare} f14))
    ∗ (∃ f15, ⌜P15 i arg4 arg5 arg11 arg15 X4 X5 X11 g15 k f15⌝ ∗ (arg15.view.loc (c : Thread nD τ) ↦[arg15.view.set]{fullShare} f15)))

/-- One trip keeps it. -/
theorem inv3_step (hchk : ∀ off h, k0_chk1 (rowsAt arg5 X5 off h)) (k : Fin k0_t3_loop.trips) (u : Unit) :
    inv3 c i arg3 arg4 arg5 arg7 arg8 arg9 arg11 arg13 arg14 arg15 v4 X3 X4 X5 X7 X11 g8 g9 g14 g15 k.val u
      ⊢ wp frame (wpE (defs₀ (F := F)) 𝒱₀ (c : Thread nD τ) none) Set.univ
          (trip3G i arg3 harg3 arg4 harg4 arg5 harg5 arg6 harg6 arg7 harg7 arg8 harg8 arg9 harg9 arg10 harg10 arg11 harg11 arg13 harg13 arg14 harg14 arg15 harg15 v4 k)
          (inv3 c i arg3 arg4 arg5 arg7 arg8 arg9 arg11 arg13 arg14 arg15 v4 X3 X4 X5 X7 X11 g8 g9 g14 g15 (k.val + 1)) := by
  unfold inv3
  iintro ⟨H3, H4, H5, H7, H11, ⟨%f8, %h8, H8⟩, ⟨%f9, %h9, H9⟩, ⟨%f13, H13⟩, ⟨%f14, %h14, H14⟩, ⟨%f15, %h15, H15⟩⟩
  iapply (wp_wand_r Idealize.ShloMosaic.frame (wpE (defs₀ (F := F)) 𝒱₀ (c : Thread nD τ) none) Set.univ)
  isplitl [H3 H4 H5 H7 H11 H8 H9 H13 H14 H15]
  · iapply (trip3 c i arg3 harg3 arg4 harg4 arg5 harg5 arg6 harg6 arg7 harg7 arg8 harg8 arg9 harg9 arg10 harg10 arg11 harg11 arg13 harg13 arg14 harg14 arg15 harg15 v4 X3 X4 X5 X7 X11 k hchk f8 f9 f13 f14 f15)
    isplitl [H3]; · iexact H3
    isplitl [H4]; · iexact H4
    isplitl [H5]; · iexact H5
    isplitl [H7]; · iexact H7
    isplitl [H11]; · iexact H11
    isplitl [H8]; · iexact H8
    isplitl [H9]; · iexact H9
    isplitl [H13]; · iexact H13
    isplitl [H14]; · iexact H14
    iexact H15
  · iintro %_ ⟨%g, %f8', %hp, H3, H4, H5, H7, H11, H8, H9, H13, H14, H15⟩
    isplitl [H3]; · iexact H3
    isplitl [H4]; · iexact H4
    isplitl [H5]; · iexact H5
    isplitl [H7]; · iexact H7
    isplitl [H11]; · iexact H11
    isplitl [H8]
    · iexists f8'; isplitr
      · ipureintro; exact P8_succ arg4 arg5 arg8 arg11 v4 X4 X5 X11 g8 k f8 f8' h8 hp.1 hp.2
      iexact H8
    isplitl [H9]
    · iexists _; isplitr
      rotate_left
      · iexact H9
      ipureintro; exact P9_succ i arg3 arg5 arg7 arg9 arg11 arg14 X3 X5 X7 X11 g9 g14 k f14 f9 h14 h9
    isplitl [H13]; · iexists g; iexact H13
    isplitl [H14]
    · iexists _; isplitr
      rotate_left
      · iexact H14
      ipureintro; exact P14_succ i arg3 arg5 arg11 arg14 X3 X5 X11 g14 k f14 h14
    iexists _; isplitr
    rotate_left
    · iexact H15
    ipureintro; exact P15_succ i arg4 arg5 arg11 arg15 X4 X5 X11 g15 k f15 h15

end Loop3
end Cert.KernelIdeal.Run
-- ==== Proof.KI.Body.lean ====
/-
  The whole body at one grid point: the filling of the table at the first expert of a chunk, the scale read, the three
  blocks, and the maxima at the last point.
-/
module

public import proofs.«01_k».proof.Proof.KI.Ring2
public import proofs.«01_k».proof.Proof.KI.Loop3

@[expose] public section

set_option maxRecDepth 16384
set_option maxHeartbeats 4000000

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UU nD τ) ℕ

section Body
variable (c : Dev nD) (i : grid0.Coords)
  (arg3 : Memref sig .tc .vmem S1x384x2048 .fp8e4m3) (harg3 : arg3.IsWhole) (arg4 : Memref sig .tc .vmem S1x3x128 .f32) (harg4 : arg4.IsWhole)
  (arg5 : Memref sig .tc .smem S1x1x384 .i32) (harg5 : arg5.IsWhole) (arg6 : Memref sig .tc .smem S1x128 .f32) (harg6 : arg6.IsWhole)
  (arg7 : Memref sig .tc .vmem S1x3x128 .f32) (harg7 : arg7.IsWhole) (arg8 : Memref sig .tc .vmem S1x384x2048 .fp8e5m2) (harg8 : arg8.IsWhole)
  (arg9 : Memref sig .tc .vmem S3x128x128 .f32) (harg9 : arg9.IsWhole) (arg10 : Memref sig .tc .vmem S1x128 .f32) (harg10 : arg10.IsWhole)
  (arg11 : Memref sig .tc .vmem S98304x128 .i32) (harg11 : arg11.IsWhole) (arg13 : Memref sig .tc .vmem S512x128 .i32) (harg13 : arg13.IsWhole)
  (arg14 : Memref sig .tc .vmem S384x1x128 .f32) (harg14 : arg14.IsWhole) (arg15 : Memref sig .tc .vmem S128x8x128 .f32) (harg15 : arg15.IsWhole)

abbrev bodyG : Prog (TpuEff nD τ sig (Elt F) Λ₀ .tc) PUnit :=
  cc0_dout_quant (F := F) i dyM (Memref.isWhole_whole _) arg3 harg3 arg4 harg4 arg5 harg5 arg6 harg6 arg7 harg7 arg8 harg8 arg9 harg9 arg10 harg10 arg11 harg11 rawM (Memref.isWhole_whole _) arg13 harg13 arg14 harg14 arg15 harg15 cc0_scratch5

/-- The loop over the expert's three blocks. -/
def loop3G (v4 : Elt F .f32) : Prog (TpuEff nD τ sig (Elt F) Λ₀ .tc) Unit :=
  Scf.Loop.for k0_t3_loop k0_t3_ok ⟨⟩ (k0_t3_body (F := F) i dyM (Memref.isWhole_whole _) arg3 harg3 arg4 harg4 arg5 harg5 arg6 harg6 arg7 harg7 arg8 harg8 arg9 harg9 arg10 harg10 arg11 harg11 rawM (Memref.isWhole_whole _) arg13 harg13 arg14 harg14 arg15 harg15 cc0_scratch5 (BitVec.ofNat 32 (i 0).val) (BitVec.ofNat 32 (i 1).val) v4)

/-- The expert's scale. -/
def scaleG : Prog (TpuEff nD τ sig (Elt F) Λ₀ .tc) (Elt F .f32) :=
  smemLoad arg6 (Rect.unit (s := S1x128) (k0_off28 i) S1x1.size (k0_off28_inb i)) numel1_S1x1 rfl
/-- The maxima, at the last point. -/
def finalG : Prog (TpuEff nD τ sig (Elt F) Λ₀ .tc) PUnit := do
  if h3 : k0_cond3 i = 1#1 then do
    let v11 : Vec F S128x8x128 .f32 ← Prog.lift (.load arg15 (Rect.unit (s := S128x8x128) ![0, 0, 0] S128x8x128.size inb_S128x8x128_S128x8x128_0_0_0).toLoadRect (View.loadsAt_vmem h_S128x8x128))
    let v16 : Vec F S1x128 .f32 ← Prog.lift (.load arg10 (Rect.unit (s := S1x128) ![0, 0] S1x128.size inb_S1x128_S1x128_0_0).toLoadRect (View.loadsAt_vmem h_S1x128))
    Prog.lift (.store arg10 (Rect.unit (s := S1x128) ![0, 0] S1x128.size inb_S1x128_S1x128_0_0) (k0_pay2 v11) Finset.univ (View.stores_vmem_bits_univ h_S1x128 rfl) (.inl rfl))
    pure ⟨⟩
  else do
    pure ⟨⟩
  pure ⟨⟩

theorem body_yes (h1 : k0_cond1 i = 1#1) : (bodyG i arg3 harg3 arg4 harg4 arg5 harg5 arg6 harg6 arg7 harg7 arg8 harg8 arg9 harg9 arg10 harg10 arg11 harg11 arg13 harg13 arg14 harg14 arg15 harg15 : Prog (TpuEff nD τ sig (Elt F) Λ₀ .tc) PUnit)
    = (part17G i arg3 harg3 arg4 harg4 arg5 harg5 arg6 harg6 arg7 harg7 arg8 harg8 arg9 harg9 arg10 harg10 arg11 harg11 arg13 harg13 arg14 harg14 arg15 harg15 h1 >>= fun v => loop1G i arg3 harg3 arg4 harg4 arg5 harg5 arg6 harg6 arg7 harg7 arg8 harg8 arg9 harg9 arg10 harg10 arg11 harg11 arg13 harg13 arg14 harg14 arg15 harg15 h1 v.1 v.2 >>= fun _ => scaleG i arg6 >>= fun v4 =>
        loop3G i arg3 harg3 arg4 harg4 arg5 harg5 arg6 harg6 arg7 harg7 arg8 harg8 arg9 harg9 arg10 harg10 arg11 harg11 arg13 harg13 arg14 harg14 arg15 harg15 v4 >>= fun _ => finalG i arg10 arg15) := by
  rw [bodyG, cc0_dout_quant_eq_skeleton]
  unfold cc0_dout_quant_skel loop1G loop3G scaleG finalG
  simp only [dif_pos h1]

theorem body_no (h1 : ¬ k0_cond1 i = 1#1) : (bodyG i arg3 harg3 arg4 harg4 arg5 harg5 arg6 harg6 arg7 harg7 arg8 harg8 arg9 harg9 arg10 harg10 arg11 harg11 arg13 harg13 arg14 harg14 arg15 harg15 : Prog (TpuEff nD τ sig (Elt F) Λ₀ .tc) PUnit)
    = (scaleG i arg6 >>= fun v4 => loop3G i arg3 harg3 arg4 harg4 arg5 harg5 arg6 harg6 arg7 harg7 arg8 harg8 arg9 harg9 arg10 harg10 arg11 harg11 arg13 harg13 arg14 harg14 arg15 harg15 v4 >>= fun _ => finalG i arg10 arg15) := by
  rw [bodyG, cc0_dout_quant_eq_skeleton]
  unfold cc0_dout_quant_skel loop3G scaleG finalG
  simp only [dif_neg h1]

/-- The expert's scale as read. -/
def scaleOf (X6 : BufTy.Contents (Elt F) arg6.view.ty) : Elt F .f32 := arg6.view.read (Elt F) X6 (ix2 (0 : Fin 1) (i 1))

/-- What a point leaves. -/
def RestP (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (T : BufTy.Contents (Elt F) arg11.view.ty)
    (g8 : BufTy.Contents (Elt F) arg8.view.ty) (g9 : BufTy.Contents (Elt F) arg9.view.ty) (g14 : BufTy.Contents (Elt F) arg14.view.ty) (g15 : BufTy.Contents (Elt F) arg15.view.ty)
    (f8 : BufTy.Contents (Elt F) arg8.view.ty) (f9 : BufTy.Contents (Elt F) arg9.view.ty) (f10 : BufTy.Contents (Elt F) arg10.view.ty) (f14 : BufTy.Contents (Elt F) arg14.view.ty) (f15 : BufTy.Contents (Elt F) arg15.view.ty) : Prop :=
  P8 arg4 arg5 arg8 arg11 (scaleOf i arg6 X6) X4 X5 T g8 3 f8
    ∧ P9 i arg3 arg5 arg7 arg9 arg11 arg14 X3 X5 X7 T g14 g9 3 f9
    ∧ P14 i arg3 arg5 arg11 arg14 X3 X5 T g14 3 f14
    ∧ P15 i arg4 arg5 arg11 arg15 X4 X5 T g15 3 f15
    ∧ (k0_cond3 i = 1#1 → arg10.view.read (Elt F) f10 = k0_pay2 (arg15.view.read (Elt F) f15))

variable (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (T : BufTy.Contents (Elt F) arg11.view.ty)
    (g8 : BufTy.Contents (Elt F) arg8.view.ty) (g9 : BufTy.Contents (Elt F) arg9.view.ty) (g10 : BufTy.Contents (Elt F) arg10.view.ty) (g13 : BufTy.Contents (Elt F) arg13.view.ty) (g14 : BufTy.Contents (Elt F) arg14.view.ty) (g15 : BufTy.Contents (Elt F) arg15.view.ty)

theorem scaleL : (arg6.view.loc (c : Thread nD τ) ↦[arg6.view.set]{fullShare} X6) ⊢ (wp frame (wpE (defs₀ (F := F)) 𝒱₀ (c : Thread nD τ) none) Set.univ (scaleG i arg6)
    (fun v => iprop(⌜v = scaleOf i arg6 X6⌝ ∗ (arg6.view.loc (c : Thread nD τ) ↦[arg6.view.set]{fullShare} X6))) : sProp 𝕄) := by
  iintro H6
  sl_unfold [scaleG]
  sl_exec
  sl_step
  isplitr
  · ipureintro
    show arg6.view.read (Elt F) X6 _ = _
    unfold scaleOf
    congr 1
    have hi : (i 1).val < 128 := (i 1).isLt
    funext a
    match a with
    | ⟨0, _⟩ => rfl
    | ⟨1, _⟩ => refine Fin.ext ?_; show (k0_off28 i) 1 + 1 * 0 = (i 1).val; show (BitVec.ofNat 32 (i 1).val).toNat + 1 * 0 = (i 1).val; rw [BitVec.toNat_ofNat]; omega
  iexact H6

set_option maxRecDepth 65536 in
theorem loop3L (v4 : Elt F .f32) (hchk : ∀ off h, k0_chk1 (rowsAt arg5 X5 off h)) :
    inv3 c i arg3 arg4 arg5 arg7 arg8 arg9 arg11 arg13 arg14 arg15 v4 X3 X4 X5 X7 T g8 g9 g14 g15 0 ()
      ⊢ (wp frame (wpE (defs₀ (F := F)) 𝒱₀ (c : Thread nD τ) none) Set.univ (loop3G i arg3 harg3 arg4 harg4 arg5 harg5 arg6 harg6 arg7 harg7 arg8 harg8 arg9 harg9 arg10 harg10 arg11 harg11 arg13 harg13 arg14 harg14 arg15 harg15 v4)
      (inv3 c i arg3 arg4 arg5 arg7 arg8 arg9 arg11 arg13 arg14 arg15 v4 X3 X4 X5 X7 T g8 g9 g14 g15 3) : sProp 𝕄) := by
  unfold loop3G
  have hb : ∀ (k : Fin k0_t3_loop.trips) (u : Unit), inv3 c i arg3 arg4 arg5 arg7 arg8 arg9 arg11 arg13 arg14 arg15 v4 X3 X4 X5 X7 T g8 g9 g14 g15 k.val u
      ⊢ wp Idealize.ShloMosaic.frame (wpE (defs₀ (F := F)) 𝒱₀ (c : Thread nD τ) none) Set.univ
          (k0_t3_body (F := F) i dyM (Memref.isWhole_whole _) arg3 harg3 arg4 harg4 arg5 harg5 arg6 harg6 arg7 harg7 arg8 harg8 arg9 harg9 arg10 harg10 arg11 harg11 rawM (Memref.isWhole_whole _) arg13 harg13 arg14 harg14 arg15 harg15 cc0_scratch5 (BitVec.ofNat 32 (i 0).val) (BitVec.ofNat 32 (i 1).val) v4 k u)
          (inv3 c i arg3 arg4 arg5 arg7 arg8 arg9 arg11 arg13 arg14 arg15 v4 X3 X4 X5 X7 T g8 g9 g14 g15 (k.val + 1)) := by
    intro k u
    have h := inv3_step c i arg3 harg3 arg4 harg4 arg5 harg5 arg6 harg6 arg7 harg7 arg8 harg8 arg9 harg9 arg10 harg10 arg11 harg11 arg13 harg13 arg14 harg14 arg15 harg15 v4 X3 X4 X5 X7 T g8 g9 g14 g15 hchk k ()
    exact h
  have hw := Scf.wp_for Idealize.ShloMosaic.frame (wpE (defs₀ (F := F)) 𝒱₀ (c : Thread nD τ) none) Set.univ k0_t3_loop.lb k0_t3_loop.ub k0_t3_loop.st k0_t3_ok () _ _ hb
    (Q := inv3 c i arg3 arg4 arg5 arg7 arg8 arg9 arg11 arg13 arg14 arg15 v4 X3 X4 X5 X7 T g8 g9 g14 g15 3)
  refine Idealize.SL.BI.BIBase.Entails.trans ?_ hw
  iintro H
  isplitl [H]; · iexact H
  iintro %_ H
  irw [← show k0_t3_loop.trips = 3 from by decide]
  iexact H

set_option maxRecDepth 65536 in
theorem finalL : iprop((arg10.view.loc (c : Thread nD τ) ↦[arg10.view.set]{fullShare} g10) ∗ (arg15.view.loc (c : Thread nD τ) ↦[arg15.view.set]{fullShare} g15)) ⊢ (wp frame (wpE (defs₀ (F := F)) 𝒱₀ (c : Thread nD τ) none) Set.univ (finalG i arg10 arg15)
    (fun _ => iprop(∃ f10, ⌜k0_cond3 i = 1#1 → arg10.view.read (Elt F) f10 = k0_pay2 (arg15.view.read (Elt F) g15)⌝ ∗ (arg10.view.loc (c : Thread nD τ) ↦[arg10.view.set]{fullShare} f10) ∗ (arg15.view.loc (c : Thread nD τ) ↦[arg15.view.set]{fullShare} g15))) : sProp 𝕄) := by
  iintro ⟨H10, H15⟩
  sl_unfold [finalG]
  rcases Classical.em (k0_cond3 i = 1#1) with h3 | h3
  · sl_exec
    sl_step
    iexists _
    isplitr
    rotate_left
    · isplitl [H10]; · iexact H10
      iexact H15
    ipureintro
    intro _
    funext y
    refine View.read_writes_apply_of_pieces arg10.view g10 (k0_pay2 (arg15.view.read (Elt F) g15)) _ (fun p hp x => ?_) y ⟨_, List.mem_cons_self, ?_⟩
    · rw [List.mem_singleton] at hp
      subst hp
      have e : (View.readAt (Elt F) arg15.view (Rect.unit (s := S128x8x128) ![0, 0, 0] S128x8x128.size inb_S128x8x128_S128x8x128_0_0_0).toLoadRect g15) = arg15.view.read (Elt F) g15 := by
        funext z
        refine congrArg (arg15.view.read (Elt F) g15) (funext fun a => ?_)
        match a with
        | ⟨0, _⟩ => exact Fin.ext (by show 0 + 1 * (z 0).val = (z 0).val; omega)
        | ⟨1, _⟩ => exact Fin.ext (by show 0 + 1 * (z 1).val = (z 1).val; omega)
        | ⟨2, _⟩ => exact Fin.ext (by show 0 + 1 * (z 2).val = (z 2).val; omega)
      refine (congrFun (congrArg (fun q => k0_pay2 (F := F) q) e) x).trans ?_
      refine congrArg (k0_pay2 (F := F) (arg15.view.read (Elt F) g15)) (funext fun a => ?_)
      match a with
      | ⟨0, _⟩ => exact Fin.ext (by show (x 0).val = 0 + 1 * (x 0).val; omega)
      | ⟨1, _⟩ => exact Fin.ext (by show (x 1).val = 0 + 1 * (x 1).val; omega)
    · rw [Rect.mem_set_unit]
      intro a
      have h0 : (y 0).val < 1 := (y 0).isLt
      have h1 : (y 1).val < 128 := (y 1).isLt
      match a with
      | ⟨0, _⟩ => show 0 ≤ (y 0).val ∧ (y 0).val < 0 + 1; omega
      | ⟨1, _⟩ => show 0 ≤ (y 1).val ∧ (y 1).val < 0 + 128; omega
  · sl_exec
    sl_step
    iexists g10
    isplitr
    · ipureintro; exact fun h => absurd h h3
    isplitl [H10]; · iexact H10
    iexact H15

theorem restRun (hchk : ∀ off h, k0_chk1 (rowsAt arg5 X5 off h)) :
    iprop((arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} X6)
    ∗ (arg7.view.loc (c : Thread nD τ) ↦[arg7.view.set]{fullShare} X7)
    ∗ (arg11.view.loc (c : Thread nD τ) ↦[arg11.view.set]{fullShare} T)
    ∗ (arg8.view.loc (c : Thread nD τ) ↦[arg8.view.set]{fullShare} g8)
    ∗ (arg9.view.loc (c : Thread nD τ) ↦[arg9.view.set]{fullShare} g9)
    ∗ (arg10.view.loc (c : Thread nD τ) ↦[arg10.view.set]{fullShare} g10)
    ∗ (arg13.view.loc (c : Thread nD τ) ↦[arg13.view.set]{fullShare} g13)
    ∗ (arg14.view.loc (c : Thread nD τ) ↦[arg14.view.set]{fullShare} g14)
    ∗ (arg15.view.loc (c : Thread nD τ) ↦[arg15.view.set]{fullShare} g15))
    ⊢ (wp frame (wpE (defs₀ (F := F)) 𝒱₀ (c : Thread nD τ) none) Set.univ
        (scaleG i arg6 >>= fun v4 => loop3G i arg3 harg3 arg4 harg4 arg5 harg5 arg6 harg6 arg7 harg7 arg8 harg8 arg9 harg9 arg10 harg10 arg11 harg11 arg13 harg13 arg14 harg14 arg15 harg15 v4 >>= fun _ => finalG i arg10 arg15)
      (fun _ => iprop((arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} X6)
    ∗ (arg7.view.loc (c : Thread nD τ) ↦[arg7.view.set]{fullShare} X7)
    ∗ (arg11.view.loc (c : Thread nD τ) ↦[arg11.view.set]{fullShare} T)
    ∗ (∃ f8 f9 f10 f13 f14 f15, ⌜RestP i arg3 arg4 arg5 arg6 arg7 arg8 arg9 arg10 arg11 arg14 arg15 X3 X4 X5 X6 X7 T g8 g9 g14 g15 f8 f9 f10 f14 f15⌝
    ∗ (arg8.view.loc (c : Thread nD τ) ↦[arg8.view.set]{fullShare} f8)
    ∗ (arg9.view.loc (c : Thread nD τ) ↦[arg9.view.set]{fullShare} f9)
    ∗ (arg10.view.loc (c : Thread nD τ) ↦[arg10.view.set]{fullShare} f10)
    ∗ (arg13.view.loc (c : Thread nD τ) ↦[arg13.view.set]{fullShare} f13)
    ∗ (arg14.view.loc (c : Thread nD τ) ↦[arg14.view.set]{fullShare} f14)
    ∗ (arg15.view.loc (c : Thread nD τ) ↦[arg15.view.set]{fullShare} f15)))) : sProp 𝕄) := by
  simp only [wp_bind]
  iintro ⟨H3, H4, H5, H6, H7, H11, H8, H9, H10, H13, H14, H15⟩
  ihave HS := (scaleL c i arg6 X6) $$ H6
  iapply wp_wand $$ HS
  iintro %v4 ⟨%hv, H6⟩
  subst hv
  ihave HL := (loop3L c i arg3 harg3 arg4 harg4 arg5 harg5 arg6 harg6 arg7 harg7 arg8 harg8 arg9 harg9 arg10 harg10 arg11 harg11 arg13 harg13 arg14 harg14 arg15 harg15 X3 X4 X5 X7 T g8 g9 g14 g15 (scaleOf i arg6 X6) hchk) $$ [H3 H4 H5 H7 H11 H8 H9 H13 H14 H15]
  · unfold inv3
    isplitl [H3]; · iexact H3
    isplitl [H4]; · iexact H4
    isplitl [H5]; · iexact H5
    isplitl [H7]; · iexact H7
    isplitl [H11]; · iexact H11
    isplitl [H8]
    · iexists g8; isplitr
      · ipureintro; exact P8_zero arg4 arg5 arg8 arg11 (scaleOf i arg6 X6) X4 X5 T g8
      iexact H8
    isplitl [H9]
    · iexists g9; isplitr
      · ipureintro; exact P9_zero i arg3 arg5 arg7 arg9 arg11 arg14 X3 X5 X7 T g9 g14
      iexact H9
    isplitl [H13]; · iexists g13; iexact H13
    isplitl [H14]
    · iexists g14; isplitr
      · ipureintro; exact P14_zero i arg3 arg5 arg11 arg14 X3 X5 T g14
      iexact H14
    iexists g15; isplitr
    · ipureintro; exact P15_zero i arg4 arg5 arg11 arg15 X4 X5 T g15
    iexact H15
  iapply wp_wand $$ HL
  unfold inv3
  iintro %_ ⟨H3, H4, H5, H7, H11, ⟨%f8, %h8, H8⟩, ⟨%f9, %h9, H9⟩, ⟨%f13, H13⟩, ⟨%f14, %h14, H14⟩, ⟨%f15, %h15, H15⟩⟩
  ihave HF := (finalL c i arg10 arg15 g10 f15) $$ [H10 H15]
  · isplitl [H10]; · iexact H10
    iexact H15
  iapply wp_wand $$ HF
  iintro %_ ⟨%f10, %h10, H10, H15⟩
  isplitl [H3]; · iexact H3
  isplitl [H4]; · iexact H4
  isplitl [H5]; · iexact H5
  isplitl [H6]; · iexact H6
  isplitl [H7]; · iexact H7
  isplitl [H11]; · iexact H11
  iexists f8; iexists f9; iexists f10; iexists f13; iexists f14; iexists f15
  isplitr
  · ipureintro; exact ⟨h8, h9, h14, h15, h10⟩
  isplitl [H8]; · iexact H8
  isplitl [H9]; · iexact H9
  isplitl [H10]; · iexact H10
  isplitl [H13]; · iexact H13
  isplitl [H14]; · iexact H14
  iexact H15

/-- The body at one point. -/
theorem bodyRun (XD : Buf (Elt F) (dyM.view.loc (c : Thread nD τ))) (hchk : ∀ off h, k0_chk1 (rowsAt arg5 X5 off h)) :
    iprop((arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} X6)
    ∗ (arg7.view.loc (c : Thread nD τ) ↦[arg7.view.set]{fullShare} X7)
    ∗ (arg11.view.loc (c : Thread nD τ) ↦[arg11.view.set]{fullShare} T)
    ∗ (arg8.view.loc (c : Thread nD τ) ↦[arg8.view.set]{fullShare} g8)
    ∗ (arg9.view.loc (c : Thread nD τ) ↦[arg9.view.set]{fullShare} g9)
    ∗ (arg10.view.loc (c : Thread nD τ) ↦[arg10.view.set]{fullShare} g10)
    ∗ (arg13.view.loc (c : Thread nD τ) ↦[arg13.view.set]{fullShare} g13)
    ∗ (arg14.view.loc (c : Thread nD τ) ↦[arg14.view.set]{fullShare} g14)
    ∗ (arg15.view.loc (c : Thread nD τ) ↦[arg15.view.set]{fullShare} g15) ∗ ringRest c XD (i 0))
    ⊢ (wp frame (wpE (defs₀ (F := F)) 𝒱₀ (c : Thread nD τ) none) Set.univ (bodyG i arg3 harg3 arg4 harg4 arg5 harg5 arg6 harg6 arg7 harg7 arg8 harg8 arg9 harg9 arg10 harg10 arg11 harg11 arg13 harg13 arg14 harg14 arg15 harg15)
      (fun _ => iprop((arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} X6)
    ∗ (arg7.view.loc (c : Thread nD τ) ↦[arg7.view.set]{fullShare} X7)
    ∗ (∃ T' f8 f9 f10 f13 f14 f15, ⌜(k0_cond1 i = 1#1 → Filled arg11 (dyM.view.read (Elt F) XD) (i 0).val 98304 T') ∧ (¬ k0_cond1 i = 1#1 → T' = T)
        ∧ RestP i arg3 arg4 arg5 arg6 arg7 arg8 arg9 arg10 arg11 arg14 arg15 X3 X4 X5 X6 X7 T' g8 g9 g14 g15 f8 f9 f10 f14 f15⌝
    ∗ (arg11.view.loc (c : Thread nD τ) ↦[arg11.view.set]{fullShare} T')
    ∗ (arg8.view.loc (c : Thread nD τ) ↦[arg8.view.set]{fullShare} f8)
    ∗ (arg9.view.loc (c : Thread nD τ) ↦[arg9.view.set]{fullShare} f9)
    ∗ (arg10.view.loc (c : Thread nD τ) ↦[arg10.view.set]{fullShare} f10)
    ∗ (arg13.view.loc (c : Thread nD τ) ↦[arg13.view.set]{fullShare} f13)
    ∗ (arg14.view.loc (c : Thread nD τ) ↦[arg14.view.set]{fullShare} f14)
    ∗ (arg15.view.loc (c : Thread nD τ) ↦[arg15.view.set]{fullShare} f15) ∗ ringRest c XD (i 0)))) : sProp 𝕄) := by
  iintro ⟨H3, H4, H5, H6, H7, H11, H8, H9, H10, H13, H14, H15, HR⟩
  rcases Classical.em (k0_cond1 i = 1#1) with h1 | h1
  · rw [body_yes i arg3 harg3 arg4 harg4 arg5 harg5 arg6 harg6 arg7 harg7 arg8 harg8 arg9 harg9 arg10 harg10 arg11 harg11 arg13 harg13 arg14 harg14 arg15 harg15 h1]
    irw [wp_bind]
    ihave HP := (prologue c i arg3 harg3 arg4 harg4 arg5 harg5 arg6 harg6 arg7 harg7 arg8 harg8 arg9 harg9 arg10 harg10 arg11 harg11 arg13 harg13 arg14 harg14 arg15 harg15 h1 XD) $$ HR
    iapply wp_wand $$ HP
    iintro %v ⟨%hv, HW, Hh, S0, S1, S2, S3⟩
    subst hv
    irw [wp_bind]
    ihave HL := (ringL c i arg3 harg3 arg4 harg4 arg5 harg5 arg6 harg6 arg7 harg7 arg8 harg8 arg9 harg9 arg10 harg10 arg11 harg11 arg13 harg13 arg14 harg14 arg15 harg15 h1 XD T) $$ [H11 HW Hh S0 S1 S2 S3]
    · isplitl [H11]; · iexact H11
      isplitl [HW]; · iexact HW
      isplitl [Hh]; · iexact Hh
      isplitl [S0]; · iexact S0
      isplitl [S1]; · iexact S1
      isplitl [S2]; · iexact S2
      iexact S3
    iapply wp_wand $$ HL
    iintro %_ ⟨⟨%T', %hT, H11⟩, HR⟩
    ihave HW := (restRun c i arg3 harg3 arg4 harg4 arg5 harg5 arg6 harg6 arg7 harg7 arg8 harg8 arg9 harg9 arg10 harg10 arg11 harg11 arg13 harg13 arg14 harg14 arg15 harg15 X3 X4 X5 X6 X7 T' g8 g9 g10 g13 g14 g15 hchk) $$ [H3 H4 H5 H6 H7 H11 H8 H9 H10 H13 H14 H15]
    · isplitl [H3]; · iexact H3
      isplitl [H4]; · iexact H4
      isplitl [H5]; · iexact H5
      isplitl [H6]; · iexact H6
      isplitl [H7]; · iexact H7
      isplitl [H11]; · iexact H11
      isplitl [H8]; · iexact H8
      isplitl [H9]; · iexact H9
      isplitl [H10]; · iexact H10
      isplitl [H13]; · iexact H13
      isplitl [H14]; · iexact H14
      iexact H15
    iapply wp_wand $$ HW
    iintro %_ ⟨H3, H4, H5, H6, H7, H11, ⟨%f8, %f9, %f10, %f13, %f14, %f15, %hp, H8, H9, H10, H13, H14, H15⟩⟩
    isplitl [H3]; · iexact H3
    isplitl [H4]; · iexact H4
    isplitl [H5]; · iexact H5
    isplitl [H6]; · iexact H6
    isplitl [H7]; · iexact H7
    iexists T'; iexists f8; iexists f9; iexists f10; iexists f13; iexists f14; iexists f15
    isplitr
    · ipureintro; exact ⟨fun _ => hT, fun h => absurd h1 h, hp⟩
    isplitl [H11]; · iexact H11
    isplitl [H8]; · iexact H8
    isplitl [H9]; · iexact H9
    isplitl [H10]; · iexact H10
    isplitl [H13]; · iexact H13
    isplitl [H14]; · iexact H14
    isplitl [H15]; · iexact H15
    iexact HR
  · rw [body_no i arg3 harg3 arg4 harg4 arg5 harg5 arg6 harg6 arg7 harg7 arg8 harg8 arg9 harg9 arg10 harg10 arg11 harg11 arg13 harg13 arg14 harg14 arg15 harg15 h1]
    ihave HW := (restRun c i arg3 harg3 arg4 harg4 arg5 harg5 arg6 harg6 arg7 harg7 arg8 harg8 arg9 harg9 arg10 harg10 arg11 harg11 arg13 harg13 arg14 harg14 arg15 harg15 X3 X4 X5 X6 X7 T g8 g9 g10 g13 g14 g15 hchk) $$ [H3 H4 H5 H6 H7 H11 H8 H9 H10 H13 H14 H15]
    · isplitl [H3]; · iexact H3
      isplitl [H4]; · iexact H4
      isplitl [H5]; · iexact H5
      isplitl [H6]; · iexact H6
      isplitl [H7]; · iexact H7
      isplitl [H11]; · iexact H11
      isplitl [H8]; · iexact H8
      isplitl [H9]; · iexact H9
      isplitl [H10]; · iexact H10
      isplitl [H13]; · iexact H13
      isplitl [H14]; · iexact H14
      iexact H15
    iapply wp_wand $$ HW
    iintro %_ ⟨H3, H4, H5, H6, H7, H11, ⟨%f8, %f9, %f10, %f13, %f14, %f15, %hp, H8, H9, H10, H13, H14, H15⟩⟩
    isplitl [H3]; · iexact H3
    isplitl [H4]; · iexact H4
    isplitl [H5]; · iexact H5
    isplitl [H6]; · iexact H6
    isplitl [H7]; · iexact H7
    iexists T; iexists f8; iexists f9; iexists f10; iexists f13; iexists f14; iexists f15
    isplitr
    · ipureintro; exact ⟨fun h => absurd h h1, fun _ => rfl, hp⟩
    isplitl [H11]; · iexact H11
    isplitl [H8]; · iexact H8
    isplitl [H9]; · iexact H9
    isplitl [H10]; · iexact H10
    isplitl [H13]; · iexact H13
    isplitl [H14]; · iexact H14
    isplitl [H15]; · iexact H15
    iexact HR

end Body
end Cert.KernelIdeal.Run
-- ==== Proof.KI.Launch.lean ====
/-
  The launch: the ring's cells, the slots of the raw buffer and the blocks of the codes cut out of the buffers that hold
  them, the region invariant, the body's obligation at every point, and the run. What the invariant says of the table
  and of the two accumulators (`InvP`) and what the outputs' staging buffers hold after a point (`RlP`) are parameters,
  joined by one hypothesis (`StepP`): the frame takes the trivial ones, the value claim the results themselves.
-/
module

public import proofs.«01_k».proof.Proof.KI.Body
public import proofs.«01_k».proof.Proof.Gen.KernelIdeal.Points
public import proofs.«01_k».proof.Proof.Gen.KernelIdeal.Frame
public import Idealize.ShloMosaic.Lib.Pipeline.FrameBody
public import Idealize.ShloMosaic.Lib.Pipeline.DatRel

@[expose] public section

set_option maxRecDepth 16384
set_option maxHeartbeats 4000000

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

open Idealize.ShloMosaic.Pipeline (Dat RDat Cfg Window BodyObligationRel)

local notation "𝕄" => MT nD τ sig Unit (Elt F) ℕ (UU nD τ) ℕ

/-! ## The pieces of the buffers -/

/-- The ring's four cells. -/
abbrev osem : Fin 4 → SemLoc sig := fun s => SemLoc.dma (csm s).sem
theorem ownSemFacts : Pipeline.OwnSemFacts spec0 osem := by decide

abbrev SL4 (s : Fin 4) : Finset S4x512x2048.Idx := (Rect.unit (s := S4x512x2048) ![s.val, 0, 0] S1x512x2048.size (slotOff_inb s)).set
abbrev GS (cc : Fin 3) (b : Fin 48) : Finset S24576x6144.Idx := (Rect.unit (s := S24576x6144) ![512 * b.val, 2048 * cc.val] S512x2048.size (grpOff_inb cc b)).set

omit [FloatOps F] in
theorem grp_set (cc : Fin 3) (b : Fin 48) : (grp cc b : Memref sig .tc .hbm _ _).view.set = GS cc b := View.set_slice_whole _ _
omit [FloatOps F] in
theorem rslot_set (s : Fin 4) : (rslot s : Memref sig .tc .vmem _ _).view.set = SL4 s := (View.set_reshape _ _).trans (View.set_slice_whole _ _)

theorem mem_SL4 (s : Fin 4) (y : S4x512x2048.Idx) : y ∈ SL4 s ↔ (y 0).val = s.val := by
  rw [Rect.mem_set_unit]
  have h1 : (y 1).val < 512 := (y 1).isLt
  have h2 : (y 2).val < 2048 := (y 2).isLt
  constructor
  · intro H; have a0 : s.val ≤ (y 0).val ∧ (y 0).val < s.val + 1 := H 0; omega
  · intro H i
    match i with
    | ⟨0, _⟩ => show s.val ≤ (y 0).val ∧ (y 0).val < s.val + 1; omega
    | ⟨1, _⟩ => show 0 ≤ (y 1).val ∧ (y 1).val < 0 + 512; omega
    | ⟨2, _⟩ => show 0 ≤ (y 2).val ∧ (y 2).val < 0 + 2048; omega
theorem mem_GS (cc : Fin 3) (b : Fin 48) (y : S24576x6144.Idx) : y ∈ GS cc b ↔ (512 * b.val ≤ (y 0).val ∧ (y 0).val < 512 * b.val + 512) ∧ (2048 * cc.val ≤ (y 1).val ∧ (y 1).val < 2048 * cc.val + 2048) := by
  rw [Rect.mem_set_unit]
  constructor
  · intro H; exact ⟨H 0, H 1⟩
  · intro H i
    match i with
    | ⟨0, _⟩ => exact H.1
    | ⟨1, _⟩ => exact H.2
theorem SL4_disjoint : ∀ s s' : Fin 4, s ≠ s' → Disjoint (SL4 s) (SL4 s') := by
  intro s s' hne; rw [Finset.disjoint_left]; intro y hy hy'; rw [mem_SL4] at hy hy'; exact hne (Fin.ext (hy.symm.trans hy'))
theorem SL4_cover : (Finset.univ : Finset (Fin 4)).biUnion SL4 = Finset.univ := by
  ext y; simp only [Finset.mem_biUnion, Finset.mem_univ, true_and, iff_true]; exact ⟨(y 0).cast (by decide), by rw [mem_SL4]; rfl⟩
theorem GS_disjoint (cc : Fin 3) : ∀ b b' : Fin 48, b ≠ b' → Disjoint (GS cc b) (GS cc b') := by
  intro b b' hne; rw [Finset.disjoint_left]; intro y hy hy'; rw [mem_GS] at hy hy'; exact hne (Fin.ext (by omega))

/-- The column chunk `cc` of the codes. -/
def chunkSet (cc : Fin 3) : Finset S24576x6144.Idx := Finset.univ.biUnion (GS cc)

section Split
variable (c : Dev nD) (XD : Buf (Elt F) (dyM.view.loc (c : Thread nD τ)))

theorem homes_eq (cc : Fin 3) : bigSep (Finset.univ : Finset (Fin 48)) (homeP c XD cc)
    = bigSep (Finset.univ : Finset (Fin 48)) (fun b => (((c : Thread nD τ).loc main_v14) ↦[GS cc b]{fullShare} XD : sProp 𝕄)) :=
  congrArg _ (funext fun b => congrArg (fun S => (_ ↦[S]{fullShare} XD : sProp 𝕄)) (grp_set cc b))

/-- The codes whole are the chunk's blocks home beside the rest. -/
theorem dy_split (cc : Fin 3) : (((c : Thread nD τ).loc main_v14) ↦{fullShare} XD : sProp 𝕄)
    ⊢ iprop(bigSep (Finset.univ : Finset (Fin 48)) (homeP c XD cc) ∗ (((c : Thread nD τ).loc main_v14) ↦[Finset.univ \ chunkSet cc]{fullShare} XD)) := by
  iintro H
  ihave H2 := (pointsTo_split_subset (Ix := Unit) (Name := ℕ) (U := UU nD τ) (Lvl := ℕ) (q := fullShare) (f := XD) (ℓ := (c : Thread nD τ).loc main_v14) (Finset.subset_univ (chunkSet cc))).1 $$ H
  icases H2 with ⟨Ha, Hb⟩
  isplitl [Ha]
  · ihave H3 := (Entails.of_eq (Ring.pointsTo_sub_blocks (Ix := Unit) (Name := ℕ) (U := UU nD τ) (Lvl := ℕ) (q := fullShare) (ℓ := (c : Thread nD τ).loc main_v14) (GS cc) (GS_disjoint cc) (chunkSet cc) rfl XD)) $$ Ha
    iapply (Entails.of_eq (homes_eq c XD cc).symm)
    iexact H3
  · iexact Hb
theorem dy_join (cc : Fin 3) : iprop(bigSep (Finset.univ : Finset (Fin 48)) (homeP c XD cc) ∗ (((c : Thread nD τ).loc main_v14) ↦[Finset.univ \ chunkSet cc]{fullShare} XD))
    ⊢ (((c : Thread nD τ).loc main_v14) ↦{fullShare} XD : sProp 𝕄) := by
  iintro ⟨Ha, Hb⟩
  iapply (pointsTo_split_subset (Ix := Unit) (Name := ℕ) (U := UU nD τ) (Lvl := ℕ) (q := fullShare) (f := XD) (ℓ := (c : Thread nD τ).loc main_v14) (Finset.subset_univ (chunkSet cc))).2
  isplitl [Ha]
  · iapply (Entails.of_eq (Ring.pointsTo_sub_blocks (Ix := Unit) (Name := ℕ) (U := UU nD τ) (Lvl := ℕ) (q := fullShare) (ℓ := (c : Thread nD τ).loc main_v14) (GS cc) (GS_disjoint cc) (chunkSet cc) rfl XD).symm)
    iapply (Entails.of_eq (homes_eq c XD cc))
    iexact Ha
  · iexact Hb

omit [FloatOps F] in
theorem bigSep_fin4 (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ

omit [FloatOps F] in
theorem slotP_eq (s : Fin 4) (f) : slotP c s f = (((c : Thread nD τ).loc cc0_scratch1) ↦[SL4 s]{fullShare} f : sProp 𝕄) :=
  congrArg (fun S => (_ ↦[S]{fullShare} f : sProp 𝕄)) (rslot_set s)
/-- The raw buffer whole is its four slots, and back. -/
theorem raw_split :
    iprop(∃ f : Buf (Elt F) ((c : Thread nD τ).loc cc0_scratch1), ((c : Thread nD τ).loc cc0_scratch1) ↦{fullShare} f)
      ⊢ (iprop((∃ f, slotP c 0 f) ∗ (∃ f, slotP c 1 f) ∗ (∃ f, slotP c 2 f) ∗ (∃ f, slotP c 3 f)) : sProp 𝕄) := by
  iintro ⟨%f, H⟩
  ihave H2 := (Entails.of_eq ((Ring.pointsTo_blocks (Ix := Unit) (Name := ℕ) (U := UU nD τ) (Lvl := ℕ) (q := fullShare) (ℓ := (c : Thread nD τ).loc cc0_scratch1) SL4 SL4_disjoint SL4_cover f).trans (bigSep_fin4 _))) $$ H
  icases H2 with ⟨H0, H1, H2, H3⟩
  isplitl [H0]
  · iexists f; iapply (Entails.of_eq (slotP_eq c 0 f).symm); iexact H0
  isplitl [H1]
  · iexists f; iapply (Entails.of_eq (slotP_eq c 1 f).symm); iexact H1
  isplitl [H2]
  · iexists f; iapply (Entails.of_eq (slotP_eq c 2 f).symm); iexact H2
  · iexists f; iapply (Entails.of_eq (slotP_eq c 3 f).symm); iexact H3
theorem raw_join :
    iprop((∃ f, slotP c 0 f) ∗ (∃ f, slotP c 1 f) ∗ (∃ f, slotP c 2 f) ∗ (∃ f, slotP c 3 f))
      ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scratch1) SL4 SL4_disjoint SL4_cover f0)
  irw [bigSep_fin4]
  isplitl [H0]
  · iexists f0; iapply (Entails.of_eq (slotP_eq c 0 f0)); iexact H0
  isplitl [H1]
  · iexists f1; iapply (Entails.of_eq (slotP_eq c 1 f1)); iexact H1
  isplitl [H2]
  · iexists f2; iapply (Entails.of_eq (slotP_eq c 2 f2)); iexact H2
  · iexists f3; iapply (Entails.of_eq (slotP_eq c 3 f3)); iexact H3

omit [FloatOps F] in
/-- The kernel's own cells at zero are the four slots' cells. -/
theorem ownSems0_eq : (Pipeline.ownSems0 (Ix := Unit) (Name := ℕ) (U := UU nD τ) (Lvl := ℕ) (Val := Elt F) (τ := τ) osem c : sProp 𝕄)
    = iprop(cellP c 0 ∗ cellP c 1 ∗ cellP c 2 ∗ cellP c 3) := by
  unfold Pipeline.ownSems0; rw [bigSep_fin4]
end Split

/-! ## The data of the region -/

section Launch
variable (InvP : (m : (ℓ : Loc nD τ sig) → Buf (Elt F) ℓ) → (c : Dev nD) → Nat → BufTy.Contents (Elt F) tabM.view.ty → BufTy.Contents (Elt F) dotM.view.ty → BufTy.Contents (Elt F) amaxM.view.ty → Prop)
  (RlP : (m : (ℓ : Loc nD τ sig) → Buf (Elt F) ℓ) → (c : Dev nD) → (w : Fin cfg0.W) → Fin cfg0.N → ((cfg0.win w).block.Idx → Elt F (cfg0.win w).elt) → Prop)
  (m : (ℓ : Loc nD τ sig) → Buf (Elt F) ℓ) (ρ : Dev nD → PrngReg) (c : Dev nD)

/-- The region invariant at point `t`. -/
def Φ (t : Nat) : sProp 𝕄 :=
  iprop(∃ T g13 g14 g15, ⌜InvP m c t T g14 g15⌝
    ∗ (tabM.view.loc (c : Thread nD τ) ↦[tabM.view.set]{fullShare} T)
    ∗ (stgM.view.loc (c : Thread nD τ) ↦[stgM.view.set]{fullShare} g13)
    ∗ (dotM.view.loc (c : Thread nD τ) ↦[dotM.view.set]{fullShare} g14)
    ∗ (amaxM.view.loc (c : Thread nD τ) ↦[amaxM.view.set]{fullShare} g15)
    ∗ (∃ f : Buf (Elt F) ((c : Thread nD τ).loc cc0_scratch1), ((c : Thread nD τ).loc cc0_scratch1) ↦{fullShare} f)
    ∗ (∃ r, prngReg c r) ∗ (cellP c 0 ∗ cellP c 1 ∗ cellP c 2 ∗ cellP c 3)
    ∗ (((c : Thread nD τ).loc main_v14) ↦{fullShare} V m c main_v14))

def dat : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
  Φ t := Φ InvP m c t.val
  q _ := fullShare
  owed _ := 0

/-- The windows held to `RlP`: the three outputs. -/
def fgt : Fin cfg0.W → Bool := fun w => match w with
  | ⟨5, _⟩ => true
  | ⟨6, _⟩ => true
  | ⟨7, _⟩ => true
  | _ => false

theorem before_w0 (t : Fin cfg0.N) (d) : (dat InvP m c).before 0 t d = iblk m c 0 t :=
  ((dat InvP m c).before_in_eq_fetched 0 rfl (fun _ => rfl) (fun _ _ _ => rfl) (fun t => rfl) t d).trans rfl
theorem after_w0 (t : Fin cfg0.N) : (dat InvP m c).after 0 t = iblk m c 0 t := rfl
theorem before_w1 (t : Fin cfg0.N) (d) : (dat InvP m c).before 1 t d = iblk m c 1 t :=
  ((dat InvP m c).before_in_eq_fetched 1 rfl (fun _ => rfl) (fun _ _ _ => rfl) (fun t => rfl) t d).trans rfl
theorem after_w1 (t : Fin cfg0.N) : (dat InvP m c).after 1 t = iblk m c 1 t := rfl
theorem before_w2 (t : Fin cfg0.N) (d) : (dat InvP m c).before 2 t d = iblk m c 2 t :=
  ((dat InvP m c).before_in_eq_fetched 2 rfl (fun _ => rfl) (fun _ _ _ => rfl) (fun t => rfl) t d).trans rfl
theorem after_w2 (t : Fin cfg0.N) : (dat InvP m c).after 2 t = iblk m c 2 t := rfl
theorem before_w3 (t : Fin cfg0.N) (d) : (dat InvP m c).before 3 t d = iblk m c 3 t :=
  ((dat InvP m c).before_in_eq_fetched 3 rfl (fun _ => rfl) (fun _ _ _ => rfl) (fun t => rfl) t d).trans rfl
theorem after_w3 (t : Fin cfg0.N) : (dat InvP m c).after 3 t = iblk m c 3 t := rfl
theorem before_w4 (t : Fin cfg0.N) (d) : (dat InvP m c).before 4 t d = iblk m c 4 t :=
  ((dat InvP m c).before_in_eq_fetched 4 rfl (fun _ => rfl) (fun _ _ _ => rfl) (fun t => rfl) t d).trans rfl
theorem after_w4 (t : Fin cfg0.N) : (dat InvP m c).after 4 t = iblk m c 4 t := rfl
theorem h0 (t : Fin cfg0.N) : (st0_0 t).IsWhole := hstage0_0 ((cfg0.slots t 0).cast nbuf0_0)
theorem h1 (t : Fin cfg0.N) : (st0_1 t).IsWhole := hstage0_1 ((cfg0.slots t 1).cast nbuf0_1)
theorem h2 (t : Fin cfg0.N) : (st0_2 t).IsWhole := hstage0_2 ((cfg0.slots t 2).cast nbuf0_2)
theorem h3 (t : Fin cfg0.N) : (st0_3 t).IsWhole := hstage0_3 ((cfg0.slots t 3).cast nbuf0_3)
theorem h4 (t : Fin cfg0.N) : (st0_4 t).IsWhole := hstage0_4 ((cfg0.slots t 4).cast nbuf0_4)
theorem h5 (t : Fin cfg0.N) : (st0_5 t).IsWhole := hstage0_5 ((cfg0.slots t 5).cast nbuf0_5)
theorem h6 (t : Fin cfg0.N) : (st0_6 t).IsWhole := hstage0_6 ((cfg0.slots t 6).cast nbuf0_6)
theorem h7 (t : Fin cfg0.N) : (st0_7 t).IsWhole := hstage0_7 ((cfg0.slots t 7).cast nbuf0_7)

/-- One point carries the invariant and leaves the outputs as they should be. -/
def StepP : Prop := ∀ (t : Fin cfg0.N) T g8 g9 g14 g15 T' f8 f9 f10 f14 f15, InvP m c t.val T g14 g15
  → (∀ h : t.val ≠ 0, RlP m c 6 ⟨t.val - 1, Nat.lt_of_le_of_lt (Nat.sub_le _ _) t.isLt⟩ ((st0_6 t).view.read (Elt F) g9))
  → (k0_cond1 (grid0.coords t) = 1#1 → Filled tabM (dyM.view.read (Elt F) (V m c main_v14)) ((grid0.coords t) 0).val 98304 T')
  → (¬ k0_cond1 (grid0.coords t) = 1#1 → T' = T)
  → RestP (grid0.coords t) (st0_0 t) (st0_1 t) (st0_2 t) (st0_3 t) (st0_4 t) (st0_5 t) (st0_6 t) (st0_7 t) tabM dotM amaxM ((st0_0 t).view.rep (iblk m c 0 t)) ((st0_1 t).view.rep (iblk m c 1 t)) ((st0_2 t).view.rep (iblk m c 2 t)) ((st0_3 t).view.rep (iblk m c 3 t)) ((st0_4 t).view.rep (iblk m c 4 t)) T' g8 g9 g14 g15 f8 f9 f10 f14 f15
  → InvP m c (t.val + 1) T' f14 f15 ∧ RlP m c 5 t ((st0_5 t).view.read (Elt F) f8) ∧ RlP m c 6 t ((st0_6 t).view.read (Elt F) f9) ∧ RlP m c 7 t ((st0_7 t).view.read (Elt F) f10)

/-- The row words are words the table's loads accept. -/
def RowsOK : Prop := ∀ j, k0_chk1 (V m c main_v16 j)

theorem rows_chk (h : RowsOK m c) (t : Fin cfg0.N) : ∀ off hh, k0_chk1 (rowsAt (st0_2 t) ((st0_2 t).view.rep (iblk m c 2 t)) off hh) := by
  intro off hh
  unfold rowsAt
  rw [View.readAt_apply, View.read_rep]
  unfold iblk; rw [View.read_apply]
  exact h _

theorem fgt0 : fgt 0 = false := rfl
theorem fgt1 : fgt 1 = false := rfl
theorem fgt2 : fgt 2 = false := rfl
theorem fgt3 : fgt 3 = false := rfl
theorem fgt4 : fgt 4 = false := rfl
theorem fgt5 : fgt 5 = true := rfl
theorem fgt6 : fgt 6 = true := rfl
theorem fgt7 : fgt 7 = true := rfl

/-- What window 6's buffer holds at a point's start is what the point before left. -/
theorem finds6 (t : Fin cfg0.N) (h0 : t.val ≠ 0) (Y) (hY : ((dat (F := F) InvP m c).toRRel fgt (RlP m c)).Finds 6 t Y) :
    RlP m c 6 ⟨t.val - 1, Nat.lt_of_le_of_lt (Nat.sub_le _ _) t.isLt⟩ Y := by
  rcases (RDat.finds_of_pos _ (by rfl) h0 Y).1 hY with h | h
  · exfalso
    have h' := (flush0_6 _).1 h
    have hN : t.val < 384 := t.isLt
    dsimp only at h'
    omega
  · exact Dat.toRRel_leaves _ rfl h

/-! ## The body obligation -/

theorem defs_tc : (defs₀ (F := F)) .tc cfg0.body
    = fun a => bodyG (grid0.coords a.1) (win0_0.stage (a.2 0)) (hstage0_0 ((a.2 0).cast nbuf0_0)) (win0_1.stage (a.2 1)) (hstage0_1 ((a.2 1).cast nbuf0_1)) (win0_2.stage (a.2 2)) (hstage0_2 ((a.2 2).cast nbuf0_2)) (win0_3.stage (a.2 3)) (hstage0_3 ((a.2 3).cast nbuf0_3)) (win0_4.stage (a.2 4)) (hstage0_4 ((a.2 4).cast nbuf0_4)) (win0_5.stage (a.2 5)) (hstage0_5 ((a.2 5).cast nbuf0_5)) (win0_6.stage (a.2 6)) (hstage0_6 ((a.2 6).cast nbuf0_6)) (win0_7.stage (a.2 7)) (hstage0_7 ((a.2 7).cast nbuf0_7)) tabM (Memref.isWhole_whole _) stgM (Memref.isWhole_whole _) dotM (Memref.isWhole_whole _) amaxM (Memref.isWhole_whole _) := rfl
theorem prog_eq (t : Fin cfg0.N) : (defs₀ (F := F)) .tc cfg0.body (cfg0.bodyArgs t (cfg0.slots t))
    = bodyG (grid0.coords t) (st0_0 t) (h0 t) (st0_1 t) (h1 t) (st0_2 t) (h2 t) (st0_3 t) (h3 t) (st0_4 t) (h4 t) (st0_5 t) (h5 t) (st0_6 t) (h6 t) (st0_7 t) (h7 t) tabM (Memref.isWhole_whole _) stgM (Memref.isWhole_whole _) dotM (Memref.isWhole_whole _) amaxM (Memref.isWhole_whole _) :=
  (congrFun defs_tc _).trans rfl

set_option backward.isDefEq.respectTransparency.types false in
theorem body_obligation (hrow : RowsOK m c) (hstep : StepP InvP RlP m c) :
    BodyObligationRel (dat (F := F) InvP m c) (defs₀ (F := F)) 𝒱₀ () Set.univ fgt (RlP m c) := fun t => by
  rw [bigSep_W0, bigSep_W0]
  dsimp only
  simp only [fgt0, fgt1, fgt2, fgt3, fgt4, fgt5, fgt6, fgt7, before_w0, before_w1, before_w2, before_w3, before_w4, after_w0, after_w1, after_w2, after_w3, after_w4]
  rw [show (dat InvP m c).Φ t.castSucc = Φ InvP m c t.val from rfl, show (dat InvP m c).Φ t.succ = Φ InvP m c (t.val + 1) from rfl]
  unfold Dat.owesAt Pipeline.owesWithin
  rw [show (dat InvP m c).owed t.castSucc = 0 from rfl, show (dat InvP m c).owed t.succ = 0 from rfl]
  unfold owns Φ
  iintro ⟨⟨%T, %g13, %g14, %g15, %hInv, HT, H13, H14, H15, Hraw, Hprng, Hcell, Hdy⟩, ⟨%W, -, HW⟩, ⟨%d0, %g0, %hg0, B0⟩, ⟨%d1, %g1, %hg1, B1⟩, ⟨%d2, %g2, %hg2, B2⟩, ⟨%d3, %g3, %hg3, B3⟩, ⟨%d4, %g4, %hg4, B4⟩, ⟨%Y5, %hY5, %g5, %hg5, B5⟩, ⟨%Y6, %hY6, %g6, %hg6, B6⟩, ⟨%Y7, %hY7, %g7, %hg7, B7⟩⟩
  ihave C0 := (pointsTo_rep_entails (c : Thread nD τ) (st0_0 t) g0 fullShare) $$ B0
  ihave C1 := (pointsTo_rep_entails (c : Thread nD τ) (st0_1 t) g1 fullShare) $$ B1
  ihave C2 := (pointsTo_rep_entails (c : Thread nD τ) (st0_2 t) g2 fullShare) $$ B2
  ihave C3 := (pointsTo_rep_entails (c : Thread nD τ) (st0_3 t) g3 fullShare) $$ B3
  ihave C4 := (pointsTo_rep_entails (c : Thread nD τ) (st0_4 t) g4 fullShare) $$ B4
  rw [hg0, hg1, hg2, hg3, hg4]
  ihave Hs := (dy_split c (V m c main_v14) ((grid0.coords t) 0)) $$ Hdy
  icases Hs with ⟨Hh, Hdr⟩
  ihave Hsl := (raw_split c) $$ Hraw
  sl_rw [prog_eq t]
  iapply (wp_wand_r Idealize.ShloMosaic.frame (wpE (defs₀ (F := F)) 𝒱₀ (c : Thread nD τ) none) Set.univ)
  isplitl [HT H13 H14 H15 Hcell HW C0 C1 C2 C3 C4 B5 B6 B7 Hh Hsl]
  · iapply (bodyRun c (grid0.coords t) (st0_0 t) (h0 t) (st0_1 t) (h1 t) (st0_2 t) (h2 t) (st0_3 t) (h3 t) (st0_4 t) (h4 t) (st0_5 t) (h5 t) (st0_6 t) (h6 t) (st0_7 t) (h7 t) tabM (Memref.isWhole_whole _) stgM (Memref.isWhole_whole _) dotM (Memref.isWhole_whole _) amaxM (Memref.isWhole_whole _) _ _ _ _ _ T g5 g6 g7 g13 g14 g15 (V m c main_v14) (rows_chk m c hrow t))
    unfold ringRest
    isplitl [C0]; · iexact C0
    isplitl [C1]; · iexact C1
    isplitl [C2]; · iexact C2
    isplitl [C3]; · iexact C3
    isplitl [C4]; · iexact C4
    isplitl [HT]; · iexact HT
    isplitl [B5]; · iexact B5
    isplitl [B6]; · iexact B6
    isplitl [B7]; · iexact B7
    isplitl [H13]; · iexact H13
    isplitl [H14]; · iexact H14
    isplitl [H15]; · iexact H15
    isplitl [HW]; · iexists W; iexact HW
    isplitl [Hh]; · iexact Hh
    isplitl [Hcell]; · iexact Hcell
    iexact Hsl
  · unfold ringRest
    iintro %_ ⟨C0, C1, C2, C3, C4, %T', %f8, %f9, %f10, %f13, %f14, %f15, %hf, HT, B5, B6, B7, H13, H14, H15, ⟨%W', HW⟩, Hh, Hcell, Hsl⟩
    have hs := hstep t T g5 g6 g14 g15 T' f8 f9 f10 f14 f15 hInv (fun h0 => by rw [hg6]; exact finds6 InvP RlP m c t h0 Y6 hY6) hf.1 hf.2.1 hf.2.2
    isplitl [HT H13 H14 H15 Hprng Hcell Hh Hdr Hsl]
    · iexists T'; iexists f13; iexists f14; iexists f15
      isplitr; · ipureintro; exact hs.1
      isplitl [HT]; · iexact HT
      isplitl [H13]; · iexact H13
      isplitl [H14]; · iexact H14
      isplitl [H15]; · iexact H15
      isplitl [Hsl]; · iapply (raw_join c); iexact Hsl
      isplitl [Hprng]; · iexact Hprng
      isplitl [Hcell]; · iexact Hcell
      iapply (dy_join c (V m c main_v14) ((grid0.coords t) 0))
      isplitl [Hh]; · iexact Hh
      iexact Hdr
    isplitl [HW]
    · iexists W'; isplitr; · ipureintro; exact fun _ _ => Or.inl trivial
      iexact HW
    isplitl [C0]
    · iexists _; isplitr; · ipureintro; exact View.read_rep _ _
      iexact C0
    isplitl [C1]
    · iexists _; isplitr; · ipureintro; exact View.read_rep _ _
      iexact C1
    isplitl [C2]
    · iexists _; isplitr; · ipureintro; exact View.read_rep _ _
      iexact C2
    isplitl [C3]
    · iexists _; isplitr; · ipureintro; exact View.read_rep _ _
      iexact C3
    isplitl [C4]
    · iexists _; isplitr; · ipureintro; exact View.read_rep _ _
      iexact C4
    isplitl [B5]
    · iexists _; isplitr; · ipureintro; exact hs.2.1
      iexists f8; isplitr; · ipureintro; rfl
      iexact B5
    isplitl [B6]
    · iexists _; isplitr; · ipureintro; exact hs.2.2.1
      iexists f9; isplitr; · ipureintro; rfl
      iexact B6
    iexists _; isplitr; · ipureintro; exact hs.2.2.2
    iexists f10; isplitr; · ipureintro; rfl
    iexact B7

/-! ## The run -/

/-- The codes, which the kernel reads itself. -/
def H0 : Finset (Ref sig .tc) := {main_v14}
theorem H0_sub : H0 ⊆ Pipeline.restRefs sig spec0 := by
  intro b hb; rw [H0, Finset.mem_singleton] at hb; subst hb; exact Pipeline.mem_restRefs_of main_v14 (by decide) (by decide)

set_option maxHeartbeats 800000 in
theorem hmain : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem whole_pt (b : Ref sig .tc) (f : Buf (Elt F) ((c : Thread nD τ).loc b)) : (((c : Thread nD τ).loc b) ↦{fullShare} f : sProp 𝕄)
    = ((Memref.whole b : Memref sig .tc _ _ _).view.loc (c : Thread nD τ) ↦[(Memref.whole b : Memref sig .tc _ _ _).view.set]{fullShare} f) :=
  congrArg (fun S => (_ ↦[S]{fullShare} f : sProp 𝕄)) (View.set_whole _).symm

set_option backward.isDefEq.respectTransparency.types false in
theorem hin (h0 : ∀ T g14 g15, InvP m c 0 T g14 g15) : (Pipeline.ΦD osem spec0 H0 (V m) c : sProp 𝕄) ⊢ Φ InvP m c 0 := by
  rw [Pipeline.ΦD_eq, scopedRest0_eq, ownSems0_eq, H0, BI.bigSep_singleton]
  unfold Φ
  iintro ⟨⟨⟨%f0, S0⟩, S1, ⟨%f2, S2⟩, ⟨%f3, S3⟩, ⟨%f4, S4⟩⟩, Hprng, Hcell, Hdy⟩
  iexists f0; iexists f2; iexists f3; iexists f4
  isplitr; · ipureintro; exact h0 _ _ _
  isplitl [S0]; · iapply (Entails.of_eq (whole_pt c cc0_scratch0 f0)); iexact S0
  isplitl [S2]; · iapply (Entails.of_eq (whole_pt c cc0_scratch2 f2)); iexact S2
  isplitl [S3]; · iapply (Entails.of_eq (whole_pt c cc0_scratch3 f3)); iexact S3
  isplitl [S4]; · iapply (Entails.of_eq (whole_pt c cc0_scratch4 f4)); iexact S4
  isplitl [S1]; · iexact S1
  isplitl [Hprng]; · iexact Hprng
  isplitl [Hcell]; · iexact Hcell
  iexact Hdy

set_option backward.isDefEq.respectTransparency.types false in
theorem hout (t : Nat) : (Φ InvP m c t : sProp 𝕄) ⊢ Pipeline.ΦD osem spec0 H0 (V m) c := by
  rw [Pipeline.ΦD_eq, scopedRest0_eq, ownSems0_eq, H0, BI.bigSep_singleton]
  unfold Φ
  iintro ⟨%f0, %f2, %f3, %f4, -, S0, S2, S3, S4, S1, Hprng, Hcell, Hdy⟩
  isplitl [S0 S1 S2 S3 S4]
  · isplitl [S0]; · iexists f0; iapply (Entails.of_eq (whole_pt c cc0_scratch0 f0).symm); iexact S0
    isplitl [S1]; · iexact S1
    isplitl [S2]; · iexists f2; iapply (Entails.of_eq (whole_pt c cc0_scratch2 f2).symm); iexact S2
    isplitl [S3]; · iexists f3; iapply (Entails.of_eq (whole_pt c cc0_scratch3 f3).symm); iexact S3
    iexists f4; iapply (Entails.of_eq (whole_pt c cc0_scratch4 f4).symm); iexact S4
  isplitl [Hprng]; · iexact Hprng
  isplitl [Hcell]; · iexact Hcell
  iexact Hdy

/-- The relational data of the run. -/
abbrev rdat : RDat τ (Elt F) Unit ℕ (UU nD τ) ℕ cfg0 c := (dat InvP m c).toRRel fgt (RlP m c)

set_option backward.isDefEq.respectTransparency.types false in
theorem run_main (hrow : ∀ c, RowsOK m c) (hstep : ∀ c, StepP InvP RlP m c) (h0 : ∀ c T g14 g15, InvP m c 0 T g14 g15) :
    θ_run defs (onTc (τ := τ) (main (F := F))) (s₀ m ρ) (fun r => RDat.FramePost cfg0 (rdat InvP RlP m) (V m) r ∧ r.2.sem = fun _ => 0) :=
  RDat.θ_run_frame_dma (Q' := _) cfgs (0 : Fin 1) launch0 osem defs₀ 𝒱₀ (rdat InvP RlP m) ownSemFacts H0 H0_sub m ρ main
    (hbody := fun c => (body_obligation InvP RlP m c (hrow c) (hstep c)).toRRel)
    (hshare := fun c => (rdat InvP RlP m c).share_full fun _ => rfl)
    (howed := fun _ _ => rfl) (V := V m) (hmain := hmain m) (hA := fun _ _ => rfl)
    (hin := fun c => hin InvP m c (h0 c)) (hout := fun c => hout InvP m c _)

theorem frame_of (h : θ_run defs (onTc (τ := τ) (main (F := F))) (s₀ m ρ) (fun r => RDat.FramePost cfg0 (rdat InvP RlP m) (V m) r ∧ r.2.sem = fun _ => 0)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (RDat.FramePost.arr_in h.1 c 3 rfl).trans (V_main_arg3 m c),
      (RDat.FramePost.arr_in h.1 c 0 rfl).trans (V_main_arg4 m c),
      ((h.1 c).2 main_arg5 (Pipeline.mem_restRefs_of main_arg5 (by decide) (by decide))).trans (V_main_arg5 m c)⟩, h.2⟩) h
end Launch

end Cert.KernelIdeal.Run

end
-- ==== Proof.KI.Chk.lean ====
/-
  What the host operations before the region leave: the row words and the reshaped operands, element by element; and
  that a token in range gives a row word which the table's loads accept.
-/
module

public import proofs.«01_k».proof.Proof.KI.Launch
public import proofs.«01_k».proof.Pre_in_range
public import proofs.«01_k».proof.Proof.Gen.Pre_in_range
public import Idealize.ShloMosaic.Lib.ReduceAll
public import Idealize.ShloMosaic.Lib.WordArith

@[expose] public section

set_option maxRecDepth 16384
set_option maxHeartbeats 4000000

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-- A token's place: its token-in-four and its four-in-thirty-two exchanged. -/
def place (t : Nat) : Nat := 32 * (t / 32) + 8 * (t % 4) + t / 4 % 8

/-- The row word of a token word. -/
def rowWord (t : BitVec 32) : BitVec 32 := (((t &&& 4294967264#32) ||| ((t &&& 3#32) <<< 3)) ||| ((t >>> 2) &&& 7#32)) * 4#32

theorem and_mask32_eq (x : BitVec 32) : x &&& 4294967264#32 = (x >>> 5) <<< 5 := by
  have hm : (4294967264#32 : BitVec 32) = BitVec.allOnes 32 <<< 5 := by decide
  rw [hm]
  ext i hi
  simp only [BitVec.getElem_and, BitVec.getElem_shiftLeft, BitVec.getElem_ushiftRight, BitVec.getElem_allOnes]
  by_cases h : i < 5
  · simp only [h, decide_true, Bool.not_true, Bool.false_and, Bool.and_false]
  · simp only [h, decide_false, Bool.not_false, Bool.true_and]
    rw [Bool.and_true, show 5 + (i - 5) = i by omega, BitVec.getLsbD_eq_getElem hi]

theorem rowWord_toNat (t : BitVec 32) (ht : t.toNat < 24576) : (rowWord t).toNat = 4 * place t.toNat := by
  have hA : (t &&& 4294967264#32).toNat = 2 ^ 5 * (t.toNat / 32) := by
    rw [and_mask32_eq, BitVec.toNat_shiftLeft, BitVec.toNat_ushiftRight, Nat.shiftLeft_eq, Nat.shiftRight_eq_div_pow]; omega
  have hB : ((t &&& 3#32) <<< 3).toNat = 2 ^ 3 * (t.toNat % 4) := by
    rw [BitVec.toNat_shiftLeft, BitVec.toNat_and, Nat.shiftLeft_eq, show (3#32 : BitVec 32).toNat = 2 ^ 2 - 1 from rfl, Nat.and_two_pow_sub_one_eq_mod]; omega
  have hC : ((t >>> 2) &&& 7#32).toNat = t.toNat / 4 % 8 := by
    rw [BitVec.toNat_and, BitVec.toNat_ushiftRight, Nat.shiftRight_eq_div_pow, show (7#32 : BitVec 32).toNat = 2 ^ 3 - 1 from rfl, Nat.and_two_pow_sub_one_eq_mod]
  unfold rowWord place
  rw [BitVec.toNat_mul, BitVec.toNat_or, BitVec.toNat_or, hA, hB, hC, Nat.or_assoc,
    ← Nat.two_pow_add_eq_or_of_lt (show t.toNat / 4 % 8 < 2 ^ 3 by omega), ← Nat.two_pow_add_eq_or_of_lt (show 2 ^ 3 * (t.toNat % 4) + t.toNat / 4 % 8 < 2 ^ 5 by omega)]
  show _ * 4 % 2 ^ 32 = _
  omega

theorem place_lt {t : Nat} (ht : t < 24576) : place t < 24576 := by unfold place; omega

theorem rowWord_chk (t : BitVec 32) (ht : t.toNat < 24576) : k0_chk1 (rowWord t) := by
  have h := rowWord_toNat t ht
  have hp := place_lt ht
  refine ⟨⟨place t.toNat, h⟩, fun a => ?_⟩
  match a with
  | ⟨0, _⟩ => show (rowWord t).toNat + 4 ≤ 98304; omega
  | ⟨1, _⟩ => show (0 : Nat) + 128 ≤ 128; omega

section Host
variable (m : (ℓ : Loc nD τ sig) → Buf (Elt F) ℓ) (c : Dev nD)

theorem V_main_v16 : (V m c main_v16 : IVec S128x1x384 32) = shapeCast S128x1x384 (fun i => rowWord ((m ((c : Thread nD τ).loc main_arg2) : IVec S128x384 32) i)) shapeCasts_S128x384_S128x1x384 := by
  show StableHlo.after hostOps0 _ (Proc.devRef .tc main_v16) = _
  after_results
  rfl
theorem V_main_v14 : (V m c main_v14 : IVec S24576x6144 8) = shapeCast S24576x6144 (m ((c : Thread nD τ).loc main_arg0) : IVec S8x3072x6144 8) shapeCasts_S8x3072x6144_S24576x6144 := by
  show StableHlo.after hostOps0 _ (Proc.devRef .tc main_v14) = _
  after_results
  rfl
theorem V_main_v15 : (V m c main_v15 : FVec F S128x3x128 .f32) = shapeCast S128x3x128 (m ((c : Thread nD τ).loc main_arg1) : FVec F S128x384 .f32) shapeCasts_S128x384_S128x3x128 := by
  show StableHlo.after hostOps0 _ (Proc.devRef .tc main_v15) = _
  after_results
  rfl
theorem V_main_v17 : (V m c main_v17 : FVec F S128x3x128 .f32) = shapeCast S128x3x128 (m ((c : Thread nD τ).loc main_arg5) : FVec F S128x384 .f32) shapeCasts_S128x384_S128x3x128 := by
  show StableHlo.after hostOps0 _ (Proc.devRef .tc main_v17) = _
  after_results
  rfl

/-- Every token word names a token. -/
def InRange : Prop := ∀ i, ((m ((c : Thread nD τ).loc main_arg2) : IVec S128x384 32) i).toNat < 24576

theorem rowsOK (h : InRange m c) : RowsOK m c := by
  intro j
  rw [show V m c main_v16 j = shapeCast S128x1x384 (fun i => rowWord ((m ((c : Thread nD τ).loc main_arg2) : IVec S128x384 32) i)) shapeCasts_S128x384_S128x1x384 j from congrFun (V_main_v16 m c) j]
  unfold shapeCast
  exact rowWord_chk _ (h _)
end Host

theorem inRange_word (x : BitVec 32) (h0 : 0 ≤ x.toInt) (h1 : x.toInt < 24576) : x.toNat < 24576 := by
  have h2 := BitVec.toInt_eq_toNat_cond x
  have h3 := x.isLt
  split at h2 <;> omega

/-- The stated precondition read back: every token word names a token. -/
theorem inRange_of (a0 : IVec Cert.Pre_in_range.S8x3072x6144 8) (a1 : FVec F Cert.Pre_in_range.S128x384 .f32) (a2 : IVec Cert.Pre_in_range.S128x384 32) (a3 : FVec F Cert.Pre_in_range.S1x128 .f32)
    (a4 : FVec F Cert.Pre_in_range.S128x384x6144 .fp8e4m3) (a5 : FVec F Cert.Pre_in_range.S128x384 .f32)
    (h : Cert.Pre_in_range.fn (F := F) a0 a1 a2 a3 a4 a5 = fun _ => 1#1) : ∀ i, (a2 i).toNat < 24576 := by
  intro i
  unfold Cert.Pre_in_range.fn at h
  haveI : Subsingleton Cert.Pre_in_range.S_.Idx := ⟨fun a b => funext fun k => k.elim0⟩
  have h2 := Host.reduce_andi_all _ _ _ _ (fun k => k.elim0) (congrFun h _) i
  have h3 := IntOp.andi_eq_one.1 h2
  have h4 := IntOp.cmpi_sge.1 h3.1
  have h5 := IntOp.cmpi_slt.1 h3.2
  refine inRange_word _ ?_ ?_
  · exact h4
  · exact h5

theorem frame (m : (ℓ : Loc nD τ sig) → Buf (Elt F) ℓ) (ρ : Dev nD → PrngReg) (h : ∀ c, InRange m c) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  frame_of (fun _ _ _ _ _ _ => True) (fun _ _ _ _ _ => True) m ρ
    (run_main _ _ m ρ (fun c => rowsOK m c (h c)) (fun c t T g8 g9 g14 g15 T' f8 f9 f10 f14 f15 _ _ _ _ _ => ⟨trivial, trivial, trivial, trivial⟩) (fun _ _ _ _ => trivial))

end Cert.KernelIdeal.Run

end
-- ==== Proof.Two.lean ====
/-
  The main call at machine floats: the program printed for them is, definition by definition, the one printed for reading
  at the extended reals, whose frame (Proof/KI/Chk.lean) is proved for any floats.
-/
module

public import proofs.«01_k».proof.Defs
public import proofs.«01_k».proof.Proof.KI.Chk
public import proofs.«01_k».proof.Proof.Gen.Kernel

@[expose] public section

set_option maxHeartbeats 0
set_option maxRecDepth 100000

noncomputable section

namespace Cert.Kernel.Run

open Idealize.ShloMosaic Idealize.SL.Sem

/-- The two programs' bodies are one table. -/
theorem defs₀_eq {F : FTy → Type} [FloatOps F] [Cert.Kernel.Facts] [Cert.KernelIdeal.Facts] : Cert.Kernel.defs₀ (F := F) = Cert.KernelIdeal.defs₀ (F := F) := by
  refine congrArg Defs.onTc ?_
  funext l a
  match l, a with
  | 0, (t, s) => rfl

theorem frame [Cert.Pre_in_range.Facts] : Cert.quiescent_Kernel := fun m ρ h => by
  haveI : Cert.KernelIdeal.Facts := Cert.KernelIdeal.Gen.facts
  have e : Cert.Kernel.defs (F := Bits) = Cert.KernelIdeal.defs (F := Bits) :=
    congrArg (Pipeline.defs (Cert.KernelIdeal.pcfgs (F := Bits))) defs₀_eq
  rw [e]
  exact Cert.KernelIdeal.Run.frame (F := Bits) m ρ fun c => Cert.KernelIdeal.Run.inRange_of _ _ _ _ _ _ (h c)

end Cert.Kernel.Run

end
-- ==== Proof.KI.Bytes.lean ====
/-
  What one byte of the gathered words is. The byte transposes and the reinterpretations read byte by byte: the words
  of a block of slots hold, in slot order, the codes of the tokens those slots name.
-/
module

public import proofs.«01_k».proof.Proof.KI.Chk
public import Idealize.ShloMosaic.Lib.BitcastPair

@[expose] public section

set_option maxRecDepth 16384
set_option maxHeartbeats 4000000

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-! ## The byte transpose, byte by byte -/

section Words
variable (a b : BitVec 32)
def lowB : BitVec 32 := (a &&& 16711935#32) ||| ((b &&& 16711935#32) <<< 8)
def highB : BitVec 32 := ((a >>> 8) &&& 16711935#32) ||| (b &&& 4278255360#32)
def lowH : BitVec 32 := (a &&& 65535#32) ||| (b <<< 16)
def highH : BitVec 32 := (a >>> 16) ||| (b &&& 4294901760#32)
end Words

/-- Byte `n` of a word. -/
def byt (w : BitVec 32) (n : Nat) : BitVec 8 := w.extractLsb' (8 * n) 8

theorem byt_ext {w w' : BitVec 32} {n n' : Nat} (h : ∀ i : Fin 8, w.getLsbD (8 * n + i.val) = w'.getLsbD (8 * n' + i.val)) : byt w n = byt w' n' := by
  apply BitVec.eq_of_getLsbD_eq
  intro i hi
  simp only [byt, BitVec.getLsbD_extractLsb', hi, decide_true, Bool.true_and]
  exact h ⟨i, hi⟩

theorem byt_masks : (∀ i : Fin 8, (16711935#32).getLsbD i.val = true) ∧ (∀ i : Fin 8, (16711935#32).getLsbD (8 + i.val) = false)
    ∧ (∀ i : Fin 8, (16711935#32).getLsbD (16 + i.val) = true) ∧ (∀ i : Fin 8, (16711935#32).getLsbD (24 + i.val) = false)
    ∧ (∀ i : Fin 8, (4278255360#32).getLsbD i.val = false) ∧ (∀ i : Fin 8, (4278255360#32).getLsbD (8 + i.val) = true)
    ∧ (∀ i : Fin 8, (4278255360#32).getLsbD (16 + i.val) = false) ∧ (∀ i : Fin 8, (4278255360#32).getLsbD (24 + i.val) = true)
    ∧ (∀ i : Fin 8, (65535#32).getLsbD i.val = true) ∧ (∀ i : Fin 8, (65535#32).getLsbD (8 + i.val) = true)
    ∧ (∀ i : Fin 8, (65535#32).getLsbD (16 + i.val) = false) ∧ (∀ i : Fin 8, (65535#32).getLsbD (24 + i.val) = false)
    ∧ (∀ i : Fin 8, (4294901760#32).getLsbD i.val = false) ∧ (∀ i : Fin 8, (4294901760#32).getLsbD (8 + i.val) = false)
    ∧ (∀ i : Fin 8, (4294901760#32).getLsbD (16 + i.val) = true) ∧ (∀ i : Fin 8, (4294901760#32).getLsbD (24 + i.val) = true) := by
  decide

theorem lowB_0 (a b : BitVec 32) : byt (lowB a b) 0 = byt a 0 := by
  refine byt_ext fun i => ?_
  revert i
  simp only [lowB, BitVec.getLsbD_or, BitVec.getLsbD_and, BitVec.getLsbD_shiftLeft, BitVec.getLsbD_ushiftRight]
  intro i
  fin_cases i <;> simp
theorem lowB_1 (a b : BitVec 32) : byt (lowB a b) 1 = byt b 0 := by
  refine byt_ext fun i => ?_
  revert i
  simp only [lowB, BitVec.getLsbD_or, BitVec.getLsbD_and, BitVec.getLsbD_shiftLeft, BitVec.getLsbD_ushiftRight]
  intro i
  fin_cases i <;> simp
theorem lowB_2 (a b : BitVec 32) : byt (lowB a b) 2 = byt a 2 := by
  refine byt_ext fun i => ?_
  revert i
  simp only [lowB, BitVec.getLsbD_or, BitVec.getLsbD_and, BitVec.getLsbD_shiftLeft, BitVec.getLsbD_ushiftRight]
  intro i
  fin_cases i <;> simp
theorem lowB_3 (a b : BitVec 32) : byt (lowB a b) 3 = byt b 2 := by
  refine byt_ext fun i => ?_
  revert i
  simp only [lowB, BitVec.getLsbD_or, BitVec.getLsbD_and, BitVec.getLsbD_shiftLeft, BitVec.getLsbD_ushiftRight]
  intro i
  fin_cases i <;> simp
theorem highB_0 (a b : BitVec 32) : byt (highB a b) 0 = byt a 1 := by
  refine byt_ext fun i => ?_
  revert i
  simp only [highB, BitVec.getLsbD_or, BitVec.getLsbD_and, BitVec.getLsbD_shiftLeft, BitVec.getLsbD_ushiftRight]
  intro i
  fin_cases i <;> simp
theorem highB_1 (a b : BitVec 32) : byt (highB a b) 1 = byt b 1 := by
  refine byt_ext fun i => ?_
  revert i
  simp only [highB, BitVec.getLsbD_or, BitVec.getLsbD_and, BitVec.getLsbD_shiftLeft, BitVec.getLsbD_ushiftRight]
  intro i
  fin_cases i <;> simp
theorem highB_2 (a b : BitVec 32) : byt (highB a b) 2 = byt a 3 := by
  refine byt_ext fun i => ?_
  revert i
  simp only [highB, BitVec.getLsbD_or, BitVec.getLsbD_and, BitVec.getLsbD_shiftLeft, BitVec.getLsbD_ushiftRight]
  intro i
  fin_cases i <;> simp
theorem highB_3 (a b : BitVec 32) : byt (highB a b) 3 = byt b 3 := by
  refine byt_ext fun i => ?_
  revert i
  simp only [highB, BitVec.getLsbD_or, BitVec.getLsbD_and, BitVec.getLsbD_shiftLeft, BitVec.getLsbD_ushiftRight]
  intro i
  fin_cases i <;> simp
theorem lowH_0 (a b : BitVec 32) : byt (lowH a b) 0 = byt a 0 := by
  refine byt_ext fun i => ?_
  revert i
  simp only [lowH, BitVec.getLsbD_or, BitVec.getLsbD_and, BitVec.getLsbD_shiftLeft, BitVec.getLsbD_ushiftRight]
  intro i
  fin_cases i <;> simp
theorem lowH_1 (a b : BitVec 32) : byt (lowH a b) 1 = byt a 1 := by
  refine byt_ext fun i => ?_
  revert i
  simp only [lowH, BitVec.getLsbD_or, BitVec.getLsbD_and, BitVec.getLsbD_shiftLeft, BitVec.getLsbD_ushiftRight]
  intro i
  fin_cases i <;> simp
theorem lowH_2 (a b : BitVec 32) : byt (lowH a b) 2 = byt b 0 := by
  refine byt_ext fun i => ?_
  revert i
  simp only [lowH, BitVec.getLsbD_or, BitVec.getLsbD_and, BitVec.getLsbD_shiftLeft, BitVec.getLsbD_ushiftRight]
  intro i
  fin_cases i <;> simp
theorem lowH_3 (a b : BitVec 32) : byt (lowH a b) 3 = byt b 1 := by
  refine byt_ext fun i => ?_
  revert i
  simp only [lowH, BitVec.getLsbD_or, BitVec.getLsbD_and, BitVec.getLsbD_shiftLeft, BitVec.getLsbD_ushiftRight]
  intro i
  fin_cases i <;> simp
theorem highH_0 (a b : BitVec 32) : byt (highH a b) 0 = byt a 2 := by
  refine byt_ext fun i => ?_
  revert i
  simp only [highH, BitVec.getLsbD_or, BitVec.getLsbD_and, BitVec.getLsbD_shiftLeft, BitVec.getLsbD_ushiftRight]
  intro i
  fin_cases i <;> simp
theorem highH_1 (a b : BitVec 32) : byt (highH a b) 1 = byt a 3 := by
  refine byt_ext fun i => ?_
  revert i
  simp only [highH, BitVec.getLsbD_or, BitVec.getLsbD_and, BitVec.getLsbD_shiftLeft, BitVec.getLsbD_ushiftRight]
  intro i
  fin_cases i <;> simp
theorem highH_2 (a b : BitVec 32) : byt (highH a b) 2 = byt b 2 := by
  refine byt_ext fun i => ?_
  revert i
  simp only [highH, BitVec.getLsbD_or, BitVec.getLsbD_and, BitVec.getLsbD_shiftLeft, BitVec.getLsbD_ushiftRight]
  intro i
  fin_cases i <;> simp
theorem highH_3 (a b : BitVec 32) : byt (highH a b) 3 = byt b 3 := by
  refine byt_ext fun i => ?_
  revert i
  simp only [highH, BitVec.getLsbD_or, BitVec.getLsbD_and, BitVec.getLsbD_shiftLeft, BitVec.getLsbD_ushiftRight]
  intro i
  fin_cases i <;> simp

def btw (w : Fin 4 → BitVec 32) (q : Fin 4) : BitVec 32 :=
  match q with
  | 0 => lowB (lowH (w 0) (w 2)) (lowH (w 1) (w 3))
  | 1 => highB (lowH (w 0) (w 2)) (lowH (w 1) (w 3))
  | 2 => lowB (highH (w 0) (w 2)) (highH (w 1) (w 3))
  | 3 => highB (highH (w 0) (w 2)) (highH (w 1) (w 3))

theorem btw_byt (w : Fin 4 → BitVec 32) (q b : Fin 4) : byt (btw w q) b.val = byt (w b) q.val := by
  match q, b with
  | 0, 0 => exact (lowB_0 _ _).trans (lowH_0 _ _)
  | 0, 1 => exact (lowB_1 _ _).trans (lowH_0 _ _)
  | 0, 2 => exact (lowB_2 _ _).trans (lowH_2 _ _)
  | 0, 3 => exact (lowB_3 _ _).trans (lowH_2 _ _)
  | 1, 0 => exact (highB_0 _ _).trans (lowH_1 _ _)
  | 1, 1 => exact (highB_1 _ _).trans (lowH_1 _ _)
  | 1, 2 => exact (highB_2 _ _).trans (lowH_3 _ _)
  | 1, 3 => exact (highB_3 _ _).trans (lowH_3 _ _)
  | 2, 0 => exact (lowB_0 _ _).trans (highH_0 _ _)
  | 2, 1 => exact (lowB_1 _ _).trans (highH_0 _ _)
  | 2, 2 => exact (lowB_2 _ _).trans (highH_2 _ _)
  | 2, 3 => exact (lowB_3 _ _).trans (highH_2 _ _)
  | 3, 0 => exact (highB_0 _ _).trans (highH_1 _ _)
  | 3, 1 => exact (highB_1 _ _).trans (highH_1 _ _)
  | 3, 2 => exact (highB_2 _ _).trans (highH_3 _ _)
  | 3, 3 => exact (highB_3 _ _).trans (highH_3 _ _)

theorem bt_apply (w : Fin 4 → IVec S8x128 32) (q : Fin 4) (x : S8x128.Idx) : bt (F := F) w q x = btw (fun b => w b x) q := by
  match q with
  | 0 => rfl
  | 1 => rfl
  | 2 => rfl
  | 3 => rfl

theorem bt_byt (w : Fin 4 → IVec S8x128 32) (q b : Fin 4) (x : S8x128.Idx) : byt (bt (F := F) w q x) b.val = byt (w b x) q.val := by
  rw [bt_apply, btw_byt]

/-! ## The reinterpretations -/

theorem unpack_apply (w : IVec S8x128 32) (r : Fin 32) (l : Fin 128) :
    bitcast S32x128 8 w bitcasts_S8x128_w32_S32x128_w8 (ix2 r l) = byt (w (ix2 (Fin.ofNat 8 (r.val / 4)) l)) (r.val % 4) := by
  apply BitVec.eq_of_getLsbD_eq
  intro i hi
  have hr := r.isLt
  have hrow : S32x128.row (ix2 r l) = r.val := rfl
  rw [bitcast_getLsbD w bitcasts_S8x128_w32_S32x128_w8 _ i hi (by decide), byt, BitVec.getLsbD_extractLsb']
  simp only [hi, decide_true, Bool.true_and]
  rw [show (S32x128.row (ix2 r l) * 8 + i) % 32 = 8 * (r.val % 4) + i by rw [hrow]; omega]
  congr 2
  funext a
  match a with
  | ⟨0, _⟩ => exact Fin.ext (by
      rw [Shape.Bitcasts.srcIdx_row _ _ _ _ _ rfl]
      show (r.val * 8 + i) / 32 = (r.val / 4) % 8
      omega)
  | ⟨1, _⟩ => exact Fin.ext (by
      rw [Shape.Bitcasts.srcIdx_other _ _ _ _ _ (by show ¬ (1 + 2 = 2); decide)]
      rfl)

theorem pack_byt (x : IVec S32x128 8) (g : Fin 8) (l : Fin 128) (b : Fin 4) :
    byt (bitcast S8x128 32 x bitcasts_S32x128_w8_S8x128_w32 (ix2 g l)) b.val = x (ix2 (Fin.ofNat 32 (4 * g.val + b.val)) l) := by
  apply BitVec.eq_of_getLsbD_eq
  intro i hi
  have hg := g.isLt
  have hb := b.isLt
  have hrow : S8x128.row (ix2 g l) = g.val := rfl
  rw [byt, BitVec.getLsbD_extractLsb']
  simp only [hi, decide_true, Bool.true_and]
  rw [bitcast_getLsbD x bitcasts_S32x128_w8_S8x128_w32 _ (8 * b.val + i) (by omega) (by decide)]
  rw [show (S8x128.row (ix2 g l) * 32 + (8 * b.val + i)) % 8 = i by rw [hrow]; omega]
  congr 2
  funext a
  match a with
  | ⟨0, _⟩ => exact Fin.ext (by
      rw [Shape.Bitcasts.srcIdx_row _ _ _ _ _ rfl]
      show (g.val * 32 + (8 * b.val + i)) / 8 = (4 * g.val + b.val) % 32
      omega)
  | ⟨1, _⟩ => exact Fin.ext (by
      rw [Shape.Bitcasts.srcIdx_other _ _ _ _ _ (by show ¬ (1 + 2 = 2); decide)]
      rfl)

/-! ## The gathered codes -/

/-- The byte of token `t`, column `d`. -/
def dyAt (D : S24576x6144.Idx → Elt F .i8) (t d : Nat) : BitVec 8 := D (ix2 (Fin.ofNat 24576 t) (Fin.ofNat 6144 d))

/-- A byte of the table: of the words of token `t`, chunk `j`, the byte of column tile `q`. -/
theorem table_byt (T : S98304x128.Idx → BitVec 32) (D : S24576x6144.Idx → Elt F .i8) (cc : Nat) (hT : ∀ y, T y = tableOf D cc y)
    (t : Nat) (ht : t < 24576) (j q : Fin 4) (l : Nat) (hl : l < 128) :
    byt (tabAt T (4 * place t + j.val) l) q.val = dyAt D t (2048 * cc + 512 * j.val + 128 * q.val + l) := by
  have hj := j.isLt
  have hp : place t < 24576 := place_lt ht
  unfold tabAt
  rw [hT]
  unfold tableOf
  rw [bt_byt]
  have e0 : (Fin.ofNat 98304 (4 * place t + j.val)).val = 4 * place t + j.val := by show _ % 98304 = _; omega
  show byt (rawWord D cc ((Fin.ofNat 98304 (4 * place t + j.val)).val / 128) (4 * ((Fin.ofNat 98304 (4 * place t + j.val)).val % 4) + q.val)
    (ix2 (Fin.ofNat 8 ((Fin.ofNat 98304 (4 * place t + j.val)).val / 4)) (Fin.ofNat 128 (l % 128)))) (Fin.ofNat 4 ((Fin.ofNat 98304 (4 * place t + j.val)).val / 32)).val = _
  rw [e0]
  unfold rawWord
  rw [pack_byt]
  unfold byteTile dyAt
  have k0 : (4 * place t + j.val) / 128 = t / 32 := by unfold place; omega
  have k1 : (4 * place t + j.val) % 4 = j.val := by omega
  have k2 : (4 * place t + j.val) / 4 % 8 = t / 4 % 8 := by unfold place; omega
  have k3 : (4 * place t + j.val) / 32 % 4 = t % 4 := by
    have h : (4 * place t + j.val) / 32 = 4 * (t / 32) + t % 4 := by unfold place; omega
    rw [h]; omega
  show D (ix2 (Fin.ofNat 24576 (32 * ((4 * place t + j.val) / 128) + (4 * ((4 * place t + j.val) / 4 % 8) + (4 * place t + j.val) / 32 % 4) % 32))
    (Fin.ofNat 6144 (2048 * cc + 128 * (4 * ((4 * place t + j.val) % 4) + q.val) + l % 128 % 128))) = _
  rw [k0, k1, k2, k3]
  rw [show 32 * (t / 32) + (4 * (t / 4 % 8) + t % 4) % 32 = t by omega,
    show 2048 * cc + 128 * (4 * j.val + q.val) + l % 128 % 128 = 2048 * cc + 512 * j.val + 128 * q.val + l by omega]

/-- THE GATHER: row `r`, lane `l` of a tile of codes is the byte of the slot's token, at the tile's column. -/
theorem codes_apply (T : S98304x128.Idx → BitVec 32) (D : S24576x6144.Idx → Elt F .i8) (cc : Nat) (hT : ∀ y, T y = tableOf D cc y)
    (rw' : Nat → BitVec 32) (tk : Nat → Nat) (k : Nat) (hk : k < 3) (hrw : ∀ s, s < 384 → tk s < 24576 ∧ (rw' s).toNat = 4 * place (tk s))
    (j gg q : Fin 4) (r : Fin 32) (l : Fin 128) :
    k0_pay213 (F := F) (word (wSpec (F := F) T rw' k) j gg q) (ix2 r l)
      = FloatOps.ofBits .fp8e5m2 (dyAt D (tk (128 * k + 32 * gg.val + r.val)) (2048 * cc + 512 * j.val + 128 * q.val + l.val)) := by
  have hg := gg.isLt
  have hr := r.isLt
  show FloatOps.ofBits .fp8e5m2 (bitcast S32x128 8 (word (wSpec (F := F) T rw' k) j gg q) bitcasts_S8x128_w32_S32x128_w8 (ix2 r l)) = _
  rw [unpack_apply]
  congr 1
  unfold word
  rw [show r.val % 4 = (⟨r.val % 4, Nat.mod_lt _ (by decide)⟩ : Fin 4).val from rfl, bt_byt]
  unfold wSpec
  show byt (tabAt T ((rw' (128 * k + 32 * gg.val + 4 * (r.val / 4 % 8) + r.val % 4)).toNat + j.val) l.val) q.val = _
  rw [show 128 * k + 32 * gg.val + 4 * (r.val / 4 % 8) + r.val % 4 = 128 * k + 32 * gg.val + r.val by omega]
  obtain ⟨h1, h2⟩ := hrw (128 * k + 32 * gg.val + r.val) (by omega)
  rw [h2]
  exact table_byt T D cc hT _ h1 j q l.val l.isLt

end Cert.KernelIdeal.Run
-- ==== Proof.KI.Val.lean ====
/-
  What the tiles of a block are at the extended reals: a tile of d_out's codes, the block's product on its diagonal, the
  dot accumulator's next row and the block's maxima, each in terms of the gathered codes.
-/
module

public import proofs.«01_k».proof.Proof.KI.Bytes
public import Idealize.ShloMosaic.PureOps.Ideal
public import Idealize.ShloMosaic.PureOps.Ideal.Laws
public import Idealize.ShloMosaic.Lib.ValueIdx

@[expose] public section

set_option maxRecDepth 16384
set_option maxHeartbeats 4000000

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-! ## The numbers -/

/-- The code of token `t`, column `d`, as a number. -/
def gI (D : S24576x6144.Idx → Elt Ideal .i8) (t d : Nat) : EReal := FloatOps.ofBits (F := Ideal) .fp8e5m2 (dyAt (F := Ideal) D t d)
def absE (x : EReal) : EReal := max x (-x)
/-- Clipped to the range of the codes of d_out. -/
def clipE (x : EReal) : EReal := min (FloatOps.ofBits (F := Ideal) .f32 0x47600000#32) (max (FloatOps.ofBits (F := Ideal) .f32 0xC7600000#32) x)

theorem absE_nonneg (x : EReal) : 0 ≤ absE x := by
  unfold absE
  rcases le_total 0 x with h | h
  · exact le_max_of_le_left h
  · exact le_max_of_le_right (by simpa using EReal.neg_le_neg_iff.mpr h)

theorem absE_eq (x : EReal) : absE x = ((EReal.abs x : ENNReal) : EReal) := by
  unfold absE
  induction x with
  | bot => simp
  | top => simp
  | coe r =>
    rw [← EReal.coe_neg, EReal.abs_def, ← EReal.coe_strictMono.monotone.map_max, ← abs_eq_max_neg, EReal.coe_ennreal_ofReal, max_eq_left (abs_nonneg r)]

theorem absE_mul (x y : EReal) : absE (x * y) = absE x * absE y := by
  rw [absE_eq, absE_eq, absE_eq, EReal.abs_mul, EReal.coe_ennreal_mul]

theorem max_mul_absE (a b x : EReal) : max a b * absE x = max (a * absE x) (b * absE x) :=
  (show Monotone fun a : EReal => a * absE x from fun _ _ h => mul_le_mul_of_nonneg_right h (absE_nonneg x)).map_max

/-- What a table, the row words and the tokens of an expert have to do with each other: the table is chunk `cc`'s, and
    the word of slot `s` names the rows of the slot's token. -/
structure Gath (T : S98304x128.Idx → BitVec 32) (D : S24576x6144.Idx → Elt Ideal .i8) (cc : Nat) (rw' : Nat → BitVec 32) (tk : Nat → Nat) : Prop where
  tab : ∀ y, T y = tableOf (F := Ideal) D cc y
  row : ∀ s, s < 384 → tk s < 24576 ∧ (rw' s).toNat = 4 * place (tk s)

variable {T : S98304x128.Idx → BitVec 32} {D : S24576x6144.Idx → Elt Ideal .i8} {cc : Nat} {rw' : Nat → BitVec 32} {tk : Nat → Nat}

/-! ## One tile -/

theorem gTile_apply (G : Gath T D cc rw' tk) (k : Nat) (hk : k < 3) (j gg q : Fin 4) (r : Fin 32) (l : Fin 128) :
    gTile (F := Ideal) (wSpec (F := Ideal) T rw' k) j gg q (ix2 r l)
      = gI D (tk (128 * k + 32 * gg.val + r.val)) (2048 * cc + 512 * j.val + 128 * q.val + l.val) :=
  codes_apply T D cc G.tab rw' tk k hk G.row j gg q r l

theorem outT_apply (G : Gath T D cc rw' tk) (v4 : Elt Ideal .f32) (mc : FVec Ideal S128x128 .f32) (k : Nat) (hk : k < 3) (j gg q : Fin 4) (r : Fin 32) (l : Fin 128) :
    outT (F := Ideal) v4 mc (wSpec (F := Ideal) T rw' k) j gg q (ix3 (0 : Fin 1) r l)
      = clipE (mc (ix2 (Fin.ofNat 128 (32 * gg.val + r.val)) l) * gI D (tk (128 * k + 32 * gg.val + r.val)) (2048 * cc + 512 * j.val + 128 * q.val + l.val) * v4) := by
  unfold outT k0_pay214
  refine (shapeCast_addUnit_apply _ _ _ _).trans ?_
  have e : (fun a : Fin 2 => (ix3 (0 : Fin 1) r l : S1x32x128.Idx) a.succ) = (ix2 r l : S32x128.Idx) := by
    funext a; match a with | ⟨0, _⟩ => rfl | ⟨1, _⟩ => rfl
  rw [show (fun a : Fin 2 => (ix3 (0 : Fin 1) r l : S1x32x128.Idx) a.succ) = (ix2 r l : S32x128.Idx) from e]
  show clipE (mRows mc gg (ix2 r l) * k0_pay213 (F := Ideal) (word (wSpec (F := Ideal) T rw' k) j gg q) (ix2 r l) * v4) = _
  rw [codes_apply T D cc G.tab rw' tk k hk G.row j gg q r l]
  rw [show mRows mc gg (ix2 r l) = mc (ix2 (Fin.ofNat 128 (32 * gg.val + r.val)) l) from
    extractStridedSlice_apply _ _ _ _ _ fun a => by
      have hg := gg.isLt; have hr := r.isLt; have hl := l.isLt
      match a with
      | ⟨0, _⟩ => show (32 * gg.val + r.val) % 128 = 32 * gg.val + r.val; omega
      | ⟨1, _⟩ => show l.val = 0 + l.val; omega]
  rfl

/-! ## The product -/

theorem gRow_apply (W : Words Ideal) (j gg : Fin 4) (r : Fin 32) (x : Fin 512) :
    gRow W j gg (ix2 r x) = gTile W j gg (Fin.ofNat 4 (x.val / 128)) (ix2 r (Fin.ofNat 128 x.val)) := by
  have hx := x.isLt
  refine concatenate_ofFn_apply (t := S32x512) (s₁ := S32x128) (1 : Fin 2) (fun q : Fin 4 => gTile W j gg q) concatenates_S32x128_S32x128_S32x128_S32x128_S32x512_d1 rfl 128 rfl (ix2 r x) (Fin.ofNat 4 (x.val / 128))
    ?_ (ix2 r (Fin.ofNat 128 x.val)) rfl ?_
  · show x.val / 128 = (x.val / 128) % 4; omega
  · intro b hb
    match b, hb with
    | ⟨0, _⟩, _ => rfl
    | ⟨1, _⟩, hb => exact absurd rfl hb

theorem gBlock_apply (W : Words Ideal) (j : Fin 4) (s : Fin 128) (x : Fin 512) :
    gBlock W j (ix2 s x) = gRow W j (Fin.ofNat 4 (s.val / 32)) (ix2 (Fin.ofNat 32 s.val) x) := by
  have hs := s.isLt
  refine concatenate_ofFn_apply (t := S128x512) (s₁ := S32x512) (0 : Fin 2) (fun gg : Fin 4 => gRow W j gg) concatenates_S32x512_S32x512_S32x512_S32x512_S128x512_d0 rfl 32 rfl (ix2 s x) (Fin.ofNat 4 (s.val / 32))
    ?_ (ix2 (Fin.ofNat 32 s.val) x) rfl ?_
  · show s.val / 32 = (s.val / 32) % 4; omega
  · intro b hb
    match b, hb with
    | ⟨0, _⟩, hb => exact absurd rfl hb
    | ⟨1, _⟩, _ => rfl

theorem gBlock_val (G : Gath T D cc rw' tk) (k : Nat) (hk : k < 3) (j : Fin 4) (s : Fin 128) (x : Fin 512) :
    gBlock (F := Ideal) (wSpec (F := Ideal) T rw' k) j (ix2 s x) = gI D (tk (128 * k + s.val)) (2048 * cc + 512 * j.val + x.val) := by
  have hs := s.isLt
  have hx := x.isLt
  rw [gBlock_apply, gRow_apply, gTile_apply G k hk]
  show gI D (tk (128 * k + 32 * (s.val / 32 % 4) + s.val % 32)) (2048 * cc + 512 * j.val + 128 * (x.val / 128 % 4) + x.val % 128) = _
  rw [show 128 * k + 32 * (s.val / 32 % 4) + s.val % 32 = 128 * k + s.val by omega,
    show 2048 * cc + 512 * j.val + 128 * (x.val / 128 % 4) + x.val % 128 = 2048 * cc + 512 * j.val + x.val by omega]

theorem prodT_apply (W : Words Ideal) (R : Vec Ideal S1x128x512 .fp8e4m3) (j : Fin 4) (s s' : Fin 128) :
    prodT W R j (ix2 s s') = ∑ x : Fin 512, gBlock W j (ix2 s x) * R (ix3 (0 : Fin 1) s' x) := by
  unfold prodT
  simp only [matmul]
  rw [Ideal.matmul_constant_zero_apply]
  rw [← Equiv.sum_comp (contrEquiv1 dot_S128x512_S128x512_S128x128_1_1_0_0_n_n 512 rfl rfl).symm]
  refine Finset.sum_congr rfl fun x _ => ?_
  congr 1
  · congr 1
    funext a
    match a with
    | ⟨0, _⟩ => rfl
    | ⟨1, _⟩ => rfl
  · refine (shapeCast_dropUnit_apply _ _ _ _).trans ?_
    congr 1
    funext a
    match a with
    | ⟨0, _⟩ => rfl
    | ⟨1, _⟩ => rfl
    | ⟨2, _⟩ => rfl

/-- 512 terms of a sum. -/
def sum512 (f : Nat → EReal) (o : Nat) : EReal := ∑ x : Fin 512, f (o + x.val)

theorem sum2048 (f : Nat → EReal) (n : Nat) :
    (∑ d ∈ Finset.range (2048 * (n + 1)), f d)
      = (0 + sum512 f (2048 * n + 512 * 0) + sum512 f (2048 * n + 512 * 1) + sum512 f (2048 * n + 512 * 2) + sum512 f (2048 * n + 512 * 3)) + ∑ d ∈ Finset.range (2048 * n), f d := by
  have h : ∀ o, sum512 f o = ∑ x ∈ Finset.range 512, f (o + x) := fun o => (Finset.sum_range fun x => f (o + x)).symm
  rw [show 2048 * (n + 1) = 2048 * n + 512 + 512 + 512 + 512 by omega]
  simp only [Finset.sum_range_add, h, zero_add, Nat.mul_zero, Nat.add_zero, Nat.mul_one]
  simp only [show 512 * 2 = 512 + 512 from rfl, show 512 * 3 = 512 + 512 + 512 from rfl, ← Nat.add_assoc]
  simp only [add_assoc]
  rw [add_comm (∑ x ∈ Finset.range (2048 * n), f x)]
  simp only [add_assoc]

/-- The product of a block at one of its diagonal's places. -/
theorem accT_diag (G : Gath T D cc rw' tk) (k : Nat) (hk : k < 3) (R : Fin 4 → Vec Ideal S1x128x512 .fp8e4m3) (o : Nat → Nat → EReal)
    (hR : ∀ (j : Fin 4) (s : Fin 128) (x : Fin 512), R j (ix3 (0 : Fin 1) s x) = o (128 * k + s.val) (2048 * cc + 512 * j.val + x.val)) (s : Fin 128) :
    accT (F := Ideal) (wSpec (F := Ideal) T rw' k) R (ix2 s s)
      = 0 + sum512 (fun d => gI D (tk (128 * k + s.val)) d * o (128 * k + s.val) d) (2048 * cc + 512 * 0)
        + sum512 (fun d => gI D (tk (128 * k + s.val)) d * o (128 * k + s.val) d) (2048 * cc + 512 * 1)
        + sum512 (fun d => gI D (tk (128 * k + s.val)) d * o (128 * k + s.val) d) (2048 * cc + 512 * 2)
        + sum512 (fun d => gI D (tk (128 * k + s.val)) d * o (128 * k + s.val) d) (2048 * cc + 512 * 3) := by
  have hj : ∀ j : Fin 4, prodT (F := Ideal) (wSpec (F := Ideal) T rw' k) (R j) j (ix2 s s)
      = sum512 (fun d => gI D (tk (128 * k + s.val)) d * o (128 * k + s.val) d) (2048 * cc + 512 * j.val) := fun j => by
    rw [prodT_apply]
    exact Finset.sum_congr rfl fun x _ => by rw [gBlock_val G k hk, hR]
  show Ideal.ofBits .f32 0x00000000#32 + prodT (F := Ideal) (wSpec (F := Ideal) T rw' k) (R 0) 0 (ix2 s s) + prodT (F := Ideal) (wSpec (F := Ideal) T rw' k) (R 1) 1 (ix2 s s)
    + prodT (F := Ideal) (wSpec (F := Ideal) T rw' k) (R 2) 2 (ix2 s s) + prodT (F := Ideal) (wSpec (F := Ideal) T rw' k) (R 3) 3 (ix2 s s) = _
  rw [hj, hj, hj, hj, Ideal.ofBits_zero_f32]
  rfl

/-! ## The diagonal and the accumulator's row -/

theorem diagSum (acc : FVec Ideal S128x128 .f32) (l : Fin 128) :
    multiReduction .add [0] S128 (select (cmpi .eq (iota .tc S128x128 32 [0] iota_S128x128_d0_w32) (iota .tc S128x128 32 [1] iota_S128x128_d1_w32)) acc
        (broadcast S128x128 (Scalar.ofBits (F := Ideal) .f32 0x00000000#32))) 0x00000000#32 reduces_S128x128_S128 (.inl rfl) rfl (ix1 l) = acc (ix2 l l) := by
  refine (Ideal.multiReduction_add_single _ _ _ _ _ _).trans ?_
  have hl : ∀ k : Fin 128, reduces_S128x128_S128.lift (ix1 l) k = (ix2 k l : S128x128.Idx) := fun k => by
    funext a; match a with | ⟨0, _⟩ => rfl | ⟨1, _⟩ => rfl
  refine (Finset.sum_eq_single (l : Fin 128) ?_ ?_).trans ?_
  · intro k _ hk
    rw [hl]
    have hne : ¬ BitVec.ofNat 32 k.val = BitVec.ofNat 32 l.val := fun h => hk (Fin.ext (by
      have := congrArg BitVec.toNat h
      have h1 := k.isLt; have h2 := l.isLt
      simp only [BitVec.toNat_ofNat] at this
      have a1 : k.val < 128 := k.isLt
      omega))
    rw [select_apply]
    show Scalar.select (IntOp.cmpi .eq (iota .tc S128x128 32 [0] iota_S128x128_d0_w32 (ix2 k l)) (iota .tc S128x128 32 [1] iota_S128x128_d1_w32 (ix2 k l))) (acc (ix2 k l)) (Ideal.ofBits .f32 0x00000000#32) = 0
    rw [iota_single_apply, iota_single_apply, show IntOp.cmpi .eq (BitVec.ofNat 32 ((ix2 k l : S128x128.Idx) 0).val) (BitVec.ofNat 32 ((ix2 k l : S128x128.Idx) 1).val) = 0#1 by
      show BitVec.ofBool (BitVec.ofNat 32 k.val == BitVec.ofNat 32 l.val) = 0#1
      rw [beq_false_of_ne hne]; rfl, select_zero, Ideal.ofBits_zero_f32]
  · intro h; exact absurd (Finset.mem_univ _) h
  · rw [hl]
    rw [select_apply]
    show Scalar.select (IntOp.cmpi .eq (iota .tc S128x128 32 [0] iota_S128x128_d0_w32 (ix2 l l)) (iota .tc S128x128 32 [1] iota_S128x128_d1_w32 (ix2 l l))) (acc (ix2 l l)) (Ideal.ofBits .f32 0x00000000#32) = _
    rw [iota_single_apply, iota_single_apply, show IntOp.cmpi .eq (BitVec.ofNat 32 ((ix2 l l : S128x128.Idx) 0).val) (BitVec.ofNat 32 ((ix2 l l : S128x128.Idx) 1).val) = 1#1 by
      show BitVec.ofBool (BitVec.ofNat 32 l.val == BitVec.ofNat 32 l.val) = 1#1
      rw [beq_self_eq_true]; rfl, select_one]

theorem cmp0 (n : Nat) (hn : n < 3) : Scalar.cmpi .eq (BitVec.ofNat 32 n) 0#32 = if n = 0 then 1#1 else 0#1 := by
  match n, hn with
  | 0, _ => rfl
  | 1, _ => rfl
  | 2, _ => rfl

theorem pay631_apply (n : Nat) (hn : n < 3) (acc : FVec Ideal S128x128 .f32) (row : Vec Ideal S1x1x128 .f32) (l : Fin 128) :
    k0_pay631 (BitVec.ofNat 32 n) acc row (ix2 (0 : Fin 1) l) = acc (ix2 l l) + if n = 0 then 0 else row (ix3 (0 : Fin 1) (0 : Fin 1) l) := by
  unfold k0_pay631
  show FloatOps.addf (F := Ideal) (shapeCast S1x128 _ shapeCasts_S128_S1x128 (ix2 (0 : Fin 1) l)) (Scalar.select (Scalar.cmpi .eq (BitVec.ofNat 32 n) 0#32) (broadcast S1x128 (Scalar.ofBits (F := Ideal) .f32 0x00000000#32)) (shapeCast S1x128 row shapeCasts_S1x1x128_S1x128) (ix2 (0 : Fin 1) l)) = _
  have e1 : ∀ v : FVec Ideal S128 .f32, shapeCast S1x128 v shapeCasts_S128_S1x128 (ix2 (0 : Fin 1) l) = v (ix1 l) := fun v =>
    (shapeCast_addUnit_apply _ v _ _).trans (congrArg v (by funext a; match a with | ⟨0, _⟩ => rfl))
  have e2 : shapeCast S1x128 row shapeCasts_S1x1x128_S1x128 (ix2 (0 : Fin 1) l) = row (ix3 (0 : Fin 1) (0 : Fin 1) l) :=
    (shapeCast_dropUnit_apply _ row _ _).trans (congrArg row (by funext a; match a with | ⟨0, _⟩ => rfl | ⟨1, _⟩ => rfl | ⟨2, _⟩ => rfl))
  rw [e1, diagSum, cmp0 n hn]
  by_cases h : n = 0
  · rw [if_pos h, if_pos h]
    show acc (ix2 l l) + Ideal.ofBits .f32 0x00000000#32 = _
    rw [Ideal.ofBits_zero_f32]
  · rw [if_neg h, if_neg h]
    show acc (ix2 l l) + shapeCast S1x128 row shapeCasts_S1x1x128_S1x128 (ix2 (0 : Fin 1) l) = _
    rw [e2]

theorem up3 (v : FVec Ideal S1x128 .f32) (l : Fin 128) : shapeCast S1x1x128 v shapeCasts_S1x128_S1x1x128 (ix3 (0 : Fin 1) (0 : Fin 1) l) = v (ix2 (0 : Fin 1) l) :=
  (shapeCast_addUnit_apply _ v _ _).trans (congrArg v (by funext a; match a with | ⟨0, _⟩ => rfl | ⟨1, _⟩ => rfl))

theorem pay632_apply (n : Nat) (hn : n < 3) (acc : FVec Ideal S128x128 .f32) (row : Vec Ideal S1x1x128 .f32) (l : Fin 128) :
    k0_pay632 (BitVec.ofNat 32 n) acc row (ix3 (0 : Fin 1) (0 : Fin 1) l) = acc (ix2 l l) + if n = 0 then 0 else row (ix3 (0 : Fin 1) (0 : Fin 1) l) := by
  unfold k0_pay632
  exact (up3 _ l).trans (pay631_apply n hn acc row l)

theorem pay634_apply (n : Nat) (hn : n < 3) (acc : FVec Ideal S128x128 .f32) (row gos : Vec Ideal S1x1x128 .f32) (l : Fin 128) :
    k0_pay634 (k0_pay633 (BitVec.ofNat 32 n) acc row gos) (ix3 (0 : Fin 1) (0 : Fin 1) l)
      = gos (ix3 (0 : Fin 1) (0 : Fin 1) l) * (acc (ix2 l l) + if n = 0 then 0 else row (ix3 (0 : Fin 1) (0 : Fin 1) l)) := by
  unfold k0_pay634
  refine (up3 _ l).trans ?_
  unfold k0_pay633
  show FloatOps.mulf (F := Ideal) (shapeCast S1x128 gos shapeCasts_S1x1x128_S1x128 (ix2 (0 : Fin 1) l)) (k0_pay631 (BitVec.ofNat 32 n) acc row (ix2 (0 : Fin 1) l)) = _
  rw [pay631_apply n hn]
  have e2 : shapeCast S1x128 gos shapeCasts_S1x1x128_S1x128 (ix2 (0 : Fin 1) l) = gos (ix3 (0 : Fin 1) (0 : Fin 1) l) :=
    (shapeCast_dropUnit_apply _ gos _ _).trans (congrArg gos (by funext a; match a with | ⟨0, _⟩ => rfl | ⟨1, _⟩ => rfl | ⟨2, _⟩ => rfl))
  rw [e2]
  rfl

end Cert.KernelIdeal.Run
-- ==== Proof.KI.Max.lean ====
/-
  The maxima at the extended reals, each by the numbers that bound it: a block's, a tile's after all blocks of a point,
  and the maximum over a tile.
-/
module

public import proofs.«01_k».proof.Proof.KI.Val

@[expose] public section

set_option maxRecDepth 16384
set_option maxHeartbeats 4000000

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

theorem forall4 {p : Fin 4 → Prop} : (∀ a, p a) ↔ ((p 0 ∧ p 1) ∧ p 2) ∧ p 3 :=
  ⟨fun h => ⟨⟨⟨h 0, h 1⟩, h 2⟩, h 3⟩, fun h a => by
    match a with
    | 0 => exact h.1.1.1
    | 1 => exact h.1.1.2
    | 2 => exact h.1.2
    | 3 => exact h.2⟩

/-- A group's largest |code|, scaled. -/
theorem gmaxT_le (W : Words Ideal) (gg : Fin 4) (y : S32x128.Idx) (x B : EReal) :
    (gmaxT W gg y * absE x : EReal) ≤ B ↔ ∀ j q : Fin 4, absE (gTile W j gg q y) * absE x ≤ B := by
  have hJ : ∀ (a : FVec Ideal S32x128 .bf16) (j : Fin 4), (gmaxJ W gg a j y : EReal) = max (max (max (max (a y) (absE (gTile W j gg 0 y))) (absE (gTile W j gg 1 y))) (absE (gTile W j gg 2 y))) (absE (gTile W j gg 3 y)) := fun a j => rfl
  have h0 : (maximumf (maximumf (maximumf (absf (gTile W 0 gg 0)) (absf (gTile W 0 gg 1))) (absf (gTile W 0 gg 2))) (absf (gTile W 0 gg 3)) y : EReal)
      = max (max (max (absE (gTile W 0 gg 0 y)) (absE (gTile W 0 gg 1 y))) (absE (gTile W 0 gg 2 y))) (absE (gTile W 0 gg 3 y)) := rfl
  unfold gmaxT
  rw [hJ, hJ, hJ, h0]
  simp only [max_mul_absE, max_le_iff, forall4, and_assoc]

theorem leaf (g : FVec Ideal S32x128 .bf16) (mc : FVec Ideal S128x128 .f32) (gg a : Fin 4) (o p : Nat) (ho : o = 8 * a.val) (hp : p = 32 * gg.val)
    (h : S128x128.Slices ![p, 0] S32x128) (h' : S32x128.Slices ![o, 0] S8x128) (i : Fin 8) (l : Fin 128) :
    (extractStridedSlice S8x128 ![o, 0] (mulf (extf .f32 g bitsLt_bf16_f32) (absf (extractStridedSlice S32x128 ![p, 0] mc h))) h' (ix2 i l) : EReal)
      = g (ix2 (Fin.ofNat 32 (8 * a.val + i.val)) l) * absE (mc (ix2 (Fin.ofNat 128 (32 * gg.val + 8 * a.val + i.val)) l)) := by
  subst ho hp
  have ha := a.isLt; have hg := gg.isLt; have hi := i.isLt; have hl := l.isLt
  refine (extractStridedSlice_apply _ _ _ _ (ix2 (Fin.ofNat 32 (8 * a.val + i.val)) l) fun b => ?_).trans ?_
  · match b with
    | ⟨0, _⟩ => show (8 * a.val + i.val) % 32 = 8 * a.val + i.val; omega
    | ⟨1, _⟩ => show l.val = 0 + l.val; omega
  · show g (ix2 (Fin.ofNat 32 (8 * a.val + i.val)) l) * absE (extractStridedSlice S32x128 ![32 * gg.val, 0] mc h (ix2 (Fin.ofNat 32 (8 * a.val + i.val)) l)) = _
    rw [extractStridedSlice_apply ![32 * gg.val, 0] mc h (ix2 (Fin.ofNat 32 (8 * a.val + i.val)) l) (ix2 (Fin.ofNat 128 (32 * gg.val + 8 * a.val + i.val)) l) fun b => ?_]
    match b with
    | ⟨0, _⟩ => show (32 * gg.val + 8 * a.val + i.val) % 128 = 32 * gg.val + (8 * a.val + i.val) % 32; omega
    | ⟨1, _⟩ => show l.val = 0 + l.val; omega

theorem am4_le (mc : FVec Ideal S128x128 .f32) (g : Fin 4 → FVec Ideal S32x128 .bf16) (i : Fin 8) (l : Fin 128) (B : EReal) :
    (k0_pay630 mc (g 3) (k0_pay627 mc (g 2)) (k0_pay628 mc (g 0) (g 1) (g 2)) (k0_pay629 mc (g 2)) (ix2 i l) : EReal) ≤ B ↔ ∀ gg a : Fin 4, (g gg (ix2 (Fin.ofNat 32 (8 * a.val + i.val)) l) * absE (mc (ix2 (Fin.ofNat 128 (32 * gg.val + 8 * a.val + i.val)) l)) : EReal) ≤ B := by
  unfold k0_pay630 k0_pay628 k0_pay629 k0_pay627
  show max (max (max (max (max (max (max (max (max (max (max (max (max (max (max (extractStridedSlice S8x128 ![0, 0] (mulf (extf .f32 (g 0) bitsLt_bf16_f32) (absf (extractStridedSlice S32x128 ![0, 0] mc slices_S128x128_o0_0_S32x128))) slices_S32x128_o0_0_S8x128 (ix2 i l)) (extractStridedSlice S8x128 ![8, 0] (mulf (extf .f32 (g 0) bitsLt_bf16_f32) (absf (extractStridedSlice S32x128 ![0, 0] mc slices_S128x128_o0_0_S32x128))) slices_S32x128_o8_0_S8x128 (ix2 i l))) (extractStridedSlice S8x128 ![16, 0] (mulf (extf .f32 (g 0) bitsLt_bf16_f32) (absf (extractStridedSlice S32x128 ![0, 0] mc slices_S128x128_o0_0_S32x128))) slices_S32x128_o16_0_S8x128 (ix2 i l))) (extractStridedSlice S8x128 ![24, 0] (mulf (extf .f32 (g 0) bitsLt_bf16_f32) (absf (extractStridedSlice S32x128 ![0, 0] mc slices_S128x128_o0_0_S32x128))) slices_S32x128_o24_0_S8x128 (ix2 i l))) (extractStridedSlice S8x128 ![0, 0] (mulf (extf .f32 (g 1) bitsLt_bf16_f32) (absf (extractStridedSlice S32x128 ![32, 0] mc slices_S128x128_o32_0_S32x128))) slices_S32x128_o0_0_S8x128 (ix2 i l))) (extractStridedSlice S8x128 ![8, 0] (mulf (extf .f32 (g 1) bitsLt_bf16_f32) (absf (extractStridedSlice S32x128 ![32, 0] mc slices_S128x128_o32_0_S32x128))) slices_S32x128_o8_0_S8x128 (ix2 i l))) (extractStridedSlice S8x128 ![16, 0] (mulf (extf .f32 (g 1) bitsLt_bf16_f32) (absf (extractStridedSlice S32x128 ![32, 0] mc slices_S128x128_o32_0_S32x128))) slices_S32x128_o16_0_S8x128 (ix2 i l))) (extractStridedSlice S8x128 ![24, 0] (mulf (extf .f32 (g 1) bitsLt_bf16_f32) (absf (extractStridedSlice S32x128 ![32, 0] mc slices_S128x128_o32_0_S32x128))) slices_S32x128_o24_0_S8x128 (ix2 i l))) (extractStridedSlice S8x128 ![0, 0] (mulf (extf .f32 (g 2) bitsLt_bf16_f32) (absf (extractStridedSlice S32x128 ![64, 0] mc slices_S128x128_o64_0_S32x128))) slices_S32x128_o0_0_S8x128 (ix2 i l))) (extractStridedSlice S8x128 ![8, 0] (mulf (extf .f32 (g 2) bitsLt_bf16_f32) (absf (extractStridedSlice S32x128 ![64, 0] mc slices_S128x128_o64_0_S32x128))) slices_S32x128_o8_0_S8x128 (ix2 i l))) (extractStridedSlice S8x128 ![16, 0] (mulf (extf .f32 (g 2) bitsLt_bf16_f32) (absf (extractStridedSlice S32x128 ![64, 0] mc slices_S128x128_o64_0_S32x128))) slices_S32x128_o16_0_S8x128 (ix2 i l))) (extractStridedSlice S8x128 ![24, 0] (mulf (extf .f32 (g 2) bitsLt_bf16_f32) (absf (extractStridedSlice S32x128 ![64, 0] mc slices_S128x128_o64_0_S32x128))) slices_S32x128_o24_0_S8x128 (ix2 i l))) (extractStridedSlice S8x128 ![0, 0] (mulf (extf .f32 (g 3) bitsLt_bf16_f32) (absf (extractStridedSlice S32x128 ![96, 0] mc slices_S128x128_o96_0_S32x128))) slices_S32x128_o0_0_S8x128 (ix2 i l))) (extractStridedSlice S8x128 ![8, 0] (mulf (extf .f32 (g 3) bitsLt_bf16_f32) (absf (extractStridedSlice S32x128 ![96, 0] mc slices_S128x128_o96_0_S32x128))) slices_S32x128_o8_0_S8x128 (ix2 i l))) (extractStridedSlice S8x128 ![16, 0] (mulf (extf .f32 (g 3) bitsLt_bf16_f32) (absf (extractStridedSlice S32x128 ![96, 0] mc slices_S128x128_o96_0_S32x128))) slices_S32x128_o16_0_S8x128 (ix2 i l))) (extractStridedSlice S8x128 ![24, 0] (mulf (extf .f32 (g 3) bitsLt_bf16_f32) (absf (extractStridedSlice S32x128 ![96, 0] mc slices_S128x128_o96_0_S32x128))) slices_S32x128_o24_0_S8x128 (ix2 i l)) ≤ B ↔ _
  rw [leaf (g 0) mc 0 0 0 0 rfl rfl]
  rw [leaf (g 0) mc 0 1 8 0 rfl rfl]
  rw [leaf (g 0) mc 0 2 16 0 rfl rfl]
  rw [leaf (g 0) mc 0 3 24 0 rfl rfl]
  rw [leaf (g 1) mc 1 0 0 32 rfl rfl]
  rw [leaf (g 1) mc 1 1 8 32 rfl rfl]
  rw [leaf (g 1) mc 1 2 16 32 rfl rfl]
  rw [leaf (g 1) mc 1 3 24 32 rfl rfl]
  rw [leaf (g 2) mc 2 0 0 64 rfl rfl]
  rw [leaf (g 2) mc 2 1 8 64 rfl rfl]
  rw [leaf (g 2) mc 2 2 16 64 rfl rfl]
  rw [leaf (g 2) mc 2 3 24 64 rfl rfl]
  rw [leaf (g 3) mc 3 0 0 96 rfl rfl]
  rw [leaf (g 3) mc 3 1 8 96 rfl rfl]
  rw [leaf (g 3) mc 3 2 16 96 rfl rfl]
  rw [leaf (g 3) mc 3 3 24 96 rfl rfl]
  simp only [max_le_iff, forall4, and_assoc]

theorem amT_le0 (W : Words Ideal) (mc : FVec Ideal S128x128 .f32) (i : Fin 8) (l : Fin 128) (B : EReal) :
    (amT mc W (ix2 i l) : EReal) ≤ B ↔ ∀ gg a : Fin 4, (gmaxT W gg (ix2 (Fin.ofNat 32 (8 * a.val + i.val)) l) * absE (mc (ix2 (Fin.ofNat 128 (32 * gg.val + 8 * a.val + i.val)) l)) : EReal) ≤ B := by
  unfold amT
  exact am4_le mc (gmaxT W) i l B

variable {T : S98304x128.Idx → BitVec 32} {D : S24576x6144.Idx → Elt Ideal .i8} {cc : Nat} {rw' : Nat → BitVec 32} {tk : Nat → Nat}

/-- The block's maximum at sublane `i`, lane `l`: over its slots and columns that lie there. -/
theorem amT_le (G : Gath T D cc rw' tk) (k : Nat) (hk : k < 3) (mc : FVec Ideal S128x128 .f32) (mv : Nat → EReal) (hm : ∀ (s l : Fin 128), mc (ix2 s l) = mv (128 * k + s.val))
    (i : Fin 8) (l : Fin 128) (B : EReal) :
    (amT mc (wSpec (F := Ideal) T rw' k) (ix2 i l) : EReal) ≤ B
      ↔ ∀ s, s < 128 → s % 8 = i.val → ∀ d, d < 2048 → d % 128 = l.val → absE (mv (128 * k + s) * gI D (tk (128 * k + s)) (2048 * cc + d)) ≤ B := by
  have hi := i.isLt; have hl := l.isLt
  rw [amT_le0]
  constructor
  · intro H s hs hsi d hd hdl
    have H' := (gmaxT_le _ _ _ _ _).mp (H (Fin.ofNat 4 (s / 32)) (Fin.ofNat 4 (s / 8))) (Fin.ofNat 4 (d / 512)) (Fin.ofNat 4 (d / 128))
    rw [gTile_apply G k hk, hm, ← absE_mul, mul_comm] at H'
    have e1 : (Fin.ofNat 128 (32 * (Fin.ofNat 4 (s / 32)).val + 8 * (Fin.ofNat 4 (s / 8)).val + i.val)).val = s := by
      show (32 * (s / 32 % 4) + 8 * (s / 8 % 4) + i.val) % 128 = s; omega
    have e2 : 128 * k + 32 * (Fin.ofNat 4 (s / 32)).val + (Fin.ofNat 32 (8 * (Fin.ofNat 4 (s / 8)).val + i.val)).val = 128 * k + s := by
      show 128 * k + 32 * (s / 32 % 4) + (8 * (s / 8 % 4) + i.val) % 32 = 128 * k + s; omega
    have e3 : 2048 * cc + 512 * (Fin.ofNat 4 (d / 512)).val + 128 * (Fin.ofNat 4 (d / 128)).val + l.val = 2048 * cc + d := by
      show 2048 * cc + 512 * (d / 512 % 4) + 128 * (d / 128 % 4) + l.val = _; omega
    rw [e1, e2, e3] at H'
    exact H'
  · intro H gg a
    have hg := gg.isLt; have ha := a.isLt
    refine (gmaxT_le _ _ _ _ _).mpr fun j q => ?_
    have hj := j.isLt; have hq := q.isLt
    have H' := H (32 * gg.val + 8 * a.val + i.val) (by omega) (by omega) (512 * j.val + 128 * q.val + l.val) (by omega) (by omega)
    rw [gTile_apply G k hk, hm, ← absE_mul, mul_comm]
    have e1 : (Fin.ofNat 128 (32 * gg.val + 8 * a.val + i.val)).val = 32 * gg.val + 8 * a.val + i.val := by
      show _ % 128 = _; omega
    have e2 : 128 * k + 32 * gg.val + (Fin.ofNat 32 (8 * a.val + i.val)).val = 128 * k + (32 * gg.val + 8 * a.val + i.val) := by
      show 128 * k + 32 * gg.val + (8 * a.val + i.val) % 32 = _; omega
    have e3 : 2048 * cc + 512 * j.val + 128 * q.val + l.val = 2048 * cc + (512 * j.val + 128 * q.val + l.val) := by omega
    rw [e1, e2, e3]
    exact H'

/-! ## A tile of maxima after the blocks of a point -/

theorem amIter_succ (n : Nat) (hn : n < 3) (ams : Nat → FVec Ideal S8x128 .f32) (v : Vec Ideal S1x8x128 .f32) (k : Nat) (hk : k < 3) (i : Fin 8) (l : Fin 128) :
    (amIter (BitVec.ofNat 32 n) ams v (k + 1) (ix3 (0 : Fin 1) i l) : EReal)
      = max (ams k (ix2 i l)) (if n = 0 ∧ k = 0 then 0 else amIter (BitVec.ofNat 32 n) ams v k (ix3 (0 : Fin 1) i l)) := by
  have e1 : ∀ u : FVec Ideal S8x128 .f32, k0_pay1 u (ix3 (0 : Fin 1) i l) = u (ix2 i l) := fun u =>
    (shapeCast_addUnit_apply _ u _ _).trans (congrArg u (by funext a; match a with | ⟨0, _⟩ => rfl | ⟨1, _⟩ => rfl))
  have e2 : ∀ u : Vec Ideal S1x8x128 .f32, shapeCast S8x128 u shapeCasts_S1x8x128_S8x128 (ix2 i l) = u (ix3 (0 : Fin 1) i l) := fun u =>
    (shapeCast_dropUnit_apply _ u _ _).trans (congrArg u (by funext a; match a with | ⟨0, _⟩ => rfl | ⟨1, _⟩ => rfl | ⟨2, _⟩ => rfl))
  rw [amIter, e1]
  unfold k0_pay635
  rw [cmp0 n hn, cmp0 k hk]
  show max (ams k (ix2 i l)) (Scalar.select (Scalar.andi (if n = 0 then 1#1 else 0#1) (if k = 0 then 1#1 else 0#1)) (broadcast S8x128 (Scalar.ofBits (F := Ideal) .f32 0x00000000#32)) (shapeCast S8x128 (amIter (BitVec.ofNat 32 n) ams v k) shapeCasts_S1x8x128_S8x128) (ix2 i l)) = _
  congr 1
  by_cases h : n = 0
  · by_cases h' : k = 0
    · rw [if_pos h, if_pos h', if_pos (show n = 0 ∧ k = 0 from ⟨h, h'⟩)]
      show Ideal.ofBits .f32 0x00000000#32 = _
      rw [Ideal.ofBits_zero_f32]
    · rw [if_pos h, if_neg h', if_neg (show ¬(n = 0 ∧ k = 0) from fun q => h' q.2)]
      exact e2 _
  · rw [if_neg h, if_neg (show ¬(n = 0 ∧ k = 0) from fun q => h q.1)]
    by_cases h' : k = 0
    · rw [if_pos h']; exact e2 _
    · rw [if_neg h']; exact e2 _

theorem amIter_le (n : Nat) (hn : n < 3) (ams : Nat → FVec Ideal S8x128 .f32) (v : Vec Ideal S1x8x128 .f32) (i : Fin 8) (l : Fin 128) (B : EReal) :
    (amIter (BitVec.ofNat 32 n) ams v 3 (ix3 (0 : Fin 1) i l) : EReal) ≤ B
      ↔ (∀ b, b < 3 → (ams b (ix2 i l) : EReal) ≤ B) ∧ (if n = 0 then 0 ≤ B else (v (ix3 (0 : Fin 1) i l) : EReal) ≤ B) := by
  rw [amIter_succ n hn ams v 2 (by decide), if_neg (by omega), amIter_succ n hn ams v 1 (by decide), if_neg (by omega), amIter_succ n hn ams v 0 (by decide)]
  simp only [max_le_iff]
  have hf : (∀ b, b < 3 → (ams b (ix2 i l) : EReal) ≤ B) ↔ (ams 0 (ix2 i l) : EReal) ≤ B ∧ (ams 1 (ix2 i l) : EReal) ≤ B ∧ (ams 2 (ix2 i l) : EReal) ≤ B :=
    ⟨fun h => ⟨h 0 (by decide), h 1 (by decide), h 2 (by decide)⟩, fun h b hb => by
      match b, hb with
      | 0, _ => exact h.1
      | 1, _ => exact h.2.1
      | 2, _ => exact h.2.2⟩
  rw [hf]
  by_cases h : n = 0
  · rw [if_pos ⟨h, trivial⟩, if_pos h]; tauto
  · rw [if_neg (fun q => h q.1), if_neg h]
    show _ ∧ _ ∧ _ ∧ (v (ix3 (0 : Fin 1) i l) : EReal) ≤ B ↔ _
    tauto

/-! ## The maximum over a tile -/

theorem neg_inf : (FloatOps.ofBits (F := Ideal) .f32 0xFF800000#32 : EReal) = ⊥ := by
  show Ideal.ofBits .f32 0xFF800000#32 = ⊥
  simp [Ideal.ofBits, Ideal.ieee]

theorem maxRed_le {s t : Shape} {a : Fin s.rank} (src : FVec Ideal s .f32) (h : s.Reduces [a] t) (hφ : FKind.Formats .f32) (hacc) (j : t.Idx) (B : EReal) :
    (multiReduction .maximumf [a] t src 0xFF800000#32 h hφ hacc j : EReal) ≤ B ↔ ∀ k : Fin (s.size a), (src (h.lift j k) : EReal) ≤ B := by
  rw [Ideal.multiReduction_maximumf_single, neg_inf]
  exact (Finset.fold_max_le _).trans ⟨fun q k => q.2 k (Finset.mem_univ _), fun q => ⟨bot_le, fun k _ => q k⟩⟩

theorem pay2_le (v : Vec Ideal S128x8x128 .f32) (e : Fin 128) (B : EReal) :
    (k0_pay2 v (ix2 (0 : Fin 1) e) : EReal) ≤ B ↔ ∀ (i : Fin 8) (l : Fin 128), (v (ix3 e i l) : EReal) ≤ B := by
  unfold k0_pay2
  have e1 : ∀ u : FVec Ideal S128 .f32, shapeCast S1x128 u shapeCasts_S128_S1x128 (ix2 (0 : Fin 1) e) = u (ix1 e) := fun u =>
    (shapeCast_addUnit_apply _ u _ _).trans (congrArg u (by funext a; match a with | ⟨0, _⟩ => rfl))
  have e2 : ∀ (u : FVec Ideal S128x128 .f32) (l : Fin 128), transpose S128x128 [1, 0] u transposes_S128x128_p1_0_S128x128 (ix2 l e) = u (ix2 e l) := fun u l =>
    transpose_apply _ _ _ _ _ fun b => by match b with | ⟨0, _⟩ => rfl | ⟨1, _⟩ => rfl
  rw [show ∀ u : FVec Ideal S128 .f32, shapeCast S1x128 u shapeCasts_S128_S1x128 (ix2 (0 : Fin 1) e) = u (ix1 e) from e1]
  refine (maxRed_le _ _ _ _ _ _).trans ?_
  have l1 : ∀ k : Fin 128, reduces_S128x128_S128.lift (ix1 e) k = (ix2 k e : S128x128.Idx) := fun k => by
    funext a; match a with | ⟨0, _⟩ => rfl | ⟨1, _⟩ => rfl
  have l2 : ∀ (l : Fin 128) (k : Fin 8), reduces_S128x8x128_S128x128.lift (ix2 e l) k = (ix3 e k l : S128x8x128.Idx) := fun l k => by
    funext a; match a with | ⟨0, _⟩ => rfl | ⟨1, _⟩ => rfl | ⟨2, _⟩ => rfl
  constructor
  · intro H i l
    have h := H l
    have h' := (maxRed_le _ _ _ _ _ _).mp (le_of_eq_of_le (((congrArg _ (l1 l)).trans (e2 _ l)).symm) h) i
    exact le_of_eq_of_le (congrArg v (l2 l i)).symm h'
  · intro H l
    refine le_of_eq_of_le ((congrArg _ (l1 l)).trans (e2 _ l)) ((maxRed_le _ _ _ _ _ _).mpr fun i => ?_)
    exact le_of_eq_of_le (congrArg v (l2 l i)) (H i l)

end Cert.KernelIdeal.Run
-- ==== Proof.KI.Read.lean ====
/-
  What a point's input blocks hold, in terms of the arguments.
-/
module

public import proofs.«01_k».proof.Proof.KI.Max

@[expose] public section

set_option maxRecDepth 16384
set_option maxHeartbeats 4000000

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

variable (m : (ℓ : Loc nD τ sig) → Buf (Elt Ideal) ℓ) (c : Dev nD)

theorem coordsAt (t : Fin cfg0.N) : ((grid0.coords t) 0).val = t.val / 128 ∧ ((grid0.coords t) 1).val = t.val % 128 := by
  have ht : t.val < 384 := t.isLt
  have e0 := Pipeline.Grid.coords_val (G := grid0) t 0 (S := 128) (B := 3) (by decide) rfl
  have e1 := Pipeline.Grid.coords_val (G := grid0) t 1 (S := 1) (B := 128) (by decide) rfl
  constructor
  · rw [e0]; omega
  · rw [e1]; omega

/-! ## The arguments by natural numbers -/

/-- The weight of slot `s` of expert `e`; -/
def mE (e s : Nat) : EReal := (m ((c : Thread nD τ).loc main_arg1) : FVec Ideal S128x384 .f32) (ix2 (Fin.ofNat 128 e) (Fin.ofNat 384 s))
/-- its token; -/
def tkE (e s : Nat) : Nat := ((m ((c : Thread nD τ).loc main_arg2) : IVec S128x384 32) (ix2 (Fin.ofNat 128 e) (Fin.ofNat 384 s))).toNat
/-- the expert's inverse scale; -/
def invE (e : Nat) : EReal := (m ((c : Thread nD τ).loc main_arg3) : FVec Ideal S1x128 .f32) (ix2 (0 : Fin 1) (Fin.ofNat 128 e))
/-- the forward pass's codes; -/
def oE (e s d : Nat) : EReal := (m ((c : Thread nD τ).loc main_arg4) : FVec Ideal S128x384x6144 .fp8e4m3) (ix3 (Fin.ofNat 128 e) (Fin.ofNat 384 s) (Fin.ofNat 6144 d))
/-- the score's scale; -/
def gosE (e s : Nat) : EReal := (m ((c : Thread nD τ).loc main_arg5) : FVec Ideal S128x384 .f32) (ix2 (Fin.ofNat 128 e) (Fin.ofNat 384 s))
/-- and the incoming codes, a token to a row. -/
def dyE : S24576x6144.Idx → Elt Ideal .i8 := V m c main_v14

/-! ## The blocks -/

theorem iblk0 (t : Fin cfg0.N) (y : S1x384x2048.Idx) : (iblk m c 0 t : S1x384x2048.Idx → _) y = V m c main_arg4 (ix3 (Fin.ofNat 128 (t.val % 128)) (Fin.ofNat 384 (y 1).val) (Fin.ofNat 6144 (2048 * (t.val / 128) + (y 2).val))) := by
  obtain ⟨e0, e1⟩ := coordsAt t
  have ht : t.val < 384 := t.isLt
  have hy0 : (y 0).val < S1x384x2048.size 0 := (y 0).isLt
  have hy1 : (y 1).val < S1x384x2048.size 1 := (y 1).isLt
  have hy2 : (y 2).val < S1x384x2048.size 2 := (y 2).isLt
  replace hy0 : (y 0).val < 1 := hy0
  replace hy1 : (y 1).val < 384 := hy1
  replace hy2 : (y 2).val < 2048 := hy2
  unfold iblk
  rw [View.read_apply]
  show V m c main_arg4 (((cfg0.win 0).rect t).emb y) = _
  congr 1
  funext a
  match a with
  | ⟨0, _⟩ =>
    refine Fin.ext (((cfg0.win 0).rect_emb_val t y 0).trans ?_)
    show (BitVec.ofNat 32 ((grid0.coords t) 1).val).toNat * 1 + (y 0).val = t.val % 128 % 128
    rw [e1, BitVec.toNat_ofNat]; omega
  | ⟨1, _⟩ =>
    refine Fin.ext (((cfg0.win 0).rect_emb_val t y 1).trans ?_)
    show 0 * 384 + (y 1).val = (y 1).val % 384
    omega
  | ⟨2, _⟩ =>
    refine Fin.ext (((cfg0.win 0).rect_emb_val t y 2).trans ?_)
    show (BitVec.ofNat 32 ((grid0.coords t) 0).val).toNat * 2048 + (y 2).val = (2048 * (t.val / 128) + (y 2).val) % 6144
    rw [e0, BitVec.toNat_ofNat]; omega

theorem iblk1 (t : Fin cfg0.N) (y : S1x3x128.Idx) : (iblk m c 1 t : S1x3x128.Idx → _) y = V m c main_v15 (ix3 (Fin.ofNat 128 (t.val % 128)) (Fin.ofNat 3 (y 1).val) (Fin.ofNat 128 (y 2).val)) := by
  obtain ⟨e0, e1⟩ := coordsAt t
  have ht : t.val < 384 := t.isLt
  have hy0 : (y 0).val < S1x3x128.size 0 := (y 0).isLt
  have hy1 : (y 1).val < S1x3x128.size 1 := (y 1).isLt
  have hy2 : (y 2).val < S1x3x128.size 2 := (y 2).isLt
  replace hy0 : (y 0).val < 1 := hy0
  replace hy1 : (y 1).val < 3 := hy1
  replace hy2 : (y 2).val < 128 := hy2
  unfold iblk
  rw [View.read_apply]
  show V m c main_v15 (((cfg0.win 1).rect t).emb y) = _
  congr 1
  funext a
  match a with
  | ⟨0, _⟩ =>
    refine Fin.ext (((cfg0.win 1).rect_emb_val t y 0).trans ?_)
    show (BitVec.ofNat 32 ((grid0.coords t) 1).val).toNat * 1 + (y 0).val = t.val % 128 % 128
    rw [e1, BitVec.toNat_ofNat]; omega
  | ⟨1, _⟩ =>
    refine Fin.ext (((cfg0.win 1).rect_emb_val t y 1).trans ?_)
    show 0 * 3 + (y 1).val = (y 1).val % 3
    omega
  | ⟨2, _⟩ =>
    refine Fin.ext (((cfg0.win 1).rect_emb_val t y 2).trans ?_)
    show 0 * 128 + (y 2).val = (y 2).val % 128
    omega

theorem iblk4 (t : Fin cfg0.N) (y : S1x3x128.Idx) : (iblk m c 4 t : S1x3x128.Idx → _) y = V m c main_v17 (ix3 (Fin.ofNat 128 (t.val % 128)) (Fin.ofNat 3 (y 1).val) (Fin.ofNat 128 (y 2).val)) := by
  obtain ⟨e0, e1⟩ := coordsAt t
  have ht : t.val < 384 := t.isLt
  have hy0 : (y 0).val < S1x3x128.size 0 := (y 0).isLt
  have hy1 : (y 1).val < S1x3x128.size 1 := (y 1).isLt
  have hy2 : (y 2).val < S1x3x128.size 2 := (y 2).isLt
  replace hy0 : (y 0).val < 1 := hy0
  replace hy1 : (y 1).val < 3 := hy1
  replace hy2 : (y 2).val < 128 := hy2
  unfold iblk
  rw [View.read_apply]
  show V m c main_v17 (((cfg0.win 4).rect t).emb y) = _
  congr 1
  funext a
  match a with
  | ⟨0, _⟩ =>
    refine Fin.ext (((cfg0.win 4).rect_emb_val t y 0).trans ?_)
    show (BitVec.ofNat 32 ((grid0.coords t) 1).val).toNat * 1 + (y 0).val = t.val % 128 % 128
    rw [e1, BitVec.toNat_ofNat]; omega
  | ⟨1, _⟩ =>
    refine Fin.ext (((cfg0.win 4).rect_emb_val t y 1).trans ?_)
    show 0 * 3 + (y 1).val = (y 1).val % 3
    omega
  | ⟨2, _⟩ =>
    refine Fin.ext (((cfg0.win 4).rect_emb_val t y 2).trans ?_)
    show 0 * 128 + (y 2).val = (y 2).val % 128
    omega

theorem iblk2 (t : Fin cfg0.N) (y : S1x1x384.Idx) : (iblk m c 2 t : S1x1x384.Idx → _) y = V m c main_v16 (ix3 (Fin.ofNat 128 (t.val % 128)) (0 : Fin 1) (Fin.ofNat 384 (y 2).val)) := by
  obtain ⟨e0, e1⟩ := coordsAt t
  have ht : t.val < 384 := t.isLt
  have hy0 : (y 0).val < S1x1x384.size 0 := (y 0).isLt
  have hy1 : (y 1).val < S1x1x384.size 1 := (y 1).isLt
  have hy2 : (y 2).val < S1x1x384.size 2 := (y 2).isLt
  replace hy0 : (y 0).val < 1 := hy0
  replace hy1 : (y 1).val < 1 := hy1
  replace hy2 : (y 2).val < 384 := hy2
  unfold iblk
  rw [View.read_apply]
  show V m c main_v16 (((cfg0.win 2).rect t).emb y) = _
  congr 1
  funext a
  match a with
  | ⟨0, _⟩ =>
    refine Fin.ext (((cfg0.win 2).rect_emb_val t y 0).trans ?_)
    show (BitVec.ofNat 32 ((grid0.coords t) 1).val).toNat * 1 + (y 0).val = t.val % 128 % 128
    rw [e1, BitVec.toNat_ofNat]; omega
  | ⟨1, _⟩ =>
    refine Fin.ext (((cfg0.win 2).rect_emb_val t y 1).trans ?_)
    show 0 * 1 + (y 1).val = 0
    omega
  | ⟨2, _⟩ =>
    refine Fin.ext (((cfg0.win 2).rect_emb_val t y 2).trans ?_)
    show 0 * 384 + (y 2).val = (y 2).val % 384
    omega

theorem iblk3 (t : Fin cfg0.N) (y : S1x128.Idx) : (iblk m c 3 t : S1x128.Idx → _) y = V m c main_arg3 (ix2 (0 : Fin 1) (Fin.ofNat 128 (y 1).val)) := by
  obtain ⟨e0, e1⟩ := coordsAt t
  have ht : t.val < 384 := t.isLt
  have hy0 : (y 0).val < S1x128.size 0 := (y 0).isLt
  have hy1 : (y 1).val < S1x128.size 1 := (y 1).isLt
  replace hy0 : (y 0).val < 1 := hy0
  replace hy1 : (y 1).val < 128 := hy1
  unfold iblk
  rw [View.read_apply]
  show V m c main_arg3 (((cfg0.win 3).rect t).emb y) = _
  congr 1
  funext a
  match a with
  | ⟨0, _⟩ =>
    refine Fin.ext (((cfg0.win 3).rect_emb_val t y 0).trans ?_)
    show 0 * 1 + (y 0).val = 0
    omega
  | ⟨1, _⟩ =>
    refine Fin.ext (((cfg0.win 3).rect_emb_val t y 1).trans ?_)
    show 0 * 128 + (y 1).val = (y 1).val % 128
    omega

theorem V15_apply (e b l : Nat) (he : e < 128) (hb : b < 3) (hl : l < 128) : (V m c main_v15 : FVec Ideal S128x3x128 .f32) (ix3 (Fin.ofNat 128 e) (Fin.ofNat 3 b) (Fin.ofNat 128 l)) = mE m c e (128 * b + l) := by
  rw [V_main_v15]
  refine shapeCast_apply _ _ _ (ix2 (Fin.ofNat 128 e) (Fin.ofNat 384 (128 * b + l))) ?_
  rw [Shape.rowMajor_val_two, Shape.rowMajor_val_three]
  show e % 128 * 384 + (128 * b + l) % 384 = (e % 128 * 3 + b % 3) * 128 + l % 128
  omega

theorem V17_apply (e b l : Nat) (he : e < 128) (hb : b < 3) (hl : l < 128) : (V m c main_v17 : FVec Ideal S128x3x128 .f32) (ix3 (Fin.ofNat 128 e) (Fin.ofNat 3 b) (Fin.ofNat 128 l)) = gosE m c e (128 * b + l) := by
  rw [V_main_v17]
  refine shapeCast_apply _ _ _ (ix2 (Fin.ofNat 128 e) (Fin.ofNat 384 (128 * b + l))) ?_
  rw [Shape.rowMajor_val_two, Shape.rowMajor_val_three]
  show e % 128 * 384 + (128 * b + l) % 384 = (e % 128 * 3 + b % 3) * 128 + l % 128
  omega

theorem V16_apply (e s : Nat) (he : e < 128) (hs : s < 384) : (V m c main_v16 : IVec S128x1x384 32) (ix3 (Fin.ofNat 128 e) (0 : Fin 1) (Fin.ofNat 384 s))
    = rowWord ((m ((c : Thread nD τ).loc main_arg2) : IVec S128x384 32) (ix2 (Fin.ofNat 128 e) (Fin.ofNat 384 s))) := by
  rw [V_main_v16]
  refine shapeCast_apply _ _ _ (ix2 (Fin.ofNat 128 e) (Fin.ofNat 384 s)) ?_
  rw [Shape.rowMajor_val_two, Shape.rowMajor_val_three]
  show e % 128 * 384 + s % 384 = (e % 128 * 1 + 0) * 384 + s % 384
  omega

theorem dyE_apply (t d : Nat) (ht : t < 24576) (hd : d < 6144) : dyE m c (ix2 (Fin.ofNat 24576 t) (Fin.ofNat 6144 d))
    = (m ((c : Thread nD τ).loc main_arg0) : IVec S8x3072x6144 8) (ix3 (Fin.ofNat 8 (t / 3072)) (Fin.ofNat 3072 t) (Fin.ofNat 6144 d)) := by
  unfold dyE
  rw [V_main_v14]
  refine shapeCast_apply _ _ _ _ ?_
  show (S8x3072x6144.rowMajor (ix3 (Fin.ofNat 8 (t / 3072)) (Fin.ofNat 3072 t) (Fin.ofNat 6144 d))).val = (S24576x6144.rowMajor (ix2 (Fin.ofNat 24576 t) (Fin.ofNat 6144 d))).val
  rw [Shape.rowMajor_val_two, Shape.rowMajor_val_three]
  show (t / 3072 % 8 * 3072 + t % 3072) * 6144 + d % 6144 = t % 24576 * 6144 + d % 6144
  omega

/-! ## The block loop's reads -/

variable (t : Fin cfg0.N)

theorem mCol_apply (k : Fin k0_t3_loop.trips) (s l : Fin 128) :
    mCol (F := Ideal) (st0_1 t) ((st0_1 t).view.rep (iblk m c 1 t)) k (ix2 s l) = mE m c (t.val % 128) (128 * k.val + s.val) := by
  have hk : k.val < 3 := Nat.lt_of_lt_of_le k.isLt k0_t3_abs.2.1
  unfold mCol k0_pay198
  refine (transpose_apply _ _ _ _ (ix2 l s) fun b => by match b with | ⟨0, _⟩ => rfl | ⟨1, _⟩ => rfl).trans ?_
  refine (broadcastTo_apply _ _ _ (ix2 (0 : Fin 1) s) fun b => by match b with | ⟨0, _⟩ => rfl | ⟨1, _⟩ => rfl).trans ?_
  rw [shapeCast_self]
  refine (shapeCast_dropUnit_apply _ _ _ _).trans ?_
  rw [View.readAt_apply, View.read_rep]
  refine (iblk1 m c t _).trans ?_
  refine Eq.trans ?_ (V15_apply m c (t.val % 128) k.val s.val (Nat.mod_lt _ (by decide)) hk s.isLt)
  congr 1
  funext a
  match a with
  | ⟨0, _⟩ => rfl
  | ⟨1, _⟩ => refine Fin.ext ?_; show ((k0_off285 k) 1 + 1 * 0) % 3 = k.val % 3; rw [congrFun (k0_off285_eq k) 1]; rfl
  | ⟨2, _⟩ => refine Fin.ext ?_; show ((k0_off285 k) 2 + 1 * s.val) % 128 = s.val % 128; rw [congrFun (k0_off285_eq k) 2]; show (0 + 1 * s.val) % 128 = _; omega

theorem gosAt_apply (k : Fin k0_t3_loop.trips) (l : Fin 128) :
    (gosAt (F := Ideal) (st0_4 t) ((st0_4 t).view.rep (iblk m c 4 t)) k (ix3 (0 : Fin 1) (0 : Fin 1) l) : EReal) = gosE m c (t.val % 128) (128 * k.val + l.val) := by
  have hk : k.val < 3 := Nat.lt_of_lt_of_le k.isLt k0_t3_abs.2.1
  unfold gosAt
  rw [View.readAt_apply, View.read_rep]
  refine (iblk4 m c t _).trans ?_
  refine Eq.trans ?_ (V17_apply m c (t.val % 128) k.val l.val (Nat.mod_lt _ (by decide)) hk l.isLt)
  congr 1
  funext a
  match a with
  | ⟨0, _⟩ => rfl
  | ⟨1, _⟩ => refine Fin.ext ?_; show ((k0_off285 k) 1 + 1 * 0) % 3 = k.val % 3; rw [congrFun (k0_off285_eq k) 1]; rfl
  | ⟨2, _⟩ => refine Fin.ext ?_; show ((k0_off285 k) 2 + 1 * l.val) % 128 = l.val % 128; rw [congrFun (k0_off285_eq k) 2]; show (0 + 1 * l.val) % 128 = _; omega

theorem oRows_apply (k : Fin k0_t3_loop.trips) (j : Fin 4) (s : Fin 128) (x : Fin 512) :
    (oRows (F := Ideal) (st0_0 t) ((st0_0 t).view.rep (iblk m c 0 t)) k j (ix3 (0 : Fin 1) s x) : EReal)
      = oE m c (t.val % 128) (128 * k.val + s.val) (2048 * (t.val / 128) + 512 * j.val + x.val) := by
  have hk : k.val < 3 := Nat.lt_of_lt_of_le k.isLt k0_t3_abs.2.1
  have hs := s.isLt; have hx := x.isLt; have ht : t.val < 384 := t.isLt
  unfold oRows oE
  match j with
  | 0 =>
    show View.readAt _ _ _ _ _ = _
    rw [View.readAt_apply, View.read_rep]
    refine (iblk0 m c t _).trans ?_
    rw [V_main_arg4]
    congr 1
    funext a
    match a with
    | ⟨0, _⟩ => rfl
    | ⟨1, _⟩ => refine Fin.ext ?_; show ((k0_off290 k) 1 + 1 * s.val) % 384 = (128 * k.val + s.val) % 384; rw [congrFun (k0_off290_eq k) 1]; show (128 * k.val + 1 * s.val) % 384 = _; omega
    | ⟨2, _⟩ => refine Fin.ext ?_; show (2048 * (t.val / 128) + ((k0_off290 k) 2 + 1 * x.val)) % 6144 = (2048 * (t.val / 128) + 512 * 0 + x.val) % 6144; rw [congrFun (k0_off290_eq k) 2]; show (2048 * (t.val / 128) + (0 + 1 * x.val)) % 6144 = _; omega
  | 1 =>
    show View.readAt _ _ _ _ _ = _
    rw [View.readAt_apply, View.read_rep]
    refine (iblk0 m c t _).trans ?_
    rw [V_main_arg4]
    congr 1
    funext a
    match a with
    | ⟨0, _⟩ => rfl
    | ⟨1, _⟩ => refine Fin.ext ?_; show ((k0_off295 k) 1 + 1 * s.val) % 384 = (128 * k.val + s.val) % 384; rw [congrFun (k0_off295_eq k) 1]; show (128 * k.val + 1 * s.val) % 384 = _; omega
    | ⟨2, _⟩ => refine Fin.ext ?_; show (2048 * (t.val / 128) + ((k0_off295 k) 2 + 1 * x.val)) % 6144 = (2048 * (t.val / 128) + 512 * 1 + x.val) % 6144; rw [congrFun (k0_off295_eq k) 2]; show (2048 * (t.val / 128) + (512 + 1 * x.val)) % 6144 = _; omega
  | 2 =>
    show View.readAt _ _ _ _ _ = _
    rw [View.readAt_apply, View.read_rep]
    refine (iblk0 m c t _).trans ?_
    rw [V_main_arg4]
    congr 1
    funext a
    match a with
    | ⟨0, _⟩ => rfl
    | ⟨1, _⟩ => refine Fin.ext ?_; show ((k0_off300 k) 1 + 1 * s.val) % 384 = (128 * k.val + s.val) % 384; rw [congrFun (k0_off300_eq k) 1]; show (128 * k.val + 1 * s.val) % 384 = _; omega
    | ⟨2, _⟩ => refine Fin.ext ?_; show (2048 * (t.val / 128) + ((k0_off300 k) 2 + 1 * x.val)) % 6144 = (2048 * (t.val / 128) + 512 * 2 + x.val) % 6144; rw [congrFun (k0_off300_eq k) 2]; show (2048 * (t.val / 128) + (1024 + 1 * x.val)) % 6144 = _; omega
  | 3 =>
    show View.readAt _ _ _ _ _ = _
    rw [View.readAt_apply, View.read_rep]
    refine (iblk0 m c t _).trans ?_
    rw [V_main_arg4]
    congr 1
    funext a
    match a with
    | ⟨0, _⟩ => rfl
    | ⟨1, _⟩ => refine Fin.ext ?_; show ((k0_off305 k) 1 + 1 * s.val) % 384 = (128 * k.val + s.val) % 384; rw [congrFun (k0_off305_eq k) 1]; show (128 * k.val + 1 * s.val) % 384 = _; omega
    | ⟨2, _⟩ => refine Fin.ext ?_; show (2048 * (t.val / 128) + ((k0_off305 k) 2 + 1 * x.val)) % 6144 = (2048 * (t.val / 128) + 512 * 3 + x.val) % 6144; rw [congrFun (k0_off305_eq k) 2]; show (2048 * (t.val / 128) + (1536 + 1 * x.val)) % 6144 = _; omega

theorem scale_apply : (scaleOf (F := Ideal) (grid0.coords t) (st0_3 t) ((st0_3 t).view.rep (iblk m c 3 t)) : EReal) = invE m c (t.val % 128) := by
  unfold scaleOf
  rw [View.read_rep]
  refine (iblk3 m c t _).trans ?_
  rw [V_main_arg3]
  unfold invE
  congr 1
  funext a
  match a with
  | ⟨0, _⟩ => rfl
  | ⟨1, _⟩ => refine Fin.ext ?_; show ((grid0.coords t) 1).val % 128 = t.val % 128 % 128; rw [(coordsAt t).2]

theorem rowW_apply (s : Nat) (hs : s < 384) (h : InRange m c) :
    tkE m c (t.val % 128) s < 24576 ∧ (rowW (F := Ideal) (st0_2 t) ((st0_2 t).view.rep (iblk m c 2 t)) s).toNat = 4 * place (tkE m c (t.val % 128) s) := by
  refine ⟨h _, ?_⟩
  unfold rowW
  rw [View.read_rep, show (iblk m c 2 t) (ix3 (0 : Fin 1) (0 : Fin 1) (Fin.ofNat 384 s)) = _ from iblk2 m c t (ix3 (0 : Fin 1) (0 : Fin 1) (Fin.ofNat 384 s))]
  have e : (Fin.ofNat 384 (Fin.ofNat 384 s).val) = Fin.ofNat 384 s := Fin.ext (by show s % 384 % 384 = s % 384; omega)
  show (V m c main_v16 (ix3 (Fin.ofNat 128 (t.val % 128)) (0 : Fin 1) (Fin.ofNat 384 (Fin.ofNat 384 s).val)) : BitVec 32).toNat = _
  rw [e]
  refine (congrArg BitVec.toNat (V16_apply m c (t.val % 128) s (Nat.mod_lt _ (by decide)) hs)).trans ?_
  exact rowWord_toNat _ (h _)

/-- The table and the point's row words, as the loop's lemmas take them. -/
theorem gath (h : InRange m c) (T : BufTy.Contents (Elt Ideal) tabM.view.ty) (hT : ∀ y, tabM.view.read (Elt Ideal) T y = tableOf (F := Ideal) (dyE m c) (t.val / 128) y) :
    Gath (tabM.view.read (Elt Ideal) T) (dyE m c) (t.val / 128) (rowW (F := Ideal) (st0_2 t) ((st0_2 t).view.rep (iblk m c 2 t))) (tkE m c (t.val % 128)) :=
  ⟨hT, fun s hs => rowW_apply m c t s hs h⟩

end Cert.KernelIdeal.Run
-- ==== Proof.KI.Step.lean ====
/-
  What is known between points, at the extended reals: the table of the current chunk, the partial products of the
  chunks seen, and by its bounds the maximum of those; one point carries it on and writes the outputs' values.
-/
module

public import proofs.«01_k».proof.Proof.KI.Read

@[expose] public section

set_option maxRecDepth 16384
set_option maxHeartbeats 4000000

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

variable (m : (ℓ : Loc nD τ sig) → Buf (Elt Ideal) ℓ) (c : Dev nD)

/-- One term of the product of slot `s` of expert `e`; -/
def fE (e s d : Nat) : EReal := gI (dyE m c) (tkE m c e s) d * oE m c e s d
/-- the product over the first `n` column chunks; -/
def dotE (n e s : Nat) : EReal := ∑ d ∈ Finset.range (2048 * n), fE m c e s d
/-- one |d_out|. -/
def prodE (e s d : Nat) : EReal := absE (mE m c e s * gI (dyE m c) (tkE m c e s) d)
/-- How many column chunks expert `e` has behind it before point `t`. -/
def cnt (t e : Nat) : Nat := t / 128 + if e < t % 128 then 1 else 0

theorem cnt_self (t : Nat) : cnt t (t % 128) = t / 128 := by unfold cnt; rw [if_neg (by omega)]; rfl
theorem cnt_next (t : Nat) : cnt (t + 1) (t % 128) = t / 128 + 1 := by unfold cnt; split <;> omega
theorem cnt_other (t e : Nat) (he : e < 128) (h : e ≠ t % 128) : cnt (t + 1) e = cnt t e := by unfold cnt; split <;> split <;> omega

theorem cond1_iff : ∀ t : Fin cfg0.N, k0_cond1 (grid0.coords t) = 1#1 ↔ t.val % 128 = 0 := (by decide +kernel : ∀ t : Fin grid0.N, k0_cond1 (grid0.coords t) = 1#1 ↔ t.val % 128 = 0)
theorem cond3_last : ∀ t : Fin cfg0.N, t.val = 383 → k0_cond3 (grid0.coords t) = 1#1 := (by decide +kernel : ∀ t : Fin grid0.N, t.val = 383 → k0_cond3 (grid0.coords t) = 1#1)

/-- Before point `t`. -/
def InvV (t : Nat) (T : BufTy.Contents (Elt Ideal) tabM.view.ty) (g14 : BufTy.Contents (Elt Ideal) dotM.view.ty) (g15 : BufTy.Contents (Elt Ideal) amaxM.view.ty) : Prop :=
  (t % 128 ≠ 0 → ∀ y, tabM.view.read (Elt Ideal) T y = tableOf (F := Ideal) (dyE m c) (t / 128) y)
  ∧ (∀ y : S384x1x128.Idx, 1 ≤ cnt t ((y 0).val / 3) → (dotM.view.read (Elt Ideal) g14 y : EReal) = dotE m c (cnt t ((y 0).val / 3)) ((y 0).val / 3) (128 * ((y 0).val % 3) + (y 2).val))
  ∧ (∀ (y : S128x8x128.Idx) (B : EReal), 1 ≤ cnt t (y 0).val → ((amaxM.view.read (Elt Ideal) g15 y : EReal) ≤ B
      ↔ 0 ≤ B ∧ ∀ d, d < 2048 * cnt t (y 0).val → ∀ s, s < 384 → d % 128 = (y 2).val → s % 8 = (y 1).val → prodE m c (y 0).val s d ≤ B))

/-- What the output windows' buffers hold after point `t`. -/
def Rl5 (t : Nat) (X : S1x384x2048.Idx → EReal) : Prop := ∀ y, X y = clipE (mE m c (t % 128) (y 1).val * gI (dyE m c) (tkE m c (t % 128) (y 1).val) (2048 * (t / 128) + (y 2).val) * invE m c (t % 128))
def Rl6 (t : Nat) (X : S3x128x128.Idx → EReal) : Prop := 256 ≤ t → ∀ y, (y 1).val ≤ t % 128 → X y = gosE m c (y 1).val (128 * (y 0).val + (y 2).val) * dotE m c 3 (y 1).val (128 * (y 0).val + (y 2).val)
def Rl7 (t : Nat) (X : S1x128.Idx → EReal) : Prop := t = 383 → ∀ y B, X y ≤ B ↔ ∀ s, s < 384 → ∀ d, d < 6144 → prodE m c (y 1).val s d ≤ B
def RlV (w : Fin cfg0.W) (t : Fin cfg0.N) (X : (cfg0.win w).block.Idx → Elt Ideal (cfg0.win w).elt) : Prop :=
  match w, X with
  | ⟨5, _⟩, X => Rl5 m c t.val X
  | ⟨6, _⟩, X => Rl6 m c t.val X
  | ⟨7, _⟩, X => Rl7 m c t.val X
  | _, _ => True

/-! ## One point -/

section Point
variable (t : Fin cfg0.N) (T : BufTy.Contents (Elt Ideal) tabM.view.ty) (hr : InRange m c)
  (hT : ∀ y, tabM.view.read (Elt Ideal) T y = tableOf (F := Ideal) (dyE m c) (t.val / 128) y)
include hr hT

theorem outB_val (y : S1x384x2048.Idx) : (outB (F := Ideal) (st0_1 t) (st0_2 t) tabM (scaleOf (grid0.coords t) (st0_3 t) ((st0_3 t).view.rep (iblk m c 3 t))) ((st0_1 t).view.rep (iblk m c 1 t)) ((st0_2 t).view.rep (iblk m c 2 t)) T y : EReal)
    = clipE (mE m c (t.val % 128) (y 1).val * gI (dyE m c) (tkE m c (t.val % 128) (y 1).val) (2048 * (t.val / 128) + (y 2).val) * invE m c (t.val % 128)) := by
  have hy1 : (y 1).val < 384 := (y 1).isLt
  have hy2 : (y 2).val < 2048 := (y 2).isLt
  have hk : (kf ((y 1).val / 128)).val = (y 1).val / 128 := by show ((y 1).val / 128) % 3 = _; omega
  unfold outB outG
  refine (outT_apply (gath m c t hr T hT) _ _ (kf ((y 1).val / 128)).val (by rw [hk]; omega) _ _ _ _ _).trans ?_
  rw [mCol_apply, scale_apply]
  have e1 : 128 * (kf ((y 1).val / 128)).val + (Fin.ofNat 128 (32 * (Fin.ofNat 4 (((y 1).val - 128 * ((y 1).val / 128)) / 32)).val + (Fin.ofNat 32 ((y 1).val - 128 * ((y 1).val / 128))).val)).val = (y 1).val := by
    rw [hk]
    show 128 * ((y 1).val / 128) + (32 * ((((y 1).val - 128 * ((y 1).val / 128)) / 32) % 4) + ((y 1).val - 128 * ((y 1).val / 128)) % 32) % 128 = _
    omega
  have e2 : 128 * (kf ((y 1).val / 128)).val + 32 * (Fin.ofNat 4 (((y 1).val - 128 * ((y 1).val / 128)) / 32)).val + (Fin.ofNat 32 ((y 1).val - 128 * ((y 1).val / 128))).val = (y 1).val := by
    rw [hk]
    show 128 * ((y 1).val / 128) + 32 * ((((y 1).val - 128 * ((y 1).val / 128)) / 32) % 4) + ((y 1).val - 128 * ((y 1).val / 128)) % 32 = _
    omega
  have e3 : 2048 * (t.val / 128) + 512 * (Fin.ofNat 4 ((y 2).val / 512)).val + 128 * (Fin.ofNat 4 ((y 2).val / 128)).val + (Fin.ofNat 128 (y 2).val).val = 2048 * (t.val / 128) + (y 2).val := by
    show 2048 * (t.val / 128) + 512 * (((y 2).val / 512) % 4) + 128 * (((y 2).val / 128) % 4) + (y 2).val % 128 = _
    omega
  rw [e1, e2, e3]

theorem acc_val (b : Nat) (hb : b < 3) (l : Fin 128) (row : EReal) (hrow : t.val / 128 ≠ 0 → row = dotE m c (t.val / 128) (t.val % 128) (128 * b + l.val)) :
    ((accB (F := Ideal) (st0_0 t) (st0_2 t) tabM ((st0_0 t).view.rep (iblk m c 0 t)) ((st0_2 t).view.rep (iblk m c 2 t)) T b (ix2 l l) : EReal) + if t.val / 128 = 0 then 0 else row) = dotE m c (t.val / 128 + 1) (t.val % 128) (128 * b + l.val) := by
  have hk : (kf b).val = b := Nat.mod_eq_of_lt hb
  have e1 : (if t.val / 128 = 0 then (0 : EReal) else row) = ∑ d ∈ Finset.range (2048 * (t.val / 128)), fE m c (t.val % 128) (128 * b + l.val) d := by
    by_cases h : t.val / 128 = 0
    · rw [if_pos h, h]; rfl
    · rw [if_neg h, hrow h]; rfl
  rw [e1]
  unfold dotE
  rw [sum2048]
  congr 1
  unfold accB
  refine (accT_diag (gath m c t hr T hT) (kf b).val (by rw [hk]; exact hb) _ (oE m c (t.val % 128)) (fun j s x => oRows_apply m c t (kf b) j s x) l).trans ?_
  rw [hk]
  rfl

theorem am_val (b : Nat) (hb : b < 3) (i : Fin 8) (l : Fin 128) (B : EReal) :
    (amB (F := Ideal) (st0_1 t) (st0_2 t) tabM ((st0_1 t).view.rep (iblk m c 1 t)) ((st0_2 t).view.rep (iblk m c 2 t)) T b (ix2 i l) : EReal) ≤ B ↔ ∀ s, s < 128 → s % 8 = i.val → ∀ d, d < 2048 → d % 128 = l.val → prodE m c (t.val % 128) (128 * b + s) (2048 * (t.val / 128) + d) ≤ B := by
  have hk : (kf b).val = b := Nat.mod_eq_of_lt hb
  have h := amT_le (gath m c t hr T hT) (kf b).val (by rw [hk]; exact hb) (mCol (F := Ideal) (st0_1 t) ((st0_1 t).view.rep (iblk m c 1 t)) (kf b)) (mE m c (t.val % 128)) (fun s l => mCol_apply m c t (kf b) s l) i l B
  rw [hk] at h
  unfold amB tripW
  rw [hk]
  exact h

end Point

/-- Every point carries the invariant on and leaves the outputs' values. -/
theorem stepV (hr : InRange m c) : StepP (F := Ideal) (InvV ·) (RlV ·) m c := by
  intro t T g8 g9 g14 g15 T' f8 f9 f10 f14 f15 hI h6 hc1 hn1 hR
  obtain ⟨p8, p9, p14, p15, p10⟩ := hR
  obtain ⟨e0, e1⟩ := coordsAt t
  have ht : t.val < 384 := t.isLt
  have htab : ∀ y, tabM.view.read (Elt Ideal) T' y = tableOf (F := Ideal) (dyE m c) (t.val / 128) y := by
    intro y
    by_cases h : k0_cond1 (grid0.coords t) = 1#1
    · have h' := hc1 h y (y 0).isLt
      rw [e0] at h'
      exact h'
    · rw [hn1 h]
      exact hI.1 (fun q => h ((cond1_iff t).2 q)) y
  have hn : t.val / 128 < 3 := by omega
  have hdot : ∀ y : S384x1x128.Idx, (y 0).val / 3 = t.val % 128 → ∀ l : Fin 128, t.val / 128 ≠ 0 →
      (rowOf (dotM.view.read (Elt Ideal) g14) (y 0).val (ix3 (0 : Fin 1) (0 : Fin 1) l) : EReal) = dotE m c (t.val / 128) (t.val % 128) (128 * ((y 0).val % 3) + l.val) := by
    intro y hy l h0
    have hy0 : (y 0).val < 384 := (y 0).isLt
    have hl := l.isLt
    have q := hI.2.1 (ix3 (Fin.ofNat 384 (y 0).val) (0 : Fin 1) (Fin.ofNat 128 l.val))
    have q0 : (Fin.ofNat 384 (y 0).val).val = (y 0).val := by show (y 0).val % 384 = _; omega
    have q2 : (Fin.ofNat 128 l.val).val = l.val := by show l.val % 128 = _; omega
    replace q : 1 ≤ cnt t.val ((Fin.ofNat 384 (y 0).val).val / 3) → (dotM.view.read (Elt Ideal) g14 (ix3 (Fin.ofNat 384 (y 0).val) (0 : Fin 1) (Fin.ofNat 128 l.val)) : EReal) = dotE m c (cnt t.val ((Fin.ofNat 384 (y 0).val).val / 3)) ((Fin.ofNat 384 (y 0).val).val / 3) (128 * ((Fin.ofNat 384 (y 0).val).val % 3) + (Fin.ofNat 128 l.val).val) := q
    rw [q0, q2, hy, cnt_self] at q
    exact q (by omega)
  have hinv : InvV m c (t.val + 1) T' f14 f15 := by
    refine ⟨fun h y => ?_, fun y h => ?_, fun y B h => ?_⟩
    · rw [show (t.val + 1) / 128 = t.val / 128 by omega]; exact htab y
    · have hy0 : (y 0).val < 384 := (y 0).isLt
      rw [p14 y]
      by_cases he : (y 0).val / 3 = t.val % 128
      · rw [if_pos (by rw [e1]; omega), e0]
        refine (pay632_apply _ hn _ _ _).trans ?_
        rw [he, cnt_next]
        have q := acc_val m c t T' hr htab ((y 0).val % 3) (by omega) (Fin.ofNat 128 (y 2).val) _ (hdot y he _)
        have hy2 : (y 2).val < 128 := (y 2).isLt
        rw [show (Fin.ofNat 128 (y 2).val).val = (y 2).val from Nat.mod_eq_of_lt hy2] at q
        rw [show (y 0).val - 3 * ((grid0.coords t) 1).val = (y 0).val % 3 by rw [e1]; omega]
        exact q
      · rw [if_neg (by rw [e1]; omega), hI.2.1 y (by rw [cnt_other _ _ (by omega) he] at h; exact h), cnt_other _ _ (by omega) he]
    · have hy0 : (y 0).val < 128 := (y 0).isLt
      rw [p15 y]
      by_cases he : (y 0).val = t.val % 128
      · rw [if_pos (by rw [e1]; exact he), e0]
        have hy1 : (y 1).val < 8 := (y 1).isLt
        have hy2 : (y 2).val < 128 := (y 2).isLt
        have q1 : (Fin.ofNat 8 (y 1).val).val = (y 1).val := Nat.mod_eq_of_lt hy1
        have q2 : (Fin.ofNat 128 (y 2).val).val = (y 2).val := Nat.mod_eq_of_lt hy2
        refine (amIter_le _ hn _ _ _ _ B).trans ?_
        have hv : t.val / 128 ≠ 0 → ((amOf (amaxM.view.read (Elt Ideal) g15) ((grid0.coords t) 1).val (ix3 (0 : Fin 1) (Fin.ofNat 8 (y 1).val) (Fin.ofNat 128 (y 2).val)) : EReal) ≤ B
            ↔ 0 ≤ B ∧ ∀ d, d < 2048 * (t.val / 128) → ∀ s, s < 384 → d % 128 = (y 2).val → s % 8 = (y 1).val → prodE m c (t.val % 128) s d ≤ B) := by
          intro h0
          have q := hI.2.2 y B
          rw [he, cnt_self] at q
          refine Iff.trans (Eq.to_iff ?_) (q (by omega))
          show ((amaxM.view.read (Elt Ideal) g15 _ : EReal) ≤ B) = _
          congr 2
          funext a
          match a with
          | ⟨0, _⟩ => refine Fin.ext ?_; show ((grid0.coords t) 1).val % 128 = (y 0).val; rw [e1]; omega
          | ⟨1, _⟩ => refine Fin.ext ?_; show ((y 1).val % 8) % 8 = (y 1).val; omega
          | ⟨2, _⟩ => refine Fin.ext ?_; show ((y 2).val % 128) % 128 = (y 2).val; omega
        rw [he, cnt_next]
        constructor
        · rintro ⟨ha, hb⟩
          have h0 : 0 ≤ B := by
            by_cases h0 : t.val / 128 = 0
            · rw [if_pos h0] at hb; exact hb
            · rw [if_neg h0] at hb; exact ((hv h0).1 hb).1
          refine ⟨h0, fun d hd s hs hdl hsi => ?_⟩
          by_cases hlt : d < 2048 * (t.val / 128)
          · have h0' : t.val / 128 ≠ 0 := by omega
            rw [if_neg h0'] at hb
            exact ((hv h0').1 hb).2 d hlt s hs hdl hsi
          · have q := (am_val m c t T' hr htab (s / 128) (by omega) _ _ B).1 (ha (s / 128) (by omega)) (s % 128) (by omega) (by rw [q1]; omega) (d - 2048 * (t.val / 128)) (by omega) (by rw [q2]; omega)
            rw [show 128 * (s / 128) + s % 128 = s by omega, show 2048 * (t.val / 128) + (d - 2048 * (t.val / 128)) = d by omega] at q
            exact q
        · rintro ⟨h0, ha⟩
          refine ⟨fun b hb => (am_val m c t T' hr htab b hb _ _ B).2 fun s hs hsi d hd hdl => ?_, ?_⟩
          · rw [q1] at hsi
            rw [q2] at hdl
            exact ha _ (by omega) _ (by omega) (by omega) (by omega)
          · by_cases h0' : t.val / 128 = 0
            · rw [if_pos h0']; exact h0
            · rw [if_neg h0']
              exact (hv h0').2 ⟨h0, fun d hd s hs hdl hsi => ha d (by omega) s hs hdl hsi⟩
      · rw [if_neg (by rw [e1]; exact he)]
        rw [cnt_other _ _ hy0 he] at h ⊢
        exact hI.2.2 y B h
  refine ⟨hinv, ?_, ?_, ?_⟩
  · show Rl5 m c t.val _
    intro y
    have hy1 : (y 1).val < 384 := (y 1).isLt
    rw [p8 y, if_pos (by omega)]
    exact outB_val m c t T' hr htab y
  · show Rl6 m c t.val _
    intro h y hy
    have hy0 : (y 0).val < 3 := (y 0).isLt
    have hy2 : (y 2).val < 128 := (y 2).isLt
    rw [p9 y]
    by_cases he : (y 1).val = t.val % 128
    · rw [if_pos ⟨hy0, by rw [e1]; exact he⟩, e0]
      refine (pay634_apply _ hn _ _ _ _).trans ?_
      have hk : (kf (y 0).val).val = (y 0).val := Nat.mod_eq_of_lt hy0
      have ql : (Fin.ofNat 128 (y 2).val).val = (y 2).val := Nat.mod_eq_of_lt hy2
      rw [gosAt_apply, hk, ql, ← he]
      congr 1
      have hy3 : 3 * (t.val % 128) + (y 0).val < 384 := by omega
      have q := hdot (ix3 (Fin.ofNat 384 (3 * (t.val % 128) + (y 0).val)) (0 : Fin 1) (0 : Fin 128)) (by show (3 * (t.val % 128) + (y 0).val) % 384 / 3 = _; omega) (Fin.ofNat 128 (y 2).val)
      have q' := acc_val m c t T' hr htab (y 0).val hy0 (Fin.ofNat 128 (y 2).val) (rowOf (dotM.view.read (Elt Ideal) g14) (3 * ((grid0.coords t) 1).val + (y 0).val) (ix3 (0 : Fin 1) (0 : Fin 1) (Fin.ofNat 128 (y 2).val))) (fun h0 => by
        have q0 := q h0
        have r0 : (ix3 (Fin.ofNat 384 (3 * (t.val % 128) + (y 0).val)) (0 : Fin 1) (0 : Fin 128) : S384x1x128.Idx) 0 = Fin.ofNat 384 (3 * (t.val % 128) + (y 0).val) := rfl
        have r1 : (Fin.ofNat 384 (3 * (t.val % 128) + (y 0).val)).val = 3 * (t.val % 128) + (y 0).val := Nat.mod_eq_of_lt hy3
        rw [r0, r1] at q0
        rw [e1, q0, show (3 * (t.val % 128) + (y 0).val) % 3 = (y 0).val by omega])
      rw [ql, ← he, show t.val / 128 + 1 = 3 by omega] at q'
      exact q'
    · rw [if_neg (fun q => he (q.2.trans e1))]
      have h0 : t.val ≠ 0 := by omega
      have q : Rl6 m c (t.val - 1) ((st0_6 t).view.read (Elt Ideal) g9) := h6 h0
      exact q (by omega) y (by omega)
  · show Rl7 m c t.val _
    intro h y B
    have hy1 : (y 1).val < 128 := (y 1).isLt
    rw [p10 (cond3_last t h)]
    have ey : y = ix2 (0 : Fin 1) (Fin.ofNat 128 (y 1).val) := by
      funext a
      match a with
      | ⟨0, _⟩ => exact Fin.ext (by have : (y 0).val < 1 := (y 0).isLt; show (y 0).val = 0; omega)
      | ⟨1, _⟩ => exact Fin.ext (Nat.mod_eq_of_lt hy1).symm
    have q1 : (Fin.ofNat 128 (y 1).val).val = (y 1).val := Nat.mod_eq_of_lt hy1
    rw [show k0_pay2 (amaxM.view.read (Elt Ideal) f15) y = k0_pay2 (amaxM.view.read (Elt Ideal) f15) (ix2 (0 : Fin 1) (Fin.ofNat 128 (y 1).val)) from congrArg _ ey]
    refine (pay2_le _ _ B).trans ?_
    have hc : cnt (t.val + 1) (y 1).val = 3 := by unfold cnt; rw [h]; rfl
    have hA : ∀ (i : Fin 8) (l : Fin 128), (amaxM.view.read (Elt Ideal) f15 (ix3 (Fin.ofNat 128 (y 1).val) i l) : EReal) ≤ B
        ↔ 0 ≤ B ∧ ∀ d, d < 2048 * 3 → ∀ s, s < 384 → d % 128 = l.val → s % 8 = i.val → prodE m c (y 1).val s d ≤ B := by
      intro i l
      have q := hinv.2.2 (ix3 (Fin.ofNat 128 (y 1).val) i l) B
      replace q : 1 ≤ cnt (t.val + 1) (Fin.ofNat 128 (y 1).val).val → ((amaxM.view.read (Elt Ideal) f15 (ix3 (Fin.ofNat 128 (y 1).val) i l) : EReal) ≤ B
        ↔ 0 ≤ B ∧ ∀ d, d < 2048 * cnt (t.val + 1) (Fin.ofNat 128 (y 1).val).val → ∀ s, s < 384 → d % 128 = l.val → s % 8 = i.val → prodE m c (Fin.ofNat 128 (y 1).val).val s d ≤ B) := q
      rw [q1, hc] at q
      exact q (by omega)
    constructor
    · intro H s hs d hd
      exact ((hA (Fin.ofNat 8 s) (Fin.ofNat 128 d)).1 (H _ _)).2 d (by omega) s hs rfl rfl
    · intro H i l
      exact (hA i l).2 ⟨le_trans (absE_nonneg _) (H 0 (by omega) 0 (by omega)), fun d hd s hs _ _ => H s hs d (by omega)⟩

end Cert.KernelIdeal.Run
-- ==== Proof.KI.Final.lean ====
/-
  The kernel's three results at the extended reals, as functions of the arguments.
-/
module

public import proofs.«01_k».proof.Proof.KI.Step
public import Idealize.ShloMosaic.Lib.Pipeline.ArrRel

@[expose] public section

set_option maxRecDepth 16384
set_option maxHeartbeats 4000000

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

variable (m : (ℓ : Loc nD τ sig) → Buf (Elt Ideal) ℓ) (ρ : Dev nD → PrngReg) (c : Dev nD)

/-- d_out, scaled and clipped; -/
def out0V : S128x384x6144.Idx → EReal := fun y => clipE (mE m c (y 0).val (y 1).val * gI (dyE m c) (tkE m c (y 0).val (y 1).val) (y 2).val * invE m c (y 0).val)
/-- dscore; -/
def out1V : S3x128x128.Idx → EReal := fun y => gosE m c (y 1).val (128 * (y 0).val + (y 2).val) * dotE m c 3 (y 1).val (128 * (y 0).val + (y 2).val)
/-- the experts' largest |d_out|: the least bound of them all. -/
def out2V : S1x128.Idx → EReal := fun y => sInf {B | ∀ s, s < 384 → ∀ d, d < 6144 → prodE m c (y 1).val s d ≤ B}

theorem eq_sInf {X : EReal} {P : EReal → Prop} (h : ∀ B, X ≤ B ↔ P B) : X = sInf {B | P B} := by
  have e : {B | P B} = Set.Ici X := by
    ext B
    exact (h B).symm
  rw [e, csInf_Ici]

/-! ## The blocks of d_out -/

theorem index5 (t : Fin cfg0.N) : (cfg0.win 5).index t 0 = t.val % 128 ∧ (cfg0.win 5).index t 1 = 0 ∧ (cfg0.win 5).index t 2 = t.val / 128 := by
  obtain ⟨e0, e1⟩ := coordsAt t
  have ht : t.val < 384 := t.isLt
  refine ⟨?_, rfl, ?_⟩
  · show (BitVec.ofNat 32 ((grid0.coords t) 1).val).toNat = _
    rw [e1, BitVec.toNat_ofNat]; omega
  · show (BitVec.ofNat 32 ((grid0.coords t) 0).val).toNat = _
    rw [e0, BitVec.toNat_ofNat]; omega

theorem disj5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (by
    obtain ⟨a0, -, a2⟩ := index5 t
    obtain ⟨b0, -, b2⟩ := index5 t'
    have h0 := congrFun h 0
    have h2 := congrFun h 2
    have q0 := a0.symm.trans (h0.trans b0)
    have q2 := a2.symm.trans (h2.trans b2)
    exact Fin.ext (by omega))

variable {m c}

theorem leaves5 {t : Fin cfg0.N} {X} (h : (rdat (F := Ideal) (InvV ·) (RlV ·) m c).Leaves 5 t X) : Rl5 m c t.val X := Pipeline.Dat.toRRel_leaves _ rfl h
theorem leaves6 {t : Fin cfg0.N} {X} (h : (rdat (F := Ideal) (InvV ·) (RlV ·) m c).Leaves 6 t X) : Rl6 m c t.val X := Pipeline.Dat.toRRel_leaves _ rfl h
theorem leaves7 {t : Fin cfg0.N} {X} (h : (rdat (F := Ideal) (InvV ·) (RlV ·) m c).Leaves 7 t X) : Rl7 m c t.val X := Pipeline.Dat.toRRel_leaves _ rfl h

/-! ## The arrays -/

theorem arr5 (dat : Pipeline.Dat τ (Elt Ideal) Unit ℕ (UU nD τ) ℕ cfg0 c) (h : ∀ t : Fin cfg0.N, Rl5 m c t.val (dat.after 5 t)) (y : S128x384x6144.Idx) :
    dat.arrAt 5 cfg0.N y = out0V m c y := by
  have hy0 : (y 0).val < 128 := (y 0).isLt
  have hy1 : (y 1).val < 384 := (y 1).isLt
  have hy2 : (y 2).val < 6144 := (y 2).isLt
  let t : Fin cfg0.N := ⟨128 * ((y 2).val / 2048) + (y 0).val, by show _ < 384; omega⟩
  have tv : t.val = 128 * ((y 2).val / 2048) + (y 0).val := rfl
  obtain ⟨i0, i1, i2⟩ := index5 t
  let z : S1x384x2048.Idx := ix3 (0 : Fin 1) (Fin.ofNat 384 (y 1).val) (Fin.ofNat 2048 (y 2).val)
  have z1 : (z 1).val = (y 1).val := Nat.mod_eq_of_lt hy1
  have z2 : (z 2).val = (y 2).val % 2048 := rfl
  have hz : ((cfg0.win 5).blk t).view.emb z = y := by
    show ((cfg0.win 5).rect t).emb z = y
    funext a
    match a with
    | ⟨0, _⟩ => refine Fin.ext (((cfg0.win 5).rect_emb_val t z 0).trans ?_); rw [i0]; show t.val % 128 * 1 + 0 = (y 0).val; omega
    | ⟨1, _⟩ => refine Fin.ext (((cfg0.win 5).rect_emb_val t z 1).trans ?_); rw [i1]; show 0 * 384 + (z 1).val = (y 1).val; omega
    | ⟨2, _⟩ => refine Fin.ext (((cfg0.win 5).rect_emb_val t z 2).trans ?_); rw [i2]; show t.val / 128 * 2048 + (z 2).val = (y 2).val; omega
  have q := dat.arrAt_emb_eq_flushed 5 disj5 t (flush0_5 t) z
  rw [hz] at q
  refine q.trans ?_
  refine Eq.trans ?_ ((h t z).trans ?_)
  · rfl
  · unfold out0V
    rw [z1, show t.val % 128 = (y 0).val by omega, show 2048 * (t.val / 128) + (z 2).val = (y 2).val by omega]

theorem arr6 (dat : Pipeline.Dat τ (Elt Ideal) Unit ℕ (UU nD τ) ℕ cfg0 c) (h : Rl6 m c 383 (dat.after 6 (⟨383, by decide⟩ : Fin cfg0.N))) (y : S3x128x128.Idx) :
    dat.arrAt 6 cfg0.N y = out1V m c y := by
  have hy1 : (y 1).val < 128 := (y 1).isLt
  refine (dat.arrAt_emb_eq_after_last 6 (⟨383, by decide⟩ : Fin cfg0.N) (by decide +kernel) y).trans ?_
  exact h (by decide) y (by omega)

theorem arr7 (dat : Pipeline.Dat τ (Elt Ideal) Unit ℕ (UU nD τ) ℕ cfg0 c) (h : Rl7 m c 383 (dat.after 7 (⟨383, by decide⟩ : Fin cfg0.N))) (y : S1x128.Idx) :
    dat.arrAt 7 cfg0.N y = out2V m c y := by
  refine (dat.arrAt_emb_eq_after_last 7 (⟨383, by decide⟩ : Fin cfg0.N) (by decide +kernel) y).trans ?_
  exact eq_sInf fun B => h rfl y B

variable (m)

/-- The kernel runs to its end, nothing faulting, with these results and the arguments unchanged. -/
theorem run_val (hr : ∀ c, InRange m c) : θ_run defs (onTc (τ := τ) (main (F := Ideal))) ⟨m, fun _ => 0, ρ⟩ (fun r => ∀ c : Dev nD,
      r.2.mem ((c.tc : Thread nD τ).loc main_v18_0) = out0V m c
      ∧ r.2.mem ((c.tc : Thread nD τ).loc main_v18_1) = out1V m c
      ∧ r.2.mem ((c.tc : Thread nD τ).loc main_v18_2) = out2V m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  have h0 : ∀ c T g14 g15, InvV m c 0 T g14 g15 := fun c T g14 g15 =>
    ⟨fun h => absurd rfl h, fun y h => absurd h (by unfold cnt; rw [if_neg (by omega)]; decide), fun y B h => absurd h (by unfold cnt; rw [if_neg (by omega)]; decide)⟩
  have hrun := run_main (F := Ideal) (InvV ·) (RlV ·) m ρ (fun c => rowsOK m c (hr c)) (fun c => stepV m c (hr c)) h0
  refine (θ_run defs _ _).mono (fun r h c => ?_) hrun
  obtain ⟨after, hL, hA⟩ := h.1.exists_exact c
  refine ⟨(hA 5).trans (funext fun y => arr5 _ (fun t => leaves5 (hL 5 t (flush0_5 t))) y),
    (hA 6).trans (funext fun y => arr6 _ (leaves6 (hL 6 ⟨383, by decide⟩ ((flush0_6 _).2 rfl))) y),
    (hA 7).trans (funext fun y => arr7 _ (leaves7 (hL 7 ⟨383, by decide⟩ ((flush0_7 _).2 rfl))) y), ?_⟩
  exact ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (Pipeline.RDat.FramePost.arr_in h.1 c 3 rfl).trans (V_main_arg3 m c),
      (Pipeline.RDat.FramePost.arr_in h.1 c 0 rfl).trans (V_main_arg4 m c),
      ((h.1 c).2 main_arg5 (Pipeline.mem_restRefs_of main_arg5 (by decide) (by decide))).trans (V_main_arg5 m c)⟩

end Cert.KernelIdeal.Run
-- ==== Proof.RI.Rows.lean ====
/-
  The reference's three results at the extended reals, index by index, in terms of its arguments: the gathered rows of
  the incoming gradient (`main_v7`), and over them the scaled and clipped gradient, the scores' gradients and the
  experts' largest gradients.
-/
module

public import proofs.«01_k».proof.Proof.Gen.ReferenceIdeal.Frame
public import Idealize.ShloMosaic.Lib.ValueIdx
public import Idealize.ShloMosaic.Lib.Pipeline.Value

@[expose] public section

set_option maxRecDepth 16384
set_option maxHeartbeats 4000000

noncomputable section

namespace Cert.ReferenceIdeal.Run

open Cert.ReferenceIdeal Cert.ReferenceIdeal.Gen
open Idealize.ShloMosaic Idealize.ShloMosaic.TcCoe Idealize.ShloMosaic.Tactic Idealize.SL.Sem
open Idealize.ShloMosaic.ValueIdx

/-! ## The gather of whole rows -/

/-- A row of the operand per start index, read signed and clamped into the rows there are. -/
theorem gather_rows {α : Type} (x : S24576x6144.Idx → α) (idx : IVec S128x384x1 32) (e : Fin 128) (s : Fin 384) (d : Fin 6144) :
    Host.gather gather_S24576x6144_S128x384x1_S128x384x6144_2_0_n_n_0_2_16144 x idx (ix3 e s d)
      = x (ix2 ⟨min (idx (ix3 e s (0 : Fin 1))).toInt.toNat (24576 - 1), by omega⟩ d) := by
  unfold Host.gather
  congr 1
  funext a
  refine Fin.ext ?_
  show GatherDims.start gather_S24576x6144_S128x384x1_S128x384x6144_2_0_n_n_0_2_16144 (ix3 e s d) idx a + GatherDims.batchCoord gather_S24576x6144_S128x384x1_S128x384x6144_2_0_n_n_0_2_16144 (ix3 e s d) a + GatherDims.offCoord gather_S24576x6144_S128x384x1_S128x384x6144_2_0_n_n_0_2_16144 (ix3 e s d) a = _
  rw [GatherDims.batchCoord_eq_zero _ _ _ List.not_mem_nil]
  match a with
  | ⟨0, _⟩ =>
    have h0 : GatherDims.start gather_S24576x6144_S128x384x1_S128x384x6144_2_0_n_n_0_2_16144 (ix3 e s d) idx (0 : Fin 2) = min (idx (ix3 e s (0 : Fin 1))).toInt.toNat (24576 - 1) := by
      unfold GatherDims.start
      rw [dif_pos (show (0 : Fin 2) ∈ gather_S24576x6144_S128x384x1_S128x384x6144_2_0_n_n_0_2_16144.startIndexMap from List.mem_singleton.mpr rfl)]
      have hsi : gather_S24576x6144_S128x384x1_S128x384x6144_2_0_n_n_0_2_16144.siIdx (ix3 e s d) ⟨List.idxOf (0 : Fin 2) gather_S24576x6144_S128x384x1_S128x384x6144_2_0_n_n_0_2_16144.startIndexMap,
          List.idxOf_lt_length_iff.2 (List.mem_singleton.mpr rfl)⟩ = ix3 e s (0 : Fin 1) := by
        funext b; refine Fin.ext ?_
        match b with
        | ⟨0, _⟩ => rfl
        | ⟨1, _⟩ => rfl
        | ⟨2, _⟩ => rfl
      rw [hsi]
      rfl
    have h1 : GatherDims.offCoord gather_S24576x6144_S128x384x1_S128x384x6144_2_0_n_n_0_2_16144 (ix3 e s d) (0 : Fin 2) = 0 :=
      GatherDims.offCoord_eq_zero _ _ _ (fun h => ((GatherDims.mem_sKept _ _).mp h).1 (List.mem_singleton.mpr rfl))
    exact congrArg₂ (fun p q => p + 0 + q) h0 h1
  | ⟨1, _⟩ =>
    have h0 : GatherDims.start gather_S24576x6144_S128x384x1_S128x384x6144_2_0_n_n_0_2_16144 (ix3 e s d) idx (1 : Fin 2) = 0 := by
      unfold GatherDims.start
      rw [dif_neg (show (1 : Fin 2) ∉ gather_S24576x6144_S128x384x1_S128x384x6144_2_0_n_n_0_2_16144.startIndexMap from by show (1 : Fin 2) ∉ [(0 : Fin 2)]; decide)]
    have h1 : GatherDims.offCoord gather_S24576x6144_S128x384x1_S128x384x6144_2_0_n_n_0_2_16144 (ix3 e s d) (1 : Fin 2) = d.val := rfl
    refine (congrArg₂ (fun p q => p + 0 + q) h0 h1).trans ?_
    show 0 + 0 + d.val = d.val
    omega

section
variable (m : (ℓ : Loc nD τ sig) → Buf (Elt Ideal) ℓ) (ρ : Dev nD → PrngReg) (c : Dev nD)

/-- The incoming codes, a token to a row. -/
def dyR : IVec S24576x6144 8 := shapeCast S24576x6144 (m ((c : Thread nD τ).loc main_arg0) : IVec S8x3072x6144 8) shapeCasts_S8x3072x6144_S24576x6144
/-- The arguments. -/
abbrev aM : FVec Ideal S128x384 .f32 := m ((c : Thread nD τ).loc main_arg1)
abbrev aTk : IVec S128x384 32 := m ((c : Thread nD τ).loc main_arg2)
abbrev aInv : FVec Ideal S1x128 .f32 := m ((c : Thread nD τ).loc main_arg3)
abbrev aO : FVec Ideal S128x384x6144 .fp8e4m3 := m ((c : Thread nD τ).loc main_arg4)
abbrev aGos : FVec Ideal S128x384 .f32 := m ((c : Thread nD τ).loc main_arg5)

/-! ## What the region finds -/

theorem V_v8 (e : Fin 128) (s : Fin 384) (z : Fin 1) : (V m c main_v8 : FVec Ideal S128x384x1 .f32) (ix3 e s z) = aM m c (ix2 e s) := by
  have h : (V m c main_v8 : FVec Ideal S128x384x1 .f32) = shapeCast S128x384x1 (aM m c) shapeCasts_S128x384_S128x384x1 := by
    show StableHlo.after hostOps0 _ (Proc.devRef .tc main_v8) = _
    after_results
    rfl
  rw [h]
  refine shapeCast_apply _ _ _ (ix2 e s) ?_
  show (S128x384.rowMajor (ix2 e s)).val = (S128x384x1.rowMajor (ix3 e s z)).val
  rw [Shape.rowMajor_val_two, Shape.rowMajor_val_three]
  show e.val * 384 + s.val = (e.val * 384 + s.val) * 1 + z.val
  omega

theorem V_v9 (e : Fin 128) (y z : Fin 1) : (V m c main_v9 : FVec Ideal S128x1x1 .f32) (ix3 e y z) = aInv m c (ix2 (0 : Fin 1) e) := by
  have h : (V m c main_v9 : FVec Ideal S128x1x1 .f32) = shapeCast S128x1x1 (aInv m c) shapeCasts_S1x128_S128x1x1 := by
    show StableHlo.after hostOps0 _ (Proc.devRef .tc main_v9) = _
    after_results
    rfl
  rw [h]
  refine shapeCast_apply _ _ _ (ix2 (0 : Fin 1) e) ?_
  show (S1x128.rowMajor (ix2 (0 : Fin 1) e)).val = (S128x1x1.rowMajor (ix3 e y z)).val
  rw [Shape.rowMajor_val_two, Shape.rowMajor_val_three]
  show 0 * 128 + e.val = (e.val * 1 + y.val) * 1 + z.val
  omega

theorem V_v7 (h : ∀ i, (aTk m c i).toNat < 24576) (e : Fin 128) (s : Fin 384) (d : Fin 6144) :
    (V m c main_v7 : IVec S128x384x6144 8) (ix3 e s d) = dyR m c (ix2 (Fin.ofNat 24576 (aTk m c (ix2 e s)).toNat) d) := by
  have h7 : (V m c main_v7 : IVec S128x384x6144 8) = Host.gather gather_S24576x6144_S128x384x1_S128x384x6144_2_0_n_n_0_2_16144 (dyR m c)
      (broadcastInDim S128x384x1 ![0, 1] bcast_S128x384_S128x384x1_0_1 (select (cmpi .slt (aTk m c) (broadcastInDim S128x384 ![] bcast_S_S128x384 (constantI S_ 32 0#32)))
        (addi (aTk m c) (broadcastInDim S128x384 ![] bcast_S_S128x384 (constantI S_ 32 24576#32))) (aTk m c))) := by
    show StableHlo.after hostOps0 _ (Proc.devRef .tc main_v7) = _
    after_results
    rfl
  rw [h7, gather_rows]
  have hb : (broadcastInDim S128x384x1 ![0, 1] bcast_S128x384_S128x384x1_0_1 (select (cmpi .slt (aTk m c) (broadcastInDim S128x384 ![] bcast_S_S128x384 (constantI S_ 32 0#32)))
        (addi (aTk m c) (broadcastInDim S128x384 ![] bcast_S_S128x384 (constantI S_ 32 24576#32))) (aTk m c))) (ix3 e s (0 : Fin 1)) = aTk m c (ix2 e s) := by
    refine (broadcastInDim_apply _ _ _ _ (ix2 e s) ?_).trans ?_
    · intro a; match a with | ⟨0, _⟩ => rfl | ⟨1, _⟩ => rfl
    have hlt := h (ix2 e s)
    show (if (BitVec.ofBool ((aTk m c (ix2 e s)).slt 0#32)) = 1#1 then _ else aTk m c (ix2 e s)) = _
    have hs : (aTk m c (ix2 e s)).slt 0#32 = false := by
      rw [BitVec.slt_eq_decide, decide_eq_false_iff_not, BitVec.toInt_eq_toNat_cond, if_pos (by omega)]
      show ¬ ((aTk m c (ix2 e s)).toNat : Int) < 0
      omega
    rw [hs]; rfl
  have hlt := h (ix2 e s)
  refine congrArg (fun q => dyR m c (ix2 q d)) (Fin.ext ((congrArg (fun q : BitVec 32 => min q.toInt.toNat (24576 - 1)) hb).trans ?_))
  show min (aTk m c (ix2 e s)).toInt.toNat (24576 - 1) = (aTk m c (ix2 e s)).toNat % 24576
  rw [BitVec.toInt_eq_toNat_cond, if_pos (by omega), Int.toNat_natCast]
  omega

end

end Cert.ReferenceIdeal.Run
-- ==== Proof.RI.Res.lean ====
/-
  The reference's three results, read off its run.
-/
module

public import proofs.«01_k».proof.Proof.RI.Rows
public import proofs.«01_k».proof.Proof.KI.Max
public import Idealize.ShloMosaic.Lib.Pipeline.ValueKit.Geometry

@[expose] public section

set_option maxRecDepth 16384
set_option maxHeartbeats 4000000

noncomputable section

namespace Cert.ReferenceIdeal.Run

open Cert.ReferenceIdeal Cert.ReferenceIdeal.Gen
open Idealize.ShloMosaic Idealize.ShloMosaic.TcCoe Idealize.ShloMosaic.Tactic Idealize.SL.Sem
open Idealize.ShloMosaic.ValueIdx

/-! ## The body's values at an index -/

theorem pay3_at (x0 : IVec S128x384x6144 8) (x1 : FVec Ideal S128x384x1 .f32) (e : Fin 128) (s : Fin 384) (d : Fin 6144) :
    (k0_pay3 (F := Ideal) x0 x1 (ix3 e s d) : EReal) = x1 (ix3 e s (0 : Fin 1)) * (FloatOps.ofBits (F := Ideal) .fp8e5m2 (x0 (ix3 e s d)) : EReal) := by
  unfold k0_pay3 k0_pay2
  have e1 : broadcastTo S128x384x6144 (shapeCast S128x384x1 x1 shapeCasts_S128x384x1_S128x384x1) broadcasts_S128x384x1_S128x384x6144 (ix3 e s d) = x1 (ix3 e s (0 : Fin 1)) := by
    rw [shapeCast_self]
    exact broadcastTo_apply _ _ _ _ fun b => by match b with | ⟨0, _⟩ => rfl | ⟨1, _⟩ => rfl | ⟨2, _⟩ => rfl
  have e2 : shapeCast S128x384x6144 x0 shapeCasts_S128x384x6144_S128x384x6144 = x0 := shapeCast_self _ _
  show (broadcastTo S128x384x6144 (shapeCast S128x384x1 x1 shapeCasts_S128x384x1_S128x384x1) broadcasts_S128x384x1_S128x384x6144 (ix3 e s d) : EReal)
    * (FloatOps.ofBits (F := Ideal) .fp8e5m2 (shapeCast S128x384x6144 x0 shapeCasts_S128x384x6144_S128x384x6144 (ix3 e s d)) : EReal) = _
  rw [e1, e2]

theorem pay4_at (x0 : IVec S128x384x6144 8) (x1 : FVec Ideal S128x384x1 .f32) (x2 : FVec Ideal S128x1x1 .f32) (e : Fin 128) (s : Fin 384) (d : Fin 6144) :
    (k0_pay4 (F := Ideal) x0 x1 x2 (ix3 e s d) : EReal) = min (FloatOps.ofBits (F := Ideal) .f32 0x47600000#32 : EReal) (max (FloatOps.ofBits (F := Ideal) .f32 0xC7600000#32)
      (x1 (ix3 e s (0 : Fin 1)) * (FloatOps.ofBits (F := Ideal) .fp8e5m2 (x0 (ix3 e s d)) : EReal) * x2 (ix3 e (0 : Fin 1) (0 : Fin 1)))) := by
  unfold k0_pay4
  have e1 : broadcastTo S128x384x6144 (shapeCast S128x1x1 x2 shapeCasts_S128x1x1_S128x1x1) broadcasts_S128x1x1_S128x384x6144 (ix3 e s d) = x2 (ix3 e (0 : Fin 1) (0 : Fin 1)) := by
    rw [shapeCast_self]
    exact broadcastTo_apply _ _ _ _ fun b => by match b with | ⟨0, _⟩ => rfl | ⟨1, _⟩ => rfl | ⟨2, _⟩ => rfl
  rw [← pay3_at, ← e1]
  rfl

theorem pay5_at (x0 : IVec S128x384x6144 8) (x3 : FVec Ideal S128x384x6144 .fp8e4m3) (x4 : FVec Ideal S128x384 .f32) (n : Fin 3) (e : Fin 128) (l : Fin 128) (s : Fin 384) (hs : s.val = 128 * n.val + l.val) :
    (k0_pay5 (F := Ideal) x0 x3 x4 (ix3 n e l) : EReal) = x4 (ix2 e s) * ∑ d : Fin 6144, (FloatOps.ofBits (F := Ideal) .fp8e5m2 (x0 (ix3 e s d)) : EReal) * x3 (ix3 e s d) := by
  unfold k0_pay5 k0_pay2
  rw [shapeCast_self]
  refine (transpose_apply _ _ _ _ (ix3 e n l) fun b => by match b with | ⟨0, _⟩ => rfl | ⟨1, _⟩ => rfl | ⟨2, _⟩ => rfl).trans ?_
  refine (shapeCast_apply _ _ _ (ix2 e s) ?_).trans ?_
  · show (S128x384.rowMajor (ix2 e s)).val = (S128x3x128.rowMajor (ix3 e n l)).val
    rw [Shape.rowMajor_val_two, Shape.rowMajor_val_three]
    show e.val * 384 + s.val = (e.val * 3 + n.val) * 128 + l.val
    omega
  refine congrArg (fun q : EReal => (x4 (ix2 e s) : EReal) * q) ?_
  refine (Ideal.multiReduction_add_single _ _ _ _ _ _).trans ?_
  refine Finset.sum_congr rfl fun d _ => ?_
  have hl : reduces_S128x384x6144_S128x384.lift (ix2 e s) d = (ix3 e s d : S128x384x6144.Idx) := by
    funext a; match a with | ⟨0, _⟩ => rfl | ⟨1, _⟩ => rfl | ⟨2, _⟩ => rfl
  rw [hl]
  rfl

theorem pay6_at (x0 : IVec S128x384x6144 8) (x1 : FVec Ideal S128x384x1 .f32) (e : Fin 128) (B : EReal) :
    (k0_pay1 (F := Ideal) (k0_pay6 x0 x1) (ix2 (0 : Fin 1) e) : EReal) ≤ B ↔ ∀ (s : Fin 384) (d : Fin 6144),
      max ((x1 (ix3 e s (0 : Fin 1)) : EReal) * FloatOps.ofBits (F := Ideal) .fp8e5m2 (x0 (ix3 e s d))) (-((x1 (ix3 e s (0 : Fin 1)) : EReal) * FloatOps.ofBits (F := Ideal) .fp8e5m2 (x0 (ix3 e s d)))) ≤ B := by
  unfold k0_pay1
  have e1 : ∀ u : FVec Ideal S128 .f32, shapeCast S1x128 u shapeCasts_S128_S1x128 (ix2 (0 : Fin 1) e) = u (ix1 e) := fun u =>
    (shapeCast_addUnit_apply _ u _ _).trans (congrArg u (by funext a; match a with | ⟨0, _⟩ => rfl))
  rw [show ∀ u : FVec Ideal S128 .f32, shapeCast S1x128 u shapeCasts_S128_S1x128 (ix2 (0 : Fin 1) e) = u (ix1 e) from e1]
  unfold k0_pay6
  have key : ∀ (s : Fin 384) (d : Fin 6144), ((absf (k0_pay3 (F := Ideal) x0 x1) (ix3 e s d) : EReal) ≤ B ↔
      max ((x1 (ix3 e s (0 : Fin 1)) : EReal) * FloatOps.ofBits (F := Ideal) .fp8e5m2 (x0 (ix3 e s d))) (-((x1 (ix3 e s (0 : Fin 1)) : EReal) * FloatOps.ofBits (F := Ideal) .fp8e5m2 (x0 (ix3 e s d)))) ≤ B) := fun s d => by
    show max (k0_pay3 (F := Ideal) x0 x1 (ix3 e s d) : EReal) (-(k0_pay3 (F := Ideal) x0 x1 (ix3 e s d) : EReal)) ≤ B ↔ _
    rw [pay3_at]
  refine (Cert.KernelIdeal.Run.maxRed_le _ _ _ _ _ _).trans ?_
  have l1 : ∀ s : Fin 384, reduces_S128x384_S128.lift (ix1 e) s = (ix2 e s : S128x384.Idx) := fun k => by
    funext a; match a with | ⟨0, _⟩ => rfl | ⟨1, _⟩ => rfl
  have l2 : ∀ (s : Fin 384) (d : Fin 6144), reduces_S128x384x6144_S128x384.lift (ix2 e s) d = (ix3 e s d : S128x384x6144.Idx) := fun s d => by
    funext a; match a with | ⟨0, _⟩ => rfl | ⟨1, _⟩ => rfl | ⟨2, _⟩ => rfl
  refine forall_congr' fun s => ?_
  refine (iff_of_eq (congrArg (fun q : EReal => q ≤ B) (congrArg _ (l1 s)))).trans ?_
  refine (Cert.KernelIdeal.Run.maxRed_le _ _ _ _ _ _).trans ?_
  refine forall_congr' fun d => ?_
  refine (iff_of_eq (congrArg (fun q : EReal => q ≤ B) (congrArg _ (l2 s d)))).trans ?_
  exact key s d

section
variable (m : (ℓ : Loc nD τ sig) → Buf (Elt Ideal) ℓ) (ρ : Dev nD → PrngReg) (c : Dev nD)

/-! ## The windows are the whole arrays -/

theorem blk0 (t : Fin cfg0.N) : (iblk m c 0 t : IVec S128x384x6144 8) = (V m c main_v7 : IVec S128x384x6144 8) := by
  funext y
  unfold iblk
  rw [View.read_apply]
  show V m c main_v7 (((cfg0.win 0).rect t).emb y) = _
  refine congrArg (V m c main_v7 : IVec S128x384x6144 8) ?_
  funext a
  match a with
  | ⟨0, _⟩ => exact Fin.ext (((cfg0.win 0).rect_emb_val t y 0).trans (by show 0 * 128 + (y 0).val = (y 0).val; omega))
  | ⟨1, _⟩ => exact Fin.ext (((cfg0.win 0).rect_emb_val t y 1).trans (by show 0 * 384 + (y 1).val = (y 1).val; omega))
  | ⟨2, _⟩ => exact Fin.ext (((cfg0.win 0).rect_emb_val t y 2).trans (by show 0 * 6144 + (y 2).val = (y 2).val; omega))

theorem blk1 (t : Fin cfg0.N) : (iblk m c 1 t : FVec Ideal S128x384x1 .f32) = (V m c main_v8 : FVec Ideal S128x384x1 .f32) := by
  funext y
  unfold iblk
  rw [View.read_apply]
  show V m c main_v8 (((cfg0.win 1).rect t).emb y) = _
  refine congrArg (V m c main_v8 : FVec Ideal S128x384x1 .f32) ?_
  funext a
  match a with
  | ⟨0, _⟩ => exact Fin.ext (((cfg0.win 1).rect_emb_val t y 0).trans (by show 0 * 128 + (y 0).val = (y 0).val; omega))
  | ⟨1, _⟩ => exact Fin.ext (((cfg0.win 1).rect_emb_val t y 1).trans (by show 0 * 384 + (y 1).val = (y 1).val; omega))
  | ⟨2, _⟩ => exact Fin.ext (((cfg0.win 1).rect_emb_val t y 2).trans (by show 0 * 1 + (y 2).val = (y 2).val; omega))

theorem blk2 (t : Fin cfg0.N) : (iblk m c 2 t : FVec Ideal S128x1x1 .f32) = (V m c main_v9 : FVec Ideal S128x1x1 .f32) := by
  funext y
  unfold iblk
  rw [View.read_apply]
  show V m c main_v9 (((cfg0.win 2).rect t).emb y) = _
  refine congrArg (V m c main_v9 : FVec Ideal S128x1x1 .f32) ?_
  funext a
  match a with
  | ⟨0, _⟩ => exact Fin.ext (((cfg0.win 2).rect_emb_val t y 0).trans (by show 0 * 128 + (y 0).val = (y 0).val; omega))
  | ⟨1, _⟩ => exact Fin.ext (((cfg0.win 2).rect_emb_val t y 1).trans (by show 0 * 1 + (y 1).val = (y 1).val; omega))
  | ⟨2, _⟩ => exact Fin.ext (((cfg0.win 2).rect_emb_val t y 2).trans (by show 0 * 1 + (y 2).val = (y 2).val; omega))

theorem blk3 (t : Fin cfg0.N) : (iblk m c 3 t : FVec Ideal S128x384x6144 .fp8e4m3) = (V m c main_arg4 : FVec Ideal S128x384x6144 .fp8e4m3) := by
  funext y
  unfold iblk
  rw [View.read_apply]
  show V m c main_arg4 (((cfg0.win 3).rect t).emb y) = _
  refine congrArg (V m c main_arg4 : FVec Ideal S128x384x6144 .fp8e4m3) ?_
  funext a
  match a with
  | ⟨0, _⟩ => exact Fin.ext (((cfg0.win 3).rect_emb_val t y 0).trans (by show 0 * 128 + (y 0).val = (y 0).val; omega))
  | ⟨1, _⟩ => exact Fin.ext (((cfg0.win 3).rect_emb_val t y 1).trans (by show 0 * 384 + (y 1).val = (y 1).val; omega))
  | ⟨2, _⟩ => exact Fin.ext (((cfg0.win 3).rect_emb_val t y 2).trans (by show 0 * 6144 + (y 2).val = (y 2).val; omega))

theorem blk4 (t : Fin cfg0.N) : (iblk m c 4 t : FVec Ideal S128x384 .f32) = (V m c main_arg5 : FVec Ideal S128x384 .f32) := by
  funext y
  unfold iblk
  rw [View.read_apply]
  show V m c main_arg5 (((cfg0.win 4).rect t).emb y) = _
  refine congrArg (V m c main_arg5 : FVec Ideal S128x384 .f32) ?_
  funext a
  match a with
  | ⟨0, _⟩ => exact Fin.ext (((cfg0.win 4).rect_emb_val t y 0).trans (by show 0 * 128 + (y 0).val = (y 0).val; omega))
  | ⟨1, _⟩ => exact Fin.ext (((cfg0.win 4).rect_emb_val t y 1).trans (by show 0 * 384 + (y 1).val = (y 1).val; omega))

/-- The gathered incoming gradient of slot `s` of expert `e`. -/
def gR (e : Fin 128) (s : Fin 384) (d : Fin 6144) : EReal := FloatOps.ofBits (F := Ideal) .fp8e5m2 (dyR m c (ix2 (Fin.ofNat 24576 (aTk m c (ix2 e s)).toNat) d))

/-! ## The results -/

/-- The gradients, -/
def r5 : S128x384x6144.Idx → EReal := (dats m 0 c).arrAt 5 cfg0.N
/-- the scores' gradients, -/
def r6 : S3x128x128.Idx → EReal := (dats m 0 c).arrAt 6 cfg0.N
/-- and the largest gradients, as the run leaves them. -/
def r7 : S1x128.Idx → EReal := (dats m 0 c).arrAt 7 cfg0.N

theorem res5 (h : ∀ i, (aTk m c i).toNat < 24576) (e : Fin 128) (s : Fin 384) (d : Fin 6144) :
    r5 m c (ix3 e s d) = min (FloatOps.ofBits (F := Ideal) .f32 0x47600000#32 : EReal) (max (FloatOps.ofBits (F := Ideal) .f32 0xC7600000#32)
      ((aM m c (ix2 e s) : EReal) * gR m c e s d * aInv m c (ix2 (0 : Fin 1) e))) := by
  have q := (dats m 0 c).arrAt_emb_eq_after_last 5 (⟨0, by decide⟩ : Fin cfg0.N) (by decide +kernel) (ix3 e s d)
  rw [after0_5] at q
  refine Eq.trans ?_ (q.trans ?_)
  · rfl
  unfold out0_5
  rw [show ∀ L : FVec Ideal S128x384x6144 .fp8e5m2, View.canon [(⟨r0_0, L⟩ : View.Piece (Elt Ideal) S128x384x6144 .fp8e5m2)] = L from fun L => View.canon_cons_unit_zero (by decide) _ _ _,
    View.ld_unit_zero (by decide), View.ld_unit_zero (by decide), View.ld_unit_zero (by decide), blk0, blk1, blk2]
  refine (pay4_at _ _ _ e s d).trans ?_
  rw [V_v7 m c h, V_v8, V_v9]
  rfl

theorem res6 (h : ∀ i, (aTk m c i).toNat < 24576) (n : Fin 3) (e : Fin 128) (l : Fin 128) (s : Fin 384) (hs : s.val = 128 * n.val + l.val) :
    r6 m c (ix3 n e l) = (aGos m c (ix2 e s) : EReal) * ∑ d : Fin 6144, gR m c e s d * aO m c (ix3 e s d) := by
  have q := (dats m 0 c).arrAt_emb_eq_after_last 6 (⟨0, by decide⟩ : Fin cfg0.N) (by decide +kernel) (ix3 n e l)
  rw [after0_6] at q
  refine Eq.trans ?_ (q.trans ?_)
  · rfl
  unfold out0_6
  rw [show ∀ L : FVec Ideal S3x128x128 .f32, View.canon [(⟨r0_4, L⟩ : View.Piece (Elt Ideal) S3x128x128 .f32)] = L from fun L => View.canon_cons_unit_zero (by decide) _ _ _,
    View.ld_unit_zero (by decide), View.ld_unit_zero (by decide), View.ld_unit_zero (by decide), blk0, blk3, blk4]
  refine (pay5_at _ _ _ n e l s hs).trans ?_
  rw [V_main_arg4, V_main_arg5]
  refine congrArg (fun q : EReal => (aGos m c (ix2 e s) : EReal) * q) (Finset.sum_congr rfl fun d _ => ?_)
  rw [V_v7 m c h]
  rfl

theorem res7 (h : ∀ i, (aTk m c i).toNat < 24576) (e : Fin 128) (B : EReal) :
    r7 m c (ix2 (0 : Fin 1) e) ≤ B ↔ ∀ (s : Fin 384) (d : Fin 6144),
      max ((aM m c (ix2 e s) : EReal) * gR m c e s d) (-((aM m c (ix2 e s) : EReal) * gR m c e s d)) ≤ B := by
  have e7 : r7 m c (ix2 (0 : Fin 1) e) = (k0_pay1 (F := Ideal) (k0_pay6 (V m c main_v7 : IVec S128x384x6144 8) (V m c main_v8 : FVec Ideal S128x384x1 .f32)) (ix2 (0 : Fin 1) e) : EReal) := by
    have q := (dats m 0 c).arrAt_emb_eq_after_last 7 (⟨0, by decide⟩ : Fin cfg0.N) (by decide +kernel) (ix2 (0 : Fin 1) e)
    rw [after0_7] at q
    refine Eq.trans ?_ (q.trans ?_)
    · rfl
    unfold out0_7
    rw [show ∀ L : FVec Ideal S1x128 .f32, View.canon [(⟨r0_5, L⟩ : View.Piece (Elt Ideal) S1x128 .f32)] = L from fun L => View.canon_cons_unit_zero (by decide) _ _ _,
      View.ld_unit_zero (by decide), View.ld_unit_zero (by decide), blk0, blk1]
    generalize k0_pay1 (F := Ideal) (k0_pay6 (V m c main_v7 : IVec S128x384x6144 8) (V m c main_v8 : FVec Ideal S128x384x1 .f32)) = X
    rfl
  rw [e7]
  refine (pay6_at _ _ e B).trans ?_
  have key : ∀ (s : Fin 384) (d : Fin 6144), @HMul.hMul EReal EReal EReal _ ((V m c main_v8 : FVec Ideal S128x384x1 .f32) (ix3 e s (0 : Fin 1))) (FloatOps.ofBits (F := Ideal) .fp8e5m2 ((V m c main_v7 : IVec S128x384x6144 8) (ix3 e s d)))
      = (aM m c (ix2 e s) : EReal) * gR m c e s d := fun s d => by
    rw [V_v7 m c h, V_v8]
    rfl
  exact forall_congr' fun s => forall_congr' fun d => iff_of_eq (congrArg (fun x : EReal => max x (-x) ≤ B) (key s d))

/-- The reference's run, its results named and its arguments unchanged. -/
theorem run_arr : θ_run defs (onTc (τ := τ) (main (F := Ideal))) ⟨m, fun _ => 0, ρ⟩ fun r => ∀ c : Dev nD,
      r.2.mem ((c : Thread nD τ).loc main_v10_0) = r5 m c
      ∧ r.2.mem ((c : Thread nD τ).loc main_v10_1) = r6 m c
      ∧ r.2.mem ((c : Thread nD τ).loc main_v10_2) = r7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 5, (h c).1 6, (h c).1 7,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c)))⟩)
    (run_main m ρ)

end

end Cert.ReferenceIdeal.Run
-- ==== Proof.Join.lean ====
/-
  The kernel's results are the reference's: with the same arguments, every token index naming a token, the two triples of
  arrays agree index by index.
-/
module

public import proofs.«01_k».proof.Proof.KI.Final
public import proofs.«01_k».proof.Proof.RI.Res

@[expose] public section

set_option maxRecDepth 16384
set_option maxHeartbeats 4000000

noncomputable section

namespace Cert.Join

open Idealize.ShloMosaic Idealize.ShloMosaic.TcCoe Idealize.SL.Sem
open Idealize.ShloMosaic.ValueIdx
open Cert.KernelIdeal.Run (mE tkE invE oE gosE dyE gI dyAt clipE absE fE dotE prodE out0V out1V out2V InRange eq_sInf)
open Cert.ReferenceIdeal.Run (dyR aM aTk aInv aO aGos gR r5 r6 r7 res5 res6 res7)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two programs' argument arrays are the same. -/
def Args : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)

theorem fin_eq {n : Nat} [NeZero n] (i : Fin n) : Fin.ofNat n i.val = i := Fin.ext (Nat.mod_eq_of_lt i.isLt)

variable {m m' c}
variable (h : Args m m' c)
include h

theorem eM (e : Fin 128) (s : Fin 384) : (aM m' c (ix2 e s) : EReal) = mE m c e.val s.val := by
  unfold mE
  rw [fin_eq, fin_eq]
  exact congrFun h.2.1 (ix2 e s)

theorem eT (e : Fin 128) (s : Fin 384) : (aTk m' c (ix2 e s)).toNat = tkE m c e.val s.val := by
  unfold tkE
  rw [fin_eq, fin_eq]
  exact congrArg BitVec.toNat (congrFun h.2.2.1 (ix2 e s))

theorem eI (e : Fin 128) : (aInv m' c (ix2 (0 : Fin 1) e) : EReal) = invE m c e.val := by
  unfold invE
  rw [fin_eq]
  exact congrFun h.2.2.2.1 (ix2 (0 : Fin 1) e)

theorem eO (e : Fin 128) (s : Fin 384) (d : Fin 6144) : (aO m' c (ix3 e s d) : EReal) = oE m c e.val s.val d.val := by
  unfold oE
  rw [fin_eq, fin_eq, fin_eq]
  exact congrFun h.2.2.2.2.1 (ix3 e s d)

theorem eGos (e : Fin 128) (s : Fin 384) : (aGos m' c (ix2 e s) : EReal) = gosE m c e.val s.val := by
  unfold gosE
  rw [fin_eq, fin_eq]
  exact congrFun h.2.2.2.2.2 (ix2 e s)

theorem eDy : (dyR m' c : IVec Cert.ReferenceIdeal.S24576x6144 8) = dyE m c := by
  unfold dyE
  refine Eq.trans ?_ (Cert.KernelIdeal.Run.V_main_v14 m c).symm
  unfold dyR
  exact congrArg (fun x : IVec Cert.ReferenceIdeal.S8x3072x6144 8 => shapeCast Cert.ReferenceIdeal.S24576x6144 x _) h.1

theorem eG (e : Fin 128) (s : Fin 384) (d : Fin 6144) : gR m' c e s d = gI (dyE m c) (tkE m c e.val s.val) d.val := by
  unfold gR gI dyAt
  rw [eT h, eDy h, fin_eq d]

theorem out0_eq (hr : InRange m c) (hi : ∀ i, (aTk m' c i).toNat < 24576) : r5 m' c = out0V m c := by
  have key : ∀ (e : Fin 128) (s : Fin 384) (d : Fin 6144), r5 m' c (ix3 e s d) = out0V m c (ix3 e s d) := fun e s d => by
    refine (res5 m' c hi e s d).trans ?_
    rw [eM h, eG h, eI h]
    rfl
  funext y
  have hy : y = ix3 (y 0) (y 1) (y 2) := by
    funext a; match a with | ⟨0, _⟩ => rfl | ⟨1, _⟩ => rfl | ⟨2, _⟩ => rfl
  exact (congrArg (r5 m' c) hy).trans ((key (y 0) (y 1) (y 2)).trans (congrArg (out0V m c) hy.symm))

theorem out1_eq (hr : InRange m c) (hi : ∀ i, (aTk m' c i).toNat < 24576) : r6 m' c = out1V m c := by
  have key : ∀ (n : Fin 3) (e : Fin 128) (l : Fin 128), r6 m' c (ix3 n e l) = out1V m c (ix3 n e l) := fun n e l => by
    refine (res6 m' c hi n e l ⟨128 * n.val + l.val, by omega⟩ rfl).trans ?_
    show _ = gosE m c e.val (128 * n.val + l.val) * dotE m c 3 e.val (128 * n.val + l.val)
    rw [eGos h]
    refine congrArg (fun q : EReal => gosE m c e.val (128 * n.val + l.val) * q) ?_
    unfold dotE
    rw [show 2048 * 3 = 6144 from rfl, Finset.sum_range]
    refine Finset.sum_congr rfl fun d _ => ?_
    rw [eG h, eO h]
    rfl
  funext y
  have hy : y = ix3 (y 0) (y 1) (y 2) := by
    funext a; match a with | ⟨0, _⟩ => rfl | ⟨1, _⟩ => rfl | ⟨2, _⟩ => rfl
  exact (congrArg (r6 m' c) hy).trans ((key (y 0) (y 1) (y 2)).trans (congrArg (out1V m c) hy.symm))

theorem out2_eq (hr : InRange m c) (hi : ∀ i, (aTk m' c i).toNat < 24576) : r7 m' c = out2V m c := by
  have key : ∀ e : Fin 128, r7 m' c (ix2 (0 : Fin 1) e) = out2V m c (ix2 (0 : Fin 1) e) := fun e => by
    refine eq_sInf (P := fun B => ∀ s, s < 384 → ∀ d, d < 6144 → prodE m c e.val s d ≤ B) fun B => ?_
    refine (res7 m' c hi e B).trans ?_
    have k : ∀ (s : Fin 384) (d : Fin 6144), max ((aM m' c (ix2 e s) : EReal) * gR m' c e s d) (-((aM m' c (ix2 e s) : EReal) * gR m' c e s d)) = prodE m c e.val s.val d.val := fun s d => by
      rw [eM h, eG h]
      rfl
    exact ⟨fun H s hs d hd => (k ⟨s, hs⟩ ⟨d, hd⟩).symm.le.trans (H ⟨s, hs⟩ ⟨d, hd⟩), fun H s d => (k s d).le.trans (H s.val s.isLt d.val d.isLt)⟩
  funext y
  have hy : y = ix2 (0 : Fin 1) (y 1) := by
    funext a
    match a with
    | ⟨0, _⟩ => exact Subsingleton.elim (α := Fin 1) _ _
    | ⟨1, _⟩ => rfl
  exact (congrArg (r7 m' c) hy).trans ((key (y 1)).trans (congrArg (out2V m c) hy.symm))

theorem inR (hr : InRange m c) : ∀ i, (aTk m' c i).toNat < 24576 := fun i => by
  have e : aTk m' c = (m ((c.tc : Thread Cert.KernelIdeal.nD Cert.KernelIdeal.τ).loc Cert.KernelIdeal.main_arg2) : IVec Cert.KernelIdeal.S128x384 32) := h.2.2.1
  rw [e]
  exact hr i

end Cert.Join
-- ==== Proof.lean ====
/-
  The proof of `Cert.Claim` (proofs.«01_k».proof.Defs), under the stated precondition that every token index names a
  token: the three frames, from the run of Proof/KI/Chk.lean (the kernel at any floats; Proof/Two.lean takes it
  to the program printed for machine floats) and from the reference's generated frame; and the equality of the kernel's and the reference's
  results at the extended reals, from the kernel's results (Proof/KI/Final.lean), the reference's (Proof/RI/Res.lean) and
  their comparison (Proof/Join.lean). The second pair of programs, the router's backward, has no precondition: its frames
  are the generated ones and its equality is Proof/DL/Val.lean. The third, softmax and the scales, has its runs in
  Proof/SM/Run.lean and Proof/SM/Two.lean and its equality, for words of normal floats and zeros, in Proof/SM/Val.lean.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_in_range
public import proofs.«01_k».proof.Proof.Gen.Dlogits.Frame
public import proofs.«01_k».proof.Proof.Gen.DlogitsIdeal.Value
public import proofs.«01_k».proof.Proof.Gen.DlogitsReferenceIdeal.Run
public import proofs.«01_k».proof.Proof.DL.Val
public import proofs.«01_k».proof.Proof.SM.Val
public import proofs.«01_k».proof.Proof.SM.Two
public import proofs.«01_k».proof.Proof.Two
public import proofs.«01_k».proof.Proof.KI.Chk
public import proofs.«01_k».proof.Proof.Join

@[expose] public section

noncomputable section

namespace Cert.Proof

open Idealize.ShloMosaic Idealize.SL.Sem

/-- The kernel and the reference, run on the same arguments, leave the same three arrays. -/
theorem values [hPre_in_range : Cert.Pre_in_range.Facts] : Cert.algebraic_KernelIdeal_ReferenceIdeal := fun m g m' g' hpre hargs => by
  have hr : ∀ c, Cert.KernelIdeal.Run.InRange m c := fun c => Cert.KernelIdeal.Run.inRange_of _ _ _ _ _ _ (hpre c)
  have hi : ∀ c i, (Cert.ReferenceIdeal.Run.aTk m' c i).toNat < 24576 := fun c => Cert.Join.inR (hargs c) (hr c)
  refine ⟨fun c => Cert.KernelIdeal.Run.out0V m c, fun c => Cert.KernelIdeal.Run.out1V m c, fun c => Cert.KernelIdeal.Run.out2V m c,
    Cert.KernelIdeal.Run.run_val m g hr, ?_⟩
  refine (θ_run _ _ _).mono (fun r h c => ?_) (Cert.ReferenceIdeal.Run.run_arr m' g')
  obtain ⟨h0, h1, h2, hrest⟩ := h c
  exact ⟨h0.trans (Cert.Join.out0_eq (hargs c) (hr c) (hi c)), h1.trans (Cert.Join.out1_eq (hargs c) (hr c) (hi c)),
    h2.trans (Cert.Join.out2_eq (hargs c) (hr c) (hi c)), hrest⟩

theorem claim : Cert.Claim := ⟨Cert.Kernel.Gen.facts, Cert.KernelIdeal.Gen.facts, Cert.ReferenceIdeal.Gen.facts,
  Cert.Dlogits.Gen.facts, Cert.DlogitsIdeal.Gen.facts, Cert.DlogitsReferenceIdeal.Gen.facts,
  Cert.Softmax.Gen.facts, Cert.SoftmaxIdeal.Gen.facts, Cert.SoftmaxReferenceIdeal.Gen.facts, Cert.Pre_in_range.Gen.facts, Cert.Pre_normal.Gen.facts,
  Cert.Kernel.Run.frame,
  fun m ρ h => Cert.KernelIdeal.Run.frame m ρ fun c => Cert.KernelIdeal.Run.inRange_of _ _ _ _ _ _ (h c),
  fun m ρ _ => Cert.ReferenceIdeal.Gen.frame m ρ,
  fun m ρ _ => Cert.Dlogits.Gen.frame m ρ,
  fun m ρ _ => Cert.DlogitsIdeal.Gen.frame m ρ,
  Cert.DlogitsReferenceIdeal.RefValue.frame,
  Cert.Softmax.Run.frame,
  fun m ρ _ => Cert.SoftmaxIdeal.Run.frame m ρ,
  fun m ρ _ => Cert.SoftmaxIdeal.Run.frame m ρ,
  fun m ρ _ => Cert.SoftmaxReferenceIdeal.Gen.frame m ρ,
  fun m ρ _ => Cert.SoftmaxReferenceIdeal.Gen.frame m ρ,
  trivial,
  values,
  trivial,
  Cert.DlogitsIdeal.RefValue.values,
  trivial,
  Cert.SoftmaxIdeal.RefValue.values⟩

end Cert.Proof

end
